-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_PreparedIdeal (m : (ℓ : Loc Cert.PreparedIdeal.nD Cert.PreparedIdeal.τ Cert.PreparedIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Prepared2Ideal (m : (ℓ : Loc Cert.Prepared2Ideal.nD Cert.Prepared2Ideal.τ Cert.Prepared2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_f [hPre_finite_f : Cert.Pre_finite_f.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_f.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))).1 = (fun _ => 1#1)
    ∧ (Cert.Pre_finite_f.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_f [hPre_finite_f : Cert.Pre_finite_f.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_f.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))).1 = (fun _ => 1#1)
    ∧ (Cert.Pre_finite_f.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1))).2 = (fun _ => 1#1)

def Pre_Prepared3Ideal (m : (ℓ : Loc Cert.Prepared3Ideal.nD Cert.Prepared3Ideal.τ Cert.Prepared3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_PreparedIdeal [hPreparedIdeal : Cert.PreparedIdeal.Facts] : Prop :=
  ∀ (m : (ℓ : Loc Cert.PreparedIdeal.nD Cert.PreparedIdeal.τ Cert.PreparedIdeal.sig) → Buf (Elt Ideal) ℓ) (g : Dev Cert.PreparedIdeal.nD → PrngReg), Pre_PreparedIdeal m →
    θ_run (Cert.PreparedIdeal.defs (F := Ideal)) (onTc (τ := Cert.PreparedIdeal.τ) (Cert.PreparedIdeal.main (F := Ideal))) ⟨m, fun _ => 0, g⟩ (fun r => (∀ c : Dev Cert.PreparedIdeal.nD,
      r.2.mem ((c.tc : Thread Cert.PreparedIdeal.nD Cert.PreparedIdeal.τ).loc Cert.PreparedIdeal.main_arg0) = m ((c.tc : Thread Cert.PreparedIdeal.nD Cert.PreparedIdeal.τ).loc Cert.PreparedIdeal.main_arg0)
      ∧ r.2.mem ((c.tc : Thread Cert.PreparedIdeal.nD Cert.PreparedIdeal.τ).loc Cert.PreparedIdeal.main_arg1) = m ((c.tc : Thread Cert.PreparedIdeal.nD Cert.PreparedIdeal.τ).loc Cert.PreparedIdeal.main_arg1)
      ∧ r.2.mem ((c.tc : Thread Cert.PreparedIdeal.nD Cert.PreparedIdeal.τ).loc Cert.PreparedIdeal.main_arg2) = m ((c.tc : Thread Cert.PreparedIdeal.nD Cert.PreparedIdeal.τ).loc Cert.PreparedIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Prepared2Ideal [hPrepared2Ideal : Cert.Prepared2Ideal.Facts] : Prop :=
  ∀ (m : (ℓ : Loc Cert.Prepared2Ideal.nD Cert.Prepared2Ideal.τ Cert.Prepared2Ideal.sig) → Buf (Elt Ideal) ℓ) (g : Dev Cert.Prepared2Ideal.nD → PrngReg), Pre_Prepared2Ideal m →
    θ_run (Cert.Prepared2Ideal.defs (F := Ideal)) (onTc (τ := Cert.Prepared2Ideal.τ) (Cert.Prepared2Ideal.main (F := Ideal))) ⟨m, fun _ => 0, g⟩ (fun r => (∀ c : Dev Cert.Prepared2Ideal.nD,
      r.2.mem ((c.tc : Thread Cert.Prepared2Ideal.nD Cert.Prepared2Ideal.τ).loc Cert.Prepared2Ideal.main_arg0) = m ((c.tc : Thread Cert.Prepared2Ideal.nD Cert.Prepared2Ideal.τ).loc Cert.Prepared2Ideal.main_arg0)
      ∧ r.2.mem ((c.tc : Thread Cert.Prepared2Ideal.nD Cert.Prepared2Ideal.τ).loc Cert.Prepared2Ideal.main_arg1) = m ((c.tc : Thread Cert.Prepared2Ideal.nD Cert.Prepared2Ideal.τ).loc Cert.Prepared2Ideal.main_arg1)
      ∧ r.2.mem ((c.tc : Thread Cert.Prepared2Ideal.nD Cert.Prepared2Ideal.τ).loc Cert.Prepared2Ideal.main_arg2) = m ((c.tc : Thread Cert.Prepared2Ideal.nD Cert.Prepared2Ideal.τ).loc Cert.Prepared2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Kernel3Ideal_pre_finite_f [hKernel3Ideal : Cert.Kernel3Ideal.Facts] [hPre_finite_f : Cert.Pre_finite_f.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_f m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Reference3Ideal_pre_finite_f [hReference3Ideal : Cert.Reference3Ideal.Facts] [hPre_finite_f : Cert.Pre_finite_f.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_f m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Prepared3Ideal [hPrepared3Ideal : Cert.Prepared3Ideal.Facts] : Prop :=
  ∀ (m : (ℓ : Loc Cert.Prepared3Ideal.nD Cert.Prepared3Ideal.τ Cert.Prepared3Ideal.sig) → Buf (Elt Ideal) ℓ) (g : Dev Cert.Prepared3Ideal.nD → PrngReg), Pre_Prepared3Ideal m →
    θ_run (Cert.Prepared3Ideal.defs (F := Ideal)) (onTc (τ := Cert.Prepared3Ideal.τ) (Cert.Prepared3Ideal.main (F := Ideal))) ⟨m, fun _ => 0, g⟩ (fun r => (∀ c : Dev Cert.Prepared3Ideal.nD,
      r.2.mem ((c.tc : Thread Cert.Prepared3Ideal.nD Cert.Prepared3Ideal.τ).loc Cert.Prepared3Ideal.main_arg0) = m ((c.tc : Thread Cert.Prepared3Ideal.nD Cert.Prepared3Ideal.τ).loc Cert.Prepared3Ideal.main_arg0)
      ∧ r.2.mem ((c.tc : Thread Cert.Prepared3Ideal.nD Cert.Prepared3Ideal.τ).loc Cert.Prepared3Ideal.main_arg1) = m ((c.tc : Thread Cert.Prepared3Ideal.nD Cert.Prepared3Ideal.τ).loc Cert.Prepared3Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v52_0)) (v1 : (c : Dev Cert.Kernel2Ideal.nD) → Buf (Elt Ideal) ((c.tc : Thread Cert.Kernel2Ideal.nD Cert.Kernel2Ideal.τ).loc Cert.Kernel2Ideal.main_v52_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v52_0) = v0 c
          ∧ r.2.mem ((c.tc : Thread Cert.Kernel2Ideal.nD Cert.Kernel2Ideal.τ).loc Cert.Kernel2Ideal.main_v52_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v96) = v0 c
          ∧ r.2.mem ((c.tc : Thread Cert.Reference2Ideal.nD Cert.Reference2Ideal.τ).loc Cert.Reference2Ideal.main_v98) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite_f [hKernel3Ideal : Cert.Kernel3Ideal.Facts] [hReference3Ideal : Cert.Reference3Ideal.Facts] [hPre_finite_f : Cert.Pre_finite_f.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_f m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v74) = v0 c
          ∧ r.2.mem ((c.tc : Thread Cert.Reference3Ideal.nD Cert.Reference3Ideal.τ).loc Cert.Reference3Ideal.main_v76) = v1 c
          ∧ r.2.mem ((c.tc : Thread Cert.Reference3Ideal.nD Cert.Reference3Ideal.τ).loc Cert.Reference3Ideal.main_v78) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hKernelIdeal : Cert.KernelIdeal.Facts) (hReferenceIdeal : Cert.ReferenceIdeal.Facts) (hPreparedIdeal : Cert.PreparedIdeal.Facts) (hKernel2 : Cert.Kernel2.Facts) (hKernel2Ideal : Cert.Kernel2Ideal.Facts) (hReference2Ideal : Cert.Reference2Ideal.Facts) (hPrepared2Ideal : Cert.Prepared2Ideal.Facts) (hKernel3 : Cert.Kernel3.Facts) (hKernel3Ideal : Cert.Kernel3Ideal.Facts) (hReference3Ideal : Cert.Reference3Ideal.Facts) (hPrepared3Ideal : Cert.Prepared3Ideal.Facts) (hPre_finite : Cert.Pre_finite.Facts) (hPre_finite_f : Cert.Pre_finite_f.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_PreparedIdeal (hPreparedIdeal := hPreparedIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Prepared2Ideal (hPrepared2Ideal := hPrepared2Ideal)
    ∧ quiescent_Kernel3 (hKernel3 := hKernel3)
    ∧ quiescent_Kernel3Ideal (hKernel3Ideal := hKernel3Ideal)
    ∧ quiescent_Kernel3Ideal_pre_finite_f (hKernel3Ideal := hKernel3Ideal) (hPre_finite_f := hPre_finite_f)
    ∧ quiescent_Reference3Ideal (hReference3Ideal := hReference3Ideal)
    ∧ quiescent_Reference3Ideal_pre_finite_f (hReference3Ideal := hReference3Ideal) (hPre_finite_f := hPre_finite_f)
    ∧ quiescent_Prepared3Ideal (hPrepared3Ideal := hPrepared3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal_pre_finite_f (hKernel3Ideal := hKernel3Ideal) (hReference3Ideal := hReference3Ideal) (hPre_finite_f := hPre_finite_f)
-- ==== Pre_finite.lean ====
abbrev S16384x3072 : Shape := ⟨2, ![16384, 3072]⟩
abbrev S16384x16 : Shape := ⟨2, ![16384, 16]⟩
abbrev S16384x1024 : Shape := ⟨2, ![16384, 1024]⟩
abbrev S_ : Shape := ⟨0, ![]⟩

class Facts : Prop where
  bitsLt_bf16_f32 : FTy.bits .bf16 < FTy.bits .f32
  bcast_S_S16384x3072 : S_.BroadcastsInDim S16384x3072 (![] : Fin 0 → Fin S16384x3072.rank)
  bcast_S_S16384x16 : S_.BroadcastsInDim S16384x16 (![] : Fin 0 → Fin S16384x16.rank)
  bcast_S_S16384x1024 : S_.BroadcastsInDim S16384x1024 (![] : Fin 0 → Fin S16384x1024.rank)

variable [Facts]

def fn {F : FTy → Type} [FloatOps F] (main_arg0 : FVec F S16384x3072 .bf16) (main_arg1 : FVec F S16384x16 .f32) (main_arg2 : FVec F S16384x1024 .bf16) : IVec S16384x3072 1 × IVec S16384x16 1 × IVec S16384x1024 1 :=
  let main_v0 : FVec F S16384x3072 .f32 := (extf .f32 · bitsLt_bf16_f32) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_v4 : FVec F S16384x16 .f32 := Host.absf main_arg1
  let main_cst_0 : FVec F S_ .f32 := constant S_ .f32 0x7F800000#32
  let main_v5 : FVec F S16384x16 .f32 := broadcastInDim S16384x16 ![] bcast_S_S16384x16 main_cst_0
  let main_v6 : IVec S16384x16 1 := cmpf .olt main_v4 main_v5
  let main_v7 : FVec F S16384x1024 .f32 := (extf .f32 · bitsLt_bf16_f32) main_arg2
  let main_v8 : FVec F S16384x1024 .f32 := Host.absf main_v7
  let main_cst_1 : FVec F S_ .f32 := constant S_ .f32 0x7F800000#32
  let main_v9 : FVec F S16384x1024 .f32 := broadcastInDim S16384x1024 ![] bcast_S_S16384x1024 main_cst_1
  let main_v10 : IVec S16384x1024 1 := cmpf .olt main_v8 main_v9
  (main_v3, main_v6, main_v10)
-- ==== Pre_finite_f.lean ====
abbrev S16384x3072 : Shape := ⟨2, ![16384, 3072]⟩
abbrev S16384x16 : Shape := ⟨2, ![16384, 16]⟩
abbrev S_ : Shape := ⟨0, ![]⟩

class Facts : Prop where
  bitsLt_bf16_f32 : FTy.bits .bf16 < FTy.bits .f32
  bcast_S_S16384x3072 : S_.BroadcastsInDim S16384x3072 (![] : Fin 0 → Fin S16384x3072.rank)
  bcast_S_S16384x16 : S_.BroadcastsInDim S16384x16 (![] : Fin 0 → Fin S16384x16.rank)

variable [Facts]

def fn {F : FTy → Type} [FloatOps F] (main_arg0 : FVec F S16384x3072 .bf16) (main_arg1 : FVec F S16384x16 .f32) : IVec S16384x3072 1 × IVec S16384x16 1 :=
  let main_v0 : FVec F S16384x3072 .f32 := (extf .f32 · bitsLt_bf16_f32) main_arg0
  let main_v1 : FVec F S16384x3072 .f32 := Host.absf main_v0
  let main_cst : FVec F S_ .f32 := constant S_ .f32 0x7F800000#32
  let main_v2 : FVec F S16384x3072 .f32 := broadcastInDim S16384x3072 ![] bcast_S_S16384x3072 main_cst
  let main_v3 : IVec S16384x3072 1 := cmpf .olt main_v1 main_v2
  let main_v4 : FVec F S16384x16 .f32 := Host.absf main_arg1
  let main_cst_0 : FVec F S_ .f32 := constant S_ .f32 0x7F800000#32
  let main_v5 : FVec F S16384x16 .f32 := broadcastInDim S16384x16 ![] bcast_S_S16384x16 main_cst_0
  let main_v6 : IVec S16384x16 1 := cmpf .olt main_v4 main_v5
  (main_v3, main_v6)
-- ==== Kernel.lean ====
abbrev S16384x3072 : Shape := ⟨2, ![16384, 3072]⟩
abbrev S16384x16 : Shape := ⟨2, ![16384, 16]⟩
abbrev S16384x1024 : Shape := ⟨2, ![16384, 1024]⟩
abbrev S16384x16x64 : Shape := ⟨3, ![16384, 16, 64]⟩
abbrev S16x16384x64 : Shape := ⟨3, ![16, 16384, 64]⟩
abbrev S16x16384x16384 : Shape := ⟨3, ![16, 16384, 16384]⟩
abbrev S_ : Shape := ⟨0, ![]⟩
abbrev S16x16384 : Shape := ⟨2, ![16, 16384]⟩
abbrev S16x1x16384 : Shape := ⟨3, ![16, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S16x16384x1 : Shape := ⟨3, ![16, 16384, 1]⟩
abbrev S16384x128 : Shape := ⟨2, ![16384, 128]⟩
abbrev S8x2x32x512 : Shape := ⟨4, ![8, 2, 32, 512]⟩
abbrev S8x32x2x512 : Shape := ⟨4, ![8, 32, 2, 512]⟩
abbrev S8x32 : Shape := ⟨2, ![8, 32]⟩
abbrev S512x128 : Shape := ⟨2, ![512, 128]⟩
abbrev S1x32x2x512 : Shape := ⟨4, ![1, 32, 2, 512]⟩
abbrev S1x1x2x512 : Shape := ⟨4, ![1, 1, 2, 512]⟩
abbrev S2x512x128 : Shape := ⟨3, ![2, 512, 128]⟩
abbrev S512 : Shape := ⟨1, ![512]⟩
abbrev S512x1 : Shape := ⟨2, ![512, 1]⟩
abbrev S2x512 : Shape := ⟨2, ![2, 512]⟩
abbrev S256x128 : Shape := ⟨2, ![256, 128]⟩
abbrev S256x512 : Shape := ⟨2, ![256, 512]⟩
abbrev S1x512 : Shape := ⟨2, ![1, 512]⟩
abbrev S1x128 : Shape := ⟨2, ![1, 128]⟩
abbrev S1x256x128 : Shape := ⟨3, ![1, 256, 128]⟩
abbrev S256x256 : Shape := ⟨2, ![256, 256]⟩
abbrev S1x256 : Shape := ⟨2, ![1, 256]⟩
abbrev S1x1 : Shape := ⟨2, ![1, 1]⟩
abbrev S512x512 : Shape := ⟨2, ![512, 512]⟩
abbrev S1x512x128 : Shape := ⟨3, ![1, 512, 128]⟩
abbrev S128x512 : Shape := ⟨2, ![128, 512]⟩
abbrev S1x1x1x512 : Shape := ⟨4, ![1, 1, 1, 512]⟩

abbrev nBuf : Space → Nat
  | .hbm => 66
  | .vmem => 23
  | .smem => 1
  | _ => 0

abbrev bufTy : (tb : Table) → Fin (tcTables nBuf tb) → BufTy
  | .hbm, ⟨0, _⟩ => ⟨S16384x3072, .bf16⟩
  | .hbm, ⟨1, _⟩ => ⟨S16384x16, .f32⟩
  | .hbm, ⟨2, _⟩ => ⟨S16384x1024, .bf16⟩
  | .hbm, ⟨3, _⟩ => ⟨S16384x1024, .bf16⟩
  | .hbm, ⟨4, _⟩ => ⟨S16384x1024, .f32⟩
  | .hbm, ⟨5, _⟩ => ⟨S16384x16x64, .f32⟩
  | .hbm, ⟨6, _⟩ => ⟨S16x16384x64, .f32⟩
  | .hbm, ⟨7, _⟩ => ⟨S16384x1024, .bf16⟩
  | .hbm, ⟨8, _⟩ => ⟨S16384x1024, .f32⟩
  | .hbm, ⟨9, _⟩ => ⟨S16384x16x64, .f32⟩
  | .hbm, ⟨10, _⟩ => ⟨S16x16384x64, .f32⟩
  | .hbm, ⟨11, _⟩ => ⟨S16384x1024, .bf16⟩
  | .hbm, ⟨12, _⟩ => ⟨S16384x1024, .f32⟩
  | .hbm, ⟨13, _⟩ => ⟨S16384x16x64, .f32⟩
  | .hbm, ⟨14, _⟩ => ⟨S16x16384x64, .f32⟩
  | .hbm, ⟨15, _⟩ => ⟨S16x16384x16384, .f32⟩
  | .hbm, ⟨16, _⟩ => ⟨S_, .f32⟩
  | .hbm, ⟨17, _⟩ => ⟨S16x16384x16384, .f32⟩
  | .hbm, ⟨18, _⟩ => ⟨S16x16384x16384, .f32⟩
  | .hbm, ⟨19, _⟩ => ⟨S16x16384, .f32⟩
  | .hbm, ⟨20, _⟩ => ⟨S16x1x16384, .f32⟩
  | .hbm, ⟨21, _⟩ => ⟨S16x16384x16384, .f32⟩
  | .hbm, ⟨22, _⟩ => ⟨S16x16384x16384, .f32⟩
  | .hbm, ⟨23, _⟩ => ⟨S16384, .i32⟩
  | .hbm, ⟨24, _⟩ => ⟨S16384x1, .i32⟩
  | .hbm, ⟨25, _⟩ => ⟨S1x16384, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S_, .f32⟩
  | .hbm, ⟨30, _⟩ => ⟨S_, .f32⟩
  | .hbm, ⟨31, _⟩ => ⟨S16x16384x16384, .i1⟩
  | .hbm, ⟨32, _⟩ => ⟨S16x16384x16384, .f32⟩
  | .hbm, ⟨33, _⟩ => ⟨S16x16384x16384, .f32⟩
  | .hbm, ⟨34, _⟩ => ⟨S_, .f32⟩
  | .hbm, ⟨35, _⟩ => ⟨S16x16384, .f32⟩
  | .hbm, ⟨36, _⟩ => ⟨S16x16384x1, .f32⟩
  | .hbm, ⟨37, _⟩ => ⟨S16x16384x16384, .f32⟩
  | .hbm, ⟨38, _⟩ => ⟨S16x16384x16384, .f32⟩
  | .hbm, ⟨39, _⟩ => ⟨S16x16384x16384, .f32⟩
  | .hbm, ⟨40, _⟩ => ⟨S_, .f32⟩
  | .hbm, ⟨41, _⟩ => ⟨S16x16384, .f32⟩
  | .hbm, ⟨42, _⟩ => ⟨S16x16384x1, .f32⟩
  | .hbm, ⟨43, _⟩ => ⟨S16x16384x16384, .f32⟩
  | .hbm, ⟨44, _⟩ => ⟨S16x16384x16384, .f32⟩
  | .hbm, ⟨45, _⟩ => ⟨S16x16384x64, .f32⟩
  | .hbm, ⟨46, _⟩ => ⟨S16x16384x1, .f32⟩
  | .hbm, ⟨47, _⟩ => ⟨S16x16384x1, .f32⟩
  | .hbm, ⟨48, _⟩ => ⟨S16x16384, .f32⟩
  | .hbm, ⟨49, _⟩ => ⟨S16384x1024, .f32⟩
  | .hbm, ⟨50, _⟩ => ⟨S16384x16x64, .f32⟩
  | .hbm, ⟨51, _⟩ => ⟨S16x16384x64, .f32⟩
  | .hbm, ⟨52, _⟩ => ⟨S16x16384x64, .f32⟩
  | .hbm, ⟨53, _⟩ => ⟨S_, .f32⟩
  | .hbm, ⟨54, _⟩ => ⟨S16x16384, .f32⟩
  | .hbm, ⟨55, _⟩ => ⟨S_, .i32⟩
  | .hbm, ⟨56, _⟩ => ⟨S_, .f32⟩
  | .hbm, ⟨57, _⟩ => ⟨S16384x128, .f32⟩
  | .hbm, ⟨58, _⟩ => ⟨S8x2x32x512, .f32⟩
  | .hbm, ⟨59, _⟩ => ⟨S8x32x2x512, .f32⟩
  | .hbm, ⟨60, _⟩ => ⟨S8x2x32x512, .f32⟩
  | .hbm, ⟨61, _⟩ => ⟨S8x32x2x512, .f32⟩
  | .hbm, ⟨62, _⟩ => ⟨S_, .i32⟩
  | .hbm, ⟨63, _⟩ => ⟨S16384x1024, .bf16⟩
  | .hbm, ⟨64, _⟩ => ⟨S16384x1024, .bf16⟩
  | .hbm, ⟨65, _⟩ => ⟨S8x32x2x512, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S512x128, .f32⟩
  | .local _ .vmem, ⟨5, _⟩ => ⟨S512x128, .f32⟩
  | .local _ .vmem, ⟨6, _⟩ => ⟨S16384x128, .bf16⟩
  | .local _ .vmem, ⟨7, _⟩ => ⟨S16384x128, .bf16⟩
  | .local _ .vmem, ⟨8, _⟩ => ⟨S16384x128, .bf16⟩
  | .local _ .vmem, ⟨9, _⟩ => ⟨S16384x128, .bf16⟩
  | .local _ .vmem, ⟨10, _⟩ => ⟨S1x32x2x512, .f32⟩
  | .local _ .vmem, ⟨11, _⟩ => ⟨S1x32x2x512, .f32⟩
  | .local _ .vmem, ⟨12, _⟩ => ⟨S1x32x2x512, .f32⟩
  | .local _ .vmem, ⟨13, _⟩ => ⟨S1x32x2x512, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S1x1x2x512, .f32⟩
  | .local _ .vmem, ⟨19, _⟩ => ⟨S1x1x2x512, .f32⟩
  | .local _ .vmem, ⟨20, _⟩ => ⟨S512x128, .f32⟩
  | .local _ .vmem, ⟨21, _⟩ => ⟨S512x128, .f32⟩
  | .local _ .vmem, ⟨22, _⟩ => ⟨S2x512x128, .f32⟩
  | .local _ .smem, ⟨0, _⟩ => ⟨S8x32, .i32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_c : Ref sig .tc := ⟨.hbm, 55, rfl⟩
abbrev main_call1_v0 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_c_4 : Ref sig .tc := ⟨.hbm, 62, rfl⟩
abbrev main_v50_0 : Ref sig .tc := ⟨.hbm, 63, rfl⟩
abbrev main_v50_1 : Ref sig .tc := ⟨.hbm, 64, rfl⟩
abbrev main_v50_2 : Ref sig .tc := ⟨.hbm, 65, rfl⟩
abbrev main_v49 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 32], ![false, false]⟩

abbrev pre0 : Pipeline.Prefetch sig := ⟨1, ![main_v49.idx], fun | 0 => main_v49.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) : BitVec 32 :=
  let arg1 : BitVec 32 := BitVec.ofNat 32 (i 1).val
  let c512_i32 : BitVec 32 := 512#32
  let v47 : BitVec 32 := Scalar.muli arg1 c512_i32
  v47
def k0_off1 (i : grid0.Coords) : Fin 2 → Nat :=
  let arg1 : BitVec 32 := BitVec.ofNat 32 (i 1).val
  let c512_i32 : BitVec 32 := 512#32
  let v47 : BitVec 32 := Scalar.muli arg1 c512_i32
  let v48 : BitVec 32 := v47
  let v49 : Index := Scalar.indexCast v48
  let c0_21 : Index := 0#32
  ![v49.toNat, 0]
def k0_off2 (i : grid0.Coords) : Fin 4 → Nat :=
  let c0_23 : Index := 0#32
  let arg1 : BitVec 32 := BitVec.ofNat 32 (i 1).val
  let v53 : Index := Scalar.indexCast arg1
  let c0_24 : Index := 0#32
  let c0_25 : Index := 0#32
  ![0, v53.toNat, 0, 0]
def k0_off3 (i : grid0.Coords) : Fin 2 → Nat :=
  let arg0 : BitVec 32 := BitVec.ofNat 32 (i 0).val
  let v312 : Index := Scalar.indexCast arg0
  let arg1 : BitVec 32 := BitVec.ofNat 32 (i 1).val
  let v313 : Index := Scalar.indexCast arg1
  ![v312.toNat, v313.toNat]
@[reducible] def k0_t1_loop (i : grid0.Coords) (v314 : BitVec 32) : Scf.Loop 32 :=
  let arg1 : BitVec 32 := BitVec.ofNat 32 (i 1).val
  let c1_i32_94 : BitVec 32 := 1#32
  let v311 : BitVec 32 := Scalar.addi arg1 c1_i32_94
  let c1_i32_95 : BitVec 32 := 1#32
  let v315 : BitVec 32 := Scalar.addi v314 c1_i32_95
  let v316 : BitVec 32 := Scalar.subi v315 v311
  let c1_i32_97 : BitVec 32 := 1#32
  let v318 : BitVec 32 := Scalar.divsi v316 c1_i32_97
  let v319 : BitVec 32 := Scalar.muli v318 c1_i32_97
  let v320 : BitVec 32 := Scalar.addi v311 v319
  let c1_i32_98 : BitVec 32 := 1#32
  ⟨v311, v320, c1_i32_98⟩

def k0_mult2 (i : grid0.Coords) (v314 : BitVec 32) (k0_t1 : Fin (k0_t1_loop i v314).trips) : BitVec 32 :=
  let arg1 : BitVec 32 := BitVec.ofNat 32 (i 1).val
  let c1_i32_94 : BitVec 32 := 1#32
  let v311 : BitVec 32 := Scalar.addi arg1 c1_i32_94
  let c1_i32_98 : BitVec 32 := 1#32
  let arg16 : BitVec 32 := Scf.iv v311 c1_i32_98 k0_t1
  let c512_i32_127 : BitVec 32 := 512#32
  let v349 : BitVec 32 := Scalar.muli arg16 c512_i32_127
  v349
def k0_off4 (i : grid0.Coords) (v314 : BitVec 32) (k0_t1 : Fin (k0_t1_loop i v314).trips) : Fin 2 → Nat :=
  let arg1 : BitVec 32 := BitVec.ofNat 32 (i 1).val
  let c1_i32_94 : BitVec 32 := 1#32
  let v311 : BitVec 32 := Scalar.addi arg1 c1_i32_94
  let c1_i32_98 : BitVec 32 := 1#32
  let arg16 : BitVec 32 := Scf.iv v311 c1_i32_98 k0_t1
  let c512_i32_127 : BitVec 32 := 512#32
  let v349 : BitVec 32 := Scalar.muli arg16 c512_i32_127
  let v350 : BitVec 32 := v349
  let v351 : Index := Scalar.indexCast v350
  let c0_128 : Index := 0#32
  ![v351.toNat, 0]
def k0_off5 (i : grid0.Coords) (v314 : BitVec 32) (k0_t1 : Fin (k0_t1_loop i v314).trips) : Fin 4 → Nat :=
  let c0_130 : Index := 0#32
  let arg1 : BitVec 32 := BitVec.ofNat 32 (i 1).val
  let c1_i32_94 : BitVec 32 := 1#32
  let v311 : BitVec 32 := Scalar.addi arg1 c1_i32_94
  let c1_i32_98 : BitVec 32 := 1#32
  let arg16 : BitVec 32 := Scf.iv v311 c1_i32_98 k0_t1
  let v355 : Index := Scalar.indexCast arg16
  let c0_131 : Index := 0#32
  let c0_132 : Index := 0#32
  ![0, v355.toNat, 0, 0]
@[reducible] def k0_t2_loop (i : grid0.Coords) (v314 : BitVec 32) : Scf.Loop 32 :=
  let arg1 : BitVec 32 := BitVec.ofNat 32 (i 1).val
  let c1_i32_94 : BitVec 32 := 1#32
  let v311 : BitVec 32 := Scalar.addi arg1 c1_i32_94
  let c1_i32_95 : BitVec 32 := 1#32
  let v315 : BitVec 32 := Scalar.addi v314 c1_i32_95
  let v316 : BitVec 32 := Scalar.subi v315 v311
  let c1_i32_97 : BitVec 32 := 1#32
  let v318 : BitVec 32 := Scalar.divsi v316 c1_i32_97
  let v319 : BitVec 32 := Scalar.muli v318 c1_i32_97
  let v320 : BitVec 32 := Scalar.addi v311 v319
  let v317 : BitVec 32 := Scalar.addi v311 v316
  let c1_i32_99 : BitVec 32 := 1#32
  ⟨v320, v317, c1_i32_99⟩
def k0_mult3 (i : grid0.Coords) (v314 : BitVec 32) (k0_t2 : Fin (k0_t2_loop i v314).trips) : BitVec 32 :=
  let arg1 : BitVec 32 := BitVec.ofNat 32 (i 1).val
  let c1_i32_94 : BitVec 32 := 1#32
  let v311 : BitVec 32 := Scalar.addi arg1 c1_i32_94
  let c1_i32_95 : BitVec 32 := 1#32
  let v315 : BitVec 32 := Scalar.addi v314 c1_i32_95
  let v316 : BitVec 32 := Scalar.subi v315 v311
  let c1_i32_97 : BitVec 32 := 1#32
  let v318 : BitVec 32 := Scalar.divsi v316 c1_i32_97
  let v319 : BitVec 32 := Scalar.muli v318 c1_i32_97
  let v320 : BitVec 32 := Scalar.addi v311 v319
  let c1_i32_99 : BitVec 32 := 1#32
  let arg16 : BitVec 32 := Scf.iv v320 c1_i32_99 k0_t2
  let c512_i32_127 : BitVec 32 := 512#32
  let v349 : BitVec 32 := Scalar.muli arg16 c512_i32_127
  v349
def k0_off6 (i : grid0.Coords) (v314 : BitVec 32) (k0_t2 : Fin (k0_t2_loop i v314).trips) : Fin 2 → Nat :=
  let arg1 : BitVec 32 := BitVec.ofNat 32 (i 1).val
  let c1_i32_94 : BitVec 32 := 1#32
  let v311 : BitVec 32 := Scalar.addi arg1 c1_i32_94
  let c1_i32_95 : BitVec 32 := 1#32
  let v315 : BitVec 32 := Scalar.addi v314 c1_i32_95
  let v316 : BitVec 32 := Scalar.subi v315 v311
  let c1_i32_97 : BitVec 32 := 1#32
  let v318 : BitVec 32 := Scalar.divsi v316 c1_i32_97
  let v319 : BitVec 32 := Scalar.muli v318 c1_i32_97
  let v320 : BitVec 32 := Scalar.addi v311 v319
  let c1_i32_99 : BitVec 32 := 1#32
  let arg16 : BitVec 32 := Scf.iv v320 c1_i32_99 k0_t2
  let c512_i32_127 : BitVec 32 := 512#32
  let v349 : BitVec 32 := Scalar.muli arg16 c512_i32_127
  let v350 : BitVec 32 := v349
  let v351 : Index := Scalar.indexCast v350
  let c0_128 : Index := 0#32
  ![v351.toNat, 0]
def k0_off7 (i : grid0.Coords) (v314 : BitVec 32) (k0_t2 : Fin (k0_t2_loop i v314).trips) : Fin 4 → Nat :=
  let c0_130 : Index := 0#32
  let arg1 : BitVec 32 := BitVec.ofNat 32 (i 1).val
  let c1_i32_94 : BitVec 32 := 1#32
  let v311 : BitVec 32 := Scalar.addi arg1 c1_i32_94
  let c1_i32_95 : BitVec 32 := 1#32
  let v315 : BitVec 32 := Scalar.addi v314 c1_i32_95
  let v316 : BitVec 32 := Scalar.subi v315 v311
  let c1_i32_97 : BitVec 32 := 1#32
  let v318 : BitVec 32 := Scalar.divsi v316 c1_i32_97
  let v319 : BitVec 32 := Scalar.muli v318 c1_i32_97
  let v320 : BitVec 32 := Scalar.addi v311 v319
  let c1_i32_99 : BitVec 32 := 1#32
  let arg16 : BitVec 32 := Scf.iv v320 c1_i32_99 k0_t2
  let v355 : Index := Scalar.indexCast arg16
  let c0_131 : Index := 0#32
  let c0_132 : Index := 0#32
  ![0, v355.toNat, 0, 0]

def k0_chk1 (i : grid0.Coords) (v314 : BitVec 32) : Prop :=
  ((k0_t1_loop i v314).OK) ∧
  (∀ k0_t1 : Fin (k0_t1_loop i v314).trips, 512 ∣ (k0_mult2 i v314 k0_t1).toNat) ∧
  (∀ k0_t1 : Fin (k0_t1_loop i v314).trips, ∀ a, (k0_off4 i v314 k0_t1) a + S512x128.size a ≤ S16384x128.size a) ∧
  (∀ k0_t1 : Fin (k0_t1_loop i v314).trips, ∀ a, (k0_off5 i v314 k0_t1) a + S1x1x2x512.size a ≤ S1x32x2x512.size a) ∧
  ((k0_t2_loop i v314).OK) ∧
  (∀ k0_t2 : Fin (k0_t2_loop i v314).trips, 512 ∣ (k0_mult3 i v314 k0_t2).toNat) ∧
  (∀ k0_t2 : Fin (k0_t2_loop i v314).trips, ∀ a, (k0_off6 i v314 k0_t2) a + S512x128.size a ≤ S16384x128.size a) ∧
  (∀ k0_t2 : Fin (k0_t2_loop i v314).trips, ∀ a, (k0_off7 i v314 k0_t2) a + S1x1x2x512.size a ≤ S1x32x2x512.size a)
theorem k0_t1_ok : ∀ (i : grid0.Coords) (v314 : BitVec 32) (k0_hw1 : k0_chk1 i v314), (k0_t1_loop i v314).OK := fun i v314 k0_hw1 => k0_hw1.1
theorem k0_mult2_dvd : ∀ (i : grid0.Coords) (v314 : BitVec 32) (k0_hw1 : k0_chk1 i v314) (k0_t1 : Fin (k0_t1_loop i v314).trips), 512 ∣ (k0_mult2 i v314 k0_t1).toNat := fun i v314 k0_hw1 k0_t1 => k0_hw1.2.1 k0_t1
theorem k0_off4_inb : ∀ (i : grid0.Coords) (v314 : BitVec 32) (k0_hw1 : k0_chk1 i v314) (k0_t1 : Fin (k0_t1_loop i v314).trips), ∀ a, (k0_off4 i v314 k0_t1) a + S512x128.size a ≤ S16384x128.size a := fun i v314 k0_hw1 k0_t1 => k0_hw1.2.2.1 k0_t1
theorem k0_off5_inb : ∀ (i : grid0.Coords) (v314 : BitVec 32) (k0_hw1 : k0_chk1 i v314) (k0_t1 : Fin (k0_t1_loop i v314).trips), ∀ a, (k0_off5 i v314 k0_t1) a + S1x1x2x512.size a ≤ S1x32x2x512.size a := fun i v314 k0_hw1 k0_t1 => k0_hw1.2.2.2.1 k0_t1
theorem k0_t2_ok : ∀ (i : grid0.Coords) (v314 : BitVec 32) (k0_hw1 : k0_chk1 i v314), (k0_t2_loop i v314).OK := fun i v314 k0_hw1 => k0_hw1.2.2.2.2.1
theorem k0_mult3_dvd : ∀ (i : grid0.Coords) (v314 : BitVec 32) (k0_hw1 : k0_chk1 i v314) (k0_t2 : Fin (k0_t2_loop i v314).trips), 512 ∣ (k0_mult3 i v314 k0_t2).toNat := fun i v314 k0_hw1 k0_t2 => k0_hw1.2.2.2.2.2.1 k0_t2
theorem k0_off6_inb : ∀ (i : grid0.Coords) (v314 : BitVec 32) (k0_hw1 : k0_chk1 i v314) (k0_t2 : Fin (k0_t2_loop i v314).trips), ∀ a, (k0_off6 i v314 k0_t2) a + S512x128.size a ≤ S16384x128.size a := fun i v314 k0_hw1 k0_t2 => k0_hw1.2.2.2.2.2.2.1 k0_t2
theorem k0_off7_inb : ∀ (i : grid0.Coords) (v314 : BitVec 32) (k0_hw1 : k0_chk1 i v314) (k0_t2 : Fin (k0_t2_loop i v314).trips), ∀ a, (k0_off7 i v314 k0_t2) a + S1x1x2x512.size a ≤ S1x32x2x512.size a := fun i v314 k0_hw1 k0_t2 => k0_hw1.2.2.2.2.2.2.2 k0_t2

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x2x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S16384x3072 : Shape := ⟨2, ![16384, 3072]⟩
abbrev S16384x16 : Shape := ⟨2, ![16384, 16]⟩
abbrev S16384x1024 : Shape := ⟨2, ![16384, 1024]⟩
abbrev S16384x16x64 : Shape := ⟨3, ![16384, 16, 64]⟩
abbrev S16x16384x64 : Shape := ⟨3, ![16, 16384, 64]⟩
abbrev S16x16384x16384 : Shape := ⟨3, ![16, 16384, 16384]⟩
abbrev S_ : Shape := ⟨0, ![]⟩
abbrev S16x16384 : Shape := ⟨2, ![16, 16384]⟩
abbrev S16x16384x1 : Shape := ⟨3, ![16, 16384, 1]⟩
abbrev S16x1x16384 : Shape := ⟨3, ![16, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S16x64x16384 : Shape := ⟨3, ![16, 64, 16384]⟩
abbrev S32x512x8x2 : Shape := ⟨4, ![32, 512, 8, 2]⟩
abbrev S8x32x2x512 : Shape := ⟨4, ![8, 32, 2, 512]⟩

abbrev nBuf : Space → Nat
  | .hbm => 132
  | .vmem => 0
  | .smem => 0
  | _ => 0

abbrev hbmTy0_0 (i : Nat) : BufTy := match i % 128 with
  | 0 => ⟨S16384x3072, .bf16⟩
  | 1 => ⟨S16384x16, .f32⟩
  | 2 => ⟨S16384x1024, .bf16⟩
  | 3 => ⟨S16384x1024, .bf16⟩
  | 4 => ⟨S16384x1024, .bf16⟩
  | 5 => ⟨S16384x1024, .bf16⟩
  | 6 => ⟨S16384x16x64, .bf16⟩
  | 7 => ⟨S16x16384x64, .bf16⟩
  | 8 => ⟨S16x16384x64, .f32⟩
  | 9 => ⟨S16384x16x64, .bf16⟩
  | 10 => ⟨S16x16384x64, .bf16⟩
  | 11 => ⟨S16x16384x64, .f32⟩
  | 12 => ⟨S16x16384x16384, .f32⟩
  | 13 => ⟨S16x16384x16384, .bf16⟩
  | 14 => ⟨S16x16384x16384, .f32⟩
  | 15 => ⟨S_, .f32⟩
  | 16 => ⟨S16x16384x16384, .f32⟩
  | 17 => ⟨S16x16384x16384, .f32⟩
  | 18 => ⟨S16x16384, .f32⟩
  | 19 => ⟨S16x16384x1, .f32⟩
  | 20 => ⟨S16x16384x16384, .f32⟩
  | 21 => ⟨S16x16384x16384, .f32⟩
  | 22 => ⟨S16x16384, .f32⟩
  | 23 => ⟨S16x1x16384, .f32⟩
  | 24 => ⟨S16x16384x16384, .f32⟩
  | 25 => ⟨S16x16384x16384, .f32⟩
  | 26 => ⟨S16384, .i32⟩
  | 27 => ⟨S16384x1, .i32⟩
  | 28 => ⟨S1x16384, .i32⟩
  | 29 => ⟨S16384x16384, .i32⟩
  | 30 => ⟨S16384x16384, .i32⟩
  | 31 => ⟨S16384x16384, .i1⟩
  | 32 => ⟨S_, .f32⟩
  | 33 => ⟨S_, .f32⟩
  | 34 => ⟨S16x16384x16384, .i1⟩
  | 35 => ⟨S16x16384x16384, .f32⟩
  | 36 => ⟨S16x16384x16384, .f32⟩
  | 37 => ⟨S_, .f32⟩
  | 38 => ⟨S16x16384x16384, .f32⟩
  | 39 => ⟨S_, .f32⟩
  | 40 => ⟨S16x16384, .f32⟩
  | 41 => ⟨S16x16384x1, .f32⟩
  | 42 => ⟨S16x16384x16384, .f32⟩
  | 43 => ⟨S16x16384x16384, .i1⟩
  | 44 => ⟨S16x16384x16384, .f32⟩
  | 45 => ⟨S_, .f32⟩
  | 46 => ⟨S16x16384, .f32⟩
  | 47 => ⟨S_, .f32⟩
  | 48 => ⟨S16x16384, .f32⟩
  | 49 => ⟨S16x16384, .f32⟩
  | 50 => ⟨S_, .f32⟩
  | 51 => ⟨S16x16384, .f32⟩
  | 52 => ⟨S16x16384, .i1⟩
  | 53 => ⟨S_, .f32⟩
  | 54 => ⟨S16x16384, .f32⟩
  | 55 => ⟨S16x16384, .i1⟩
  | 56 => ⟨S_, .f32⟩
  | 57 => ⟨S16x16384, .f32⟩
  | 58 => ⟨S_, .f32⟩
  | 59 => ⟨S16x16384, .f32⟩
  | 60 => ⟨S_, .f32⟩
  | 61 => ⟨S16x16384, .f32⟩
  | 62 => ⟨S16x16384, .f32⟩
  | 63 => ⟨S16x16384, .f32⟩
  | 64 => ⟨S16x16384x1, .f32⟩
  | 65 => ⟨S16x16384x16384, .f32⟩
  | 66 => ⟨S16x16384x16384, .f32⟩
  | 67 => ⟨S16x16384x16384, .f32⟩
  | 68 => ⟨S_, .f32⟩
  | 69 => ⟨S16x16384, .f32⟩
  | 70 => ⟨S16x16384x1, .f32⟩
  | 71 => ⟨S16x16384x16384, .f32⟩
  | 72 => ⟨S16x16384x16384, .f32⟩
  | 73 => ⟨S16x16384x1, .f32⟩
  | 74 => ⟨S_, .f32⟩
  | 75 => ⟨S16x16384x1, .f32⟩
  | 76 => ⟨S16x16384x1, .f32⟩
  | 77 => ⟨S16x16384x16384, .bf16⟩
  | 78 => ⟨S16x16384x16384, .f32⟩
  | 79 => ⟨S16384x16x64, .bf16⟩
  | 80 => ⟨S16x16384x64, .bf16⟩
  | 81 => ⟨S16x16384x64, .f32⟩
  | 82 => ⟨S16x16384x64, .f32⟩
  | 83 => ⟨S16x16384x64, .bf16⟩
  | 84 => ⟨S16384x16x64, .bf16⟩
  | 85 => ⟨S16384x1024, .bf16⟩
  | 86 => ⟨S16384x16x64, .bf16⟩
  | 87 => ⟨S16x16384x64, .bf16⟩
  | 88 => ⟨S16x16384x64, .f32⟩
  | 89 => ⟨S16x64x16384, .f32⟩
  | 90 => ⟨S16x16384x64, .f32⟩
  | 91 => ⟨S16x16384x16384, .f32⟩
  | 92 => ⟨S16x16384x64, .bf16⟩
  | 93 => ⟨S16384x16x64, .bf16⟩
  | 94 => ⟨S16384x1024, .bf16⟩
  | 95 => ⟨S16x16384x16384, .bf16⟩
  | 96 => ⟨S16x16384x16384, .f32⟩
  | 97 => ⟨S16x16384x16384, .f32⟩
  | 98 => ⟨S16x16384x16384, .f32⟩
  | 99 => ⟨S16x16384x16384, .f32⟩
  | 100 => ⟨S_, .f32⟩
  | 101 => ⟨S16x16384, .f32⟩
  | 102 => ⟨S16x16384x1, .f32⟩
  | 103 => ⟨S16x16384x1, .f32⟩
  | 104 => ⟨S16x16384x16384, .f32⟩
  | 105 => ⟨S16x16384x16384, .f32⟩
  | 106 => ⟨S_, .f32⟩
  | 107 => ⟨S16x16384, .f32⟩
  | 108 => ⟨S16x16384x16384, .f32⟩
  | 109 => ⟨S16x16384x16384, .f32⟩
  | 110 => ⟨S16x16384x16384, .f32⟩
  | 111 => ⟨S_, .f32⟩
  | 112 => ⟨S16x16384x16384, .f32⟩
  | 113 => ⟨S16x16384x16384, .f32⟩
  | 114 => ⟨S16x16384x16384, .f32⟩
  | 115 => ⟨S_, .f32⟩
  | 116 => ⟨S16x16384, .f32⟩
  | 117 => ⟨S16x1x16384, .f32⟩
  | 118 => ⟨S_, .f32⟩
  | 119 => ⟨S16x16384, .f32⟩
  | 120 => ⟨S16384x16, .f32⟩
  | 121 => ⟨S_, .f32⟩
  | 122 => ⟨S16x16384x16384, .f32⟩
  | 123 => ⟨S16x16384x16384, .f32⟩
  | 124 => ⟨S16x16384x16384, .bf16⟩
  | 125 => ⟨S16x16384x16384, .f32⟩
  | 126 => ⟨S16x16384x64, .f32⟩
  | 127 => ⟨S16x16384x64, .bf16⟩
  | _ => ⟨S16384x3072, .bf16⟩

abbrev hbmTy0_1 (i : Nat) : BufTy := match i % 128 with
  | 0 => ⟨S16384x16x64, .bf16⟩
  | 1 => ⟨S16384x1024, .bf16⟩
  | 2 => ⟨S32x512x8x2, .f32⟩
  | 3 => ⟨S8x32x2x512, .f32⟩
  | _ => ⟨S16384x3072, .bf16⟩

abbrev hbmTy (i : Nat) : BufTy := match i / 128 with
  | 0 => hbmTy0_0 i
  | 1 => hbmTy0_1 i
  | _ => ⟨S16384x3072, .bf16⟩

abbrev bufTy : (tb : Table) → Fin (tcTables nBuf tb) → BufTy
  | .hbm, ⟨i, _⟩ => hbmTy i
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_v28_1 : Ref sig .tc := ⟨.hbm, 34, rfl⟩
abbrev main_call0_v2 : Ref sig .tc := ⟨.hbm, 35, rfl⟩
abbrev main_v28_0 : Ref sig .tc := ⟨.hbm, 36, rfl⟩
abbrev main_call0_cst : Ref sig .tc := ⟨.hbm, 37, rfl⟩
abbrev main_v28_2 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_cst_11 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_cst_12 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_call1_cst : Ref sig .tc := ⟨.hbm, 111, rfl⟩
abbrev main_call1_v0 : Ref sig .tc := ⟨.hbm, 112, rfl⟩
abbrev main_v89 : Ref sig .tc := ⟨.hbm, 113, rfl⟩
abbrev main_v90 : Ref sig .tc := ⟨.hbm, 114, rfl⟩
abbrev main_cst_13 : Ref sig .tc := ⟨.hbm, 115, rfl⟩
abbrev main_v91 : Ref sig .tc := ⟨.hbm, 116, rfl⟩
abbrev main_v92 : Ref sig .tc := ⟨.hbm, 117, rfl⟩
abbrev main_cst_14 : Ref sig .tc := ⟨.hbm, 118, rfl⟩
abbrev main_v93 : Ref sig .tc := ⟨.hbm, 119, rfl⟩
abbrev main_v94 : Ref sig .tc := ⟨.hbm, 120, rfl⟩
abbrev main_cst_15 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩

abbrev nD : Nat := 1
abbrev τ : Topo := Topo.v7x

variable {F : FTy → Type} [FloatOps F]
-- ==== PreparedIdeal.lean ====
abbrev S16384x3072 : Shape := ⟨2, ![16384, 3072]⟩
abbrev S16384x16 : Shape := ⟨2, ![16384, 16]⟩
abbrev S16384x1024 : Shape := ⟨2, ![16384, 1024]⟩
abbrev S16384x16x64 : Shape := ⟨3, ![16384, 16, 64]⟩
abbrev S16x16384x64 : Shape := ⟨3, ![16, 16384, 64]⟩
abbrev S16x16384x16384 : Shape := ⟨3, ![16, 16384, 16384]⟩
abbrev S_ : Shape := ⟨0, ![]⟩
abbrev S16x16384 : Shape := ⟨2, ![16, 16384]⟩
abbrev S16x1x16384 : Shape := ⟨3, ![16, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S16x16384x1 : Shape := ⟨3, ![16, 16384, 1]⟩
abbrev S16384x128 : Shape := ⟨2, ![16384, 128]⟩
abbrev S8x2x32x512 : Shape := ⟨4, ![8, 2, 32, 512]⟩
abbrev S8x32x2x512 : Shape := ⟨4, ![8, 32, 2, 512]⟩

abbrev nBuf : Space → Nat
  | .hbm => 62
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x16, .f32⟩
  | .hbm, ⟨2, _⟩ => ⟨S16384x1024, .bf16⟩
  | .hbm, ⟨3, _⟩ => ⟨S16384x1024, .bf16⟩
  | .hbm, ⟨4, _⟩ => ⟨S16384x1024, .f32⟩
  | .hbm, ⟨5, _⟩ => ⟨S16384x16x64, .f32⟩
  | .hbm, ⟨6, _⟩ => ⟨S16x16384x64, .f32⟩
  | .hbm, ⟨7, _⟩ => ⟨S16384x1024, .bf16⟩
  | .hbm, ⟨8, _⟩ => ⟨S16384x1024, .f32⟩
  | .hbm, ⟨9, _⟩ => ⟨S16384x16x64, .f32⟩
  | .hbm, ⟨10, _⟩ => ⟨S16x16384x64, .f32⟩
  | .hbm, ⟨11, _⟩ => ⟨S16384x1024, .bf16⟩
  | .hbm, ⟨12, _⟩ => ⟨S16384x1024, .f32⟩
  | .hbm, ⟨13, _⟩ => ⟨S16384x16x64, .f32⟩
  | .hbm, ⟨14, _⟩ => ⟨S16x16384x64, .f32⟩
  | .hbm, ⟨15, _⟩ => ⟨S16x16384x16384, .f32⟩
  | .hbm, ⟨16, _⟩ => ⟨S_, .f32⟩
  | .hbm, ⟨17, _⟩ => ⟨S16x16384x16384, .f32⟩
  | .hbm, ⟨18, _⟩ => ⟨S16x16384x16384, .f32⟩
  | .hbm, ⟨19, _⟩ => ⟨S16x16384, .f32⟩
  | .hbm, ⟨20, _⟩ => ⟨S16x1x16384, .f32⟩
  | .hbm, ⟨21, _⟩ => ⟨S16x16384x16384, .f32⟩
  | .hbm, ⟨22, _⟩ => ⟨S16x16384x16384, .f32⟩
  | .hbm, ⟨23, _⟩ => ⟨S16384, .i32⟩
  | .hbm, ⟨24, _⟩ => ⟨S16384x1, .i32⟩
  | .hbm, ⟨25, _⟩ => ⟨S1x16384, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S_, .f32⟩
  | .hbm, ⟨30, _⟩ => ⟨S_, .f32⟩
  | .hbm, ⟨31, _⟩ => ⟨S16x16384x16384, .i1⟩
  | .hbm, ⟨32, _⟩ => ⟨S16x16384x16384, .f32⟩
  | .hbm, ⟨33, _⟩ => ⟨S16x16384x16384, .f32⟩
  | .hbm, ⟨34, _⟩ => ⟨S_, .f32⟩
  | .hbm, ⟨35, _⟩ => ⟨S16x16384, .f32⟩
  | .hbm, ⟨36, _⟩ => ⟨S16x16384x1, .f32⟩
  | .hbm, ⟨37, _⟩ => ⟨S16x16384x16384, .f32⟩
  | .hbm, ⟨38, _⟩ => ⟨S16x16384x16384, .f32⟩
  | .hbm, ⟨39, _⟩ => ⟨S16x16384x16384, .f32⟩
  | .hbm, ⟨40, _⟩ => ⟨S_, .f32⟩
  | .hbm, ⟨41, _⟩ => ⟨S16x16384, .f32⟩
  | .hbm, ⟨42, _⟩ => ⟨S16x16384x1, .f32⟩
  | .hbm, ⟨43, _⟩ => ⟨S16x16384x16384, .f32⟩
  | .hbm, ⟨44, _⟩ => ⟨S16x16384x16384, .f32⟩
  | .hbm, ⟨45, _⟩ => ⟨S16x16384x64, .f32⟩
  | .hbm, ⟨46, _⟩ => ⟨S16x16384x1, .f32⟩
  | .hbm, ⟨47, _⟩ => ⟨S16x16384x1, .f32⟩
  | .hbm, ⟨48, _⟩ => ⟨S16x16384, .f32⟩
  | .hbm, ⟨49, _⟩ => ⟨S16384x1024, .f32⟩
  | .hbm, ⟨50, _⟩ => ⟨S16384x16x64, .f32⟩
  | .hbm, ⟨51, _⟩ => ⟨S16x16384x64, .f32⟩
  | .hbm, ⟨52, _⟩ => ⟨S16x16384x64, .f32⟩
  | .hbm, ⟨53, _⟩ => ⟨S_, .f32⟩
  | .hbm, ⟨54, _⟩ => ⟨S16x16384, .f32⟩
  | .hbm, ⟨55, _⟩ => ⟨S_, .i32⟩
  | .hbm, ⟨56, _⟩ => ⟨S_, .f32⟩
  | .hbm, ⟨57, _⟩ => ⟨S16384x128, .f32⟩
  | .hbm, ⟨58, _⟩ => ⟨S8x2x32x512, .f32⟩
  | .hbm, ⟨59, _⟩ => ⟨S8x32x2x512, .f32⟩
  | .hbm, ⟨60, _⟩ => ⟨S8x2x32x512, .f32⟩
  | .hbm, ⟨61, _⟩ => ⟨S8x32x2x512, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_c : Ref sig .tc := ⟨.hbm, 55, rfl⟩
abbrev main_call1_v0 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== Kernel2.lean ====
abbrev S16384x3072 : Shape := ⟨2, ![16384, 3072]⟩
abbrev S16384x16 : Shape := ⟨2, ![16384, 16]⟩
abbrev S16384x1024 : Shape := ⟨2, ![16384, 1024]⟩
abbrev S16384x16x64 : Shape := ⟨3, ![16384, 16, 64]⟩
abbrev S16x16384x64 : Shape := ⟨3, ![16, 16384, 64]⟩
abbrev S16x16384x16384 : Shape := ⟨3, ![16, 16384, 16384]⟩
abbrev S_ : Shape := ⟨0, ![]⟩
abbrev S16x16384 : Shape := ⟨2, ![16, 16384]⟩
abbrev S16x1x16384 : Shape := ⟨3, ![16, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S16x16384x1 : Shape := ⟨3, ![16, 16384, 1]⟩
abbrev S8x2x32x512 : Shape := ⟨4, ![8, 2, 32, 512]⟩
abbrev S8x32x2x512 : Shape := ⟨4, ![8, 32, 2, 512]⟩
abbrev S8x2x16384 : Shape := ⟨3, ![8, 2, 16384]⟩
abbrev S8x16384x2 : Shape := ⟨3, ![8, 16384, 2]⟩
abbrev S16384x128 : Shape := ⟨2, ![16384, 128]⟩
abbrev S8x32 : Shape := ⟨2, ![8, 32]⟩
abbrev S512x128 : Shape := ⟨2, ![512, 128]⟩
abbrev S1x32x2x512 : Shape := ⟨4, ![1, 32, 2, 512]⟩
abbrev S1x512x2 : Shape := ⟨3, ![1, 512, 2]⟩
abbrev S1x1x2x512 : Shape := ⟨4, ![1, 1, 2, 512]⟩
abbrev S2x512x128 : Shape := ⟨3, ![2, 512, 128]⟩
abbrev S512x2 : Shape := ⟨2, ![512, 2]⟩
abbrev S512x1 : Shape := ⟨2, ![512, 1]⟩
abbrev S512 : Shape := ⟨1, ![512]⟩
abbrev S1x1 : Shape := ⟨2, ![1, 1]⟩
abbrev S2x512 : Shape := ⟨2, ![2, 512]⟩
abbrev S512x512 : Shape := ⟨2, ![512, 512]⟩
abbrev S1x512 : Shape := ⟨2, ![1, 512]⟩
abbrev S1x512x128 : Shape := ⟨3, ![1, 512, 128]⟩
abbrev S256x128 : Shape := ⟨2, ![256, 128]⟩
abbrev S256x256 : Shape := ⟨2, ![256, 256]⟩
abbrev S1x256 : Shape := ⟨2, ![1, 256]⟩
abbrev S1x256x128 : Shape := ⟨3, ![1, 256, 128]⟩
abbrev S256x512 : Shape := ⟨2, ![256, 512]⟩
abbrev S128x512 : Shape := ⟨2, ![128, 512]⟩
abbrev S1x1x1x512 : Shape := ⟨4, ![1, 1, 1, 512]⟩

abbrev nBuf : Space → Nat
  | .hbm => 67
  | .vmem => 20
  | .smem => 1
  | _ => 0

abbrev bufTy : (tb : Table) → Fin (tcTables nBuf tb) → BufTy
  | .hbm, ⟨0, _⟩ => ⟨S16384x3072, .bf16⟩
  | .hbm, ⟨1, _⟩ => ⟨S16384x16, .f32⟩
  | .hbm, ⟨2, _⟩ => ⟨S16384x1024, .bf16⟩
  | .hbm, ⟨3, _⟩ => ⟨S16384x1024, .bf16⟩
  | .hbm, ⟨4, _⟩ => ⟨S16384x1024, .f32⟩
  | .hbm, ⟨5, _⟩ => ⟨S16384x16x64, .f32⟩
  | .hbm, ⟨6, _⟩ => ⟨S16x16384x64, .f32⟩
  | .hbm, ⟨7, _⟩ => ⟨S16384x1024, .bf16⟩
  | .hbm, ⟨8, _⟩ => ⟨S16384x1024, .f32⟩
  | .hbm, ⟨9, _⟩ => ⟨S16384x16x64, .f32⟩
  | .hbm, ⟨10, _⟩ => ⟨S16x16384x64, .f32⟩
  | .hbm, ⟨11, _⟩ => ⟨S16384x1024, .bf16⟩
  | .hbm, ⟨12, _⟩ => ⟨S16384x1024, .f32⟩
  | .hbm, ⟨13, _⟩ => ⟨S16384x16x64, .f32⟩
  | .hbm, ⟨14, _⟩ => ⟨S16x16384x64, .f32⟩
  | .hbm, ⟨15, _⟩ => ⟨S16x16384x16384, .f32⟩
  | .hbm, ⟨16, _⟩ => ⟨S_, .f32⟩
  | .hbm, ⟨17, _⟩ => ⟨S16x16384x16384, .f32⟩
  | .hbm, ⟨18, _⟩ => ⟨S16x16384x16384, .f32⟩
  | .hbm, ⟨19, _⟩ => ⟨S16x16384, .f32⟩
  | .hbm, ⟨20, _⟩ => ⟨S16x1x16384, .f32⟩
  | .hbm, ⟨21, _⟩ => ⟨S16x16384x16384, .f32⟩
  | .hbm, ⟨22, _⟩ => ⟨S16x16384x16384, .f32⟩
  | .hbm, ⟨23, _⟩ => ⟨S16384, .i32⟩
  | .hbm, ⟨24, _⟩ => ⟨S16384x1, .i32⟩
  | .hbm, ⟨25, _⟩ => ⟨S1x16384, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S_, .f32⟩
  | .hbm, ⟨30, _⟩ => ⟨S_, .f32⟩
  | .hbm, ⟨31, _⟩ => ⟨S16x16384x16384, .i1⟩
  | .hbm, ⟨32, _⟩ => ⟨S16x16384x16384, .f32⟩
  | .hbm, ⟨33, _⟩ => ⟨S16x16384x16384, .f32⟩
  | .hbm, ⟨34, _⟩ => ⟨S_, .f32⟩
  | .hbm, ⟨35, _⟩ => ⟨S16x16384, .f32⟩
  | .hbm, ⟨36, _⟩ => ⟨S16x16384x1, .f32⟩
  | .hbm, ⟨37, _⟩ => ⟨S16x16384x16384, .f32⟩
  | .hbm, ⟨38, _⟩ => ⟨S16x16384x16384, .f32⟩
  | .hbm, ⟨39, _⟩ => ⟨S16x16384x16384, .f32⟩
  | .hbm, ⟨40, _⟩ => ⟨S_, .f32⟩
  | .hbm, ⟨41, _⟩ => ⟨S16x16384, .f32⟩
  | .hbm, ⟨42, _⟩ => ⟨S16x16384x1, .f32⟩
  | .hbm, ⟨43, _⟩ => ⟨S16x16384x16384, .f32⟩
  | .hbm, ⟨44, _⟩ => ⟨S16x16384x16384, .f32⟩
  | .hbm, ⟨45, _⟩ => ⟨S16x16384x64, .f32⟩
  | .hbm, ⟨46, _⟩ => ⟨S16x16384x1, .f32⟩
  | .hbm, ⟨47, _⟩ => ⟨S16x16384x1, .f32⟩
  | .hbm, ⟨48, _⟩ => ⟨S16x16384, .f32⟩
  | .hbm, ⟨49, _⟩ => ⟨S16384x1024, .f32⟩
  | .hbm, ⟨50, _⟩ => ⟨S16384x16x64, .f32⟩
  | .hbm, ⟨51, _⟩ => ⟨S16x16384x64, .f32⟩
  | .hbm, ⟨52, _⟩ => ⟨S16x16384x64, .f32⟩
  | .hbm, ⟨53, _⟩ => ⟨S_, .f32⟩
  | .hbm, ⟨54, _⟩ => ⟨S16x16384, .f32⟩
  | .hbm, ⟨55, _⟩ => ⟨S16x16384, .f32⟩
  | .hbm, ⟨56, _⟩ => ⟨S8x2x32x512, .f32⟩
  | .hbm, ⟨57, _⟩ => ⟨S8x32x2x512, .f32⟩
  | .hbm, ⟨58, _⟩ => ⟨S8x2x16384, .f32⟩
  | .hbm, ⟨59, _⟩ => ⟨S8x16384x2, .f32⟩
  | .hbm, ⟨60, _⟩ => ⟨S16384x16, .f32⟩
  | .hbm, ⟨61, _⟩ => ⟨S_, .i32⟩
  | .hbm, ⟨62, _⟩ => ⟨S_, .f32⟩
  | .hbm, ⟨63, _⟩ => ⟨S16384x128, .f32⟩
  | .hbm, ⟨64, _⟩ => ⟨S_, .i32⟩
  | .hbm, ⟨65, _⟩ => ⟨S16384x1024, .bf16⟩
  | .hbm, ⟨66, _⟩ => ⟨S8x32x2x512, .f32⟩
  | .local _ .vmem, ⟨0, _⟩ => ⟨S512x128, .bf16⟩
  | .local _ .vmem, ⟨1, _⟩ => ⟨S512x128, .bf16⟩
  | .local _ .vmem, ⟨2, _⟩ => ⟨S512x128, .bf16⟩
  | .local _ .vmem, ⟨3, _⟩ => ⟨S512x128, .bf16⟩
  | .local _ .vmem, ⟨4, _⟩ => ⟨S16384x128, .bf16⟩
  | .local _ .vmem, ⟨5, _⟩ => ⟨S16384x128, .bf16⟩
  | .local _ .vmem, ⟨6, _⟩ => ⟨S16384x128, .bf16⟩
  | .local _ .vmem, ⟨7, _⟩ => ⟨S16384x128, .bf16⟩
  | .local _ .vmem, ⟨8, _⟩ => ⟨S1x32x2x512, .f32⟩
  | .local _ .vmem, ⟨9, _⟩ => ⟨S1x32x2x512, .f32⟩
  | .local _ .vmem, ⟨10, _⟩ => ⟨S1x512x2, .f32⟩
  | .local _ .vmem, ⟨11, _⟩ => ⟨S1x512x2, .f32⟩
  | .local _ .vmem, ⟨12, _⟩ => ⟨S512x128, .f32⟩
  | .local _ .vmem, ⟨13, _⟩ => ⟨S512x128, .f32⟩
  | .local _ .vmem, ⟨14, _⟩ => ⟨S512x128, .bf16⟩
  | .local _ .vmem, ⟨15, _⟩ => ⟨S512x128, .bf16⟩
  | .local _ .vmem, ⟨16, _⟩ => ⟨S1x1x2x512, .f32⟩
  | .local _ .vmem, ⟨17, _⟩ => ⟨S1x1x2x512, .f32⟩
  | .local _ .vmem, ⟨18, _⟩ => ⟨S512x128, .f32⟩
  | .local _ .vmem, ⟨19, _⟩ => ⟨S2x512x128, .f32⟩
  | .local _ .smem, ⟨0, _⟩ => ⟨S8x32, .i32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c : Ref sig .tc := ⟨.hbm, 61, rfl⟩
abbrev main_call1_v0 : Ref sig .tc := ⟨.hbm, 62, rfl⟩
abbrev main_v50 : Ref sig .tc := ⟨.hbm, 63, rfl⟩
abbrev main_c_4 : Ref sig .tc := ⟨.hbm, 64, rfl⟩
abbrev main_v52_0 : Ref sig .tc := ⟨.hbm, 65, rfl⟩
abbrev main_v52_1 : Ref sig .tc := ⟨.hbm, 66, rfl⟩
abbrev main_v51 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 32], ![false, false]⟩

abbrev pre0 : Pipeline.Prefetch sig := ⟨1, ![main_v51.idx], fun | 0 => main_v51.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v51 : Index := Scalar.indexCast arg0
  let arg1 : BitVec 32 := BitVec.ofNat 32 (i 1).val
  let v52 : Index := Scalar.indexCast arg1
  ![v51.toNat, v52.toNat]
@[reducible] def k0_t1_loop (i : grid0.Coords) (v53 : BitVec 32) : Scf.Loop 32 :=
  let arg1 : BitVec 32 := BitVec.ofNat 32 (i 1).val
  let v54 : BitVec 32 := Scalar.subi arg1 v53
  let c1_i32_22 : BitVec 32 := 1#32
  let v56 : BitVec 32 := Scalar.divsi v54 c1_i32_22
  let v57 : BitVec 32 := Scalar.muli v56 c1_i32_22
  let v58 : BitVec 32 := Scalar.addi v53 v57
  let c1_i32_23 : BitVec 32 := 1#32
  ⟨v53, v58, c1_i32_23⟩

def k0_mult1 (i : grid0.Coords) (v53 : BitVec 32) (k0_t1 : Fin (k0_t1_loop i v53).trips) : BitVec 32 :=
  let c1_i32_23 : BitVec 32 := 1#32
  let arg14 : BitVec 32 := Scf.iv v53 c1_i32_23 k0_t1
  let c512_i32_104 : BitVec 32 := 512#32
  let v293 : BitVec 32 := Scalar.muli arg14 c512_i32_104
  v293
def k0_off2 (i : grid0.Coords) (v53 : BitVec 32) (k0_t1 : Fin (k0_t1_loop i v53).trips) : Fin 2 → Nat :=
  let c1_i32_23 : BitVec 32 := 1#32
  let arg14 : BitVec 32 := Scf.iv v53 c1_i32_23 k0_t1
  let c512_i32_104 : BitVec 32 := 512#32
  let v293 : BitVec 32 := Scalar.muli arg14 c512_i32_104
  let v294 : BitVec 32 := v293
  let v295 : Index := Scalar.indexCast v294
  let c0_105 : Index := 0#32
  ![v295.toNat, 0]
def k0_off3 (i : grid0.Coords) (v53 : BitVec 32) (k0_t1 : Fin (k0_t1_loop i v53).trips) : Fin 4 → Nat :=
  let c0_107 : Index := 0#32
  let c1_i32_23 : BitVec 32 := 1#32
  let arg14 : BitVec 32 := Scf.iv v53 c1_i32_23 k0_t1
  let v299 : Index := Scalar.indexCast arg14
  let c0_108 : Index := 0#32
  let c0_109 : Index := 0#32
  ![0, v299.toNat, 0, 0]
@[reducible] def k0_t2_loop (i : grid0.Coords) (v53 : BitVec 32) : Scf.Loop 32 :=
  let arg1 : BitVec 32 := BitVec.ofNat 32 (i 1).val
  let v54 : BitVec 32 := Scalar.subi arg1 v53
  let c1_i32_22 : BitVec 32 := 1#32
  let v56 : BitVec 32 := Scalar.divsi v54 c1_i32_22
  let v57 : BitVec 32 := Scalar.muli v56 c1_i32_22
  let v58 : BitVec 32 := Scalar.addi v53 v57
  let v55 : BitVec 32 := Scalar.addi v53 v54
  let c1_i32_24 : BitVec 32 := 1#32
  ⟨v58, v55, c1_i32_24⟩
def k0_mult2 (i : grid0.Coords) (v53 : BitVec 32) (k0_t2 : Fin (k0_t2_loop i v53).trips) : BitVec 32 :=
  let arg1 : BitVec 32 := BitVec.ofNat 32 (i 1).val
  let v54 : BitVec 32 := Scalar.subi arg1 v53
  let c1_i32_22 : BitVec 32 := 1#32
  let v56 : BitVec 32 := Scalar.divsi v54 c1_i32_22
  let v57 : BitVec 32 := Scalar.muli v56 c1_i32_22
  let v58 : BitVec 32 := Scalar.addi v53 v57
  let c1_i32_24 : BitVec 32 := 1#32
  let arg14 : BitVec 32 := Scf.iv v58 c1_i32_24 k0_t2
  let c512_i32_104 : BitVec 32 := 512#32
  let v293 : BitVec 32 := Scalar.muli arg14 c512_i32_104
  v293
def k0_off4 (i : grid0.Coords) (v53 : BitVec 32) (k0_t2 : Fin (k0_t2_loop i v53).trips) : Fin 2 → Nat :=
  let arg1 : BitVec 32 := BitVec.ofNat 32 (i 1).val
  let v54 : BitVec 32 := Scalar.subi arg1 v53
  let c1_i32_22 : BitVec 32 := 1#32
  let v56 : BitVec 32 := Scalar.divsi v54 c1_i32_22
  let v57 : BitVec 32 := Scalar.muli v56 c1_i32_22
  let v58 : BitVec 32 := Scalar.addi v53 v57
  let c1_i32_24 : BitVec 32 := 1#32
  let arg14 : BitVec 32 := Scf.iv v58 c1_i32_24 k0_t2
  let c512_i32_104 : BitVec 32 := 512#32
  let v293 : BitVec 32 := Scalar.muli arg14 c512_i32_104
  let v294 : BitVec 32 := v293
  let v295 : Index := Scalar.indexCast v294
  let c0_105 : Index := 0#32
  ![v295.toNat, 0]
def k0_off5 (i : grid0.Coords) (v53 : BitVec 32) (k0_t2 : Fin (k0_t2_loop i v53).trips) : Fin 4 → Nat :=
  let c0_107 : Index := 0#32
  let arg1 : BitVec 32 := BitVec.ofNat 32 (i 1).val
  let v54 : BitVec 32 := Scalar.subi arg1 v53
  let c1_i32_22 : BitVec 32 := 1#32
  let v56 : BitVec 32 := Scalar.divsi v54 c1_i32_22
  let v57 : BitVec 32 := Scalar.muli v56 c1_i32_22
  let v58 : BitVec 32 := Scalar.addi v53 v57
  let c1_i32_24 : BitVec 32 := 1#32
  let arg14 : BitVec 32 := Scf.iv v58 c1_i32_24 k0_t2
  let v299 : Index := Scalar.indexCast arg14
  let c0_108 : Index := 0#32
  let c0_109 : Index := 0#32
  ![0, v299.toNat, 0, 0]

def k0_chk1 (i : grid0.Coords) (v53 : BitVec 32) : Prop :=
  ((k0_t1_loop i v53).OK) ∧
  (∀ k0_t1 : Fin (k0_t1_loop i v53).trips, 512 ∣ (k0_mult1 i v53 k0_t1).toNat) ∧
  (∀ k0_t1 : Fin (k0_t1_loop i v53).trips, ∀ a, (k0_off2 i v53 k0_t1) a + S512x128.size a ≤ S16384x128.size a) ∧
  (∀ k0_t1 : Fin (k0_t1_loop i v53).trips, ∀ a, (k0_off3 i v53 k0_t1) a + S1x1x2x512.size a ≤ S1x32x2x512.size a) ∧
  ((k0_t2_loop i v53).OK) ∧
  (∀ k0_t2 : Fin (k0_t2_loop i v53).trips, 512 ∣ (k0_mult2 i v53 k0_t2).toNat) ∧
  (∀ k0_t2 : Fin (k0_t2_loop i v53).trips, ∀ a, (k0_off4 i v53 k0_t2) a + S512x128.size a ≤ S16384x128.size a) ∧
  (∀ k0_t2 : Fin (k0_t2_loop i v53).trips, ∀ a, (k0_off5 i v53 k0_t2) a + S1x1x2x512.size a ≤ S1x32x2x512.size a)
theorem k0_t1_ok : ∀ (i : grid0.Coords) (v53 : BitVec 32) (k0_hw1 : k0_chk1 i v53), (k0_t1_loop i v53).OK := fun i v53 k0_hw1 => k0_hw1.1
theorem k0_mult1_dvd : ∀ (i : grid0.Coords) (v53 : BitVec 32) (k0_hw1 : k0_chk1 i v53) (k0_t1 : Fin (k0_t1_loop i v53).trips), 512 ∣ (k0_mult1 i v53 k0_t1).toNat := fun i v53 k0_hw1 k0_t1 => k0_hw1.2.1 k0_t1
theorem k0_off2_inb : ∀ (i : grid0.Coords) (v53 : BitVec 32) (k0_hw1 : k0_chk1 i v53) (k0_t1 : Fin (k0_t1_loop i v53).trips), ∀ a, (k0_off2 i v53 k0_t1) a + S512x128.size a ≤ S16384x128.size a := fun i v53 k0_hw1 k0_t1 => k0_hw1.2.2.1 k0_t1
theorem k0_off3_inb : ∀ (i : grid0.Coords) (v53 : BitVec 32) (k0_hw1 : k0_chk1 i v53) (k0_t1 : Fin (k0_t1_loop i v53).trips), ∀ a, (k0_off3 i v53 k0_t1) a + S1x1x2x512.size a ≤ S1x32x2x512.size a := fun i v53 k0_hw1 k0_t1 => k0_hw1.2.2.2.1 k0_t1
theorem k0_t2_ok : ∀ (i : grid0.Coords) (v53 : BitVec 32) (k0_hw1 : k0_chk1 i v53), (k0_t2_loop i v53).OK := fun i v53 k0_hw1 => k0_hw1.2.2.2.2.1
theorem k0_mult2_dvd : ∀ (i : grid0.Coords) (v53 : BitVec 32) (k0_hw1 : k0_chk1 i v53) (k0_t2 : Fin (k0_t2_loop i v53).trips), 512 ∣ (k0_mult2 i v53 k0_t2).toNat := fun i v53 k0_hw1 k0_t2 => k0_hw1.2.2.2.2.2.1 k0_t2
theorem k0_off4_inb : ∀ (i : grid0.Coords) (v53 : BitVec 32) (k0_hw1 : k0_chk1 i v53) (k0_t2 : Fin (k0_t2_loop i v53).trips), ∀ a, (k0_off4 i v53 k0_t2) a + S512x128.size a ≤ S16384x128.size a := fun i v53 k0_hw1 k0_t2 => k0_hw1.2.2.2.2.2.2.1 k0_t2
theorem k0_off5_inb : ∀ (i : grid0.Coords) (v53 : BitVec 32) (k0_hw1 : k0_chk1 i v53) (k0_t2 : Fin (k0_t2_loop i v53).trips), ∀ a, (k0_off5 i v53 k0_t2) a + S1x1x2x512.size a ≤ S1x32x2x512.size a := fun i v53 k0_hw1 k0_t2 => k0_hw1.2.2.2.2.2.2.2 k0_t2

def k0_mult3 (i : grid0.Coords) : BitVec 32 :=
  let arg1 : BitVec 32 := BitVec.ofNat 32 (i 1).val
  let c512_i32 : BitVec 32 := 512#32
  let v59 : BitVec 32 := Scalar.muli arg1 c512_i32
  v59
def k0_off6 (i : grid0.Coords) : Fin 2 → Nat :=
  let arg1 : BitVec 32 := BitVec.ofNat 32 (i 1).val
  let c512_i32 : BitVec 32 := 512#32
  let v59 : BitVec 32 := Scalar.muli arg1 c512_i32
  let v60 : BitVec 32 := v59
  let v61 : Index := Scalar.indexCast v60
  let c0_25 : Index := 0#32
  ![v61.toNat, 0]
def k0_off7 (i : grid0.Coords) : Fin 4 → Nat :=
  let c0_27 : Index := 0#32
  let arg1 : BitVec 32 := BitVec.ofNat 32 (i 1).val
  let v65 : Index := Scalar.indexCast arg1
  let c0_28 : Index := 0#32
  let c0_29 : Index := 0#32
  ![0, v65.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x32x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S16384x3072 : Shape := ⟨2, ![16384, 3072]⟩
abbrev S16384x16 : Shape := ⟨2, ![16384, 16]⟩
abbrev S16384x1024 : Shape := ⟨2, ![16384, 1024]⟩
abbrev S16384x16x64 : Shape := ⟨3, ![16384, 16, 64]⟩
abbrev S16x16384x64 : Shape := ⟨3, ![16, 16384, 64]⟩
abbrev S16x16384x16384 : Shape := ⟨3, ![16, 16384, 16384]⟩
abbrev S_ : Shape := ⟨0, ![]⟩
abbrev S16x16384 : Shape := ⟨2, ![16, 16384]⟩
abbrev S16x16384x1 : Shape := ⟨3, ![16, 16384, 1]⟩
abbrev S16x1x16384 : Shape := ⟨3, ![16, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S32x512x8x2 : Shape := ⟨4, ![32, 512, 8, 2]⟩
abbrev S8x32x2x512 : Shape := ⟨4, ![8, 32, 2, 512]⟩

abbrev nBuf : Space → Nat
  | .hbm => 126
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x16, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x16x64, .bf16⟩
  | .hbm, ⟨7, _⟩ => ⟨S16x16384x64, .bf16⟩
  | .hbm, ⟨8, _⟩ => ⟨S16x16384x64, .f32⟩
  | .hbm, ⟨9, _⟩ => ⟨S16384x16x64, .bf16⟩
  | .hbm, ⟨10, _⟩ => ⟨S16x16384x64, .bf16⟩
  | .hbm, ⟨11, _⟩ => ⟨S16x16384x64, .f32⟩
  | .hbm, ⟨12, _⟩ => ⟨S16x16384x16384, .f32⟩
  | .hbm, ⟨13, _⟩ => ⟨S16x16384x16384, .bf16⟩
  | .hbm, ⟨14, _⟩ => ⟨S16x16384x16384, .f32⟩
  | .hbm, ⟨15, _⟩ => ⟨S_, .f32⟩
  | .hbm, ⟨16, _⟩ => ⟨S16x16384x16384, .f32⟩
  | .hbm, ⟨17, _⟩ => ⟨S16x16384x16384, .f32⟩
  | .hbm, ⟨18, _⟩ => ⟨S16x16384, .f32⟩
  | .hbm, ⟨19, _⟩ => ⟨S16x16384x1, .f32⟩
  | .hbm, ⟨20, _⟩ => ⟨S16x16384x16384, .f32⟩
  | .hbm, ⟨21, _⟩ => ⟨S16x16384x16384, .f32⟩
  | .hbm, ⟨22, _⟩ => ⟨S16x16384, .f32⟩
  | .hbm, ⟨23, _⟩ => ⟨S16x1x16384, .f32⟩
  | .hbm, ⟨24, _⟩ => ⟨S16x16384x16384, .f32⟩
  | .hbm, ⟨25, _⟩ => ⟨S16x16384x16384, .f32⟩
  | .hbm, ⟨26, _⟩ => ⟨S16384, .i32⟩
  | .hbm, ⟨27, _⟩ => ⟨S16384x1, .i32⟩
  | .hbm, ⟨28, _⟩ => ⟨S1x16384, .i32⟩
  | .hbm, ⟨29, _⟩ => ⟨S16384x16384, .i32⟩
  | .hbm, ⟨30, _⟩ => ⟨S16384x16384, .i32⟩
  | .hbm, ⟨31, _⟩ => ⟨S16384x16384, .i1⟩
  | .hbm, ⟨32, _⟩ => ⟨S_, .f32⟩
  | .hbm, ⟨33, _⟩ => ⟨S_, .f32⟩
  | .hbm, ⟨34, _⟩ => ⟨S16x16384x16384, .i1⟩
  | .hbm, ⟨35, _⟩ => ⟨S16x16384x16384, .f32⟩
  | .hbm, ⟨36, _⟩ => ⟨S16x16384x16384, .f32⟩
  | .hbm, ⟨37, _⟩ => ⟨S_, .f32⟩
  | .hbm, ⟨38, _⟩ => ⟨S16x16384x16384, .f32⟩
  | .hbm, ⟨39, _⟩ => ⟨S_, .f32⟩
  | .hbm, ⟨40, _⟩ => ⟨S16x16384, .f32⟩
  | .hbm, ⟨41, _⟩ => ⟨S16x16384x1, .f32⟩
  | .hbm, ⟨42, _⟩ => ⟨S16x16384x16384, .f32⟩
  | .hbm, ⟨43, _⟩ => ⟨S16x16384x16384, .i1⟩
  | .hbm, ⟨44, _⟩ => ⟨S16x16384x16384, .f32⟩
  | .hbm, ⟨45, _⟩ => ⟨S_, .f32⟩
  | .hbm, ⟨46, _⟩ => ⟨S16x16384, .f32⟩
  | .hbm, ⟨47, _⟩ => ⟨S_, .f32⟩
  | .hbm, ⟨48, _⟩ => ⟨S16x16384, .f32⟩
  | .hbm, ⟨49, _⟩ => ⟨S16x16384, .f32⟩
  | .hbm, ⟨50, _⟩ => ⟨S_, .f32⟩
  | .hbm, ⟨51, _⟩ => ⟨S16x16384, .f32⟩
  | .hbm, ⟨52, _⟩ => ⟨S16x16384, .i1⟩
  | .hbm, ⟨53, _⟩ => ⟨S_, .f32⟩
  | .hbm, ⟨54, _⟩ => ⟨S16x16384, .f32⟩
  | .hbm, ⟨55, _⟩ => ⟨S16x16384, .i1⟩
  | .hbm, ⟨56, _⟩ => ⟨S_, .f32⟩
  | .hbm, ⟨57, _⟩ => ⟨S16x16384, .f32⟩
  | .hbm, ⟨58, _⟩ => ⟨S_, .f32⟩
  | .hbm, ⟨59, _⟩ => ⟨S16x16384, .f32⟩
  | .hbm, ⟨60, _⟩ => ⟨S_, .f32⟩
  | .hbm, ⟨61, _⟩ => ⟨S16x16384, .f32⟩
  | .hbm, ⟨62, _⟩ => ⟨S16x16384, .f32⟩
  | .hbm, ⟨63, _⟩ => ⟨S16x16384, .f32⟩
  | .hbm, ⟨64, _⟩ => ⟨S16x16384x1, .f32⟩
  | .hbm, ⟨65, _⟩ => ⟨S16x16384x16384, .f32⟩
  | .hbm, ⟨66, _⟩ => ⟨S16x16384x16384, .f32⟩
  | .hbm, ⟨67, _⟩ => ⟨S16x16384x16384, .f32⟩
  | .hbm, ⟨68, _⟩ => ⟨S_, .f32⟩
  | .hbm, ⟨69, _⟩ => ⟨S16x16384, .f32⟩
  | .hbm, ⟨70, _⟩ => ⟨S16x16384x1, .f32⟩
  | .hbm, ⟨71, _⟩ => ⟨S16x16384x16384, .f32⟩
  | .hbm, ⟨72, _⟩ => ⟨S16x16384x16384, .f32⟩
  | .hbm, ⟨73, _⟩ => ⟨S16x16384x1, .f32⟩
  | .hbm, ⟨74, _⟩ => ⟨S_, .f32⟩
  | .hbm, ⟨75, _⟩ => ⟨S16x16384x1, .f32⟩
  | .hbm, ⟨76, _⟩ => ⟨S16x16384x1, .f32⟩
  | .hbm, ⟨77, _⟩ => ⟨S16x16384x16384, .bf16⟩
  | .hbm, ⟨78, _⟩ => ⟨S16x16384x16384, .f32⟩
  | .hbm, ⟨79, _⟩ => ⟨S16384x16x64, .bf16⟩
  | .hbm, ⟨80, _⟩ => ⟨S16x16384x64, .bf16⟩
  | .hbm, ⟨81, _⟩ => ⟨S16x16384x64, .f32⟩
  | .hbm, ⟨82, _⟩ => ⟨S16x16384x64, .f32⟩
  | .hbm, ⟨83, _⟩ => ⟨S16x16384x64, .bf16⟩
  | .hbm, ⟨84, _⟩ => ⟨S16384x16x64, .bf16⟩
  | .hbm, ⟨85, _⟩ => ⟨S16384x1024, .bf16⟩
  | .hbm, ⟨86, _⟩ => ⟨S16384x16x64, .bf16⟩
  | .hbm, ⟨87, _⟩ => ⟨S16x16384x64, .bf16⟩
  | .hbm, ⟨88, _⟩ => ⟨S16x16384x64, .f32⟩
  | .hbm, ⟨89, _⟩ => ⟨S16x16384x16384, .f32⟩
  | .hbm, ⟨90, _⟩ => ⟨S16x16384x16384, .bf16⟩
  | .hbm, ⟨91, _⟩ => ⟨S16x16384x16384, .f32⟩
  | .hbm, ⟨92, _⟩ => ⟨S16x16384x16384, .f32⟩
  | .hbm, ⟨93, _⟩ => ⟨S16x16384x16384, .f32⟩
  | .hbm, ⟨94, _⟩ => ⟨S16x16384x16384, .f32⟩
  | .hbm, ⟨95, _⟩ => ⟨S_, .f32⟩
  | .hbm, ⟨96, _⟩ => ⟨S16x16384, .f32⟩
  | .hbm, ⟨97, _⟩ => ⟨S16x16384x1, .f32⟩
  | .hbm, ⟨98, _⟩ => ⟨S16x16384x1, .f32⟩
  | .hbm, ⟨99, _⟩ => ⟨S16x16384x16384, .f32⟩
  | .hbm, ⟨100, _⟩ => ⟨S16x16384x16384, .f32⟩
  | .hbm, ⟨101, _⟩ => ⟨S_, .f32⟩
  | .hbm, ⟨102, _⟩ => ⟨S16x16384, .f32⟩
  | .hbm, ⟨103, _⟩ => ⟨S16x16384x16384, .f32⟩
  | .hbm, ⟨104, _⟩ => ⟨S16x16384x16384, .f32⟩
  | .hbm, ⟨105, _⟩ => ⟨S16x16384x16384, .f32⟩
  | .hbm, ⟨106, _⟩ => ⟨S_, .f32⟩
  | .hbm, ⟨107, _⟩ => ⟨S16x16384x16384, .f32⟩
  | .hbm, ⟨108, _⟩ => ⟨S16x16384x16384, .f32⟩
  | .hbm, ⟨109, _⟩ => ⟨S_, .f32⟩
  | .hbm, ⟨110, _⟩ => ⟨S16x16384, .f32⟩
  | .hbm, ⟨111, _⟩ => ⟨S16x16384x1, .f32⟩
  | .hbm, ⟨112, _⟩ => ⟨S_, .f32⟩
  | .hbm, ⟨113, _⟩ => ⟨S16x16384, .f32⟩
  | .hbm, ⟨114, _⟩ => ⟨S16384x16, .f32⟩
  | .hbm, ⟨115, _⟩ => ⟨S_, .f32⟩
  | .hbm, ⟨116, _⟩ => ⟨S16x16384x16384, .f32⟩
  | .hbm, ⟨117, _⟩ => ⟨S16x16384x16384, .f32⟩
  | .hbm, ⟨118, _⟩ => ⟨S16x16384x16384, .bf16⟩
  | .hbm, ⟨119, _⟩ => ⟨S16x16384x16384, .f32⟩
  | .hbm, ⟨120, _⟩ => ⟨S16x16384x64, .f32⟩
  | .hbm, ⟨121, _⟩ => ⟨S16x16384x64, .bf16⟩
  | .hbm, ⟨122, _⟩ => ⟨S16384x16x64, .bf16⟩
  | .hbm, ⟨123, _⟩ => ⟨S16384x1024, .bf16⟩
  | .hbm, ⟨124, _⟩ => ⟨S32x512x8x2, .f32⟩
  | .hbm, ⟨125, _⟩ => ⟨S8x32x2x512, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst_0 : Ref sig .tc := ⟨.hbm, 32, rfl⟩
abbrev main_call0_v0 : Ref sig .tc := ⟨.hbm, 33, rfl⟩
abbrev main_v28_1 : Ref sig .tc := ⟨.hbm, 34, rfl⟩
abbrev main_call0_v2 : Ref sig .tc := ⟨.hbm, 35, rfl⟩
abbrev main_v28_0 : Ref sig .tc := ⟨.hbm, 36, rfl⟩
abbrev main_call0_cst : Ref sig .tc := ⟨.hbm, 37, rfl⟩
abbrev main_v28_2 : Ref sig .tc := ⟨.hbm, 38, rfl⟩
abbrev main_cst_1 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_12 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_call1_cst : Ref sig .tc := ⟨.hbm, 106, rfl⟩
abbrev main_call1_v0 : Ref sig .tc := ⟨.hbm, 107, rfl⟩
abbrev main_v84 : Ref sig .tc := ⟨.hbm, 108, rfl⟩
abbrev main_cst_13 : Ref sig .tc := ⟨.hbm, 109, rfl⟩
abbrev main_v85 : Ref sig .tc := ⟨.hbm, 110, rfl⟩
abbrev main_v86 : Ref sig .tc := ⟨.hbm, 111, rfl⟩
abbrev main_cst_14 : Ref sig .tc := ⟨.hbm, 112, rfl⟩
abbrev main_v87 : Ref sig .tc := ⟨.hbm, 113, rfl⟩
abbrev main_v88 : Ref sig .tc := ⟨.hbm, 114, rfl⟩
abbrev main_cst_15 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩

abbrev nD : Nat := 1
abbrev τ : Topo := Topo.v7x

variable {F : FTy → Type} [FloatOps F]
-- ==== Prepared2Ideal.lean ====
abbrev S16384x3072 : Shape := ⟨2, ![16384, 3072]⟩
abbrev S16384x16 : Shape := ⟨2, ![16384, 16]⟩
abbrev S16384x1024 : Shape := ⟨2, ![16384, 1024]⟩
abbrev S16384x16x64 : Shape := ⟨3, ![16384, 16, 64]⟩
abbrev S16x16384x64 : Shape := ⟨3, ![16, 16384, 64]⟩
abbrev S16x16384x16384 : Shape := ⟨3, ![16, 16384, 16384]⟩
abbrev S_ : Shape := ⟨0, ![]⟩
abbrev S16x16384 : Shape := ⟨2, ![16, 16384]⟩
abbrev S16x1x16384 : Shape := ⟨3, ![16, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S16x16384x1 : Shape := ⟨3, ![16, 16384, 1]⟩
abbrev S8x2x32x512 : Shape := ⟨4, ![8, 2, 32, 512]⟩
abbrev S8x32x2x512 : Shape := ⟨4, ![8, 32, 2, 512]⟩
abbrev S8x2x16384 : Shape := ⟨3, ![8, 2, 16384]⟩
abbrev S8x16384x2 : Shape := ⟨3, ![8, 16384, 2]⟩
abbrev S16384x128 : Shape := ⟨2, ![16384, 128]⟩

abbrev nBuf : Space → Nat
  | .hbm => 64
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x16, .f32⟩
  | .hbm, ⟨2, _⟩ => ⟨S16384x1024, .bf16⟩
  | .hbm, ⟨3, _⟩ => ⟨S16384x1024, .bf16⟩
  | .hbm, ⟨4, _⟩ => ⟨S16384x1024, .f32⟩
  | .hbm, ⟨5, _⟩ => ⟨S16384x16x64, .f32⟩
  | .hbm, ⟨6, _⟩ => ⟨S16x16384x64, .f32⟩
  | .hbm, ⟨7, _⟩ => ⟨S16384x1024, .bf16⟩
  | .hbm, ⟨8, _⟩ => ⟨S16384x1024, .f32⟩
  | .hbm, ⟨9, _⟩ => ⟨S16384x16x64, .f32⟩
  | .hbm, ⟨10, _⟩ => ⟨S16x16384x64, .f32⟩
  | .hbm, ⟨11, _⟩ => ⟨S16384x1024, .bf16⟩
  | .hbm, ⟨12, _⟩ => ⟨S16384x1024, .f32⟩
  | .hbm, ⟨13, _⟩ => ⟨S16384x16x64, .f32⟩
  | .hbm, ⟨14, _⟩ => ⟨S16x16384x64, .f32⟩
  | .hbm, ⟨15, _⟩ => ⟨S16x16384x16384, .f32⟩
  | .hbm, ⟨16, _⟩ => ⟨S_, .f32⟩
  | .hbm, ⟨17, _⟩ => ⟨S16x16384x16384, .f32⟩
  | .hbm, ⟨18, _⟩ => ⟨S16x16384x16384, .f32⟩
  | .hbm, ⟨19, _⟩ => ⟨S16x16384, .f32⟩
  | .hbm, ⟨20, _⟩ => ⟨S16x1x16384, .f32⟩
  | .hbm, ⟨21, _⟩ => ⟨S16x16384x16384, .f32⟩
  | .hbm, ⟨22, _⟩ => ⟨S16x16384x16384, .f32⟩
  | .hbm, ⟨23, _⟩ => ⟨S16384, .i32⟩
  | .hbm, ⟨24, _⟩ => ⟨S16384x1, .i32⟩
  | .hbm, ⟨25, _⟩ => ⟨S1x16384, .i32⟩
  | .hbm, ⟨26, _⟩ => ⟨S16384x16384, .i32⟩
  | .hbm, ⟨27, _⟩ => ⟨S16384x16384, .i32⟩
  | .hbm, ⟨28, _⟩ => ⟨S16384x16384, .i1⟩
  | .hbm, ⟨29, _⟩ => ⟨S_, .f32⟩
  | .hbm, ⟨30, _⟩ => ⟨S_, .f32⟩
  | .hbm, ⟨31, _⟩ => ⟨S16x16384x16384, .i1⟩
  | .hbm, ⟨32, _⟩ => ⟨S16x16384x16384, .f32⟩
  | .hbm, ⟨33, _⟩ => ⟨S16x16384x16384, .f32⟩
  | .hbm, ⟨34, _⟩ => ⟨S_, .f32⟩
  | .hbm, ⟨35, _⟩ => ⟨S16x16384, .f32⟩
  | .hbm, ⟨36, _⟩ => ⟨S16x16384x1, .f32⟩
  | .hbm, ⟨37, _⟩ => ⟨S16x16384x16384, .f32⟩
  | .hbm, ⟨38, _⟩ => ⟨S16x16384x16384, .f32⟩
  | .hbm, ⟨39, _⟩ => ⟨S16x16384x16384, .f32⟩
  | .hbm, ⟨40, _⟩ => ⟨S_, .f32⟩
  | .hbm, ⟨41, _⟩ => ⟨S16x16384, .f32⟩
  | .hbm, ⟨42, _⟩ => ⟨S16x16384x1, .f32⟩
  | .hbm, ⟨43, _⟩ => ⟨S16x16384x16384, .f32⟩
  | .hbm, ⟨44, _⟩ => ⟨S16x16384x16384, .f32⟩
  | .hbm, ⟨45, _⟩ => ⟨S16x16384x64, .f32⟩
  | .hbm, ⟨46, _⟩ => ⟨S16x16384x1, .f32⟩
  | .hbm, ⟨47, _⟩ => ⟨S16x16384x1, .f32⟩
  | .hbm, ⟨48, _⟩ => ⟨S16x16384, .f32⟩
  | .hbm, ⟨49, _⟩ => ⟨S16384x1024, .f32⟩
  | .hbm, ⟨50, _⟩ => ⟨S16384x16x64, .f32⟩
  | .hbm, ⟨51, _⟩ => ⟨S16x16384x64, .f32⟩
  | .hbm, ⟨52, _⟩ => ⟨S16x16384x64, .f32⟩
  | .hbm, ⟨53, _⟩ => ⟨S_, .f32⟩
  | .hbm, ⟨54, _⟩ => ⟨S16x16384, .f32⟩
  | .hbm, ⟨55, _⟩ => ⟨S16x16384, .f32⟩
  | .hbm, ⟨56, _⟩ => ⟨S8x2x32x512, .f32⟩
  | .hbm, ⟨57, _⟩ => ⟨S8x32x2x512, .f32⟩
  | .hbm, ⟨58, _⟩ => ⟨S8x2x16384, .f32⟩
  | .hbm, ⟨59, _⟩ => ⟨S8x16384x2, .f32⟩
  | .hbm, ⟨60, _⟩ => ⟨S16384x16, .f32⟩
  | .hbm, ⟨61, _⟩ => ⟨S_, .i32⟩
  | .hbm, ⟨62, _⟩ => ⟨S_, .f32⟩
  | .hbm, ⟨63, _⟩ => ⟨S16384x128, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_3 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_c : Ref sig .tc := ⟨.hbm, 61, rfl⟩
abbrev main_call1_v0 : Ref sig .tc := ⟨.hbm, 62, rfl⟩
abbrev main_v50 : Ref sig .tc := ⟨.hbm, 63, rfl⟩

abbrev nD : Nat := 1
abbrev τ : Topo := Topo.v7x

variable {F : FTy → Type} [FloatOps F]
-- ==== Kernel3.lean ====
abbrev S16384x3072 : Shape := ⟨2, ![16384, 3072]⟩
abbrev S16384x16 : Shape := ⟨2, ![16384, 16]⟩
abbrev S16x16384 : Shape := ⟨2, ![16, 16384]⟩
abbrev S8x2x32x512 : Shape := ⟨4, ![8, 2, 32, 512]⟩
abbrev S8x32x2x512 : Shape := ⟨4, ![8, 32, 2, 512]⟩
abbrev S_ : Shape := ⟨0, ![]⟩
abbrev S8x32 : Shape := ⟨2, ![8, 32]⟩
abbrev S16384x1024 : Shape := ⟨2, ![16384, 1024]⟩
abbrev S8x16384x2 : Shape := ⟨3, ![8, 16384, 2]⟩
abbrev S512x128 : Shape := ⟨2, ![512, 128]⟩
abbrev S16384x128 : Shape := ⟨2, ![16384, 128]⟩
abbrev S1x32x2x512 : Shape := ⟨4, ![1, 32, 2, 512]⟩
abbrev S1x512x2 : Shape := ⟨3, ![1, 512, 2]⟩
abbrev S1x1x2x512 : Shape := ⟨4, ![1, 1, 2, 512]⟩
abbrev S2x512x128 : Shape := ⟨3, ![2, 512, 128]⟩
abbrev S1x1 : Shape := ⟨2, ![1, 1]⟩
abbrev S2x512 : Shape := ⟨2, ![2, 512]⟩
abbrev S512x512 : Shape := ⟨2, ![512, 512]⟩
abbrev S1x512 : Shape := ⟨2, ![1, 512]⟩
abbrev S1x512x128 : Shape := ⟨3, ![1, 512, 128]⟩
abbrev S512 : Shape := ⟨1, ![512]⟩
abbrev S512x1 : Shape := ⟨2, ![512, 1]⟩
abbrev S1x512x1 : Shape := ⟨3, ![1, 512, 1]⟩
abbrev S128x512 : Shape := ⟨2, ![128, 512]⟩
abbrev S1x1x1x512 : Shape := ⟨4, ![1, 1, 1, 512]⟩

abbrev nBuf : Space → Nat
  | .hbm => 9
  | .vmem => 17
  | .smem => 1
  | _ => 0

abbrev bufTy : (tb : Table) → Fin (tcTables nBuf tb) → BufTy
  | .hbm, ⟨0, _⟩ => ⟨S16384x3072, .bf16⟩
  | .hbm, ⟨1, _⟩ => ⟨S16384x16, .f32⟩
  | .hbm, ⟨2, _⟩ => ⟨S16x16384, .f32⟩
  | .hbm, ⟨3, _⟩ => ⟨S8x2x32x512, .f32⟩
  | .hbm, ⟨4, _⟩ => ⟨S8x32x2x512, .f32⟩
  | .hbm, ⟨5, _⟩ => ⟨S_, .i32⟩
  | .hbm, ⟨6, _⟩ => ⟨S16384x1024, .f32⟩
  | .hbm, ⟨7, _⟩ => ⟨S8x16384x2, .f32⟩
  | .hbm, ⟨8, _⟩ => ⟨S8x32x2x512, .f32⟩
  | .local _ .vmem, ⟨0, _⟩ => ⟨S512x128, .bf16⟩
  | .local _ .vmem, ⟨1, _⟩ => ⟨S512x128, .bf16⟩
  | .local _ .vmem, ⟨2, _⟩ => ⟨S16384x128, .bf16⟩
  | .local _ .vmem, ⟨3, _⟩ => ⟨S16384x128, .bf16⟩
  | .local _ .vmem, ⟨4, _⟩ => ⟨S16384x128, .bf16⟩
  | .local _ .vmem, ⟨5, _⟩ => ⟨S16384x128, .bf16⟩
  | .local _ .vmem, ⟨6, _⟩ => ⟨S1x32x2x512, .f32⟩
  | .local _ .vmem, ⟨7, _⟩ => ⟨S1x32x2x512, .f32⟩
  | .local _ .vmem, ⟨8, _⟩ => ⟨S512x128, .f32⟩
  | .local _ .vmem, ⟨9, _⟩ => ⟨S512x128, .f32⟩
  | .local _ .vmem, ⟨10, _⟩ => ⟨S1x512x2, .f32⟩
  | .local _ .vmem, ⟨11, _⟩ => ⟨S1x512x2, .f32⟩
  | .local _ .vmem, ⟨12, _⟩ => ⟨S1x1x2x512, .f32⟩
  | .local _ .vmem, ⟨13, _⟩ => ⟨S1x1x2x512, .f32⟩
  | .local _ .vmem, ⟨14, _⟩ => ⟨S512x128, .f32⟩
  | .local _ .vmem, ⟨15, _⟩ => ⟨S2x512x128, .f32⟩
  | .local _ .vmem, ⟨16, _⟩ => ⟨S2x512x128, .f32⟩
  | .local _ .smem, ⟨0, _⟩ => ⟨S8x32, .i32⟩
  | _, _ => ⟨S16384x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_v3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 32], ![false, false]⟩

abbrev pre0 : Pipeline.Prefetch sig := ⟨1, ![main_v3.idx], fun | 0 => main_v3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v21 : Index := Scalar.indexCast arg0
  let arg1 : BitVec 32 := BitVec.ofNat 32 (i 1).val
  let v22 : Index := Scalar.indexCast arg1
  ![v21.toNat, v22.toNat]
@[reducible] def k0_t1_loop (i : grid0.Coords) (v23 : BitVec 32) : Scf.Loop 32 :=
  let arg1 : BitVec 32 := BitVec.ofNat 32 (i 1).val
  let v24 : BitVec 32 := Scalar.subi arg1 v23
  let c1_i32 : BitVec 32 := 1#32
  let v26 : BitVec 32 := Scalar.divsi v24 c1_i32
  let v27 : BitVec 32 := Scalar.muli v26 c1_i32
  let v28 : BitVec 32 := Scalar.addi v23 v27
  let c1_i32_13 : BitVec 32 := 1#32
  ⟨v23, v28, c1_i32_13⟩

def k0_mult1 (i : grid0.Coords) (v23 : BitVec 32) (k0_t1 : Fin (k0_t1_loop i v23).trips) : BitVec 32 :=
  let c1_i32_13 : BitVec 32 := 1#32
  let arg13 : BitVec 32 := Scf.iv v23 c1_i32_13 k0_t1
  let c512_i32_91 : BitVec 32 := 512#32
  let v196 : BitVec 32 := Scalar.muli arg13 c512_i32_91
  v196
def k0_off2 (i : grid0.Coords) (v23 : BitVec 32) (k0_t1 : Fin (k0_t1_loop i v23).trips) : Fin 2 → Nat :=
  let c1_i32_13 : BitVec 32 := 1#32
  let arg13 : BitVec 32 := Scf.iv v23 c1_i32_13 k0_t1
  let c512_i32_91 : BitVec 32 := 512#32
  let v196 : BitVec 32 := Scalar.muli arg13 c512_i32_91
  let v197 : BitVec 32 := v196
  let v198 : Index := Scalar.indexCast v197
  let c0_92 : Index := 0#32
  ![v198.toNat, 0]
def k0_off3 (i : grid0.Coords) (v23 : BitVec 32) (k0_t1 : Fin (k0_t1_loop i v23).trips) : Fin 4 → Nat :=
  let c0_94 : Index := 0#32
  let c1_i32_13 : BitVec 32 := 1#32
  let arg13 : BitVec 32 := Scf.iv v23 c1_i32_13 k0_t1
  let v202 : Index := Scalar.indexCast arg13
  let c0_95 : Index := 0#32
  let c0_96 : Index := 0#32
  ![0, v202.toNat, 0, 0]
@[reducible] def k0_t2_loop (i : grid0.Coords) (v23 : BitVec 32) : Scf.Loop 32 :=
  let arg1 : BitVec 32 := BitVec.ofNat 32 (i 1).val
  let v24 : BitVec 32 := Scalar.subi arg1 v23
  let c1_i32 : BitVec 32 := 1#32
  let v26 : BitVec 32 := Scalar.divsi v24 c1_i32
  let v27 : BitVec 32 := Scalar.muli v26 c1_i32
  let v28 : BitVec 32 := Scalar.addi v23 v27
  let v25 : BitVec 32 := Scalar.addi v23 v24
  let c1_i32_14 : BitVec 32 := 1#32
  ⟨v28, v25, c1_i32_14⟩
def k0_mult2 (i : grid0.Coords) (v23 : BitVec 32) (k0_t2 : Fin (k0_t2_loop i v23).trips) : BitVec 32 :=
  let arg1 : BitVec 32 := BitVec.ofNat 32 (i 1).val
  let v24 : BitVec 32 := Scalar.subi arg1 v23
  let c1_i32 : BitVec 32 := 1#32
  let v26 : BitVec 32 := Scalar.divsi v24 c1_i32
  let v27 : BitVec 32 := Scalar.muli v26 c1_i32
  let v28 : BitVec 32 := Scalar.addi v23 v27
  let c1_i32_14 : BitVec 32 := 1#32
  let arg13 : BitVec 32 := Scf.iv v28 c1_i32_14 k0_t2
  let c512_i32_91 : BitVec 32 := 512#32
  let v196 : BitVec 32 := Scalar.muli arg13 c512_i32_91
  v196
def k0_off4 (i : grid0.Coords) (v23 : BitVec 32) (k0_t2 : Fin (k0_t2_loop i v23).trips) : Fin 2 → Nat :=
  let arg1 : BitVec 32 := BitVec.ofNat 32 (i 1).val
  let v24 : BitVec 32 := Scalar.subi arg1 v23
  let c1_i32 : BitVec 32 := 1#32
  let v26 : BitVec 32 := Scalar.divsi v24 c1_i32
  let v27 : BitVec 32 := Scalar.muli v26 c1_i32
  let v28 : BitVec 32 := Scalar.addi v23 v27
  let c1_i32_14 : BitVec 32 := 1#32
  let arg13 : BitVec 32 := Scf.iv v28 c1_i32_14 k0_t2
  let c512_i32_91 : BitVec 32 := 512#32
  let v196 : BitVec 32 := Scalar.muli arg13 c512_i32_91
  let v197 : BitVec 32 := v196
  let v198 : Index := Scalar.indexCast v197
  let c0_92 : Index := 0#32
  ![v198.toNat, 0]
def k0_off5 (i : grid0.Coords) (v23 : BitVec 32) (k0_t2 : Fin (k0_t2_loop i v23).trips) : Fin 4 → Nat :=
  let c0_94 : Index := 0#32
  let arg1 : BitVec 32 := BitVec.ofNat 32 (i 1).val
  let v24 : BitVec 32 := Scalar.subi arg1 v23
  let c1_i32 : BitVec 32 := 1#32
  let v26 : BitVec 32 := Scalar.divsi v24 c1_i32
  let v27 : BitVec 32 := Scalar.muli v26 c1_i32
  let v28 : BitVec 32 := Scalar.addi v23 v27
  let c1_i32_14 : BitVec 32 := 1#32
  let arg13 : BitVec 32 := Scf.iv v28 c1_i32_14 k0_t2
  let v202 : Index := Scalar.indexCast arg13
  let c0_95 : Index := 0#32
  let c0_96 : Index := 0#32
  ![0, v202.toNat, 0, 0]

def k0_chk1 (i : grid0.Coords) (v23 : BitVec 32) : Prop :=
  ((k0_t1_loop i v23).OK) ∧
  (∀ k0_t1 : Fin (k0_t1_loop i v23).trips, 512 ∣ (k0_mult1 i v23 k0_t1).toNat) ∧
  (∀ k0_t1 : Fin (k0_t1_loop i v23).trips, ∀ a, (k0_off2 i v23 k0_t1) a + S512x128.size a ≤ S16384x128.size a) ∧
  (∀ k0_t1 : Fin (k0_t1_loop i v23).trips, ∀ a, (k0_off3 i v23 k0_t1) a + S1x1x2x512.size a ≤ S1x32x2x512.size a) ∧
  ((k0_t2_loop i v23).OK) ∧
  (∀ k0_t2 : Fin (k0_t2_loop i v23).trips, 512 ∣ (k0_mult2 i v23 k0_t2).toNat) ∧
  (∀ k0_t2 : Fin (k0_t2_loop i v23).trips, ∀ a, (k0_off4 i v23 k0_t2) a + S512x128.size a ≤ S16384x128.size a) ∧
  (∀ k0_t2 : Fin (k0_t2_loop i v23).trips, ∀ a, (k0_off5 i v23 k0_t2) a + S1x1x2x512.size a ≤ S1x32x2x512.size a)
theorem k0_t1_ok : ∀ (i : grid0.Coords) (v23 : BitVec 32) (k0_hw1 : k0_chk1 i v23), (k0_t1_loop i v23).OK := fun i v23 k0_hw1 => k0_hw1.1
theorem k0_mult1_dvd : ∀ (i : grid0.Coords) (v23 : BitVec 32) (k0_hw1 : k0_chk1 i v23) (k0_t1 : Fin (k0_t1_loop i v23).trips), 512 ∣ (k0_mult1 i v23 k0_t1).toNat := fun i v23 k0_hw1 k0_t1 => k0_hw1.2.1 k0_t1
theorem k0_off2_inb : ∀ (i : grid0.Coords) (v23 : BitVec 32) (k0_hw1 : k0_chk1 i v23) (k0_t1 : Fin (k0_t1_loop i v23).trips), ∀ a, (k0_off2 i v23 k0_t1) a + S512x128.size a ≤ S16384x128.size a := fun i v23 k0_hw1 k0_t1 => k0_hw1.2.2.1 k0_t1
theorem k0_off3_inb : ∀ (i : grid0.Coords) (v23 : BitVec 32) (k0_hw1 : k0_chk1 i v23) (k0_t1 : Fin (k0_t1_loop i v23).trips), ∀ a, (k0_off3 i v23 k0_t1) a + S1x1x2x512.size a ≤ S1x32x2x512.size a := fun i v23 k0_hw1 k0_t1 => k0_hw1.2.2.2.1 k0_t1
theorem k0_t2_ok : ∀ (i : grid0.Coords) (v23 : BitVec 32) (k0_hw1 : k0_chk1 i v23), (k0_t2_loop i v23).OK := fun i v23 k0_hw1 => k0_hw1.2.2.2.2.1
theorem k0_mult2_dvd : ∀ (i : grid0.Coords) (v23 : BitVec 32) (k0_hw1 : k0_chk1 i v23) (k0_t2 : Fin (k0_t2_loop i v23).trips), 512 ∣ (k0_mult2 i v23 k0_t2).toNat := fun i v23 k0_hw1 k0_t2 => k0_hw1.2.2.2.2.2.1 k0_t2
theorem k0_off4_inb : ∀ (i : grid0.Coords) (v23 : BitVec 32) (k0_hw1 : k0_chk1 i v23) (k0_t2 : Fin (k0_t2_loop i v23).trips), ∀ a, (k0_off4 i v23 k0_t2) a + S512x128.size a ≤ S16384x128.size a := fun i v23 k0_hw1 k0_t2 => k0_hw1.2.2.2.2.2.2.1 k0_t2
theorem k0_off5_inb : ∀ (i : grid0.Coords) (v23 : BitVec 32) (k0_hw1 : k0_chk1 i v23) (k0_t2 : Fin (k0_t2_loop i v23).trips), ∀ a, (k0_off5 i v23 k0_t2) a + S1x1x2x512.size a ≤ S1x32x2x512.size a := fun i v23 k0_hw1 k0_t2 => k0_hw1.2.2.2.2.2.2.2 k0_t2

def k0_mult3 (i : grid0.Coords) : BitVec 32 :=
  let arg1 : BitVec 32 := BitVec.ofNat 32 (i 1).val
  let c512_i32 : BitVec 32 := 512#32
  let v29 : BitVec 32 := Scalar.muli arg1 c512_i32
  v29
def k0_off6 (i : grid0.Coords) : Fin 2 → Nat :=
  let arg1 : BitVec 32 := BitVec.ofNat 32 (i 1).val
  let c512_i32 : BitVec 32 := 512#32
  let v29 : BitVec 32 := Scalar.muli arg1 c512_i32
  let v30 : BitVec 32 := v29
  let v31 : Index := Scalar.indexCast v30
  let c0_15 : Index := 0#32
  ![v31.toNat, 0]
def k0_off7 (i : grid0.Coords) : Fin 4 → Nat :=
  let c0_17 : Index := 0#32
  let arg1 : BitVec 32 := BitVec.ofNat 32 (i 1).val
  let v35 : Index := Scalar.indexCast arg1
  let c0_18 : Index := 0#32
  let c0_19 : Index := 0#32
  ![0, v35.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S16384x3072 : Shape := ⟨2, ![16384, 3072]⟩
abbrev S16384x16 : Shape := ⟨2, ![16384, 16]⟩
abbrev S16384x1024 : Shape := ⟨2, ![16384, 1024]⟩
abbrev S16384x16x64 : Shape := ⟨3, ![16384, 16, 64]⟩
abbrev S16x16384x64 : Shape := ⟨3, ![16, 16384, 64]⟩
abbrev S16x16384x16384 : Shape := ⟨3, ![16, 16384, 16384]⟩
abbrev S_ : Shape := ⟨0, ![]⟩
abbrev S16x16384 : Shape := ⟨2, ![16, 16384]⟩
abbrev S16x1x16384 : Shape := ⟨3, ![16, 1, 16384]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S16x16384x1 : Shape := ⟨3, ![16, 16384, 1]⟩
abbrev S8x2x16384 : Shape := ⟨3, ![8, 2, 16384]⟩
abbrev S8x16384x2 : Shape := ⟨3, ![8, 16384, 2]⟩
abbrev S8x2x32x512 : Shape := ⟨4, ![8, 2, 32, 512]⟩
abbrev S8x32x2x512 : Shape := ⟨4, ![8, 32, 2, 512]⟩

abbrev nBuf : Space → Nat
  | .hbm => 95
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x16, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x16x64, .bf16⟩
  | .hbm, ⟨6, _⟩ => ⟨S16x16384x64, .bf16⟩
  | .hbm, ⟨7, _⟩ => ⟨S16x16384x64, .f32⟩
  | .hbm, ⟨8, _⟩ => ⟨S16384x16x64, .bf16⟩
  | .hbm, ⟨9, _⟩ => ⟨S16x16384x64, .bf16⟩
  | .hbm, ⟨10, _⟩ => ⟨S16x16384x64, .f32⟩
  | .hbm, ⟨11, _⟩ => ⟨S16x16384x16384, .f32⟩
  | .hbm, ⟨12, _⟩ => ⟨S16x16384x16384, .bf16⟩
  | .hbm, ⟨13, _⟩ => ⟨S16x16384x16384, .f32⟩
  | .hbm, ⟨14, _⟩ => ⟨S_, .f32⟩
  | .hbm, ⟨15, _⟩ => ⟨S16x16384x16384, .f32⟩
  | .hbm, ⟨16, _⟩ => ⟨S16x16384x16384, .f32⟩
  | .hbm, ⟨17, _⟩ => ⟨S16x16384, .f32⟩
  | .hbm, ⟨18, _⟩ => ⟨S16x1x16384, .f32⟩
  | .hbm, ⟨19, _⟩ => ⟨S16x16384x16384, .f32⟩
  | .hbm, ⟨20, _⟩ => ⟨S16x16384x16384, .f32⟩
  | .hbm, ⟨21, _⟩ => ⟨S16384, .i32⟩
  | .hbm, ⟨22, _⟩ => ⟨S16384x1, .i32⟩
  | .hbm, ⟨23, _⟩ => ⟨S1x16384, .i32⟩
  | .hbm, ⟨24, _⟩ => ⟨S16384x16384, .i32⟩
  | .hbm, ⟨25, _⟩ => ⟨S16384x16384, .i32⟩
  | .hbm, ⟨26, _⟩ => ⟨S16384x16384, .i1⟩
  | .hbm, ⟨27, _⟩ => ⟨S_, .f32⟩
  | .hbm, ⟨28, _⟩ => ⟨S_, .f32⟩
  | .hbm, ⟨29, _⟩ => ⟨S16x16384x16384, .i1⟩
  | .hbm, ⟨30, _⟩ => ⟨S16x16384x16384, .f32⟩
  | .hbm, ⟨31, _⟩ => ⟨S16x16384x16384, .f32⟩
  | .hbm, ⟨32, _⟩ => ⟨S16x16384x16384, .f32⟩
  | .hbm, ⟨33, _⟩ => ⟨S_, .f32⟩
  | .hbm, ⟨34, _⟩ => ⟨S16x16384, .f32⟩
  | .hbm, ⟨35, _⟩ => ⟨S16x16384, .f32⟩
  | .hbm, ⟨36, _⟩ => ⟨S16384x16x64, .bf16⟩
  | .hbm, ⟨37, _⟩ => ⟨S16x16384x64, .bf16⟩
  | .hbm, ⟨38, _⟩ => ⟨S16x16384x64, .f32⟩
  | .hbm, ⟨39, _⟩ => ⟨S16384x16x64, .bf16⟩
  | .hbm, ⟨40, _⟩ => ⟨S16x16384x64, .bf16⟩
  | .hbm, ⟨41, _⟩ => ⟨S16x16384x64, .f32⟩
  | .hbm, ⟨42, _⟩ => ⟨S16x16384x16384, .f32⟩
  | .hbm, ⟨43, _⟩ => ⟨S16x16384x16384, .bf16⟩
  | .hbm, ⟨44, _⟩ => ⟨S16x16384x16384, .f32⟩
  | .hbm, ⟨45, _⟩ => ⟨S_, .f32⟩
  | .hbm, ⟨46, _⟩ => ⟨S16x16384x16384, .f32⟩
  | .hbm, ⟨47, _⟩ => ⟨S16x16384x16384, .f32⟩
  | .hbm, ⟨48, _⟩ => ⟨S16x16384, .f32⟩
  | .hbm, ⟨49, _⟩ => ⟨S16x16384x1, .f32⟩
  | .hbm, ⟨50, _⟩ => ⟨S16x16384x16384, .f32⟩
  | .hbm, ⟨51, _⟩ => ⟨S16x16384x16384, .f32⟩
  | .hbm, ⟨52, _⟩ => ⟨S16x16384, .f32⟩
  | .hbm, ⟨53, _⟩ => ⟨S16x1x16384, .f32⟩
  | .hbm, ⟨54, _⟩ => ⟨S16x16384x16384, .f32⟩
  | .hbm, ⟨55, _⟩ => ⟨S16x16384x16384, .f32⟩
  | .hbm, ⟨56, _⟩ => ⟨S16384, .i32⟩
  | .hbm, ⟨57, _⟩ => ⟨S16384x1, .i32⟩
  | .hbm, ⟨58, _⟩ => ⟨S1x16384, .i32⟩
  | .hbm, ⟨59, _⟩ => ⟨S16384x16384, .i32⟩
  | .hbm, ⟨60, _⟩ => ⟨S16384x16384, .i32⟩
  | .hbm, ⟨61, _⟩ => ⟨S16384x16384, .i1⟩
  | .hbm, ⟨62, _⟩ => ⟨S_, .f32⟩
  | .hbm, ⟨63, _⟩ => ⟨S_, .f32⟩
  | .hbm, ⟨64, _⟩ => ⟨S16x16384x16384, .i1⟩
  | .hbm, ⟨65, _⟩ => ⟨S16x16384x16384, .f32⟩
  | .hbm, ⟨66, _⟩ => ⟨S16x16384x16384, .f32⟩
  | .hbm, ⟨67, _⟩ => ⟨S_, .f32⟩
  | .hbm, ⟨68, _⟩ => ⟨S16x16384, .f32⟩
  | .hbm, ⟨69, _⟩ => ⟨S_, .f32⟩
  | .hbm, ⟨70, _⟩ => ⟨S16x16384, .f32⟩
  | .hbm, ⟨71, _⟩ => ⟨S16x16384, .f32⟩
  | .hbm, ⟨72, _⟩ => ⟨S16x16384x1, .f32⟩
  | .hbm, ⟨73, _⟩ => ⟨S16x16384x16384, .f32⟩
  | .hbm, ⟨74, _⟩ => ⟨S16x16384x16384, .f32⟩
  | .hbm, ⟨75, _⟩ => ⟨S16x16384x16384, .f32⟩
  | .hbm, ⟨76, _⟩ => ⟨S_, .f32⟩
  | .hbm, ⟨77, _⟩ => ⟨S16x16384, .f32⟩
  | .hbm, ⟨78, _⟩ => ⟨S16x16384x1, .f32⟩
  | .hbm, ⟨79, _⟩ => ⟨S16x16384x16384, .f32⟩
  | .hbm, ⟨80, _⟩ => ⟨S16x16384x16384, .f32⟩
  | .hbm, ⟨81, _⟩ => ⟨S16x16384x16384, .bf16⟩
  | .hbm, ⟨82, _⟩ => ⟨S16x16384x16384, .f32⟩
  | .hbm, ⟨83, _⟩ => ⟨S16384x16x64, .bf16⟩
  | .hbm, ⟨84, _⟩ => ⟨S16x16384x64, .bf16⟩
  | .hbm, ⟨85, _⟩ => ⟨S16x16384x64, .f32⟩
  | .hbm, ⟨86, _⟩ => ⟨S16x16384x64, .f32⟩
  | .hbm, ⟨87, _⟩ => ⟨S16x16384x64, .bf16⟩
  | .hbm, ⟨88, _⟩ => ⟨S16384x16x64, .bf16⟩
  | .hbm, ⟨89, _⟩ => ⟨S16384x1024, .bf16⟩
  | .hbm, ⟨90, _⟩ => ⟨S16384x1024, .f32⟩
  | .hbm, ⟨91, _⟩ => ⟨S8x2x16384, .f32⟩
  | .hbm, ⟨92, _⟩ => ⟨S8x16384x2, .f32⟩
  | .hbm, ⟨93, _⟩ => ⟨S8x2x32x512, .f32⟩
  | .hbm, ⟨94, _⟩ => ⟨S8x32x2x512, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v24 : Ref sig .tc := ⟨.hbm, 31, rfl⟩
abbrev main_v25 : Ref sig .tc := ⟨.hbm, 32, rfl⟩
abbrev main_cst_1 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_3 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_v53 : Ref sig .tc := ⟨.hbm, 66, rfl⟩
abbrev main_cst_4 : Ref sig .tc := ⟨.hbm, 67, rfl⟩
abbrev main_v54 : Ref sig .tc := ⟨.hbm, 68, rfl⟩
abbrev main_cst_5 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_6 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩

abbrev nD : Nat := 1
abbrev τ : Topo := Topo.v7x

variable {F : FTy → Type} [FloatOps F]
-- ==== Prepared3Ideal.lean ====
abbrev S16384x3072 : Shape := ⟨2, ![16384, 3072]⟩
abbrev S16384x16 : Shape := ⟨2, ![16384, 16]⟩
abbrev S16x16384 : Shape := ⟨2, ![16, 16384]⟩
abbrev S8x2x32x512 : Shape := ⟨4, ![8, 2, 32, 512]⟩
abbrev S8x32x2x512 : Shape := ⟨4, ![8, 32, 2, 512]⟩

abbrev nBuf : Space → Nat
  | .hbm => 5
  | .vmem => 0
  | .smem => 0
  | _ => 0

abbrev bufTy : (tb : Table) → Fin (tcTables nBuf tb) → BufTy
  | .hbm, ⟨0, _⟩ => ⟨S16384x3072, .bf16⟩
  | .hbm, ⟨1, _⟩ => ⟨S16384x16, .f32⟩
  | .hbm, ⟨2, _⟩ => ⟨S16x16384, .f32⟩
  | .hbm, ⟨3, _⟩ => ⟨S8x2x32x512, .f32⟩
  | .hbm, ⟨4, _⟩ => ⟨S8x32x2x512, .f32⟩
  | _, _ => ⟨S16384x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Tables.lean ====
/- The prefetched table of the backward kernel: every word of it is 31, the last query tile, so the loop over query
   tiles runs from the key tile's own successor to the end; and the side conditions that the body assumes of the words
   hold. At any float instance. -/
module

public import proofs.«01_k».proof.Proof.Gen.KernelIdeal.Frame.Runs
public import Idealize.ShloMosaic.Lib.Pipeline.ValueKit
public import Idealize.ShloMosaic.Lib.StableHlo.RunRead

@[expose] public section

set_option maxRecDepth 16384

noncomputable section

namespace Cert.KernelIdeal.Dkv

open Idealize.ShloMosaic Idealize.ShloMosaic.TcCoe Cert.KernelIdeal.Gen

variable {F : FTy → Type} [FloatOps F]
variable (m : (ℓ : Loc nD τ sig) → Buf (Elt F) ℓ)

/-- Every word of the table is 31. -/
theorem V_table (c : Dev nD) : V m c main_v49 = (fun _ => 31#32) := by
  unfold_abbrev_sides
  after_reads_simp
  rfl

/-- No window's index map reads the table. -/
theorem ok : Ok m := by
  unfold Ok ok0; trivial

/-- The word the body reads, at any point: 31. -/
theorem table_word (i : grid0.Coords) :
    tbM0_0.view.readAt (Elt F) (Rect.unit (s := S8x32) (k0_off3 i) S1x1.size (k0_off3_inb i)).toLoadRect (tbl m 0)
      (Shape.Idx.first (numel1_S1x1.symm ▸ Nat.one_pos)) = 31#32 := by
  have h : tbl m 0 = (fun _ => 31#32) := V_table m 0
  rw [h]; rfl

theorem hyps : Hyps m (ok m) := Hyps.of fun c t => by
  unfold Hyps.p0
  rw [table_word]
  exact (by decide +kernel : ∀ t : Fin grid0.N, k0_chk1 (grid0.coords t) 31#32) t

end Cert.KernelIdeal.Dkv
-- ==== Proof.Trip.lean ====
module

public import proofs.«01_k».proof.Proof.Tables
public import proofs.«01_k».proof.Proof.Gen.KernelIdeal.Frame
public import Idealize.ShloMosaic.Lib.Pipeline.ValueKit
public import Idealize.ShloMosaic.Lib.Pipeline.ReadBack

/-!
# One trip of the loop over the query tiles

What the loop's trip stores into the three accumulators, as the vectors the kernel computes of the trip's loads.
-/

@[expose] public section

set_option maxRecDepth 16384

noncomputable section

namespace Cert.KernelIdeal.Dkv

open Idealize.ShloMosaic Idealize.ShloMosaic.TcCoe Cert.KernelIdeal.Gen Idealize.ShloMosaic.Tactic

variable {F : FTy → Type} [FloatOps F]

/-- The tile of 512 rows that trip `k` loads of a column of rows. -/
abbrev qT (i : grid0.Coords) (v : Memref sig .tc .vmem S16384x128 .bf16) (v314 : Elt F .i32)
    (X : BufTy.Contents (Elt F) v.view.ty) (k : Fin (k0_t1_loop i v314).trips)
    (hq : ∀ a, k0_off4 i v314 k a + S512x128.size a ≤ S16384x128.size a) : Vec F S512x128 .bf16 :=
  v.view.readAt (Elt F) (Rect.unit (s := S16384x128) (k0_off4 i v314 k) S512x128.size hq).toLoadRect X

/-- The tile of row statistics that trip `k` loads. -/
abbrev lT (i : grid0.Coords) (v : Memref sig .tc .vmem S1x32x2x512 .f32) (v314 : Elt F .i32)
    (X : BufTy.Contents (Elt F) v.view.ty) (k : Fin (k0_t1_loop i v314).trips)
    (hl : ∀ a, k0_off5 i v314 k a + S1x1x2x512.size a ≤ S1x32x2x512.size a) : Vec F S1x1x2x512 .f32 :=
  v.view.readAt (Elt F) (Rect.unit (s := S1x32x2x512) (k0_off5 i v314 k) S1x1x2x512.size hl).toLoadRect X

variable (𝒱 : Variants) (c : Dev nD) (bd : Option 𝒱.V) (i : grid0.Coords) (arg2 : Memref sig .tc .smem S8x32 .i32)
  (harg2 : arg2.IsWhole) (arg3 : Memref sig .tc .vmem S512x128 .bf16) (harg3 : arg3.IsWhole)
  (arg4 : Memref sig .tc .vmem S512x128 .bf16) (harg4 : arg4.IsWhole) (arg5 : Memref sig .tc .vmem S512x128 .f32)
  (harg5 : arg5.IsWhole) (arg6 : Memref sig .tc .vmem S16384x128 .bf16) (harg6 : arg6.IsWhole)
  (arg7 : Memref sig .tc .vmem S16384x128 .bf16) (harg7 : arg7.IsWhole)
  (arg8 : Memref sig .tc .vmem S1x32x2x512 .f32) (harg8 : arg8.IsWhole)
  (arg9 : Memref sig .tc .vmem S1x32x2x512 .f32) (harg9 : arg9.IsWhole)
  (arg10 : Memref sig .tc .vmem S512x128 .bf16) (harg10 : arg10.IsWhole)
  (arg11 : Memref sig .tc .vmem S512x128 .bf16) (harg11 : arg11.IsWhole)
  (arg12 : Memref sig .tc .vmem S1x1x2x512 .f32) (harg12 : arg12.IsWhole)
  (arg13 : Memref sig .tc .vmem S512x128 .f32) (harg13 : arg13.IsWhole) (arg14 : Memref sig .tc .vmem S512x128 .f32)
  (harg14 : arg14.IsWhole) (arg15 : Memref sig .tc .vmem S2x512x128 .f32) (harg15 : arg15.IsWhole)
  (arg0 : BitVec 32) (arg1 : BitVec 32) (v6 : IVec S512x128 1) (v8 : FVec F S512x128 .bf16)
  (v9 : FVec F S512x128 .bf16) (v10 : Vec F S512x128 .bf16) (v11 : FVec F S512x128 .bf16)
  (v24 : FVec F S512x128 .f32) (v34 : FVec F S512x128 .f32) (v204 : IVec S256x128 1) (v251 : FVec F S256x128 .f32)
  (v298 : FVec F S256x128 .f32) (v305 : Vec F S256x128 .f32) (v311 : BitVec 32) (v314 : Elt F .i32)
  (k0_hw1 : k0_chk1 i v314) (X_arg6 : BufTy.Contents (Elt F) arg6.view.ty)
  (X_arg7 : BufTy.Contents (Elt F) arg7.view.ty) (X_arg8 : BufTy.Contents (Elt F) arg8.view.ty)
  (X_arg9 : BufTy.Contents (Elt F) arg9.view.ty)

set_option maxHeartbeats 4000000 in
/-- The stores of one trip: into the keys' accumulator, the values' accumulator and the two slabs of the gate's. -/
theorem trip (k : Fin (k0_t1_loop i v314).trips) (f_arg13 : BufTy.Contents (Elt F) arg13.view.ty) (f_arg14 : BufTy.Contents (Elt F) arg14.view.ty) (f_arg15 : BufTy.Contents (Elt F) arg15.view.ty)
    (hq : ∀ a, k0_off4 i v314 k a + S512x128.size a ≤ S16384x128.size a)
    (hl : ∀ a, k0_off5 i v314 k a + S1x1x2x512.size a ≤ S1x32x2x512.size a) :
    tripL_k0_t1 𝒱 c bd i arg2 harg2 arg3 harg3 arg4 harg4 arg5 harg5 arg6 harg6 arg7 harg7 arg8 harg8 arg9 harg9
      arg10 harg10 arg11 harg11 arg12 harg12 arg13 harg13 arg14 harg14 arg15 harg15 arg0 arg1 v6 v8 v9 v10 v11 v24
      v34 v204 v251 v298 v305 v311 v314 k0_hw1 X_arg6 X_arg7 X_arg8 X_arg9 k f_arg13 f_arg14 f_arg15
    = ([⟨(Rect.unit (s := S512x128) ![0, 0] S512x128.size inb_S512x128_S512x128_0_0),
        k0_pay140 v6 (qT i arg6 v314 X_arg6 k hq) (k0_pay20 (qT i arg6 v314 X_arg6 k hq) (k0_pay10 v8 v24 (qT i
          arg6 v314 X_arg6 k hq) (lT i arg8 v314 X_arg8 k hl)) (k0_pay11 v8 v24 (qT i arg6 v314 X_arg6 k hq) (lT i
          arg8 v314 X_arg8 k hl)) (k0_pay12 v10 (qT i arg7 v314 X_arg7 k hq) (lT i arg9 v314 X_arg9 k hl))
          (k0_pay13 v10 (qT i arg7 v314 X_arg7 k hq) (lT i arg9 v314 X_arg9 k hl)) (k0_pay14 v8 v10 v24 (qT i arg6
          v314 X_arg6 k hq) (qT i arg7 v314 X_arg7 k hq) (lT i arg8 v314 X_arg8 k hl) (lT i arg9 v314 X_arg9 k hl))
          (k0_pay15 v8 v10 v24 (qT i arg6 v314 X_arg6 k hq) (qT i arg7 v314 X_arg7 k hq) (lT i arg8 v314 X_arg8 k
          hl) (lT i arg9 v314 X_arg9 k hl))) (k0_pay22 v11 (qT i arg7 v314 X_arg7 k hq) (k0_pay4 (lT i arg9 v314
          X_arg9 k hl))) (k0_pay24 v9 v34 (qT i arg6 v314 X_arg6 k hq) (k0_pay3 (lT i arg8 v314 X_arg8 k hl)))
          (k0_pay25 v9 v34 (qT i arg6 v314 X_arg6 k hq) (k0_pay3 (lT i arg8 v314 X_arg8 k hl))) (k0_pay26 v9 v34
          (qT i arg6 v314 X_arg6 k hq) (k0_pay3 (lT i arg8 v314 X_arg8 k hl))) (k0_pay27 v9 v34 (qT i arg6 v314
          X_arg6 k hq) (k0_pay3 (lT i arg8 v314 X_arg8 k hl))) (k0_pay28 v11 (qT i arg7 v314 X_arg7 k hq) (k0_pay4
          (lT i arg9 v314 X_arg9 k hl))) (k0_pay29 v11 (qT i arg7 v314 X_arg7 k hq) (k0_pay4 (lT i arg9 v314 X_arg9
          k hl))) (arg13.view.readAt (Elt F) (Rect.unit (s := S512x128) ![0, 0] S512x128.size
          inb_S512x128_S512x128_0_0).toLoadRect f_arg13)⟩],
      [⟨(Rect.unit (s := S512x128) ![0, 0] S512x128.size inb_S512x128_S512x128_0_0),
        k0_pay139 v6 (qT i arg7 v314 X_arg7 k hq) (k0_pay19 (qT i arg7 v314 X_arg7 k hq) (k0_pay8 v8 v24 (qT i arg6
          v314 X_arg6 k hq) (lT i arg8 v314 X_arg8 k hl)) (k0_pay9 v8 v24 (qT i arg6 v314 X_arg6 k hq) (lT i arg8
          v314 X_arg8 k hl)) (k0_pay10 v8 v24 (qT i arg6 v314 X_arg6 k hq) (lT i arg8 v314 X_arg8 k hl)) (k0_pay11
          v8 v24 (qT i arg6 v314 X_arg6 k hq) (lT i arg8 v314 X_arg8 k hl))) (k0_pay24 v9 v34 (qT i arg6 v314
          X_arg6 k hq) (k0_pay3 (lT i arg8 v314 X_arg8 k hl))) (k0_pay25 v9 v34 (qT i arg6 v314 X_arg6 k hq)
          (k0_pay3 (lT i arg8 v314 X_arg8 k hl))) (k0_pay26 v9 v34 (qT i arg6 v314 X_arg6 k hq) (k0_pay3 (lT i arg8
          v314 X_arg8 k hl))) (k0_pay27 v9 v34 (qT i arg6 v314 X_arg6 k hq) (k0_pay3 (lT i arg8 v314 X_arg8 k hl)))
          (arg14.view.readAt (Elt F) (Rect.unit (s := S512x128) ![0, 0] S512x128.size
          inb_S512x128_S512x128_0_0).toLoadRect f_arg14)⟩],
      [⟨(Rect.unit (s := S2x512x128) ![1, 0, 0] S1x512x128.size inb_S2x512x128_S1x512x128_1_0_0),
        k0_pay138 (k0_pay22 v11 (qT i arg7 v314 X_arg7 k hq) (k0_pay4 (lT i arg9 v314 X_arg9 k hl))) (k0_pay24 v9
          v34 (qT i arg6 v314 X_arg6 k hq) (k0_pay3 (lT i arg8 v314 X_arg8 k hl))) (k0_pay25 v9 v34 (qT i arg6 v314
          X_arg6 k hq) (k0_pay3 (lT i arg8 v314 X_arg8 k hl))) (k0_pay26 v9 v34 (qT i arg6 v314 X_arg6 k hq)
          (k0_pay3 (lT i arg8 v314 X_arg8 k hl))) (k0_pay27 v9 v34 (qT i arg6 v314 X_arg6 k hq) (k0_pay3 (lT i arg8
          v314 X_arg8 k hl))) (k0_pay28 v11 (qT i arg7 v314 X_arg7 k hq) (k0_pay4 (lT i arg9 v314 X_arg9 k hl)))
          (k0_pay29 v11 (qT i arg7 v314 X_arg7 k hq) (k0_pay4 (lT i arg9 v314 X_arg9 k hl))) (arg15.view.readAt
          (Elt F) (Rect.unit (s := S2x512x128) ![1, 0, 0] S1x512x128.size
          inb_S2x512x128_S1x512x128_1_0_0).toLoadRect f_arg15)⟩,
       ⟨(Rect.unit (s := S2x512x128) ![0, 0, 0] S1x512x128.size inb_S2x512x128_S1x512x128_0_0_0),
        k0_pay18 (k0_pay10 v8 v24 (qT i arg6 v314 X_arg6 k hq) (lT i arg8 v314 X_arg8 k hl)) (k0_pay11 v8 v24 (qT i
          arg6 v314 X_arg6 k hq) (lT i arg8 v314 X_arg8 k hl)) (k0_pay12 v10 (qT i arg7 v314 X_arg7 k hq) (lT i
          arg9 v314 X_arg9 k hl)) (k0_pay13 v10 (qT i arg7 v314 X_arg7 k hq) (lT i arg9 v314 X_arg9 k hl))
          (k0_pay14 v8 v10 v24 (qT i arg6 v314 X_arg6 k hq) (qT i arg7 v314 X_arg7 k hq) (lT i arg8 v314 X_arg8 k
          hl) (lT i arg9 v314 X_arg9 k hl)) (k0_pay15 v8 v10 v24 (qT i arg6 v314 X_arg6 k hq) (qT i arg7 v314
          X_arg7 k hq) (lT i arg8 v314 X_arg8 k hl) (lT i arg9 v314 X_arg9 k hl)) (arg15.view.readAt (Elt F)
          (Rect.unit (s := S2x512x128) ![0, 0, 0] S1x512x128.size inb_S2x512x128_S1x512x128_0_0_0).toLoadRect
          f_arg15)⟩]) := by
  unfold tripL_k0_t1 trip_k0_t1
  dsimp only
  sl_unfold_run_names
  rfl

end Cert.KernelIdeal.Dkv
-- ==== Proof.Tile.lean ====
module

public import proofs.«01_k».proof.Proof.Gen.KernelIdeal.Skeleton
public import Idealize.ShloMosaic.Lib.Pointwise

/-!
# What one tile of the gradient computes

A tile is 512 keys (the rows) by 512 queries (the columns) of one head. This module reads the vectors
that the loop's body computes of a tile at one index.
-/

@[expose] public section

noncomputable section

namespace Cert.KernelIdeal.Dkv

open Idealize.ShloMosaic Cert.KernelIdeal.Gen

/-- The inner product of row `r` of `K` and row `q` of `Q`. -/
def dot (K Q : FVec Ideal S512x128 .bf16) (r q : Fin 512) : EReal :=
  ∑ l : Fin 128, K (ix2 r l) * Q (ix2 q l)

/-- The lane, of 128, of column `q`. -/
def lane (q : Fin 512) : Fin 128 := ⟨q.val % 128, Nat.mod_lt _ (by norm_num)⟩

/-- The weight of key `r` in the softmax of query `q`, of head `j` of the pair: the exponential of the scaled
score, less the key's cumulative gate, less the query's log-sum. -/
def weight (K : FVec Ideal S512x128 .bf16) (C : FVec Ideal S512x128 .f32) (Q : FVec Ideal S512x128 .bf16)
    (L : FVec Ideal S1x1x2x512 .f32) (j : Fin 2) (r q : Fin 512) : EReal :=
  Ideal.exp (dot K Q r q - C (ix2 r (lane q)) - L (ix4 0 0 j q))

/-- The gradient of the weight, less the row's mean: what multiplies the weight to make the score's gradient. -/
def slope (V D : FVec Ideal S512x128 .bf16) (E : FVec Ideal S1x1x2x512 .f32) (j : Fin 2) (r q : Fin 512) : EReal :=
  dot V D r q - E (ix4 0 0 j q)

/-- Four blocks of 128 columns side by side are one row of 512. -/
theorem beside (G : Fin 512 → EReal) (X0 X1 X2 X3 : Fin 128 → EReal)
    (h0 : ∀ l, X0 l = G ⟨l.val, by omega⟩) (h1 : ∀ l, X1 l = G ⟨128 + l.val, by omega⟩)
    (h2 : ∀ l, X2 l = G ⟨256 + l.val, by omega⟩) (h3 : ∀ l, X3 l = G ⟨384 + l.val, by omega⟩) (q : Fin 512) :
    (if h : q.val < 128 then X0 ⟨q.val, h⟩
      else if h : q.val - 128 < 128 then X1 ⟨q.val - 128, h⟩
      else if h : q.val - 128 - 128 < 128 then X2 ⟨q.val - 128 - 128, h⟩
      else X3 ⟨q.val - 128 - 128 - 128, by omega⟩) = G q := by
  split
  · rw [h0]
  · split
    · rw [h1]; congr 1; ext; simp only; omega
    · split
      · rw [h2]; congr 1; ext; simp only; omega
      · rw [h3]; congr 1; ext; simp only; omega

section
variable (K V : FVec Ideal S512x128 .bf16) (C : FVec Ideal S512x128 .f32) (Q D : FVec Ideal S512x128 .bf16)
  (L E : FVec Ideal S1x1x2x512 .f32) (r : Fin 512) (l : Fin 128)

theorem lane_eq (l : Fin 128) (n : ℕ) (hn : n % 128 = 0) (h : n + l.val < 512) : lane ⟨n + l.val, h⟩ = l := by
  ext; simp only [lane]; omega

theorem lane_eq0 (l : Fin 128) (h : l.val < 512) : lane ⟨l.val, h⟩ = l := by
  ext; simp only [lane]; omega

theorem pay8 : k0_pay8 K C Q L (ix2 r l) = weight K C Q L 0 r ⟨l.val, by omega⟩ := by
  unfold_payloads
  pointwise [weight]
  rw [lane_eq0]; rfl
theorem pay9 : k0_pay9 K C Q L (ix2 r l) = weight K C Q L 0 r ⟨128 + l.val, by omega⟩ := by
  unfold_payloads
  pointwise [weight]
  rw [lane_eq _ _ rfl]; rfl
theorem pay10 : k0_pay10 K C Q L (ix2 r l) = weight K C Q L 0 r ⟨256 + l.val, by omega⟩ := by
  unfold_payloads
  pointwise [weight]
  rw [lane_eq _ _ rfl]; rfl
theorem pay11 : k0_pay11 K C Q L (ix2 r l) = weight K C Q L 0 r ⟨384 + l.val, by omega⟩ := by
  unfold_payloads
  pointwise [weight]
  rw [lane_eq _ _ rfl]; rfl
theorem pay24 : k0_pay24 K C Q (k0_pay3 L) (ix2 r l) = weight K C Q L 1 r ⟨l.val, by omega⟩ := by
  unfold_payloads
  pointwise [weight]
  rw [lane_eq0]; rfl
theorem pay25 : k0_pay25 K C Q (k0_pay3 L) (ix2 r l) = weight K C Q L 1 r ⟨128 + l.val, by omega⟩ := by
  unfold_payloads
  pointwise [weight]
  rw [lane_eq _ _ rfl]; rfl
theorem pay26 : k0_pay26 K C Q (k0_pay3 L) (ix2 r l) = weight K C Q L 1 r ⟨256 + l.val, by omega⟩ := by
  unfold_payloads
  pointwise [weight]
  rw [lane_eq _ _ rfl]; rfl
theorem pay27 : k0_pay27 K C Q (k0_pay3 L) (ix2 r l) = weight K C Q L 1 r ⟨384 + l.val, by omega⟩ := by
  unfold_payloads
  pointwise [weight]
  rw [lane_eq _ _ rfl]; rfl
theorem pay22 (q : Fin 512) : k0_pay22 V D (k0_pay4 E) (ix2 r q) = slope V D E 1 r q := by
  unfold_payloads
  pointwise [slope]
  rfl
theorem pay14 : k0_pay14 K V C Q D L E (ix2 r l)
    = weight K C Q L 0 r ⟨l.val, by omega⟩ * slope V D E 0 r ⟨l.val, by omega⟩ := by
  rw [← pay8]
  unfold k0_pay14
  pointwise [slope, k0_pay6, k0_pay4]
  rfl
theorem pay15 : k0_pay15 K V C Q D L E (ix2 r l)
    = weight K C Q L 0 r ⟨128 + l.val, by omega⟩ * slope V D E 0 r ⟨128 + l.val, by omega⟩ := by
  rw [← pay9]
  unfold k0_pay15
  pointwise [slope, k0_pay6, k0_pay4]
  rfl
theorem pay1612 : k0_pay16 (k0_pay10 K C Q L) (k0_pay12 V D E) (ix2 r l)
    = weight K C Q L 0 r ⟨256 + l.val, by omega⟩ * slope V D E 0 r ⟨256 + l.val, by omega⟩ := by
  rw [← pay10]
  unfold k0_pay16
  pointwise [slope, k0_pay12, k0_pay6, k0_pay4]
  rfl
theorem pay1713 : k0_pay17 (k0_pay11 K C Q L) (k0_pay13 V D E) (ix2 r l)
    = weight K C Q L 0 r ⟨384 + l.val, by omega⟩ * slope V D E 0 r ⟨384 + l.val, by omega⟩ := by
  rw [← pay11]
  unfold k0_pay17
  pointwise [slope, k0_pay13, k0_pay6, k0_pay4]
  rfl

end

/-- The score's gradient on a tile: the weight times its slope. -/
def grad (K V : FVec Ideal S512x128 .bf16) (C : FVec Ideal S512x128 .f32) (Q D : FVec Ideal S512x128 .bf16)
    (L E : FVec Ideal S1x1x2x512 .f32) (j : Fin 2) (r q : Fin 512) : EReal :=
  weight K C Q L j r q * slope V D E j r q

section
variable (A : IVec S512x128 1) (K0 K1 V0 V1 : FVec Ideal S512x128 .bf16) (C0 C1 : FVec Ideal S512x128 .f32)
  (Q D : FVec Ideal S512x128 .bf16) (L E : FVec Ideal S1x1x2x512 .f32) (r : Fin 512) (l : Fin 128)

/-- What a tile adds to the values' gradient. -/
theorem tile_dv (O : FVec Ideal S512x128 .f32) :
    k0_pay139 A D (k0_pay19 D (k0_pay8 K0 C0 Q L) (k0_pay9 K0 C0 Q L) (k0_pay10 K0 C0 Q L) (k0_pay11 K0 C0 Q L))
      (k0_pay24 K1 C1 Q (k0_pay3 L)) (k0_pay25 K1 C1 Q (k0_pay3 L)) (k0_pay26 K1 C1 Q (k0_pay3 L))
      (k0_pay27 K1 C1 Q (k0_pay3 L)) O (ix2 r l)
    = O (ix2 r l) + Scalar.select (A (ix2 r l)) (∑ q, weight K0 C0 Q L 0 r q * D (ix2 q l))
        (∑ q, weight K1 C1 Q L 1 r q * D (ix2 q l)) := by
  unfold k0_pay139 k0_pay19
  pointwise
  congr 2
  · exact Finset.sum_congr rfl fun q _ => congrArg (· * _)
      (beside (weight K0 C0 Q L 0 r) _ _ _ _ (pay8 K0 C0 Q L r) (pay9 K0 C0 Q L r) (pay10 K0 C0 Q L r)
        (pay11 K0 C0 Q L r) q)
  · exact Finset.sum_congr rfl fun q _ => congrArg (· * _)
      (beside (weight K1 C1 Q L 1 r) _ _ _ _ (pay24 K1 C1 Q L r) (pay25 K1 C1 Q L r) (pay26 K1 C1 Q L r)
        (pay27 K1 C1 Q L r) q)

/-- What a tile adds to the keys' gradient. -/
theorem tile_dk (O : FVec Ideal S512x128 .f32) :
    k0_pay140 A Q (k0_pay20 Q (k0_pay10 K0 C0 Q L) (k0_pay11 K0 C0 Q L) (k0_pay12 V0 D E) (k0_pay13 V0 D E)
        (k0_pay14 K0 V0 C0 Q D L E) (k0_pay15 K0 V0 C0 Q D L E))
      (k0_pay22 V1 D (k0_pay4 E)) (k0_pay24 K1 C1 Q (k0_pay3 L)) (k0_pay25 K1 C1 Q (k0_pay3 L))
      (k0_pay26 K1 C1 Q (k0_pay3 L)) (k0_pay27 K1 C1 Q (k0_pay3 L)) (k0_pay28 V1 D (k0_pay4 E))
      (k0_pay29 V1 D (k0_pay4 E)) O (ix2 r l)
    = O (ix2 r l) + Scalar.select (A (ix2 r l)) (∑ q, grad K0 V0 C0 Q D L E 0 r q * Q (ix2 q l))
        (∑ q, grad K1 V1 C1 Q D L E 1 r q * Q (ix2 q l)) := by
  unfold k0_pay140 k0_pay20 k0_pay134 k0_pay135 k0_pay136 k0_pay137 k0_pay28 k0_pay29
  pointwise
  congr 2
  · exact Finset.sum_congr rfl fun q _ => congrArg (· * _)
      (beside (grad K0 V0 C0 Q D L E 0 r) _ _ _ _ (pay14 K0 V0 C0 Q D L E r) (pay15 K0 V0 C0 Q D L E r)
        (pay1612 K0 V0 C0 Q D L E r) (pay1713 K0 V0 C0 Q D L E r) q)
  · refine Finset.sum_congr rfl fun q _ => congrArg (· * _)
      (beside (grad K1 V1 C1 Q D L E 1 r)
        (fun l => k0_pay24 K1 C1 Q (k0_pay3 L) (ix2 r l) * k0_pay22 V1 D (k0_pay4 E) (ix2 r ⟨l.val, by omega⟩))
        (fun l => k0_pay25 K1 C1 Q (k0_pay3 L) (ix2 r l) * k0_pay22 V1 D (k0_pay4 E) (ix2 r ⟨128 + l.val, by omega⟩))
        (fun l => k0_pay26 K1 C1 Q (k0_pay3 L) (ix2 r l) * k0_pay22 V1 D (k0_pay4 E) (ix2 r ⟨256 + l.val, by omega⟩))
        (fun l => k0_pay27 K1 C1 Q (k0_pay3 L) (ix2 r l) * k0_pay22 V1 D (k0_pay4 E) (ix2 r ⟨384 + l.val, by omega⟩))
        (fun l => ?_) (fun l => ?_) (fun l => ?_) (fun l => ?_) q)
    · rw [pay24, pay22]; rfl
    · rw [pay25, pay22]; rfl
    · rw [pay26, pay22]; rfl
    · rw [pay27, pay22]; rfl

theorem tile_dc0 (O : FVec Ideal S1x512x128 .f32) :
    k0_pay18 (k0_pay10 K0 C0 Q L) (k0_pay11 K0 C0 Q L) (k0_pay12 V0 D E) (k0_pay13 V0 D E)
        (k0_pay14 K0 V0 C0 Q D L E) (k0_pay15 K0 V0 C0 Q D L E) O (ix3 0 r l)
    = O (ix3 0 r l) + (grad K0 V0 C0 Q D L E 0 r ⟨l.val, by omega⟩ + grad K0 V0 C0 Q D L E 0 r ⟨128 + l.val, by omega⟩
        + grad K0 V0 C0 Q D L E 0 r ⟨256 + l.val, by omega⟩ + grad K0 V0 C0 Q D L E 0 r ⟨384 + l.val, by omega⟩) := by
  unfold grad
  rw [← pay14, ← pay15, ← pay1612, ← pay1713]
  unfold k0_pay18
  pointwise

theorem tile_dc1 (O : FVec Ideal S1x512x128 .f32) :
    k0_pay138 (k0_pay22 V1 D (k0_pay4 E)) (k0_pay24 K1 C1 Q (k0_pay3 L)) (k0_pay25 K1 C1 Q (k0_pay3 L))
      (k0_pay26 K1 C1 Q (k0_pay3 L)) (k0_pay27 K1 C1 Q (k0_pay3 L)) (k0_pay28 V1 D (k0_pay4 E))
      (k0_pay29 V1 D (k0_pay4 E)) O (ix3 0 r l)
    = O (ix3 0 r l) + (grad K1 V1 C1 Q D L E 1 r ⟨l.val, by omega⟩ + grad K1 V1 C1 Q D L E 1 r ⟨128 + l.val, by omega⟩
        + grad K1 V1 C1 Q D L E 1 r ⟨256 + l.val, by omega⟩ + grad K1 V1 C1 Q D L E 1 r ⟨384 + l.val, by omega⟩) := by
  unfold grad
  rw [← pay24, ← pay25, ← pay26, ← pay27, ← pay22, ← pay22, ← pay22, ← pay22]
  unfold k0_pay138 k0_pay134 k0_pay135 k0_pay136 k0_pay137 k0_pay28 k0_pay29
  pointwise

end

end Cert.KernelIdeal.Dkv
-- ==== Proof.Diagonal.lean ====
module

public import proofs.«01_k».proof.Proof.Tile

/-!
# What the diagonal tile computes

On the diagonal the queries before the key are masked. The kernel computes that tile in two spans of 256 keys: the
first against all 512 queries, the second against the last 256. This module reads the two spans' vectors at one
index, both as the same sums over the tile's 512 queries.
-/

@[expose] public section

noncomputable section

namespace Cert.KernelIdeal.Dkv

open Idealize.ShloMosaic Cert.KernelIdeal.Gen

/-- What the pattern of minus infinity denotes. -/
theorem ofBits_ninf : Ideal.ofBits .f32 0xFF800000#32 = (⊥ : EReal) := by
  simp [Ideal.ofBits, Ideal.ieee]

/-- The exponential of a masked score is zero where the mask is off, whatever is subtracted from the score. -/
theorem exp_masked (m : BitVec 1) (p : Prop) [Decidable p] (hm : m = 1#1 ↔ p) (s c l : EReal) :
    Ideal.exp (Scalar.select m s (Ideal.ofBits .f32 4286578688#32) - c - l)
      = if p then Ideal.exp (s - c - l) else 0 := by
  unfold Scalar.select
  by_cases h : p
  · rw [if_pos h, if_pos (show m = 1 from hm.2 h)]
  · rw [if_neg h, if_neg fun e : m = 1 => h (hm.1 e)]
    have e : (Ideal.ofBits .f32 4286578688#32 : EReal) = ⊥ := ofBits_ninf
    rw [e, sub_eq_add_neg, sub_eq_add_neg, EReal.bot_add, EReal.bot_add]
    rfl

/-- The comparison of two positions shifted by the same offset. -/
theorem sge_iff (a b : ℕ) (ha : a < 512) (hb : b < 512) (o : BitVec 32) (ho : o.toNat ≤ 256) :
    IntOp.cmpi .sge (IntOp.addi (BitVec.ofNat 32 a) o) (IntOp.addi (BitVec.ofNat 32 b) o) = 1#1 ↔ b ≤ a := by
  have e : ∀ n : ℕ, n < 512 → (BitVec.ofNat 32 n + o).toInt = n + o.toNat := fun n hn => by
    have h : (BitVec.ofNat 32 n + o).toNat = n + o.toNat := by
      rw [BitVec.toNat_add, BitVec.toNat_ofNat]; omega
    rw [BitVec.toInt_eq_toNat_of_lt (by omega), h]; push_cast; rfl
  simp only [IntOp.cmpi, IntOp.addi]
  rw [BitVec.sle_eq_decide, e a ha, e b hb]
  simp only [Nat.cast_add, add_le_add_iff_right, Nat.cast_le]
  by_cases h : b ≤ a <;> simp [h]

/-- The weight of a key and a query of the diagonal tile: none where the query comes before the key. -/
def weightD (K : FVec Ideal S512x128 .bf16) (C : FVec Ideal S512x128 .f32) (Q : FVec Ideal S512x128 .bf16)
    (L : FVec Ideal S1x1x2x512 .f32) (j : Fin 2) (r q : Fin 512) : EReal :=
  if r.val ≤ q.val then weight K C Q L j r q else 0

/-- The score's gradient on the diagonal tile. -/
def gradD (K V : FVec Ideal S512x128 .bf16) (C : FVec Ideal S512x128 .f32) (Q D : FVec Ideal S512x128 .bf16)
    (L E : FVec Ideal S1x1x2x512 .f32) (j : Fin 2) (r q : Fin 512) : EReal :=
  weightD K C Q L j r q * slope V D E j r q

/-- The sum of a row's four blocks of 128 columns at lane `l`. -/
def lanes (f : Fin 512 → EReal) (l : Fin 128) : EReal :=
  f ⟨l.val, by omega⟩ + f ⟨128 + l.val, by omega⟩ + f ⟨256 + l.val, by omega⟩ + f ⟨384 + l.val, by omega⟩

section
variable (A : IVec S512x128 1) (K V K0 K1 V0 V1 : FVec Ideal S512x128 .bf16) (C C0 C1 : FVec Ideal S512x128 .f32)
  (Q D : FVec Ideal S512x128 .bf16) (L E : FVec Ideal S1x1x2x512 .f32) (r : Fin 256) (l : Fin 128)

/-- A masked exponential of the first span is the diagonal tile's weight. -/
theorem weightD_up (j : Fin 2) (n : ℕ) (hn : n < 512) (hl : lane ⟨n, hn⟩ = l) :
    Ideal.exp (Scalar.select (IntOp.cmpi .sge (IntOp.addi (BitVec.ofNat 32 n) 0#32)
        (IntOp.addi (BitVec.ofNat 32 r.val) 0#32)) (dot K Q ⟨r.val, by omega⟩ ⟨n, hn⟩)
        (Ideal.ofBits .f32 4286578688#32) - C (ix2 ⟨r.val, by omega⟩ l) - L (ix4 0 0 j ⟨n, hn⟩))
      = weightD K C Q L j ⟨r.val, by omega⟩ ⟨n, hn⟩ := by
  rw [exp_masked _ (r.val ≤ n) (sge_iff n r.val hn (by omega) _ (by decide)), ← hl]; rfl

/-- A masked exponential of the second span is the diagonal tile's weight. -/
theorem weightD_low (j : Fin 2) (n : ℕ) (hn : n < 256) (hl : lane ⟨256 + n, by omega⟩ = l) :
    Ideal.exp (Scalar.select (IntOp.cmpi .sge (IntOp.addi (BitVec.ofNat 32 n) 256#32)
        (IntOp.addi (BitVec.ofNat 32 r.val) 256#32)) (dot K Q ⟨256 + r.val, by omega⟩ ⟨256 + n, by omega⟩)
        (Ideal.ofBits .f32 4286578688#32) - C (ix2 ⟨256 + r.val, by omega⟩ l) - L (ix4 0 0 j ⟨256 + n, by omega⟩))
      = weightD K C Q L j ⟨256 + r.val, by omega⟩ ⟨256 + n, by omega⟩ := by
  rw [exp_masked _ (r.val ≤ n) (sge_iff n r.val (by omega) (by omega) _ (by decide)), ← hl]
  unfold weightD
  exact if_congr (by simp only; omega) rfl rfl

theorem pay80 : k0_pay80 C (k0_pay71 L) (k0_pay74 K Q) (ix2 r l)
    = weightD K C Q L 0 ⟨r.val, by omega⟩ ⟨l.val, by omega⟩ := by
  unfold_payloads
  pointwise
  exact weightD_up K C Q L r l 0 _ _ (lane_eq0 l _)
theorem pay84 : k0_pay84 C (k0_pay71 L) (k0_pay74 K Q) (k0_pay75 V D) (k0_pay76 E) (ix2 r l)
    = gradD K V C Q D L E 0 ⟨r.val, by omega⟩ ⟨l.val, by omega⟩ := by
  unfold_payloads
  pointwise
  exact congrArg₂ (· * ·) (weightD_up K C Q L r l 0 _ _ (lane_eq0 l _)) rfl
theorem pay95 : k0_pay95 K C Q (k0_pay71 L) (ix2 r l)
    = weightD K C Q L 1 ⟨r.val, by omega⟩ ⟨l.val, by omega⟩ := by
  unfold_payloads
  pointwise
  exact weightD_up K C Q L r l 1 _ _ (lane_eq0 l _)
theorem pay99 : k0_pay99 K V C Q D (k0_pay71 L) (k0_pay72 E) (ix2 r l)
    = gradD K V C Q D L E 1 ⟨r.val, by omega⟩ ⟨l.val, by omega⟩ := by
  unfold_payloads
  pointwise
  exact congrArg₂ (· * ·) (weightD_up K C Q L r l 1 _ _ (lane_eq0 l _)) rfl
theorem pay81 : k0_pay81 C (k0_pay71 L) (k0_pay74 K Q) (ix2 r l)
    = weightD K C Q L 0 ⟨r.val, by omega⟩ ⟨128 + l.val, by omega⟩ := by
  unfold_payloads
  pointwise
  exact weightD_up K C Q L r l 0 _ _ (lane_eq l _ rfl _)
theorem pay85 : k0_pay85 C (k0_pay71 L) (k0_pay74 K Q) (k0_pay75 V D) (k0_pay76 E) (ix2 r l)
    = gradD K V C Q D L E 0 ⟨r.val, by omega⟩ ⟨128 + l.val, by omega⟩ := by
  unfold_payloads
  pointwise
  exact congrArg₂ (· * ·) (weightD_up K C Q L r l 0 _ _ (lane_eq l _ rfl _)) rfl
theorem pay96 : k0_pay96 K C Q (k0_pay71 L) (ix2 r l)
    = weightD K C Q L 1 ⟨r.val, by omega⟩ ⟨128 + l.val, by omega⟩ := by
  unfold_payloads
  pointwise
  exact weightD_up K C Q L r l 1 _ _ (lane_eq l _ rfl _)
theorem pay100 : k0_pay100 K V C Q D (k0_pay71 L) (k0_pay72 E) (ix2 r l)
    = gradD K V C Q D L E 1 ⟨r.val, by omega⟩ ⟨128 + l.val, by omega⟩ := by
  unfold_payloads
  pointwise
  exact congrArg₂ (· * ·) (weightD_up K C Q L r l 1 _ _ (lane_eq l _ rfl _)) rfl
theorem pay82 : k0_pay82 C (k0_pay71 L) (k0_pay74 K Q) (ix2 r l)
    = weightD K C Q L 0 ⟨r.val, by omega⟩ ⟨256 + l.val, by omega⟩ := by
  unfold_payloads
  pointwise
  exact weightD_up K C Q L r l 0 _ _ (lane_eq l _ rfl _)
theorem pay86 : k0_pay86 C (k0_pay71 L) (k0_pay74 K Q) (k0_pay75 V D) (k0_pay76 E) (ix2 r l)
    = gradD K V C Q D L E 0 ⟨r.val, by omega⟩ ⟨256 + l.val, by omega⟩ := by
  unfold_payloads
  pointwise
  exact congrArg₂ (· * ·) (weightD_up K C Q L r l 0 _ _ (lane_eq l _ rfl _)) rfl
theorem pay97 : k0_pay97 K C Q (k0_pay71 L) (ix2 r l)
    = weightD K C Q L 1 ⟨r.val, by omega⟩ ⟨256 + l.val, by omega⟩ := by
  unfold_payloads
  pointwise
  exact weightD_up K C Q L r l 1 _ _ (lane_eq l _ rfl _)
theorem pay101 : k0_pay101 K V C Q D (k0_pay71 L) (k0_pay72 E) (ix2 r l)
    = gradD K V C Q D L E 1 ⟨r.val, by omega⟩ ⟨256 + l.val, by omega⟩ := by
  unfold_payloads
  pointwise
  exact congrArg₂ (· * ·) (weightD_up K C Q L r l 1 _ _ (lane_eq l _ rfl _)) rfl
theorem pay83 : k0_pay83 C (k0_pay71 L) (k0_pay74 K Q) (ix2 r l)
    = weightD K C Q L 0 ⟨r.val, by omega⟩ ⟨384 + l.val, by omega⟩ := by
  unfold_payloads
  pointwise
  exact weightD_up K C Q L r l 0 _ _ (lane_eq l _ rfl _)
theorem pay87 : k0_pay87 C (k0_pay71 L) (k0_pay74 K Q) (k0_pay75 V D) (k0_pay76 E) (ix2 r l)
    = gradD K V C Q D L E 0 ⟨r.val, by omega⟩ ⟨384 + l.val, by omega⟩ := by
  unfold_payloads
  pointwise
  exact congrArg₂ (· * ·) (weightD_up K C Q L r l 0 _ _ (lane_eq l _ rfl _)) rfl
theorem pay98 : k0_pay98 K C Q (k0_pay71 L) (ix2 r l)
    = weightD K C Q L 1 ⟨r.val, by omega⟩ ⟨384 + l.val, by omega⟩ := by
  unfold_payloads
  pointwise
  exact weightD_up K C Q L r l 1 _ _ (lane_eq l _ rfl _)
theorem pay102 : k0_pay102 K V C Q D (k0_pay71 L) (k0_pay72 E) (ix2 r l)
    = gradD K V C Q D L E 1 ⟨r.val, by omega⟩ ⟨384 + l.val, by omega⟩ := by
  unfold_payloads
  pointwise
  exact congrArg₂ (· * ·) (weightD_up K C Q L r l 1 _ _ (lane_eq l _ rfl _)) rfl

/-- The first span's addition to the values' gradient. -/
theorem up_dv (O : FVec Ideal S256x128 .f32) :
    k0_pay105 D (k0_pay73 A) (k0_pay89 C0 D (k0_pay71 L) (k0_pay74 K0 Q)) (k0_pay95 K1 C1 Q (k0_pay71 L))
      (k0_pay96 K1 C1 Q (k0_pay71 L)) (k0_pay97 K1 C1 Q (k0_pay71 L)) (k0_pay98 K1 C1 Q (k0_pay71 L)) O (ix2 r l)
    = O (ix2 r l) + Scalar.select (A (ix2 ⟨r.val, by omega⟩ l))
        (∑ q, weightD K0 C0 Q L 0 ⟨r.val, by omega⟩ q * D (ix2 q l))
        (∑ q, weightD K1 C1 Q L 1 ⟨r.val, by omega⟩ q * D (ix2 q l)) := by
  unfold k0_pay105 k0_pay89 k0_pay73
  pointwise
  congr 2
  · exact Finset.sum_congr rfl fun q _ => congrArg (· * _)
      (beside (weightD K0 C0 Q L 0 ⟨r.val, by omega⟩) _ _ _ _ (pay80 K0 C0 Q L r) (pay81 K0 C0 Q L r)
        (pay82 K0 C0 Q L r) (pay83 K0 C0 Q L r) q)
  · exact Finset.sum_congr rfl fun q _ => congrArg (· * _)
      (beside (weightD K1 C1 Q L 1 ⟨r.val, by omega⟩) _ _ _ _ (pay95 K1 C1 Q L r) (pay96 K1 C1 Q L r)
        (pay97 K1 C1 Q L r) (pay98 K1 C1 Q L r) q)

/-- The first span's addition to the keys' gradient. -/
theorem up_dk (O : FVec Ideal S256x128 .f32) :
    k0_pay106 Q (k0_pay73 A) (k0_pay90 C0 Q (k0_pay71 L) (k0_pay74 K0 Q) (k0_pay75 V0 D) (k0_pay76 E))
      (k0_pay99 K1 V1 C1 Q D (k0_pay71 L) (k0_pay72 E)) (k0_pay100 K1 V1 C1 Q D (k0_pay71 L) (k0_pay72 E))
      (k0_pay101 K1 V1 C1 Q D (k0_pay71 L) (k0_pay72 E)) (k0_pay102 K1 V1 C1 Q D (k0_pay71 L) (k0_pay72 E)) O (ix2 r l)
    = O (ix2 r l) + Scalar.select (A (ix2 ⟨r.val, by omega⟩ l))
        (∑ q, gradD K0 V0 C0 Q D L E 0 ⟨r.val, by omega⟩ q * Q (ix2 q l))
        (∑ q, gradD K1 V1 C1 Q D L E 1 ⟨r.val, by omega⟩ q * Q (ix2 q l)) := by
  unfold k0_pay106 k0_pay90 k0_pay73
  pointwise
  congr 2
  · exact Finset.sum_congr rfl fun q _ => congrArg (· * _)
      (beside (gradD K0 V0 C0 Q D L E 0 ⟨r.val, by omega⟩) _ _ _ _ (pay84 K0 V0 C0 Q D L E r)
        (pay85 K0 V0 C0 Q D L E r) (pay86 K0 V0 C0 Q D L E r) (pay87 K0 V0 C0 Q D L E r) q)
  · exact Finset.sum_congr rfl fun q _ => congrArg (· * _)
      (beside (gradD K1 V1 C1 Q D L E 1 ⟨r.val, by omega⟩) _ _ _ _ (pay99 K1 V1 C1 Q D L E r)
        (pay100 K1 V1 C1 Q D L E r) (pay101 K1 V1 C1 Q D L E r) (pay102 K1 V1 C1 Q D L E r) q)

/-- The first span's addition to the gate's gradient, of the pair's first head. -/
theorem up_dc0 (O : FVec Ideal S1x256x128 .f32) :
    k0_pay88 C (k0_pay71 L) (k0_pay74 K Q) (k0_pay75 V D) (k0_pay76 E) O (ix3 0 r l)
    = O (ix3 0 r l) + lanes (gradD K V C Q D L E 0 ⟨r.val, by omega⟩) l := by
  unfold lanes
  rw [← pay84, ← pay85, ← pay86, ← pay87]
  unfold k0_pay88
  pointwise

/-- The first span's addition to the gate's gradient, of the pair's second head. -/
theorem up_dc1 (O : FVec Ideal S1x256x128 .f32) :
    k0_pay104 (k0_pay99 K V C Q D (k0_pay71 L) (k0_pay72 E)) (k0_pay100 K V C Q D (k0_pay71 L) (k0_pay72 E))
      (k0_pay101 K V C Q D (k0_pay71 L) (k0_pay72 E)) (k0_pay102 K V C Q D (k0_pay71 L) (k0_pay72 E)) (k0_pay103 O)
      (ix3 0 r l)
    = O (ix3 0 r l) + lanes (gradD K V C Q D L E 1 ⟨r.val, by omega⟩) l := by
  unfold lanes
  rw [← pay99, ← pay100, ← pay101, ← pay102]
  unfold k0_pay104 k0_pay103
  pointwise

/-- A sum over the tile's queries, none of the first 256 counting, is the sum over two blocks of 128. -/
theorem sum_low (f : Fin 512 → EReal) (h : ∀ q : Fin 512, q.val < 256 → f q = 0) :
    ∑ q, f q = ∑ x : Fin 128, f ⟨256 + x.val, by omega⟩ + ∑ x : Fin 128, f ⟨256 + (128 + x.val), by omega⟩ := by
  have e : (512 : ℕ) = 256 + (128 + 128) := rfl
  calc ∑ q, f q = ∑ q : Fin (256 + (128 + 128)), f (Fin.cast e.symm q) := rfl
    _ = _ := by
      rw [Fin.sum_univ_add, Fin.sum_univ_add, Finset.sum_eq_zero fun q _ => h _ q.isLt, zero_add]
      rfl

theorem weightD_zero (j : Fin 2) (q : Fin 512) (h : q.val < 256) :
    weightD K C Q L j ⟨256 + r.val, by omega⟩ q = 0 := if_neg (by simp only; omega)

theorem gradD_zero (j : Fin 2) (q : Fin 512) (h : q.val < 256) :
    gradD K V C Q D L E j ⟨256 + r.val, by omega⟩ q = 0 := by
  rw [gradD, weightD_zero _ _ _ _ _ _ _ h, zero_mul]

/-- The second span's addition to the values' gradient. -/
theorem low_dv (O : FVec Ideal S256x128 .f32) :
    k0_pay132 C1 (k0_pay71 L) (k0_pay108 D) (k0_pay109 A)
      (k0_pay120 C0 (k0_pay71 L) (k0_pay108 D) (k0_pay110 K0 Q)) (k0_pay122 K1 (k0_pay107 Q)) O (ix2 r l)
    = O (ix2 r l) + Scalar.select (A (ix2 ⟨256 + r.val, by omega⟩ l))
        (∑ q, weightD K0 C0 Q L 0 ⟨256 + r.val, by omega⟩ q * D (ix2 q l))
        (∑ q, weightD K1 C1 Q L 1 ⟨256 + r.val, by omega⟩ q * D (ix2 q l)) := by
  rw [sum_low _ fun q h => by rw [weightD_zero _ _ _ _ _ _ _ h, zero_mul],
    sum_low _ fun q h => by rw [weightD_zero _ _ _ _ _ _ _ h, zero_mul]]
  unfold_payloads
  pointwise
  refine congrArg _ (congrArg₂ _ ?_ ?_)
  · refine congrArg₂ (· + ·) ?_ ?_
    · exact Finset.sum_congr rfl fun x _ => congrArg (· * _)
        (weightD_low K0 C0 Q L r x 0 x.val (by omega) (lane_eq x _ rfl _))
    · exact Finset.sum_congr rfl fun x _ => congrArg (· * _)
        (weightD_low K0 C0 Q L r x 0 (128 + x.val) (by omega) (by ext; simp only [lane]; omega))
  · refine congrArg₂ (· + ·) ?_ ?_
    · exact Finset.sum_congr rfl fun x _ => congrArg (· * _)
        (weightD_low K1 C1 Q L r x 1 x.val (by omega) (lane_eq x _ rfl _))
    · exact Finset.sum_congr rfl fun x _ => congrArg (· * _)
        (weightD_low K1 C1 Q L r x 1 (128 + x.val) (by omega) (by ext; simp only [lane]; omega))

/-- The second span's addition to the keys' gradient. -/
theorem low_dk (O : FVec Ideal S256x128 .f32) :
    k0_pay133 (k0_pay109 A)
      (k0_pay121 C0 (k0_pay71 L) (k0_pay72 E) (k0_pay107 Q) (k0_pay108 D) (k0_pay110 K0 Q) (k0_pay111 V0))
      (k0_pay131 V1 C1 (k0_pay71 L) (k0_pay72 E) (k0_pay107 Q) (k0_pay108 D) (k0_pay122 K1 (k0_pay107 Q))) O (ix2 r l)
    = O (ix2 r l) + Scalar.select (A (ix2 ⟨256 + r.val, by omega⟩ l))
        (∑ q, gradD K0 V0 C0 Q D L E 0 ⟨256 + r.val, by omega⟩ q * Q (ix2 q l))
        (∑ q, gradD K1 V1 C1 Q D L E 1 ⟨256 + r.val, by omega⟩ q * Q (ix2 q l)) := by
  rw [sum_low _ fun q h => by rw [gradD_zero _ _ _ _ _ _ _ _ _ _ h, zero_mul],
    sum_low _ fun q h => by rw [gradD_zero _ _ _ _ _ _ _ _ _ _ h, zero_mul]]
  unfold_payloads
  pointwise
  refine congrArg _ (congrArg₂ _ ?_ ?_)
  · refine congrArg₂ (· + ·) ?_ ?_
    · exact Finset.sum_congr rfl fun x _ => congrArg (· * _) (congrArg₂ (· * ·)
        (weightD_low K0 C0 Q L r x 0 x.val (by omega) (lane_eq x _ rfl _)) rfl)
    · exact Finset.sum_congr rfl fun x _ => congrArg (· * _) (congrArg₂ (· * ·)
        (weightD_low K0 C0 Q L r x 0 (128 + x.val) (by omega) (by ext; simp only [lane]; omega)) rfl)
  · refine congrArg₂ (· + ·) ?_ ?_
    · exact Finset.sum_congr rfl fun x _ => congrArg (· * _) (congrArg₂ (· * ·)
        (weightD_low K1 C1 Q L r x 1 x.val (by omega) (lane_eq x _ rfl _)) rfl)
    · exact Finset.sum_congr rfl fun x _ => congrArg (· * _) (congrArg₂ (· * ·)
        (weightD_low K1 C1 Q L r x 1 (128 + x.val) (by omega) (by ext; simp only [lane]; omega)) rfl)

theorem lanes_low (j : Fin 2) : lanes (gradD K V C Q D L E j ⟨256 + r.val, by omega⟩) l
    = gradD K V C Q D L E j ⟨256 + r.val, by omega⟩ ⟨256 + l.val, by omega⟩
      + gradD K V C Q D L E j ⟨256 + r.val, by omega⟩ ⟨256 + (128 + l.val), by omega⟩ := by
  unfold lanes
  rw [gradD_zero _ _ _ _ _ _ _ _ _ _ (by simp only; omega), gradD_zero _ _ _ _ _ _ _ _ _ _ (by simp only; omega),
    zero_add, zero_add]
  congr 2
  ext; simp only; omega

/-- The second span's addition to the gate's gradient, of the pair's first head. -/
theorem low_dc0 (O : FVec Ideal S1x256x128 .f32) :
    k0_pay119 C (k0_pay71 L) (k0_pay72 E) (k0_pay108 D) (k0_pay110 K Q) (k0_pay111 V) O (ix3 0 r l)
    = O (ix3 0 r l) + lanes (gradD K V C Q D L E 0 ⟨256 + r.val, by omega⟩) l := by
  rw [lanes_low]
  unfold_payloads
  pointwise
  exact congrArg _ (congrArg₂ (· + ·) (congrArg₂ (· * ·)
        (weightD_low K C Q L r l 0 l.val (by omega) (lane_eq l _ rfl _)) rfl) (congrArg₂ (· * ·)
        (weightD_low K C Q L r l 0 (128 + l.val) (by omega) (by ext; simp only [lane]; omega)) rfl))

/-- The second span's addition to the gate's gradient, of the pair's second head. -/
theorem low_dc1 (O : FVec Ideal S1x256x128 .f32) :
    k0_pay130 V C (k0_pay71 L) (k0_pay72 E) (k0_pay108 D) (k0_pay122 K (k0_pay107 Q)) O (ix3 0 r l)
    = O (ix3 0 r l) + lanes (gradD K V C Q D L E 1 ⟨256 + r.val, by omega⟩) l := by
  rw [lanes_low]
  unfold_payloads
  pointwise
  exact congrArg _ (congrArg₂ (· + ·) (congrArg₂ (· * ·)
        (weightD_low K C Q L r l 1 l.val (by omega) (lane_eq l _ rfl _)) rfl) (congrArg₂ (· * ·)
        (weightD_low K C Q L r l 1 (128 + l.val) (by omega) (by ext; simp only [lane]; omega)) rfl))

end

end Cert.KernelIdeal.Dkv
-- ==== Proof.Loop.lean ====
module

public import proofs.«01_k».proof.Proof.Trip
public import proofs.«01_k».proof.Proof.Diagonal

/-!
# The loop over the query tiles

What the three accumulators hold after a number of trips: what they held before, and what each tile adds.
-/

@[expose] public section

set_option maxRecDepth 16384

noncomputable section

namespace Cert.KernelIdeal.Dkv

open Idealize.ShloMosaic Idealize.ShloMosaic.TcCoe Cert.KernelIdeal.Gen Idealize.ShloMosaic.Tactic

/-- A store of the whole accumulator hides every store before it. -/
theorem canon_whole (w : FVec Ideal S512x128 .f32) (L : List (View.Piece (Elt Ideal) S512x128 .f32)) :
    View.canon (⟨Rect.unit (s := S512x128) ![0, 0] ![512, 128] inb_S512x128_S512x128_0_0, w⟩ :: L) = w :=
  View.canon_cons_unit_lit' (S := S512x128) _ w L (by decide)

/-- A load of the whole accumulator after some stores. -/
theorem readAt_whole (v : Memref sig .tc .vmem S512x128 .f32) (L L' : List (View.Piece (Elt Ideal) S512x128 .f32)) :
    v.view.readAt (Elt Ideal) (Rect.unit (s := S512x128) ![0, 0] ![512, 128] inb_S512x128_S512x128_0_0).toLoadRect
      (v.view.writes (Elt Ideal) (v.view.writes (Elt Ideal) v.view.junk L) L') = View.canon (L' ++ L) := by
  rw [← View.writes_append, View.readAt_eq_ld, View.read_writes_junk_eq_canon]
  exact View.ld_unit_lit' (S := S512x128) _ _ (by decide)

/-- What the two slabs of the gate's accumulator hold after a store into each. -/
theorem canon_slab0 (w w' : FVec Ideal S1x512x128 .f32) (L : List (View.Piece (Elt Ideal) S2x512x128 .f32))
    (r : Fin 512) (l : Fin 128) :
    View.canon ((⟨Rect.unit (s := S2x512x128) ![1, 0, 0] ![1, 512, 128] inb_S2x512x128_S1x512x128_1_0_0, w'⟩ :
        View.Piece (Elt Ideal) S2x512x128 .f32) ::
      (⟨Rect.unit (s := S2x512x128) ![0, 0, 0] ![1, 512, 128] inb_S2x512x128_S1x512x128_0_0_0, w⟩ :
        View.Piece (Elt Ideal) S2x512x128 .f32) :: L) (ix3 0 r l)
      = w (ix3 0 r l) := by
  have h : (ix3 0 r l : S2x512x128.Idx) ∉ (Rect.unit (s := S2x512x128) ![1, 0, 0] ![1, 512, 128]
      inb_S2x512x128_S1x512x128_1_0_0).set := fun h => Nat.not_succ_le_zero 0 ((Rect.mem_set_unit.1 h) 0).1
  have e : (Rect.unit (s := S2x512x128) ![0, 0, 0] ![1, 512, 128] inb_S2x512x128_S1x512x128_0_0_0).emb
      (ix3 0 r l : S1x512x128.Idx) = (ix3 0 r l : S2x512x128.Idx) := by blk_ext
  refine (View.canon_cons_of_not_mem (⟨Rect.unit (s := S2x512x128) ![1, 0, 0] ![1, 512, 128]
    inb_S2x512x128_S1x512x128_1_0_0, w'⟩ : View.Piece (Elt Ideal) S2x512x128 .f32) _ h).trans ?_
  rw [← e]
  exact View.canon_cons_emb _ _ _ _

theorem canon_slab1 (w' : FVec Ideal S1x512x128 .f32) (L : List (View.Piece (Elt Ideal) S2x512x128 .f32))
    (r : Fin 512) (l : Fin 128) :
    View.canon (⟨Rect.unit (s := S2x512x128) ![1, 0, 0] ![1, 512, 128] inb_S2x512x128_S1x512x128_1_0_0, w'⟩ :: L)
      (ix3 1 r l) = w' (ix3 0 r l) := by
  rw [show (ix3 1 r l : S2x512x128.Idx) = (Rect.unit (s := S2x512x128) ![1, 0, 0] ![1, 512, 128] inb_S2x512x128_S1x512x128_1_0_0).emb (ix3 0 r l : S1x512x128.Idx) from ?_]
  · exact View.canon_cons_emb _ _ _ _
  · blk_ext
/-- A load of a slab of the gate's accumulator after some stores. -/
theorem readAt_slab0 (v : Memref sig .tc .vmem S2x512x128 .f32) (L L' : List (View.Piece (Elt Ideal) S2x512x128 .f32))
    (r : Fin 512) (l : Fin 128) :
    v.view.readAt (Elt Ideal) (Rect.unit (s := S2x512x128) ![0, 0, 0] ![1, 512, 128]
      inb_S2x512x128_S1x512x128_0_0_0).toLoadRect (v.view.writes (Elt Ideal) (v.view.writes (Elt Ideal) v.view.junk L) L')
      (ix3 0 r l) = View.canon (L' ++ L) (ix3 0 r l) := by
  rw [← View.writes_append, View.readAt_eq_ld, View.read_writes_junk_eq_canon]
  refine congrArg (View.canon (L' ++ L)) ?_
  show (Rect.unit (s := S2x512x128) ![0, 0, 0] ![1, 512, 128] inb_S2x512x128_S1x512x128_0_0_0).emb
    (ix3 0 r l : S1x512x128.Idx) = (ix3 0 r l : S2x512x128.Idx)
  blk_ext

theorem readAt_slab1 (v : Memref sig .tc .vmem S2x512x128 .f32) (L L' : List (View.Piece (Elt Ideal) S2x512x128 .f32))
    (r : Fin 512) (l : Fin 128) :
    v.view.readAt (Elt Ideal) (Rect.unit (s := S2x512x128) ![1, 0, 0] ![1, 512, 128]
      inb_S2x512x128_S1x512x128_1_0_0).toLoadRect (v.view.writes (Elt Ideal) (v.view.writes (Elt Ideal) v.view.junk L) L')
      (ix3 0 r l) = View.canon (L' ++ L) (ix3 1 r l) := by
  rw [← View.writes_append, View.readAt_eq_ld, View.read_writes_junk_eq_canon]
  refine congrArg (View.canon (L' ++ L)) ?_
  show (Rect.unit (s := S2x512x128) ![1, 0, 0] ![1, 512, 128] inb_S2x512x128_S1x512x128_1_0_0).emb
    (ix3 0 r l : S1x512x128.Idx) = (ix3 1 r l : S2x512x128.Idx)
  blk_ext

variable (𝒱 : Variants) (c : Dev nD) (bd : Option 𝒱.V) (i : grid0.Coords) (arg2 : Memref sig .tc .smem S8x32 .i32)
  (harg2 : arg2.IsWhole) (arg3 : Memref sig .tc .vmem S512x128 .bf16) (harg3 : arg3.IsWhole)
  (arg4 : Memref sig .tc .vmem S512x128 .bf16) (harg4 : arg4.IsWhole) (arg5 : Memref sig .tc .vmem S512x128 .f32)
  (harg5 : arg5.IsWhole) (arg6 : Memref sig .tc .vmem S16384x128 .bf16) (harg6 : arg6.IsWhole)
  (arg7 : Memref sig .tc .vmem S16384x128 .bf16) (harg7 : arg7.IsWhole)
  (arg8 : Memref sig .tc .vmem S1x32x2x512 .f32) (harg8 : arg8.IsWhole)
  (arg9 : Memref sig .tc .vmem S1x32x2x512 .f32) (harg9 : arg9.IsWhole)
  (arg10 : Memref sig .tc .vmem S512x128 .bf16) (harg10 : arg10.IsWhole)
  (arg11 : Memref sig .tc .vmem S512x128 .bf16) (harg11 : arg11.IsWhole)
  (arg12 : Memref sig .tc .vmem S1x1x2x512 .f32) (harg12 : arg12.IsWhole)
  (arg13 : Memref sig .tc .vmem S512x128 .f32) (harg13 : arg13.IsWhole) (arg14 : Memref sig .tc .vmem S512x128 .f32)
  (harg14 : arg14.IsWhole) (arg15 : Memref sig .tc .vmem S2x512x128 .f32) (harg15 : arg15.IsWhole)
  (arg0 : BitVec 32) (arg1 : BitVec 32) (v6 : IVec S512x128 1) (v8 : FVec Ideal S512x128 .bf16)
  (v9 : FVec Ideal S512x128 .bf16) (v10 : Vec Ideal S512x128 .bf16) (v11 : FVec Ideal S512x128 .bf16)
  (v24 : FVec Ideal S512x128 .f32) (v34 : FVec Ideal S512x128 .f32) (v204 : IVec S256x128 1) (v251 : FVec Ideal S256x128 .f32)
  (v298 : FVec Ideal S256x128 .f32) (v305 : Vec Ideal S256x128 .f32) (v311 : BitVec 32) (v314 : Elt Ideal .i32)
  (k0_hw1 : k0_chk1 i v314) (X_arg6 : BufTy.Contents (Elt Ideal) arg6.view.ty)
  (X_arg7 : BufTy.Contents (Elt Ideal) arg7.view.ty) (X_arg8 : BufTy.Contents (Elt Ideal) arg8.view.ty)
  (X_arg9 : BufTy.Contents (Elt Ideal) arg9.view.ty)

variable (I13 I14 : List (View.Piece (Elt Ideal) S512x128 .f32)) (I15 : List (View.Piece (Elt Ideal) S2x512x128 .f32))

/-- The stores of the trips before `n`, over stores `I13`, `I14`, `I15` made before the loop. -/
abbrev stored (n : ℕ) :=
    pb_k0_t1 (F := Ideal) 𝒱 c bd i arg2 harg2 arg3 harg3 arg4 harg4 arg5 harg5 arg6 harg6 arg7 harg7 arg8 harg8
      arg9 harg9 arg10 harg10 arg11 harg11 arg12 harg12 arg13 harg13 arg14 harg14 arg15 harg15 arg0 arg1 v6 v8 v9
      v10 v11 v24 v34 v204 v251 v298 v305 v311 v314 k0_hw1 X_arg6 X_arg7 X_arg8 X_arg9 (arg13.view.writes (Elt
      Ideal) arg13.view.junk I13) (arg14.view.writes (Elt Ideal) arg14.view.junk I14) (arg15.view.writes (Elt
      Ideal) arg15.view.junk I15) n

variable (Qt Dt : ℕ → FVec Ideal S512x128 .bf16) (Lt Et : ℕ → FVec Ideal S1x1x2x512 .f32)

/-- The values' accumulator after `n` trips. -/
theorem loop_dv (r : Fin 512) (l : Fin 128)
    (hq : ∀ k a, k0_off4 i v314 k a + S512x128.size a ≤ S16384x128.size a)
    (hl : ∀ k a, k0_off5 i v314 k a + S1x1x2x512.size a ≤ S1x32x2x512.size a)
    (eQ : ∀ k, qT i arg6 v314 X_arg6 k (hq k) = Qt k) (eD : ∀ k, qT i arg7 v314 X_arg7 k (hq k) = Dt k)
    (eL : ∀ k, lT i arg8 v314 X_arg8 k (hl k) = Lt k) (eE : ∀ k, lT i arg9 v314 X_arg9 k (hl k) = Et k)
    (n : ℕ) (hn : n ≤ (k0_t1_loop i v314).trips) :
    View.canon ((stored 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v6 v8 v9 v10 v11 v24 v34 v204 v251 v298 v305 v311 v314 k0_hw1 X_arg6 X_arg7 X_arg8 X_arg9 I13 I14 I15 n).2.1 ++ I14) (ix2 r l)
      = View.canon I14 (ix2 r l) + ∑ t ∈ Finset.range n, Scalar.select (v6 (ix2 r l))
          (∑ q, weight v8 v24 (Qt t) (Lt t) 0 r q * Dt t (ix2 q l))
          (∑ q, weight v9 v34 (Qt t) (Lt t) 1 r q * Dt t (ix2 q l)) := by
  induction n with
  | zero => simp [stored, pb_k0_t1]
  | succ n ih =>
    have ih := ih (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v6 v8 v9 v10 v11 v24 v34 v204 v251 v298 v305 v311 v314 k0_hw1
      X_arg6 X_arg7 X_arg8 X_arg9 (arg13.view.writes (Elt Ideal) arg13.view.junk I13)
      (arg14.view.writes (Elt Ideal) arg14.view.junk I14) (arg15.view.writes (Elt Ideal) arg15.view.junk I15)
      ⟨n, by omega⟩
    rw [trip (hq := hq _) (hl := hl _)] at e
    rw [Finset.sum_range_succ, ← add_assoc, ← ih]
    unfold stored
    simp only [] at e
    rw [e]
    simp only [List.cons_append, List.nil_append]
    rw [canon_whole, readAt_whole, eQ, eD, eL, tile_dv]

/-- The keys' accumulator after `n` trips. -/
theorem loop_dk (r : Fin 512) (l : Fin 128)
    (hq : ∀ k a, k0_off4 i v314 k a + S512x128.size a ≤ S16384x128.size a)
    (hl : ∀ k a, k0_off5 i v314 k a + S1x1x2x512.size a ≤ S1x32x2x512.size a)
    (eQ : ∀ k, qT i arg6 v314 X_arg6 k (hq k) = Qt k) (eD : ∀ k, qT i arg7 v314 X_arg7 k (hq k) = Dt k)
    (eL : ∀ k, lT i arg8 v314 X_arg8 k (hl k) = Lt k) (eE : ∀ k, lT i arg9 v314 X_arg9 k (hl k) = Et k)
    (n : ℕ) (hn : n ≤ (k0_t1_loop i v314).trips) :
    View.canon ((stored 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v6 v8 v9 v10 v11 v24 v34 v204 v251 v298 v305 v311 v314 k0_hw1 X_arg6 X_arg7 X_arg8 X_arg9 I13 I14 I15 n).1 ++ I13) (ix2 r l)
      = View.canon I13 (ix2 r l) + ∑ t ∈ Finset.range n, Scalar.select (v6 (ix2 r l))
          (∑ q, grad v8 v10 v24 (Qt t) (Dt t) (Lt t) (Et t) 0 r q * Qt t (ix2 q l))
          (∑ q, grad v9 v11 v34 (Qt t) (Dt t) (Lt t) (Et t) 1 r q * Qt t (ix2 q l)) := by
  induction n with
  | zero => simp [stored, pb_k0_t1]
  | succ n ih =>
    have ih := ih (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v6 v8 v9 v10 v11 v24 v34 v204 v251 v298 v305 v311 v314 k0_hw1
      X_arg6 X_arg7 X_arg8 X_arg9 (arg13.view.writes (Elt Ideal) arg13.view.junk I13)
      (arg14.view.writes (Elt Ideal) arg14.view.junk I14) (arg15.view.writes (Elt Ideal) arg15.view.junk I15)
      ⟨n, by omega⟩
    rw [trip (hq := hq _) (hl := hl _)] at e
    rw [Finset.sum_range_succ, ← add_assoc, ← ih]
    unfold stored
    simp only [] at e
    rw [e]
    simp only [List.cons_append, List.nil_append]
    rw [canon_whole, readAt_whole, eQ, eD, eL, eE, tile_dk]

/-- The gate's accumulator, of the pair's first head, after `n` trips. -/
theorem loop_dc0 (r : Fin 512) (l : Fin 128)
    (hq : ∀ k a, k0_off4 i v314 k a + S512x128.size a ≤ S16384x128.size a)
    (hl : ∀ k a, k0_off5 i v314 k a + S1x1x2x512.size a ≤ S1x32x2x512.size a)
    (eQ : ∀ k, qT i arg6 v314 X_arg6 k (hq k) = Qt k) (eD : ∀ k, qT i arg7 v314 X_arg7 k (hq k) = Dt k)
    (eL : ∀ k, lT i arg8 v314 X_arg8 k (hl k) = Lt k) (eE : ∀ k, lT i arg9 v314 X_arg9 k (hl k) = Et k)
    (n : ℕ) (hn : n ≤ (k0_t1_loop i v314).trips) :
    View.canon ((stored 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v6 v8 v9 v10 v11 v24 v34 v204 v251 v298 v305 v311 v314 k0_hw1 X_arg6 X_arg7 X_arg8 X_arg9 I13 I14 I15 n).2.2 ++ I15) (ix3 0 r l)
      = View.canon I15 (ix3 0 r l) + ∑ t ∈ Finset.range n, lanes (grad v8 v10 v24 (Qt t) (Dt t) (Lt t) (Et t) 0 r) l := by
  induction n with
  | zero => simp [stored, pb_k0_t1]
  | succ n ih =>
    have ih := ih (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v6 v8 v9 v10 v11 v24 v34 v204 v251 v298 v305 v311 v314 k0_hw1
      X_arg6 X_arg7 X_arg8 X_arg9 (arg13.view.writes (Elt Ideal) arg13.view.junk I13)
      (arg14.view.writes (Elt Ideal) arg14.view.junk I14) (arg15.view.writes (Elt Ideal) arg15.view.junk I15)
      ⟨n, by omega⟩
    rw [trip (hq := hq _) (hl := hl _)] at e
    rw [Finset.sum_range_succ, ← add_assoc, ← ih]
    unfold stored
    simp only [] at e
    rw [e]
    simp only [List.cons_append, List.nil_append]
    rw [canon_slab0, eQ, eD, eL, eE, tile_dc0, readAt_slab0]; rfl

/-- The gate's accumulator, of the pair's second head, after `n` trips. -/
theorem loop_dc1 (r : Fin 512) (l : Fin 128)
    (hq : ∀ k a, k0_off4 i v314 k a + S512x128.size a ≤ S16384x128.size a)
    (hl : ∀ k a, k0_off5 i v314 k a + S1x1x2x512.size a ≤ S1x32x2x512.size a)
    (eQ : ∀ k, qT i arg6 v314 X_arg6 k (hq k) = Qt k) (eD : ∀ k, qT i arg7 v314 X_arg7 k (hq k) = Dt k)
    (eL : ∀ k, lT i arg8 v314 X_arg8 k (hl k) = Lt k) (eE : ∀ k, lT i arg9 v314 X_arg9 k (hl k) = Et k)
    (n : ℕ) (hn : n ≤ (k0_t1_loop i v314).trips) :
    View.canon ((stored 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v6 v8 v9 v10 v11 v24 v34 v204 v251 v298 v305 v311 v314 k0_hw1 X_arg6 X_arg7 X_arg8 X_arg9 I13 I14 I15 n).2.2 ++ I15) (ix3 1 r l)
      = View.canon I15 (ix3 1 r l) + ∑ t ∈ Finset.range n, lanes (grad v9 v11 v34 (Qt t) (Dt t) (Lt t) (Et t) 1 r) l := by
  induction n with
  | zero => simp [stored, pb_k0_t1]
  | succ n ih =>
    have ih := ih (by omega)
    have e := pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg0 arg1 v6 v8 v9 v10 v11 v24 v34 v204 v251 v298 v305 v311 v314 k0_hw1
      X_arg6 X_arg7 X_arg8 X_arg9 (arg13.view.writes (Elt Ideal) arg13.view.junk I13)
      (arg14.view.writes (Elt Ideal) arg14.view.junk I14) (arg15.view.writes (Elt Ideal) arg15.view.junk I15)
      ⟨n, by omega⟩
    rw [trip (hq := hq _) (hl := hl _)] at e
    rw [Finset.sum_range_succ, ← add_assoc, ← ih]
    unfold stored
    simp only [] at e
    rw [e]
    simp only [List.cons_append, List.nil_append]
    rw [canon_slab1, eQ, eD, eL, eE, tile_dc1, readAt_slab1]; rfl

end Cert.KernelIdeal.Dkv
-- ==== Proof.Start.lean ====
module

public import proofs.«01_k».proof.Proof.Loop

/-!
# The accumulators before the loop

The two spans of the diagonal tile's keys, stored over zeros, as one sum over the tile's queries.
-/

@[expose] public section

set_option maxRecDepth 16384

noncomputable section

namespace Cert.KernelIdeal.Dkv

open Idealize.ShloMosaic Idealize.ShloMosaic.TcCoe Cert.KernelIdeal.Gen Idealize.ShloMosaic.Tactic

variable {α : Type}

/-- Two stores of 256 rows each: what an array of 512 rows holds. -/
theorem canon_spans (u w : FVec Ideal S256x128 .f32) (L : List (View.Piece (Elt Ideal) S512x128 .f32))
    (f : Fin 512 → Fin 128 → EReal)
    (hu : ∀ (r : Fin 256) l, u (ix2 r l) = f ⟨r.val, by omega⟩ l)
    (hw : ∀ (r : Fin 256) l, w (ix2 r l) = f ⟨256 + r.val, by omega⟩ l) (r : Fin 512) (l : Fin 128) :
    View.canon ((⟨Rect.unit (s := S512x128) ![256, 0] ![256, 128] inb_S512x128_S256x128_256_0, w⟩ :
        View.Piece (Elt Ideal) S512x128 .f32) ::
      (⟨Rect.unit (s := S512x128) ![0, 0] ![256, 128] inb_S512x128_S256x128_0_0, u⟩ :
        View.Piece (Elt Ideal) S512x128 .f32) :: L) (ix2 r l) = f r l := by
  by_cases h : r.val < 256
  · have h' : (ix2 r l : S512x128.Idx) ∉ (Rect.unit (s := S512x128) ![256, 0] ![256, 128]
        inb_S512x128_S256x128_256_0).set := fun hm => absurd ((Rect.mem_set_unit.1 hm) 0).1 (Nat.not_le.2 h)
    have e : (Rect.unit (s := S512x128) ![0, 0] ![256, 128] inb_S512x128_S256x128_0_0).emb
        (ix2 (⟨r.val, h⟩ : Fin 256) l : S256x128.Idx) = (ix2 r l : S512x128.Idx) := by blk_ext
    refine (View.canon_cons_of_not_mem (⟨Rect.unit (s := S512x128) ![256, 0] ![256, 128]
      inb_S512x128_S256x128_256_0, w⟩ : View.Piece (Elt Ideal) S512x128 .f32) _ h').trans ?_
    rw [← e]
    exact (View.canon_cons_emb _ _ _ _).trans (hu ⟨r.val, h⟩ l)
  · have e : (Rect.unit (s := S512x128) ![256, 0] ![256, 128] inb_S512x128_S256x128_256_0).emb
        (ix2 (⟨r.val - 256, by omega⟩ : Fin 256) l : S256x128.Idx) = (ix2 r l : S512x128.Idx) := by
      blk_ext
    rw [← e]
    refine (View.canon_cons_emb _ _ _ _).trans ((hw ⟨r.val - 256, by omega⟩ l).trans ?_)
    exact congrArg (f · l) (Fin.ext (by show 256 + (r.val - 256) = r.val; omega))

/-- The same over the gate's two slabs. -/
theorem canon_slabs (u0 w0 u1 w1 : FVec Ideal S1x256x128 .f32) (L : List (View.Piece (Elt Ideal) S2x512x128 .f32))
    (f : Fin 2 → Fin 512 → Fin 128 → EReal)
    (hu0 : ∀ (r : Fin 256) l, u0 (ix3 0 r l) = f 0 ⟨r.val, by omega⟩ l)
    (hw0 : ∀ (r : Fin 256) l, w0 (ix3 0 r l) = f 0 ⟨256 + r.val, by omega⟩ l)
    (hu1 : ∀ (r : Fin 256) l, u1 (ix3 0 r l) = f 1 ⟨r.val, by omega⟩ l)
    (hw1 : ∀ (r : Fin 256) l, w1 (ix3 0 r l) = f 1 ⟨256 + r.val, by omega⟩ l) (j : Fin 2) (r : Fin 512) (l : Fin 128) :
    View.canon ((⟨Rect.unit (s := S2x512x128) ![1, 256, 0] ![1, 256, 128] inb_S2x512x128_S1x256x128_1_256_0, w1⟩ :
        View.Piece (Elt Ideal) S2x512x128 .f32) ::
      (⟨Rect.unit (s := S2x512x128) ![0, 256, 0] ![1, 256, 128] inb_S2x512x128_S1x256x128_0_256_0, w0⟩ :
        View.Piece (Elt Ideal) S2x512x128 .f32) ::
      (⟨Rect.unit (s := S2x512x128) ![1, 0, 0] ![1, 256, 128] inb_S2x512x128_S1x256x128_1_0_0, u1⟩ :
        View.Piece (Elt Ideal) S2x512x128 .f32) ::
      (⟨Rect.unit (s := S2x512x128) ![0, 0, 0] ![1, 256, 128] inb_S2x512x128_S1x256x128_0_0_0, u0⟩ :
        View.Piece (Elt Ideal) S2x512x128 .f32) :: L) (ix3 j r l) = f j r l := by
  have n1 : ∀ (j : Fin 2) (r : Fin 512), j.val = 0 ∨ r.val < 256 → (ix3 j r l : S2x512x128.Idx) ∉
      (Rect.unit (s := S2x512x128) ![1, 256, 0] ![1, 256, 128] inb_S2x512x128_S1x256x128_1_256_0).set := by
    intro j r h hm
    have a0 : 1 ≤ j.val := ((Rect.mem_set_unit.1 hm) 0).1
    have a1 : 256 ≤ r.val := ((Rect.mem_set_unit.1 hm) 1).1
    omega
  have n2 : ∀ (j : Fin 2) (r : Fin 512), j.val = 1 ∨ r.val < 256 → (ix3 j r l : S2x512x128.Idx) ∉
      (Rect.unit (s := S2x512x128) ![0, 256, 0] ![1, 256, 128] inb_S2x512x128_S1x256x128_0_256_0).set := by
    intro j r h hm
    have a0 : j.val < 0 + 1 := ((Rect.mem_set_unit.1 hm) 0).2
    have a1 : 256 ≤ r.val := ((Rect.mem_set_unit.1 hm) 1).1
    omega
  have n3 : ∀ (j : Fin 2) (r : Fin 512), j.val = 0 → (ix3 j r l : S2x512x128.Idx) ∉
      (Rect.unit (s := S2x512x128) ![1, 0, 0] ![1, 256, 128] inb_S2x512x128_S1x256x128_1_0_0).set := by
    intro j r h hm
    have a0 : 1 ≤ j.val := ((Rect.mem_set_unit.1 hm) 0).1
    omega
  by_cases h : r.val < 256
  · refine (View.canon_cons_of_not_mem (⟨Rect.unit (s := S2x512x128) ![1, 256, 0] ![1, 256, 128]
      inb_S2x512x128_S1x256x128_1_256_0, w1⟩ : View.Piece (Elt Ideal) S2x512x128 .f32) _ (n1 j r (.inr h))).trans ?_
    refine (View.canon_cons_of_not_mem (⟨Rect.unit (s := S2x512x128) ![0, 256, 0] ![1, 256, 128]
      inb_S2x512x128_S1x256x128_0_256_0, w0⟩ : View.Piece (Elt Ideal) S2x512x128 .f32) _ (n2 j r (.inr h))).trans ?_
    match j with
    | 0 =>
      refine (View.canon_cons_of_not_mem (⟨Rect.unit (s := S2x512x128) ![1, 0, 0] ![1, 256, 128]
        inb_S2x512x128_S1x256x128_1_0_0, u1⟩ : View.Piece (Elt Ideal) S2x512x128 .f32) _ (n3 0 r rfl)).trans ?_
      have e : (Rect.unit (s := S2x512x128) ![0, 0, 0] ![1, 256, 128] inb_S2x512x128_S1x256x128_0_0_0).emb
        (ix3 0 (⟨r.val, h⟩ : Fin 256) l : S1x256x128.Idx) = (ix3 0 r l : S2x512x128.Idx) := by blk_ext
      rw [← e]
      exact (View.canon_cons_emb _ _ _ _).trans (hu0 ⟨r.val, h⟩ l)
    | 1 =>
      have e : (Rect.unit (s := S2x512x128) ![1, 0, 0] ![1, 256, 128] inb_S2x512x128_S1x256x128_1_0_0).emb
        (ix3 0 (⟨r.val, h⟩ : Fin 256) l : S1x256x128.Idx) = (ix3 1 r l : S2x512x128.Idx) := by blk_ext
      rw [← e]
      exact (View.canon_cons_emb _ _ _ _).trans (hu1 ⟨r.val, h⟩ l)
  · match j with
    | 0 =>
      refine (View.canon_cons_of_not_mem (⟨Rect.unit (s := S2x512x128) ![1, 256, 0] ![1, 256, 128]
        inb_S2x512x128_S1x256x128_1_256_0, w1⟩ : View.Piece (Elt Ideal) S2x512x128 .f32) _ (n1 0 r (.inl rfl))).trans ?_
      have e : (Rect.unit (s := S2x512x128) ![0, 256, 0] ![1, 256, 128] inb_S2x512x128_S1x256x128_0_256_0).emb
        (ix3 0 (⟨r.val - 256, by omega⟩ : Fin 256) l : S1x256x128.Idx) = (ix3 0 r l : S2x512x128.Idx) := by blk_ext
      rw [← e]
      refine (View.canon_cons_emb _ _ _ _).trans ((hw0 ⟨r.val - 256, by omega⟩ l).trans ?_)
      exact congrArg (f 0 · l) (Fin.ext (by show 256 + (r.val - 256) = r.val; omega))
    | 1 =>
      have e : (Rect.unit (s := S2x512x128) ![1, 256, 0] ![1, 256, 128] inb_S2x512x128_S1x256x128_1_256_0).emb
        (ix3 0 (⟨r.val - 256, by omega⟩ : Fin 256) l : S1x256x128.Idx) = (ix3 1 r l : S2x512x128.Idx) := by blk_ext
      rw [← e]
      refine (View.canon_cons_emb _ _ _ _).trans ((hw1 ⟨r.val - 256, by omega⟩ l).trans ?_)
      exact congrArg (f 1 · l) (Fin.ext (by show 256 + (r.val - 256) = r.val; omega))

end Cert.KernelIdeal.Dkv
-- ==== Proof.Grid.lean ====
module

public import proofs.«01_k».proof.Proof.Gen.KernelIdeal.Skeleton

/-!
# The loop's bounds and the loads' offsets as numbers

With the table's word 31, key block `kb` runs the loop over the query tiles `kb + 1, …, 31`.
-/

@[expose] public section

namespace Cert.KernelIdeal.Dkv

open Idealize.ShloMosaic Cert.KernelIdeal.Gen

/-- The number of trips after key block `i 1`. -/
theorem trips_one (i : grid0.Coords) (w : BitVec 32) (hw : w = 31#32) :
    (k0_t1_loop i w).trips = 31 - (i 1).val := by
  subst hw
  have h : ∀ b : Fin 32, Scf.trips (Scalar.addi (BitVec.ofNat 32 b.val) 1#32)
      (Scalar.addi (Scalar.addi (BitVec.ofNat 32 b.val) 1#32) (Scalar.muli (Scalar.divsi (Scalar.subi (Scalar.addi 31#32 1#32)
        (Scalar.addi (BitVec.ofNat 32 b.val) 1#32)) 1#32) 1#32)) 1#32 = 31 - b.val := by decide +kernel
  exact h (i 1)

/-- The second loop, over what a step other than one would leave, has no trips. -/
theorem trips_two (i : grid0.Coords) (w : BitVec 32) (hw : w = 31#32) : (k0_t2_loop i w).trips = 0 := by
  subst hw
  have h : ∀ b : Fin 32, Scf.trips
      (Scalar.addi (Scalar.addi (BitVec.ofNat 32 b.val) 1#32) (Scalar.muli (Scalar.divsi (Scalar.subi (Scalar.addi 31#32 1#32)
        (Scalar.addi (BitVec.ofNat 32 b.val) 1#32)) 1#32) 1#32))
      (Scalar.addi (Scalar.addi (BitVec.ofNat 32 b.val) 1#32) (Scalar.subi (Scalar.addi 31#32 1#32)
        (Scalar.addi (BitVec.ofNat 32 b.val) 1#32))) 1#32 = 0 := by decide +kernel
  exact h (i 1)

/-- The row trip `k` loads from. -/
theorem off4_row (i : grid0.Coords) (w : BitVec 32) (hw : w = 31#32) (k : Fin (k0_t1_loop i w).trips) :
    k0_off4 i w k = ![512 * ((i 1).val + 1 + k.val), 0] := by
  subst hw
  have h : ∀ b : Fin 32, ∀ k : Fin 32, k.val < 31 - b.val → (Scalar.indexCast (Scalar.muli
      (Scf.iv (Scalar.addi (BitVec.ofNat 32 b.val) 1#32) 1#32 k.val) 512#32)).toNat = 512 * (b.val + 1 + k.val) := by
    decide +kernel
  have hk : k.val < 31 - (i 1).val := lt_of_lt_of_eq k.isLt (trips_one i _ rfl)
  have hb : (i 1).val < 32 := (i 1).isLt
  have := h (i 1) ⟨k.val, by omega⟩ hk
  show ![_, 0] = _
  exact congrArg (fun n => ![n, 0]) this

/-- The tile of row statistics trip `k` loads. -/
theorem off5_tile (i : grid0.Coords) (w : BitVec 32) (hw : w = 31#32) (k : Fin (k0_t1_loop i w).trips) :
    k0_off5 i w k = ![0, (i 1).val + 1 + k.val, 0, 0] := by
  subst hw
  have h : ∀ b : Fin 32, ∀ k : Fin 32, k.val < 31 - b.val → (Scalar.indexCast
      (Scf.iv (Scalar.addi (BitVec.ofNat 32 b.val) 1#32) 1#32 k.val)).toNat = b.val + 1 + k.val := by
    decide +kernel
  have hk : k.val < 31 - (i 1).val := lt_of_lt_of_eq k.isLt (trips_one i _ rfl)
  have hb : (i 1).val < 32 := (i 1).isLt
  have := h (i 1) ⟨k.val, by omega⟩ hk
  show ![0, _, 0, 0] = _
  exact congrArg (fun n => ![0, n, 0, 0]) this

/-- The row the diagonal tile loads from. -/
theorem off1_row (i : grid0.Coords) : k0_off1 i = ![512 * (i 1).val, 0] := by
  have h : ∀ b : Fin 32, (Scalar.indexCast (Scalar.muli (BitVec.ofNat 32 b.val) 512#32)).toNat = 512 * b.val := by
    decide +kernel
  exact congrArg (fun n => ![n, 0]) (h (i 1))

/-- The tile of row statistics of the diagonal. -/
theorem off2_tile (i : grid0.Coords) : k0_off2 i = ![0, (i 1).val, 0, 0] := by
  have h : ∀ b : Fin 32, (Scalar.indexCast (BitVec.ofNat 32 b.val)).toNat = b.val := by decide +kernel
  exact congrArg (fun n => ![0, n, 0, 0]) (h (i 1))

end Cert.KernelIdeal.Dkv
-- ==== Proof.Block.lean ====
module

public import proofs.«01_k».proof.Proof.Start
public import proofs.«01_k».proof.Proof.Grid
public import proofs.«01_k».proof.Proof.Tables
public import proofs.«01_k».proof.Proof.Gen.KernelIdeal.Frame
public import Idealize.ShloMosaic.Lib.Pipeline.ValueKit
public import Idealize.ShloMosaic.Lib.Pipeline.ReadBack

/-!
# What one grid point computes

At key block `kb`, the diagonal tile's sum and the sums of the query tiles after it.
-/

@[expose] public section

set_option maxRecDepth 16384

noncomputable section

namespace Cert.KernelIdeal.Dkv

open Idealize.ShloMosaic Idealize.ShloMosaic.TcCoe Cert.KernelIdeal.Gen Idealize.ShloMosaic.Tactic

/-- Tile `n` of 512 rows (the tile's number taken modulo 32). -/
def rowsOf (x : Vec Ideal S16384x128 .bf16) (n : ℕ) : FVec Ideal S512x128 .bf16 :=
  fun a => x (ix2 ⟨(512 * n + (a 0).val) % 16384, Nat.mod_lt _ (by decide)⟩ (a 1))

/-- Tile `n` of the row statistics (the tile's number taken modulo 32). -/
def statOf (x : Vec Ideal S1x32x2x512 .f32) (n : ℕ) : FVec Ideal S1x1x2x512 .f32 :=
  fun a => x (ix4 0 ⟨n % 32, Nat.mod_lt _ (by decide)⟩ (a 2) (a 3))

theorem ld_rows (x : Vec Ideal S16384x128 .bf16) (n : ℕ) (o : Fin 2 → ℕ) (ho : o = ![512 * n, 0])
    (h : ∀ a, o a + S512x128.size a ≤ S16384x128.size a) :
    View.ld x (Rect.unit (s := S16384x128) o S512x128.size h) = rowsOf x n := by
  subst ho
  funext a
  refine congrArg x ?_
  have h0 : 512 * n + 512 ≤ 16384 := h 0
  have b0 : (a 0).val < 512 := (a 0).isLt
  show (Rect.unit (s := S16384x128) _ S512x128.size h).emb a = _
  funext d
  match d with
  | 0 => exact Fin.ext (by show 512 * n + 1 * (a 0).val = (512 * n + (a 0).val) % 16384; omega)
  | 1 => exact Fin.ext (by show 0 + 1 * (a 1).val = (a 1).val; omega)

theorem ld_stat (x : Vec Ideal S1x32x2x512 .f32) (n : ℕ) (o : Fin 4 → ℕ) (ho : o = ![0, n, 0, 0])
    (h : ∀ a, o a + S1x1x2x512.size a ≤ S1x32x2x512.size a) :
    View.ld x (Rect.unit (s := S1x32x2x512) o S1x1x2x512.size h) = statOf x n := by
  subst ho
  funext a
  refine congrArg x ?_
  have h0 : n + 1 ≤ 32 := h 1
  have b0 : (a 0).val < 1 := (a 0).isLt
  have b1 : (a 1).val < 1 := (a 1).isLt
  show (Rect.unit (s := S1x32x2x512) _ S1x1x2x512.size h).emb a = _
  funext d
  match d with
  | 0 => exact Fin.ext (by show 0 + 1 * (a 0).val = 0; omega)
  | 1 => exact Fin.ext (by show n + 1 * (a 1).val = n % 32; omega)
  | 2 => exact Fin.ext (by show 0 + 1 * (a 2).val = (a 2).val; omega)
  | 3 => exact Fin.ext (by show 0 + 1 * (a 3).val = (a 3).val; omega)

theorem qT_eq (i : grid0.Coords) (v : Memref sig .tc .vmem S16384x128 .bf16) (hv : v.IsWhole) (w : BitVec 32)
    (hw : w = 31#32) (x : Vec Ideal S16384x128 .bf16) (k : Fin (k0_t1_loop i w).trips)
    (h : ∀ a, k0_off4 i w k a + S512x128.size a ≤ S16384x128.size a) :
    qT (F := Ideal) i v w (hv.unread x) k h = rowsOf x ((i 1).val + 1 + k.val) := by
  unfold qT
  rw [View.readAt_eq_ld, hv.read_unread]
  exact ld_rows x _ _ (off4_row i w hw k) h

theorem lT_eq (i : grid0.Coords) (v : Memref sig .tc .vmem S1x32x2x512 .f32) (hv : v.IsWhole) (w : BitVec 32)
    (hw : w = 31#32) (x : Vec Ideal S1x32x2x512 .f32) (k : Fin (k0_t1_loop i w).trips)
    (h : ∀ a, k0_off5 i w k a + S1x1x2x512.size a ≤ S1x32x2x512.size a) :
    lT (F := Ideal) i v w (hv.unread x) k h = statOf x ((i 1).val + 1 + k.val) := by
  unfold lT
  rw [View.readAt_eq_ld, hv.read_unread]
  exact ld_stat x _ _ (off5_tile i w hw k) h

/-- No trips, no stores. -/
theorem t2_none (𝒱 : Variants) (c : Dev nD) (bd : Option 𝒱.V) (i : grid0.Coords) (arg2 : Memref sig .tc .smem S8x32 .i32) (harg2
    : arg2.IsWhole) (arg3 : Memref sig .tc .vmem S512x128 .bf16) (harg3 : arg3.IsWhole) (arg4 : Memref sig .tc .vmem
    S512x128 .bf16) (harg4 : arg4.IsWhole) (arg5 : Memref sig .tc .vmem S512x128 .f32) (harg5 : arg5.IsWhole) (arg6
    : Memref sig .tc .vmem S16384x128 .bf16) (harg6 : arg6.IsWhole) (arg7 : Memref sig .tc .vmem S16384x128 .bf16)
    (harg7 : arg7.IsWhole) (arg8 : Memref sig .tc .vmem S1x32x2x512 .f32) (harg8 : arg8.IsWhole) (arg9 : Memref sig
    .tc .vmem S1x32x2x512 .f32) (harg9 : arg9.IsWhole) (arg10 : Memref sig .tc .vmem S512x128 .bf16) (harg10 :
    arg10.IsWhole) (arg11 : Memref sig .tc .vmem S512x128 .bf16) (harg11 : arg11.IsWhole) (arg12 : Memref sig .tc
    .vmem S1x1x2x512 .f32) (harg12 : arg12.IsWhole) (arg13 : Memref sig .tc .vmem S512x128 .f32) (harg13 :
    arg13.IsWhole) (arg14 : Memref sig .tc .vmem S512x128 .f32) (harg14 : arg14.IsWhole) (arg15 : Memref sig .tc
    .vmem S2x512x128 .f32) (harg15 : arg15.IsWhole) (arg0 : BitVec 32) (arg1 : BitVec 32) (v6 : IVec S512x128 1) (v8
    : FVec Ideal S512x128 .bf16) (v9 : FVec Ideal S512x128 .bf16) (v10 : Vec Ideal S512x128 .bf16) (v11 : FVec Ideal
    S512x128 .bf16) (v24 : FVec Ideal S512x128 .f32) (v34 : FVec Ideal S512x128 .f32) (v204 : IVec S256x128 1) (v251
    : FVec Ideal S256x128 .f32) (v298 : FVec Ideal S256x128 .f32) (v305 : Vec Ideal S256x128 .f32) (v314 : Elt Ideal
    .i32) (k0_hw1 : k0_chk1 i v314) (v320 : BitVec 32) (X_arg6 : BufTy.Contents (Elt Ideal) arg6.view.ty) (X_arg7 :
    BufTy.Contents (Elt Ideal) arg7.view.ty) (X_arg8 : BufTy.Contents (Elt Ideal) arg8.view.ty) (X_arg9 :
    BufTy.Contents (Elt Ideal) arg9.view.ty) (G_arg13 : BufTy.Contents (Elt Ideal) arg13.view.ty) (G_arg14 :
    BufTy.Contents (Elt Ideal) arg14.view.ty) (G_arg15 : BufTy.Contents (Elt Ideal) arg15.view.ty)
    (n : ℕ) (hn : n = 0) :
    pb_k0_t2 (F := Ideal) 𝒱 c bd i arg2 harg2 arg3 harg3 arg4 harg4 arg5 harg5 arg6 harg6 arg7 harg7 arg8 harg8 arg9 harg9 arg10 harg10
      arg11 harg11 arg12 harg12 arg13 harg13 arg14 harg14 arg15 harg15 arg0 arg1 v6 v8 v9 v10 v11 v24 v34 v204 v251
      v298 v305 v314 k0_hw1 v320 X_arg6 X_arg7 X_arg8 X_arg9 G_arg13 G_arg14 G_arg15 n
    = ([], [], []) := by
  subst hn
  rfl

/-- Every trip's loads lie in their arrays. -/
theorem off4_fits (i : grid0.Coords) (w : BitVec 32) (hw : w = 31#32) (k : Fin (k0_t1_loop i w).trips) (a : Fin 2) :
    k0_off4 i w k a + S512x128.size a ≤ S16384x128.size a := by
  have hk : k.val < 31 - (i 1).val := lt_of_lt_of_eq k.isLt (trips_one i _ hw)
  rw [off4_row i w hw k]
  match a with
  | 0 => show 512 * ((i 1).val + 1 + k.val) + 512 ≤ 16384; omega
  | 1 => show 0 + 128 ≤ 128; omega

theorem off5_fits (i : grid0.Coords) (w : BitVec 32) (hw : w = 31#32) (k : Fin (k0_t1_loop i w).trips) (a : Fin 4) :
    k0_off5 i w k a + S1x1x2x512.size a ≤ S1x32x2x512.size a := by
  have hk : k.val < 31 - (i 1).val := lt_of_lt_of_eq k.isLt (trips_one i _ hw)
  rw [off5_tile i w hw k]
  match a with
  | 0 => show 0 + 1 ≤ 1; omega
  | 1 => show (i 1).val + 1 + k.val + 1 ≤ 32; omega
  | 2 => show 0 + 2 ≤ 2; omega
  | 3 => show 0 + 512 ≤ 512; omega

/-- The epilogues, at an index. -/
theorem pay148_apply (v : FVec Ideal S512x128 .f32) (r : Fin 512) (l : Fin 128) :
    k0_pay148 (F := Ideal) v (ix2 r l) = v (ix2 r l) * Scalar.ofBits (F := Ideal) .f32 0x3E000000#32 := by
  unfold k0_pay148
  pointwise

theorem pay149_apply (v : FVec Ideal S512x128 .f32) (r : Fin 512) (l : Fin 128) :
    k0_pay149 (F := Ideal) v (ix2 r l) = v (ix2 r l) := by
  unfold k0_pay149
  pointwise

/-- What was loaded of the zeros. -/
theorem ld_zero (r : Fin 256) (l : Fin 128) {o} (h) :
    View.ld (Val := Elt Ideal) (e' := .f32) (k0_pay69 (F := Ideal)) (Rect.unit (s := S512x128) o ![256, 128] h) (ix2 r l) = 0 := by
  show k0_pay69 (F := Ideal) _ = 0
  unfold k0_pay69
  exact Ideal.ofBits_zero_f32

theorem ld_zero' (r : Fin 256) (l : Fin 128) {o} (h) :
    View.ld (Val := Elt Ideal) (e' := .f32) (k0_pay68 (k0_pay67 (F := Ideal))) (Rect.unit (s := S512x128) o ![256, 128] h) (ix2 r l) = 0 := by
  show k0_pay68 (k0_pay67 (F := Ideal)) _ = 0
  unfold k0_pay68 k0_pay67
  pointwise

theorem ld_zero3 (r : Fin 256) (l : Fin 128) {o} (h) :
    View.ld (Val := Elt Ideal) (e' := .f32) (k0_pay70 (F := Ideal)) (Rect.unit (s := S2x512x128) o ![1, 256, 128] h) (ix3 0 r l) = 0 := by
  show k0_pay70 (F := Ideal) _ = 0
  unfold k0_pay70
  exact Ideal.ofBits_zero_f32

set_option maxHeartbeats 4000000 in
/-- The values' gradient at one grid point. -/
theorem body_dv (c : Dev nD) (i : grid0.Coords) (arg3 : Memref sig .tc .vmem S512x128 .bf16) (harg3 : arg3.IsWhole) (arg4 :
    Memref sig .tc .vmem S512x128 .bf16) (harg4 : arg4.IsWhole) (arg5 : Memref sig .tc .vmem S512x128 .f32) (harg5 :
    arg5.IsWhole) (arg6 : Memref sig .tc .vmem S16384x128 .bf16) (harg6 : arg6.IsWhole) (arg7 : Memref sig .tc .vmem
    S16384x128 .bf16) (harg7 : arg7.IsWhole) (arg8 : Memref sig .tc .vmem S1x32x2x512 .f32) (harg8 : arg8.IsWhole)
    (arg9 : Memref sig .tc .vmem S1x32x2x512 .f32) (harg9 : arg9.IsWhole) (arg10 : Memref sig .tc .vmem S512x128
    .bf16) (harg10 : arg10.IsWhole) (arg11 : Memref sig .tc .vmem S512x128 .bf16) (harg11 : arg11.IsWhole) (arg12 :
    Memref sig .tc .vmem S1x1x2x512 .f32) (harg12 : arg12.IsWhole) (arg13 : Memref sig .tc .vmem S512x128 .f32)
    (harg13 : arg13.IsWhole) (arg14 : Memref sig .tc .vmem S512x128 .f32) (harg14 : arg14.IsWhole) (arg15 : Memref
    sig .tc .vmem S2x512x128 .f32) (harg15 : arg15.IsWhole) (x0 : Vec Ideal S512x128 .bf16) (x1 : Vec Ideal S512x128
    .bf16) (x2 : Vec Ideal S512x128 .f32) (x3 : Vec Ideal S16384x128 .bf16) (x4 : Vec Ideal S16384x128 .bf16) (x5 :
    Vec Ideal S1x32x2x512 .f32) (x6 : Vec Ideal S1x32x2x512 .f32) (xt0 : TbBuf0 (F := Ideal) c tbM0_0) (k0_hw1 :
    k0_chk1 i (tbM0_0.view.readAt (Elt Ideal) (Rect.unit (s := S8x32) (k0_off3 i) S1x1.size (k0_off3_inb
    i)).toLoadRect xt0 (Shape.Idx.first (numel1_S1x1.symm ▸ Nat.one_pos))))
    (hW : tbM0_0.view.readAt (Elt Ideal) (Rect.unit (s := S8x32) (k0_off3 i) S1x1.size (k0_off3_inb i)).toLoadRect xt0
      (Shape.Idx.first (numel1_S1x1.symm ▸ Nat.one_pos)) = 31#32) (r : Fin 512) (l : Fin 128) :
    out0_A_8 c i arg3 harg3 arg4 harg4 arg5 harg5 arg6 harg6 arg7 harg7 arg8 harg8 arg9 harg9 arg10 harg10 arg11 harg11
      arg12 harg12 arg13 harg13 arg14 harg14 arg15 harg15 x0 x1 x2 x3 x4 x5 x6 xt0 k0_hw1 (ix2 r l)
    = (Scalar.select (k0_pay58 (ix2 r l)) (∑ q, weightD (k0_pay60 x0) (k0_pay65 i x2) (rowsOf x3 (i 1).val) (statOf x5 (i 1).val) 0 r q * (rowsOf x4 (i 1).val) (ix2 q l))
          (∑ q, weightD (k0_pay61 x0) (k0_pay66 i x2) (rowsOf x3 (i 1).val) (statOf x5 (i 1).val) 1 r q * (rowsOf x4 (i 1).val) (ix2 q l)))
      + (∑ t ∈ Finset.range (31 - (i 1).val), Scalar.select (k0_pay58 (ix2 r l)) (∑ q, weight (k0_pay60 x0) (k0_pay65 i x2) (rowsOf x3 ((i 1).val + 1 + t)) (statOf x5 ((i 1).val + 1 + t)) 0 r q * (rowsOf x4 ((i 1).val + 1 + t)) (ix2 q l))
          (∑ q, weight (k0_pay61 x0) (k0_pay66 i x2) (rowsOf x3 ((i 1).val + 1 + t)) (statOf x5 ((i 1).val + 1 + t)) 1 r q * (rowsOf x4 ((i 1).val + 1 + t)) (ix2 q l))) := by
  frame_open
  simp (disch := decide) only [↓ View.readCov_skip, ↓ View.readCov_cons_toLoadRect, ↓ View.readCov_fill]
  frame_out
  rw [t2_none]
  rotate_left
  · exact trips_two i _ hW
  rw [ld_rows x3 _ _ (off1_row i), ld_rows x4 _ _ (off1_row i), ld_stat x5 _ _ (off2_tile i), ld_stat x6 _ _ (off2_tile i)]
  rw [pay149_apply]
  rw [List.nil_append]
  refine (loop_dv
    (Qt := fun t => rowsOf x3 ((i 1).val + 1 + t)) (Dt := fun t => rowsOf x4 ((i 1).val + 1 + t))
    (Lt := fun t => statOf x5 ((i 1).val + 1 + t)) (Et := fun t => statOf x6 ((i 1).val + 1 + t)) (r := r) (l := l)
    (hq := ?_) (hl := ?_) (eQ := ?_) (eD := ?_) (eL := ?_) (eE := ?_) (n := _) (hn := ?_) ..).trans ?_
  · exact off4_fits i _ hW
  · exact off5_fits i _ hW
  · exact fun k => qT_eq i arg6 harg6 _ hW x3 k _
  · exact fun k => qT_eq i arg7 harg7 _ hW x4 k _
  · exact fun k => lT_eq i arg8 harg8 _ hW x5 k _
  · exact fun k => lT_eq i arg9 harg9 _ hW x6 k _
  · exact Nat.le_refl _
  · refine congrArg₂ (· + ·) ?_ (Finset.sum_congr (congrArg Finset.range (trips_one i _ hW)) fun _ _ => rfl)
    exact canon_spans _ _ _ (fun r l => Scalar.select (k0_pay58 (ix2 r l)) (∑ q, weightD (k0_pay60 x0) (k0_pay65 i x2) (rowsOf x3 (i 1).val) (statOf x5 (i 1).val) 0 r q * (rowsOf x4 (i 1).val) (ix2 q l))
          (∑ q, weightD (k0_pay61 x0) (k0_pay66 i x2) (rowsOf x3 (i 1).val) (statOf x5 (i 1).val) 1 r q * (rowsOf x4 (i 1).val) (ix2 q l)))
      (fun r l => (up_dv ..).trans ((congrArg (· + _) (ld_zero r l _)).trans (zero_add _)))
      (fun r l => (low_dv ..).trans ((congrArg (· + _) (ld_zero r l _)).trans (zero_add _))) r l

set_option maxHeartbeats 4000000 in
/-- The keys' gradient at one grid point. -/
theorem body_dk (c : Dev nD) (i : grid0.Coords) (arg3 : Memref sig .tc .vmem S512x128 .bf16) (harg3 : arg3.IsWhole) (arg4 :
    Memref sig .tc .vmem S512x128 .bf16) (harg4 : arg4.IsWhole) (arg5 : Memref sig .tc .vmem S512x128 .f32) (harg5 :
    arg5.IsWhole) (arg6 : Memref sig .tc .vmem S16384x128 .bf16) (harg6 : arg6.IsWhole) (arg7 : Memref sig .tc .vmem
    S16384x128 .bf16) (harg7 : arg7.IsWhole) (arg8 : Memref sig .tc .vmem S1x32x2x512 .f32) (harg8 : arg8.IsWhole)
    (arg9 : Memref sig .tc .vmem S1x32x2x512 .f32) (harg9 : arg9.IsWhole) (arg10 : Memref sig .tc .vmem S512x128
    .bf16) (harg10 : arg10.IsWhole) (arg11 : Memref sig .tc .vmem S512x128 .bf16) (harg11 : arg11.IsWhole) (arg12 :
    Memref sig .tc .vmem S1x1x2x512 .f32) (harg12 : arg12.IsWhole) (arg13 : Memref sig .tc .vmem S512x128 .f32)
    (harg13 : arg13.IsWhole) (arg14 : Memref sig .tc .vmem S512x128 .f32) (harg14 : arg14.IsWhole) (arg15 : Memref
    sig .tc .vmem S2x512x128 .f32) (harg15 : arg15.IsWhole) (x0 : Vec Ideal S512x128 .bf16) (x1 : Vec Ideal S512x128
    .bf16) (x2 : Vec Ideal S512x128 .f32) (x3 : Vec Ideal S16384x128 .bf16) (x4 : Vec Ideal S16384x128 .bf16) (x5 :
    Vec Ideal S1x32x2x512 .f32) (x6 : Vec Ideal S1x32x2x512 .f32) (xt0 : TbBuf0 (F := Ideal) c tbM0_0) (k0_hw1 :
    k0_chk1 i (tbM0_0.view.readAt (Elt Ideal) (Rect.unit (s := S8x32) (k0_off3 i) S1x1.size (k0_off3_inb
    i)).toLoadRect xt0 (Shape.Idx.first (numel1_S1x1.symm ▸ Nat.one_pos))))
    (hW : tbM0_0.view.readAt (Elt Ideal) (Rect.unit (s := S8x32) (k0_off3 i) S1x1.size (k0_off3_inb i)).toLoadRect xt0
      (Shape.Idx.first (numel1_S1x1.symm ▸ Nat.one_pos)) = 31#32) (r : Fin 512) (l : Fin 128) :
    out0_A_7 c i arg3 harg3 arg4 harg4 arg5 harg5 arg6 harg6 arg7 harg7 arg8 harg8 arg9 harg9 arg10 harg10 arg11 harg11
      arg12 harg12 arg13 harg13 arg14 harg14 arg15 harg15 x0 x1 x2 x3 x4 x5 x6 xt0 k0_hw1 (ix2 r l)
    = ((Scalar.select (k0_pay58 (ix2 r l)) (∑ q, gradD (k0_pay60 x0) (k0_pay62 x1) (k0_pay65 i x2) (rowsOf x3 (i 1).val) (rowsOf x4 (i 1).val) (statOf x5 (i 1).val) (statOf x6 (i 1).val) 0 r q * (rowsOf x3 (i 1).val) (ix2 q l))
          (∑ q, gradD (k0_pay61 x0) (k0_pay63 x1) (k0_pay66 i x2) (rowsOf x3 (i 1).val) (rowsOf x4 (i 1).val) (statOf x5 (i 1).val) (statOf x6 (i 1).val) 1 r q * (rowsOf x3 (i 1).val) (ix2 q l)))
      + (∑ t ∈ Finset.range (31 - (i 1).val), Scalar.select (k0_pay58 (ix2 r l)) (∑ q, grad (k0_pay60 x0) (k0_pay62 x1) (k0_pay65 i x2) (rowsOf x3 ((i 1).val + 1 + t)) (rowsOf x4 ((i 1).val + 1 + t)) (statOf x5 ((i 1).val + 1 + t)) (statOf x6 ((i 1).val + 1 + t)) 0 r q * (rowsOf x3 ((i 1).val + 1 + t)) (ix2 q l))
          (∑ q, grad (k0_pay61 x0) (k0_pay63 x1) (k0_pay66 i x2) (rowsOf x3 ((i 1).val + 1 + t)) (rowsOf x4 ((i 1).val + 1 + t)) (statOf x5 ((i 1).val + 1 + t)) (statOf x6 ((i 1).val + 1 + t)) 1 r q * (rowsOf x3 ((i 1).val + 1 + t)) (ix2 q l)))) * Scalar.ofBits (F := Ideal) .f32 0x3E000000#32 := by
  frame_open
  simp (disch := decide) only [↓ View.readCov_skip, ↓ View.readCov_cons_toLoadRect, ↓ View.readCov_fill]
  frame_out
  rw [t2_none]
  rotate_left
  · exact trips_two i _ hW
  rw [ld_rows x3 _ _ (off1_row i), ld_rows x4 _ _ (off1_row i), ld_stat x5 _ _ (off2_tile i), ld_stat x6 _ _ (off2_tile i)]
  rw [pay148_apply]
  refine congrArg (· * _) ?_
  rw [List.nil_append]
  refine (loop_dk
    (Qt := fun t => rowsOf x3 ((i 1).val + 1 + t)) (Dt := fun t => rowsOf x4 ((i 1).val + 1 + t))
    (Lt := fun t => statOf x5 ((i 1).val + 1 + t)) (Et := fun t => statOf x6 ((i 1).val + 1 + t)) (r := r) (l := l)
    (hq := ?_) (hl := ?_) (eQ := ?_) (eD := ?_) (eL := ?_) (eE := ?_) (n := _) (hn := ?_) ..).trans ?_
  · exact off4_fits i _ hW
  · exact off5_fits i _ hW
  · exact fun k => qT_eq i arg6 harg6 _ hW x3 k _
  · exact fun k => qT_eq i arg7 harg7 _ hW x4 k _
  · exact fun k => lT_eq i arg8 harg8 _ hW x5 k _
  · exact fun k => lT_eq i arg9 harg9 _ hW x6 k _
  · exact Nat.le_refl _
  · refine congrArg₂ (· + ·) ?_ (Finset.sum_congr (congrArg Finset.range (trips_one i _ hW)) fun _ _ => rfl)
    exact canon_spans _ _ _ (fun r l => Scalar.select (k0_pay58 (ix2 r l)) (∑ q, gradD (k0_pay60 x0) (k0_pay62 x1) (k0_pay65 i x2) (rowsOf x3 (i 1).val) (rowsOf x4 (i 1).val) (statOf x5 (i 1).val) (statOf x6 (i 1).val) 0 r q * (rowsOf x3 (i 1).val) (ix2 q l))
          (∑ q, gradD (k0_pay61 x0) (k0_pay63 x1) (k0_pay66 i x2) (rowsOf x3 (i 1).val) (rowsOf x4 (i 1).val) (statOf x5 (i 1).val) (statOf x6 (i 1).val) 1 r q * (rowsOf x3 (i 1).val) (ix2 q l)))
      (fun r l => (up_dk ..).trans ((congrArg (· + _) (ld_zero' r l _)).trans (zero_add _)))
      (fun r l => (low_dk ..).trans ((congrArg (· + _) (ld_zero' r l _)).trans (zero_add _))) r l

/-- The gate's epilogues: what is subtracted from zero is a sum over the lanes. -/
theorem pay150_apply (v : FVec Ideal S1x512x128 .f32) (r : Fin 512) :
    k0_pay1 (k0_pay150 (F := Ideal) v) (ix4 0 0 0 r) = 0 - ∑ l : Fin 128, v (ix3 0 r l) := by
  unfold k0_pay1 k0_pay150
  pointwise

theorem pay2_apply (v : FVec Ideal S1x512x128 .f32) (r : Fin 512) :
    k0_pay2 (F := Ideal) v (ix4 0 0 0 r) = 0 - ∑ l : Fin 128, v (ix3 0 r l) := by
  unfold k0_pay2
  pointwise

/-- The gate's block is its two heads' rows. -/
theorem canon_rows (u w : FVec Ideal S1x1x1x512 .f32) (r : Fin 512) :
    View.canon [(⟨Rect.unit (s := S1x1x2x512) ![0, 0, 1, 0] ![1, 1, 1, 512] inb_S1x1x2x512_S1x1x1x512_0_0_1_0, w⟩ :
        View.Piece (Elt Ideal) S1x1x2x512 .f32),
      (⟨Rect.unit (s := S1x1x2x512) ![0, 0, 0, 0] ![1, 1, 1, 512] inb_S1x1x2x512_S1x1x1x512_0_0_0_0, u⟩ :
        View.Piece (Elt Ideal) S1x1x2x512 .f32)] (ix4 0 0 0 r) = u (ix4 0 0 0 r) := by
  have h : (ix4 0 0 0 r : S1x1x2x512.Idx) ∉ (Rect.unit (s := S1x1x2x512) ![0, 0, 1, 0] ![1, 1, 1, 512]
      inb_S1x1x2x512_S1x1x1x512_0_0_1_0).set := fun h => Nat.not_succ_le_zero 0 ((Rect.mem_set_unit.1 h) 2).1
  have e : (Rect.unit (s := S1x1x2x512) ![0, 0, 0, 0] ![1, 1, 1, 512] inb_S1x1x2x512_S1x1x1x512_0_0_0_0).emb
      (ix4 0 0 0 r : S1x1x1x512.Idx) = (ix4 0 0 0 r : S1x1x2x512.Idx) := by blk_ext
  refine (View.canon_cons_of_not_mem (⟨Rect.unit (s := S1x1x2x512) ![0, 0, 1, 0] ![1, 1, 1, 512]
    inb_S1x1x2x512_S1x1x1x512_0_0_1_0, w⟩ : View.Piece (Elt Ideal) S1x1x2x512 .f32) _ h).trans ?_
  rw [← e]
  exact View.canon_cons_emb _ _ _ _

theorem canon_rows1 (w : FVec Ideal S1x1x1x512 .f32) (L : List (View.Piece (Elt Ideal) S1x1x2x512 .f32)) (r : Fin 512) :
    View.canon ((⟨Rect.unit (s := S1x1x2x512) ![0, 0, 1, 0] ![1, 1, 1, 512] inb_S1x1x2x512_S1x1x1x512_0_0_1_0, w⟩ :
        View.Piece (Elt Ideal) S1x1x2x512 .f32) :: L) (ix4 0 0 1 r) = w (ix4 0 0 0 r) := by
  have e : (Rect.unit (s := S1x1x2x512) ![0, 0, 1, 0] ![1, 1, 1, 512] inb_S1x1x2x512_S1x1x1x512_0_0_1_0).emb
      (ix4 0 0 0 r : S1x1x1x512.Idx) = (ix4 0 0 1 r : S1x1x2x512.Idx) := by blk_ext
  rw [← e]
  exact View.canon_cons_emb _ _ _ _

/-- A loaded slab of the gate's accumulator. -/
theorem ld_slab0 (X : S2x512x128.Idx → EReal) (r : Fin 512) (l : Fin 128) :
    View.ld (Val := Elt Ideal) (e' := .f32) X (Rect.unit (s := S2x512x128) ![0, 0, 0] ![1, 512, 128]
      inb_S2x512x128_S1x512x128_0_0_0) (ix3 0 r l) = X (ix3 0 r l) := by
  refine congrArg X ?_
  show (Rect.unit (s := S2x512x128) ![0, 0, 0] ![1, 512, 128] inb_S2x512x128_S1x512x128_0_0_0).emb
    (ix3 0 r l : S1x512x128.Idx) = (ix3 0 r l : S2x512x128.Idx)
  blk_ext

theorem ld_slab1 (X : S2x512x128.Idx → EReal) (r : Fin 512) (l : Fin 128) :
    View.ld (Val := Elt Ideal) (e' := .f32) X (Rect.unit (s := S2x512x128) ![1, 0, 0] ![1, 512, 128]
      inb_S2x512x128_S1x512x128_1_0_0) (ix3 0 r l) = X (ix3 1 r l) := by
  refine congrArg X ?_
  show (Rect.unit (s := S2x512x128) ![1, 0, 0] ![1, 512, 128] inb_S2x512x128_S1x512x128_1_0_0).emb
    (ix3 0 r l : S1x512x128.Idx) = (ix3 1 r l : S2x512x128.Idx)
  blk_ext

set_option maxHeartbeats 4000000 in
/-- The gate's gradient at one grid point, the pair's first head. -/
theorem body_dc0 (c : Dev nD) (i : grid0.Coords) (arg3 : Memref sig .tc .vmem S512x128 .bf16) (harg3 : arg3.IsWhole) (arg4 :
    Memref sig .tc .vmem S512x128 .bf16) (harg4 : arg4.IsWhole) (arg5 : Memref sig .tc .vmem S512x128 .f32) (harg5 :
    arg5.IsWhole) (arg6 : Memref sig .tc .vmem S16384x128 .bf16) (harg6 : arg6.IsWhole) (arg7 : Memref sig .tc .vmem
    S16384x128 .bf16) (harg7 : arg7.IsWhole) (arg8 : Memref sig .tc .vmem S1x32x2x512 .f32) (harg8 : arg8.IsWhole)
    (arg9 : Memref sig .tc .vmem S1x32x2x512 .f32) (harg9 : arg9.IsWhole) (arg10 : Memref sig .tc .vmem S512x128
    .bf16) (harg10 : arg10.IsWhole) (arg11 : Memref sig .tc .vmem S512x128 .bf16) (harg11 : arg11.IsWhole) (arg12 :
    Memref sig .tc .vmem S1x1x2x512 .f32) (harg12 : arg12.IsWhole) (arg13 : Memref sig .tc .vmem S512x128 .f32)
    (harg13 : arg13.IsWhole) (arg14 : Memref sig .tc .vmem S512x128 .f32) (harg14 : arg14.IsWhole) (arg15 : Memref
    sig .tc .vmem S2x512x128 .f32) (harg15 : arg15.IsWhole) (x0 : Vec Ideal S512x128 .bf16) (x1 : Vec Ideal S512x128
    .bf16) (x2 : Vec Ideal S512x128 .f32) (x3 : Vec Ideal S16384x128 .bf16) (x4 : Vec Ideal S16384x128 .bf16) (x5 :
    Vec Ideal S1x32x2x512 .f32) (x6 : Vec Ideal S1x32x2x512 .f32) (xt0 : TbBuf0 (F := Ideal) c tbM0_0) (k0_hw1 :
    k0_chk1 i (tbM0_0.view.readAt (Elt Ideal) (Rect.unit (s := S8x32) (k0_off3 i) S1x1.size (k0_off3_inb
    i)).toLoadRect xt0 (Shape.Idx.first (numel1_S1x1.symm ▸ Nat.one_pos))))
    (hW : tbM0_0.view.readAt (Elt Ideal) (Rect.unit (s := S8x32) (k0_off3 i) S1x1.size (k0_off3_inb i)).toLoadRect xt0
      (Shape.Idx.first (numel1_S1x1.symm ▸ Nat.one_pos)) = 31#32) (r : Fin 512) :
    out0_A_9 c i arg3 harg3 arg4 harg4 arg5 harg5 arg6 harg6 arg7 harg7 arg8 harg8 arg9 harg9 arg10 harg10 arg11 harg11
      arg12 harg12 arg13 harg13 arg14 harg14 arg15 harg15 x0 x1 x2 x3 x4 x5 x6 xt0 k0_hw1 (ix4 0 0 0 r)
    = 0 - ∑ l, ((lanes (gradD (k0_pay60 x0) (k0_pay62 x1) (k0_pay65 i x2) (rowsOf x3 (i 1).val) (rowsOf x4 (i 1).val) (statOf x5 (i 1).val) (statOf x6 (i 1).val) 0 r) l)
      + (∑ t ∈ Finset.range (31 - (i 1).val), lanes (grad (k0_pay60 x0) (k0_pay62 x1) (k0_pay65 i x2) (rowsOf x3 ((i 1).val + 1 + t)) (rowsOf x4 ((i 1).val + 1 + t)) (statOf x5 ((i 1).val + 1 + t)) (statOf x6 ((i 1).val + 1 + t)) 0 r) l)) := by
  frame_open
  simp (disch := decide) only [↓ View.readCov_skip, ↓ View.readCov_cons_toLoadRect, ↓ View.readCov_fill]
  frame_out
  rw [t2_none]
  rotate_left
  · exact trips_two i _ hW
  rw [ld_rows x3 _ _ (off1_row i), ld_rows x4 _ _ (off1_row i), ld_stat x5 _ _ (off2_tile i), ld_stat x6 _ _ (off2_tile i)]
  refine (canon_rows _ _ r).trans ((pay150_apply _ r).trans (congrArg (0 - ·) (Finset.sum_congr rfl fun l _ => (ld_slab0 _ r l).trans ?_)))
  rw [List.nil_append]
  refine (loop_dc0
    (Qt := fun t => rowsOf x3 ((i 1).val + 1 + t)) (Dt := fun t => rowsOf x4 ((i 1).val + 1 + t))
    (Lt := fun t => statOf x5 ((i 1).val + 1 + t)) (Et := fun t => statOf x6 ((i 1).val + 1 + t)) (r := r) (l := l)
    (hq := ?_) (hl := ?_) (eQ := ?_) (eD := ?_) (eL := ?_) (eE := ?_) (n := _) (hn := ?_) ..).trans ?_
  · exact off4_fits i _ hW
  · exact off5_fits i _ hW
  · exact fun k => qT_eq i arg6 harg6 _ hW x3 k _
  · exact fun k => qT_eq i arg7 harg7 _ hW x4 k _
  · exact fun k => lT_eq i arg8 harg8 _ hW x5 k _
  · exact fun k => lT_eq i arg9 harg9 _ hW x6 k _
  · exact Nat.le_refl _
  · refine congrArg₂ (· + ·) ?_ (Finset.sum_congr (congrArg Finset.range (trips_one i _ hW)) fun _ _ => rfl)
    exact canon_slabs _ _ _ _ _ (fun j r l => if j = 0 then lanes (gradD (k0_pay60 x0) (k0_pay62 x1) (k0_pay65 i x2) (rowsOf x3 (i 1).val) (rowsOf x4 (i 1).val) (statOf x5 (i 1).val) (statOf x6 (i 1).val) 0 r) l else lanes (gradD (k0_pay61 x0) (k0_pay63 x1) (k0_pay66 i x2) (rowsOf x3 (i 1).val) (rowsOf x4 (i 1).val) (statOf x5 (i 1).val) (statOf x6 (i 1).val) 1 r) l)
      (fun r l => (up_dc0 ..).trans ((congrArg (· + _) (ld_zero3 r l _)).trans (zero_add _)))
      (fun r l => (low_dc0 ..).trans ((congrArg (· + _) (ld_zero3 r l _)).trans (zero_add _)))
      (fun r l => (up_dc1 ..).trans ((congrArg (· + _) (ld_zero3 r l _)).trans (zero_add _)))
      (fun r l => (low_dc1 ..).trans ((congrArg (· + _) (ld_zero3 r l _)).trans (zero_add _))) 0 r l

set_option maxHeartbeats 4000000 in
/-- The gate's gradient at one grid point, the pair's second head. -/
theorem body_dc1 (c : Dev nD) (i : grid0.Coords) (arg3 : Memref sig .tc .vmem S512x128 .bf16) (harg3 : arg3.IsWhole) (arg4 :
    Memref sig .tc .vmem S512x128 .bf16) (harg4 : arg4.IsWhole) (arg5 : Memref sig .tc .vmem S512x128 .f32) (harg5 :
    arg5.IsWhole) (arg6 : Memref sig .tc .vmem S16384x128 .bf16) (harg6 : arg6.IsWhole) (arg7 : Memref sig .tc .vmem
    S16384x128 .bf16) (harg7 : arg7.IsWhole) (arg8 : Memref sig .tc .vmem S1x32x2x512 .f32) (harg8 : arg8.IsWhole)
    (arg9 : Memref sig .tc .vmem S1x32x2x512 .f32) (harg9 : arg9.IsWhole) (arg10 : Memref sig .tc .vmem S512x128
    .bf16) (harg10 : arg10.IsWhole) (arg11 : Memref sig .tc .vmem S512x128 .bf16) (harg11 : arg11.IsWhole) (arg12 :
    Memref sig .tc .vmem S1x1x2x512 .f32) (harg12 : arg12.IsWhole) (arg13 : Memref sig .tc .vmem S512x128 .f32)
    (harg13 : arg13.IsWhole) (arg14 : Memref sig .tc .vmem S512x128 .f32) (harg14 : arg14.IsWhole) (arg15 : Memref
    sig .tc .vmem S2x512x128 .f32) (harg15 : arg15.IsWhole) (x0 : Vec Ideal S512x128 .bf16) (x1 : Vec Ideal S512x128
    .bf16) (x2 : Vec Ideal S512x128 .f32) (x3 : Vec Ideal S16384x128 .bf16) (x4 : Vec Ideal S16384x128 .bf16) (x5 :
    Vec Ideal S1x32x2x512 .f32) (x6 : Vec Ideal S1x32x2x512 .f32) (xt0 : TbBuf0 (F := Ideal) c tbM0_0) (k0_hw1 :
    k0_chk1 i (tbM0_0.view.readAt (Elt Ideal) (Rect.unit (s := S8x32) (k0_off3 i) S1x1.size (k0_off3_inb
    i)).toLoadRect xt0 (Shape.Idx.first (numel1_S1x1.symm ▸ Nat.one_pos))))
    (hW : tbM0_0.view.readAt (Elt Ideal) (Rect.unit (s := S8x32) (k0_off3 i) S1x1.size (k0_off3_inb i)).toLoadRect xt0
      (Shape.Idx.first (numel1_S1x1.symm ▸ Nat.one_pos)) = 31#32) (r : Fin 512) :
    out0_A_9 c i arg3 harg3 arg4 harg4 arg5 harg5 arg6 harg6 arg7 harg7 arg8 harg8 arg9 harg9 arg10 harg10 arg11 harg11
      arg12 harg12 arg13 harg13 arg14 harg14 arg15 harg15 x0 x1 x2 x3 x4 x5 x6 xt0 k0_hw1 (ix4 0 0 1 r)
    = 0 - ∑ l, ((lanes (gradD (k0_pay61 x0) (k0_pay63 x1) (k0_pay66 i x2) (rowsOf x3 (i 1).val) (rowsOf x4 (i 1).val) (statOf x5 (i 1).val) (statOf x6 (i 1).val) 1 r) l)
      + (∑ t ∈ Finset.range (31 - (i 1).val), lanes (grad (k0_pay61 x0) (k0_pay63 x1) (k0_pay66 i x2) (rowsOf x3 ((i 1).val + 1 + t)) (rowsOf x4 ((i 1).val + 1 + t)) (statOf x5 ((i 1).val + 1 + t)) (statOf x6 ((i 1).val + 1 + t)) 1 r) l)) := by
  frame_open
  simp (disch := decide) only [↓ View.readCov_skip, ↓ View.readCov_cons_toLoadRect, ↓ View.readCov_fill]
  frame_out
  rw [t2_none]
  rotate_left
  · exact trips_two i _ hW
  rw [ld_rows x3 _ _ (off1_row i), ld_rows x4 _ _ (off1_row i), ld_stat x5 _ _ (off2_tile i), ld_stat x6 _ _ (off2_tile i)]
  refine (canon_rows1 _ _ r).trans ((pay2_apply _ r).trans (congrArg (0 - ·) (Finset.sum_congr rfl fun l _ => (ld_slab1 _ r l).trans ?_)))
  rw [List.nil_append]
  refine (loop_dc1
    (Qt := fun t => rowsOf x3 ((i 1).val + 1 + t)) (Dt := fun t => rowsOf x4 ((i 1).val + 1 + t))
    (Lt := fun t => statOf x5 ((i 1).val + 1 + t)) (Et := fun t => statOf x6 ((i 1).val + 1 + t)) (r := r) (l := l)
    (hq := ?_) (hl := ?_) (eQ := ?_) (eD := ?_) (eL := ?_) (eE := ?_) (n := _) (hn := ?_) ..).trans ?_
  · exact off4_fits i _ hW
  · exact off5_fits i _ hW
  · exact fun k => qT_eq i arg6 harg6 _ hW x3 k _
  · exact fun k => qT_eq i arg7 harg7 _ hW x4 k _
  · exact fun k => lT_eq i arg8 harg8 _ hW x5 k _
  · exact fun k => lT_eq i arg9 harg9 _ hW x6 k _
  · exact Nat.le_refl _
  · refine congrArg₂ (· + ·) ?_ (Finset.sum_congr (congrArg Finset.range (trips_one i _ hW)) fun _ _ => rfl)
    exact canon_slabs _ _ _ _ _ (fun j r l => if j = 0 then lanes (gradD (k0_pay60 x0) (k0_pay62 x1) (k0_pay65 i x2) (rowsOf x3 (i 1).val) (rowsOf x4 (i 1).val) (statOf x5 (i 1).val) (statOf x6 (i 1).val) 0 r) l else lanes (gradD (k0_pay61 x0) (k0_pay63 x1) (k0_pay66 i x2) (rowsOf x3 (i 1).val) (rowsOf x4 (i 1).val) (statOf x5 (i 1).val) (statOf x6 (i 1).val) 1 r) l)
      (fun r l => (up_dc0 ..).trans ((congrArg (· + _) (ld_zero3 r l _)).trans (zero_add _)))
      (fun r l => (low_dc0 ..).trans ((congrArg (· + _) (ld_zero3 r l _)).trans (zero_add _)))
      (fun r l => (up_dc1 ..).trans ((congrArg (· + _) (ld_zero3 r l _)).trans (zero_add _)))
      (fun r l => (low_dc1 ..).trans ((congrArg (· + _) (ld_zero3 r l _)).trans (zero_add _))) 1 r l

end Cert.KernelIdeal.Dkv
-- ==== Proof.Heads.lean ====
module

public import proofs.«01_k».proof.Proof.Block

/-!
# The pair's two heads apart

Head `j` of a pair owns lanes `64 j, …, 64 j + 63`; the masked products are sums over these lanes only, and the tiles'
sums are one sum over the queries from the key on.
-/

@[expose] public section

set_option maxRecDepth 16384

noncomputable section

namespace Cert.KernelIdeal.Dkv

open Idealize.ShloMosaic Idealize.ShloMosaic.TcCoe Cert.KernelIdeal.Gen Idealize.ShloMosaic.Tactic

/-- Lane `d` of the pair's head `j`. -/
def laneOf (j : Fin 2) (d : Fin 64) : Fin 128 := ⟨64 * j.val + d.val, by omega⟩

/-- The scale 1/8. -/
abbrev eighth : EReal := Ideal.ofBits .bf16 0x3E00#16

theorem slt_lane (l : Fin 128) : IntOp.cmpi CmpIPredicate.slt (BitVec.ofNat 32 l.val) 64#32 = if l.val < 64 then 1#1 else 0#1 := by
  revert l; decide +kernel

/-- The mask selects the first head on its own lanes. -/
theorem select_lane (l : Fin 128) (a b : EReal) :
    Scalar.select (IntOp.cmpi CmpIPredicate.slt (BitVec.ofNat 32 l.val) 64#32) a b = if l.val < 64 then a else b := by
  rw [slt_lane]
  split <;> rfl

theorem select_pay58 (r : Fin 512) (l : Fin 128) (a b : EReal) :
    Scalar.select (k0_pay58 (ix2 r l)) a b = if l.val < 64 then a else b := by
  rw [← select_lane]
  unfold k0_pay58
  pointwise

theorem pay60_apply (x : Vec Ideal S512x128 .bf16) (r : Fin 512) (l : Fin 128) :
    k0_pay60 (F := Ideal) x (ix2 r l) = if l.val < 64 then x (ix2 r l) * eighth else 0 := by
  rw [← select_lane]
  unfold_payloads
  pointwise

theorem pay61_apply (x : Vec Ideal S512x128 .bf16) (r : Fin 512) (l : Fin 128) :
    k0_pay61 (F := Ideal) x (ix2 r l) = if l.val < 64 then 0 else x (ix2 r l) * eighth := by
  rw [← select_lane]
  unfold_payloads
  pointwise

theorem pay62_apply (x : Vec Ideal S512x128 .bf16) (r : Fin 512) (l : Fin 128) :
    (k0_pay62 (F := Ideal) x (ix2 r l) : EReal) = if l.val < 64 then x (ix2 r l) else 0 := by
  rw [← select_lane]
  unfold_payloads
  pointwise

theorem pay63_apply (x : Vec Ideal S512x128 .bf16) (r : Fin 512) (l : Fin 128) :
    k0_pay63 (F := Ideal) x (ix2 r l) = if l.val < 64 then 0 else x (ix2 r l) := by
  rw [← select_lane]
  unfold_payloads
  pointwise

/-- A sum over the lanes is the two heads' sums. -/
theorem sum_lanes (f : Fin 128 → EReal) : ∑ l, f l = ∑ d, f (laneOf 0 d) + ∑ d, f (laneOf 1 d) := by
  have e : (128 : ℕ) = 64 + 64 := rfl
  calc ∑ l, f l = ∑ l : Fin (64 + 64), f (Fin.cast e.symm l) := rfl
    _ = _ := by
      rw [Fin.sum_univ_add]
      exact congrArg₂ (· + ·) (Finset.sum_congr rfl fun d _ => congrArg f (Fin.ext (by simp [laneOf])))
        (Finset.sum_congr rfl fun d _ => congrArg f (Fin.ext (by simp [laneOf, Nat.add_comm])))

/-- The product of a key row with a query row, over the lanes of head `j`. -/
def headDot (j : Fin 2) (K Q : Fin 128 → EReal) : EReal := ∑ d, K (laneOf j d) * Q (laneOf j d)

theorem dot_of (K : FVec Ideal S512x128 .bf16) (Q : FVec Ideal S512x128 .bf16) (r q : Fin 512) (j : Fin 2)
    (X : Fin 128 → EReal) (h : ∀ d, K (ix2 r (laneOf j d)) = X (laneOf j d))
    (h0 : ∀ i d, i ≠ j → K (ix2 r (laneOf i d)) = 0) :
    dot K Q r q = headDot j X (fun l => Q (ix2 q l)) := by
  unfold dot headDot
  rw [sum_lanes]
  match j with
  | 0 =>
    rw [Finset.sum_congr rfl fun d _ => by rw [h d],
      Finset.sum_eq_zero (s := Finset.univ) (f := fun d => K (ix2 r (laneOf 1 d)) * Q (ix2 q (laneOf 1 d)))
        fun d _ => by rw [h0 1 d (by decide), zero_mul], add_zero]
  | 1 =>
    rw [Finset.sum_congr (s₁ := Finset.univ) (f := fun d => K (ix2 r (laneOf 1 d)) * Q (ix2 q (laneOf 1 d))) rfl fun d _ => by rw [h d],
      Finset.sum_eq_zero (s := Finset.univ) (f := fun d => K (ix2 r (laneOf 0 d)) * Q (ix2 q (laneOf 0 d)))
        fun d _ => by rw [h0 0 d (by decide), zero_mul], zero_add]

theorem lane_lt (d : Fin 64) : (laneOf 0 d).val < 64 := by simp [laneOf]
theorem lane_ge (d : Fin 64) : ¬ (laneOf 1 d).val < 64 := by simp [laneOf]

theorem dot_60 (x : Vec Ideal S512x128 .bf16) (Q : FVec Ideal S512x128 .bf16) (r q : Fin 512) :
    dot (k0_pay60 (F := Ideal) x) Q r q = headDot 0 (fun l => x (ix2 r l) * eighth) (fun l => Q (ix2 q l)) :=
  dot_of _ Q r q 0 _ (fun d => (pay60_apply x r _).trans (if_pos (lane_lt d)))
    (fun i d h => by
      obtain rfl : i = 1 := by omega
      exact (pay60_apply x r _).trans (if_neg (lane_ge d)))

theorem dot_61 (x : Vec Ideal S512x128 .bf16) (Q : FVec Ideal S512x128 .bf16) (r q : Fin 512) :
    dot (k0_pay61 (F := Ideal) x) Q r q = headDot 1 (fun l => x (ix2 r l) * eighth) (fun l => Q (ix2 q l)) :=
  dot_of _ Q r q 1 _ (fun d => (pay61_apply x r _).trans (if_neg (lane_ge d)))
    (fun i d h => by
      obtain rfl : i = 0 := by omega
      exact (pay61_apply x r _).trans (if_pos (lane_lt d)))

theorem dot_62 (x : Vec Ideal S512x128 .bf16) (Q : FVec Ideal S512x128 .bf16) (r q : Fin 512) :
    dot (k0_pay62 (F := Ideal) x) Q r q = headDot 0 (fun l => x (ix2 r l)) (fun l => Q (ix2 q l)) :=
  dot_of _ Q r q 0 _ (fun d => (pay62_apply x r _).trans (if_pos (lane_lt d)))
    (fun i d h => by
      obtain rfl : i = 1 := by omega
      exact (pay62_apply x r _).trans (if_neg (lane_ge d)))

theorem dot_63 (x : Vec Ideal S512x128 .bf16) (Q : FVec Ideal S512x128 .bf16) (r q : Fin 512) :
    dot (k0_pay63 (F := Ideal) x) Q r q = headDot 1 (fun l => x (ix2 r l)) (fun l => Q (ix2 q l)) :=
  dot_of _ Q r q 1 _ (fun d => (pay63_apply x r _).trans (if_neg (lane_ge d)))
    (fun i d h => by
      obtain rfl : i = 0 := by omega
      exact (pay63_apply x r _).trans (if_pos (lane_lt d)))

/-- The gate's lane of head `j` of pair `p`. -/
def gateLane (p : Fin 8) (j : Fin 2) : Fin 128 := ⟨2 * p.val + j.val, by omega⟩

theorem eq_gate (j : Fin 2) (p : Fin 8) (x : Fin 128) :
    IntOp.cmpi CmpIPredicate.eq (BitVec.ofNat 32 x.val)
      (Scalar.addi (Scalar.muli (2#32) (BitVec.ofNat 32 p.val)) (BitVec.ofNat 32 j.val))
    = if x = gateLane p j then 1#1 else 0#1 := by
  revert j p x; decide +kernel

theorem sum_gate (j : Fin 2) (p : Fin 8) (f : Fin 128 → EReal) :
    ∑ x : Fin 128, Scalar.select (IntOp.cmpi CmpIPredicate.eq (BitVec.ofNat 32 x.val)
      (Scalar.addi (Scalar.muli (2#32) (BitVec.ofNat 32 p.val)) (BitVec.ofNat 32 j.val))) (f x) 0 = f (gateLane p j) := by
  rw [Finset.sum_eq_single (gateLane p j)]
  · rw [eq_gate, if_pos rfl]; rfl
  · intro x _ h
    rw [eq_gate, if_neg h]; rfl
  · exact fun h => absurd (Finset.mem_univ _) h

theorem pay65_apply (i : grid0.Coords) (x : Vec Ideal S512x128 .f32) (r : Fin 512) (l : Fin 128) :
    k0_pay65 (F := Ideal) i x (ix2 r l) = x (ix2 r (gateLane (i 0) 0)) := by
  refine Eq.trans ?_ (sum_gate 0 (i 0) fun l => x (ix2 r l))
  unfold_payloads
  pointwise

theorem pay66_apply (i : grid0.Coords) (x : Vec Ideal S512x128 .f32) (r : Fin 512) (l : Fin 128) :
    k0_pay66 (F := Ideal) i x (ix2 r l) = x (ix2 r (gateLane (i 0) 1)) := by
  refine Eq.trans ?_ (sum_gate 1 (i 0) fun l => x (ix2 r l))
  unfold_payloads
  pointwise

/-- The four lane blocks' sums are one sum over the tile's queries. -/
theorem sum_blocks (f : Fin 512 → EReal) : ∑ l, lanes f l = ∑ q, f q := by
  have e : (512 : ℕ) = 128 + (128 + (128 + 128)) := rfl
  symm
  calc ∑ q, f q = ∑ q : Fin (128 + (128 + (128 + 128))), f (Fin.cast e.symm q) := rfl
    _ = _ := by
      unfold lanes
      rw [Fin.sum_univ_add, Fin.sum_univ_add, Fin.sum_univ_add, Finset.sum_add_distrib, Finset.sum_add_distrib,
        Finset.sum_add_distrib, add_assoc, add_assoc]
      refine congrArg₂ (· + ·) ?_ (congrArg₂ (· + ·) ?_ (congrArg₂ (· + ·) ?_ ?_))
      · rfl
      · rfl
      · exact Finset.sum_congr rfl fun l _ => congrArg f (Fin.ext (by simp; omega))
      · exact Finset.sum_congr rfl fun l _ => congrArg f (Fin.ext (by simp; omega))

/-- The tiles' sums as one sum: the diagonal tile's queries from row `r` on, then the later tiles' queries. -/
theorem sum_tiles (kb : ℕ) (hk : kb < 32) (r : Fin 512) (f : ℕ → EReal) :
    (∑ q : Fin 512, if r.val ≤ q.val then f (512 * kb + q.val) else 0)
      + ∑ t ∈ Finset.range (31 - kb), ∑ q : Fin 512, f (512 * (kb + 1 + t) + q.val)
    = ∑ q : Fin 16384, if 512 * kb + r.val ≤ q.val then f q.val else 0 := by
  have h1 : ∑ q : Fin 16384, (if 512 * kb + r.val ≤ q.val then f q.val else 0)
      = ∑ n ∈ Finset.range 32, ∑ q : Fin 512, if 512 * kb + r.val ≤ 512 * n + q.val then f (512 * n + q.val) else 0 := by
    rw [Fin.sum_univ_eq_sum_range (fun q => if 512 * kb + r.val ≤ q then f q else 0) 16384]
    rw [show (16384 : ℕ) = 32 * 512 from rfl, Finset.sum_range_mul_split]
    simp only [Nat.mul_comm _ 512]
    refine Finset.sum_congr rfl fun n _ => ?_
    rw [Fin.sum_univ_eq_sum_range (fun q => if 512 * kb + r.val ≤ 512 * n + q then f (512 * n + q) else 0) 512]
  have hs : (32 : ℕ) = kb + (1 + (31 - kb)) := by omega
  rw [h1, hs, Finset.sum_range_add, Finset.sum_range_add, Finset.sum_range_one]
  rw [Finset.sum_eq_zero fun n hn => Finset.sum_eq_zero fun q _ => if_neg (by
    have := Finset.mem_range.1 hn; omega), zero_add]
  refine congrArg₂ (· + ·) ?_ ?_
  · refine Finset.sum_congr rfl fun q _ => ?_
    simp only [Nat.add_zero, Nat.add_le_add_iff_left]
  · refine Finset.sum_congr rfl fun t _ => Finset.sum_congr rfl fun q _ => ?_
    rw [if_pos (by omega), ← add_assoc]

end Cert.KernelIdeal.Dkv
-- ==== Proof.Point.lean ====
module

public import proofs.«01_k».proof.Proof.Heads

/-!
# One grid point, by heads

The three results of a grid point, each entry as one sum over the queries from the key on.
-/

@[expose] public section

set_option maxRecDepth 16384

noncomputable section

namespace Cert.KernelIdeal.Dkv

open Idealize.ShloMosaic Idealize.ShloMosaic.TcCoe Cert.KernelIdeal.Gen Idealize.ShloMosaic.Tactic

/-- Query `q`, its tile, and its place in the tile. -/
def qRow (q : ℕ) : Fin 16384 := ⟨q % 16384, Nat.mod_lt _ (by decide)⟩
def qTile (q : ℕ) : Fin 32 := ⟨q / 512 % 32, Nat.mod_lt _ (by decide)⟩
def qLane (q : ℕ) : Fin 512 := ⟨q % 512, Nat.mod_lt _ (by decide)⟩

theorem rowsOf_apply (x : Vec Ideal S16384x128 .bf16) (n : ℕ) (q : Fin 512) (l : Fin 128) :
    rowsOf x n (ix2 q l) = x (ix2 (qRow (512 * n + q.val)) l) := rfl

theorem statOf_apply (x : Vec Ideal S1x32x2x512 .f32) (n : ℕ) (j : Fin 2) (q : Fin 512) :
    statOf x n (ix4 0 0 j q) = x (ix4 0 (qTile (512 * n + q.val)) j (qLane (512 * n + q.val))) := by
  have e1 : qTile (512 * n + q.val) = ⟨n % 32, Nat.mod_lt _ (by decide)⟩ := Fin.ext (by
    show (512 * n + q.val) / 512 % 32 = n % 32
    omega)
  have e2 : qLane (512 * n + q.val) = q := Fin.ext (by
    show (512 * n + q.val) % 512 = q.val
    omega)
  rw [e1, e2]
  rfl

section

variable (p : Fin 8) (x0 x1 : Vec Ideal S512x128 .bf16) (x2 : Vec Ideal S512x128 .f32) (x3 x4 : Vec Ideal S16384x128 .bf16)
  (x5 x6 : Vec Ideal S1x32x2x512 .f32) (j : Fin 2) (r : Fin 512)

/-- The attention weight of key row `r` for query `q`, head `j` of the pair. -/
def pointW (q : ℕ) : EReal :=
  Ideal.exp (headDot j (fun l => x0 (ix2 r l) * eighth) (fun l => x3 (ix2 (qRow q) l)) - x2 (ix2 r (gateLane p j))
    - x5 (ix4 0 (qTile q) j (qLane q)))

/-- The gradient of the logit. -/
def pointG (q : ℕ) : EReal :=
  pointW p x0 x2 x3 x5 j r q
    * (headDot j (fun l => x1 (ix2 r l)) (fun l => x4 (ix2 (qRow q) l)) - x6 (ix4 0 (qTile q) j (qLane q)))

end

section

variable (i : grid0.Coords) (x0 x1 : Vec Ideal S512x128 .bf16) (x2 : Vec Ideal S512x128 .f32) (x3 x4 : Vec Ideal S16384x128 .bf16)
  (x5 x6 : Vec Ideal S1x32x2x512 .f32) (n : ℕ) (r q : Fin 512)

theorem weight_0 : weight (k0_pay60 x0) (k0_pay65 i x2) (rowsOf x3 n) (statOf x5 n) 0 r q
    = pointW (i 0) x0 x2 x3 x5 0 r (512 * n + q.val) := by
  unfold weight pointW
  rw [dot_60, pay65_apply, statOf_apply]
  rfl

theorem weight_1 : weight (k0_pay61 x0) (k0_pay66 i x2) (rowsOf x3 n) (statOf x5 n) 1 r q
    = pointW (i 0) x0 x2 x3 x5 1 r (512 * n + q.val) := by
  unfold weight pointW
  rw [dot_61, pay66_apply, statOf_apply]
  rfl

theorem grad_0 : grad (k0_pay60 x0) (k0_pay62 x1) (k0_pay65 i x2) (rowsOf x3 n) (rowsOf x4 n) (statOf x5 n) (statOf x6 n) 0 r q
    = pointG (i 0) x0 x1 x2 x3 x4 x5 x6 0 r (512 * n + q.val) := by
  unfold grad slope pointG
  rw [weight_0, dot_62, statOf_apply]
  rfl

theorem grad_1 : grad (k0_pay61 x0) (k0_pay63 x1) (k0_pay66 i x2) (rowsOf x3 n) (rowsOf x4 n) (statOf x5 n) (statOf x6 n) 1 r q
    = pointG (i 0) x0 x1 x2 x3 x4 x5 x6 1 r (512 * n + q.val) := by
  unfold grad slope pointG
  rw [weight_1, dot_63, statOf_apply]
  rfl

theorem weightD_eq (K : FVec Ideal S512x128 .bf16) (C : FVec Ideal S512x128 .f32) (Q : FVec Ideal S512x128 .bf16)
    (L : FVec Ideal S1x1x2x512 .f32) (j : Fin 2) :
    weightD K C Q L j r q = if r.val ≤ q.val then weight K C Q L j r q else 0 := rfl

theorem gradD_eq (K V : FVec Ideal S512x128 .bf16) (C : FVec Ideal S512x128 .f32) (Q D : FVec Ideal S512x128 .bf16)
    (L E : FVec Ideal S1x1x2x512 .f32) (j : Fin 2) :
    gradD K V C Q D L E j r q = if r.val ≤ q.val then grad K V C Q D L E j r q else 0 := by
  unfold gradD grad weightD
  split
  · rfl
  · exact zero_mul _

end

theorem ite_mul_zero (P : Prop) [Decidable P] (a b : EReal) : (if P then a else 0) * b = if P then a * b else 0 := by
  split
  · rfl
  · exact zero_mul _

/-- The values' gradient. -/
theorem point_dv (c : Dev nD) (i : grid0.Coords) (arg3 : Memref sig .tc .vmem S512x128 .bf16) (harg3 : arg3.IsWhole) (arg4 :
    Memref sig .tc .vmem S512x128 .bf16) (harg4 : arg4.IsWhole) (arg5 : Memref sig .tc .vmem S512x128 .f32) (harg5 :
    arg5.IsWhole) (arg6 : Memref sig .tc .vmem S16384x128 .bf16) (harg6 : arg6.IsWhole) (arg7 : Memref sig .tc .vmem
    S16384x128 .bf16) (harg7 : arg7.IsWhole) (arg8 : Memref sig .tc .vmem S1x32x2x512 .f32) (harg8 : arg8.IsWhole)
    (arg9 : Memref sig .tc .vmem S1x32x2x512 .f32) (harg9 : arg9.IsWhole) (arg10 : Memref sig .tc .vmem S512x128
    .bf16) (harg10 : arg10.IsWhole) (arg11 : Memref sig .tc .vmem S512x128 .bf16) (harg11 : arg11.IsWhole) (arg12 :
    Memref sig .tc .vmem S1x1x2x512 .f32) (harg12 : arg12.IsWhole) (arg13 : Memref sig .tc .vmem S512x128 .f32)
    (harg13 : arg13.IsWhole) (arg14 : Memref sig .tc .vmem S512x128 .f32) (harg14 : arg14.IsWhole) (arg15 : Memref
    sig .tc .vmem S2x512x128 .f32) (harg15 : arg15.IsWhole) (x0 : Vec Ideal S512x128 .bf16) (x1 : Vec Ideal S512x128
    .bf16) (x2 : Vec Ideal S512x128 .f32) (x3 : Vec Ideal S16384x128 .bf16) (x4 : Vec Ideal S16384x128 .bf16) (x5 :
    Vec Ideal S1x32x2x512 .f32) (x6 : Vec Ideal S1x32x2x512 .f32) (xt0 : TbBuf0 (F := Ideal) c tbM0_0) (k0_hw1 :
    k0_chk1 i (tbM0_0.view.readAt (Elt Ideal) (Rect.unit (s := S8x32) (k0_off3 i) S1x1.size (k0_off3_inb
    i)).toLoadRect xt0 (Shape.Idx.first (numel1_S1x1.symm ▸ Nat.one_pos))))
    (hW : tbM0_0.view.readAt (Elt Ideal) (Rect.unit (s := S8x32) (k0_off3 i) S1x1.size (k0_off3_inb i)).toLoadRect xt0
      (Shape.Idx.first (numel1_S1x1.symm ▸ Nat.one_pos)) = 31#32) (j : Fin 2) (r : Fin 512) (d : Fin 64) :
    (out0_A_8 c i arg3 harg3 arg4 harg4 arg5 harg5 arg6 harg6 arg7 harg7 arg8 harg8 arg9 harg9 arg10 harg10 arg11 harg11
      arg12 harg12 arg13 harg13 arg14 harg14 arg15 harg15 x0 x1 x2 x3 x4 x5 x6 xt0 k0_hw1 (ix2 r (laneOf j d)) : EReal)
    = ∑ q : Fin 16384, if 512 * (i 1).val + r.val ≤ q.val then pointW (i 0) x0 x2 x3 x5 j r q.val * x4 (ix2 (qRow q.val) (laneOf j d)) else 0 := by
  refine (body_dv c i arg3 harg3 arg4 harg4 arg5 harg5 arg6 harg6 arg7 harg7 arg8 harg8 arg9 harg9 arg10 harg10 arg11 harg11 arg12
    harg12 arg13 harg13 arg14 harg14 arg15 harg15 x0 x1 x2 x3 x4 x5 x6 xt0 k0_hw1 hW r (laneOf j d)).trans ?_
  match j with
  | 0 =>
    simp only [select_pay58]
    rw [if_pos (lane_lt d), Finset.sum_congr rfl fun t _ => if_pos (lane_lt d)]
    refine Eq.trans (congrArg₂ (· + ·) (Finset.sum_congr rfl fun q _ => ?_) (Finset.sum_congr rfl fun t _ => Finset.sum_congr rfl fun q _ => ?_))
      (sum_tiles (i 1).val (i 1).isLt r fun q => pointW (i 0) x0 x2 x3 x5 0 r q * x4 (ix2 (qRow q) (laneOf 0 d)))
    · rw [weightD_eq, ite_mul_zero, weight_0]; rfl
    · rw [weight_0]; rfl
  | 1 =>
    simp only [select_pay58]
    rw [if_neg (lane_ge d), Finset.sum_congr rfl fun t _ => if_neg (lane_ge d)]
    refine Eq.trans (congrArg₂ (· + ·) (Finset.sum_congr rfl fun q _ => ?_) (Finset.sum_congr rfl fun t _ => Finset.sum_congr rfl fun q _ => ?_))
      (sum_tiles (i 1).val (i 1).isLt r fun q => pointW (i 0) x0 x2 x3 x5 1 r q * x4 (ix2 (qRow q) (laneOf 1 d)))
    · rw [weightD_eq, ite_mul_zero, weight_1]; rfl
    · rw [weight_1]; rfl

/-- The keys' gradient. -/
theorem point_dk (c : Dev nD) (i : grid0.Coords) (arg3 : Memref sig .tc .vmem S512x128 .bf16) (harg3 : arg3.IsWhole) (arg4 :
    Memref sig .tc .vmem S512x128 .bf16) (harg4 : arg4.IsWhole) (arg5 : Memref sig .tc .vmem S512x128 .f32) (harg5 :
    arg5.IsWhole) (arg6 : Memref sig .tc .vmem S16384x128 .bf16) (harg6 : arg6.IsWhole) (arg7 : Memref sig .tc .vmem
    S16384x128 .bf16) (harg7 : arg7.IsWhole) (arg8 : Memref sig .tc .vmem S1x32x2x512 .f32) (harg8 : arg8.IsWhole)
    (arg9 : Memref sig .tc .vmem S1x32x2x512 .f32) (harg9 : arg9.IsWhole) (arg10 : Memref sig .tc .vmem S512x128
    .bf16) (harg10 : arg10.IsWhole) (arg11 : Memref sig .tc .vmem S512x128 .bf16) (harg11 : arg11.IsWhole) (arg12 :
    Memref sig .tc .vmem S1x1x2x512 .f32) (harg12 : arg12.IsWhole) (arg13 : Memref sig .tc .vmem S512x128 .f32)
    (harg13 : arg13.IsWhole) (arg14 : Memref sig .tc .vmem S512x128 .f32) (harg14 : arg14.IsWhole) (arg15 : Memref
    sig .tc .vmem S2x512x128 .f32) (harg15 : arg15.IsWhole) (x0 : Vec Ideal S512x128 .bf16) (x1 : Vec Ideal S512x128
    .bf16) (x2 : Vec Ideal S512x128 .f32) (x3 : Vec Ideal S16384x128 .bf16) (x4 : Vec Ideal S16384x128 .bf16) (x5 :
    Vec Ideal S1x32x2x512 .f32) (x6 : Vec Ideal S1x32x2x512 .f32) (xt0 : TbBuf0 (F := Ideal) c tbM0_0) (k0_hw1 :
    k0_chk1 i (tbM0_0.view.readAt (Elt Ideal) (Rect.unit (s := S8x32) (k0_off3 i) S1x1.size (k0_off3_inb
    i)).toLoadRect xt0 (Shape.Idx.first (numel1_S1x1.symm ▸ Nat.one_pos))))
    (hW : tbM0_0.view.readAt (Elt Ideal) (Rect.unit (s := S8x32) (k0_off3 i) S1x1.size (k0_off3_inb i)).toLoadRect xt0
      (Shape.Idx.first (numel1_S1x1.symm ▸ Nat.one_pos)) = 31#32) (j : Fin 2) (r : Fin 512) (d : Fin 64) :
    (out0_A_7 c i arg3 harg3 arg4 harg4 arg5 harg5 arg6 harg6 arg7 harg7 arg8 harg8 arg9 harg9 arg10 harg10 arg11 harg11
      arg12 harg12 arg13 harg13 arg14 harg14 arg15 harg15 x0 x1 x2 x3 x4 x5 x6 xt0 k0_hw1 (ix2 r (laneOf j d)) : EReal)
    = (∑ q : Fin 16384, if 512 * (i 1).val + r.val ≤ q.val then pointG (i 0) x0 x1 x2 x3 x4 x5 x6 j r q.val * x3 (ix2 (qRow q.val) (laneOf j d)) else 0)
      * Scalar.ofBits (F := Ideal) .f32 0x3E000000#32 := by
  refine (body_dk c i arg3 harg3 arg4 harg4 arg5 harg5 arg6 harg6 arg7 harg7 arg8 harg8 arg9 harg9 arg10 harg10 arg11 harg11 arg12
    harg12 arg13 harg13 arg14 harg14 arg15 harg15 x0 x1 x2 x3 x4 x5 x6 xt0 k0_hw1 hW r (laneOf j d)).trans (congrArg (· * _) ?_)
  match j with
  | 0 =>
    simp only [select_pay58]
    rw [if_pos (lane_lt d), Finset.sum_congr rfl fun t _ => if_pos (lane_lt d)]
    refine Eq.trans (congrArg₂ (· + ·) (Finset.sum_congr rfl fun q _ => ?_) (Finset.sum_congr rfl fun t _ => Finset.sum_congr rfl fun q _ => ?_))
      (sum_tiles (i 1).val (i 1).isLt r fun q => pointG (i 0) x0 x1 x2 x3 x4 x5 x6 0 r q * x3 (ix2 (qRow q) (laneOf 0 d)))
    · rw [gradD_eq, ite_mul_zero, grad_0]; rfl
    · rw [grad_0]; rfl
  | 1 =>
    simp only [select_pay58]
    rw [if_neg (lane_ge d), Finset.sum_congr rfl fun t _ => if_neg (lane_ge d)]
    refine Eq.trans (congrArg₂ (· + ·) (Finset.sum_congr rfl fun q _ => ?_) (Finset.sum_congr rfl fun t _ => Finset.sum_congr rfl fun q _ => ?_))
      (sum_tiles (i 1).val (i 1).isLt r fun q => pointG (i 0) x0 x1 x2 x3 x4 x5 x6 1 r q * x3 (ix2 (qRow q) (laneOf 1 d)))
    · rw [gradD_eq, ite_mul_zero, grad_1]; rfl
    · rw [grad_1]; rfl

/-- The gate's gradient. -/
theorem point_dc (c : Dev nD) (i : grid0.Coords) (arg3 : Memref sig .tc .vmem S512x128 .bf16) (harg3 : arg3.IsWhole) (arg4 :
    Memref sig .tc .vmem S512x128 .bf16) (harg4 : arg4.IsWhole) (arg5 : Memref sig .tc .vmem S512x128 .f32) (harg5 :
    arg5.IsWhole) (arg6 : Memref sig .tc .vmem S16384x128 .bf16) (harg6 : arg6.IsWhole) (arg7 : Memref sig .tc .vmem
    S16384x128 .bf16) (harg7 : arg7.IsWhole) (arg8 : Memref sig .tc .vmem S1x32x2x512 .f32) (harg8 : arg8.IsWhole)
    (arg9 : Memref sig .tc .vmem S1x32x2x512 .f32) (harg9 : arg9.IsWhole) (arg10 : Memref sig .tc .vmem S512x128
    .bf16) (harg10 : arg10.IsWhole) (arg11 : Memref sig .tc .vmem S512x128 .bf16) (harg11 : arg11.IsWhole) (arg12 :
    Memref sig .tc .vmem S1x1x2x512 .f32) (harg12 : arg12.IsWhole) (arg13 : Memref sig .tc .vmem S512x128 .f32)
    (harg13 : arg13.IsWhole) (arg14 : Memref sig .tc .vmem S512x128 .f32) (harg14 : arg14.IsWhole) (arg15 : Memref
    sig .tc .vmem S2x512x128 .f32) (harg15 : arg15.IsWhole) (x0 : Vec Ideal S512x128 .bf16) (x1 : Vec Ideal S512x128
    .bf16) (x2 : Vec Ideal S512x128 .f32) (x3 : Vec Ideal S16384x128 .bf16) (x4 : Vec Ideal S16384x128 .bf16) (x5 :
    Vec Ideal S1x32x2x512 .f32) (x6 : Vec Ideal S1x32x2x512 .f32) (xt0 : TbBuf0 (F := Ideal) c tbM0_0) (k0_hw1 :
    k0_chk1 i (tbM0_0.view.readAt (Elt Ideal) (Rect.unit (s := S8x32) (k0_off3 i) S1x1.size (k0_off3_inb
    i)).toLoadRect xt0 (Shape.Idx.first (numel1_S1x1.symm ▸ Nat.one_pos))))
    (hW : tbM0_0.view.readAt (Elt Ideal) (Rect.unit (s := S8x32) (k0_off3 i) S1x1.size (k0_off3_inb i)).toLoadRect xt0
      (Shape.Idx.first (numel1_S1x1.symm ▸ Nat.one_pos)) = 31#32) (j : Fin 2) (r : Fin 512) :
    (out0_A_9 c i arg3 harg3 arg4 harg4 arg5 harg5 arg6 harg6 arg7 harg7 arg8 harg8 arg9 harg9 arg10 harg10 arg11 harg11
      arg12 harg12 arg13 harg13 arg14 harg14 arg15 harg15 x0 x1 x2 x3 x4 x5 x6 xt0 k0_hw1 (ix4 0 0 j r) : EReal)
    = 0 - ∑ q : Fin 16384, if 512 * (i 1).val + r.val ≤ q.val then pointG (i 0) x0 x1 x2 x3 x4 x5 x6 j r q.val else 0 := by
  match j with
  | 0 =>
    refine (body_dc0 c i arg3 harg3 arg4 harg4 arg5 harg5 arg6 harg6 arg7 harg7 arg8 harg8 arg9 harg9 arg10 harg10 arg11 harg11 arg12
    harg12 arg13 harg13 arg14 harg14 arg15 harg15 x0 x1 x2 x3 x4 x5 x6 xt0 k0_hw1 hW r).trans (congrArg (0 - ·) ?_)
    rw [Finset.sum_add_distrib, Finset.sum_comm, sum_blocks, Finset.sum_congr rfl fun t _ => sum_blocks _]
    refine Eq.trans (congrArg₂ (· + ·) (Finset.sum_congr rfl fun q _ => ?_) (Finset.sum_congr rfl fun t _ => Finset.sum_congr rfl fun q _ => ?_))
      (sum_tiles (i 1).val (i 1).isLt r fun q => pointG (i 0) x0 x1 x2 x3 x4 x5 x6 0 r q)
    · rw [gradD_eq, grad_0]
    · rw [grad_0]
  | 1 =>
    refine (body_dc1 c i arg3 harg3 arg4 harg4 arg5 harg5 arg6 harg6 arg7 harg7 arg8 harg8 arg9 harg9 arg10 harg10 arg11 harg11 arg12
    harg12 arg13 harg13 arg14 harg14 arg15 harg15 x0 x1 x2 x3 x4 x5 x6 xt0 k0_hw1 hW r).trans (congrArg (0 - ·) ?_)
    rw [Finset.sum_add_distrib, Finset.sum_comm, sum_blocks, Finset.sum_congr rfl fun t _ => sum_blocks _]
    refine Eq.trans (congrArg₂ (· + ·) (Finset.sum_congr rfl fun q _ => ?_) (Finset.sum_congr rfl fun t _ => Finset.sum_congr rfl fun q _ => ?_))
      (sum_tiles (i 1).val (i 1).isLt r fun q => pointG (i 0) x0 x1 x2 x3 x4 x5 x6 1 r q)
    · rw [gradD_eq, grad_1]
    · rw [grad_1]

end Cert.KernelIdeal.Dkv
-- ==== Proof.Places.lean ====
module

public import proofs.«01_k».proof.Proof.Tables
public import proofs.«01_k».proof.Proof.Tile
public import proofs.«01_k».proof.Proof.Gen.KernelIdeal.Frame
public import Idealize.ShloMosaic.Lib.Pipeline.ValueKit

/-!
# The blocks' places in their arrays

Grid point `t` is the pair of heads `pair t` and the key block `keyBlock t`; each window's block, at its indices.
-/

@[expose] public section

set_option maxRecDepth 16384

noncomputable section

namespace Cert.KernelIdeal.Dkv

open Idealize.ShloMosaic Idealize.ShloMosaic.TcCoe Cert.KernelIdeal.Gen Idealize.ShloMosaic.Tactic

variable (m : (ℓ : Loc nD τ sig) → Buf (Elt Ideal) ℓ)

/-- The point's pair of heads. -/
def pair (i : grid0.Coords) : Fin 8 := i 0

/-- The point's block of keys. -/
def keyBlock (i : grid0.Coords) : Fin 32 := i 1

/-- Row `r` of block `b` of 512 rows. -/
def row (b : Fin 32) (r : Fin 512) : Fin 16384 := ⟨512 * b.val + r.val, by omega⟩

/-- Lane `l` of pair `p` among 1024 columns. -/
def col (p : Fin 8) (l : Fin 128) : Fin 1024 := ⟨128 * p.val + l.val, by omega⟩

/-- The columns of the packed projections: queries, keys, values. -/
def qCol (p : Fin 8) (l : Fin 128) : Fin 3072 := ⟨128 * p.val + l.val, by omega⟩
def kCol (p : Fin 8) (l : Fin 128) : Fin 3072 := ⟨1024 + (128 * p.val + l.val), by omega⟩
def vCol (p : Fin 8) (l : Fin 128) : Fin 3072 := ⟨2048 + (128 * p.val + l.val), by omega⟩

theorem idx_ext {S : Shape} (x y : S.Idx) (h : ∀ a, (x a).val = (y a).val) : x = y := funext fun a => Fin.ext (h a)

theorem word8 (a : Fin 8) : (BitVec.ofNat 32 a.val).toNat = a.val := by revert a; decide +kernel
theorem word32 (a : Fin 32) : (BitVec.ofNat 32 a.val).toNat = a.val := by revert a; decide +kernel
theorem word8k (a : Fin 8) : (Scalar.addi (8#32) (BitVec.ofNat 32 a.val)).toNat = 8 + a.val := by
  revert a; decide +kernel
theorem word8v (a : Fin 8) : (Scalar.addi (16#32) (BitVec.ofNat 32 a.val)).toNat = 16 + a.val := by
  revert a; decide +kernel

theorem emb0 (t : Fin (cfgM m (ok m)).N) (r : Fin 512) (l : Fin 128) :
    ((((cfgM m (ok m)).win 0).blk t).view.emb (ix2 r l) : S16384x3072.Idx)
      = ix2 (row (keyBlock (grid0.coords t)) r) (kCol (pair (grid0.coords t)) l) :=
  idx_ext _ _ fun (a : Fin 2) => match a with
  | 0 => by
    show cc0_transform_0 (grid0.coords t) 0 * 512 + 1 * r.val = 512 * (keyBlock (grid0.coords t)).val + r.val
    have h : cc0_transform_0 (grid0.coords t) 0 = (keyBlock (grid0.coords t)).val := word32 (keyBlock (grid0.coords t))
    rw [h]
    omega
  | 1 => by
    show cc0_transform_0 (grid0.coords t) 1 * 128 + 1 * l.val = 1024 + (128 * (pair (grid0.coords t)).val + l.val)
    have h : cc0_transform_0 (grid0.coords t) 1 = 8 + (pair (grid0.coords t)).val := word8k (pair (grid0.coords t))
    rw [h]
    omega

theorem read0 (c : Dev nD) (X : (b : Ref sig .tc) → Buf (Elt Ideal) ((c : Thread nD τ).loc b))
    (t : Fin (cfgM m (ok m)).N) (r : Fin 512) (l : Fin 128) :
    ((((cfgM m (ok m)).win 0).blk t).view.read (Elt Ideal) (X (Pipeline.arrRef spec0 0)) (ix2 r l) : EReal)
      = X main_arg0 (ix2 (row (keyBlock (grid0.coords t)) r) (kCol (pair (grid0.coords t)) l)) :=
  congrArg (X main_arg0) (emb0 m t r l)

theorem block0 (c : Dev nD) (t : Fin (cfgM m (ok m)).N) (r : Fin 512) (l : Fin 128) :
    (iblk m (ok m) c 0 t (ix2 r l) : EReal) = V m c main_arg0 (ix2 (row (keyBlock (grid0.coords t)) r) (kCol (pair (grid0.coords t)) l)) :=
  read0 m c (V m c) t r l

theorem emb1 (t : Fin (cfgM m (ok m)).N) (r : Fin 512) (l : Fin 128) :
    ((((cfgM m (ok m)).win 1).blk t).view.emb (ix2 r l) : S16384x3072.Idx)
      = ix2 (row (keyBlock (grid0.coords t)) r) (vCol (pair (grid0.coords t)) l) :=
  idx_ext _ _ fun (a : Fin 2) => match a with
  | 0 => by
    show cc0_transform_1 (grid0.coords t) 0 * 512 + 1 * r.val = 512 * (keyBlock (grid0.coords t)).val + r.val
    have h : cc0_transform_1 (grid0.coords t) 0 = (keyBlock (grid0.coords t)).val := word32 (keyBlock (grid0.coords t))
    rw [h]
    omega
  | 1 => by
    show cc0_transform_1 (grid0.coords t) 1 * 128 + 1 * l.val = 2048 + (128 * (pair (grid0.coords t)).val + l.val)
    have h : cc0_transform_1 (grid0.coords t) 1 = 16 + (pair (grid0.coords t)).val := word8v (pair (grid0.coords t))
    rw [h]
    omega

theorem read1 (c : Dev nD) (X : (b : Ref sig .tc) → Buf (Elt Ideal) ((c : Thread nD τ).loc b))
    (t : Fin (cfgM m (ok m)).N) (r : Fin 512) (l : Fin 128) :
    ((((cfgM m (ok m)).win 1).blk t).view.read (Elt Ideal) (X (Pipeline.arrRef spec0 1)) (ix2 r l) : EReal)
      = X main_arg0 (ix2 (row (keyBlock (grid0.coords t)) r) (vCol (pair (grid0.coords t)) l)) :=
  congrArg (X main_arg0) (emb1 m t r l)

theorem block1 (c : Dev nD) (t : Fin (cfgM m (ok m)).N) (r : Fin 512) (l : Fin 128) :
    (iblk m (ok m) c 1 t (ix2 r l) : EReal) = V m c main_arg0 (ix2 (row (keyBlock (grid0.coords t)) r) (vCol (pair (grid0.coords t)) l)) :=
  read1 m c (V m c) t r l

theorem emb2 (t : Fin (cfgM m (ok m)).N) (r : Fin 512) (l : Fin 128) :
    ((((cfgM m (ok m)).win 2).blk t).view.emb (ix2 r l) : S16384x128.Idx)
      = ix2 (row (keyBlock (grid0.coords t)) r) l :=
  idx_ext _ _ fun (a : Fin 2) => match a with
  | 0 => by
    show cc0_transform_2 (grid0.coords t) 0 * 512 + 1 * r.val = 512 * (keyBlock (grid0.coords t)).val + r.val
    have h : cc0_transform_2 (grid0.coords t) 0 = (keyBlock (grid0.coords t)).val := word32 (keyBlock (grid0.coords t))
    rw [h]
    omega
  | 1 => by
    show cc0_transform_2 (grid0.coords t) 1 * 128 + 1 * l.val = l.val
    have h : cc0_transform_2 (grid0.coords t) 1 = 0 := rfl
    rw [h]
    omega

theorem read2 (c : Dev nD) (X : (b : Ref sig .tc) → Buf (Elt Ideal) ((c : Thread nD τ).loc b))
    (t : Fin (cfgM m (ok m)).N) (r : Fin 512) (l : Fin 128) :
    ((((cfgM m (ok m)).win 2).blk t).view.read (Elt Ideal) (X (Pipeline.arrRef spec0 2)) (ix2 r l) : EReal)
      = X main_v44 (ix2 (row (keyBlock (grid0.coords t)) r) l) :=
  congrArg (X main_v44) (emb2 m t r l)

theorem block2 (c : Dev nD) (t : Fin (cfgM m (ok m)).N) (r : Fin 512) (l : Fin 128) :
    (iblk m (ok m) c 2 t (ix2 r l) : EReal) = V m c main_v44 (ix2 (row (keyBlock (grid0.coords t)) r) l) :=
  read2 m c (V m c) t r l

theorem emb3 (t : Fin (cfgM m (ok m)).N) (r : Fin 16384) (l : Fin 128) :
    ((((cfgM m (ok m)).win 3).blk t).view.emb (ix2 r l) : S16384x3072.Idx)
      = ix2 r (qCol (pair (grid0.coords t)) l) :=
  idx_ext _ _ fun (a : Fin 2) => match a with
  | 0 => by
    show cc0_transform_3 (grid0.coords t) 0 * 16384 + 1 * r.val = r.val
    have h : cc0_transform_3 (grid0.coords t) 0 = 0 := rfl
    rw [h]
    omega
  | 1 => by
    show cc0_transform_3 (grid0.coords t) 1 * 128 + 1 * l.val = 128 * (pair (grid0.coords t)).val + l.val
    have h : cc0_transform_3 (grid0.coords t) 1 = (pair (grid0.coords t)).val := word8 (pair (grid0.coords t))
    rw [h]
    omega

theorem read3 (c : Dev nD) (X : (b : Ref sig .tc) → Buf (Elt Ideal) ((c : Thread nD τ).loc b))
    (t : Fin (cfgM m (ok m)).N) (r : Fin 16384) (l : Fin 128) :
    ((((cfgM m (ok m)).win 3).blk t).view.read (Elt Ideal) (X (Pipeline.arrRef spec0 3)) (ix2 r l) : EReal)
      = X main_arg0 (ix2 r (qCol (pair (grid0.coords t)) l)) :=
  congrArg (X main_arg0) (emb3 m t r l)

theorem block3 (c : Dev nD) (t : Fin (cfgM m (ok m)).N) (r : Fin 16384) (l : Fin 128) :
    (iblk m (ok m) c 3 t (ix2 r l) : EReal) = V m c main_arg0 (ix2 r (qCol (pair (grid0.coords t)) l)) :=
  read3 m c (V m c) t r l

theorem emb4 (t : Fin (cfgM m (ok m)).N) (r : Fin 16384) (l : Fin 128) :
    ((((cfgM m (ok m)).win 4).blk t).view.emb (ix2 r l) : S16384x1024.Idx)
      = ix2 r (col (pair (grid0.coords t)) l) :=
  idx_ext _ _ fun (a : Fin 2) => match a with
  | 0 => by
    show cc0_transform_4 (grid0.coords t) 0 * 16384 + 1 * r.val = r.val
    have h : cc0_transform_4 (grid0.coords t) 0 = 0 := rfl
    rw [h]
    omega
  | 1 => by
    show cc0_transform_4 (grid0.coords t) 1 * 128 + 1 * l.val = 128 * (pair (grid0.coords t)).val + l.val
    have h : cc0_transform_4 (grid0.coords t) 1 = (pair (grid0.coords t)).val := word8 (pair (grid0.coords t))
    rw [h]
    omega

theorem read4 (c : Dev nD) (X : (b : Ref sig .tc) → Buf (Elt Ideal) ((c : Thread nD τ).loc b))
    (t : Fin (cfgM m (ok m)).N) (r : Fin 16384) (l : Fin 128) :
    ((((cfgM m (ok m)).win 4).blk t).view.read (Elt Ideal) (X (Pipeline.arrRef spec0 4)) (ix2 r l) : EReal)
      = X main_arg2 (ix2 r (col (pair (grid0.coords t)) l)) :=
  congrArg (X main_arg2) (emb4 m t r l)

theorem block4 (c : Dev nD) (t : Fin (cfgM m (ok m)).N) (r : Fin 16384) (l : Fin 128) :
    (iblk m (ok m) c 4 t (ix2 r l) : EReal) = V m c main_arg2 (ix2 r (col (pair (grid0.coords t)) l)) :=
  read4 m c (V m c) t r l

theorem emb5 (t : Fin (cfgM m (ok m)).N) (n : Fin 32) (j : Fin 2) (r : Fin 512) :
    ((((cfgM m (ok m)).win 5).blk t).view.emb (ix4 0 n j r) : S8x32x2x512.Idx)
      = ix4 (pair (grid0.coords t)) n j r :=
  idx_ext _ _ fun (a : Fin 4) => match a with
  | 0 => by
    show cc0_transform_5 (grid0.coords t) 0 * 1 + 1 * 0 = (pair (grid0.coords t)).val
    have h : cc0_transform_5 (grid0.coords t) 0 = (pair (grid0.coords t)).val := word8 (pair (grid0.coords t))
    rw [h]
    omega
  | 1 => by
    show cc0_transform_5 (grid0.coords t) 1 * 32 + 1 * n.val = n.val
    have h : cc0_transform_5 (grid0.coords t) 1 = 0 := rfl
    rw [h]
    omega
  | 2 => by
    show cc0_transform_5 (grid0.coords t) 2 * 2 + 1 * j.val = j.val
    have h : cc0_transform_5 (grid0.coords t) 2 = 0 := rfl
    rw [h]
    omega
  | 3 => by
    show cc0_transform_5 (grid0.coords t) 3 * 512 + 1 * r.val = r.val
    have h : cc0_transform_5 (grid0.coords t) 3 = 0 := rfl
    rw [h]
    omega

theorem read5 (c : Dev nD) (X : (b : Ref sig .tc) → Buf (Elt Ideal) ((c : Thread nD τ).loc b))
    (t : Fin (cfgM m (ok m)).N) (n : Fin 32) (j : Fin 2) (r : Fin 512) :
    ((((cfgM m (ok m)).win 5).blk t).view.read (Elt Ideal) (X (Pipeline.arrRef spec0 5)) (ix4 0 n j r) : EReal)
      = X main_v46 (ix4 (pair (grid0.coords t)) n j r) :=
  congrArg (X main_v46) (emb5 m t n j r)

theorem block5 (c : Dev nD) (t : Fin (cfgM m (ok m)).N) (n : Fin 32) (j : Fin 2) (r : Fin 512) :
    (iblk m (ok m) c 5 t (ix4 0 n j r) : EReal) = V m c main_v46 (ix4 (pair (grid0.coords t)) n j r) :=
  read5 m c (V m c) t n j r

theorem emb6 (t : Fin (cfgM m (ok m)).N) (n : Fin 32) (j : Fin 2) (r : Fin 512) :
    ((((cfgM m (ok m)).win 6).blk t).view.emb (ix4 0 n j r) : S8x32x2x512.Idx)
      = ix4 (pair (grid0.coords t)) n j r :=
  idx_ext _ _ fun (a : Fin 4) => match a with
  | 0 => by
    show cc0_transform_6 (grid0.coords t) 0 * 1 + 1 * 0 = (pair (grid0.coords t)).val
    have h : cc0_transform_6 (grid0.coords t) 0 = (pair (grid0.coords t)).val := word8 (pair (grid0.coords t))
    rw [h]
    omega
  | 1 => by
    show cc0_transform_6 (grid0.coords t) 1 * 32 + 1 * n.val = n.val
    have h : cc0_transform_6 (grid0.coords t) 1 = 0 := rfl
    rw [h]
    omega
  | 2 => by
    show cc0_transform_6 (grid0.coords t) 2 * 2 + 1 * j.val = j.val
    have h : cc0_transform_6 (grid0.coords t) 2 = 0 := rfl
    rw [h]
    omega
  | 3 => by
    show cc0_transform_6 (grid0.coords t) 3 * 512 + 1 * r.val = r.val
    have h : cc0_transform_6 (grid0.coords t) 3 = 0 := rfl
    rw [h]
    omega

theorem read6 (c : Dev nD) (X : (b : Ref sig .tc) → Buf (Elt Ideal) ((c : Thread nD τ).loc b))
    (t : Fin (cfgM m (ok m)).N) (n : Fin 32) (j : Fin 2) (r : Fin 512) :
    ((((cfgM m (ok m)).win 6).blk t).view.read (Elt Ideal) (X (Pipeline.arrRef spec0 6)) (ix4 0 n j r) : EReal)
      = X main_v48 (ix4 (pair (grid0.coords t)) n j r) :=
  congrArg (X main_v48) (emb6 m t n j r)

theorem block6 (c : Dev nD) (t : Fin (cfgM m (ok m)).N) (n : Fin 32) (j : Fin 2) (r : Fin 512) :
    (iblk m (ok m) c 6 t (ix4 0 n j r) : EReal) = V m c main_v48 (ix4 (pair (grid0.coords t)) n j r) :=
  read6 m c (V m c) t n j r

theorem emb7 (t : Fin (cfgM m (ok m)).N) (r : Fin 512) (l : Fin 128) :
    ((((cfgM m (ok m)).win 7).blk t).view.emb (ix2 r l) : S16384x1024.Idx)
      = ix2 (row (keyBlock (grid0.coords t)) r) (col (pair (grid0.coords t)) l) :=
  idx_ext _ _ fun (a : Fin 2) => match a with
  | 0 => by
    show cc0_transform_7 (grid0.coords t) 0 * 512 + 1 * r.val = 512 * (keyBlock (grid0.coords t)).val + r.val
    have h : cc0_transform_7 (grid0.coords t) 0 = (keyBlock (grid0.coords t)).val := word32 (keyBlock (grid0.coords t))
    rw [h]
    omega
  | 1 => by
    show cc0_transform_7 (grid0.coords t) 1 * 128 + 1 * l.val = 128 * (pair (grid0.coords t)).val + l.val
    have h : cc0_transform_7 (grid0.coords t) 1 = (pair (grid0.coords t)).val := word8 (pair (grid0.coords t))
    rw [h]
    omega

theorem emb8 (t : Fin (cfgM m (ok m)).N) (r : Fin 512) (l : Fin 128) :
    ((((cfgM m (ok m)).win 8).blk t).view.emb (ix2 r l) : S16384x1024.Idx)
      = ix2 (row (keyBlock (grid0.coords t)) r) (col (pair (grid0.coords t)) l) :=
  idx_ext _ _ fun (a : Fin 2) => match a with
  | 0 => by
    show cc0_transform_8 (grid0.coords t) 0 * 512 + 1 * r.val = 512 * (keyBlock (grid0.coords t)).val + r.val
    have h : cc0_transform_8 (grid0.coords t) 0 = (keyBlock (grid0.coords t)).val := word32 (keyBlock (grid0.coords t))
    rw [h]
    omega
  | 1 => by
    show cc0_transform_8 (grid0.coords t) 1 * 128 + 1 * l.val = 128 * (pair (grid0.coords t)).val + l.val
    have h : cc0_transform_8 (grid0.coords t) 1 = (pair (grid0.coords t)).val := word8 (pair (grid0.coords t))
    rw [h]
    omega

theorem emb9 (t : Fin (cfgM m (ok m)).N) (j : Fin 2) (r : Fin 512) :
    ((((cfgM m (ok m)).win 9).blk t).view.emb (ix4 0 0 j r) : S8x32x2x512.Idx)
      = ix4 (pair (grid0.coords t)) (keyBlock (grid0.coords t)) j r :=
  idx_ext _ _ fun (a : Fin 4) => match a with
  | 0 => by
    show cc0_transform_9 (grid0.coords t) 0 * 1 + 1 * 0 = (pair (grid0.coords t)).val
    have h : cc0_transform_9 (grid0.coords t) 0 = (pair (grid0.coords t)).val := word8 (pair (grid0.coords t))
    rw [h]
    omega
  | 1 => by
    show cc0_transform_9 (grid0.coords t) 1 * 1 + 1 * 0 = (keyBlock (grid0.coords t)).val
    have h : cc0_transform_9 (grid0.coords t) 1 = (keyBlock (grid0.coords t)).val := word32 (keyBlock (grid0.coords t))
    rw [h]
    omega
  | 2 => by
    show cc0_transform_9 (grid0.coords t) 2 * 2 + 1 * j.val = j.val
    have h : cc0_transform_9 (grid0.coords t) 2 = 0 := rfl
    rw [h]
    omega
  | 3 => by
    show cc0_transform_9 (grid0.coords t) 3 * 512 + 1 * r.val = r.val
    have h : cc0_transform_9 (grid0.coords t) 3 = 0 := rfl
    rw [h]
    omega

end Cert.KernelIdeal.Dkv
-- ==== Proof.Arrays.lean ====
module

public import proofs.«01_k».proof.Proof.Point
public import proofs.«01_k».proof.Proof.Places
public import Idealize.ShloMosaic.Lib.Pipeline.Covers

/-!
# The result arrays

Every entry of the three arrays as one sum over the queries, over the contents of the call's argument arrays.
-/

@[expose] public section

set_option maxRecDepth 16384

noncomputable section

namespace Cert.KernelIdeal.Dkv

open Idealize.ShloMosaic Idealize.ShloMosaic.TcCoe Cert.KernelIdeal.Gen Idealize.ShloMosaic.Tactic

section

variable (A0 : S16384x3072.Idx → EReal) (PC : S16384x128.Idx → EReal) (A2 : S16384x1024.Idx → EReal)
  (Ls Ds : S8x32x2x512.Idx → EReal) (p : Fin 8) (j : Fin 2) (k : Fin 16384)

/-- The attention weight of key `k` for query `q`, head `j` of pair `p`, from the prepared arrays. -/
def arrW (q : ℕ) : EReal :=
  Ideal.exp (headDot j (fun l => A0 (ix2 k (kCol p l)) * eighth) (fun l => A0 (ix2 (qRow q) (qCol p l)))
    - PC (ix2 k (gateLane p j)) - Ls (ix4 p (qTile q) j (qLane q)))

/-- The gradient of the logit. -/
def arrG (q : ℕ) : EReal :=
  arrW A0 PC Ls p j k q
    * (headDot j (fun l => A0 (ix2 k (vCol p l))) (fun l => A2 (ix2 (qRow q) (col p l))) - Ds (ix4 p (qTile q) j (qLane q)))

/-- The values' gradient. -/
def sumV (l : Fin 128) : EReal :=
  ∑ q : Fin 16384, if k.val ≤ q.val then arrW A0 PC Ls p j k q.val * A2 (ix2 (qRow q.val) (col p l)) else 0

/-- The keys' gradient. -/
def sumK (l : Fin 128) : EReal :=
  (∑ q : Fin 16384, if k.val ≤ q.val then arrG A0 PC A2 Ls Ds p j k q.val * A0 (ix2 (qRow q.val) (qCol p l)) else 0)
    * Scalar.ofBits (F := Ideal) .f32 0x3E000000#32

/-- The gate's gradient. -/
def sumC : EReal := 0 - ∑ q : Fin 16384, if k.val ≤ q.val then arrG A0 PC A2 Ls Ds p j k q.val else 0

theorem sumK_of (l : Fin 128) (f : Fin 16384 → EReal)
    (h : ∀ q, f q = if k.val ≤ q.val then arrG A0 PC A2 Ls Ds p j k q.val * A0 (ix2 (qRow q.val) (qCol p l)) else 0) :
    (∑ q, f q) * Scalar.ofBits (F := Ideal) .f32 0x3E000000#32 = sumK A0 PC A2 Ls Ds p j k l := by
  rw [funext h]
  rfl

theorem sumC_of (f : Fin 16384 → EReal) (h : ∀ q, f q = if k.val ≤ q.val then arrG A0 PC A2 Ls Ds p j k q.val else 0) :
    0 - (∑ q, f q) = sumC A0 PC A2 Ls Ds p j k := by
  rw [funext h]
  rfl

end

variable (m : (ℓ : Loc nD τ sig) → Buf (Elt Ideal) ℓ)

/-- A column's pair of heads, lane, and head of the pair. -/
def pairOf (y : Fin 1024) : Fin 8 := ⟨y.val / 128, by omega⟩
def lanOf (y : Fin 1024) : Fin 128 := ⟨y.val % 128, by omega⟩
def headOf (y : Fin 1024) : Fin 2 := ⟨y.val % 128 / 64, by omega⟩

theorem pairOf_col (p : Fin 8) (l : Fin 128) : pairOf (col p l) = p := Fin.ext (by
  show (128 * p.val + l.val) / 128 = p.val
  omega)
theorem lanOf_col (p : Fin 8) (l : Fin 128) : lanOf (col p l) = l := Fin.ext (by
  show (128 * p.val + l.val) % 128 = l.val
  omega)
theorem headOf_col (p : Fin 8) (j : Fin 2) (d : Fin 64) : headOf (col p (laneOf j d)) = j := Fin.ext (by
  show (128 * p.val + (64 * j.val + d.val)) % 128 / 64 = j.val
  omega)

/-- What the arrays hold, by index. -/
def dvArr (c : Dev nD) (y : S16384x1024.Idx) : EReal :=
  sumV (V m c main_arg0) (V m c main_v44) (V m c main_arg2) (V m c main_v46) (pairOf (y 1)) (headOf (y 1)) (y 0) (lanOf (y 1))

def dkArr (c : Dev nD) (y : S16384x1024.Idx) : EReal :=
  sumK (V m c main_arg0) (V m c main_v44) (V m c main_arg2) (V m c main_v46) (V m c main_v48) (pairOf (y 1)) (headOf (y 1))
    (y 0) (lanOf (y 1))

def dcArr (c : Dev nD) (y : S8x32x2x512.Idx) : EReal :=
  sumC (V m c main_arg0) (V m c main_v44) (V m c main_arg2) (V m c main_v46) (V m c main_v48) (y 0) (y 2) (row (y 1) (y 3))

theorem point_W (c : Dev nD) (t : Fin (cfgM m (ok m)).N) (j : Fin 2) (r : Fin 512) (q : ℕ) :
    pointW (grid0.coords t 0) (iblk m (ok m) c 0 t) (iblk m (ok m) c 2 t) (iblk m (ok m) c 3 t) (iblk m (ok m) c 5 t) j r q
    = arrW (V m c main_arg0) (V m c main_v44) (V m c main_v46) (pair (grid0.coords t)) j
      (row (keyBlock (grid0.coords t)) r) q := by
  unfold pointW arrW
  refine congrArg Ideal.exp ?_
  rw [block2, block5]
  refine congrArg (· - _) (congrArg (· - _) ?_)
  exact congrArg₂ (headDot j) (funext fun l => congrArg (· * eighth) (block0 m c t r l)) (funext fun l => block3 m c t (qRow q) l)

theorem point_G (c : Dev nD) (t : Fin (cfgM m (ok m)).N) (j : Fin 2) (r : Fin 512) (q : ℕ) :
    pointG (grid0.coords t 0) (iblk m (ok m) c 0 t) (iblk m (ok m) c 1 t) (iblk m (ok m) c 2 t) (iblk m (ok m) c 3 t)
      (iblk m (ok m) c 4 t) (iblk m (ok m) c 5 t) (iblk m (ok m) c 6 t) j r q
    = arrG (V m c main_arg0) (V m c main_v44) (V m c main_arg2) (V m c main_v46) (V m c main_v48) (pair (grid0.coords t)) j
      (row (keyBlock (grid0.coords t)) r) q := by
  unfold pointG arrG
  refine congrArg₂ (· * ·) (point_W m c t j r q) ?_
  rw [block6]
  refine congrArg (· - _) ?_
  exact congrArg₂ (headDot j) (funext fun l => block1 m c t r l) (funext fun l => block4 m c t (qRow q) l)

theorem after_dv (c : Dev nD) (t : Fin (cfgM m (ok m)).N) (j : Fin 2) (r : Fin 512) (d : Fin 64) :
    ((outsAt0 m (ok m) (hyps m) c t).2.1 (ix2 r (laneOf j d)) : EReal) = sumV (V m c main_arg0) (V m c main_v44) (V m c main_arg2) (V m c main_v46) (pair (grid0.coords t)) j (row (keyBlock (grid0.coords t)) r) (laneOf j d) := by
  unfold outsAt0
  dsimp only
  refine (point_dv (hW := table_word m (grid0.coords t)) ..).trans ?_
  refine Finset.sum_congr rfl fun q _ => ?_
  rw [point_W, block4]
  rfl

theorem after_dk (c : Dev nD) (t : Fin (cfgM m (ok m)).N) (j : Fin 2) (r : Fin 512) (d : Fin 64) :
    ((outsAt0 m (ok m) (hyps m) c t).1 (ix2 r (laneOf j d)) : EReal) = sumK (V m c main_arg0) (V m c main_v44) (V m c main_arg2) (V m c main_v46) (V m c main_v48) (pair (grid0.coords t)) j (row (keyBlock (grid0.coords t)) r) (laneOf j d) := by
  unfold outsAt0
  dsimp only
  refine (point_dk (hW := table_word m (grid0.coords t)) ..).trans ?_
  refine sumK_of _ _ _ _ _ _ _ _ _ _ fun q => ?_
  rw [point_G, block3]
  rfl

theorem after_dc (c : Dev nD) (t : Fin (cfgM m (ok m)).N) (j : Fin 2) (r : Fin 512) :
    ((outsAt0 m (ok m) (hyps m) c t).2.2 (ix4 0 0 j r) : EReal) = sumC (V m c main_arg0) (V m c main_v44) (V m c main_arg2) (V m c main_v46) (V m c main_v48) (pair (grid0.coords t)) j (row (keyBlock (grid0.coords t)) r) := by
  unfold outsAt0
  dsimp only
  refine (point_dc (hW := table_word m (grid0.coords t)) ..).trans ?_
  refine sumC_of _ _ _ _ _ _ _ _ _ fun q => ?_
  rw [point_G]
  rfl

theorem split_lane (l : Fin 128) : ∃ j d, l = laneOf j d :=
  ⟨⟨l.val / 64, by omega⟩, ⟨l.val % 64, by omega⟩, Fin.ext (by show l.val = 64 * (l.val / 64) + l.val % 64; omega)⟩

/-- The grid point of a pair and a key block, and its coordinates. -/
def place (p : Fin 8) (b : Fin 32) : grid0.Coords := fun (a : Fin 2) => match a with
  | 0 => p
  | 1 => b

theorem pair_place (p : Fin 8) (b : Fin 32) : pair (place p b) = p := rfl

theorem key_place (p : Fin 8) (b : Fin 32) : keyBlock (place p b) = b := rfl

theorem exists_point (p : Fin 8) (b : Fin 32) : ∃ t : Fin grid0.N, pair (grid0.coords t) = p ∧ keyBlock (grid0.coords t) = b :=
  (Pipeline.Grid.coords_surjective grid0 (place p b)).imp fun _ ht =>
    ⟨(congrArg pair ht).trans (pair_place p b), (congrArg keyBlock ht).trans (key_place p b)⟩

theorem split_block (y : S512x128.Idx) : ∃ (r : Fin 512) (j : Fin 2) (d : Fin 64), y = ix2 r (laneOf j d) := by
  obtain ⟨j, d, h⟩ := split_lane (y 1)
  exact ⟨y 0, j, d, idx_ext _ _ fun (a : Fin 2) => match a with
    | 0 => rfl
    | 1 => congrArg Fin.val h⟩

theorem split_tile (y : S1x1x2x512.Idx) : ∃ (j : Fin 2) (r : Fin 512), y = ix4 0 0 j r :=
  ⟨y 2, y 3, idx_ext _ _ fun (a : Fin 4) => match a with
    | 0 => Nat.lt_one_iff.1 (y 0).isLt
    | 1 => Nat.lt_one_iff.1 (y 1).isLt
    | 2 => rfl
    | 3 => rfl⟩

theorem split_array (y : S16384x1024.Idx) : ∃ (p : Fin 8) (b : Fin 32) (r : Fin 512) (l : Fin 128), ix2 (row b r) (col p l) = y := by
  have h0 : (y 0).val < 16384 := (y 0).isLt
  have h1 : (y 1).val < 1024 := (y 1).isLt
  exact ⟨⟨(y 1).val / 128, by omega⟩, ⟨(y 0).val / 512, by omega⟩, ⟨(y 0).val % 512, by omega⟩, ⟨(y 1).val % 128, by omega⟩,
    idx_ext _ _ fun (a : Fin 2) => match a with
      | 0 => by show 512 * ((y 0).val / 512) + (y 0).val % 512 = (y 0).val; omega
      | 1 => by show 128 * ((y 1).val / 128) + (y 1).val % 128 = (y 1).val; omega⟩

theorem split_stats (y : S8x32x2x512.Idx) : ∃ (p : Fin 8) (b : Fin 32) (j : Fin 2) (r : Fin 512), ix4 p b j r = y :=
  ⟨y 0, y 1, y 2, y 3, idx_ext _ _ fun (a : Fin 4) => match a with
    | 0 => rfl
    | 1 => rfl
    | 2 => rfl
    | 3 => rfl⟩

theorem final_dv (c : Dev nD) : (dats m (ok m) (hyps m) 0 c).arrAt 8 (cfgM m (ok m)).N = dvArr m c := by
  refine (dats m (ok m) (hyps m) 0 c).arrAt_eq_of_emb 8 _ (fun t hf y => ?_) (fun y => ?_)
  · blk_simp
    rw [after0_8]
    obtain ⟨r, j, d, rfl⟩ := split_block y
    refine (after_dv m c t j r d).trans ?_
    refine Eq.trans ?_ (congrArg (dvArr m c) (emb8 m t r (laneOf j d))).symm
    show _ = sumV (V m c main_arg0) (V m c main_v44) (V m c main_arg2) (V m c main_v46) (pairOf (col _ _)) (headOf (col _ _)) (row _ _) (lanOf (col _ _))
    rw [pairOf_col, headOf_col, lanOf_col]
  · obtain ⟨p, b, r, l, rfl⟩ := split_array y
    obtain ⟨t, rfl, rfl⟩ := exists_point p b
    refine ⟨t, flush0_8 _ _, ?_⟩
    rw [← emb8 m t r l]
    exact View.emb_mem_set _ _

theorem final_dk (c : Dev nD) : (dats m (ok m) (hyps m) 0 c).arrAt 7 (cfgM m (ok m)).N = dkArr m c := by
  refine (dats m (ok m) (hyps m) 0 c).arrAt_eq_of_emb 7 _ (fun t hf y => ?_) (fun y => ?_)
  · blk_simp
    rw [after0_7]
    obtain ⟨r, j, d, rfl⟩ := split_block y
    refine (after_dk m c t j r d).trans ?_
    refine Eq.trans ?_ (congrArg (dkArr m c) (emb7 m t r (laneOf j d))).symm
    show _ = sumK (V m c main_arg0) (V m c main_v44) (V m c main_arg2) (V m c main_v46) (V m c main_v48) (pairOf (col _ _)) (headOf (col _ _)) (row _ _) (lanOf (col _ _))
    rw [pairOf_col, headOf_col, lanOf_col]
  · obtain ⟨p, b, r, l, rfl⟩ := split_array y
    obtain ⟨t, rfl, rfl⟩ := exists_point p b
    refine ⟨t, flush0_7 _ _, ?_⟩
    rw [← emb7 m t r l]
    exact View.emb_mem_set _ _

theorem final_dc (c : Dev nD) : (dats m (ok m) (hyps m) 0 c).arrAt 9 (cfgM m (ok m)).N = dcArr m c := by
  refine (dats m (ok m) (hyps m) 0 c).arrAt_eq_of_emb 9 _ (fun t hf y => ?_) (fun y => ?_)
  · blk_simp
    rw [after0_9]
    obtain ⟨j, r, rfl⟩ := split_tile y
    refine (after_dc m c t j r).trans ?_
    exact (congrArg (dcArr m c) (emb9 m t j r)).symm
  · obtain ⟨p, b, j, r, rfl⟩ := split_stats y
    obtain ⟨t, rfl, rfl⟩ := exists_point p b
    refine ⟨t, flush0_9 _ _, ?_⟩
    rw [← emb9 m t j r]
    exact View.emb_mem_set _ _

end Cert.KernelIdeal.Dkv
-- ==== Proof.Prefix.lean ====
module

public import proofs.«01_k».proof.Proof.Tables
public import proofs.«01_k».proof.Proof.Gen.PreparedIdeal.Read

/-!
# The arrays the call is given

When the call starts, the arrays it reads besides the program's arguments hold what the preparation computes.
-/

@[expose] public section

set_option maxRecDepth 16384

noncomputable section

namespace Cert.KernelIdeal.Dkv

open Idealize.ShloMosaic Idealize.ShloMosaic.TcCoe Cert.KernelIdeal.Gen

variable {F : FTy → Type} [FloatOps F]
variable (m : (ℓ : Loc nD τ sig) → Buf (Elt F) ℓ)

/-- The rows' log-sums, in tiles. -/
theorem V_lse (c : Dev nD) :
    V m c main_v46 = Cert.PreparedIdeal.Read.val_main_v46 (F := F)
      (m ((c : Thread nD τ).loc main_arg0)) (m ((c : Thread nD τ).loc main_arg1)) := by
  unfold_abbrev_sides
  after_reads_simp
  rfl

/-- The gate beside zeros. -/
theorem V_pad (c : Dev nD) :
    V m c main_v44 = Cert.PreparedIdeal.Read.val_main_v44 (F := F)
      (m ((c : Thread nD τ).loc main_arg1)) := by
  unfold_abbrev_sides
  after_reads_simp
  rfl

/-- The rows' means, in tiles. -/
theorem V_delta (c : Dev nD) :
    V m c main_v48 = Cert.PreparedIdeal.Read.val_main_v48 (F := F)
      (m ((c : Thread nD τ).loc main_arg0)) (m ((c : Thread nD τ).loc main_arg1)) (m ((c : Thread nD τ).loc main_arg2)) := by
  unfold_abbrev_sides
  after_reads_simp
  rfl

end Cert.KernelIdeal.Dkv
-- ==== Proof.Softmax.lean ====
module

public import Idealize.ShloMosaic.Lib.Pointwise

/-!
# One row of a masked softmax over the reals

A row has real logits at the keys its mask keeps and −∞ elsewhere. The weights are those of the softmax of the kept logits, whatever
real number is subtracted before the exponential, and whatever constant was added to every logit of the row.
-/

@[expose] public section

noncomputable section

namespace Cert.Softmax

open Idealize.ShloMosaic

/-- A finite sum of reals is the same sum among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_ite (p : Prop) [Decidable p] (a b : ℝ) : (if p then (a : EReal) else (b : EReal)) = ((if p then a else b : ℝ) : EReal) := by
  split <;> rfl

theorem div_real (a : ℝ) {b : ℝ} (hb : 0 < b) : Ideal.div (a : EReal) (b : EReal) = ((a / b : ℝ) : EReal) := by
  unfold Ideal.div
  rw [if_neg (by exact_mod_cast hb.ne'), div_eq_mul_inv, EReal.coe_mul, EReal.coe_inv]

variable {n : ℕ} (P : Fin n → Prop) [DecidablePred P] (s : Fin n → ℝ)

/-- The sum of the kept exponentials. -/
def total : ℝ := ∑ k, if P k then Real.exp (s k) else 0

/-- The softmax weight. -/
def weight (k : Fin n) : ℝ := if P k then Real.exp (s k) / total P s else 0

/-- The kept exponential after subtracting `m`. -/
def shifted (m : ℝ) (k : Fin n) : ℝ := if P k then Real.exp (s k - m) else 0

theorem total_pos (hP : ∃ k, P k) : 0 < total P s := by
  obtain ⟨k, hk⟩ := hP
  refine Finset.sum_pos' (fun i _ => ?_) ⟨k, Finset.mem_univ _, ?_⟩
  · split
    · exact (Real.exp_pos _).le
    · exact le_rfl
  · rw [if_pos hk]
    exact Real.exp_pos _

theorem shifted_eq (m : ℝ) (k : Fin n) : shifted P s m k = Real.exp (-m) * if P k then Real.exp (s k) else 0 := by
  unfold shifted
  split
  · rw [← Real.exp_add]
    ring_nf
  · rw [mul_zero]

theorem sum_shifted (m : ℝ) : ∑ k, shifted P s m k = Real.exp (-m) * total P s := by
  rw [total, Finset.mul_sum]
  exact Finset.sum_congr rfl fun k _ => shifted_eq P s m k

theorem sum_shifted_pos (m : ℝ) (hP : ∃ k, P k) : 0 < ∑ k, shifted P s m k := by
  rw [sum_shifted]
  exact mul_pos (Real.exp_pos _) (total_pos P s hP)

theorem shifted_div (m : ℝ) (hP : ∃ k, P k) (k : Fin n) : shifted P s m k / (∑ k, shifted P s m k) = weight P s k := by
  rw [sum_shifted, shifted_eq, mul_div_mul_left _ _ (Real.exp_pos _).ne', weight]
  split
  · rfl
  · rw [zero_div]

/-- Adding one constant to every logit leaves the weights. -/
theorem weight_add (c : ℝ) (hP : ∃ k, P k) : weight P (fun k => s k + c) = weight P s := by
  funext k
  have h := shifted_div P s (-c) hP k
  have e : ∀ k, shifted P s (-c) k = if P k then Real.exp (s k + c) else 0 := fun k => by
    unfold shifted
    rw [sub_neg_eq_add]
  rw [← h]
  simp only [e]
  unfold weight total
  split
  · rfl
  · rw [zero_div]

/-- The log-sum, computed with any subtraction. -/
theorem log_total (m : ℝ) (hP : ∃ k, P k) : m + Real.log (∑ k, shifted P s m k) = Real.log (total P s) := by
  rw [sum_shifted, Real.log_mul (Real.exp_pos _).ne' (total_pos P s hP).ne', Real.log_exp]
  ring

/-- A kept weight from the log-sum. -/
theorem exp_sub_log (hP : ∃ k, P k) (k : Fin n) (hk : P k) : Real.exp (s k - Real.log (total P s)) = weight P s k := by
  rw [Real.exp_sub, Real.exp_log (total_pos P s hP), weight, if_pos hk]

/-- The row's maximum. -/
def top : ℝ := (Finset.univ.fold max (⊥ : EReal) (fun k => if P k then (s k : EReal) else ⊥)).toReal

/-- The row's maximum is a real number. -/
theorem exists_max (hP : ∃ k, P k) :
    ∃ M : ℝ, Finset.univ.fold max (⊥ : EReal) (fun k => if P k then (s k : EReal) else ⊥) = (M : EReal) := by
  obtain ⟨k₀, hk₀⟩ := hP
  have hs : Finset.univ.fold max (⊥ : EReal) (fun k => if P k then (s k : EReal) else ⊥)
      = Finset.univ.sup (fun k => if P k then (s k : EReal) else ⊥) := rfl
  obtain ⟨k, -, hk⟩ := Finset.exists_mem_eq_sup Finset.univ ⟨k₀, Finset.mem_univ _⟩ (fun k => if P k then (s k : EReal) else ⊥)
  rw [hs, hk]
  by_cases h : P k
  · exact ⟨s k, if_pos h⟩
  · exfalso
    have h0 := Finset.le_sup (f := fun k => if P k then (s k : EReal) else ⊥) (Finset.mem_univ k₀)
    rw [hk, if_neg h, if_pos hk₀] at h0
    exact EReal.coe_ne_bot _ (le_bot_iff.1 h0)

theorem fold_eq_top (hP : ∃ k, P k) :
    Finset.univ.fold max (⊥ : EReal) (fun k => if P k then (s k : EReal) else ⊥) = (top P s : EReal) := by
  obtain ⟨M, hM⟩ := exists_max P s hP
  unfold top
  rw [hM, EReal.toReal_coe]

/-- A constant added to every logit is a constant taken from what is subtracted. -/
theorem shifted_add (c m : ℝ) (k : Fin n) : shifted P (fun k => s k + c) m k = shifted P s (m - c) k := by
  unfold shifted
  rw [show s k + c - m = s k - (m - c) by ring]

/-- The exponential of a masked logit less a real number. -/
theorem exp_masked (m : ℝ) (k : Fin n) :
    Ideal.exp ((if P k then (s k : EReal) else ⊥) - (m : EReal)) = ((shifted P s m k : ℝ) : EReal) := by
  unfold shifted
  split
  · rfl
  · rw [EReal.bot_sub]
    rfl

/-- The gradient of a logit as differentiating the quotient writes it: the two terms of the quotient rule, times the exponential. -/
theorem quotient_rule (m : ℝ) (hP : ∃ k, P k) (g : Fin n → ℝ) (k : Fin n) :
    (g k / (∑ k, shifted P s m k)
        + -(∑ k', g k' * (1 / ((∑ k, shifted P s m k) * (∑ k, shifted P s m k))) * shifted P s m k')) * shifted P s m k
      = weight P s k * (g k - ∑ k', weight P s k' * g k') := by
  have hl := (sum_shifted_pos P s m hP).ne'
  have e : ∀ k, weight P s k = shifted P s m k / (∑ k, shifted P s m k) := fun k => (shifted_div P s m hP k).symm
  have e2 : ∑ k', weight P s k' * g k'
      = (∑ k, shifted P s m k) * ∑ k', g k' * (1 / ((∑ k, shifted P s m k) * (∑ k, shifted P s m k))) * shifted P s m k' := by
    rw [Finset.mul_sum]
    refine Finset.sum_congr rfl fun k' _ => ?_
    rw [e]
    field_simp
  rw [e2, e]
  field_simp
  ring

end Cert.Softmax
-- ==== Proof.Model.lean ====
module

public import proofs.«01_k».proof.Proof.Softmax
public import Idealize.ShloMosaic.Lib.Pointwise

/-!
# The attention's gradients over the reals

`A` holds the projected rows (queries, keys, values of the 16 heads side by side), `C` the cumulative gate, `O` the gradient of the
attention's output. Head `h` uses 64 columns. Key `k` is kept for query `q` when `k ≤ q`.
-/

@[expose] public section

noncomputable section

namespace Cert.Model

open Idealize.ShloMosaic Cert.Softmax

/-- Column `d` of head `h` of the queries, the keys, the values, and of the output. -/
def qc (h : Fin 16) (d : Fin 64) : Fin 3072 := ⟨64 * h.val + d.val, by omega⟩
def kc (h : Fin 16) (d : Fin 64) : Fin 3072 := ⟨1024 + (64 * h.val + d.val), by omega⟩
def vc (h : Fin 16) (d : Fin 64) : Fin 3072 := ⟨2048 + (64 * h.val + d.val), by omega⟩
def oc (h : Fin 16) (d : Fin 64) : Fin 1024 := ⟨64 * h.val + d.val, by omega⟩

variable (A : Fin 16384 → Fin 3072 → ℝ) (C : Fin 16384 → Fin 16 → ℝ) (O : Fin 16384 → Fin 1024 → ℝ) (h : Fin 16)

/-- The dot of a query with a key. -/
def qk (q k : Fin 16384) : ℝ := ∑ d : Fin 64, A q (qc h d) * A k (kc h d)

/-- The logit, without the query's own gate, which is the same for the whole row. -/
def logit (q k : Fin 16384) : ℝ := qk A h q k * (1 / 8) - C k h

/-- The weight of key `k` for query `q`. -/
def wt (q k : Fin 16384) : ℝ := weight (fun k : Fin 16384 => k.val ≤ q.val) (logit A C h q) k

/-- The gradient of the weight: the dot of the output's gradient with the value. -/
def gw (q k : Fin 16384) : ℝ := ∑ d : Fin 64, O q (oc h d) * A k (vc h d)

/-- The row's weighted mean of that gradient. -/
def delta (q : Fin 16384) : ℝ := ∑ k, wt A C h q k * gw A O h q k

/-- The gradient of the logit. -/
def gs (q k : Fin 16384) : ℝ := wt A C h q k * (gw A O h q k - delta A C O h q)

/-- The gradients of the value, the key and the gate. -/
def gv (k : Fin 16384) (d : Fin 64) : ℝ := ∑ q, wt A C h q k * O q (oc h d)
def gk (k : Fin 16384) (d : Fin 64) : ℝ := (∑ q, gs A C O h q k * A q (qc h d)) * (1 / 8)
def gc (k : Fin 16384) : ℝ := -∑ q, gs A C O h q k

/-- The row's log-sum. -/
def lse (q : Fin 16384) : ℝ := Real.log (total (fun k : Fin 16384 => k.val ≤ q.val) (logit A C h q))

/-- The keys' gradient with the scale inside the sum, the gate's with the sign inside. -/
theorem gk_inside (k : Fin 16384) (d : Fin 64) : ∑ q : Fin 16384, gs A C O h q k * (1 / 8) * A q (qc h d) = gk A C O h k d := by
  unfold gk
  rw [Finset.sum_mul]
  exact Finset.sum_congr rfl fun q _ => by ring

theorem gc_inside (k : Fin 16384) : ∑ q : Fin 16384, -gs A C O h q k = gc A C O h k := by
  unfold gc
  rw [Finset.sum_neg_distrib]

/-- The weighted mean, from the attention's output. -/
theorem delta_out (q : Fin 16384) : ∑ d : Fin 64, (∑ k, wt A C h q k * A k (vc h d)) * O q (oc h d) = delta A C O h q := by
  unfold delta gw
  simp only [Finset.sum_mul, Finset.mul_sum]
  rw [Finset.sum_comm]
  exact Finset.sum_congr rfl fun k _ => Finset.sum_congr rfl fun d _ => by ring

theorem kept (q : Fin 16384) : ∃ k : Fin 16384, k.val ≤ q.val := ⟨q, le_rfl⟩

theorem wt_masked (q k : Fin 16384) (hk : ¬ k.val ≤ q.val) : wt A C h q k = 0 := if_neg hk

theorem gs_masked (q k : Fin 16384) (hk : ¬ k.val ≤ q.val) : gs A C O h q k = 0 := by
  rw [gs, wt_masked A C h q k hk, zero_mul]

theorem wt_exp (q k : Fin 16384) (hk : k.val ≤ q.val) : Real.exp (logit A C h q k - lse A C h q) = wt A C h q k :=
  exp_sub_log _ _ (kept q) k hk

/-- The constants of the programs: one eighth, and −∞. -/
theorem eighth_f32 : Ideal.ofBits .f32 0x3E000000#32 = ((1 / 8 : ℝ) : EReal) := by
  simp [Ideal.ofBits, Ideal.ieee, -EReal.coe_mul]
  norm_num

theorem eighth_bf16 : Ideal.ofBits .bf16 0x3E00#16 = ((1 / 8 : ℝ) : EReal) := by
  simp [Ideal.ofBits, Ideal.ieee, -EReal.coe_mul]
  norm_num

theorem bot_f32 : Ideal.ofBits .f32 0xFF800000#32 = (⊥ : EReal) := by
  simp [Ideal.ofBits, Ideal.ieee]

/-- A real matrix as an array of extended reals. -/
def arr {n m : ℕ} (X : Fin n → Fin m → ℝ) : (⟨2, ![n, m]⟩ : Shape).Idx → EReal := fun i => ((X (i 0) (i 1) : ℝ) : EReal)

/-- An index with given coordinates. -/
theorem idx_ext (s : Shape) (x y : s.Idx) (h : ∀ a, (x a).val = (y a).val) : x = y := funext fun a => Fin.ext (h a)

theorem arr_congr {n m : ℕ} (X : Fin n → Fin m → ℝ) (i : (⟨2, ![n, m]⟩ : Shape).Idx) (a : Fin n) (b : Fin m)
    (ha : (i 0).val = a.val) (hb : (i 1).val = b.val) : arr X i = ((X a b : ℝ) : EReal) := by
  unfold arr
  rw [show i 0 = a from Fin.ext ha, show i 1 = b from Fin.ext hb]

/-- The word of `q ≥ k` for rows and columns below 16384. -/
theorem ge_word (q k : Fin 16384) :
    IntOp.cmpi .sge (BitVec.ofNat 32 q.val) (BitVec.ofNat 32 k.val) = if k.val ≤ q.val then 1#1 else 0#1 := by
  have hq := q.isLt
  have hk := k.isLt
  have e : ∀ x : Fin 16384, (BitVec.ofNat 32 x.val).toInt = (x.val : ℤ) := fun x => by
    have := x.isLt
    rw [BitVec.toInt_eq_toNat_of_lt, BitVec.toNat_ofNat]
    · omega
    · rw [BitVec.toNat_ofNat]
      omega
  show BitVec.ofBool ((BitVec.ofNat 32 k.val).sle (BitVec.ofNat 32 q.val)) = _
  rw [BitVec.sle_eq_decide, e, e]
  by_cases h : k.val ≤ q.val
  · rw [if_pos h, decide_eq_true (by exact_mod_cast h)]
    rfl
  · rw [if_neg h, decide_eq_false (by exact_mod_cast h)]
    rfl

/-- Selecting by that word. -/
theorem select_ge (q k : Fin 16384) (x y : EReal) :
    Scalar.select (IntOp.cmpi .sge (BitVec.ofNat 32 q.val) (BitVec.ofNat 32 k.val)) x y
      = if k.val ≤ q.val then x else y := by
  rw [ge_word]
  by_cases h : k.val ≤ q.val
  · rw [if_pos h, if_pos h]
    rfl
  · rw [if_neg h, if_neg h]
    rfl

end Cert.Model
-- ==== Proof.PreparedValue.lean ====
module

public import proofs.«01_k».proof.Proof.Gen.PreparedIdeal.Read
public import proofs.«01_k».proof.Proof.Model

/-!
# The arrays the kernel is given

The prepared arguments on real arrays: the gate beside zeros, the rows' log-sums, and the rows' means of the weights' gradients, both
in tiles of 512 queries for each pair of heads.
-/

@[expose] public section

set_option maxRecDepth 16384

noncomputable section

namespace Cert.PreparedIdeal.Read

open Cert.PreparedIdeal Cert.PreparedIdeal.Gen Idealize.ShloMosaic Idealize.ShloMosaic.TcCoe Cert.Model Cert.Softmax

variable (A : Fin 16384 → Fin 3072 → ℝ) (C : Fin 16384 → Fin 16 → ℝ) (O : Fin 16384 → Fin 1024 → ℝ)

/-! The heads. -/

theorem queries (i : S16x16384x64.Idx) : val_main_v3 (F := Ideal) (arr A) i = ((A (i 1) (qc (i 0) (i 2)) : ℝ) : EReal) := by
  rw [val_main_v3_apply, val_main_v2_apply, val_main_v1_apply, val_main_v0_apply]
  have h0 : (i 0).val < 16 := (i 0).isLt
  have h1 : (i 1).val < 16384 := (i 1).isLt
  have h2 : (i 2).val < 64 := (i 2).isLt
  refine arr_congr A _ _ _ ?_ ?_
  · show (((i 1).val * 16 + (i 0).val) * 64 + (i 2).val) / 1024 = (i 1).val
    omega
  · show (((i 1).val * 16 + (i 0).val) * 64 + (i 2).val) % 1024 = 64 * (i 0).val + (i 2).val
    omega

theorem keys (i : S16x16384x64.Idx) : val_main_v7 (F := Ideal) (arr A) i = ((A (i 1) (kc (i 0) (i 2)) : ℝ) : EReal) := by
  rw [val_main_v7_apply, val_main_v6_apply, val_main_v5_apply, val_main_v4_apply]
  have h0 : (i 0).val < 16 := (i 0).isLt
  have h1 : (i 1).val < 16384 := (i 1).isLt
  have h2 : (i 2).val < 64 := (i 2).isLt
  refine arr_congr A _ _ _ ?_ ?_
  · show (((i 1).val * 16 + (i 0).val) * 64 + (i 2).val) / 1024 = (i 1).val
    omega
  · show 1024 + (((i 1).val * 16 + (i 0).val) * 64 + (i 2).val) % 1024 = 1024 + (64 * (i 0).val + (i 2).val)
    omega

theorem vals (i : S16x16384x64.Idx) : val_main_v11 (F := Ideal) (arr A) i = ((A (i 1) (vc (i 0) (i 2)) : ℝ) : EReal) := by
  rw [val_main_v11_apply, val_main_v10_apply, val_main_v9_apply, val_main_v8_apply]
  have h0 : (i 0).val < 16 := (i 0).isLt
  have h1 : (i 1).val < 16384 := (i 1).isLt
  have h2 : (i 2).val < 64 := (i 2).isLt
  refine arr_congr A _ _ _ ?_ ?_
  · show (((i 1).val * 16 + (i 0).val) * 64 + (i 2).val) / 1024 = (i 1).val
    omega
  · show 2048 + (((i 1).val * 16 + (i 0).val) * 64 + (i 2).val) % 1024 = 2048 + (64 * (i 0).val + (i 2).val)
    omega

theorem outs (i : S16x16384x64.Idx) : val_main_v41 (F := Ideal) (arr O) i = ((O (i 1) (oc (i 0) (i 2)) : ℝ) : EReal) := by
  rw [val_main_v41_apply, val_main_v40_apply, val_main_v39_apply]
  have h0 : (i 0).val < 16 := (i 0).isLt
  have h1 : (i 1).val < 16384 := (i 1).isLt
  have h2 : (i 2).val < 64 := (i 2).isLt
  refine arr_congr O _ _ _ ?_ ?_
  · show (((i 1).val * 16 + (i 0).val) * 64 + (i 2).val) / 1024 = (i 1).val
    omega
  · show (((i 1).val * 16 + (i 0).val) * 64 + (i 2).val) % 1024 = 64 * (i 0).val + (i 2).val
    omega

/-- The logits. -/
theorem dots (i : S16x16384x16384.Idx) : val_main_v12 (F := Ideal) (arr A) i = ((qk A (i 0) (i 1) (i 2) : ℝ) : EReal) := by
  rw [val_main_v12_apply]
  refine Eq.trans (Finset.sum_congr rfl fun d _ => ?_)
    (coe_sum Finset.univ fun d : Fin 64 => A (i 1) (qc (i 0) d) * A (i 2) (kc (i 0) d))
  rw [queries, keys, ← EReal.coe_mul]
  rfl

theorem gate_k (i : S16x16384x16384.Idx) : val_main_v17 (F := Ideal) (arr C) i = ((C (i 2) (i 0) : ℝ) : EReal) := by
  rw [val_main_v17_apply, val_main_v16_apply, val_main_v15_apply]
  exact arr_congr C _ _ _ rfl rfl

theorem logits (i : S16x16384x16384.Idx) :
    val_main_v18 (F := Ideal) (arr A) (arr C) i = ((logit A C (i 0) (i 1) (i 2) : ℝ) : EReal) := by
  rw [val_main_v18_apply, val_main_v14_apply, gate_k, dots, val_main_v13_apply]
  show ((qk A (i 0) (i 1) (i 2) : ℝ) : EReal) * Ideal.ofBits .f32 0x3E000000#32 - ((C (i 2) (i 0) : ℝ) : EReal) = _
  rw [eighth_f32, ← EReal.coe_mul, ← EReal.coe_sub]
  rfl

theorem masked (i : S16x16384x16384.Idx) :
    val_main_v25 (F := Ideal) (arr A) (arr C) i
      = if (i 2).val ≤ (i 1).val then ((logit A C (i 0) (i 1) (i 2) : ℝ) : EReal) else ⊥ := by
  rw [val_main_v25_apply, val_main_call0_v1_apply, val_main_v24_apply, val_main_v22_apply, val_main_v20_apply, val_main_v19_apply,
    val_main_v23_apply, val_main_v21_apply, val_main_v19_apply, logits, val_main_call0_v2_apply,
    show val_main_call0_v0 (F := Ideal) (idx_main_call0_v2 i) = (⊥ : EReal) from bot_f32]
  exact select_ge (i 1) (i 2) _ _

/-- A maximum along the last axis is a fold over it. -/
theorem reduce_max (y : FVec Ideal S16x16384x16384 .f32) (j : S16x16384.Idx) :
    Host.reduce (FloatOps.maximumf : Ideal .f32 → Ideal .f32 → Ideal .f32) y (constant S_ .f32 0xFF800000#32)
        reducesTo_S16x16384x16384_S16x16384_d2 h_S_ j
      = Finset.univ.fold max (⊥ : EReal) (fun k : Fin 16384 => (y (ix3 (j 0) (j 1) k) : EReal)) := by
  pointwise
  exact congrArg (fun b : EReal => Finset.univ.fold max b (fun k : Fin 16384 => (y (ix3 (j 0) (j 1) k) : EReal))) bot_f32

/-- The rows' maxima. -/
abbrev off (h : Fin 16) (q : Fin 16384) : ℝ := top (fun k : Fin 16384 => k.val ≤ q.val) (logit A C h q)

theorem tops (j : S16x16384.Idx) : val_main_v26 (F := Ideal) (arr A) (arr C) j = ((off A C (j 0) (j 1) : ℝ) : EReal) :=
  (reduce_max _ j).trans (Eq.trans
    (congrArg (fun f : Fin 16384 → EReal => Finset.univ.fold max (⊥ : EReal) f) (funext fun k => masked A C (ix3 (j 0) (j 1) k)))
    (fold_eq_top _ _ (kept (j 1))))

abbrev ex (h : Fin 16) (q k : Fin 16384) : ℝ := shifted (fun k : Fin 16384 => k.val ≤ q.val) (logit A C h q) (off A C h q) k
abbrev exSum (h : Fin 16) (q : Fin 16384) : ℝ := ∑ k, ex A C h q k

theorem exSum_pos (h : Fin 16) (q : Fin 16384) : 0 < exSum A C h q := sum_shifted_pos _ _ _ (kept q)

theorem exps (i : S16x16384x16384.Idx) :
    val_main_v30 (F := Ideal) (arr A) (arr C) i = ((ex A C (i 0) (i 1) (i 2) : ℝ) : EReal) := by
  rw [val_main_v30_apply, val_main_v29_apply, masked, val_main_v28_apply, val_main_v27_apply, tops]
  exact exp_masked (fun k : Fin 16384 => k.val ≤ (i 1).val) (logit A C (i 0) (i 1)) _ (i 2)

theorem sums (j : S16x16384.Idx) :
    val_main_v31 (F := Ideal) (arr A) (arr C) j = ((exSum A C (j 0) (j 1) : ℝ) : EReal) := by
  rw [val_main_v31_apply]
  show Ideal.ofBits .f32 0x00000000#32 + _ = _
  rw [Ideal.ofBits_zero_f32, zero_add]
  refine Eq.trans (Finset.sum_congr rfl fun k _ => ?_) (coe_sum Finset.univ fun k => ex A C (j 0) (j 1) k)
  exact exps A C _

/-- The attention weights, and the attention's output. -/
theorem weights (i : S16x16384x16384.Idx) :
    val_main_v34 (F := Ideal) (arr A) (arr C) i = ((wt A C (i 0) (i 1) (i 2) : ℝ) : EReal) := by
  rw [val_main_v34_apply, val_main_v33_apply, val_main_v32_apply, exps, sums]
  have e : ex A C (i 0) (i 1) (i 2) / exSum A C (i 0) (i 1) = wt A C (i 0) (i 1) (i 2) := shifted_div _ _ _ (kept (i 1)) (i 2)
  rw [← e]
  exact div_real _ (exSum_pos A C (i 0) (i 1))

theorem output (i : S16x16384x64.Idx) :
    val_main_v35 (F := Ideal) (arr A) (arr C) i = ((∑ k, wt A C (i 0) (i 1) k * A k (vc (i 0) (i 2)) : ℝ) : EReal) := by
  rw [val_main_v35_apply]
  refine Eq.trans (Finset.sum_congr rfl fun k _ => ?_)
    (coe_sum Finset.univ fun k : Fin 16384 => wt A C (i 0) (i 1) k * A k (vc (i 0) (i 2)))
  rw [weights, vals, ← EReal.coe_mul]
  rfl

/-- The rows' log-sums. -/
theorem lses (j : S16x16384.Idx) : val_main_v38 (F := Ideal) (arr A) (arr C) j = ((lse A C (j 0) (j 1) : ℝ) : EReal) := by
  have h0 : (j 0).val < 16 := (j 0).isLt
  have h1 : (j 1).val < 16384 := (j 1).isLt
  rw [val_main_v38_apply,
    show idx_main_v38 j = (ix3 (j 0) (j 1) 0 : S16x16384x1.Idx) from
      idx_ext _ _ _ fun (a : Fin 3) => match a with
        | 0 => by show (((j 0).val * 16384 + (j 1).val) / 16384 : ℕ) = (j 0).val; omega
        | 1 => by show (((j 0).val * 16384 + (j 1).val) / 1 % 16384 : ℕ) = (j 1).val; omega
        | 2 => rfl,
    val_main_v37_apply, val_main_v36_apply, val_main_v27_apply, val_main_v32_apply, tops, sums]
  have hl : Ideal.log ((exSum A C (j 0) (j 1) : ℝ) : EReal) = ((Real.log (exSum A C (j 0) (j 1)) : ℝ) : EReal) :=
    if_neg (not_le.2 (exSum_pos A C (j 0) (j 1)))
  refine Eq.trans (congrArg (fun z : EReal => ((off A C (j 0) (j 1) : ℝ) : EReal) + z) hl) ?_
  exact congrArg (fun x : ℝ => (x : EReal)) (log_total _ _ _ (kept (j 1)))

/-- The rows' means. -/
theorem deltas (j : S16x16384.Idx) :
    val_main_v43 (F := Ideal) (arr A) (arr C) (arr O) j = ((delta A C O (j 0) (j 1) : ℝ) : EReal) := by
  rw [val_main_v43_apply]
  show Ideal.ofBits .f32 0x00000000#32 + _ = _
  rw [Ideal.ofBits_zero_f32, zero_add]
  refine Eq.trans ?_ (congrArg (fun x : ℝ => (x : EReal)) (delta_out A C O (j 0) (j 1)))
  refine Eq.trans (Finset.sum_congr rfl fun d _ => ?_)
    (coe_sum Finset.univ fun d : Fin 64 => (∑ k, wt A C (j 0) (j 1) k * A k (vc (j 0) d)) * O (j 1) (oc (j 0) d))
  rw [val_main_v42_apply, output, outs]
  exact (EReal.coe_mul _ _).symm

/-- The two tiled arrays: tile `n`, lane `r` of head `j` of pair `p` is query `512 n + r` of head `2 p + j`. -/
theorem tiled_lse (p : Fin 8) (n : Fin 32) (j : Fin 2) (r : Fin 512) (h : Fin 16) (q : Fin 16384) (hh : h.val = 2 * p.val + j.val)
    (hq : q.val = 512 * n.val + r.val) :
    val_main_v46 (F := Ideal) (arr A) (arr C) (ix4 p n j r) = ((lse A C h q : ℝ) : EReal) := by
  rw [val_main_v46_apply, val_main_v45_apply,
    show idx_main_v45 (idx_main_v46 (ix4 p n j r)) = (ix2 h q : S16x16384.Idx) from
      idx_ext _ _ _ fun (a : Fin 2) => match a with
        | 0 => by show (((p.val * 2 + j.val) * 32 + n.val) * 512 + r.val) / 16384 = h.val; omega
        | 1 => by show (((p.val * 2 + j.val) * 32 + n.val) * 512 + r.val) % 16384 = q.val; omega,
    lses]
  rfl

theorem tiled_delta (p : Fin 8) (n : Fin 32) (j : Fin 2) (r : Fin 512) (h : Fin 16) (q : Fin 16384) (hh : h.val = 2 * p.val + j.val)
    (hq : q.val = 512 * n.val + r.val) :
    val_main_v48 (F := Ideal) (arr A) (arr C) (arr O) (ix4 p n j r) = ((delta A C O h q : ℝ) : EReal) := by
  rw [val_main_v48_apply, val_main_v47_apply,
    show idx_main_v47 (idx_main_v48 (ix4 p n j r)) = (ix2 h q : S16x16384.Idx) from
      idx_ext _ _ _ fun (a : Fin 2) => match a with
        | 0 => by show (((p.val * 2 + j.val) * 32 + n.val) * 512 + r.val) / 16384 = h.val; omega
        | 1 => by show (((p.val * 2 + j.val) * 32 + n.val) * 512 + r.val) % 16384 = q.val; omega,
    deltas]
  rfl

/-- The gate beside zeros, at a head's column. -/
theorem padded (k : Fin 16384) (l : Fin 128) (h : Fin 16) (hh : l.val = h.val) :
    val_main_v44 (F := Ideal) (arr C) (ix2 k l) = ((C k h : ℝ) : EReal) := by
  unfold val_main_v44
  pointwise
  rw [dif_pos (hh.trans_lt h.isLt)]
  exact arr_congr C _ _ _ rfl hh

end Cert.PreparedIdeal.Read
-- ==== Proof.ReferenceValue.lean ====
module

public import proofs.«01_k».proof.Proof.Gen.ReferenceIdeal.Read
public import proofs.«01_k».proof.Proof.Model

/-!
# What the reference computes

The reference, differentiated attention, on real arrays: each of its arrays by index, in the order of the program.
-/

@[expose] public section

set_option maxRecDepth 16384

noncomputable section

namespace Cert.ReferenceIdeal.Read

open Cert.ReferenceIdeal Cert.ReferenceIdeal.Gen Idealize.ShloMosaic Idealize.ShloMosaic.TcCoe Cert.Model Cert.Softmax

variable (A : Fin 16384 → Fin 3072 → ℝ) (C : Fin 16384 → Fin 16 → ℝ) (O : Fin 16384 → Fin 1024 → ℝ)

/-! The heads of the queries, keys, values and of the output's gradient. -/

theorem queries (i : S16x16384x64.Idx) : val_main_v5 (F := Ideal) (arr A) i = ((A (i 1) (qc (i 0) (i 2)) : ℝ) : EReal) := by
  show val_main_v4 (F := Ideal) (arr A) i = _
  rw [val_main_v4_apply, val_main_v3_apply, val_main_v0_apply]
  have h0 : (i 0).val < 16 := (i 0).isLt
  have h1 : (i 1).val < 16384 := (i 1).isLt
  have h2 : (i 2).val < 64 := (i 2).isLt
  refine arr_congr A _ _ _ ?_ ?_
  · show (((i 1).val * 16 + (i 0).val) * 64 + (i 2).val) / 1024 = (i 1).val
    omega
  · show (((i 1).val * 16 + (i 0).val) * 64 + (i 2).val) % 1024 = 64 * (i 0).val + (i 2).val
    omega

theorem keys (i : S16x16384x64.Idx) : val_main_v8 (F := Ideal) (arr A) i = ((A (i 1) (kc (i 0) (i 2)) : ℝ) : EReal) := by
  show val_main_v7 (F := Ideal) (arr A) i = _
  rw [val_main_v7_apply, val_main_v6_apply, val_main_v1_apply]
  have h0 : (i 0).val < 16 := (i 0).isLt
  have h1 : (i 1).val < 16384 := (i 1).isLt
  have h2 : (i 2).val < 64 := (i 2).isLt
  refine arr_congr A _ _ _ ?_ ?_
  · show (((i 1).val * 16 + (i 0).val) * 64 + (i 2).val) / 1024 = (i 1).val
    omega
  · show 1024 + (((i 1).val * 16 + (i 0).val) * 64 + (i 2).val) % 1024 = 1024 + (64 * (i 0).val + (i 2).val)
    omega

theorem vals (i : S16x16384x64.Idx) : val_main_v61 (F := Ideal) (arr A) i = ((A (i 1) (vc (i 0) (i 2)) : ℝ) : EReal) := by
  show val_main_v60 (F := Ideal) (arr A) i = _
  rw [val_main_v60_apply, val_main_v59_apply, val_main_v2_apply]
  have h0 : (i 0).val < 16 := (i 0).isLt
  have h1 : (i 1).val < 16384 := (i 1).isLt
  have h2 : (i 2).val < 64 := (i 2).isLt
  refine arr_congr A _ _ _ ?_ ?_
  · show (((i 1).val * 16 + (i 0).val) * 64 + (i 2).val) / 1024 = (i 1).val
    omega
  · show 2048 + (((i 1).val * 16 + (i 0).val) * 64 + (i 2).val) % 1024 = 2048 + (64 * (i 0).val + (i 2).val)
    omega

theorem outs (i : S16x16384x64.Idx) : val_main_v68 (F := Ideal) (arr O) i = ((O (i 1) (oc (i 0) (i 2)) : ℝ) : EReal) := by
  show val_main_v67 (F := Ideal) (arr O) i = _
  rw [val_main_v67_apply, val_main_v66_apply]
  have h0 : (i 0).val < 16 := (i 0).isLt
  have h1 : (i 1).val < 16384 := (i 1).isLt
  have h2 : (i 2).val < 64 := (i 2).isLt
  refine arr_congr O _ _ _ ?_ ?_
  · show (((i 1).val * 16 + (i 0).val) * 64 + (i 2).val) / 1024 = (i 1).val
    omega
  · show (((i 1).val * 16 + (i 0).val) * 64 + (i 2).val) % 1024 = 64 * (i 0).val + (i 2).val
    omega

/-- The dots of queries and keys. -/
theorem dots (i : S16x16384x16384.Idx) : val_main_v9 (F := Ideal) (arr A) i = ((qk A (i 0) (i 1) (i 2) : ℝ) : EReal) := by
  rw [val_main_v9_apply]
  refine Eq.trans (Finset.sum_congr rfl fun d _ => ?_)
    (coe_sum Finset.univ fun d : Fin 64 => A (i 1) (qc (i 0) d) * A (i 2) (kc (i 0) d))
  rw [queries, keys, ← EReal.coe_mul]
  rfl

/-- The gate at the queries and at the keys. -/
theorem gate_q (i : S16x16384x16384.Idx) : val_main_v16 (F := Ideal) (arr C) i = ((C (i 1) (i 0) : ℝ) : EReal) := by
  rw [val_main_v16_apply, val_main_v15_apply, val_main_v14_apply]
  exact arr_congr C _ _ _ rfl rfl

theorem gate_k (i : S16x16384x16384.Idx) : val_main_v20 (F := Ideal) (arr C) i = ((C (i 2) (i 0) : ℝ) : EReal) := by
  rw [val_main_v20_apply, val_main_v19_apply, val_main_v18_apply]
  exact arr_congr C _ _ _ rfl rfl

/-- The logits: the model's and the query's own gate. -/
theorem logits (i : S16x16384x16384.Idx) :
    val_main_v21 (F := Ideal) (arr A) (arr C) i = ((logit A C (i 0) (i 1) (i 2) + C (i 1) (i 0) : ℝ) : EReal) := by
  rw [val_main_v21_apply, val_main_v17_apply, val_main_v13_apply, gate_q, gate_k,
    show val_main_v11 (F := Ideal) (arr A) i = _ from dots A i, val_main_v12_apply]
  show ((qk A (i 0) (i 1) (i 2) : ℝ) : EReal) * Ideal.ofBits .f32 0x3E000000#32 + ((C (i 1) (i 0) : ℝ) : EReal) - ((C (i 2) (i 0) : ℝ) : EReal) = _
  rw [eighth_f32, ← EReal.coe_mul, ← EReal.coe_add, ← EReal.coe_sub]
  refine congrArg _ ?_
  unfold logit
  ring

/-- The masked logits. -/
theorem masked (i : S16x16384x16384.Idx) :
    val_main_v28_0 (F := Ideal) (arr A) (arr C) i
      = if (i 2).val ≤ (i 1).val then ((logit A C (i 0) (i 1) (i 2) + C (i 1) (i 0) : ℝ) : EReal) else ⊥ := by
  rw [val_main_v28_0_apply, val_main_v28_1_apply, val_main_v27_apply, val_main_v25_apply, val_main_v23_apply, val_main_v22_apply,
    val_main_v26_apply, val_main_v24_apply, val_main_v22_apply, logits, val_main_call0_v2_apply,
    show val_main_call0_v0 (F := Ideal) (idx_main_call0_v2 i) = (⊥ : EReal) from bot_f32]
  exact select_ge (i 1) (i 2) _ _

/-- A maximum along the last axis is a fold over it. -/
theorem reduce_max (y : FVec Ideal S16x16384x16384 .f32) (j : S16x16384.Idx) :
    Host.reduce (FloatOps.maximumf : Ideal .f32 → Ideal .f32 → Ideal .f32) y (constant S_ .f32 0xFF800000#32)
        reducesTo_S16x16384x16384_S16x16384_d2 h_S_ j
      = Finset.univ.fold max (⊥ : EReal) (fun k : Fin 16384 => (y (ix3 (j 0) (j 1) k) : EReal)) := by
  pointwise
  exact congrArg (fun b : EReal => Finset.univ.fold max b (fun k : Fin 16384 => (y (ix3 (j 0) (j 1) k) : EReal))) bot_f32

/-- The rows' maxima. -/
theorem tops (j : S16x16384.Idx) :
    val_main_v36 (F := Ideal) (arr A) (arr C) j
      = ((top (fun k : Fin 16384 => k.val ≤ (j 1).val) (fun k => logit A C (j 0) (j 1) k + C (j 1) (j 0)) : ℝ) : EReal) := by
  have e : val_main_v29 (F := Ideal) (arr A) (arr C) j
      = ((top (fun k : Fin 16384 => k.val ≤ (j 1).val) (fun k => logit A C (j 0) (j 1) k + C (j 1) (j 0)) : ℝ) : EReal) := by
    refine (reduce_max _ j).trans (Eq.trans
      (congrArg (fun f : Fin 16384 → EReal => Finset.univ.fold max (⊥ : EReal) f) (funext fun k => masked A C (ix3 (j 0) (j 1) k)))
      (fold_eq_top _ _ (kept (j 1))))
  rw [val_main_v36_apply, e, val_main_v35_apply]
  show max (Ideal.ofBits .f32 0xFF800000#32) _ = _
  rw [bot_f32]
  exact max_eq_right bot_le

/-- What is subtracted in a row, from the model's logits. -/
def off (h : Fin 16) (q : Fin 16384) : ℝ := top (fun k : Fin 16384 => k.val ≤ q.val) (fun k => logit A C h q k + C q h) - C q h

/-- The kept exponentials of a row, and their sum. -/
abbrev ex (h : Fin 16) (q k : Fin 16384) : ℝ := shifted (fun k : Fin 16384 => k.val ≤ q.val) (logit A C h q) (off A C h q) k
abbrev exSum (h : Fin 16) (q : Fin 16384) : ℝ := ∑ k, ex A C h q k

theorem exSum_pos (h : Fin 16) (q : Fin 16384) : 0 < exSum A C h q := sum_shifted_pos _ _ _ (kept q)

theorem exps (i : S16x16384x16384.Idx) :
    val_main_v49 (F := Ideal) (arr A) (arr C) i = ((ex A C (i 0) (i 1) (i 2) : ℝ) : EReal) := by
  rw [val_main_v49_apply, val_main_v48_apply, masked, val_main_v47_apply, val_main_v46_apply, tops]
  refine Eq.trans (exp_masked (fun k : Fin 16384 => k.val ≤ (i 1).val) (fun k => logit A C (i 0) (i 1) k + C (i 1) (i 0)) _ (i 2))
    (congrArg _ ?_)
  exact shifted_add _ _ _ _ _

theorem sums (j : S16x16384.Idx) :
    val_main_v50 (F := Ideal) (arr A) (arr C) j = ((exSum A C (j 0) (j 1) : ℝ) : EReal) := by
  rw [val_main_v50_apply]
  show Ideal.ofBits .f32 0x00000000#32 + _ = _
  rw [Ideal.ofBits_zero_f32, zero_add]
  refine Eq.trans (Finset.sum_congr rfl fun k _ => ?_) (coe_sum Finset.univ fun k => ex A C (j 0) (j 1) k)
  exact exps A C _

/-- The attention weights. -/
theorem weights (i : S16x16384x16384.Idx) :
    val_main_v58 (F := Ideal) (arr A) (arr C) i = ((wt A C (i 0) (i 1) (i 2) : ℝ) : EReal) := by
  rw [val_main_v58_apply, val_main_v57_apply, val_main_v53_apply, val_main_v52_apply, val_main_v51_apply, exps, sums]
  have e : ex A C (i 0) (i 1) (i 2) / exSum A C (i 0) (i 1) = wt A C (i 0) (i 1) (i 2) := shifted_div _ _ _ (kept (i 1)) (i 2)
  rw [← e]
  exact div_real _ (exSum_pos A C (i 0) (i 1))

/-- The reciprocal of the squared sum. -/
theorem inv_sq (i : S16x16384x16384.Idx) :
    val_main_v77 (F := Ideal) (arr A) (arr C) i
      = ((1 / (exSum A C (i 0) (i 1) * exSum A C (i 0) (i 1)) : ℝ) : EReal) := by
  rw [val_main_v77_apply, val_main_v56_apply, val_main_v54_apply, val_main_v51_apply, sums, val_main_v55_apply]
  show Ideal.div (Ideal.ofBits .f32 0x3F800000#32) (((exSum A C (i 0) (i 1) : ℝ) : EReal) * ((exSum A C (i 0) (i 1) : ℝ) : EReal)) = _
  rw [Ideal.ofBits_one_f32, ← EReal.coe_mul]
  exact div_real 1 (mul_pos (exSum_pos A C (i 0) (i 1)) (exSum_pos A C (i 0) (i 1)))

/-- The gradients of the weights. -/
theorem gws (i : S16x16384x16384.Idx) :
    val_main_v76 (F := Ideal) (arr A) (arr O) i = ((gw A O (i 0) (i 1) (i 2) : ℝ) : EReal) := by
  show val_main_v71 (F := Ideal) (arr A) (arr O) i = _
  rw [val_main_v71_apply]
  refine Eq.trans (Finset.sum_congr rfl fun d _ => ?_)
    (coe_sum Finset.univ fun d : Fin 64 => O (i 1) (oc (i 0) d) * A (i 2) (vc (i 0) d))
  rw [outs, vals, ← EReal.coe_mul]
  rfl

/-- The second term of the quotient rule, before its sign. -/
abbrev second (h : Fin 16) (q : Fin 16384) : ℝ :=
  ∑ k, gw A O h q k * (1 / (exSum A C h q * exSum A C h q)) * ex A C h q k

theorem seconds (j : S16x16384.Idx) :
    val_main_v80 (F := Ideal) (arr A) (arr C) (arr O) j = ((second A C O (j 0) (j 1) : ℝ) : EReal) := by
  rw [val_main_v80_apply]
  show Ideal.ofBits .f32 0x00000000#32 + _ = _
  rw [Ideal.ofBits_zero_f32, zero_add]
  refine Eq.trans (Finset.sum_congr rfl fun k _ => ?_)
    (coe_sum Finset.univ fun k => gw A O (j 0) (j 1) k * (1 / (exSum A C (j 0) (j 1) * exSum A C (j 0) (j 1))) * ex A C (j 0) (j 1) k)
  rw [val_main_v79_apply, val_main_v78_apply, gws, inv_sq, exps]
  show _ * _ * _ = _
  rw [← EReal.coe_mul, ← EReal.coe_mul]
  rfl

theorem seconds_neg (i : S16x16384x16384.Idx) :
    val_main_v86 (F := Ideal) (arr A) (arr C) (arr O) i = ((-second A C O (i 0) (i 1) : ℝ) : EReal) := by
  have h0 : (i 0).val < 16 := (i 0).isLt
  have h1 : (i 1).val < 16384 := (i 1).isLt
  rw [val_main_v86_apply, val_main_v85_apply]
  show Ideal.ofBits .f32 0x00000000#32 + _ = _
  rw [Ideal.ofBits_zero_f32, zero_add, Fin.sum_univ_one, val_main_v82_apply, val_main_v81_apply,
    show idx_main_v81 (idx_main_v85 (idx_main_v86 i) 0) = (ix2 (i 0) (i 1) : S16x16384.Idx) from
      idx_ext _ _ _ fun (a : Fin 2) => match a with
        | 0 => by show ((((i 0).val * 16384 + (i 1).val) * 1 + 0) / 16384 : ℕ) = (i 0).val; omega
        | 1 => by show ((((i 0).val * 16384 + (i 1).val) * 1 + 0) % 16384 : ℕ) = (i 1).val; omega,
    seconds]
  exact (EReal.coe_neg _).symm

/-- The gradients of the logits. -/
theorem gss (i : S16x16384x16384.Idx) :
    val_main_v89 (F := Ideal) (arr A) (arr C) (arr O) i = ((gs A C O (i 0) (i 1) (i 2) : ℝ) : EReal) := by
  have e : val_main_v88 (F := Ideal) (arr A) (arr C) (arr O) i = ((gs A C O (i 0) (i 1) (i 2) : ℝ) : EReal) := by
    rw [val_main_v88_apply, val_main_v87_apply, val_main_v84_apply, seconds_neg, exps, gws, val_main_v83_apply, val_main_v51_apply, sums]
    show (Ideal.div _ _ + _) * _ = _
    have d : Ideal.div ((gw A O (i 0) (i 1) (i 2) : ℝ) : EReal) ((exSum A C (i 0) (i 1) : ℝ) : EReal)
        = ((gw A O (i 0) (i 1) (i 2) / exSum A C (i 0) (i 1) : ℝ) : EReal) := div_real _ (exSum_pos A C _ _)
    refine Eq.trans (congrArg (fun z : EReal => (z + ((-second A C O (i 0) (i 1) : ℝ) : EReal)) * ((ex A C (i 0) (i 1) (i 2) : ℝ) : EReal)) d) ?_
    rw [← EReal.coe_add, ← EReal.coe_mul]
    exact congrArg _ (quotient_rule _ _ _ (kept (i 1)) (gw A O (i 0) (i 1)) (i 2))
  rw [val_main_v89_apply, e, val_main_v28_1_apply, val_main_v27_apply, val_main_v25_apply, val_main_v23_apply, val_main_v22_apply,
    val_main_v26_apply, val_main_v24_apply, val_main_v22_apply, val_main_call1_v0_apply]
  refine (select_ge (i 1) (i 2) _ _).trans ?_
  by_cases hk : (i 2).val ≤ (i 1).val
  · exact if_pos hk
  · refine (if_neg hk).trans (Eq.trans Ideal.ofBits_zero_f32 ?_)
    rw [gs_masked A C O (i 0) (i 1) (i 2) hk]
    rfl

/-- The values' gradients, by head. -/
theorem gvs (i : S16x16384x64.Idx) :
    val_main_v70 (F := Ideal) (arr A) (arr C) (arr O) i = ((gv A C O (i 0) (i 1) (i 2) : ℝ) : EReal) := by
  rw [val_main_v70_apply, val_main_v69_apply]
  refine Eq.trans (Finset.sum_congr rfl fun q _ => ?_)
    (coe_sum Finset.univ fun q : Fin 16384 => wt A C (i 0) q (i 1) * O q (oc (i 0) (i 2)))
  rw [outs, weights, ← EReal.coe_mul, mul_comm]
  rfl

/-- The keys' gradients, by head. -/
theorem gks (i : S16x16384x64.Idx) :
    val_main_v99 (F := Ideal) (arr A) (arr C) (arr O) i = ((gk A C O (i 0) (i 1) (i 2) : ℝ) : EReal) := by
  rw [val_main_v99_apply]
  refine Eq.trans ?_ (congrArg (fun x : ℝ => (x : EReal)) (gk_inside A C O (i 0) (i 1) (i 2)))
  refine Eq.trans (Finset.sum_congr rfl fun q _ => ?_)
    (coe_sum Finset.univ fun q : Fin 16384 => gs A C O (i 0) q (i 1) * (1 / 8) * A q (qc (i 0) (i 2)))
  have e2 : ∀ x : S16x16384x16384.Idx, val_main_v98 (F := Ideal) (arr A) (arr C) (arr O) x
      = ((gs A C O (x 0) (x 1) (x 2) * (1 / 8) : ℝ) : EReal) := fun x => by
    show val_main_v96 (F := Ideal) (arr A) (arr C) (arr O) x = _
    rw [val_main_v96_apply, gss, val_main_v95_apply]
    show _ * Ideal.ofBits .f32 0x3E000000#32 = _
    rw [eighth_f32, ← EReal.coe_mul]
  rw [e2, queries, ← EReal.coe_mul]
  rfl

/-- The gate's gradients, by head. -/
theorem gcs (i : S16384x16.Idx) :
    val_main_v94 (F := Ideal) (arr A) (arr C) (arr O) i = ((gc A C O (i 1) (i 0) : ℝ) : EReal) := by
  have h0 : (i 0).val < 16384 := (i 0).isLt
  have h1 : (i 1).val < 16 := (i 1).isLt
  have e : ∀ j : S16x16384.Idx, val_main_v91 (F := Ideal) (arr A) (arr C) (arr O) j = ((gc A C O (j 0) (j 1) : ℝ) : EReal) := fun j => by
    rw [val_main_v91_apply]
    show Ideal.ofBits .f32 0x00000000#32 + _ = _
    rw [Ideal.ofBits_zero_f32, zero_add]
    refine Eq.trans ?_ (congrArg (fun x : ℝ => (x : EReal)) (gc_inside A C O (j 0) (j 1)))
    refine Eq.trans (Finset.sum_congr rfl fun q _ => ?_) (coe_sum Finset.univ fun q : Fin 16384 => -gs A C O (j 0) q (j 1))
    rw [val_main_v90_apply, gss]
    exact (EReal.coe_neg _).symm
  rw [val_main_v94_apply, val_main_v93_apply]
  show Ideal.ofBits .f32 0x00000000#32 + _ = _
  rw [Ideal.ofBits_zero_f32, zero_add, Fin.sum_univ_one, val_main_v92_apply,
    show idx_main_v92 (idx_main_v93 (idx_main_v94 i) 0) = (ix2 (i 1) (i 0) : S16x16384.Idx) from
      idx_ext _ _ _ fun (a : Fin 2) => match a with
        | 0 => by show ((((i 1).val * 1 + 0) * 16384 + (i 0).val) / 16384 : ℕ) = (i 1).val; omega
        | 1 => by show ((((i 1).val * 1 + 0) * 16384 + (i 0).val) % 16384 : ℕ) = (i 0).val; omega,
    e]
  rfl

/-- The reference's three results, by row and head. -/
theorem result_v (k : Fin 16384) (h : Fin 16) (d : Fin 64) :
    val_main_v74 (F := Ideal) (arr A) (arr C) (arr O) (ix2 k (oc h d)) = ((gv A C O h k d : ℝ) : EReal) := by
  rw [val_main_v74_apply, val_main_v73_apply]
  refine (gvs A C O _).trans ?_
  rw [show idx_main_v73 (idx_main_v74 (ix2 k (oc h d))) = (ix3 h k d : S16x16384x64.Idx) from
    idx_ext _ _ _ fun (a : Fin 3) => match a with
      | 0 => by show (k.val * 1024 + (64 * h.val + d.val)) / 64 % 16 = h.val; omega
      | 1 => by show (k.val * 1024 + (64 * h.val + d.val)) / 1024 = k.val; omega
      | 2 => by show (k.val * 1024 + (64 * h.val + d.val)) % 64 = d.val; omega]
  rfl

theorem result_k (k : Fin 16384) (h : Fin 16) (d : Fin 64) :
    val_main_v102 (F := Ideal) (arr A) (arr C) (arr O) (ix2 k (oc h d)) = ((gk A C O h k d : ℝ) : EReal) := by
  rw [val_main_v102_apply, val_main_v101_apply]
  refine (gks A C O _).trans ?_
  rw [show idx_main_v101 (idx_main_v102 (ix2 k (oc h d))) = (ix3 h k d : S16x16384x64.Idx) from
    idx_ext _ _ _ fun (a : Fin 3) => match a with
      | 0 => by show (k.val * 1024 + (64 * h.val + d.val)) / 64 % 16 = h.val; omega
      | 1 => by show (k.val * 1024 + (64 * h.val + d.val)) / 1024 = k.val; omega
      | 2 => by show (k.val * 1024 + (64 * h.val + d.val)) % 64 = d.val; omega]
  rfl

theorem result_c (p : Fin 8) (b : Fin 32) (j : Fin 2) (r : Fin 512) (h : Fin 16) (k : Fin 16384) (hh : h.val = 2 * p.val + j.val)
    (hk : k.val = 512 * b.val + r.val) :
    val_main_v104 (F := Ideal) (arr A) (arr C) (arr O) (ix4 p b j r) = ((gc A C O h k : ℝ) : EReal) := by
  rw [val_main_v104_apply, val_main_v103_apply,
    show idx_main_v103 (idx_main_v104 (ix4 p b j r)) = (ix2 k h : S16384x16.Idx) from
      idx_ext _ _ _ fun (a : Fin 2) => match a with
        | 0 => by show (((b.val * 512 + r.val) * 8 + p.val) * 2 + j.val) / 16 = k.val; omega
        | 1 => by show (((b.val * 512 + r.val) * 8 + p.val) * 2 + j.val) % 16 = h.val; omega,
    gcs]
  rfl

end Cert.ReferenceIdeal.Read
-- ==== Proof.Values.lean ====
module

public import proofs.«01_k».proof.Proof.Arrays
public import proofs.«01_k».proof.Proof.Prefix
public import proofs.«01_k».proof.Proof.PreparedValue
public import proofs.«01_k».proof.Proof.ReferenceValue

/-!
# The kernel's sums are the gradients

On real arguments the weights the kernel recomputes from a row's log-sum are the attention's, so its three sums are the gradients of
the values, of the keys and of the gate.
-/

@[expose] public section

set_option maxRecDepth 16384

noncomputable section

namespace Cert.KernelIdeal.Dkv

open Idealize.ShloMosaic Idealize.ShloMosaic.TcCoe Cert.KernelIdeal.Gen Cert.Model Cert.Softmax

/-- Head `j` of pair `p`. -/
def hd (p : Fin 8) (j : Fin 2) : Fin 16 := ⟨2 * p.val + j.val, by omega⟩

/-- The columns of a head among the pair's lanes. -/
theorem col_head (p : Fin 8) (j : Fin 2) (d : Fin 64) : col p (laneOf j d) = oc (hd p j) d := Fin.ext (by
  show 128 * p.val + (64 * j.val + d.val) = 64 * (2 * p.val + j.val) + d.val
  omega)
theorem qCol_head (p : Fin 8) (j : Fin 2) (d : Fin 64) : qCol p (laneOf j d) = qc (hd p j) d := Fin.ext (by
  show 128 * p.val + (64 * j.val + d.val) = 64 * (2 * p.val + j.val) + d.val
  omega)
theorem kCol_head (p : Fin 8) (j : Fin 2) (d : Fin 64) : kCol p (laneOf j d) = kc (hd p j) d := Fin.ext (by
  show 1024 + (128 * p.val + (64 * j.val + d.val)) = 1024 + (64 * (2 * p.val + j.val) + d.val)
  omega)
theorem vCol_head (p : Fin 8) (j : Fin 2) (d : Fin 64) : vCol p (laneOf j d) = vc (hd p j) d := Fin.ext (by
  show 2048 + (128 * p.val + (64 * j.val + d.val)) = 2048 + (64 * (2 * p.val + j.val) + d.val)
  omega)
theorem qRow_self (q : Fin 16384) : qRow q.val = q := Fin.ext (by
  show q.val % 16384 = q.val
  omega)

/-- Every index of a gradient by key, pair, head of the pair and column of the head. -/
theorem split_heads (y : S16384x1024.Idx) :
    ∃ (k : Fin 16384) (p : Fin 8) (j : Fin 2) (d : Fin 64), ix2 k (col p (laneOf j d)) = y := by
  obtain ⟨p, b, r, l, rfl⟩ := split_array y
  refine ⟨row b r, p, ⟨l.val / 64, by omega⟩, ⟨l.val % 64, by omega⟩, ?_⟩
  refine congrArg (fun x : Fin 128 => (ix2 (row b r) (col p x) : S16384x1024.Idx)) (Fin.ext ?_)
  show 64 * (l.val / 64) + l.val % 64 = l.val
  omega

variable (A : Fin 16384 → Fin 3072 → ℝ) (C : Fin 16384 → Fin 16 → ℝ) (O : Fin 16384 → Fin 1024 → ℝ)

/-- The scores the kernel computes, with the scale on the keys. -/
theorem score (p : Fin 8) (j : Fin 2) (k q : Fin 16384) :
    headDot j (fun l => arr A (ix2 k (kCol p l)) * eighth) (fun l => arr A (ix2 (qRow q.val) (qCol p l)))
      = ((qk A (hd p j) q k * (1 / 8) : ℝ) : EReal) := by
  unfold headDot eighth
  rw [eighth_bf16, qRow_self]
  unfold qk
  rw [Finset.sum_mul]
  refine Eq.trans (Finset.sum_congr rfl fun d _ => ?_)
    (coe_sum Finset.univ fun d : Fin 64 => A q (qc (hd p j) d) * A k (kc (hd p j) d) * (1 / 8))
  dsimp only
  rw [kCol_head, qCol_head]
  refine Eq.trans (b := ((A k (kc (hd p j) d) * (1 / 8) * A q (qc (hd p j) d) : ℝ) : EReal)) ?_ ?_
  · rw [EReal.coe_mul, EReal.coe_mul]
    rfl
  · exact congrArg (fun x : ℝ => (x : EReal)) (by ring)

/-- The dots of the values with the output's gradient. -/
theorem gradient_dot (p : Fin 8) (j : Fin 2) (k q : Fin 16384) :
    headDot j (fun l => arr A (ix2 k (vCol p l))) (fun l => arr O (ix2 (qRow q.val) (col p l)))
      = ((gw A O (hd p j) q k : ℝ) : EReal) := by
  unfold headDot
  rw [qRow_self]
  unfold gw
  refine Eq.trans (Finset.sum_congr rfl fun d _ => ?_)
    (coe_sum Finset.univ fun d : Fin 64 => O q (oc (hd p j) d) * A k (vc (hd p j) d))
  dsimp only
  rw [vCol_head, col_head, mul_comm, EReal.coe_mul]
  rfl

section

variable (PC : S16384x128.Idx → EReal) (Ls Ds : S8x32x2x512.Idx → EReal) (p : Fin 8) (j : Fin 2) (k : Fin 16384)
  (hP : PC (ix2 k (gateLane p j)) = ((C k (hd p j) : ℝ) : EReal))
  (hL : ∀ q : Fin 16384, Ls (ix4 p (qTile q.val) j (qLane q.val)) = ((lse A C (hd p j) q : ℝ) : EReal))
  (hD : ∀ q : Fin 16384, Ds (ix4 p (qTile q.val) j (qLane q.val)) = ((delta A C O (hd p j) q : ℝ) : EReal))

include hP hL

/-- The weights. -/
theorem arrW_real (q : Fin 16384) (hk : k.val ≤ q.val) :
    arrW (arr A) PC Ls p j k q.val = ((wt A C (hd p j) q k : ℝ) : EReal) := by
  unfold arrW
  rw [score, hP, hL, ← EReal.coe_sub, ← EReal.coe_sub, ← wt_exp A C (hd p j) q k hk]
  rfl

/-- The values' gradient. -/
theorem sumV_real (d : Fin 64) :
    sumV (arr A) PC (arr O) Ls p j k (laneOf j d) = ((gv A C O (hd p j) k d : ℝ) : EReal) := by
  unfold sumV gv
  refine Eq.trans (Finset.sum_congr rfl fun q _ => ?_)
    (coe_sum Finset.univ fun q : Fin 16384 => wt A C (hd p j) q k * O q (oc (hd p j) d))
  split
  · rename_i hk
    rw [arrW_real A C PC Ls p j k hP hL q hk, qRow_self, col_head, EReal.coe_mul]
    rfl
  · rename_i hk
    rw [wt_masked A C (hd p j) q k hk, zero_mul]
    rfl

include hD

/-- The gradients of the logits. -/
theorem arrG_real (q : Fin 16384) (hk : k.val ≤ q.val) :
    arrG (arr A) PC (arr O) Ls Ds p j k q.val = ((gs A C O (hd p j) q k : ℝ) : EReal) := by
  unfold arrG gs
  rw [arrW_real A C PC Ls p j k hP hL q hk, gradient_dot, hD, ← EReal.coe_sub, ← EReal.coe_mul]

/-- The keys' gradient. -/
theorem sumK_real (d : Fin 64) :
    sumK (arr A) PC (arr O) Ls Ds p j k (laneOf j d) = ((gk A C O (hd p j) k d : ℝ) : EReal) := by
  have e : Scalar.ofBits (F := Ideal) .f32 0x3E000000#32 = ((1 / 8 : ℝ) : EReal) := eighth_f32
  unfold sumK gk
  rw [EReal.coe_mul, e]
  refine congrArg (fun x : EReal => x * ((1 / 8 : ℝ) : EReal)) ?_
  refine Eq.trans (Finset.sum_congr rfl fun q _ => ?_)
    (coe_sum Finset.univ fun q : Fin 16384 => gs A C O (hd p j) q k * A q (qc (hd p j) d))
  split
  · rename_i hk
    rw [arrG_real A C O PC Ls Ds p j k hP hL hD q hk, qRow_self, qCol_head, EReal.coe_mul]
    rfl
  · rename_i hk
    rw [gs_masked A C O (hd p j) q k hk, zero_mul]
    rfl

/-- The gate's gradient. -/
theorem sumC_real : sumC (arr A) PC (arr O) Ls Ds p j k = ((gc A C O (hd p j) k : ℝ) : EReal) := by
  unfold sumC gc
  rw [zero_sub, EReal.coe_neg]
  refine congrArg (fun x : EReal => -x) ?_
  refine Eq.trans (Finset.sum_congr rfl fun q _ => ?_) (coe_sum Finset.univ fun q : Fin 16384 => gs A C O (hd p j) q k)
  split
  · rename_i hk
    exact arrG_real A C O PC Ls Ds p j k hP hL hD q hk
  · rename_i hk
    rw [gs_masked A C O (hd p j) q k hk]
    rfl

end

/-! The prepared arrays at the entries the sums read. -/

section

open Cert.PreparedIdeal.Read

theorem prepared_gate (p : Fin 8) (j : Fin 2) (k : Fin 16384) :
    val_main_v44 (F := Ideal) (arr C) (ix2 k (gateLane p j)) = ((C k (hd p j) : ℝ) : EReal) :=
  padded C k (gateLane p j) (hd p j) rfl

theorem prepared_lse (p : Fin 8) (j : Fin 2) (q : Fin 16384) :
    val_main_v46 (F := Ideal) (arr A) (arr C) (ix4 p (qTile q.val) j (qLane q.val)) = ((lse A C (hd p j) q : ℝ) : EReal) :=
  tiled_lse A C p (qTile q.val) j (qLane q.val) (hd p j) q rfl (by
    show q.val = 512 * (q.val / 512 % 32) + q.val % 512
    omega)

theorem prepared_delta (p : Fin 8) (j : Fin 2) (q : Fin 16384) :
    val_main_v48 (F := Ideal) (arr A) (arr C) (arr O) (ix4 p (qTile q.val) j (qLane q.val))
      = ((delta A C O (hd p j) q : ℝ) : EReal) :=
  tiled_delta A C O p (qTile q.val) j (qLane q.val) (hd p j) q rfl (by
    show q.val = 512 * (q.val / 512 % 32) + q.val % 512
    omega)

end

variable (m : (ℓ : Loc nD τ sig) → Buf (Elt Ideal) ℓ) (c : Dev nD)
  (h0 : m ((c : Thread nD τ).loc main_arg0) = arr A) (h1 : m ((c : Thread nD τ).loc main_arg1) = arr C)
  (h2 : m ((c : Thread nD τ).loc main_arg2) = arr O)

include h0 h1 h2

/-- The values' gradient: the array the call returns is the reference's. -/
theorem dv_eq : dvArr m c = Cert.ReferenceIdeal.Read.val_main_v74 (F := Ideal) (arr A) (arr C) (arr O) := by
  funext y
  obtain ⟨k, p, j, d, rfl⟩ := split_heads y
  unfold dvArr
  show sumV _ _ _ _ (pairOf (col p (laneOf j d))) (headOf (col p (laneOf j d))) k (lanOf (col p (laneOf j d))) = _
  rw [pairOf_col, headOf_col, lanOf_col, V_pad, V_lse, Gen.V_main_arg0, Gen.V_main_arg2, h0, h1, h2, col_head,
    Cert.ReferenceIdeal.Read.result_v]
  exact sumV_real A C O _ _ p j k (prepared_gate C p j k) (prepared_lse A C p j) d

/-- The keys' gradient. -/
theorem dk_eq : dkArr m c = Cert.ReferenceIdeal.Read.val_main_v102 (F := Ideal) (arr A) (arr C) (arr O) := by
  funext y
  obtain ⟨k, p, j, d, rfl⟩ := split_heads y
  unfold dkArr
  show sumK _ _ _ _ _ (pairOf (col p (laneOf j d))) (headOf (col p (laneOf j d))) k (lanOf (col p (laneOf j d))) = _
  rw [pairOf_col, headOf_col, lanOf_col, V_pad, V_lse, V_delta, Gen.V_main_arg0, Gen.V_main_arg2, h0, h1, h2, col_head,
    Cert.ReferenceIdeal.Read.result_k]
  exact sumK_real A C O _ _ _ p j k (prepared_gate C p j k) (prepared_lse A C p j) (prepared_delta A C O p j) d

/-- The gate's gradient. -/
theorem dc_eq : dcArr m c = Cert.ReferenceIdeal.Read.val_main_v104 (F := Ideal) (arr A) (arr C) (arr O) := by
  funext y
  obtain ⟨p, b, j, r, rfl⟩ := split_stats y
  unfold dcArr
  show sumC _ _ _ _ _ p j (row b r) = _
  rw [V_pad, V_lse, V_delta, Gen.V_main_arg0, Gen.V_main_arg2, h0, h1, h2,
    Cert.ReferenceIdeal.Read.result_c A C O p b j r (hd p j) (row b r) rfl rfl]
  exact sumC_real A C O _ _ _ p j (row b r) (prepared_gate C p j _) (prepared_lse A C p j) (prepared_delta A C O p j)

end Cert.KernelIdeal.Dkv
-- ==== Proof.Finite.lean ====
module

public import proofs.«01_k».proof.Pre_finite
public import proofs.«01_k».proof.Proof.Model

/-!
# Finite arguments are real arrays

The precondition says of every entry that its absolute value is below infinity: such an entry is a real number.
-/

@[expose] public section

set_option maxRecDepth 16384

noncomputable section

namespace Cert.Pre_finite

open Idealize.ShloMosaic Cert.Model

theorem facts : Facts where
  bitsLt_bf16_f32 := by decide
  bcast_S_S16384x3072 := by decide
  bcast_S_S16384x16 := by decide
  bcast_S_S16384x1024 := by decide

theorem top_f32 : Ideal.ofBits .f32 0x7F800000#32 = (⊤ : EReal) := by
  simp [Ideal.ofBits, Ideal.ieee]

/-- A value whose absolute value is below infinity is real. -/
theorem real_of_lt (x : EReal) (h : BitVec.ofBool (decide (max x (-x) < Ideal.ofBits .f32 0x7F800000#32)) = 1#1) :
    ((x.toReal : ℝ) : EReal) = x := by
  have hb : decide (max x (-x) < Ideal.ofBits .f32 0x7F800000#32) = true := by
    by_contra hc
    rw [Bool.not_eq_true] at hc
    rw [hc] at h
    exact absurd h (by decide)
  have hl := of_decide_eq_true hb
  rw [top_f32] at hl
  refine EReal.coe_toReal (fun e => ?_) (fun e => ?_)
  · rw [e] at hl
    exact absurd hl (by simp)
  · rw [e] at hl
    exact absurd hl (by simp)

/-- An array of real entries is a real matrix. -/
theorem real_array {n m : ℕ} (x : (⟨2, ![n, m]⟩ : Shape).Idx → EReal) (h : ∀ i, (((x i).toReal : ℝ) : EReal) = x i) :
    x = arr fun a b => (x (ix2 a b)).toReal := by
  funext i
  refine (h i).symm.trans ?_
  unfold arr
  refine congrArg (fun z : EReal => ((z.toReal : ℝ) : EReal)) (congrArg x (idx_ext _ _ _ fun (a : Fin 2) => match a with
    | 0 => rfl
    | 1 => rfl))

section

variable [Facts] (x0 : FVec Ideal S16384x3072 .bf16) (x1 : FVec Ideal S16384x16 .f32) (x2 : FVec Ideal S16384x1024 .bf16)

theorem first_real (h : (fn (F := Ideal) x0 x1 x2).1 = fun _ => 1#1) : ∃ A : Fin 16384 → Fin 3072 → ℝ, x0 = arr A :=
  ⟨_, real_array x0 fun i => real_of_lt (x0 i) (congrFun h i)⟩

theorem second_real (h : (fn (F := Ideal) x0 x1 x2).2.1 = fun _ => 1#1) : ∃ C : Fin 16384 → Fin 16 → ℝ, x1 = arr C :=
  ⟨_, real_array x1 fun i => real_of_lt (x1 i) (congrFun h i)⟩

theorem third_real (h : (fn (F := Ideal) x0 x1 x2).2.2 = fun _ => 1#1) : ∃ O : Fin 16384 → Fin 1024 → ℝ, x2 = arr O :=
  ⟨_, real_array x2 fun i => real_of_lt (x2 i) (congrFun h i)⟩

end

end Cert.Pre_finite
-- ==== Proof.QTables.lean ====
/- The prefetched table of the query's kernel: every word of it is 0, the first key tile, so the loop over key tiles
   runs from the start to the query tile's own predecessor; and the side conditions that the body assumes of the words
   hold. At any float instance. -/
module

public import proofs.«01_k».proof.Proof.Gen.Kernel2Ideal.Frame.Runs
public import Idealize.ShloMosaic.Lib.Pipeline.ValueKit
public import Idealize.ShloMosaic.Lib.StableHlo.RunRead

@[expose] public section

set_option maxRecDepth 16384

noncomputable section

namespace Cert.Kernel2Ideal.Dq

open Idealize.ShloMosaic Idealize.ShloMosaic.TcCoe Cert.Kernel2Ideal.Gen

variable {F : FTy → Type} [FloatOps F]
variable (m : (ℓ : Loc nD τ sig) → Buf (Elt F) ℓ)

/-- Every word of the table is 0. -/
theorem V_table (c : Dev nD) : V m c main_v51 = (fun _ => 0#32) := by
  unfold_abbrev_sides
  after_reads_simp
  rfl

/-- No window's index map reads the table. -/
theorem ok : Ok m := by
  unfold Ok ok0; trivial

/-- The word the body reads, at any point: 0. -/
theorem table_word (i : grid0.Coords) :
    tbM0_0.view.readAt (Elt F) (Rect.unit (s := S8x32) (k0_off1 i) S1x1.size (k0_off1_inb i)).toLoadRect (tbl m 0)
      (Shape.Idx.first (numel1_S1x1.symm ▸ Nat.one_pos)) = 0#32 := by
  have h : tbl m 0 = (fun _ => 0#32) := V_table m 0
  rw [h]; rfl

theorem hyps : Hyps m (ok m) := Hyps.of fun c t => by
  unfold Hyps.p0
  rw [table_word]
  exact (by decide +kernel : ∀ t : Fin grid0.N, k0_chk1 (grid0.coords t) 0#32) t

end Cert.Kernel2Ideal.Dq
-- ==== Proof.QTrip.lean ====
module

public import proofs.«01_k».proof.Proof.QTables
public import proofs.«01_k».proof.Proof.Gen.Kernel2Ideal.Frame
public import Idealize.ShloMosaic.Lib.Pipeline.ValueKit
public import Idealize.ShloMosaic.Lib.Pipeline.ReadBack

/-!
# One trip of the loop over the key tiles

What the loop's trip stores into the two accumulators, as the vectors the kernel computes of the trip's loads.
-/

@[expose] public section

set_option maxRecDepth 16384

noncomputable section

namespace Cert.Kernel2Ideal.Dq

open Idealize.ShloMosaic Idealize.ShloMosaic.TcCoe Cert.Kernel2Ideal.Gen Idealize.ShloMosaic.Tactic

variable {F : FTy → Type} [FloatOps F]

/-- The tile of 512 rows that trip `k` loads of a column of rows. -/
abbrev kT (i : grid0.Coords) (v : Memref sig .tc .vmem S16384x128 .bf16) (v53 : Elt F .i32)
    (X : BufTy.Contents (Elt F) v.view.ty) (k : Fin (k0_t1_loop i v53).trips)
    (hq : ∀ a, k0_off2 i v53 k a + S512x128.size a ≤ S16384x128.size a) : Vec F S512x128 .bf16 :=
  v.view.readAt (Elt F) (Rect.unit (s := S16384x128) (k0_off2 i v53 k) S512x128.size hq).toLoadRect X

/-- The tile of key statistics that trip `k` loads. -/
abbrev cT (i : grid0.Coords) (v : Memref sig .tc .vmem S1x32x2x512 .f32) (v53 : Elt F .i32)
    (X : BufTy.Contents (Elt F) v.view.ty) (k : Fin (k0_t1_loop i v53).trips)
    (hl : ∀ a, k0_off3 i v53 k a + S1x1x2x512.size a ≤ S1x32x2x512.size a) : Vec F S1x1x2x512 .f32 :=
  v.view.readAt (Elt F) (Rect.unit (s := S1x32x2x512) (k0_off3 i v53 k) S1x1x2x512.size hl).toLoadRect X

variable (𝒱 : Variants) (c : Dev nD) (bd : Option 𝒱.V) (i : grid0.Coords) (arg2 : Memref sig .tc .smem S8x32 .i32)
  (harg2 : arg2.IsWhole) (arg3 : Memref sig .tc .vmem S512x128 .bf16) (harg3 : arg3.IsWhole)
  (arg4 : Memref sig .tc .vmem S512x128 .bf16) (harg4 : arg4.IsWhole)
  (arg5 : Memref sig .tc .vmem S16384x128 .bf16) (harg5 : arg5.IsWhole)
  (arg6 : Memref sig .tc .vmem S16384x128 .bf16) (harg6 : arg6.IsWhole)
  (arg7 : Memref sig .tc .vmem S1x32x2x512 .f32) (harg7 : arg7.IsWhole)
  (arg8 : Memref sig .tc .vmem S1x512x2 .f32) (harg8 : arg8.IsWhole)
  (arg9 : Memref sig .tc .vmem S512x128 .f32) (harg9 : arg9.IsWhole)
  (arg10 : Memref sig .tc .vmem S512x128 .bf16) (harg10 : arg10.IsWhole)
  (arg11 : Memref sig .tc .vmem S1x1x2x512 .f32) (harg11 : arg11.IsWhole)
  (arg12 : Memref sig .tc .vmem S512x128 .f32) (harg12 : arg12.IsWhole)
  (arg13 : Memref sig .tc .vmem S2x512x128 .f32) (harg13 : arg13.IsWhole)
  (arg0 : BitVec 32) (arg1 : BitVec 32) (v6 : IVec S512x128 1) (v8 : FVec F S512x128 .bf16)
  (v9 : FVec F S512x128 .bf16) (v10 : Vec F S512x128 .bf16) (v11 : FVec F S512x128 .bf16)
  (v19 : FVec F S512x128 .f32) (v22 : FVec F S512x128 .f32) (v32 : FVec F S512x128 .f32) (v38 : FVec F S512x128 .f32)
  (v53 : Elt F .i32) (k0_hw1 : k0_chk1 i v53) (X_arg5 : BufTy.Contents (Elt F) arg5.view.ty)
  (X_arg6 : BufTy.Contents (Elt F) arg6.view.ty) (X_arg7 : BufTy.Contents (Elt F) arg7.view.ty)

set_option maxHeartbeats 4000000 in
/-- The stores of one trip: into the queries' accumulator and the two slabs of the row sums'. -/
theorem trip (k : Fin (k0_t1_loop i v53).trips) (f_arg12 : BufTy.Contents (Elt F) arg12.view.ty)
    (f_arg13 : BufTy.Contents (Elt F) arg13.view.ty)
    (hq : ∀ a, k0_off2 i v53 k a + S512x128.size a ≤ S16384x128.size a)
    (hl : ∀ a, k0_off3 i v53 k a + S1x1x2x512.size a ≤ S1x32x2x512.size a) :
    tripL_k0_t1 𝒱 c bd i arg2 harg2 arg3 harg3 arg4 harg4 arg5 harg5 arg6 harg6 arg7 harg7 arg8 harg8 arg9 harg9
      arg10 harg10 arg11 harg11 arg12 harg12 arg13 harg13 arg0 arg1 v6 v8 v9 v10 v11 v19 v22 v32 v38 v53 k0_hw1
      X_arg5 X_arg6 X_arg7 k f_arg12 f_arg13
    = ([⟨(Rect.unit (s := S512x128) ![0, 0] S512x128.size inb_S512x128_S512x128_0_0),
        k0_pay54 v6 (k0_pay11 (kT i arg5 v53 X_arg5 k hq)
          (k0_pay5 v8 v10 v19 v32 (kT i arg5 v53 X_arg5 k hq)
          (kT i arg6 v53 X_arg6 k hq) (cT i arg7 v53 X_arg7 k hl))
          (k0_pay6 v8 v10 v19 v32 (kT i arg5 v53 X_arg5 k hq)
          (kT i arg6 v53 X_arg6 k hq) (cT i arg7 v53 X_arg7 k hl))
          (k0_pay7 v8 v10 v19 v32 (kT i arg5 v53 X_arg5 k hq)
          (kT i arg6 v53 X_arg6 k hq) (cT i arg7 v53 X_arg7 k hl))
          (k0_pay8 v8 v10 v19 v32 (kT i arg5 v53 X_arg5 k hq)
          (kT i arg6 v53 X_arg6 k hq) (cT i arg7 v53 X_arg7 k hl)))
          (k0_pay19 v9 v11 v22 (k0_pay51 v38) (kT i arg5 v53 X_arg5 k hq)
          (kT i arg6 v53 X_arg6 k hq) (k0_pay2 (cT i arg7 v53 X_arg7 k hl)))
          (arg12.view.readAt (Elt F) (Rect.unit (s := S512x128) ![0, 0] S512x128.size
          inb_S512x128_S512x128_0_0).toLoadRect f_arg12)⟩],
      [⟨(Rect.unit (s := S2x512x128) ![1, 0, 0] S1x512x128.size inb_S2x512x128_S1x512x128_1_0_0),
        k0_pay18 v9 v11 v22 (k0_pay51 v38) (kT i arg5 v53 X_arg5 k hq)
          (kT i arg6 v53 X_arg6 k hq) (k0_pay2 (cT i arg7 v53 X_arg7 k hl))
          (arg13.view.readAt (Elt F) (Rect.unit (s := S2x512x128) ![1, 0, 0] S1x512x128.size
          inb_S2x512x128_S1x512x128_1_0_0).toLoadRect f_arg13)⟩,
       ⟨(Rect.unit (s := S2x512x128) ![0, 0, 0] S1x512x128.size inb_S2x512x128_S1x512x128_0_0_0),
        k0_pay10 (k0_pay9 v8 v10 v19 v32 (kT i arg5 v53 X_arg5 k hq)
          (kT i arg6 v53 X_arg6 k hq) (cT i arg7 v53 X_arg7 k hl)
          (arg13.view.readAt (Elt F) (Rect.unit (s := S2x512x128) ![0, 0, 0] S1x512x128.size
          inb_S2x512x128_S1x512x128_0_0_0).toLoadRect f_arg13))⟩]) := by
  unfold tripL_k0_t1 trip_k0_t1
  dsimp only
  sl_unfold_run_names
  rfl

end Cert.Kernel2Ideal.Dq
-- ==== Proof.QTile.lean ====
module

public import proofs.«01_k».proof.Proof.Gen.Kernel2Ideal.Skeleton
public import proofs.«01_k».proof.Proof.Diagonal
public import Idealize.ShloMosaic.Lib.Pointwise

/-!
# What one tile of the query's gradient computes

A tile is 512 queries (the rows) by 512 keys (the columns) of one head. This module reads the vectors
that the loop's body computes of a tile at one index.
-/

@[expose] public section

noncomputable section

namespace Cert.Kernel2Ideal.Dq

open Idealize.ShloMosaic Cert.Kernel2Ideal.Gen
open Cert.KernelIdeal.Dkv (lane lane_eq lane_eq0 beside lanes)

/-- The product of row `r` of `X` with row `k` of `K`. -/
def dot (X K : FVec Ideal S512x128 .bf16) (r k : Fin 512) : EReal :=
  ∑ l : Fin 128, X (ix2 r l) * K (ix2 k l)

/-- The attention weight of query `r` and key `k`: `L` holds the query's log-sum-exp in every lane, `C` the gates of
the keys. -/
def weight (X : FVec Ideal S512x128 .bf16) (L : FVec Ideal S512x128 .f32) (K : FVec Ideal S512x128 .bf16)
    (C : FVec Ideal S1x1x2x512 .f32) (j : Fin 2) (r k : Fin 512) : EReal :=
  Ideal.exp (dot X K r k - C (ix4 0 0 j k) - L (ix2 r (lane k)))

/-- The weight's factor in the score's gradient: `E` holds the query's row sum in every lane. -/
def slope (D : FVec Ideal S512x128 .bf16) (E : FVec Ideal S512x128 .f32) (W : FVec Ideal S512x128 .bf16)
    (r k : Fin 512) : EReal :=
  dot D W r k - E (ix2 r (lane k))

/-- The score's gradient on a tile: the weight times its slope. -/
def grad (X D : FVec Ideal S512x128 .bf16) (L E : FVec Ideal S512x128 .f32) (K W : FVec Ideal S512x128 .bf16)
    (C : FVec Ideal S1x1x2x512 .f32) (j : Fin 2) (r k : Fin 512) : EReal :=
  weight X L K C j r k * slope D E W r k

section
variable (X D : FVec Ideal S512x128 .bf16) (L E : FVec Ideal S512x128 .f32) (K W : FVec Ideal S512x128 .bf16)
  (C : FVec Ideal S1x1x2x512 .f32) (r : Fin 512) (l : Fin 128)

theorem pay5 : k0_pay5 X D L E K W C (ix2 r l) = grad X D L E K W C 0 r ⟨l.val, by omega⟩ := by
  unfold_payloads
  pointwise [grad, weight, slope]
  rw [lane_eq0]; rfl
theorem pay6 : k0_pay6 X D L E K W C (ix2 r l) = grad X D L E K W C 0 r ⟨128 + l.val, by omega⟩ := by
  unfold_payloads
  pointwise [grad, weight, slope]
  rw [lane_eq _ _ rfl]; rfl
theorem pay7 : k0_pay7 X D L E K W C (ix2 r l) = grad X D L E K W C 0 r ⟨256 + l.val, by omega⟩ := by
  unfold_payloads
  pointwise [grad, weight, slope]
  rw [lane_eq _ _ rfl]; rfl
theorem pay8 : k0_pay8 X D L E K W C (ix2 r l) = grad X D L E K W C 0 r ⟨384 + l.val, by omega⟩ := by
  unfold_payloads
  pointwise [grad, weight, slope]
  rw [lane_eq _ _ rfl]; rfl
theorem pay14 : k0_pay14 X D L E K W (k0_pay2 C) (ix2 r l) = grad X D L E K W C 1 r ⟨l.val, by omega⟩ := by
  unfold_payloads
  pointwise [grad, weight, slope]
  rw [lane_eq0]; rfl
theorem pay15 : k0_pay15 X D L E K W (k0_pay2 C) (ix2 r l) = grad X D L E K W C 1 r ⟨128 + l.val, by omega⟩ := by
  unfold_payloads
  pointwise [grad, weight, slope]
  rw [lane_eq _ _ rfl]; rfl
theorem pay16 : k0_pay16 X D L E K W (k0_pay2 C) (ix2 r l) = grad X D L E K W C 1 r ⟨256 + l.val, by omega⟩ := by
  unfold_payloads
  pointwise [grad, weight, slope]
  rw [lane_eq _ _ rfl]; rfl
theorem pay17 : k0_pay17 X D L E K W (k0_pay2 C) (ix2 r l) = grad X D L E K W C 1 r ⟨384 + l.val, by omega⟩ := by
  unfold_payloads
  pointwise [grad, weight, slope]
  rw [lane_eq _ _ rfl]; rfl

end

section
variable (A : IVec S512x128 1) (X0 X1 D0 D1 : FVec Ideal S512x128 .bf16) (L0 L1 E0 E1 : FVec Ideal S512x128 .f32)
  (K W : FVec Ideal S512x128 .bf16) (C : FVec Ideal S1x1x2x512 .f32) (r : Fin 512) (l : Fin 128)

/-- What a tile adds to the queries' gradient. -/
theorem tile_dq (O : FVec Ideal S512x128 .f32) :
    k0_pay54 A (k0_pay11 K (k0_pay5 X0 D0 L0 E0 K W C) (k0_pay6 X0 D0 L0 E0 K W C) (k0_pay7 X0 D0 L0 E0 K W C)
        (k0_pay8 X0 D0 L0 E0 K W C)) (k0_pay19 X1 D1 L1 E1 K W (k0_pay2 C)) O (ix2 r l)
    = O (ix2 r l) + Scalar.select (A (ix2 r l)) (∑ k, grad X0 D0 L0 E0 K W C 0 r k * K (ix2 k l))
        (∑ k, grad X1 D1 L1 E1 K W C 1 r k * K (ix2 k l)) := by
  unfold k0_pay54 k0_pay11 k0_pay19
  pointwise
  congr 2
  · exact Finset.sum_congr rfl fun k _ => congrArg (· * _)
      (beside (grad X0 D0 L0 E0 K W C 0 r) _ _ _ _ (pay5 X0 D0 L0 E0 K W C r) (pay6 X0 D0 L0 E0 K W C r)
        (pay7 X0 D0 L0 E0 K W C r) (pay8 X0 D0 L0 E0 K W C r) k)
  · exact Finset.sum_congr rfl fun k _ => congrArg (· * _)
      (beside (grad X1 D1 L1 E1 K W C 1 r) _ _ _ _ (pay14 X1 D1 L1 E1 K W C r) (pay15 X1 D1 L1 E1 K W C r)
        (pay16 X1 D1 L1 E1 K W C r) (pay17 X1 D1 L1 E1 K W C r) k)

/-- What a tile adds to the row sums of the pair's first head. -/
theorem tile_r0 (O : FVec Ideal S1x512x128 .f32) :
    k0_pay10 (k0_pay9 X0 D0 L0 E0 K W C O) (ix3 0 r l)
    = O (ix3 0 r l) + lanes (grad X0 D0 L0 E0 K W C 0 r) l := by
  unfold lanes
  rw [← pay5, ← pay6, ← pay7, ← pay8]
  unfold k0_pay10 k0_pay9
  pointwise

/-- What a tile adds to the row sums of the pair's second head. -/
theorem tile_r1 (O : FVec Ideal S1x512x128 .f32) :
    k0_pay18 X1 D1 L1 E1 K W (k0_pay2 C) O (ix3 0 r l)
    = O (ix3 0 r l) + lanes (grad X1 D1 L1 E1 K W C 1 r) l := by
  unfold lanes
  rw [← pay14, ← pay15, ← pay16, ← pay17]
  unfold k0_pay18
  pointwise

end

end Cert.Kernel2Ideal.Dq
-- ==== Proof.QDiagonal.lean ====
module

public import proofs.«01_k».proof.Proof.QTile

/-!
# The diagonal tile of the query's gradient

Of the diagonal tile, the first 256 queries see the first 256 keys and the other queries all 512; in both spans a key
after the query has weight zero.
-/

@[expose] public section

noncomputable section

namespace Cert.Kernel2Ideal.Dq

open Idealize.ShloMosaic Cert.Kernel2Ideal.Gen
open Cert.KernelIdeal.Dkv (lane lane_eq lane_eq0 beside lanes sge_iff ofBits_ninf)

/-- The exponential of a masked score is zero where the mask is off, whatever is subtracted from the score. -/
theorem exp_masked (m : BitVec 1) (p : Prop) [Decidable p] (hm : m = 1#1 ↔ p) (s l : EReal) :
    Ideal.exp (Scalar.select m s (Ideal.ofBits .f32 4286578688#32) - l) = if p then Ideal.exp (s - l) else 0 := by
  unfold Scalar.select
  by_cases h : p
  · rw [if_pos h, if_pos (show m = 1 from hm.2 h)]
  · rw [if_neg h, if_neg fun e : m = 1 => h (hm.1 e)]
    have e : (Ideal.ofBits .f32 4286578688#32 : EReal) = ⊥ := ofBits_ninf
    rw [e, sub_eq_add_neg, EReal.bot_add]
    rfl

/-- The score's gradient on the diagonal tile: zero for a key after the query. -/
def gradD (X D : FVec Ideal S512x128 .bf16) (L E : FVec Ideal S512x128 .f32) (K W : FVec Ideal S512x128 .bf16)
    (C : FVec Ideal S1x1x2x512 .f32) (j : Fin 2) (r k : Fin 512) : EReal :=
  (if k.val ≤ r.val then weight X L K C j r k else 0) * slope D E W r k

section
variable (A : IVec S512x128 1) (X D X0 X1 D0 D1 : FVec Ideal S512x128 .bf16) (L E L0 L1 E0 E1 : FVec Ideal S512x128 .f32)
  (K W : FVec Ideal S512x128 .bf16) (C : FVec Ideal S1x1x2x512 .f32) (r : Fin 256) (l : Fin 128)

/-- A masked exponential of the first span is the diagonal tile's weight. -/
theorem weight_up (j : Fin 2) (n : ℕ) (hn : n < 256) (hl : lane ⟨n, by omega⟩ = l) :
    Ideal.exp (Scalar.select (IntOp.cmpi .sge (IntOp.addi (BitVec.ofNat 32 r.val) 0#32)
        (IntOp.addi (BitVec.ofNat 32 n) 0#32)) (dot X K ⟨r.val, by omega⟩ ⟨n, by omega⟩ - C (ix4 0 0 j ⟨n, by omega⟩))
        (Ideal.ofBits .f32 4286578688#32) - L (ix2 ⟨r.val, by omega⟩ l))
      = if n ≤ r.val then weight X L K C j ⟨r.val, by omega⟩ ⟨n, by omega⟩ else 0 := by
  rw [exp_masked _ (n ≤ r.val) (sge_iff r.val n (by omega) (by omega) _ (by decide)), ← hl]; rfl

/-- A masked exponential of the second span is the diagonal tile's weight. -/
theorem weight_low (j : Fin 2) (n : ℕ) (hn : n < 512) (hl : lane ⟨n, hn⟩ = l) :
    Ideal.exp (Scalar.select (IntOp.cmpi .sge (IntOp.addi (BitVec.ofNat 32 r.val) 256#32)
        (IntOp.addi (BitVec.ofNat 32 n) 0#32)) (dot X K ⟨256 + r.val, by omega⟩ ⟨n, hn⟩ - C (ix4 0 0 j ⟨n, hn⟩))
        (Ideal.ofBits .f32 4286578688#32) - L (ix2 ⟨256 + r.val, by omega⟩ l))
      = if n ≤ 256 + r.val then weight X L K C j ⟨256 + r.val, by omega⟩ ⟨n, hn⟩ else 0 := by
  have e : IntOp.addi (BitVec.ofNat 32 r.val) 256#32 = IntOp.addi (BitVec.ofNat 32 (256 + r.val)) 0#32 := by
    revert r; decide +kernel
  rw [e, exp_masked _ (n ≤ 256 + r.val) (sge_iff (256 + r.val) n (by omega) (by omega) _ (by decide)), ← hl]; rfl

theorem pay64 : k0_pay64 D L E (k0_pay58 W) (k0_pay59 X K C) (ix2 r l)
    = gradD X D L E K W C 0 ⟨r.val, by omega⟩ ⟨l.val, by omega⟩ := by
  unfold_payloads
  pointwise
  exact congrArg₂ (· * ·) (weight_up X L K C r l 0 _ (by omega) (lane_eq0 l _)) (congrArg _ (by rw [lane_eq0]))
theorem pay65 : k0_pay65 D L E (k0_pay58 W) (k0_pay59 X K C) (ix2 r l)
    = gradD X D L E K W C 0 ⟨r.val, by omega⟩ ⟨128 + l.val, by omega⟩ := by
  unfold_payloads
  pointwise
  exact congrArg₂ (· * ·) (weight_up X L K C r l 0 _ (by omega) (lane_eq l _ rfl _)) (congrArg _ (by rw [lane_eq _ _ rfl]))
theorem pay75 : k0_pay75 D L E (k0_pay58 W) (k0_pay68 X (k0_pay56 C) (k0_pay57 K)) k0_pay69
      (iota .tc S256x256 32 [1] iota_S256x256_d1_w32) k0_pay70 (ix2 r l)
    = gradD X D L E K W C 1 ⟨r.val, by omega⟩ ⟨l.val, by omega⟩ := by
  unfold_payloads
  pointwise
  exact congrArg₂ (· * ·) (weight_up X L K C r l 1 _ (by omega) (lane_eq0 l _)) (congrArg _ (by rw [lane_eq0]))
theorem pay76 : k0_pay76 D L E (k0_pay58 W) (k0_pay68 X (k0_pay56 C) (k0_pay57 K)) k0_pay69
      (iota .tc S256x256 32 [1] iota_S256x256_d1_w32) k0_pay70 (ix2 r l)
    = gradD X D L E K W C 1 ⟨r.val, by omega⟩ ⟨128 + l.val, by omega⟩ := by
  unfold_payloads
  pointwise
  exact congrArg₂ (· * ·) (weight_up X L K C r l 1 _ (by omega) (lane_eq l _ rfl _)) (congrArg _ (by rw [lane_eq _ _ rfl]))

theorem pay84 : k0_pay84 D L E W (k0_pay79 X K (k0_pay56 C)) (iota .tc S256x512 32 [0] iota_S256x512_d0_w32) 256#32 (ix2 r l)
    = gradD X D L E K W C 0 ⟨256 + r.val, by omega⟩ ⟨l.val, by omega⟩ := by
  unfold_payloads
  pointwise
  exact congrArg₂ (· * ·) (weight_low X L K C r l 0 _ (by omega) (lane_eq0 l _)) (congrArg _ (by rw [lane_eq0]))
theorem pay85 : k0_pay85 D L E W (k0_pay79 X K (k0_pay56 C)) (iota .tc S256x512 32 [0] iota_S256x512_d0_w32) 256#32 (ix2 r l)
    = gradD X D L E K W C 0 ⟨256 + r.val, by omega⟩ ⟨128 + l.val, by omega⟩ := by
  unfold_payloads
  pointwise
  exact congrArg₂ (· * ·) (weight_low X L K C r l 0 _ (by omega) (lane_eq l _ rfl _)) (congrArg _ (by rw [lane_eq _ _ rfl]))
theorem pay86 : k0_pay86 D L E W (k0_pay79 X K (k0_pay56 C)) (iota .tc S256x512 32 [0] iota_S256x512_d0_w32) 256#32 (ix2 r l)
    = gradD X D L E K W C 0 ⟨256 + r.val, by omega⟩ ⟨256 + l.val, by omega⟩ := by
  unfold_payloads
  pointwise
  exact congrArg₂ (· * ·) (weight_low X L K C r l 0 _ (by omega) (lane_eq l _ rfl _)) (congrArg _ (by rw [lane_eq _ _ rfl]))
theorem pay87 : k0_pay87 D L E W (k0_pay79 X K (k0_pay56 C)) (iota .tc S256x512 32 [0] iota_S256x512_d0_w32) 256#32 (ix2 r l)
    = gradD X D L E K W C 0 ⟨256 + r.val, by omega⟩ ⟨384 + l.val, by omega⟩ := by
  unfold_payloads
  pointwise
  exact congrArg₂ (· * ·) (weight_low X L K C r l 0 _ (by omega) (lane_eq l _ rfl _)) (congrArg _ (by rw [lane_eq _ _ rfl]))
theorem pay95 : k0_pay95 D L E K W (k0_pay56 C) (k0_pay90 X) (ix2 r l)
    = gradD X D L E K W C 1 ⟨256 + r.val, by omega⟩ ⟨l.val, by omega⟩ := by
  unfold_payloads
  pointwise
  exact congrArg₂ (· * ·) (weight_low X L K C r l 1 _ (by omega) (lane_eq0 l _)) (congrArg _ (by rw [lane_eq0]))
theorem pay96 : k0_pay96 D L E K W (k0_pay56 C) (k0_pay90 X) (ix2 r l)
    = gradD X D L E K W C 1 ⟨256 + r.val, by omega⟩ ⟨128 + l.val, by omega⟩ := by
  unfold_payloads
  pointwise
  exact congrArg₂ (· * ·) (weight_low X L K C r l 1 _ (by omega) (lane_eq l _ rfl _)) (congrArg _ (by rw [lane_eq _ _ rfl]))
theorem pay97 : k0_pay97 D L E K W (k0_pay56 C) (k0_pay90 X) (ix2 r l)
    = gradD X D L E K W C 1 ⟨256 + r.val, by omega⟩ ⟨256 + l.val, by omega⟩ := by
  unfold_payloads
  pointwise
  exact congrArg₂ (· * ·) (weight_low X L K C r l 1 _ (by omega) (lane_eq l _ rfl _)) (congrArg _ (by rw [lane_eq _ _ rfl]))
theorem pay98 : k0_pay98 D L E K W (k0_pay56 C) (k0_pay90 X) (ix2 r l)
    = gradD X D L E K W C 1 ⟨256 + r.val, by omega⟩ ⟨384 + l.val, by omega⟩ := by
  unfold_payloads
  pointwise
  exact congrArg₂ (· * ·) (weight_low X L K C r l 1 _ (by omega) (lane_eq l _ rfl _)) (congrArg _ (by rw [lane_eq _ _ rfl]))

/-- A query of the first 256 sees no key after them. -/
theorem gradD_zero (j : Fin 2) (k : Fin 512) (h : 256 ≤ k.val) :
    gradD X D L E K W C j ⟨r.val, by omega⟩ k = 0 := by
  unfold gradD
  rw [if_neg (by simp only; omega), zero_mul]

/-- A sum over the tile's keys, only the first 256 counting, is the sum over two blocks of 128. -/
theorem sum_first (f : Fin 512 → EReal) (h : ∀ k : Fin 512, 256 ≤ k.val → f k = 0) :
    ∑ k, f k = ∑ x : Fin 128, f ⟨x.val, by omega⟩ + ∑ x : Fin 128, f ⟨128 + x.val, by omega⟩ := by
  have e : (512 : ℕ) = 128 + 128 + 256 := rfl
  calc ∑ k, f k = ∑ k : Fin (128 + 128 + 256), f (Fin.cast e.symm k) := rfl
    _ = _ := by
      rw [Fin.sum_univ_add, Fin.sum_univ_add,
        Finset.sum_eq_zero (s := Finset.univ) (f := fun k : Fin 256 => f (Fin.cast e.symm (Fin.natAdd (128 + 128) k)))
          fun k _ => h _ (Nat.le_add_right _ _), add_zero]
      rfl

/-- The first span's addition to the queries' gradient. -/
theorem up_dq (O : FVec Ideal S256x128 .f32) :
    k0_pay78 A D1 L1 E1 (k0_pay57 K) (k0_pay58 W)
      (k0_pay67 D0 L0 E0 (k0_pay57 K) (k0_pay58 W) (k0_pay59 X0 K C)) (k0_pay68 X1 (k0_pay56 C) (k0_pay57 K)) k0_pay69
      (iota .tc S256x256 32 [1] iota_S256x256_d1_w32) k0_pay70 O (ix2 r l)
    = O (ix2 r l) + Scalar.select (A (ix2 ⟨r.val, by omega⟩ l))
        (∑ k, gradD X0 D0 L0 E0 K W C 0 ⟨r.val, by omega⟩ k * K (ix2 k l))
        (∑ k, gradD X1 D1 L1 E1 K W C 1 ⟨r.val, by omega⟩ k * K (ix2 k l)) := by
  rw [sum_first _ fun k h => by rw [gradD_zero _ _ _ _ _ _ _ _ _ _ h, zero_mul],
    sum_first _ fun k h => by rw [gradD_zero _ _ _ _ _ _ _ _ _ _ h, zero_mul]]
  unfold k0_pay78 k0_pay67 k0_pay57
  pointwise
  refine congrArg _ (congrArg₂ _ ?_ ?_)
  · refine congrArg₂ (· + ·) ?_ ?_
    · exact Finset.sum_congr rfl fun x _ => congrArg (· * _) (pay64 X0 D0 L0 E0 K W C r x)
    · exact Finset.sum_congr rfl fun x _ => congrArg (· * _) (pay65 X0 D0 L0 E0 K W C r x)
  · refine congrArg₂ (· + ·) ?_ ?_
    · exact Finset.sum_congr rfl fun x _ => congrArg (· * _) (pay75 X1 D1 L1 E1 K W C r x)
    · exact Finset.sum_congr rfl fun x _ => congrArg (· * _) (pay76 X1 D1 L1 E1 K W C r x)

theorem lanes_up (j : Fin 2) : lanes (gradD X D L E K W C j ⟨r.val, by omega⟩) l
    = gradD X D L E K W C j ⟨r.val, by omega⟩ ⟨l.val, by omega⟩
      + gradD X D L E K W C j ⟨r.val, by omega⟩ ⟨128 + l.val, by omega⟩ := by
  unfold lanes
  rw [gradD_zero _ _ _ _ _ _ _ _ _ ⟨256 + l.val, by omega⟩ (by simp only; omega),
    gradD_zero _ _ _ _ _ _ _ _ _ ⟨384 + l.val, by omega⟩ (by simp only; omega), add_zero, add_zero]

/-- The first span's addition to the row sums, of the pair's first head. -/
theorem up_r0 (O : FVec Ideal S1x256x128 .f32) :
    k0_pay66 D L E (k0_pay58 W) (k0_pay59 X K C) O (ix3 0 r l)
    = O (ix3 0 r l) + lanes (gradD X D L E K W C 0 ⟨r.val, by omega⟩) l := by
  rw [lanes_up, ← pay64, ← pay65]
  unfold k0_pay66
  pointwise

/-- The first span's addition to the row sums, of the pair's second head. -/
theorem up_r1 (O : FVec Ideal S1x256x128 .f32) :
    k0_pay77 D L E (k0_pay58 W) (k0_pay68 X (k0_pay56 C) (k0_pay57 K)) k0_pay69
      (iota .tc S256x256 32 [1] iota_S256x256_d1_w32) k0_pay70 O (ix3 0 r l)
    = O (ix3 0 r l) + lanes (gradD X D L E K W C 1 ⟨r.val, by omega⟩) l := by
  rw [lanes_up, ← pay75, ← pay76]
  unfold k0_pay77
  pointwise

/-- The second span's addition to the queries' gradient. -/
theorem low_dq (O : FVec Ideal S256x128 .f32) :
    k0_pay101 A K (k0_pay89 D0 L0 E0 K W (k0_pay79 X0 K (k0_pay56 C)) (iota .tc S256x512 32 [0] iota_S256x512_d0_w32) 256#32)
      (k0_pay95 D1 L1 E1 K W (k0_pay56 C) (k0_pay90 X1)) (k0_pay96 D1 L1 E1 K W (k0_pay56 C) (k0_pay90 X1))
      (k0_pay97 D1 L1 E1 K W (k0_pay56 C) (k0_pay90 X1)) (k0_pay98 D1 L1 E1 K W (k0_pay56 C) (k0_pay90 X1)) O (ix2 r l)
    = O (ix2 r l) + Scalar.select (A (ix2 ⟨256 + r.val, by omega⟩ l))
        (∑ k, gradD X0 D0 L0 E0 K W C 0 ⟨256 + r.val, by omega⟩ k * K (ix2 k l))
        (∑ k, gradD X1 D1 L1 E1 K W C 1 ⟨256 + r.val, by omega⟩ k * K (ix2 k l)) := by
  unfold k0_pay101 k0_pay89
  pointwise
  refine congrArg _ (congrArg₂ _ ?_ ?_)
  · exact Finset.sum_congr rfl fun k _ => congrArg (· * _)
      (beside (gradD X0 D0 L0 E0 K W C 0 ⟨256 + r.val, by omega⟩) _ _ _ _ (pay84 X0 D0 L0 E0 K W C r)
        (pay85 X0 D0 L0 E0 K W C r) (pay86 X0 D0 L0 E0 K W C r) (pay87 X0 D0 L0 E0 K W C r) k)
  · exact Finset.sum_congr rfl fun k _ => congrArg (· * _)
      (beside (gradD X1 D1 L1 E1 K W C 1 ⟨256 + r.val, by omega⟩) _ _ _ _ (pay95 X1 D1 L1 E1 K W C r)
        (pay96 X1 D1 L1 E1 K W C r) (pay97 X1 D1 L1 E1 K W C r) (pay98 X1 D1 L1 E1 K W C r) k)

/-- The second span's addition to the row sums, of the pair's first head. -/
theorem low_r0 (O : FVec Ideal S1x256x128 .f32) :
    k0_pay88 D L E W (k0_pay79 X K (k0_pay56 C)) (iota .tc S256x512 32 [0] iota_S256x512_d0_w32) 256#32 O (ix3 0 r l)
    = O (ix3 0 r l) + lanes (gradD X D L E K W C 0 ⟨256 + r.val, by omega⟩) l := by
  unfold lanes
  rw [← pay84, ← pay85, ← pay86, ← pay87]
  unfold k0_pay88
  pointwise

/-- The second span's addition to the row sums, of the pair's second head. -/
theorem low_r1 (O : FVec Ideal S1x256x128 .f32) :
    k0_pay100 (k0_pay99 D L E K W (k0_pay56 C) (k0_pay90 X) O) (ix3 0 r l)
    = O (ix3 0 r l) + lanes (gradD X D L E K W C 1 ⟨256 + r.val, by omega⟩) l := by
  unfold lanes
  rw [← pay95, ← pay96, ← pay97, ← pay98]
  unfold k0_pay100 k0_pay99
  pointwise

end

end Cert.Kernel2Ideal.Dq
-- ==== Proof.QLoop.lean ====
module

public import proofs.«01_k».proof.Proof.QTrip
public import proofs.«01_k».proof.Proof.QDiagonal

/-!
# The loop over the key tiles

What the two accumulators hold after a number of trips: what they held before, and what each tile adds.
-/

@[expose] public section

set_option maxRecDepth 16384

noncomputable section

namespace Cert.Kernel2Ideal.Dq

open Idealize.ShloMosaic Idealize.ShloMosaic.TcCoe Cert.Kernel2Ideal.Gen Idealize.ShloMosaic.Tactic
open Cert.KernelIdeal.Dkv (lane lanes)

/-- A store of the whole accumulator hides every store before it. -/
theorem canon_whole (w : FVec Ideal S512x128 .f32) (L : List (View.Piece (Elt Ideal) S512x128 .f32)) :
    View.canon (⟨Rect.unit (s := S512x128) ![0, 0] ![512, 128] inb_S512x128_S512x128_0_0, w⟩ :: L) = w :=
  View.canon_cons_unit_lit' (S := S512x128) _ w L (by decide)

/-- A load of the whole accumulator after some stores. -/
theorem readAt_whole (v : Memref sig .tc .vmem S512x128 .f32) (L L' : List (View.Piece (Elt Ideal) S512x128 .f32)) :
    v.view.readAt (Elt Ideal) (Rect.unit (s := S512x128) ![0, 0] ![512, 128] inb_S512x128_S512x128_0_0).toLoadRect
      (v.view.writes (Elt Ideal) (v.view.writes (Elt Ideal) v.view.junk L) L') = View.canon (L' ++ L) := by
  rw [← View.writes_append, View.readAt_eq_ld, View.read_writes_junk_eq_canon]
  exact View.ld_unit_lit' (S := S512x128) _ _ (by decide)

/-- What the two slabs of the row sums' accumulator hold after a store into each. -/
theorem canon_slab0 (w w' : FVec Ideal S1x512x128 .f32) (L : List (View.Piece (Elt Ideal) S2x512x128 .f32))
    (r : Fin 512) (l : Fin 128) :
    View.canon ((⟨Rect.unit (s := S2x512x128) ![1, 0, 0] ![1, 512, 128] inb_S2x512x128_S1x512x128_1_0_0, w'⟩ :
        View.Piece (Elt Ideal) S2x512x128 .f32) ::
      (⟨Rect.unit (s := S2x512x128) ![0, 0, 0] ![1, 512, 128] inb_S2x512x128_S1x512x128_0_0_0, w⟩ :
        View.Piece (Elt Ideal) S2x512x128 .f32) :: L) (ix3 0 r l)
      = w (ix3 0 r l) := by
  have h : (ix3 0 r l : S2x512x128.Idx) ∉ (Rect.unit (s := S2x512x128) ![1, 0, 0] ![1, 512, 128]
      inb_S2x512x128_S1x512x128_1_0_0).set := fun h => Nat.not_succ_le_zero 0 ((Rect.mem_set_unit.1 h) 0).1
  have e : (Rect.unit (s := S2x512x128) ![0, 0, 0] ![1, 512, 128] inb_S2x512x128_S1x512x128_0_0_0).emb
      (ix3 0 r l : S1x512x128.Idx) = (ix3 0 r l : S2x512x128.Idx) := by blk_ext
  refine (View.canon_cons_of_not_mem (⟨Rect.unit (s := S2x512x128) ![1, 0, 0] ![1, 512, 128]
    inb_S2x512x128_S1x512x128_1_0_0, w'⟩ : View.Piece (Elt Ideal) S2x512x128 .f32) _ h).trans ?_
  rw [← e]
  exact View.canon_cons_emb _ _ _ _

theorem canon_slab1 (w' : FVec Ideal S1x512x128 .f32) (L : List (View.Piece (Elt Ideal) S2x512x128 .f32))
    (r : Fin 512) (l : Fin 128) :
    View.canon (⟨Rect.unit (s := S2x512x128) ![1, 0, 0] ![1, 512, 128] inb_S2x512x128_S1x512x128_1_0_0, w'⟩ :: L)
      (ix3 1 r l) = w' (ix3 0 r l) := by
  rw [show (ix3 1 r l : S2x512x128.Idx) = (Rect.unit (s := S2x512x128) ![1, 0, 0] ![1, 512, 128] inb_S2x512x128_S1x512x128_1_0_0).emb (ix3 0 r l : S1x512x128.Idx) from ?_]
  · exact View.canon_cons_emb _ _ _ _
  · blk_ext
/-- A load of a slab of the row sums' accumulator after some stores. -/
theorem readAt_slab0 (v : Memref sig .tc .vmem S2x512x128 .f32) (L L' : List (View.Piece (Elt Ideal) S2x512x128 .f32))
    (r : Fin 512) (l : Fin 128) :
    v.view.readAt (Elt Ideal) (Rect.unit (s := S2x512x128) ![0, 0, 0] ![1, 512, 128]
      inb_S2x512x128_S1x512x128_0_0_0).toLoadRect (v.view.writes (Elt Ideal) (v.view.writes (Elt Ideal) v.view.junk L) L')
      (ix3 0 r l) = View.canon (L' ++ L) (ix3 0 r l) := by
  rw [← View.writes_append, View.readAt_eq_ld, View.read_writes_junk_eq_canon]
  refine congrArg (View.canon (L' ++ L)) ?_
  show (Rect.unit (s := S2x512x128) ![0, 0, 0] ![1, 512, 128] inb_S2x512x128_S1x512x128_0_0_0).emb
    (ix3 0 r l : S1x512x128.Idx) = (ix3 0 r l : S2x512x128.Idx)
  blk_ext

theorem readAt_slab1 (v : Memref sig .tc .vmem S2x512x128 .f32) (L L' : List (View.Piece (Elt Ideal) S2x512x128 .f32))
    (r : Fin 512) (l : Fin 128) :
    v.view.readAt (Elt Ideal) (Rect.unit (s := S2x512x128) ![1, 0, 0] ![1, 512, 128]
      inb_S2x512x128_S1x512x128_1_0_0).toLoadRect (v.view.writes (Elt Ideal) (v.view.writes (Elt Ideal) v.view.junk L) L')
      (ix3 0 r l) = View.canon (L' ++ L) (ix3 1 r l) := by
  rw [← View.writes_append, View.readAt_eq_ld, View.read_writes_junk_eq_canon]
  refine congrArg (View.canon (L' ++ L)) ?_
  show (Rect.unit (s := S2x512x128) ![1, 0, 0] ![1, 512, 128] inb_S2x512x128_S1x512x128_1_0_0).emb
    (ix3 0 r l : S1x512x128.Idx) = (ix3 1 r l : S2x512x128.Idx)
  blk_ext

variable (𝒱 : Variants) (c : Dev nD) (bd : Option 𝒱.V) (i : grid0.Coords) (arg2 : Memref sig .tc .smem S8x32 .i32)
  (harg2 : arg2.IsWhole) (arg3 : Memref sig .tc .vmem S512x128 .bf16) (harg3 : arg3.IsWhole)
  (arg4 : Memref sig .tc .vmem S512x128 .bf16) (harg4 : arg4.IsWhole)
  (arg5 : Memref sig .tc .vmem S16384x128 .bf16) (harg5 : arg5.IsWhole)
  (arg6 : Memref sig .tc .vmem S16384x128 .bf16) (harg6 : arg6.IsWhole)
  (arg7 : Memref sig .tc .vmem S1x32x2x512 .f32) (harg7 : arg7.IsWhole)
  (arg8 : Memref sig .tc .vmem S1x512x2 .f32) (harg8 : arg8.IsWhole)
  (arg9 : Memref sig .tc .vmem S512x128 .f32) (harg9 : arg9.IsWhole)
  (arg10 : Memref sig .tc .vmem S512x128 .bf16) (harg10 : arg10.IsWhole)
  (arg11 : Memref sig .tc .vmem S1x1x2x512 .f32) (harg11 : arg11.IsWhole)
  (arg12 : Memref sig .tc .vmem S512x128 .f32) (harg12 : arg12.IsWhole)
  (arg13 : Memref sig .tc .vmem S2x512x128 .f32) (harg13 : arg13.IsWhole)
  (arg0 : BitVec 32) (arg1 : BitVec 32) (v6 : IVec S512x128 1) (v8 : FVec Ideal S512x128 .bf16)
  (v9 : FVec Ideal S512x128 .bf16) (v10 : Vec Ideal S512x128 .bf16) (v11 : FVec Ideal S512x128 .bf16)
  (v19 : FVec Ideal S512x128 .f32) (v22 : FVec Ideal S512x128 .f32) (v32 : FVec Ideal S512x128 .f32) (v38 : FVec Ideal S512x128 .f32)
  (v53 : Elt Ideal .i32) (k0_hw1 : k0_chk1 i v53) (X_arg5 : BufTy.Contents (Elt Ideal) arg5.view.ty)
  (X_arg6 : BufTy.Contents (Elt Ideal) arg6.view.ty) (X_arg7 : BufTy.Contents (Elt Ideal) arg7.view.ty)

variable (I12 : List (View.Piece (Elt Ideal) S512x128 .f32)) (I13 : List (View.Piece (Elt Ideal) S2x512x128 .f32))

/-- The stores of the trips before `n`, over stores `I12`, `I13` made before the loop. -/
abbrev stored (n : ℕ) :=
    pb_k0_t1 (F := Ideal) 𝒱 c bd i arg2 harg2 arg3 harg3 arg4 harg4 arg5 harg5 arg6 harg6 arg7 harg7 arg8 harg8 arg9 harg9
      arg10 harg10 arg11 harg11 arg12 harg12 arg13 harg13 arg0 arg1 v6 v8 v9 v10 v11 v19 v22 v32 v38 v53 k0_hw1
      X_arg5 X_arg6 X_arg7
      (arg12.view.writes (Elt Ideal) arg12.view.junk I12) (arg13.view.writes (Elt Ideal) arg13.view.junk I13) n

variable (Kt Wt : ℕ → FVec Ideal S512x128 .bf16) (Ct : ℕ → FVec Ideal S1x1x2x512 .f32)

/-- The queries' accumulator after `n` trips. -/
theorem loop_dq (r : Fin 512) (l : Fin 128)
    (hq : ∀ k a, k0_off2 i v53 k a + S512x128.size a ≤ S16384x128.size a)
    (hl : ∀ k a, k0_off3 i v53 k a + S1x1x2x512.size a ≤ S1x32x2x512.size a)
    (eK : ∀ k, kT i arg5 v53 X_arg5 k (hq k) = Kt k) (eW : ∀ k, kT i arg6 v53 X_arg6 k (hq k) = Wt k)
    (eC : ∀ k, cT i arg7 v53 X_arg7 k (hl k) = Ct k) (n : ℕ) (hn : n ≤ (k0_t1_loop i v53).trips) :
    View.canon ((stored 𝒱 c bd i arg2 harg2 arg3 harg3 arg4 harg4 arg5 harg5 arg6 harg6 arg7 harg7 arg8 harg8 arg9 harg9
      arg10 harg10 arg11 harg11 arg12 harg12 arg13 harg13 arg0 arg1 v6 v8 v9 v10 v11 v19 v22 v32 v38 v53 k0_hw1
      X_arg5 X_arg6 X_arg7 I12 I13 n).1 ++ I12) (ix2 r l)
      = View.canon I12 (ix2 r l) + ∑ t ∈ Finset.range n, Scalar.select (v6 (ix2 r l))
          (∑ k, grad v8 v10 v19 v32 (Kt t) (Wt t) (Ct t) 0 r k * Kt t (ix2 k l))
          (∑ k, grad v9 v11 v22 (k0_pay51 v38) (Kt t) (Wt t) (Ct t) 1 r k * Kt t (ix2 k l)) := by
  induction n with
  | zero => simp [stored, pb_k0_t1]
  | succ n ih =>
    have ih := ih (by omega)
    have e := pb_k0_t1_succ (F := Ideal) 𝒱 c bd i arg2 harg2 arg3 harg3 arg4 harg4 arg5 harg5 arg6 harg6 arg7 harg7 arg8 harg8 arg9 harg9
      arg10 harg10 arg11 harg11 arg12 harg12 arg13 harg13 arg0 arg1 v6 v8 v9 v10 v11 v19 v22 v32 v38 v53 k0_hw1
      X_arg5 X_arg6 X_arg7
      (arg12.view.writes (Elt Ideal) arg12.view.junk I12) (arg13.view.writes (Elt Ideal) arg13.view.junk I13) ⟨n, by omega⟩
    rw [trip (hq := hq _) (hl := hl _)] at e
    rw [Finset.sum_range_succ, ← add_assoc, ← ih]
    unfold stored
    simp only [] at e
    rw [e]
    simp only [List.cons_append, List.nil_append]
    rw [canon_whole, readAt_whole, eK, eW, eC, tile_dq]

/-- The row sums' accumulator, of the pair's first head, after `n` trips. -/
theorem loop_r0 (r : Fin 512) (l : Fin 128)
    (hq : ∀ k a, k0_off2 i v53 k a + S512x128.size a ≤ S16384x128.size a)
    (hl : ∀ k a, k0_off3 i v53 k a + S1x1x2x512.size a ≤ S1x32x2x512.size a)
    (eK : ∀ k, kT i arg5 v53 X_arg5 k (hq k) = Kt k) (eW : ∀ k, kT i arg6 v53 X_arg6 k (hq k) = Wt k)
    (eC : ∀ k, cT i arg7 v53 X_arg7 k (hl k) = Ct k) (n : ℕ) (hn : n ≤ (k0_t1_loop i v53).trips) :
    View.canon ((stored 𝒱 c bd i arg2 harg2 arg3 harg3 arg4 harg4 arg5 harg5 arg6 harg6 arg7 harg7 arg8 harg8 arg9 harg9
      arg10 harg10 arg11 harg11 arg12 harg12 arg13 harg13 arg0 arg1 v6 v8 v9 v10 v11 v19 v22 v32 v38 v53 k0_hw1
      X_arg5 X_arg6 X_arg7 I12 I13 n).2 ++ I13) (ix3 0 r l)
      = View.canon I13 (ix3 0 r l) + ∑ t ∈ Finset.range n, lanes (grad v8 v10 v19 v32 (Kt t) (Wt t) (Ct t) 0 r) l := by
  induction n with
  | zero => simp [stored, pb_k0_t1]
  | succ n ih =>
    have ih := ih (by omega)
    have e := pb_k0_t1_succ (F := Ideal) 𝒱 c bd i arg2 harg2 arg3 harg3 arg4 harg4 arg5 harg5 arg6 harg6 arg7 harg7 arg8 harg8 arg9 harg9
      arg10 harg10 arg11 harg11 arg12 harg12 arg13 harg13 arg0 arg1 v6 v8 v9 v10 v11 v19 v22 v32 v38 v53 k0_hw1
      X_arg5 X_arg6 X_arg7
      (arg12.view.writes (Elt Ideal) arg12.view.junk I12) (arg13.view.writes (Elt Ideal) arg13.view.junk I13) ⟨n, by omega⟩
    rw [trip (hq := hq _) (hl := hl _)] at e
    rw [Finset.sum_range_succ, ← add_assoc, ← ih]
    unfold stored
    simp only [] at e
    rw [e]
    simp only [List.cons_append, List.nil_append]
    rw [canon_slab0, eK, eW, eC, tile_r0, readAt_slab0]

/-- The row sums' accumulator, of the pair's second head, after `n` trips. -/
theorem loop_r1 (r : Fin 512) (l : Fin 128)
    (hq : ∀ k a, k0_off2 i v53 k a + S512x128.size a ≤ S16384x128.size a)
    (hl : ∀ k a, k0_off3 i v53 k a + S1x1x2x512.size a ≤ S1x32x2x512.size a)
    (eK : ∀ k, kT i arg5 v53 X_arg5 k (hq k) = Kt k) (eW : ∀ k, kT i arg6 v53 X_arg6 k (hq k) = Wt k)
    (eC : ∀ k, cT i arg7 v53 X_arg7 k (hl k) = Ct k) (n : ℕ) (hn : n ≤ (k0_t1_loop i v53).trips) :
    View.canon ((stored 𝒱 c bd i arg2 harg2 arg3 harg3 arg4 harg4 arg5 harg5 arg6 harg6 arg7 harg7 arg8 harg8 arg9 harg9
      arg10 harg10 arg11 harg11 arg12 harg12 arg13 harg13 arg0 arg1 v6 v8 v9 v10 v11 v19 v22 v32 v38 v53 k0_hw1
      X_arg5 X_arg6 X_arg7 I12 I13 n).2 ++ I13) (ix3 1 r l)
      = View.canon I13 (ix3 1 r l) + ∑ t ∈ Finset.range n, lanes (grad v9 v11 v22 (k0_pay51 v38) (Kt t) (Wt t) (Ct t) 1 r) l := by
  induction n with
  | zero => simp [stored, pb_k0_t1]
  | succ n ih =>
    have ih := ih (by omega)
    have e := pb_k0_t1_succ (F := Ideal) 𝒱 c bd i arg2 harg2 arg3 harg3 arg4 harg4 arg5 harg5 arg6 harg6 arg7 harg7 arg8 harg8 arg9 harg9
      arg10 harg10 arg11 harg11 arg12 harg12 arg13 harg13 arg0 arg1 v6 v8 v9 v10 v11 v19 v22 v32 v38 v53 k0_hw1
      X_arg5 X_arg6 X_arg7
      (arg12.view.writes (Elt Ideal) arg12.view.junk I12) (arg13.view.writes (Elt Ideal) arg13.view.junk I13) ⟨n, by omega⟩
    rw [trip (hq := hq _) (hl := hl _)] at e
    rw [Finset.sum_range_succ, ← add_assoc, ← ih]
    unfold stored
    simp only [] at e
    rw [e]
    simp only [List.cons_append, List.nil_append]
    rw [canon_slab1, eK, eW, eC, tile_r1, readAt_slab1]

end Cert.Kernel2Ideal.Dq
-- ==== Proof.QStart.lean ====
module

public import proofs.«01_k».proof.Proof.QLoop

/-!
# The accumulators after the diagonal tile

The two spans of the diagonal tile's queries, stored over what the loop left, as one array.
-/

@[expose] public section

set_option maxRecDepth 16384

noncomputable section

namespace Cert.Kernel2Ideal.Dq

open Idealize.ShloMosaic Idealize.ShloMosaic.TcCoe Cert.Kernel2Ideal.Gen Idealize.ShloMosaic.Tactic

variable {α : Type}

/-- Two stores of 256 rows each: what an array of 512 rows holds. -/
theorem canon_spans (u w : FVec Ideal S256x128 .f32) (L : List (View.Piece (Elt Ideal) S512x128 .f32))
    (f : Fin 512 → Fin 128 → EReal)
    (hu : ∀ (r : Fin 256) l, u (ix2 r l) = f ⟨r.val, by omega⟩ l)
    (hw : ∀ (r : Fin 256) l, w (ix2 r l) = f ⟨256 + r.val, by omega⟩ l) (r : Fin 512) (l : Fin 128) :
    View.canon ((⟨Rect.unit (s := S512x128) ![256, 0] ![256, 128] inb_S512x128_S256x128_256_0, w⟩ :
        View.Piece (Elt Ideal) S512x128 .f32) ::
      (⟨Rect.unit (s := S512x128) ![0, 0] ![256, 128] inb_S512x128_S256x128_0_0, u⟩ :
        View.Piece (Elt Ideal) S512x128 .f32) :: L) (ix2 r l) = f r l := by
  by_cases h : r.val < 256
  · have h' : (ix2 r l : S512x128.Idx) ∉ (Rect.unit (s := S512x128) ![256, 0] ![256, 128]
        inb_S512x128_S256x128_256_0).set := fun hm => absurd ((Rect.mem_set_unit.1 hm) 0).1 (Nat.not_le.2 h)
    have e : (Rect.unit (s := S512x128) ![0, 0] ![256, 128] inb_S512x128_S256x128_0_0).emb
        (ix2 (⟨r.val, h⟩ : Fin 256) l : S256x128.Idx) = (ix2 r l : S512x128.Idx) := by blk_ext
    refine (View.canon_cons_of_not_mem (⟨Rect.unit (s := S512x128) ![256, 0] ![256, 128]
      inb_S512x128_S256x128_256_0, w⟩ : View.Piece (Elt Ideal) S512x128 .f32) _ h').trans ?_
    rw [← e]
    exact (View.canon_cons_emb _ _ _ _).trans (hu ⟨r.val, h⟩ l)
  · have e : (Rect.unit (s := S512x128) ![256, 0] ![256, 128] inb_S512x128_S256x128_256_0).emb
        (ix2 (⟨r.val - 256, by omega⟩ : Fin 256) l : S256x128.Idx) = (ix2 r l : S512x128.Idx) := by
      blk_ext
    rw [← e]
    refine (View.canon_cons_emb _ _ _ _).trans ((hw ⟨r.val - 256, by omega⟩ l).trans ?_)
    exact congrArg (f · l) (Fin.ext (by show 256 + (r.val - 256) = r.val; omega))

/-- The same over the two slabs of the row sums. -/
theorem canon_slabs (u0 w0 u1 w1 : FVec Ideal S1x256x128 .f32) (L : List (View.Piece (Elt Ideal) S2x512x128 .f32))
    (f : Fin 2 → Fin 512 → Fin 128 → EReal)
    (hu0 : ∀ (r : Fin 256) l, u0 (ix3 0 r l) = f 0 ⟨r.val, by omega⟩ l)
    (hw0 : ∀ (r : Fin 256) l, w0 (ix3 0 r l) = f 0 ⟨256 + r.val, by omega⟩ l)
    (hu1 : ∀ (r : Fin 256) l, u1 (ix3 0 r l) = f 1 ⟨r.val, by omega⟩ l)
    (hw1 : ∀ (r : Fin 256) l, w1 (ix3 0 r l) = f 1 ⟨256 + r.val, by omega⟩ l) (j : Fin 2) (r : Fin 512) (l : Fin 128) :
    View.canon ((⟨Rect.unit (s := S2x512x128) ![1, 256, 0] ![1, 256, 128] inb_S2x512x128_S1x256x128_1_256_0, w1⟩ :
        View.Piece (Elt Ideal) S2x512x128 .f32) ::
      (⟨Rect.unit (s := S2x512x128) ![0, 256, 0] ![1, 256, 128] inb_S2x512x128_S1x256x128_0_256_0, w0⟩ :
        View.Piece (Elt Ideal) S2x512x128 .f32) ::
      (⟨Rect.unit (s := S2x512x128) ![1, 0, 0] ![1, 256, 128] inb_S2x512x128_S1x256x128_1_0_0, u1⟩ :
        View.Piece (Elt Ideal) S2x512x128 .f32) ::
      (⟨Rect.unit (s := S2x512x128) ![0, 0, 0] ![1, 256, 128] inb_S2x512x128_S1x256x128_0_0_0, u0⟩ :
        View.Piece (Elt Ideal) S2x512x128 .f32) :: L) (ix3 j r l) = f j r l := by
  have n1 : ∀ (j : Fin 2) (r : Fin 512), j.val = 0 ∨ r.val < 256 → (ix3 j r l : S2x512x128.Idx) ∉
      (Rect.unit (s := S2x512x128) ![1, 256, 0] ![1, 256, 128] inb_S2x512x128_S1x256x128_1_256_0).set := by
    intro j r h hm
    have a0 : 1 ≤ j.val := ((Rect.mem_set_unit.1 hm) 0).1
    have a1 : 256 ≤ r.val := ((Rect.mem_set_unit.1 hm) 1).1
    omega
  have n2 : ∀ (j : Fin 2) (r : Fin 512), j.val = 1 ∨ r.val < 256 → (ix3 j r l : S2x512x128.Idx) ∉
      (Rect.unit (s := S2x512x128) ![0, 256, 0] ![1, 256, 128] inb_S2x512x128_S1x256x128_0_256_0).set := by
    intro j r h hm
    have a0 : j.val < 0 + 1 := ((Rect.mem_set_unit.1 hm) 0).2
    have a1 : 256 ≤ r.val := ((Rect.mem_set_unit.1 hm) 1).1
    omega
  have n3 : ∀ (j : Fin 2) (r : Fin 512), j.val = 0 → (ix3 j r l : S2x512x128.Idx) ∉
      (Rect.unit (s := S2x512x128) ![1, 0, 0] ![1, 256, 128] inb_S2x512x128_S1x256x128_1_0_0).set := by
    intro j r h hm
    have a0 : 1 ≤ j.val := ((Rect.mem_set_unit.1 hm) 0).1
    omega
  by_cases h : r.val < 256
  · refine (View.canon_cons_of_not_mem (⟨Rect.unit (s := S2x512x128) ![1, 256, 0] ![1, 256, 128]
      inb_S2x512x128_S1x256x128_1_256_0, w1⟩ : View.Piece (Elt Ideal) S2x512x128 .f32) _ (n1 j r (.inr h))).trans ?_
    refine (View.canon_cons_of_not_mem (⟨Rect.unit (s := S2x512x128) ![0, 256, 0] ![1, 256, 128]
      inb_S2x512x128_S1x256x128_0_256_0, w0⟩ : View.Piece (Elt Ideal) S2x512x128 .f32) _ (n2 j r (.inr h))).trans ?_
    match j with
    | 0 =>
      refine (View.canon_cons_of_not_mem (⟨Rect.unit (s := S2x512x128) ![1, 0, 0] ![1, 256, 128]
        inb_S2x512x128_S1x256x128_1_0_0, u1⟩ : View.Piece (Elt Ideal) S2x512x128 .f32) _ (n3 0 r rfl)).trans ?_
      have e : (Rect.unit (s := S2x512x128) ![0, 0, 0] ![1, 256, 128] inb_S2x512x128_S1x256x128_0_0_0).emb
        (ix3 0 (⟨r.val, h⟩ : Fin 256) l : S1x256x128.Idx) = (ix3 0 r l : S2x512x128.Idx) := by blk_ext
      rw [← e]
      exact (View.canon_cons_emb _ _ _ _).trans (hu0 ⟨r.val, h⟩ l)
    | 1 =>
      have e : (Rect.unit (s := S2x512x128) ![1, 0, 0] ![1, 256, 128] inb_S2x512x128_S1x256x128_1_0_0).emb
        (ix3 0 (⟨r.val, h⟩ : Fin 256) l : S1x256x128.Idx) = (ix3 1 r l : S2x512x128.Idx) := by blk_ext
      rw [← e]
      exact (View.canon_cons_emb _ _ _ _).trans (hu1 ⟨r.val, h⟩ l)
  · match j with
    | 0 =>
      refine (View.canon_cons_of_not_mem (⟨Rect.unit (s := S2x512x128) ![1, 256, 0] ![1, 256, 128]
        inb_S2x512x128_S1x256x128_1_256_0, w1⟩ : View.Piece (Elt Ideal) S2x512x128 .f32) _ (n1 0 r (.inl rfl))).trans ?_
      have e : (Rect.unit (s := S2x512x128) ![0, 256, 0] ![1, 256, 128] inb_S2x512x128_S1x256x128_0_256_0).emb
        (ix3 0 (⟨r.val - 256, by omega⟩ : Fin 256) l : S1x256x128.Idx) = (ix3 0 r l : S2x512x128.Idx) := by blk_ext
      rw [← e]
      refine (View.canon_cons_emb _ _ _ _).trans ((hw0 ⟨r.val - 256, by omega⟩ l).trans ?_)
      exact congrArg (f 0 · l) (Fin.ext (by show 256 + (r.val - 256) = r.val; omega))
    | 1 =>
      have e : (Rect.unit (s := S2x512x128) ![1, 256, 0] ![1, 256, 128] inb_S2x512x128_S1x256x128_1_256_0).emb
        (ix3 0 (⟨r.val - 256, by omega⟩ : Fin 256) l : S1x256x128.Idx) = (ix3 1 r l : S2x512x128.Idx) := by blk_ext
      rw [← e]
      refine (View.canon_cons_emb _ _ _ _).trans ((hw1 ⟨r.val - 256, by omega⟩ l).trans ?_)
      exact congrArg (f 1 · l) (Fin.ext (by show 256 + (r.val - 256) = r.val; omega))

end Cert.Kernel2Ideal.Dq
-- ==== Proof.QGrid.lean ====
module

public import proofs.«01_k».proof.Proof.Gen.Kernel2Ideal.Skeleton

/-!
# The bounds of the query kernel's loop and its loads' offsets as numbers

With the table's word 0, query block `qb` runs the loop over the key tiles `0, …, qb - 1`.
-/

@[expose] public section

namespace Cert.Kernel2Ideal.Dq

open Idealize.ShloMosaic Cert.Kernel2Ideal.Gen

/-- The number of trips before query block `i 1`. -/
theorem trips_one (i : grid0.Coords) (w : BitVec 32) (hw : w = 0#32) : (k0_t1_loop i w).trips = (i 1).val := by
  subst hw
  have h : ∀ b : Fin 32, Scf.trips 0#32 (Scalar.addi 0#32 (Scalar.muli (Scalar.divsi
      (Scalar.subi (BitVec.ofNat 32 b.val) 0#32) 1#32) 1#32)) 1#32 = b.val := by decide +kernel
  exact h (i 1)

/-- The second loop, over what a step other than one would leave, has no trips. -/
theorem trips_two (i : grid0.Coords) (w : BitVec 32) (hw : w = 0#32) : (k0_t2_loop i w).trips = 0 := by
  subst hw
  have h : ∀ b : Fin 32, Scf.trips (Scalar.addi 0#32 (Scalar.muli (Scalar.divsi
      (Scalar.subi (BitVec.ofNat 32 b.val) 0#32) 1#32) 1#32))
      (Scalar.addi 0#32 (Scalar.subi (BitVec.ofNat 32 b.val) 0#32)) 1#32 = 0 := by decide +kernel
  exact h (i 1)

/-- The row trip `k` loads from. -/
theorem off2_row (i : grid0.Coords) (w : BitVec 32) (hw : w = 0#32) (k : Fin (k0_t1_loop i w).trips) :
    k0_off2 i w k = ![512 * k.val, 0] := by
  subst hw
  have h : ∀ k : Fin 32, (Scalar.indexCast (Scalar.muli (Scf.iv 0#32 1#32 k.val) 512#32)).toNat = 512 * k.val := by
    decide +kernel
  have hk : k.val < (i 1).val := lt_of_lt_of_eq k.isLt (trips_one i _ rfl)
  have hb : (i 1).val < 32 := (i 1).isLt
  have := h ⟨k.val, by omega⟩
  show ![_, 0] = _
  exact congrArg (fun n => ![n, 0]) this

/-- The tile of key statistics trip `k` loads. -/
theorem off3_tile (i : grid0.Coords) (w : BitVec 32) (hw : w = 0#32) (k : Fin (k0_t1_loop i w).trips) :
    k0_off3 i w k = ![0, k.val, 0, 0] := by
  subst hw
  have h : ∀ k : Fin 32, (Scalar.indexCast (Scf.iv 0#32 1#32 k.val)).toNat = k.val := by decide +kernel
  have hk : k.val < (i 1).val := lt_of_lt_of_eq k.isLt (trips_one i _ rfl)
  have hb : (i 1).val < 32 := (i 1).isLt
  have := h ⟨k.val, by omega⟩
  show ![0, _, 0, 0] = _
  exact congrArg (fun n => ![0, n, 0, 0]) this

/-- The row the diagonal tile loads from. -/
theorem off6_row (i : grid0.Coords) : k0_off6 i = ![512 * (i 1).val, 0] := by
  have h : ∀ b : Fin 32, (Scalar.indexCast (Scalar.muli (BitVec.ofNat 32 b.val) 512#32)).toNat = 512 * b.val := by
    decide +kernel
  exact congrArg (fun n => ![n, 0]) (h (i 1))

/-- The tile of key statistics of the diagonal. -/
theorem off7_tile (i : grid0.Coords) : k0_off7 i = ![0, (i 1).val, 0, 0] := by
  have h : ∀ b : Fin 32, (Scalar.indexCast (BitVec.ofNat 32 b.val)).toNat = b.val := by decide +kernel
  exact congrArg (fun n => ![0, n, 0, 0]) (h (i 1))

end Cert.Kernel2Ideal.Dq
-- ==== Proof.QBlock.lean ====
module

public import proofs.«01_k».proof.Proof.QStart
public import proofs.«01_k».proof.Proof.QGrid

/-!
# What one grid point of the query's kernel computes

At query block `qb`, the sums of the key tiles before it and the diagonal tile's sum.
-/

@[expose] public section

set_option maxRecDepth 16384

noncomputable section

namespace Cert.Kernel2Ideal.Dq

open Idealize.ShloMosaic Idealize.ShloMosaic.TcCoe Cert.Kernel2Ideal.Gen Idealize.ShloMosaic.Tactic
open Cert.KernelIdeal.Dkv (lane lanes)

/-- Tile `n` of 512 rows (the tile's number taken modulo 32). -/
def rowsOf (x : Vec Ideal S16384x128 .bf16) (n : ℕ) : FVec Ideal S512x128 .bf16 :=
  fun a => x (ix2 ⟨(512 * n + (a 0).val) % 16384, Nat.mod_lt _ (by decide)⟩ (a 1))

/-- Tile `n` of the key statistics (the tile's number taken modulo 32). -/
def statOf (x : Vec Ideal S1x32x2x512 .f32) (n : ℕ) : FVec Ideal S1x1x2x512 .f32 :=
  fun a => x (ix4 0 ⟨n % 32, Nat.mod_lt _ (by decide)⟩ (a 2) (a 3))

theorem ld_rows (x : Vec Ideal S16384x128 .bf16) (n : ℕ) (o : Fin 2 → ℕ) (ho : o = ![512 * n, 0])
    (h : ∀ a, o a + S512x128.size a ≤ S16384x128.size a) :
    View.ld x (Rect.unit (s := S16384x128) o S512x128.size h) = rowsOf x n := by
  subst ho
  funext a
  refine congrArg x ?_
  have h0 : 512 * n + 512 ≤ 16384 := h 0
  have b0 : (a 0).val < 512 := (a 0).isLt
  show (Rect.unit (s := S16384x128) _ S512x128.size h).emb a = _
  funext d
  match d with
  | 0 => exact Fin.ext (by show 512 * n + 1 * (a 0).val = (512 * n + (a 0).val) % 16384; omega)
  | 1 => exact Fin.ext (by show 0 + 1 * (a 1).val = (a 1).val; omega)

theorem ld_stat (x : Vec Ideal S1x32x2x512 .f32) (n : ℕ) (o : Fin 4 → ℕ) (ho : o = ![0, n, 0, 0])
    (h : ∀ a, o a + S1x1x2x512.size a ≤ S1x32x2x512.size a) :
    View.ld x (Rect.unit (s := S1x32x2x512) o S1x1x2x512.size h) = statOf x n := by
  subst ho
  funext a
  refine congrArg x ?_
  have h0 : n + 1 ≤ 32 := h 1
  have b0 : (a 0).val < 1 := (a 0).isLt
  have b1 : (a 1).val < 1 := (a 1).isLt
  show (Rect.unit (s := S1x32x2x512) _ S1x1x2x512.size h).emb a = _
  funext d
  match d with
  | 0 => exact Fin.ext (by show 0 + 1 * (a 0).val = 0; omega)
  | 1 => exact Fin.ext (by show n + 1 * (a 1).val = n % 32; omega)
  | 2 => exact Fin.ext (by show 0 + 1 * (a 2).val = (a 2).val; omega)
  | 3 => exact Fin.ext (by show 0 + 1 * (a 3).val = (a 3).val; omega)

theorem kT_eq (i : grid0.Coords) (v : Memref sig .tc .vmem S16384x128 .bf16) (hv : v.IsWhole) (w : BitVec 32)
    (hw : w = 0#32) (x : Vec Ideal S16384x128 .bf16) (k : Fin (k0_t1_loop i w).trips)
    (h : ∀ a, k0_off2 i w k a + S512x128.size a ≤ S16384x128.size a) :
    kT (F := Ideal) i v w (hv.unread x) k h = rowsOf x k.val := by
  unfold kT
  rw [View.readAt_eq_ld, hv.read_unread]
  exact ld_rows x _ _ (off2_row i w hw k) h

theorem cT_eq (i : grid0.Coords) (v : Memref sig .tc .vmem S1x32x2x512 .f32) (hv : v.IsWhole) (w : BitVec 32)
    (hw : w = 0#32) (x : Vec Ideal S1x32x2x512 .f32) (k : Fin (k0_t1_loop i w).trips)
    (h : ∀ a, k0_off3 i w k a + S1x1x2x512.size a ≤ S1x32x2x512.size a) :
    cT (F := Ideal) i v w (hv.unread x) k h = statOf x k.val := by
  unfold cT
  rw [View.readAt_eq_ld, hv.read_unread]
  exact ld_stat x _ _ (off3_tile i w hw k) h

/-- No trips, no stores. -/
theorem t2_none (𝒱 : Variants) (c : Dev nD) (bd : Option 𝒱.V) (i : grid0.Coords) (arg2 : Memref sig .tc .smem S8x32 .i32)
  (harg2 : arg2.IsWhole) (arg3 : Memref sig .tc .vmem S512x128 .bf16) (harg3 : arg3.IsWhole)
  (arg4 : Memref sig .tc .vmem S512x128 .bf16) (harg4 : arg4.IsWhole)
  (arg5 : Memref sig .tc .vmem S16384x128 .bf16) (harg5 : arg5.IsWhole)
  (arg6 : Memref sig .tc .vmem S16384x128 .bf16) (harg6 : arg6.IsWhole)
  (arg7 : Memref sig .tc .vmem S1x32x2x512 .f32) (harg7 : arg7.IsWhole)
  (arg8 : Memref sig .tc .vmem S1x512x2 .f32) (harg8 : arg8.IsWhole)
  (arg9 : Memref sig .tc .vmem S512x128 .f32) (harg9 : arg9.IsWhole)
  (arg10 : Memref sig .tc .vmem S512x128 .bf16) (harg10 : arg10.IsWhole)
  (arg11 : Memref sig .tc .vmem S1x1x2x512 .f32) (harg11 : arg11.IsWhole)
  (arg12 : Memref sig .tc .vmem S512x128 .f32) (harg12 : arg12.IsWhole)
  (arg13 : Memref sig .tc .vmem S2x512x128 .f32) (harg13 : arg13.IsWhole)
  (arg0 : BitVec 32) (arg1 : BitVec 32) (v6 : IVec S512x128 1) (v8 : FVec Ideal S512x128 .bf16)
  (v9 : FVec Ideal S512x128 .bf16) (v10 : Vec Ideal S512x128 .bf16) (v11 : FVec Ideal S512x128 .bf16)
  (v19 : FVec Ideal S512x128 .f32) (v22 : FVec Ideal S512x128 .f32) (v32 : FVec Ideal S512x128 .f32) (v38 : FVec Ideal S512x128 .f32)
  (v53 : Elt Ideal .i32) (k0_hw1 : k0_chk1 i v53) (v58 : BitVec 32) (X_arg5 : BufTy.Contents (Elt Ideal) arg5.view.ty)
  (X_arg6 : BufTy.Contents (Elt Ideal) arg6.view.ty) (X_arg7 : BufTy.Contents (Elt Ideal) arg7.view.ty)
  (G_arg12 : BufTy.Contents (Elt Ideal) arg12.view.ty) (G_arg13 : BufTy.Contents (Elt Ideal) arg13.view.ty)
    (n : ℕ) (hn : n = 0) :
    pb_k0_t2 (F := Ideal) 𝒱 c bd i arg2 harg2 arg3 harg3 arg4 harg4 arg5 harg5 arg6 harg6 arg7 harg7 arg8 harg8 arg9 harg9
      arg10 harg10 arg11 harg11 arg12 harg12 arg13 harg13 arg0 arg1 v6 v8 v9 v10 v11 v19 v22 v32 v38 v53 k0_hw1 v58
      X_arg5 X_arg6 X_arg7 G_arg12 G_arg13 n = ([], []) := by
  subst hn
  rfl

/-- Every trip's loads lie in their arrays. -/
theorem off2_fits (i : grid0.Coords) (w : BitVec 32) (hw : w = 0#32) (k : Fin (k0_t1_loop i w).trips) (a : Fin 2) :
    k0_off2 i w k a + S512x128.size a ≤ S16384x128.size a := by
  have hk : k.val < (i 1).val := lt_of_lt_of_eq k.isLt (trips_one i _ hw)
  have hb : (i 1).val < 32 := (i 1).isLt
  rw [off2_row i w hw k]
  match a with
  | 0 => show 512 * k.val + 512 ≤ 16384; omega
  | 1 => show 0 + 128 ≤ 128; omega

theorem off3_fits (i : grid0.Coords) (w : BitVec 32) (hw : w = 0#32) (k : Fin (k0_t1_loop i w).trips) (a : Fin 4) :
    k0_off3 i w k a + S1x1x2x512.size a ≤ S1x32x2x512.size a := by
  have hk : k.val < (i 1).val := lt_of_lt_of_eq k.isLt (trips_one i _ hw)
  have hb : (i 1).val < 32 := (i 1).isLt
  rw [off3_tile i w hw k]
  match a with
  | 0 => show 0 + 1 ≤ 1; omega
  | 1 => show k.val + 1 ≤ 32; omega
  | 2 => show 0 + 2 ≤ 2; omega
  | 3 => show 0 + 512 ≤ 512; omega

/-- The gradient's epilogue, at an index. -/
theorem pay102_apply (v : FVec Ideal S512x128 .f32) (r : Fin 512) (l : Fin 128) :
    k0_pay102 (F := Ideal) v (ix2 r l) = v (ix2 r l) * Scalar.ofBits (F := Ideal) .f32 0x3E000000#32 := by
  unfold k0_pay102
  pointwise

/-- The row sums' epilogues: a sum over the lanes. -/
theorem pay103_apply (v : FVec Ideal S1x512x128 .f32) (r : Fin 512) :
    k0_pay103 (F := Ideal) v (ix4 0 0 0 r) = ∑ l : Fin 128, v (ix3 0 r l) := by
  unfold k0_pay103
  pointwise

theorem pay104_apply (v : FVec Ideal S1x512x128 .f32) (r : Fin 512) :
    k0_pay1 (k0_pay104 (F := Ideal) v) (ix4 0 0 0 r) = ∑ l : Fin 128, v (ix3 0 r l) := by
  unfold k0_pay1 k0_pay104
  pointwise

/-- The accumulators' zeros. -/
theorem zero_acc (r : Fin 512) (l : Fin 128) : k0_pay52 (F := Ideal) (ix2 r l) = 0 := by
  unfold k0_pay52
  exact Ideal.ofBits_zero_f32

theorem zero_rows (j : Fin 2) (r : Fin 512) (l : Fin 128) : k0_pay53 (F := Ideal) (ix3 j r l) = 0 := by
  unfold k0_pay53
  exact Ideal.ofBits_zero_f32

/-- The row sums' block is its two heads' rows. -/
theorem canon_rows (u w : FVec Ideal S1x1x1x512 .f32) (r : Fin 512) :
    View.canon [(⟨Rect.unit (s := S1x1x2x512) ![0, 0, 1, 0] ![1, 1, 1, 512] inb_S1x1x2x512_S1x1x1x512_0_0_1_0, w⟩ :
        View.Piece (Elt Ideal) S1x1x2x512 .f32),
      (⟨Rect.unit (s := S1x1x2x512) ![0, 0, 0, 0] ![1, 1, 1, 512] inb_S1x1x2x512_S1x1x1x512_0_0_0_0, u⟩ :
        View.Piece (Elt Ideal) S1x1x2x512 .f32)] (ix4 0 0 0 r) = u (ix4 0 0 0 r) := by
  have h : (ix4 0 0 0 r : S1x1x2x512.Idx) ∉ (Rect.unit (s := S1x1x2x512) ![0, 0, 1, 0] ![1, 1, 1, 512]
      inb_S1x1x2x512_S1x1x1x512_0_0_1_0).set := fun h => Nat.not_succ_le_zero 0 ((Rect.mem_set_unit.1 h) 2).1
  have e : (Rect.unit (s := S1x1x2x512) ![0, 0, 0, 0] ![1, 1, 1, 512] inb_S1x1x2x512_S1x1x1x512_0_0_0_0).emb
      (ix4 0 0 0 r : S1x1x1x512.Idx) = (ix4 0 0 0 r : S1x1x2x512.Idx) := by blk_ext
  refine (View.canon_cons_of_not_mem (⟨Rect.unit (s := S1x1x2x512) ![0, 0, 1, 0] ![1, 1, 1, 512]
    inb_S1x1x2x512_S1x1x1x512_0_0_1_0, w⟩ : View.Piece (Elt Ideal) S1x1x2x512 .f32) _ h).trans ?_
  rw [← e]
  exact View.canon_cons_emb _ _ _ _

theorem canon_rows1 (w : FVec Ideal S1x1x1x512 .f32) (L : List (View.Piece (Elt Ideal) S1x1x2x512 .f32)) (r : Fin 512) :
    View.canon ((⟨Rect.unit (s := S1x1x2x512) ![0, 0, 1, 0] ![1, 1, 1, 512] inb_S1x1x2x512_S1x1x1x512_0_0_1_0, w⟩ :
        View.Piece (Elt Ideal) S1x1x2x512 .f32) :: L) (ix4 0 0 1 r) = w (ix4 0 0 0 r) := by
  have e : (Rect.unit (s := S1x1x2x512) ![0, 0, 1, 0] ![1, 1, 1, 512] inb_S1x1x2x512_S1x1x1x512_0_0_1_0).emb
      (ix4 0 0 0 r : S1x1x1x512.Idx) = (ix4 0 0 1 r : S1x1x2x512.Idx) := by blk_ext
  rw [← e]
  exact View.canon_cons_emb _ _ _ _

/-- A loaded slab of the row sums' accumulator. -/
theorem ld_slab0 (X : S2x512x128.Idx → EReal) (r : Fin 512) (l : Fin 128) :
    View.ld (Val := Elt Ideal) (e' := .f32) X (Rect.unit (s := S2x512x128) ![0, 0, 0] ![1, 512, 128]
      inb_S2x512x128_S1x512x128_0_0_0) (ix3 0 r l) = X (ix3 0 r l) := by
  refine congrArg X ?_
  show (Rect.unit (s := S2x512x128) ![0, 0, 0] ![1, 512, 128] inb_S2x512x128_S1x512x128_0_0_0).emb
    (ix3 0 r l : S1x512x128.Idx) = (ix3 0 r l : S2x512x128.Idx)
  blk_ext

theorem ld_slab1 (X : S2x512x128.Idx → EReal) (r : Fin 512) (l : Fin 128) :
    View.ld (Val := Elt Ideal) (e' := .f32) X (Rect.unit (s := S2x512x128) ![1, 0, 0] ![1, 512, 128]
      inb_S2x512x128_S1x512x128_1_0_0) (ix3 0 r l) = X (ix3 1 r l) := by
  refine congrArg X ?_
  show (Rect.unit (s := S2x512x128) ![1, 0, 0] ![1, 512, 128] inb_S2x512x128_S1x512x128_1_0_0).emb
    (ix3 0 r l : S1x512x128.Idx) = (ix3 1 r l : S2x512x128.Idx)
  blk_ext

/-- A load of part of an accumulator after some stores. -/
theorem read_acc (v : Memref sig .tc .vmem S512x128 .f32) (L : List (View.Piece (Elt Ideal) S512x128 .f32))
    (r : Fin 512) (l : Fin 128) :
    v.view.readCov L (Rect.unit (s := S512x128) ![0, 0] ![512, 128] inb_S512x128_S512x128_0_0).toLoadRect (ix2 r l)
      = View.canon L (ix2 r l) := by
  rw [View.readCov_eq_canon']
  refine congrArg (View.canon L) ?_
  show (Rect.unit (s := S512x128) ![0, 0] ![512, 128] inb_S512x128_S512x128_0_0).emb
    (ix2 r l : S512x128.Idx) = (ix2 r l : S512x128.Idx)
  blk_ext

theorem read_up (v : Memref sig .tc .vmem S512x128 .f32) (L : List (View.Piece (Elt Ideal) S512x128 .f32))
    (r : Fin 256) (l : Fin 128) :
    v.view.readCov L (Rect.unit (s := S512x128) ![0, 0] ![256, 128] inb_S512x128_S256x128_0_0).toLoadRect (ix2 r l)
      = View.canon L (ix2 ⟨r.val, by omega⟩ l) := by
  rw [View.readCov_eq_canon']
  refine congrArg (View.canon L) ?_
  show (Rect.unit (s := S512x128) ![0, 0] ![256, 128] inb_S512x128_S256x128_0_0).emb
    (ix2 r l : S256x128.Idx) = (ix2 ⟨r.val, by omega⟩ l : S512x128.Idx)
  blk_ext

theorem read_low (v : Memref sig .tc .vmem S512x128 .f32) (L : List (View.Piece (Elt Ideal) S512x128 .f32))
    (r : Fin 256) (l : Fin 128) :
    v.view.readCov L (Rect.unit (s := S512x128) ![256, 0] ![256, 128] inb_S512x128_S256x128_256_0).toLoadRect (ix2 r l)
      = View.canon L (ix2 ⟨256 + r.val, by omega⟩ l) := by
  rw [View.readCov_eq_canon']
  refine congrArg (View.canon L) ?_
  show (Rect.unit (s := S512x128) ![256, 0] ![256, 128] inb_S512x128_S256x128_256_0).emb
    (ix2 r l : S256x128.Idx) = (ix2 ⟨256 + r.val, by omega⟩ l : S512x128.Idx)
  blk_ext

theorem read_slab0 (v : Memref sig .tc .vmem S2x512x128 .f32) (L : List (View.Piece (Elt Ideal) S2x512x128 .f32))
    (r : Fin 512) (l : Fin 128) :
    v.view.readCov L (Rect.unit (s := S2x512x128) ![0, 0, 0] ![1, 512, 128] inb_S2x512x128_S1x512x128_0_0_0).toLoadRect (ix3 0 r l)
      = View.canon L (ix3 0 r l) := by
  rw [View.readCov_eq_canon']
  refine congrArg (View.canon L) ?_
  show (Rect.unit (s := S2x512x128) ![0, 0, 0] ![1, 512, 128] inb_S2x512x128_S1x512x128_0_0_0).emb
    (ix3 0 r l : S1x512x128.Idx) = (ix3 0 r l : S2x512x128.Idx)
  blk_ext

theorem read_up0 (v : Memref sig .tc .vmem S2x512x128 .f32) (L : List (View.Piece (Elt Ideal) S2x512x128 .f32))
    (r : Fin 256) (l : Fin 128) :
    v.view.readCov L (Rect.unit (s := S2x512x128) ![0, 0, 0] ![1, 256, 128] inb_S2x512x128_S1x256x128_0_0_0).toLoadRect (ix3 0 r l)
      = View.canon L (ix3 0 ⟨r.val, by omega⟩ l) := by
  rw [View.readCov_eq_canon']
  refine congrArg (View.canon L) ?_
  show (Rect.unit (s := S2x512x128) ![0, 0, 0] ![1, 256, 128] inb_S2x512x128_S1x256x128_0_0_0).emb
    (ix3 0 r l : S1x256x128.Idx) = (ix3 0 ⟨r.val, by omega⟩ l : S2x512x128.Idx)
  blk_ext

theorem read_low0 (v : Memref sig .tc .vmem S2x512x128 .f32) (L : List (View.Piece (Elt Ideal) S2x512x128 .f32))
    (r : Fin 256) (l : Fin 128) :
    v.view.readCov L (Rect.unit (s := S2x512x128) ![0, 256, 0] ![1, 256, 128] inb_S2x512x128_S1x256x128_0_256_0).toLoadRect (ix3 0 r l)
      = View.canon L (ix3 0 ⟨256 + r.val, by omega⟩ l) := by
  rw [View.readCov_eq_canon']
  refine congrArg (View.canon L) ?_
  show (Rect.unit (s := S2x512x128) ![0, 256, 0] ![1, 256, 128] inb_S2x512x128_S1x256x128_0_256_0).emb
    (ix3 0 r l : S1x256x128.Idx) = (ix3 0 ⟨256 + r.val, by omega⟩ l : S2x512x128.Idx)
  blk_ext

theorem read_slab1 (v : Memref sig .tc .vmem S2x512x128 .f32) (L : List (View.Piece (Elt Ideal) S2x512x128 .f32))
    (r : Fin 512) (l : Fin 128) :
    v.view.readCov L (Rect.unit (s := S2x512x128) ![1, 0, 0] ![1, 512, 128] inb_S2x512x128_S1x512x128_1_0_0).toLoadRect (ix3 0 r l)
      = View.canon L (ix3 1 r l) := by
  rw [View.readCov_eq_canon']
  refine congrArg (View.canon L) ?_
  show (Rect.unit (s := S2x512x128) ![1, 0, 0] ![1, 512, 128] inb_S2x512x128_S1x512x128_1_0_0).emb
    (ix3 0 r l : S1x512x128.Idx) = (ix3 1 r l : S2x512x128.Idx)
  blk_ext

theorem read_up1 (v : Memref sig .tc .vmem S2x512x128 .f32) (L : List (View.Piece (Elt Ideal) S2x512x128 .f32))
    (r : Fin 256) (l : Fin 128) :
    v.view.readCov L (Rect.unit (s := S2x512x128) ![1, 0, 0] ![1, 256, 128] inb_S2x512x128_S1x256x128_1_0_0).toLoadRect (ix3 0 r l)
      = View.canon L (ix3 1 ⟨r.val, by omega⟩ l) := by
  rw [View.readCov_eq_canon']
  refine congrArg (View.canon L) ?_
  show (Rect.unit (s := S2x512x128) ![1, 0, 0] ![1, 256, 128] inb_S2x512x128_S1x256x128_1_0_0).emb
    (ix3 0 r l : S1x256x128.Idx) = (ix3 1 ⟨r.val, by omega⟩ l : S2x512x128.Idx)
  blk_ext

theorem read_low1 (v : Memref sig .tc .vmem S2x512x128 .f32) (L : List (View.Piece (Elt Ideal) S2x512x128 .f32))
    (r : Fin 256) (l : Fin 128) :
    v.view.readCov L (Rect.unit (s := S2x512x128) ![1, 256, 0] ![1, 256, 128] inb_S2x512x128_S1x256x128_1_256_0).toLoadRect (ix3 0 r l)
      = View.canon L (ix3 1 ⟨256 + r.val, by omega⟩ l) := by
  rw [View.readCov_eq_canon']
  refine congrArg (View.canon L) ?_
  show (Rect.unit (s := S2x512x128) ![1, 256, 0] ![1, 256, 128] inb_S2x512x128_S1x256x128_1_256_0).emb
    (ix3 0 r l : S1x256x128.Idx) = (ix3 1 ⟨256 + r.val, by omega⟩ l : S2x512x128.Idx)
  blk_ext

/-- An entry of a store's rectangle, after the store. -/
theorem canon_at {S : Shape} {e : EltTy} (B : Rect S) (w : B.shape.Idx → Elt Ideal e) (L : List (View.Piece (Elt Ideal) S e))
    (x : B.shape.Idx) (y : S.Idx) (h : B.emb x = y) : View.canon (⟨B, w⟩ :: L) y = w x := by
  subst h
  exact View.canon_cons_emb B w L x

/-- A store of all of the row sums' accumulator. -/
theorem canon_filled (w : FVec Ideal S2x512x128 .f32) (y : S2x512x128.Idx) :
    View.canon [(⟨Rect.unit (s := S2x512x128) ![0, 0, 0] S2x512x128.size inb_S2x512x128_S2x512x128_0_0_0, w⟩ :
      View.Piece (Elt Ideal) S2x512x128 .f32)] y = w y := by
  refine canon_at (e := .f32) (Rect.unit (s := S2x512x128) ![0, 0, 0] S2x512x128.size inb_S2x512x128_S2x512x128_0_0_0) w [] y y ?_
  refine funext fun (a : Fin 3) => Fin.ext ?_
  match a with
  | 0 => show 0 + 1 * (y 0).val = (y 0).val; omega
  | 1 => show 0 + 1 * (y 1).val = (y 1).val; omega
  | 2 => show 0 + 1 * (y 2).val = (y 2).val; omega

theorem canon_fill (w : FVec Ideal S2x512x128 .f32) (j : Fin 2) (r : Fin 512) (l : Fin 128) :
    View.canon [(⟨Rect.unit (s := S2x512x128) ![0, 0, 0] S2x512x128.size inb_S2x512x128_S2x512x128_0_0_0, w⟩ :
      View.Piece (Elt Ideal) S2x512x128 .f32)] (ix3 j r l) = w (ix3 j r l) :=
  canon_filled w (ix3 j r l)

/-- The first slab, its two spans stored and the second slab's first. -/
theorem canon_first (u0 w0 u1 : FVec Ideal S1x256x128 .f32) (L : List (View.Piece (Elt Ideal) S2x512x128 .f32))
    (f : Fin 512 → Fin 128 → EReal) (hu0 : ∀ (r : Fin 256) l, u0 (ix3 0 r l) = f ⟨r.val, by omega⟩ l)
    (hw0 : ∀ (r : Fin 256) l, w0 (ix3 0 r l) = f ⟨256 + r.val, by omega⟩ l) (r : Fin 512) (l : Fin 128) :
    View.canon ((⟨Rect.unit (s := S2x512x128) ![0, 256, 0] ![1, 256, 128] inb_S2x512x128_S1x256x128_0_256_0, w0⟩ :
        View.Piece (Elt Ideal) S2x512x128 .f32) ::
      (⟨Rect.unit (s := S2x512x128) ![1, 0, 0] ![1, 256, 128] inb_S2x512x128_S1x256x128_1_0_0, u1⟩ :
        View.Piece (Elt Ideal) S2x512x128 .f32) ::
      (⟨Rect.unit (s := S2x512x128) ![0, 0, 0] ![1, 256, 128] inb_S2x512x128_S1x256x128_0_0_0, u0⟩ :
        View.Piece (Elt Ideal) S2x512x128 .f32) :: L) (ix3 0 r l) = f r l := by
  have h : (ix3 0 r l : S2x512x128.Idx) ∉ (Rect.unit (s := S2x512x128) ![1, 256, 0] ![1, 256, 128]
      inb_S2x512x128_S1x256x128_1_256_0).set := fun h => Nat.not_succ_le_zero 0 ((Rect.mem_set_unit.1 h) 0).1
  refine (View.canon_cons_of_not_mem (⟨Rect.unit (s := S2x512x128) ![1, 256, 0] ![1, 256, 128]
    inb_S2x512x128_S1x256x128_1_256_0, u1⟩ : View.Piece (Elt Ideal) S2x512x128 .f32) _ h).symm.trans ?_
  refine canon_slabs u0 w0 u1 u1 L
    (fun j r l => if j = 0 then f r l else u1 (ix3 0 (⟨r.val % 256, Nat.mod_lt _ (by decide)⟩ : Fin 256) l))
    (fun r l => hu0 r l) (fun r l => hw0 r l) (fun r l => ?_) (fun r l => ?_) 0 r l
  · show _ = u1 (ix3 0 (⟨r.val % 256, _⟩ : Fin 256) l)
    exact congrArg (fun r : Fin 256 => u1 (ix3 0 r l)) (Fin.ext (Nat.mod_eq_of_lt r.isLt).symm)
  · show _ = u1 (ix3 0 (⟨(256 + r.val) % 256, _⟩ : Fin 256) l)
    exact congrArg (fun r : Fin 256 => u1 (ix3 0 r l)) (Fin.ext (by show r.val = (256 + r.val) % 256; omega))

set_option maxHeartbeats 4000000 in
/-- The queries' gradient at one grid point. -/
theorem body_dq (c : Dev nD) (i : grid0.Coords) (arg3 : Memref sig .tc .vmem S512x128 .bf16) (harg3 : arg3.IsWhole)
    (arg4 : Memref sig .tc .vmem S512x128 .bf16) (harg4 : arg4.IsWhole)
    (arg5 : Memref sig .tc .vmem S16384x128 .bf16) (harg5 : arg5.IsWhole)
    (arg6 : Memref sig .tc .vmem S16384x128 .bf16) (harg6 : arg6.IsWhole)
    (arg7 : Memref sig .tc .vmem S1x32x2x512 .f32) (harg7 : arg7.IsWhole)
    (arg8 : Memref sig .tc .vmem S1x512x2 .f32) (harg8 : arg8.IsWhole)
    (arg9 : Memref sig .tc .vmem S512x128 .f32) (harg9 : arg9.IsWhole)
    (arg10 : Memref sig .tc .vmem S512x128 .bf16) (harg10 : arg10.IsWhole)
    (arg11 : Memref sig .tc .vmem S1x1x2x512 .f32) (harg11 : arg11.IsWhole)
    (arg12 : Memref sig .tc .vmem S512x128 .f32) (harg12 : arg12.IsWhole)
    (arg13 : Memref sig .tc .vmem S2x512x128 .f32) (harg13 : arg13.IsWhole)
    (x0 x1 : Vec Ideal S512x128 .bf16) (x2 x3 : Vec Ideal S16384x128 .bf16) (x4 : Vec Ideal S1x32x2x512 .f32)
    (x5 : Vec Ideal S1x512x2 .f32) (x6 : Vec Ideal S512x128 .f32) (xt0 : TbBuf0 (F := Ideal) c tbM0_0)
    (k0_hw1 : k0_chk1 i (tbM0_0.view.readAt (Elt Ideal) (Rect.unit (s := S8x32) (k0_off1 i) S1x1.size
      (k0_off1_inb i)).toLoadRect xt0 (Shape.Idx.first (numel1_S1x1.symm ▸ Nat.one_pos))))
    (hW : tbM0_0.view.readAt (Elt Ideal) (Rect.unit (s := S8x32) (k0_off1 i) S1x1.size (k0_off1_inb i)).toLoadRect xt0
      (Shape.Idx.first (numel1_S1x1.symm ▸ Nat.one_pos)) = 0#32) (r : Fin 512) (l : Fin 128) :
    out0_A_7 c i arg3 harg3 arg4 harg4 arg5 harg5 arg6 harg6 arg7 harg7 arg8 harg8 arg9 harg9 arg10 harg10
      arg11 harg11 arg12 harg12 arg13 harg13 x0 x1 x2 x3 x4 x5 x6 xt0 k0_hw1 (ix2 r l)
    = ((∑ t ∈ Finset.range (i 1).val, Scalar.select (k0_pay39 (ix2 r l)) (∑ k, grad (k0_pay41 x0) (k0_pay43 x1) (k0_pay47 x5) (k0_pay49 i x6) (rowsOf x2 t) (rowsOf x3 t) (statOf x4 t) 0 r k * rowsOf x2 t (ix2 k l))
          (∑ k, grad (k0_pay42 x0) (k0_pay44 x1) (k0_pay48 x5) (k0_pay51 (k0_pay50 i x6)) (rowsOf x2 t) (rowsOf x3 t) (statOf x4 t) 1 r k * rowsOf x2 t (ix2 k l)))
      + Scalar.select (k0_pay39 (ix2 r l)) (∑ k, gradD (k0_pay41 x0) (k0_pay43 x1) (k0_pay47 x5) (k0_pay49 i x6) (rowsOf x2 (i 1).val) (rowsOf x3 (i 1).val) (statOf x4 (i 1).val) 0 r k * rowsOf x2 (i 1).val (ix2 k l))
          (∑ k, gradD (k0_pay42 x0) (k0_pay44 x1) (k0_pay48 x5) (k0_pay51 (k0_pay50 i x6)) (rowsOf x2 (i 1).val) (rowsOf x3 (i 1).val) (statOf x4 (i 1).val) 1 r k * rowsOf x2 (i 1).val (ix2 k l))) * Scalar.ofBits (F := Ideal) .f32 0x3E000000#32 := by
  frame_open
  simp (disch := decide) only [↓ View.readCov_skip, ↓ View.readCov_cons_toLoadRect, ↓ View.readCov_fill]
  frame_out
  rw [t2_none]
  rotate_left
  · exact trips_two i _ hW
  rw [ld_rows x2 _ _ (off6_row i), ld_rows x3 _ _ (off6_row i), ld_stat x4 _ _ (off7_tile i)]
  rw [pay102_apply]
  refine congrArg (· * _) ?_
  refine (read_acc _ _ r l).trans ?_
  dsimp only [List.nil_append]
  refine canon_spans _ _ _ (fun r l => (∑ t ∈ Finset.range (i 1).val, Scalar.select (k0_pay39 (ix2 r l)) (∑ k, grad (k0_pay41 x0) (k0_pay43 x1) (k0_pay47 x5) (k0_pay49 i x6) (rowsOf x2 t) (rowsOf x3 t) (statOf x4 t) 0 r k * rowsOf x2 t (ix2 k l))
          (∑ k, grad (k0_pay42 x0) (k0_pay44 x1) (k0_pay48 x5) (k0_pay51 (k0_pay50 i x6)) (rowsOf x2 t) (rowsOf x3 t) (statOf x4 t) 1 r k * rowsOf x2 t (ix2 k l)))
      + Scalar.select (k0_pay39 (ix2 r l)) (∑ k, gradD (k0_pay41 x0) (k0_pay43 x1) (k0_pay47 x5) (k0_pay49 i x6) (rowsOf x2 (i 1).val) (rowsOf x3 (i 1).val) (statOf x4 (i 1).val) 0 r k * rowsOf x2 (i 1).val (ix2 k l))
          (∑ k, gradD (k0_pay42 x0) (k0_pay44 x1) (k0_pay48 x5) (k0_pay51 (k0_pay50 i x6)) (rowsOf x2 (i 1).val) (rowsOf x3 (i 1).val) (statOf x4 (i 1).val) 1 r k * rowsOf x2 (i 1).val (ix2 k l))) (fun r l => (up_dq ..).trans (congrArg (· + _) ((read_up _ _ r l).trans ?_)))
    (fun r l => (low_dq ..).trans (congrArg (· + _) ((read_low _ _ r l).trans ?_))) r l
  · generalize (⟨r.val, _⟩ : Fin 512) = r
    exact (loop_dq (Kt := fun t => rowsOf x2 t) (Wt := fun t => rowsOf x3 t) (Ct := fun t => statOf x4 t) (r := r) (l := l)
    (hq := off2_fits i _ hW) (hl := off3_fits i _ hW) (eK := fun k => kT_eq i arg5 harg5 _ hW x2 k _)
    (eW := fun k => kT_eq i arg6 harg6 _ hW x3 k _) (eC := fun k => cT_eq i arg7 harg7 _ hW x4 k _) (n := _)
    (hn := Nat.le_refl _) ..).trans
      ((congrArg₂ (fun x y : EReal => x + y) ((congrFun (canon_whole _ _) _).trans (zero_acc r l)) (Finset.sum_congr (congrArg Finset.range (trips_one i _ hW)) fun _ _ => rfl)).trans
        (zero_add _))
  · generalize (⟨256 + r.val, _⟩ : Fin 512) = r
    exact (loop_dq (Kt := fun t => rowsOf x2 t) (Wt := fun t => rowsOf x3 t) (Ct := fun t => statOf x4 t) (r := r) (l := l)
    (hq := off2_fits i _ hW) (hl := off3_fits i _ hW) (eK := fun k => kT_eq i arg5 harg5 _ hW x2 k _)
    (eW := fun k => kT_eq i arg6 harg6 _ hW x3 k _) (eC := fun k => cT_eq i arg7 harg7 _ hW x4 k _) (n := _)
    (hn := Nat.le_refl _) ..).trans
      ((congrArg₂ (fun x y : EReal => x + y) ((congrFun (canon_whole _ _) _).trans (zero_acc r l)) (Finset.sum_congr (congrArg Finset.range (trips_one i _ hW)) fun _ _ => rfl)).trans
        (zero_add _))

set_option maxHeartbeats 4000000 in
/-- The row sums at one grid point, the pair's first head. -/
theorem body_r0 (c : Dev nD) (i : grid0.Coords) (arg3 : Memref sig .tc .vmem S512x128 .bf16) (harg3 : arg3.IsWhole)
    (arg4 : Memref sig .tc .vmem S512x128 .bf16) (harg4 : arg4.IsWhole)
    (arg5 : Memref sig .tc .vmem S16384x128 .bf16) (harg5 : arg5.IsWhole)
    (arg6 : Memref sig .tc .vmem S16384x128 .bf16) (harg6 : arg6.IsWhole)
    (arg7 : Memref sig .tc .vmem S1x32x2x512 .f32) (harg7 : arg7.IsWhole)
    (arg8 : Memref sig .tc .vmem S1x512x2 .f32) (harg8 : arg8.IsWhole)
    (arg9 : Memref sig .tc .vmem S512x128 .f32) (harg9 : arg9.IsWhole)
    (arg10 : Memref sig .tc .vmem S512x128 .bf16) (harg10 : arg10.IsWhole)
    (arg11 : Memref sig .tc .vmem S1x1x2x512 .f32) (harg11 : arg11.IsWhole)
    (arg12 : Memref sig .tc .vmem S512x128 .f32) (harg12 : arg12.IsWhole)
    (arg13 : Memref sig .tc .vmem S2x512x128 .f32) (harg13 : arg13.IsWhole)
    (x0 x1 : Vec Ideal S512x128 .bf16) (x2 x3 : Vec Ideal S16384x128 .bf16) (x4 : Vec Ideal S1x32x2x512 .f32)
    (x5 : Vec Ideal S1x512x2 .f32) (x6 : Vec Ideal S512x128 .f32) (xt0 : TbBuf0 (F := Ideal) c tbM0_0)
    (k0_hw1 : k0_chk1 i (tbM0_0.view.readAt (Elt Ideal) (Rect.unit (s := S8x32) (k0_off1 i) S1x1.size
      (k0_off1_inb i)).toLoadRect xt0 (Shape.Idx.first (numel1_S1x1.symm ▸ Nat.one_pos))))
    (hW : tbM0_0.view.readAt (Elt Ideal) (Rect.unit (s := S8x32) (k0_off1 i) S1x1.size (k0_off1_inb i)).toLoadRect xt0
      (Shape.Idx.first (numel1_S1x1.symm ▸ Nat.one_pos)) = 0#32) (r : Fin 512) :
    out0_A_8 c i arg3 harg3 arg4 harg4 arg5 harg5 arg6 harg6 arg7 harg7 arg8 harg8 arg9 harg9 arg10 harg10
      arg11 harg11 arg12 harg12 arg13 harg13 x0 x1 x2 x3 x4 x5 x6 xt0 k0_hw1 (ix4 0 0 0 r)
    = ∑ l, ((∑ t ∈ Finset.range (i 1).val, lanes (grad (k0_pay41 x0) (k0_pay43 x1) (k0_pay47 x5) (k0_pay49 i x6) (rowsOf x2 t) (rowsOf x3 t) (statOf x4 t) 0 r) l)
      + lanes (gradD (k0_pay41 x0) (k0_pay43 x1) (k0_pay47 x5) (k0_pay49 i x6) (rowsOf x2 (i 1).val) (rowsOf x3 (i 1).val) (statOf x4 (i 1).val) 0 r) l) := by
  frame_open
  simp (disch := decide) only [↓ View.readCov_skip, ↓ View.readCov_cons_toLoadRect, ↓ View.readCov_fill]
  frame_out
  rw [t2_none]
  rotate_left
  · exact trips_two i _ hW
  rw [ld_rows x2 _ _ (off6_row i), ld_rows x3 _ _ (off6_row i), ld_stat x4 _ _ (off7_tile i)]
  refine (canon_rows _ _ r).trans ((pay103_apply _ r).trans (Finset.sum_congr rfl fun l _ => (read_slab0 _ _ r l).trans ?_))
  dsimp only [List.nil_append]
  refine canon_first _ _ _ _ (fun r l => (∑ t ∈ Finset.range (i 1).val, lanes (grad (k0_pay41 x0) (k0_pay43 x1) (k0_pay47 x5) (k0_pay49 i x6) (rowsOf x2 t) (rowsOf x3 t) (statOf x4 t) 0 r) l)
      + lanes (gradD (k0_pay41 x0) (k0_pay43 x1) (k0_pay47 x5) (k0_pay49 i x6) (rowsOf x2 (i 1).val) (rowsOf x3 (i 1).val) (statOf x4 (i 1).val) 0 r) l)
    (fun r l => (up_r0 ..).trans (congrArg (· + _) ((read_up0 _ _ r l).trans ?_)))
    (fun r l => (low_r0 ..).trans (congrArg (· + _) ((read_low0 _ _ r l).trans ?_))) r l
  · generalize (⟨r.val, _⟩ : Fin 512) = r
    exact (loop_r0 (Kt := fun t => rowsOf x2 t) (Wt := fun t => rowsOf x3 t) (Ct := fun t => statOf x4 t) (r := r) (l := l)
    (hq := off2_fits i _ hW) (hl := off3_fits i _ hW) (eK := fun k => kT_eq i arg5 harg5 _ hW x2 k _)
    (eW := fun k => kT_eq i arg6 harg6 _ hW x3 k _) (eC := fun k => cT_eq i arg7 harg7 _ hW x4 k _) (n := _)
    (hn := Nat.le_refl _) ..).trans
      ((congrArg₂ (fun x y : EReal => x + y) ((canon_fill _ 0 r l).trans (zero_rows 0 r l)) (Finset.sum_congr (congrArg Finset.range (trips_one i _ hW)) fun _ _ => rfl)).trans
        (zero_add _))
  · generalize (⟨256 + r.val, _⟩ : Fin 512) = r
    exact (loop_r0 (Kt := fun t => rowsOf x2 t) (Wt := fun t => rowsOf x3 t) (Ct := fun t => statOf x4 t) (r := r) (l := l)
    (hq := off2_fits i _ hW) (hl := off3_fits i _ hW) (eK := fun k => kT_eq i arg5 harg5 _ hW x2 k _)
    (eW := fun k => kT_eq i arg6 harg6 _ hW x3 k _) (eC := fun k => cT_eq i arg7 harg7 _ hW x4 k _) (n := _)
    (hn := Nat.le_refl _) ..).trans
      ((congrArg₂ (fun x y : EReal => x + y) ((canon_fill _ 0 r l).trans (zero_rows 0 r l)) (Finset.sum_congr (congrArg Finset.range (trips_one i _ hW)) fun _ _ => rfl)).trans
        (zero_add _))

set_option maxHeartbeats 4000000 in
/-- The row sums at one grid point, the pair's second head. -/
theorem body_r1 (c : Dev nD) (i : grid0.Coords) (arg3 : Memref sig .tc .vmem S512x128 .bf16) (harg3 : arg3.IsWhole)
    (arg4 : Memref sig .tc .vmem S512x128 .bf16) (harg4 : arg4.IsWhole)
    (arg5 : Memref sig .tc .vmem S16384x128 .bf16) (harg5 : arg5.IsWhole)
    (arg6 : Memref sig .tc .vmem S16384x128 .bf16) (harg6 : arg6.IsWhole)
    (arg7 : Memref sig .tc .vmem S1x32x2x512 .f32) (harg7 : arg7.IsWhole)
    (arg8 : Memref sig .tc .vmem S1x512x2 .f32) (harg8 : arg8.IsWhole)
    (arg9 : Memref sig .tc .vmem S512x128 .f32) (harg9 : arg9.IsWhole)
    (arg10 : Memref sig .tc .vmem S512x128 .bf16) (harg10 : arg10.IsWhole)
    (arg11 : Memref sig .tc .vmem S1x1x2x512 .f32) (harg11 : arg11.IsWhole)
    (arg12 : Memref sig .tc .vmem S512x128 .f32) (harg12 : arg12.IsWhole)
    (arg13 : Memref sig .tc .vmem S2x512x128 .f32) (harg13 : arg13.IsWhole)
    (x0 x1 : Vec Ideal S512x128 .bf16) (x2 x3 : Vec Ideal S16384x128 .bf16) (x4 : Vec Ideal S1x32x2x512 .f32)
    (x5 : Vec Ideal S1x512x2 .f32) (x6 : Vec Ideal S512x128 .f32) (xt0 : TbBuf0 (F := Ideal) c tbM0_0)
    (k0_hw1 : k0_chk1 i (tbM0_0.view.readAt (Elt Ideal) (Rect.unit (s := S8x32) (k0_off1 i) S1x1.size
      (k0_off1_inb i)).toLoadRect xt0 (Shape.Idx.first (numel1_S1x1.symm ▸ Nat.one_pos))))
    (hW : tbM0_0.view.readAt (Elt Ideal) (Rect.unit (s := S8x32) (k0_off1 i) S1x1.size (k0_off1_inb i)).toLoadRect xt0
      (Shape.Idx.first (numel1_S1x1.symm ▸ Nat.one_pos)) = 0#32) (r : Fin 512) :
    out0_A_8 c i arg3 harg3 arg4 harg4 arg5 harg5 arg6 harg6 arg7 harg7 arg8 harg8 arg9 harg9 arg10 harg10
      arg11 harg11 arg12 harg12 arg13 harg13 x0 x1 x2 x3 x4 x5 x6 xt0 k0_hw1 (ix4 0 0 1 r)
    = ∑ l, ((∑ t ∈ Finset.range (i 1).val, lanes (grad (k0_pay42 x0) (k0_pay44 x1) (k0_pay48 x5) (k0_pay51 (k0_pay50 i x6)) (rowsOf x2 t) (rowsOf x3 t) (statOf x4 t) 1 r) l)
      + lanes (gradD (k0_pay42 x0) (k0_pay44 x1) (k0_pay48 x5) (k0_pay51 (k0_pay50 i x6)) (rowsOf x2 (i 1).val) (rowsOf x3 (i 1).val) (statOf x4 (i 1).val) 1 r) l) := by
  frame_open
  simp (disch := decide) only [↓ View.readCov_skip, ↓ View.readCov_cons_toLoadRect, ↓ View.readCov_fill]
  frame_out
  rw [t2_none]
  rotate_left
  · exact trips_two i _ hW
  rw [ld_rows x2 _ _ (off6_row i), ld_rows x3 _ _ (off6_row i), ld_stat x4 _ _ (off7_tile i)]
  refine (canon_rows1 _ _ r).trans ((pay104_apply _ r).trans (Finset.sum_congr rfl fun l _ => (read_slab1 _ _ r l).trans ?_))
  dsimp only [List.nil_append]
  refine canon_slabs _ _ _ _ _ (fun j r l => if j = 0 then (∑ t ∈ Finset.range (i 1).val, lanes (grad (k0_pay41 x0) (k0_pay43 x1) (k0_pay47 x5) (k0_pay49 i x6) (rowsOf x2 t) (rowsOf x3 t) (statOf x4 t) 0 r) l)
      + lanes (gradD (k0_pay41 x0) (k0_pay43 x1) (k0_pay47 x5) (k0_pay49 i x6) (rowsOf x2 (i 1).val) (rowsOf x3 (i 1).val) (statOf x4 (i 1).val) 0 r) l else (∑ t ∈ Finset.range (i 1).val, lanes (grad (k0_pay42 x0) (k0_pay44 x1) (k0_pay48 x5) (k0_pay51 (k0_pay50 i x6)) (rowsOf x2 t) (rowsOf x3 t) (statOf x4 t) 1 r) l)
      + lanes (gradD (k0_pay42 x0) (k0_pay44 x1) (k0_pay48 x5) (k0_pay51 (k0_pay50 i x6)) (rowsOf x2 (i 1).val) (rowsOf x3 (i 1).val) (statOf x4 (i 1).val) 1 r) l)
    (fun r l => (up_r0 ..).trans (congrArg (· + _) ((read_up0 _ _ r l).trans ?_)))
    (fun r l => (low_r0 ..).trans (congrArg (· + _) ((read_low0 _ _ r l).trans ?_)))
    (fun r l => (up_r1 ..).trans (congrArg (· + _) ((read_up1 _ _ r l).trans ?_)))
    (fun r l => (low_r1 ..).trans (congrArg (· + _) ((read_low1 _ _ r l).trans ?_))) 1 r l
  · generalize (⟨r.val, _⟩ : Fin 512) = r
    exact (loop_r0 (Kt := fun t => rowsOf x2 t) (Wt := fun t => rowsOf x3 t) (Ct := fun t => statOf x4 t) (r := r) (l := l)
    (hq := off2_fits i _ hW) (hl := off3_fits i _ hW) (eK := fun k => kT_eq i arg5 harg5 _ hW x2 k _)
    (eW := fun k => kT_eq i arg6 harg6 _ hW x3 k _) (eC := fun k => cT_eq i arg7 harg7 _ hW x4 k _) (n := _)
    (hn := Nat.le_refl _) ..).trans
      ((congrArg₂ (fun x y : EReal => x + y) ((canon_fill _ 0 r l).trans (zero_rows 0 r l)) (Finset.sum_congr (congrArg Finset.range (trips_one i _ hW)) fun _ _ => rfl)).trans
        (zero_add _))
  · generalize (⟨256 + r.val, _⟩ : Fin 512) = r
    exact (loop_r0 (Kt := fun t => rowsOf x2 t) (Wt := fun t => rowsOf x3 t) (Ct := fun t => statOf x4 t) (r := r) (l := l)
    (hq := off2_fits i _ hW) (hl := off3_fits i _ hW) (eK := fun k => kT_eq i arg5 harg5 _ hW x2 k _)
    (eW := fun k => kT_eq i arg6 harg6 _ hW x3 k _) (eC := fun k => cT_eq i arg7 harg7 _ hW x4 k _) (n := _)
    (hn := Nat.le_refl _) ..).trans
      ((congrArg₂ (fun x y : EReal => x + y) ((canon_fill _ 0 r l).trans (zero_rows 0 r l)) (Finset.sum_congr (congrArg Finset.range (trips_one i _ hW)) fun _ _ => rfl)).trans
        (zero_add _))
  · generalize (⟨r.val, _⟩ : Fin 512) = r
    exact (loop_r1 (Kt := fun t => rowsOf x2 t) (Wt := fun t => rowsOf x3 t) (Ct := fun t => statOf x4 t) (r := r) (l := l)
    (hq := off2_fits i _ hW) (hl := off3_fits i _ hW) (eK := fun k => kT_eq i arg5 harg5 _ hW x2 k _)
    (eW := fun k => kT_eq i arg6 harg6 _ hW x3 k _) (eC := fun k => cT_eq i arg7 harg7 _ hW x4 k _) (n := _)
    (hn := Nat.le_refl _) ..).trans
      ((congrArg₂ (fun x y : EReal => x + y) ((canon_fill _ 1 r l).trans (zero_rows 1 r l)) (Finset.sum_congr (congrArg Finset.range (trips_one i _ hW)) fun _ _ => rfl)).trans
        (zero_add _))
  · generalize (⟨256 + r.val, _⟩ : Fin 512) = r
    exact (loop_r1 (Kt := fun t => rowsOf x2 t) (Wt := fun t => rowsOf x3 t) (Ct := fun t => statOf x4 t) (r := r) (l := l)
    (hq := off2_fits i _ hW) (hl := off3_fits i _ hW) (eK := fun k => kT_eq i arg5 harg5 _ hW x2 k _)
    (eW := fun k => kT_eq i arg6 harg6 _ hW x3 k _) (eC := fun k => cT_eq i arg7 harg7 _ hW x4 k _) (n := _)
    (hn := Nat.le_refl _) ..).trans
      ((congrArg₂ (fun x y : EReal => x + y) ((canon_fill _ 1 r l).trans (zero_rows 1 r l)) (Finset.sum_congr (congrArg Finset.range (trips_one i _ hW)) fun _ _ => rfl)).trans
        (zero_add _))

end Cert.Kernel2Ideal.Dq
-- ==== Proof.QPoint.lean ====
module

public import proofs.«01_k».proof.Proof.QBlock
public import proofs.«01_k».proof.Proof.Point

/-!
# One grid point of the query's kernel, by heads

The masked products are sums over a head's own lanes; the key tiles' sums are one sum over the keys up to the query; each
entry of the point's two results is one such sum.
-/

@[expose] public section

set_option maxRecDepth 16384

noncomputable section

namespace Cert.Kernel2Ideal.Dq

open Idealize.ShloMosaic Idealize.ShloMosaic.TcCoe Cert.Kernel2Ideal.Gen Idealize.ShloMosaic.Tactic
open Cert.KernelIdeal.Dkv (lane lanes laneOf eighth select_lane sum_lanes headDot lane_lt lane_ge gateLane sum_gate sum_blocks
  qRow qTile qLane ite_mul_zero)

theorem select_pay39 (r : Fin 512) (l : Fin 128) (a b : EReal) :
    Scalar.select (k0_pay39 (ix2 r l)) a b = if l.val < 64 then a else b := by
  rw [← select_lane]
  unfold k0_pay39
  pointwise

theorem pay41_apply (x : Vec Ideal S512x128 .bf16) (r : Fin 512) (l : Fin 128) :
    (k0_pay41 (F := Ideal) x (ix2 r l) : EReal) = if l.val < 64 then x (ix2 r l) * eighth else 0 := by
  rw [← select_lane]
  unfold_payloads
  pointwise

theorem pay42_apply (x : Vec Ideal S512x128 .bf16) (r : Fin 512) (l : Fin 128) :
    (k0_pay42 (F := Ideal) x (ix2 r l) : EReal) = if l.val < 64 then 0 else x (ix2 r l) * eighth := by
  rw [← select_lane]
  unfold_payloads
  pointwise

theorem pay43_apply (x : Vec Ideal S512x128 .bf16) (r : Fin 512) (l : Fin 128) :
    (k0_pay43 (F := Ideal) x (ix2 r l) : EReal) = if l.val < 64 then x (ix2 r l) else 0 := by
  rw [← select_lane]
  unfold_payloads
  pointwise

theorem pay44_apply (x : Vec Ideal S512x128 .bf16) (r : Fin 512) (l : Fin 128) :
    (k0_pay44 (F := Ideal) x (ix2 r l) : EReal) = if l.val < 64 then 0 else x (ix2 r l) := by
  rw [← select_lane]
  unfold_payloads
  pointwise

/-- A product whose left rows vanish off the lanes of head `j`. -/
theorem dot_of (X K : FVec Ideal S512x128 .bf16) (r k : Fin 512) (j : Fin 2)
    (Y : Fin 128 → EReal) (h : ∀ d, X (ix2 r (laneOf j d)) = Y (laneOf j d))
    (h0 : ∀ i d, i ≠ j → X (ix2 r (laneOf i d)) = 0) :
    dot X K r k = headDot j Y (fun l => K (ix2 k l)) := by
  unfold dot headDot
  rw [sum_lanes]
  match j with
  | 0 =>
    rw [Finset.sum_congr rfl fun d _ => by rw [h d],
      Finset.sum_eq_zero (s := Finset.univ) (f := fun d => X (ix2 r (laneOf 1 d)) * K (ix2 k (laneOf 1 d)))
        fun d _ => by rw [h0 1 d (by decide), zero_mul], add_zero]
  | 1 =>
    rw [Finset.sum_congr (s₁ := Finset.univ) (f := fun d => X (ix2 r (laneOf 1 d)) * K (ix2 k (laneOf 1 d))) rfl fun d _ => by rw [h d],
      Finset.sum_eq_zero (s := Finset.univ) (f := fun d => X (ix2 r (laneOf 0 d)) * K (ix2 k (laneOf 0 d)))
        fun d _ => by rw [h0 0 d (by decide), zero_mul], zero_add]

theorem dot_41 (x : Vec Ideal S512x128 .bf16) (K : FVec Ideal S512x128 .bf16) (r k : Fin 512) :
    dot (k0_pay41 (F := Ideal) x) K r k = headDot 0 (fun l => x (ix2 r l) * eighth) (fun l => K (ix2 k l)) :=
  dot_of _ K r k 0 _ (fun d => (pay41_apply x r _).trans (if_pos (lane_lt d)))
    (fun i d h => by
      obtain rfl : i = 1 := by omega
      exact (pay41_apply x r _).trans (if_neg (lane_ge d)))

theorem dot_42 (x : Vec Ideal S512x128 .bf16) (K : FVec Ideal S512x128 .bf16) (r k : Fin 512) :
    dot (k0_pay42 (F := Ideal) x) K r k = headDot 1 (fun l => x (ix2 r l) * eighth) (fun l => K (ix2 k l)) :=
  dot_of _ K r k 1 _ (fun d => (pay42_apply x r _).trans (if_neg (lane_ge d)))
    (fun i d h => by
      obtain rfl : i = 0 := by omega
      exact (pay42_apply x r _).trans (if_pos (lane_lt d)))

theorem dot_43 (x : Vec Ideal S512x128 .bf16) (K : FVec Ideal S512x128 .bf16) (r k : Fin 512) :
    dot (k0_pay43 (F := Ideal) x) K r k = headDot 0 (fun l => x (ix2 r l)) (fun l => K (ix2 k l)) :=
  dot_of _ K r k 0 _ (fun d => (pay43_apply x r _).trans (if_pos (lane_lt d)))
    (fun i d h => by
      obtain rfl : i = 1 := by omega
      exact (pay43_apply x r _).trans (if_neg (lane_ge d)))

theorem dot_44 (x : Vec Ideal S512x128 .bf16) (K : FVec Ideal S512x128 .bf16) (r k : Fin 512) :
    dot (k0_pay44 (F := Ideal) x) K r k = headDot 1 (fun l => x (ix2 r l)) (fun l => K (ix2 k l)) :=
  dot_of _ K r k 1 _ (fun d => (pay44_apply x r _).trans (if_neg (lane_ge d)))
    (fun i d h => by
      obtain rfl : i = 0 := by omega
      exact (pay44_apply x r _).trans (if_pos (lane_lt d)))

/-- The row's mean of head 0, taken out of the lanes. -/
theorem delta0_apply (i : grid0.Coords) (x : Vec Ideal S512x128 .f32) (r : Fin 512) (l : Fin 128) :
    k0_pay49 (F := Ideal) i x (ix2 r l) = x (ix2 r (gateLane (i 0) 0)) := by
  refine Eq.trans ?_ (sum_gate 0 (i 0) fun l => x (ix2 r l))
  unfold_payloads
  pointwise

/-- The row's mean of head 1, taken out of the lanes. -/
theorem delta1_apply (i : grid0.Coords) (x : Vec Ideal S512x128 .f32) (r : Fin 512) (l : Fin 128) :
    k0_pay51 (F := Ideal) (k0_pay50 (F := Ideal) i x) (ix2 r l) = x (ix2 r (gateLane (i 0) 1)) := by
  refine Eq.trans ?_ (sum_gate 1 (i 0) fun l => x (ix2 r l))
  unfold_payloads
  pointwise

/-- The row's log-sum of head 0. -/
theorem lse0_apply (x : Vec Ideal S1x512x2 .f32) (r : Fin 512) (l : Fin 128) :
    k0_pay47 (F := Ideal) x (ix2 r l) = x (ix3 0 r 0) := by
  unfold_payloads
  pointwise

/-- The row's log-sum of head 1. -/
theorem lse1_apply (x : Vec Ideal S1x512x2 .f32) (r : Fin 512) (l : Fin 128) :
    k0_pay48 (F := Ideal) x (ix2 r l) = x (ix3 0 r 1) := by
  unfold_payloads
  pointwise

/-- The tiles' sums as one sum: the earlier tiles' keys, then the diagonal tile's keys up to row `r`. -/
theorem sum_tiles (qb : ℕ) (hq : qb < 32) (r : Fin 512) (f : ℕ → EReal) :
    (∑ t ∈ Finset.range qb, ∑ k : Fin 512, f (512 * t + k.val))
      + (∑ k : Fin 512, if k.val ≤ r.val then f (512 * qb + k.val) else 0)
    = ∑ k : Fin 16384, if k.val ≤ 512 * qb + r.val then f k.val else 0 := by
  have h1 : ∑ k : Fin 16384, (if k.val ≤ 512 * qb + r.val then f k.val else 0)
      = ∑ n ∈ Finset.range 32, ∑ k : Fin 512, if 512 * n + k.val ≤ 512 * qb + r.val then f (512 * n + k.val) else 0 := by
    rw [Fin.sum_univ_eq_sum_range (fun k => if k ≤ 512 * qb + r.val then f k else 0) 16384]
    rw [show (16384 : ℕ) = 32 * 512 from rfl, Finset.sum_range_mul_split]
    simp only [Nat.mul_comm _ 512]
    refine Finset.sum_congr rfl fun n _ => ?_
    rw [Fin.sum_univ_eq_sum_range (fun k => if 512 * n + k ≤ 512 * qb + r.val then f (512 * n + k) else 0) 512]
  have hs : (32 : ℕ) = qb + (1 + (31 - qb)) := by omega
  rw [h1, hs, Finset.sum_range_add, Finset.sum_range_add, Finset.sum_range_one]
  rw [Finset.sum_eq_zero (s := Finset.range (31 - qb)) fun n _ => Finset.sum_eq_zero fun k _ => if_neg (by omega), add_zero]
  refine congrArg₂ (· + ·) ?_ ?_
  · refine Finset.sum_congr rfl fun t ht => Finset.sum_congr rfl fun k _ => ?_
    have := Finset.mem_range.1 ht
    rw [if_pos (by omega)]
  · refine Finset.sum_congr rfl fun k _ => ?_
    simp only [Nat.add_zero, Nat.add_le_add_iff_left]

theorem rowsOf_apply (x : Vec Ideal S16384x128 .bf16) (n : ℕ) (k : Fin 512) (l : Fin 128) :
    rowsOf x n (ix2 k l) = x (ix2 (qRow (512 * n + k.val)) l) := rfl

theorem statOf_apply (x : Vec Ideal S1x32x2x512 .f32) (n : ℕ) (j : Fin 2) (k : Fin 512) :
    statOf x n (ix4 0 0 j k) = x (ix4 0 (qTile (512 * n + k.val)) j (qLane (512 * n + k.val))) := by
  have e1 : qTile (512 * n + k.val) = ⟨n % 32, Nat.mod_lt _ (by decide)⟩ := Fin.ext (by
    show (512 * n + k.val) / 512 % 32 = n % 32
    omega)
  have e2 : qLane (512 * n + k.val) = k := Fin.ext (by
    show (512 * n + k.val) % 512 = k.val
    omega)
  rw [e1, e2]
  rfl

section

variable (p : Fin 8) (x0 x1 : Vec Ideal S512x128 .bf16) (x2 x3 : Vec Ideal S16384x128 .bf16)
  (x4 : Vec Ideal S1x32x2x512 .f32) (x5 : Vec Ideal S1x512x2 .f32) (x6 : Vec Ideal S512x128 .f32) (j : Fin 2) (r : Fin 512)

/-- The attention weight of key `k` for query row `r`, head `j` of the pair. -/
def pointW (k : ℕ) : EReal :=
  Ideal.exp (headDot j (fun l => x0 (ix2 r l) * eighth) (fun l => x2 (ix2 (qRow k) l)) - x4 (ix4 0 (qTile k) j (qLane k))
    - x5 (ix3 0 r j))

/-- The gradient of the logit. -/
def pointG (k : ℕ) : EReal :=
  pointW x0 x2 x4 x5 j r k
    * (headDot j (fun l => x1 (ix2 r l)) (fun l => x3 (ix2 (qRow k) l)) - x6 (ix2 r (gateLane p j)))

end

section

variable (i : grid0.Coords) (x0 x1 : Vec Ideal S512x128 .bf16) (x2 x3 : Vec Ideal S16384x128 .bf16)
  (x4 : Vec Ideal S1x32x2x512 .f32) (x5 : Vec Ideal S1x512x2 .f32) (x6 : Vec Ideal S512x128 .f32) (n : ℕ) (r k : Fin 512)

theorem weight_0 : weight (k0_pay41 x0) (k0_pay47 x5) (rowsOf x2 n) (statOf x4 n) 0 r k
    = pointW x0 x2 x4 x5 0 r (512 * n + k.val) := by
  unfold weight pointW
  rw [dot_41, lse0_apply, statOf_apply]
  rfl

theorem grad_0 : grad (k0_pay41 x0) (k0_pay43 x1) (k0_pay47 x5) (k0_pay49 i x6) (rowsOf x2 n) (rowsOf x3 n) (statOf x4 n) 0 r k
    = pointG (i 0) x0 x1 x2 x3 x4 x5 x6 0 r (512 * n + k.val) := by
  unfold grad slope pointG
  rw [weight_0, dot_43, delta0_apply]
  rfl

theorem weight_1 : weight (k0_pay42 x0) (k0_pay48 x5) (rowsOf x2 n) (statOf x4 n) 1 r k
    = pointW x0 x2 x4 x5 1 r (512 * n + k.val) := by
  unfold weight pointW
  rw [dot_42, lse1_apply, statOf_apply]
  rfl

theorem grad_1 : grad (k0_pay42 x0) (k0_pay44 x1) (k0_pay48 x5) (k0_pay51 (k0_pay50 i x6)) (rowsOf x2 n) (rowsOf x3 n) (statOf x4 n) 1 r k
    = pointG (i 0) x0 x1 x2 x3 x4 x5 x6 1 r (512 * n + k.val) := by
  unfold grad slope pointG
  rw [weight_1, dot_44, delta1_apply]
  rfl

theorem gradD_eq (X D : FVec Ideal S512x128 .bf16) (L E : FVec Ideal S512x128 .f32) (K W : FVec Ideal S512x128 .bf16)
    (C : FVec Ideal S1x1x2x512 .f32) (j : Fin 2) :
    gradD X D L E K W C j r k = if k.val ≤ r.val then grad X D L E K W C j r k else 0 := by
  unfold gradD grad
  split
  · rfl
  · exact zero_mul _

end

/-- The queries' gradient. -/
theorem point_dq (c : Dev nD) (i : grid0.Coords) (arg3 : Memref sig .tc .vmem S512x128 .bf16) (harg3 : arg3.IsWhole)
    (arg4 : Memref sig .tc .vmem S512x128 .bf16) (harg4 : arg4.IsWhole)
    (arg5 : Memref sig .tc .vmem S16384x128 .bf16) (harg5 : arg5.IsWhole)
    (arg6 : Memref sig .tc .vmem S16384x128 .bf16) (harg6 : arg6.IsWhole)
    (arg7 : Memref sig .tc .vmem S1x32x2x512 .f32) (harg7 : arg7.IsWhole)
    (arg8 : Memref sig .tc .vmem S1x512x2 .f32) (harg8 : arg8.IsWhole)
    (arg9 : Memref sig .tc .vmem S512x128 .f32) (harg9 : arg9.IsWhole)
    (arg10 : Memref sig .tc .vmem S512x128 .bf16) (harg10 : arg10.IsWhole)
    (arg11 : Memref sig .tc .vmem S1x1x2x512 .f32) (harg11 : arg11.IsWhole)
    (arg12 : Memref sig .tc .vmem S512x128 .f32) (harg12 : arg12.IsWhole)
    (arg13 : Memref sig .tc .vmem S2x512x128 .f32) (harg13 : arg13.IsWhole)
    (x0 x1 : Vec Ideal S512x128 .bf16) (x2 x3 : Vec Ideal S16384x128 .bf16) (x4 : Vec Ideal S1x32x2x512 .f32)
    (x5 : Vec Ideal S1x512x2 .f32) (x6 : Vec Ideal S512x128 .f32) (xt0 : TbBuf0 (F := Ideal) c tbM0_0)
    (k0_hw1 : k0_chk1 i (tbM0_0.view.readAt (Elt Ideal) (Rect.unit (s := S8x32) (k0_off1 i) S1x1.size
      (k0_off1_inb i)).toLoadRect xt0 (Shape.Idx.first (numel1_S1x1.symm ▸ Nat.one_pos))))
    (hW : tbM0_0.view.readAt (Elt Ideal) (Rect.unit (s := S8x32) (k0_off1 i) S1x1.size (k0_off1_inb i)).toLoadRect xt0
      (Shape.Idx.first (numel1_S1x1.symm ▸ Nat.one_pos)) = 0#32) (j : Fin 2) (r : Fin 512) (d : Fin 64) :
    (out0_A_7 c i arg3 harg3 arg4 harg4 arg5 harg5 arg6 harg6 arg7 harg7 arg8 harg8 arg9 harg9 arg10 harg10
      arg11 harg11 arg12 harg12 arg13 harg13 x0 x1 x2 x3 x4 x5 x6 xt0 k0_hw1 (ix2 r (laneOf j d)) : EReal)
    = (∑ k : Fin 16384, if k.val ≤ 512 * (i 1).val + r.val then pointG (i 0) x0 x1 x2 x3 x4 x5 x6 j r k.val * x2 (ix2 (qRow k.val) (laneOf j d)) else 0)
      * Scalar.ofBits (F := Ideal) .f32 0x3E000000#32 := by
  refine (body_dq c i arg3 harg3 arg4 harg4 arg5 harg5 arg6 harg6 arg7 harg7 arg8 harg8 arg9 harg9 arg10 harg10
      arg11 harg11 arg12 harg12 arg13 harg13 x0 x1 x2 x3 x4 x5 x6 xt0 k0_hw1 hW r (laneOf j d)).trans (congrArg (· * _) ?_)
  match j with
  | 0 =>
    simp only [select_pay39]
    rw [if_pos (lane_lt d), Finset.sum_congr rfl fun t _ => if_pos (lane_lt d)]
    refine Eq.trans (congrArg₂ (· + ·) (Finset.sum_congr rfl fun t _ => Finset.sum_congr rfl fun k _ => ?_) (Finset.sum_congr rfl fun k _ => ?_))
      (sum_tiles (i 1).val (i 1).isLt r fun k => pointG (i 0) x0 x1 x2 x3 x4 x5 x6 0 r k * x2 (ix2 (qRow k) (laneOf 0 d)))
    · rw [grad_0]; rfl
    · rw [gradD_eq, ite_mul_zero, grad_0]; rfl
  | 1 =>
    simp only [select_pay39]
    rw [if_neg (lane_ge d), Finset.sum_congr rfl fun t _ => if_neg (lane_ge d)]
    refine Eq.trans (congrArg₂ (· + ·) (Finset.sum_congr rfl fun t _ => Finset.sum_congr rfl fun k _ => ?_) (Finset.sum_congr rfl fun k _ => ?_))
      (sum_tiles (i 1).val (i 1).isLt r fun k => pointG (i 0) x0 x1 x2 x3 x4 x5 x6 1 r k * x2 (ix2 (qRow k) (laneOf 1 d)))
    · rw [grad_1]; rfl
    · rw [gradD_eq, ite_mul_zero, grad_1]; rfl

/-- The gate's gradient by rows. -/
theorem point_r (c : Dev nD) (i : grid0.Coords) (arg3 : Memref sig .tc .vmem S512x128 .bf16) (harg3 : arg3.IsWhole)
    (arg4 : Memref sig .tc .vmem S512x128 .bf16) (harg4 : arg4.IsWhole)
    (arg5 : Memref sig .tc .vmem S16384x128 .bf16) (harg5 : arg5.IsWhole)
    (arg6 : Memref sig .tc .vmem S16384x128 .bf16) (harg6 : arg6.IsWhole)
    (arg7 : Memref sig .tc .vmem S1x32x2x512 .f32) (harg7 : arg7.IsWhole)
    (arg8 : Memref sig .tc .vmem S1x512x2 .f32) (harg8 : arg8.IsWhole)
    (arg9 : Memref sig .tc .vmem S512x128 .f32) (harg9 : arg9.IsWhole)
    (arg10 : Memref sig .tc .vmem S512x128 .bf16) (harg10 : arg10.IsWhole)
    (arg11 : Memref sig .tc .vmem S1x1x2x512 .f32) (harg11 : arg11.IsWhole)
    (arg12 : Memref sig .tc .vmem S512x128 .f32) (harg12 : arg12.IsWhole)
    (arg13 : Memref sig .tc .vmem S2x512x128 .f32) (harg13 : arg13.IsWhole)
    (x0 x1 : Vec Ideal S512x128 .bf16) (x2 x3 : Vec Ideal S16384x128 .bf16) (x4 : Vec Ideal S1x32x2x512 .f32)
    (x5 : Vec Ideal S1x512x2 .f32) (x6 : Vec Ideal S512x128 .f32) (xt0 : TbBuf0 (F := Ideal) c tbM0_0)
    (k0_hw1 : k0_chk1 i (tbM0_0.view.readAt (Elt Ideal) (Rect.unit (s := S8x32) (k0_off1 i) S1x1.size
      (k0_off1_inb i)).toLoadRect xt0 (Shape.Idx.first (numel1_S1x1.symm ▸ Nat.one_pos))))
    (hW : tbM0_0.view.readAt (Elt Ideal) (Rect.unit (s := S8x32) (k0_off1 i) S1x1.size (k0_off1_inb i)).toLoadRect xt0
      (Shape.Idx.first (numel1_S1x1.symm ▸ Nat.one_pos)) = 0#32) (j : Fin 2) (r : Fin 512) :
    (out0_A_8 c i arg3 harg3 arg4 harg4 arg5 harg5 arg6 harg6 arg7 harg7 arg8 harg8 arg9 harg9 arg10 harg10
      arg11 harg11 arg12 harg12 arg13 harg13 x0 x1 x2 x3 x4 x5 x6 xt0 k0_hw1 (ix4 0 0 j r) : EReal)
    = ∑ k : Fin 16384, if k.val ≤ 512 * (i 1).val + r.val then pointG (i 0) x0 x1 x2 x3 x4 x5 x6 j r k.val else 0 := by
  match j with
  | 0 =>
    refine (body_r0 c i arg3 harg3 arg4 harg4 arg5 harg5 arg6 harg6 arg7 harg7 arg8 harg8 arg9 harg9 arg10 harg10
      arg11 harg11 arg12 harg12 arg13 harg13 x0 x1 x2 x3 x4 x5 x6 xt0 k0_hw1 hW r).trans ?_
    rw [Finset.sum_add_distrib, Finset.sum_comm, sum_blocks, Finset.sum_congr rfl fun t _ => sum_blocks _]
    refine Eq.trans (congrArg₂ (· + ·) (Finset.sum_congr rfl fun t _ => Finset.sum_congr rfl fun k _ => ?_) (Finset.sum_congr rfl fun k _ => ?_))
      (sum_tiles (i 1).val (i 1).isLt r fun k => pointG (i 0) x0 x1 x2 x3 x4 x5 x6 0 r k)
    · rw [grad_0]
    · rw [gradD_eq, grad_0]
  | 1 =>
    refine (body_r1 c i arg3 harg3 arg4 harg4 arg5 harg5 arg6 harg6 arg7 harg7 arg8 harg8 arg9 harg9 arg10 harg10
      arg11 harg11 arg12 harg12 arg13 harg13 x0 x1 x2 x3 x4 x5 x6 xt0 k0_hw1 hW r).trans ?_
    rw [Finset.sum_add_distrib, Finset.sum_comm, sum_blocks, Finset.sum_congr rfl fun t _ => sum_blocks _]
    refine Eq.trans (congrArg₂ (· + ·) (Finset.sum_congr rfl fun t _ => Finset.sum_congr rfl fun k _ => ?_) (Finset.sum_congr rfl fun k _ => ?_))
      (sum_tiles (i 1).val (i 1).isLt r fun k => pointG (i 0) x0 x1 x2 x3 x4 x5 x6 1 r k)
    · rw [grad_1]
    · rw [gradD_eq, grad_1]

end Cert.Kernel2Ideal.Dq
-- ==== Proof.QPlaces.lean ====
module

public import proofs.«01_k».proof.Proof.QTables
public import proofs.«01_k».proof.Proof.Places
public import proofs.«01_k».proof.Proof.Gen.Kernel2Ideal.Frame

/-!
# The blocks' places in their arrays, in the query's kernel

Grid point `t` is the pair of heads `pair t` and the query block `queryBlock t`; each window's block, at its indices.
-/

@[expose] public section

set_option maxRecDepth 16384

noncomputable section

namespace Cert.Kernel2Ideal.Dq

open Idealize.ShloMosaic Idealize.ShloMosaic.TcCoe Cert.Kernel2Ideal.Gen Idealize.ShloMosaic.Tactic
open Cert.KernelIdeal.Dkv (row col qCol kCol vCol idx_ext word8 word32 word8k word8v)

variable (m : (ℓ : Loc nD τ sig) → Buf (Elt Ideal) ℓ)

/-- The point's pair of heads. -/
def pair (i : grid0.Coords) : Fin 8 := i 0

/-- The point's block of queries. -/
def queryBlock (i : grid0.Coords) : Fin 32 := i 1

theorem emb0 (t : Fin (cfgM m (ok m)).N) (r : Fin 512) (l : Fin 128) :
    ((((cfgM m (ok m)).win 0).blk t).view.emb (ix2 r l) : S16384x3072.Idx)
      = ix2 (row (queryBlock (grid0.coords t)) r) (qCol (pair (grid0.coords t)) l) :=
  idx_ext _ _ fun (a : Fin 2) => match a with
  | 0 => by
    show cc0_transform_0 (grid0.coords t) 0 * 512 + 1 * r.val = 512 * (queryBlock (grid0.coords t)).val + r.val
    have h : cc0_transform_0 (grid0.coords t) 0 = (queryBlock (grid0.coords t)).val := word32 (queryBlock (grid0.coords t))
    rw [h]
    omega
  | 1 => by
    show cc0_transform_0 (grid0.coords t) 1 * 128 + 1 * l.val = 128 * (pair (grid0.coords t)).val + l.val
    have h : cc0_transform_0 (grid0.coords t) 1 = (pair (grid0.coords t)).val := word8 (pair (grid0.coords t))
    rw [h]
    omega

theorem read0 (c : Dev nD) (X : (b : Ref sig .tc) → Buf (Elt Ideal) ((c : Thread nD τ).loc b))
    (t : Fin (cfgM m (ok m)).N) (r : Fin 512) (l : Fin 128) :
    ((((cfgM m (ok m)).win 0).blk t).view.read (Elt Ideal) (X (Pipeline.arrRef spec0 0)) (ix2 r l) : EReal)
      = X main_arg0 (ix2 (row (queryBlock (grid0.coords t)) r) (qCol (pair (grid0.coords t)) l)) :=
  congrArg (X main_arg0) (emb0 m t r l)

theorem block0 (c : Dev nD) (t : Fin (cfgM m (ok m)).N) (r : Fin 512) (l : Fin 128) :
    (iblk m (ok m) c 0 t (ix2 r l) : EReal) = V m c main_arg0 (ix2 (row (queryBlock (grid0.coords t)) r) (qCol (pair (grid0.coords t)) l)) :=
  read0 m c (V m c) t r l

theorem emb1 (t : Fin (cfgM m (ok m)).N) (r : Fin 512) (l : Fin 128) :
    ((((cfgM m (ok m)).win 1).blk t).view.emb (ix2 r l) : S16384x1024.Idx)
      = ix2 (row (queryBlock (grid0.coords t)) r) (col (pair (grid0.coords t)) l) :=
  idx_ext _ _ fun (a : Fin 2) => match a with
  | 0 => by
    show cc0_transform_1 (grid0.coords t) 0 * 512 + 1 * r.val = 512 * (queryBlock (grid0.coords t)).val + r.val
    have h : cc0_transform_1 (grid0.coords t) 0 = (queryBlock (grid0.coords t)).val := word32 (queryBlock (grid0.coords t))
    rw [h]
    omega
  | 1 => by
    show cc0_transform_1 (grid0.coords t) 1 * 128 + 1 * l.val = 128 * (pair (grid0.coords t)).val + l.val
    have h : cc0_transform_1 (grid0.coords t) 1 = (pair (grid0.coords t)).val := word8 (pair (grid0.coords t))
    rw [h]
    omega

theorem read1 (c : Dev nD) (X : (b : Ref sig .tc) → Buf (Elt Ideal) ((c : Thread nD τ).loc b))
    (t : Fin (cfgM m (ok m)).N) (r : Fin 512) (l : Fin 128) :
    ((((cfgM m (ok m)).win 1).blk t).view.read (Elt Ideal) (X (Pipeline.arrRef spec0 1)) (ix2 r l) : EReal)
      = X main_arg2 (ix2 (row (queryBlock (grid0.coords t)) r) (col (pair (grid0.coords t)) l)) :=
  congrArg (X main_arg2) (emb1 m t r l)

theorem block1 (c : Dev nD) (t : Fin (cfgM m (ok m)).N) (r : Fin 512) (l : Fin 128) :
    (iblk m (ok m) c 1 t (ix2 r l) : EReal) = V m c main_arg2 (ix2 (row (queryBlock (grid0.coords t)) r) (col (pair (grid0.coords t)) l)) :=
  read1 m c (V m c) t r l

theorem emb2 (t : Fin (cfgM m (ok m)).N) (r : Fin 16384) (l : Fin 128) :
    ((((cfgM m (ok m)).win 2).blk t).view.emb (ix2 r l) : S16384x3072.Idx)
      = ix2 r (kCol (pair (grid0.coords t)) l) :=
  idx_ext _ _ fun (a : Fin 2) => match a with
  | 0 => by
    show cc0_transform_2 (grid0.coords t) 0 * 16384 + 1 * r.val = r.val
    have h : cc0_transform_2 (grid0.coords t) 0 = 0 := rfl
    rw [h]
    omega
  | 1 => by
    show cc0_transform_2 (grid0.coords t) 1 * 128 + 1 * l.val = 1024 + (128 * (pair (grid0.coords t)).val + l.val)
    have h : cc0_transform_2 (grid0.coords t) 1 = 8 + (pair (grid0.coords t)).val := word8k (pair (grid0.coords t))
    rw [h]
    omega

theorem read2 (c : Dev nD) (X : (b : Ref sig .tc) → Buf (Elt Ideal) ((c : Thread nD τ).loc b))
    (t : Fin (cfgM m (ok m)).N) (r : Fin 16384) (l : Fin 128) :
    ((((cfgM m (ok m)).win 2).blk t).view.read (Elt Ideal) (X (Pipeline.arrRef spec0 2)) (ix2 r l) : EReal)
      = X main_arg0 (ix2 r (kCol (pair (grid0.coords t)) l)) :=
  congrArg (X main_arg0) (emb2 m t r l)

theorem block2 (c : Dev nD) (t : Fin (cfgM m (ok m)).N) (r : Fin 16384) (l : Fin 128) :
    (iblk m (ok m) c 2 t (ix2 r l) : EReal) = V m c main_arg0 (ix2 r (kCol (pair (grid0.coords t)) l)) :=
  read2 m c (V m c) t r l

theorem emb3 (t : Fin (cfgM m (ok m)).N) (r : Fin 16384) (l : Fin 128) :
    ((((cfgM m (ok m)).win 3).blk t).view.emb (ix2 r l) : S16384x3072.Idx)
      = ix2 r (vCol (pair (grid0.coords t)) l) :=
  idx_ext _ _ fun (a : Fin 2) => match a with
  | 0 => by
    show cc0_transform_3 (grid0.coords t) 0 * 16384 + 1 * r.val = r.val
    have h : cc0_transform_3 (grid0.coords t) 0 = 0 := rfl
    rw [h]
    omega
  | 1 => by
    show cc0_transform_3 (grid0.coords t) 1 * 128 + 1 * l.val = 2048 + (128 * (pair (grid0.coords t)).val + l.val)
    have h : cc0_transform_3 (grid0.coords t) 1 = 16 + (pair (grid0.coords t)).val := word8v (pair (grid0.coords t))
    rw [h]
    omega

theorem read3 (c : Dev nD) (X : (b : Ref sig .tc) → Buf (Elt Ideal) ((c : Thread nD τ).loc b))
    (t : Fin (cfgM m (ok m)).N) (r : Fin 16384) (l : Fin 128) :
    ((((cfgM m (ok m)).win 3).blk t).view.read (Elt Ideal) (X (Pipeline.arrRef spec0 3)) (ix2 r l) : EReal)
      = X main_arg0 (ix2 r (vCol (pair (grid0.coords t)) l)) :=
  congrArg (X main_arg0) (emb3 m t r l)

theorem block3 (c : Dev nD) (t : Fin (cfgM m (ok m)).N) (r : Fin 16384) (l : Fin 128) :
    (iblk m (ok m) c 3 t (ix2 r l) : EReal) = V m c main_arg0 (ix2 r (vCol (pair (grid0.coords t)) l)) :=
  read3 m c (V m c) t r l

theorem emb4 (t : Fin (cfgM m (ok m)).N) (n : Fin 32) (j : Fin 2) (r : Fin 512) :
    ((((cfgM m (ok m)).win 4).blk t).view.emb (ix4 0 n j r) : S8x32x2x512.Idx)
      = ix4 (pair (grid0.coords t)) n j r :=
  idx_ext _ _ fun (a : Fin 4) => match a with
  | 0 => by
    show cc0_transform_4 (grid0.coords t) 0 * 1 + 1 * 0 = (pair (grid0.coords t)).val
    have h : cc0_transform_4 (grid0.coords t) 0 = (pair (grid0.coords t)).val := word8 (pair (grid0.coords t))
    rw [h]
    omega
  | 1 => by
    show cc0_transform_4 (grid0.coords t) 1 * 32 + 1 * n.val = n.val
    have h : cc0_transform_4 (grid0.coords t) 1 = 0 := rfl
    rw [h]
    omega
  | 2 => by
    show cc0_transform_4 (grid0.coords t) 2 * 2 + 1 * j.val = j.val
    have h : cc0_transform_4 (grid0.coords t) 2 = 0 := rfl
    rw [h]
    omega
  | 3 => by
    show cc0_transform_4 (grid0.coords t) 3 * 512 + 1 * r.val = r.val
    have h : cc0_transform_4 (grid0.coords t) 3 = 0 := rfl
    rw [h]
    omega

theorem read4 (c : Dev nD) (X : (b : Ref sig .tc) → Buf (Elt Ideal) ((c : Thread nD τ).loc b))
    (t : Fin (cfgM m (ok m)).N) (n : Fin 32) (j : Fin 2) (r : Fin 512) :
    ((((cfgM m (ok m)).win 4).blk t).view.read (Elt Ideal) (X (Pipeline.arrRef spec0 4)) (ix4 0 n j r) : EReal)
      = X main_v46 (ix4 (pair (grid0.coords t)) n j r) :=
  congrArg (X main_v46) (emb4 m t n j r)

theorem block4 (c : Dev nD) (t : Fin (cfgM m (ok m)).N) (n : Fin 32) (j : Fin 2) (r : Fin 512) :
    (iblk m (ok m) c 4 t (ix4 0 n j r) : EReal) = V m c main_v46 (ix4 (pair (grid0.coords t)) n j r) :=
  read4 m c (V m c) t n j r

theorem emb5 (t : Fin (cfgM m (ok m)).N) (r : Fin 512) (j : Fin 2) :
    ((((cfgM m (ok m)).win 5).blk t).view.emb (ix3 0 r j) : S8x16384x2.Idx)
      = ix3 (pair (grid0.coords t)) (row (queryBlock (grid0.coords t)) r) j :=
  idx_ext _ _ fun (a : Fin 3) => match a with
  | 0 => by
    show cc0_transform_5 (grid0.coords t) 0 * 1 + 1 * 0 = (pair (grid0.coords t)).val
    have h : cc0_transform_5 (grid0.coords t) 0 = (pair (grid0.coords t)).val := word8 (pair (grid0.coords t))
    rw [h]
    omega
  | 1 => by
    show cc0_transform_5 (grid0.coords t) 1 * 512 + 1 * r.val = 512 * (queryBlock (grid0.coords t)).val + r.val
    have h : cc0_transform_5 (grid0.coords t) 1 = (queryBlock (grid0.coords t)).val := word32 (queryBlock (grid0.coords t))
    rw [h]
    omega
  | 2 => by
    show cc0_transform_5 (grid0.coords t) 2 * 2 + 1 * j.val = j.val
    have h : cc0_transform_5 (grid0.coords t) 2 = 0 := rfl
    rw [h]
    omega

theorem read5 (c : Dev nD) (X : (b : Ref sig .tc) → Buf (Elt Ideal) ((c : Thread nD τ).loc b))
    (t : Fin (cfgM m (ok m)).N) (r : Fin 512) (j : Fin 2) :
    ((((cfgM m (ok m)).win 5).blk t).view.read (Elt Ideal) (X (Pipeline.arrRef spec0 5)) (ix3 0 r j) : EReal)
      = X main_v48 (ix3 (pair (grid0.coords t)) (row (queryBlock (grid0.coords t)) r) j) :=
  congrArg (X main_v48) (emb5 m t r j)

theorem block5 (c : Dev nD) (t : Fin (cfgM m (ok m)).N) (r : Fin 512) (j : Fin 2) :
    (iblk m (ok m) c 5 t (ix3 0 r j) : EReal) = V m c main_v48 (ix3 (pair (grid0.coords t)) (row (queryBlock (grid0.coords t)) r) j) :=
  read5 m c (V m c) t r j

theorem emb6 (t : Fin (cfgM m (ok m)).N) (r : Fin 512) (l : Fin 128) :
    ((((cfgM m (ok m)).win 6).blk t).view.emb (ix2 r l) : S16384x128.Idx)
      = ix2 (row (queryBlock (grid0.coords t)) r) l :=
  idx_ext _ _ fun (a : Fin 2) => match a with
  | 0 => by
    show cc0_transform_6 (grid0.coords t) 0 * 512 + 1 * r.val = 512 * (queryBlock (grid0.coords t)).val + r.val
    have h : cc0_transform_6 (grid0.coords t) 0 = (queryBlock (grid0.coords t)).val := word32 (queryBlock (grid0.coords t))
    rw [h]
    omega
  | 1 => by
    show cc0_transform_6 (grid0.coords t) 1 * 128 + 1 * l.val = l.val
    have h : cc0_transform_6 (grid0.coords t) 1 = 0 := rfl
    rw [h]
    omega

theorem read6 (c : Dev nD) (X : (b : Ref sig .tc) → Buf (Elt Ideal) ((c : Thread nD τ).loc b))
    (t : Fin (cfgM m (ok m)).N) (r : Fin 512) (l : Fin 128) :
    ((((cfgM m (ok m)).win 6).blk t).view.read (Elt Ideal) (X (Pipeline.arrRef spec0 6)) (ix2 r l) : EReal)
      = X main_v50 (ix2 (row (queryBlock (grid0.coords t)) r) l) :=
  congrArg (X main_v50) (emb6 m t r l)

theorem block6 (c : Dev nD) (t : Fin (cfgM m (ok m)).N) (r : Fin 512) (l : Fin 128) :
    (iblk m (ok m) c 6 t (ix2 r l) : EReal) = V m c main_v50 (ix2 (row (queryBlock (grid0.coords t)) r) l) :=
  read6 m c (V m c) t r l

theorem emb7 (t : Fin (cfgM m (ok m)).N) (r : Fin 512) (l : Fin 128) :
    ((((cfgM m (ok m)).win 7).blk t).view.emb (ix2 r l) : S16384x1024.Idx)
      = ix2 (row (queryBlock (grid0.coords t)) r) (col (pair (grid0.coords t)) l) :=
  idx_ext _ _ fun (a : Fin 2) => match a with
  | 0 => by
    show cc0_transform_7 (grid0.coords t) 0 * 512 + 1 * r.val = 512 * (queryBlock (grid0.coords t)).val + r.val
    have h : cc0_transform_7 (grid0.coords t) 0 = (queryBlock (grid0.coords t)).val := word32 (queryBlock (grid0.coords t))
    rw [h]
    omega
  | 1 => by
    show cc0_transform_7 (grid0.coords t) 1 * 128 + 1 * l.val = 128 * (pair (grid0.coords t)).val + l.val
    have h : cc0_transform_7 (grid0.coords t) 1 = (pair (grid0.coords t)).val := word8 (pair (grid0.coords t))
    rw [h]
    omega

theorem emb8 (t : Fin (cfgM m (ok m)).N) (j : Fin 2) (r : Fin 512) :
    ((((cfgM m (ok m)).win 8).blk t).view.emb (ix4 0 0 j r) : S8x32x2x512.Idx)
      = ix4 (pair (grid0.coords t)) (queryBlock (grid0.coords t)) j r :=
  idx_ext _ _ fun (a : Fin 4) => match a with
  | 0 => by
    show cc0_transform_8 (grid0.coords t) 0 * 1 + 1 * 0 = (pair (grid0.coords t)).val
    have h : cc0_transform_8 (grid0.coords t) 0 = (pair (grid0.coords t)).val := word8 (pair (grid0.coords t))
    rw [h]
    omega
  | 1 => by
    show cc0_transform_8 (grid0.coords t) 1 * 1 + 1 * 0 = (queryBlock (grid0.coords t)).val
    have h : cc0_transform_8 (grid0.coords t) 1 = (queryBlock (grid0.coords t)).val := word32 (queryBlock (grid0.coords t))
    rw [h]
    omega
  | 2 => by
    show cc0_transform_8 (grid0.coords t) 2 * 2 + 1 * j.val = j.val
    have h : cc0_transform_8 (grid0.coords t) 2 = 0 := rfl
    rw [h]
    omega
  | 3 => by
    show cc0_transform_8 (grid0.coords t) 3 * 512 + 1 * r.val = r.val
    have h : cc0_transform_8 (grid0.coords t) 3 = 0 := rfl
    rw [h]
    omega

end Cert.Kernel2Ideal.Dq
-- ==== Proof.QArrays.lean ====
module

public import proofs.«01_k».proof.Proof.QPoint
public import proofs.«01_k».proof.Proof.QPlaces
public import proofs.«01_k».proof.Proof.Arrays
public import Idealize.ShloMosaic.Lib.Pipeline.Covers

/-!
# The result arrays of the query's kernel

Every entry of the two arrays as one sum over the keys, over the contents of the call's argument arrays.
-/

@[expose] public section

set_option maxRecDepth 16384

noncomputable section

namespace Cert.Kernel2Ideal.Dq

open Idealize.ShloMosaic Idealize.ShloMosaic.TcCoe Cert.Kernel2Ideal.Gen Idealize.ShloMosaic.Tactic
open Cert.KernelIdeal.Dkv (row col qCol kCol vCol idx_ext laneOf headDot eighth gateLane qRow qTile qLane pairOf lanOf headOf
  pairOf_col lanOf_col headOf_col split_lane)

section

variable (A0 : S16384x3072.Idx → EReal) (A2 : S16384x1024.Idx → EReal) (Ct : S8x32x2x512.Idx → EReal)
  (Ls : S8x16384x2.Idx → EReal) (Ds : S16384x128.Idx → EReal) (p : Fin 8) (j : Fin 2) (q : Fin 16384)

/-- The attention weight of key `k` for query `q`, head `j` of pair `p`, from the prepared arrays. -/
def arrW (k : ℕ) : EReal :=
  Ideal.exp (headDot j (fun l => A0 (ix2 q (qCol p l)) * eighth) (fun l => A0 (ix2 (qRow k) (kCol p l)))
    - Ct (ix4 p (qTile k) j (qLane k)) - Ls (ix3 p q j))

/-- The gradient of the logit. -/
def arrG (k : ℕ) : EReal :=
  arrW A0 Ct Ls p j q k
    * (headDot j (fun l => A2 (ix2 q (col p l))) (fun l => A0 (ix2 (qRow k) (vCol p l))) - Ds (ix2 q (gateLane p j)))

/-- The queries' gradient. -/
def sumQ (l : Fin 128) : EReal :=
  (∑ k : Fin 16384, if k.val ≤ q.val then arrG A0 A2 Ct Ls Ds p j q k.val * A0 (ix2 (qRow k.val) (kCol p l)) else 0)
    * Scalar.ofBits (F := Ideal) .f32 0x3E000000#32

/-- The gate's gradient by rows. -/
def sumR : EReal := ∑ k : Fin 16384, if k.val ≤ q.val then arrG A0 A2 Ct Ls Ds p j q k.val else 0

theorem sumQ_of (l : Fin 128) (f : Fin 16384 → EReal)
    (h : ∀ k, f k = if k.val ≤ q.val then arrG A0 A2 Ct Ls Ds p j q k.val * A0 (ix2 (qRow k.val) (kCol p l)) else 0) :
    (∑ k, f k) * Scalar.ofBits (F := Ideal) .f32 0x3E000000#32 = sumQ A0 A2 Ct Ls Ds p j q l := by
  rw [funext h]
  rfl

theorem sumR_of (f : Fin 16384 → EReal) (h : ∀ k, f k = if k.val ≤ q.val then arrG A0 A2 Ct Ls Ds p j q k.val else 0) :
    (∑ k, f k) = sumR A0 A2 Ct Ls Ds p j q := by
  rw [funext h]
  rfl

end

variable (m : (ℓ : Loc nD τ sig) → Buf (Elt Ideal) ℓ)

/-- What the arrays hold, by index. -/
def dqArr (c : Dev nD) (y : S16384x1024.Idx) : EReal :=
  sumQ (V m c main_arg0) (V m c main_arg2) (V m c main_v46) (V m c main_v48) (V m c main_v50) (pairOf (y 1)) (headOf (y 1))
    (y 0) (lanOf (y 1))

def drArr (c : Dev nD) (y : S8x32x2x512.Idx) : EReal :=
  sumR (V m c main_arg0) (V m c main_arg2) (V m c main_v46) (V m c main_v48) (V m c main_v50) (y 0) (y 2) (row (y 1) (y 3))

theorem point_W (c : Dev nD) (t : Fin (cfgM m (ok m)).N) (j : Fin 2) (r : Fin 512) (k : ℕ) :
    pointW (iblk m (ok m) c 0 t) (iblk m (ok m) c 2 t) (iblk m (ok m) c 4 t) (iblk m (ok m) c 5 t) j r k
    = arrW (V m c main_arg0) (V m c main_v46) (V m c main_v48) (pair (grid0.coords t)) j (row (queryBlock (grid0.coords t)) r) k := by
  unfold pointW arrW
  refine congrArg Ideal.exp ?_
  rw [block4, block5]
  refine congrArg (· - _) (congrArg (· - _) ?_)
  exact congrArg₂ (headDot j) (funext fun l => congrArg (· * eighth) (block0 m c t r l)) (funext fun l => block2 m c t (qRow k) l)

theorem point_G (c : Dev nD) (t : Fin (cfgM m (ok m)).N) (j : Fin 2) (r : Fin 512) (k : ℕ) :
    pointG (grid0.coords t 0) (iblk m (ok m) c 0 t) (iblk m (ok m) c 1 t) (iblk m (ok m) c 2 t) (iblk m (ok m) c 3 t)
      (iblk m (ok m) c 4 t) (iblk m (ok m) c 5 t) (iblk m (ok m) c 6 t) j r k
    = arrG (V m c main_arg0) (V m c main_arg2) (V m c main_v46) (V m c main_v48) (V m c main_v50) (pair (grid0.coords t)) j (row (queryBlock (grid0.coords t)) r) k := by
  unfold pointG arrG
  refine congrArg₂ (· * ·) (point_W m c t j r k) ?_
  rw [block6]
  refine congrArg (· - _) ?_
  exact congrArg₂ (headDot j) (funext fun l => block1 m c t r l) (funext fun l => block3 m c t (qRow k) l)

theorem after_dq (c : Dev nD) (t : Fin (cfgM m (ok m)).N) (j : Fin 2) (r : Fin 512) (d : Fin 64) :
    ((outsAt0 m (ok m) (hyps m) c t).1 (ix2 r (laneOf j d)) : EReal) = sumQ (V m c main_arg0) (V m c main_arg2) (V m c main_v46) (V m c main_v48) (V m c main_v50) (pair (grid0.coords t)) j (row (queryBlock (grid0.coords t)) r) (laneOf j d) := by
  unfold outsAt0
  dsimp only
  refine (point_dq (hW := table_word m (grid0.coords t)) ..).trans ?_
  refine sumQ_of _ _ _ _ _ _ _ _ _ _ fun k => ?_
  rw [point_G, block2]
  rfl

theorem after_dr (c : Dev nD) (t : Fin (cfgM m (ok m)).N) (j : Fin 2) (r : Fin 512) :
    ((outsAt0 m (ok m) (hyps m) c t).2 (ix4 0 0 j r) : EReal) = sumR (V m c main_arg0) (V m c main_arg2) (V m c main_v46) (V m c main_v48) (V m c main_v50) (pair (grid0.coords t)) j (row (queryBlock (grid0.coords t)) r) := by
  unfold outsAt0
  dsimp only
  refine (point_r (hW := table_word m (grid0.coords t)) ..).trans ?_
  refine sumR_of _ _ _ _ _ _ _ _ _ fun k => ?_
  rw [point_G]
  rfl

/-- The grid point of a pair and a query block, and its coordinates. -/
def place (p : Fin 8) (b : Fin 32) : grid0.Coords := fun (a : Fin 2) => match a with
  | 0 => p
  | 1 => b

theorem pair_place (p : Fin 8) (b : Fin 32) : pair (place p b) = p := rfl

theorem query_place (p : Fin 8) (b : Fin 32) : queryBlock (place p b) = b := rfl

theorem exists_point (p : Fin 8) (b : Fin 32) : ∃ t : Fin grid0.N, pair (grid0.coords t) = p ∧ queryBlock (grid0.coords t) = b :=
  (Pipeline.Grid.coords_surjective grid0 (place p b)).imp fun _ ht =>
    ⟨(congrArg pair ht).trans (pair_place p b), (congrArg queryBlock ht).trans (query_place p b)⟩

theorem split_block (y : S512x128.Idx) : ∃ (r : Fin 512) (j : Fin 2) (d : Fin 64), y = ix2 r (laneOf j d) := by
  obtain ⟨j, d, h⟩ := split_lane (y 1)
  exact ⟨y 0, j, d, idx_ext _ _ fun (a : Fin 2) => match a with
    | 0 => rfl
    | 1 => congrArg Fin.val h⟩

theorem split_tile (y : S1x1x2x512.Idx) : ∃ (j : Fin 2) (r : Fin 512), y = ix4 0 0 j r :=
  ⟨y 2, y 3, idx_ext _ _ fun (a : Fin 4) => match a with
    | 0 => Nat.lt_one_iff.1 (y 0).isLt
    | 1 => Nat.lt_one_iff.1 (y 1).isLt
    | 2 => rfl
    | 3 => rfl⟩

theorem split_array (y : S16384x1024.Idx) : ∃ (p : Fin 8) (b : Fin 32) (r : Fin 512) (l : Fin 128), ix2 (row b r) (col p l) = y := by
  have h0 : (y 0).val < 16384 := (y 0).isLt
  have h1 : (y 1).val < 1024 := (y 1).isLt
  exact ⟨⟨(y 1).val / 128, by omega⟩, ⟨(y 0).val / 512, by omega⟩, ⟨(y 0).val % 512, by omega⟩, ⟨(y 1).val % 128, by omega⟩,
    idx_ext _ _ fun (a : Fin 2) => match a with
      | 0 => by show 512 * ((y 0).val / 512) + (y 0).val % 512 = (y 0).val; omega
      | 1 => by show 128 * ((y 1).val / 128) + (y 1).val % 128 = (y 1).val; omega⟩

theorem split_stats (y : S8x32x2x512.Idx) : ∃ (p : Fin 8) (b : Fin 32) (j : Fin 2) (r : Fin 512), ix4 p b j r = y :=
  ⟨y 0, y 1, y 2, y 3, idx_ext _ _ fun (a : Fin 4) => match a with
    | 0 => rfl
    | 1 => rfl
    | 2 => rfl
    | 3 => rfl⟩

theorem final_dq (c : Dev nD) : (dats m (ok m) (hyps m) 0 c).arrAt 7 (cfgM m (ok m)).N = dqArr m c := by
  refine (dats m (ok m) (hyps m) 0 c).arrAt_eq_of_emb 7 _ (fun t hf y => ?_) (fun y => ?_)
  · blk_simp
    rw [after0_7]
    obtain ⟨r, j, d, rfl⟩ := split_block y
    refine (after_dq m c t j r d).trans ?_
    refine Eq.trans ?_ (congrArg (dqArr m c) (emb7 m t r (laneOf j d))).symm
    show _ = sumQ (V m c main_arg0) (V m c main_arg2) (V m c main_v46) (V m c main_v48) (V m c main_v50) (pairOf (col _ _)) (headOf (col _ _)) (row _ _) (lanOf (col _ _))
    rw [pairOf_col, headOf_col, lanOf_col]
  · obtain ⟨p, b, r, l, rfl⟩ := split_array y
    obtain ⟨t, rfl, rfl⟩ := exists_point p b
    refine ⟨t, flush0_7 _ _, ?_⟩
    rw [← emb7 m t r l]
    exact View.emb_mem_set _ _

theorem final_dr (c : Dev nD) : (dats m (ok m) (hyps m) 0 c).arrAt 8 (cfgM m (ok m)).N = drArr m c := by
  refine (dats m (ok m) (hyps m) 0 c).arrAt_eq_of_emb 8 _ (fun t hf y => ?_) (fun y => ?_)
  · blk_simp
    rw [after0_8]
    obtain ⟨j, r, rfl⟩ := split_tile y
    refine (after_dr m c t j r).trans ?_
    exact (congrArg (drArr m c) (emb8 m t j r)).symm
  · obtain ⟨p, b, j, r, rfl⟩ := split_stats y
    obtain ⟨t, rfl, rfl⟩ := exists_point p b
    refine ⟨t, flush0_8 _ _, ?_⟩
    rw [← emb8 m t j r]
    exact View.emb_mem_set _ _

end Cert.Kernel2Ideal.Dq
-- ==== Proof.QPrefix.lean ====
module

public import proofs.«01_k».proof.Proof.QTables
public import proofs.«01_k».proof.Proof.Gen.Prepared2Ideal.Read

/-!
# The arrays the query's kernel is given

When the call starts, the arrays it reads besides the program's arguments hold what the preparation computes.
-/

@[expose] public section

set_option maxRecDepth 16384

noncomputable section

namespace Cert.Kernel2Ideal.Dq

open Idealize.ShloMosaic Idealize.ShloMosaic.TcCoe Cert.Kernel2Ideal.Gen

variable {F : FTy → Type} [FloatOps F]
variable (m : (ℓ : Loc nD τ sig) → Buf (Elt F) ℓ)

/-- The gate, in tiles. -/
theorem V_gate (c : Dev nD) :
    V m c main_v46 = Cert.Prepared2Ideal.Read.val_main_v46 (F := F)
      (m ((c : Thread nD τ).loc main_arg1)) := by
  unfold_abbrev_sides
  after_reads_simp
  rfl

/-- The rows' log-sums. -/
theorem V_lse (c : Dev nD) :
    V m c main_v48 = Cert.Prepared2Ideal.Read.val_main_v48 (F := F)
      (m ((c : Thread nD τ).loc main_arg0)) (m ((c : Thread nD τ).loc main_arg1)) := by
  unfold_abbrev_sides
  after_reads_simp
  rfl

/-- The rows' means beside zeros. -/
theorem V_delta (c : Dev nD) :
    V m c main_v50 = Cert.Prepared2Ideal.Read.val_main_v50 (F := F)
      (m ((c : Thread nD τ).loc main_arg0)) (m ((c : Thread nD τ).loc main_arg1)) (m ((c : Thread nD τ).loc main_arg2)) := by
  unfold_abbrev_sides
  after_reads_simp
  rfl

end Cert.Kernel2Ideal.Dq
-- ==== Proof.QPrepared.lean ====
module

public import proofs.«01_k».proof.Proof.Gen.Prepared2Ideal.Read
public import proofs.«01_k».proof.Proof.PreparedValue

/-!
# The arrays the query's kernel is given

The rows' log-sums and means are computed as for the other kernel, so they are its arrays; here they are laid out by rows, and
the gate in tiles of 512 keys for each pair of heads.
-/

@[expose] public section

set_option maxRecDepth 16384

noncomputable section

namespace Cert.Prepared2Ideal.Read

open Cert.Prepared2Ideal Cert.Prepared2Ideal.Gen Idealize.ShloMosaic Idealize.ShloMosaic.TcCoe Cert.Model Cert.Softmax

variable (A : Fin 16384 → Fin 3072 → ℝ) (C : Fin 16384 → Fin 16 → ℝ) (O : Fin 16384 → Fin 1024 → ℝ)

/-- The two statistics of the rows, before they are laid out. -/
theorem same_lse :
    val_main_v38 (F := Ideal) (arr A) (arr C) = Cert.PreparedIdeal.Read.val_main_v38 (F := Ideal) (arr A) (arr C) := rfl

theorem same_delta :
    val_main_v43 (F := Ideal) (arr A) (arr C) (arr O)
      = Cert.PreparedIdeal.Read.val_main_v43 (F := Ideal) (arr A) (arr C) (arr O) := rfl

/-- The gate in tiles: tile `n`, lane `r` of head `j` of pair `p` is key `512 n + r` of head `2 p + j`. -/
theorem tiled_gate (p : Fin 8) (n : Fin 32) (j : Fin 2) (r : Fin 512) (h : Fin 16) (k : Fin 16384) (hh : h.val = 2 * p.val + j.val)
    (hk : k.val = 512 * n.val + r.val) :
    val_main_v46 (F := Ideal) (arr C) (ix4 p n j r) = ((C k h : ℝ) : EReal) := by
  rw [val_main_v46_apply, val_main_v45_apply, val_main_v44_apply]
  refine arr_congr C _ _ _ ?_ ?_
  · show (((p.val * 2 + j.val) * 32 + n.val) * 512 + r.val) % 16384 = k.val
    omega
  · show (((p.val * 2 + j.val) * 32 + n.val) * 512 + r.val) / 16384 = h.val
    omega

/-- The rows' log-sums: row `q`, head `j` of pair `p`. -/
theorem row_lse (p : Fin 8) (q : Fin 16384) (j : Fin 2) (h : Fin 16) (hh : h.val = 2 * p.val + j.val) :
    val_main_v48 (F := Ideal) (arr A) (arr C) (ix3 p q j) = ((lse A C h q : ℝ) : EReal) := by
  have hq : q.val < 16384 := q.isLt
  rw [val_main_v48_apply, val_main_v47_apply,
    show idx_main_v47 (idx_main_v48 (ix3 p q j)) = (ix2 h q : S16x16384.Idx) from
      idx_ext _ _ _ fun (a : Fin 2) => match a with
        | 0 => by show ((p.val * 2 + j.val) * 16384 + q.val) / 16384 = h.val; omega
        | 1 => by show ((p.val * 2 + j.val) * 16384 + q.val) % 16384 = q.val; omega,
    same_lse]
  exact Cert.PreparedIdeal.Read.lses A C (ix2 h q)

/-- The rows' means beside zeros, at a head's column. -/
theorem padded_delta (q : Fin 16384) (l : Fin 128) (h : Fin 16) (hh : l.val = h.val) :
    val_main_v50 (F := Ideal) (arr A) (arr C) (arr O) (ix2 q l) = ((delta A C O h q : ℝ) : EReal) := by
  have e : ∀ i : S16384x16.Idx, val_main_v49 (F := Ideal) (arr A) (arr C) (arr O) i = ((delta A C O (i 1) (i 0) : ℝ) : EReal) :=
    fun i => by
      rw [val_main_v49_apply, same_delta]
      exact Cert.PreparedIdeal.Read.deltas A C O _
  unfold val_main_v50
  pointwise
  rw [dif_pos (hh.trans_lt h.isLt), e]
  exact congrArg (fun x : Fin 16 => ((delta A C O x q : ℝ) : EReal)) (Fin.ext hh)

end Cert.Prepared2Ideal.Read
-- ==== Proof.QModel.lean ====
module

public import proofs.«01_k».proof.Proof.Model

/-!
# The gradients at the queries

The gradients of the queries and of the gate by rows, over the reals.
-/

@[expose] public section

noncomputable section

namespace Cert.Model

variable (A : Fin 16384 → Fin 3072 → ℝ) (C : Fin 16384 → Fin 16 → ℝ) (O : Fin 16384 → Fin 1024 → ℝ) (h : Fin 16)

/-- The gradient of a query, and of the gate at the query's row. -/
def gq (q : Fin 16384) (d : Fin 64) : ℝ := (∑ k, gs A C O h q k * A k (kc h d)) * (1 / 8)
def gr (q : Fin 16384) : ℝ := ∑ k, gs A C O h q k

/-- The queries' gradient with the scale inside the sum. -/
theorem gq_inside (q : Fin 16384) (d : Fin 64) : ∑ k : Fin 16384, gs A C O h q k * (1 / 8) * A k (kc h d) = gq A C O h q d := by
  unfold gq
  rw [Finset.sum_mul]
  exact Finset.sum_congr rfl fun k _ => by ring

end Cert.Model
-- ==== Proof.QReference.lean ====
module

public import proofs.«01_k».proof.Proof.Gen.Reference2Ideal.Read
public import proofs.«01_k».proof.Proof.ReferenceValue
public import proofs.«01_k».proof.Proof.QModel

/-!
# What the query's reference computes

The same attention, differentiated at the queries and at the gate's rows, on real arrays. It computes the gradient of the
logits as the other reference does.
-/

@[expose] public section

set_option maxRecDepth 16384

noncomputable section

namespace Cert.Reference2Ideal.Read

open Cert.Reference2Ideal Cert.Reference2Ideal.Gen Idealize.ShloMosaic Idealize.ShloMosaic.TcCoe Cert.Model Cert.Softmax

variable (A : Fin 16384 → Fin 3072 → ℝ) (C : Fin 16384 → Fin 16 → ℝ) (O : Fin 16384 → Fin 1024 → ℝ)

/-- The keys, by head, and the gradients of the logits: the other reference's arrays. -/
theorem same_keys : val_main_v8 (F := Ideal) (arr A) = Cert.ReferenceIdeal.Read.val_main_v8 (F := Ideal) (arr A) := rfl

theorem same_gs :
    val_main_v84 (F := Ideal) (arr A) (arr C) (arr O)
      = Cert.ReferenceIdeal.Read.val_main_v89 (F := Ideal) (arr A) (arr C) (arr O) := rfl

theorem gss (i : S16x16384x16384.Idx) :
    val_main_v84 (F := Ideal) (arr A) (arr C) (arr O) i = ((gs A C O (i 0) (i 1) (i 2) : ℝ) : EReal) := by
  rw [same_gs]
  exact Cert.ReferenceIdeal.Read.gss A C O i

/-- The queries' gradients, by head. -/
theorem gqs (i : S16x16384x64.Idx) :
    val_main_v93 (F := Ideal) (arr A) (arr C) (arr O) i = ((gq A C O (i 0) (i 1) (i 2) : ℝ) : EReal) := by
  rw [val_main_v93_apply]
  refine Eq.trans ?_ (congrArg (fun x : ℝ => (x : EReal)) (gq_inside A C O (i 0) (i 1) (i 2)))
  refine Eq.trans (Finset.sum_congr rfl fun k _ => ?_)
    (coe_sum Finset.univ fun k : Fin 16384 => gs A C O (i 0) (i 1) k * (1 / 8) * A k (kc (i 0) (i 2)))
  have e2 : ∀ x : S16x16384x16384.Idx, val_main_v92 (F := Ideal) (arr A) (arr C) (arr O) x
      = ((gs A C O (x 0) (x 1) (x 2) * (1 / 8) : ℝ) : EReal) := fun x => by
    show val_main_v90 (F := Ideal) (arr A) (arr C) (arr O) x = _
    rw [val_main_v90_apply, gss, val_main_v89_apply]
    show _ * Ideal.ofBits .f32 0x3E000000#32 = _
    rw [eighth_f32, ← EReal.coe_mul]
  have e1 : ∀ x : S16x16384x64.Idx, val_main_v8 (F := Ideal) (arr A) x = ((A (x 1) (kc (x 0) (x 2)) : ℝ) : EReal) := fun x => by
    rw [same_keys]
    exact Cert.ReferenceIdeal.Read.keys A x
  rw [e2, e1, ← EReal.coe_mul]
  rfl

/-- The gate's gradients by rows, by head. -/
theorem grs (i : S16384x16.Idx) :
    val_main_v88 (F := Ideal) (arr A) (arr C) (arr O) i = ((gr A C O (i 1) (i 0) : ℝ) : EReal) := by
  have h0 : (i 0).val < 16384 := (i 0).isLt
  have h1 : (i 1).val < 16 := (i 1).isLt
  have e : ∀ j : S16x16384.Idx, val_main_v85 (F := Ideal) (arr A) (arr C) (arr O) j = ((gr A C O (j 0) (j 1) : ℝ) : EReal) := fun j => by
    rw [val_main_v85_apply]
    show Ideal.ofBits .f32 0x00000000#32 + _ = _
    rw [Ideal.ofBits_zero_f32, zero_add]
    refine Eq.trans (Finset.sum_congr rfl fun k _ => ?_) (coe_sum Finset.univ fun k : Fin 16384 => gs A C O (j 0) (j 1) k)
    rw [gss]
    rfl
  rw [val_main_v88_apply, val_main_v87_apply]
  show Ideal.ofBits .f32 0x00000000#32 + _ = _
  rw [Ideal.ofBits_zero_f32, zero_add, Fin.sum_univ_one, val_main_v86_apply,
    show idx_main_v86 (idx_main_v87 (idx_main_v88 i) 0) = (ix2 (i 1) (i 0) : S16x16384.Idx) from
      idx_ext _ _ _ fun (a : Fin 2) => match a with
        | 0 => by show ((((i 1).val * 16384 + (i 0).val) * 1 + 0) / 16384 : ℕ) = (i 1).val; omega
        | 1 => by show ((((i 1).val * 16384 + (i 0).val) * 1 + 0) % 16384 : ℕ) = (i 0).val; omega,
    e]
  rfl

/-- The reference's two results, by row and head. -/
theorem result_q (q : Fin 16384) (h : Fin 16) (d : Fin 64) :
    val_main_v96 (F := Ideal) (arr A) (arr C) (arr O) (ix2 q (oc h d)) = ((gq A C O h q d : ℝ) : EReal) := by
  rw [val_main_v96_apply, val_main_v95_apply]
  refine (gqs A C O _).trans ?_
  rw [show idx_main_v95 (idx_main_v96 (ix2 q (oc h d))) = (ix3 h q d : S16x16384x64.Idx) from
    idx_ext _ _ _ fun (a : Fin 3) => match a with
      | 0 => by show (q.val * 1024 + (64 * h.val + d.val)) / 64 % 16 = h.val; omega
      | 1 => by show (q.val * 1024 + (64 * h.val + d.val)) / 1024 = q.val; omega
      | 2 => by show (q.val * 1024 + (64 * h.val + d.val)) % 64 = d.val; omega]
  rfl

theorem result_r (p : Fin 8) (b : Fin 32) (j : Fin 2) (r : Fin 512) (h : Fin 16) (q : Fin 16384) (hh : h.val = 2 * p.val + j.val)
    (hq : q.val = 512 * b.val + r.val) :
    val_main_v98 (F := Ideal) (arr A) (arr C) (arr O) (ix4 p b j r) = ((gr A C O h q : ℝ) : EReal) := by
  rw [val_main_v98_apply, val_main_v97_apply,
    show idx_main_v97 (idx_main_v98 (ix4 p b j r)) = (ix2 q h : S16384x16.Idx) from
      idx_ext _ _ _ fun (a : Fin 2) => match a with
        | 0 => by show (((b.val * 512 + r.val) * 8 + p.val) * 2 + j.val) / 16 = q.val; omega
        | 1 => by show (((b.val * 512 + r.val) * 8 + p.val) * 2 + j.val) % 16 = h.val; omega,
    grs]
  rfl

end Cert.Reference2Ideal.Read
-- ==== Proof.QValues.lean ====
module

public import proofs.«01_k».proof.Proof.QArrays
public import proofs.«01_k».proof.Proof.QPrefix
public import proofs.«01_k».proof.Proof.QPrepared
public import proofs.«01_k».proof.Proof.QReference
public import proofs.«01_k».proof.Proof.Values

/-!
# The sums of the query's kernel are the gradients

On real arguments its two sums over the keys are the gradients of the queries and of the gate by rows.
-/

@[expose] public section

set_option maxRecDepth 16384

noncomputable section

namespace Cert.Kernel2Ideal.Dq

open Idealize.ShloMosaic Idealize.ShloMosaic.TcCoe Cert.Kernel2Ideal.Gen Cert.Model Cert.Softmax
open Cert.KernelIdeal.Dkv (row col qCol kCol vCol laneOf headDot eighth gateLane qRow qTile qLane pairOf lanOf headOf
  pairOf_col lanOf_col headOf_col hd col_head qCol_head kCol_head vCol_head qRow_self split_heads)

variable (A : Fin 16384 → Fin 3072 → ℝ) (C : Fin 16384 → Fin 16 → ℝ) (O : Fin 16384 → Fin 1024 → ℝ)

/-- The scores the kernel computes, with the scale on the queries. -/
theorem score (p : Fin 8) (j : Fin 2) (q k : Fin 16384) :
    headDot j (fun l => arr A (ix2 q (qCol p l)) * eighth) (fun l => arr A (ix2 (qRow k.val) (kCol p l)))
      = ((qk A (hd p j) q k * (1 / 8) : ℝ) : EReal) := by
  unfold headDot eighth
  rw [eighth_bf16, qRow_self]
  unfold qk
  rw [Finset.sum_mul]
  refine Eq.trans (Finset.sum_congr rfl fun d _ => ?_)
    (coe_sum Finset.univ fun d : Fin 64 => A q (qc (hd p j) d) * A k (kc (hd p j) d) * (1 / 8))
  dsimp only
  rw [kCol_head, qCol_head]
  refine Eq.trans (b := ((A q (qc (hd p j) d) * (1 / 8) * A k (kc (hd p j) d) : ℝ) : EReal)) ?_ ?_
  · rw [EReal.coe_mul, EReal.coe_mul]
    rfl
  · exact congrArg (fun x : ℝ => (x : EReal)) (by ring)

/-- The dots of the output's gradient with the values. -/
theorem gradient_dot (p : Fin 8) (j : Fin 2) (q k : Fin 16384) :
    headDot j (fun l => arr O (ix2 q (col p l))) (fun l => arr A (ix2 (qRow k.val) (vCol p l)))
      = ((gw A O (hd p j) q k : ℝ) : EReal) := by
  unfold headDot
  rw [qRow_self]
  unfold gw
  refine Eq.trans (Finset.sum_congr rfl fun d _ => ?_)
    (coe_sum Finset.univ fun d : Fin 64 => O q (oc (hd p j) d) * A k (vc (hd p j) d))
  dsimp only
  rw [vCol_head, col_head, EReal.coe_mul]
  rfl

section

variable (Ct : S8x32x2x512.Idx → EReal) (Ls : S8x16384x2.Idx → EReal) (Ds : S16384x128.Idx → EReal) (p : Fin 8) (j : Fin 2)
  (q : Fin 16384)
  (hC : ∀ k : Fin 16384, Ct (ix4 p (qTile k.val) j (qLane k.val)) = ((C k (hd p j) : ℝ) : EReal))
  (hL : Ls (ix3 p q j) = ((lse A C (hd p j) q : ℝ) : EReal))
  (hD : Ds (ix2 q (gateLane p j)) = ((delta A C O (hd p j) q : ℝ) : EReal))

include hC hL

/-- The weights. -/
theorem arrW_real (k : Fin 16384) (hk : k.val ≤ q.val) :
    arrW (arr A) Ct Ls p j q k.val = ((wt A C (hd p j) q k : ℝ) : EReal) := by
  unfold arrW
  rw [score, hC, hL, ← EReal.coe_sub, ← EReal.coe_sub, ← wt_exp A C (hd p j) q k hk]
  rfl

include hD

/-- The gradients of the logits. -/
theorem arrG_real (k : Fin 16384) (hk : k.val ≤ q.val) :
    arrG (arr A) (arr O) Ct Ls Ds p j q k.val = ((gs A C O (hd p j) q k : ℝ) : EReal) := by
  unfold arrG gs
  rw [arrW_real A C Ct Ls p j q hC hL k hk, gradient_dot, hD, ← EReal.coe_sub, ← EReal.coe_mul]

/-- The queries' gradient. -/
theorem sumQ_real (d : Fin 64) :
    sumQ (arr A) (arr O) Ct Ls Ds p j q (laneOf j d) = ((gq A C O (hd p j) q d : ℝ) : EReal) := by
  have e : Scalar.ofBits (F := Ideal) .f32 0x3E000000#32 = ((1 / 8 : ℝ) : EReal) := eighth_f32
  unfold sumQ gq
  rw [EReal.coe_mul, e]
  refine congrArg (fun x : EReal => x * ((1 / 8 : ℝ) : EReal)) ?_
  refine Eq.trans (Finset.sum_congr rfl fun k _ => ?_)
    (coe_sum Finset.univ fun k : Fin 16384 => gs A C O (hd p j) q k * A k (kc (hd p j) d))
  split
  · rename_i hk
    rw [arrG_real A C O Ct Ls Ds p j q hC hL hD k hk, qRow_self, kCol_head, EReal.coe_mul]
    rfl
  · rename_i hk
    rw [gs_masked A C O (hd p j) q k hk, zero_mul]
    rfl

/-- The gate's gradient by rows. -/
theorem sumR_real : sumR (arr A) (arr O) Ct Ls Ds p j q = ((gr A C O (hd p j) q : ℝ) : EReal) := by
  unfold sumR gr
  refine Eq.trans (Finset.sum_congr rfl fun k _ => ?_) (coe_sum Finset.univ fun k : Fin 16384 => gs A C O (hd p j) q k)
  split
  · rename_i hk
    exact arrG_real A C O Ct Ls Ds p j q hC hL hD k hk
  · rename_i hk
    rw [gs_masked A C O (hd p j) q k hk]
    rfl

end

/-! The prepared arrays at the entries the sums read. -/

section

open Cert.Prepared2Ideal.Read

theorem prepared_gate (p : Fin 8) (j : Fin 2) (k : Fin 16384) :
    val_main_v46 (F := Ideal) (arr C) (ix4 p (qTile k.val) j (qLane k.val)) = ((C k (hd p j) : ℝ) : EReal) :=
  tiled_gate C p (qTile k.val) j (qLane k.val) (hd p j) k rfl (by
    show k.val = 512 * (k.val / 512 % 32) + k.val % 512
    omega)

theorem prepared_lse (p : Fin 8) (j : Fin 2) (q : Fin 16384) :
    val_main_v48 (F := Ideal) (arr A) (arr C) (ix3 p q j) = ((lse A C (hd p j) q : ℝ) : EReal) :=
  row_lse A C p q j (hd p j) rfl

theorem prepared_delta (p : Fin 8) (j : Fin 2) (q : Fin 16384) :
    val_main_v50 (F := Ideal) (arr A) (arr C) (arr O) (ix2 q (gateLane p j)) = ((delta A C O (hd p j) q : ℝ) : EReal) :=
  padded_delta A C O q (gateLane p j) (hd p j) rfl

end

variable (m : (ℓ : Loc nD τ sig) → Buf (Elt Ideal) ℓ) (c : Dev nD)
  (h0 : m ((c : Thread nD τ).loc main_arg0) = arr A) (h1 : m ((c : Thread nD τ).loc main_arg1) = arr C)
  (h2 : m ((c : Thread nD τ).loc main_arg2) = arr O)

include h0 h1 h2

/-- The queries' gradient: the array the call returns is the reference's. -/
theorem dq_eq : dqArr m c = Cert.Reference2Ideal.Read.val_main_v96 (F := Ideal) (arr A) (arr C) (arr O) := by
  funext y
  obtain ⟨q, p, j, d, rfl⟩ := split_heads y
  unfold dqArr
  show sumQ _ _ _ _ _ (pairOf (col p (laneOf j d))) (headOf (col p (laneOf j d))) q (lanOf (col p (laneOf j d))) = _
  rw [pairOf_col, headOf_col, lanOf_col, V_gate, V_lse, V_delta, Gen.V_main_arg0, Gen.V_main_arg2, h0, h1, h2, col_head,
    Cert.Reference2Ideal.Read.result_q]
  exact sumQ_real A C O _ _ _ p j q (prepared_gate C p j) (prepared_lse A C p j q) (prepared_delta A C O p j q) d

/-- The gate's gradient by rows. -/
theorem dr_eq : drArr m c = Cert.Reference2Ideal.Read.val_main_v98 (F := Ideal) (arr A) (arr C) (arr O) := by
  funext y
  obtain ⟨p, b, j, r, rfl⟩ := split_stats y
  unfold drArr
  show sumR _ _ _ _ _ p j (row b r) = _
  rw [V_gate, V_lse, V_delta, Gen.V_main_arg0, Gen.V_main_arg2, h0, h1, h2,
    Cert.Reference2Ideal.Read.result_r A C O p b j r (hd p j) (row b r) rfl rfl]
  exact sumR_real A C O _ _ _ p j (row b r) (prepared_gate C p j) (prepared_lse A C p j _) (prepared_delta A C O p j _)

end Cert.Kernel2Ideal.Dq
-- ==== Proof.FTables.lean ====
/- The prefetched table of the forward kernel: every word of it is 0, the first key tile, so the loop over key tiles
   runs from the start to the query tile's own predecessor; and the side conditions that the body assumes of the words
   hold. At any float instance. -/
module

public import proofs.«01_k».proof.Proof.Gen.Kernel3Ideal.Frame.Runs
public import Idealize.ShloMosaic.Lib.Pipeline.ValueKit
public import Idealize.ShloMosaic.Lib.StableHlo.RunRead

@[expose] public section

set_option maxRecDepth 16384

noncomputable section

namespace Cert.Kernel3Ideal.Fwd

open Idealize.ShloMosaic Idealize.ShloMosaic.TcCoe Cert.Kernel3Ideal.Gen

variable {F : FTy → Type} [FloatOps F]
variable (m : (ℓ : Loc nD τ sig) → Buf (Elt F) ℓ)

/-- Every word of the table is 0. -/
theorem V_table (c : Dev nD) : V m c main_v3 = (fun _ => 0#32) := by
  unfold_abbrev_sides
  after_reads_simp
  rfl

/-- No window's index map reads the table. -/
theorem ok : Ok m := by
  unfold Ok ok0; trivial

/-- The word the body reads, at any point: 0. -/
theorem table_word (i : grid0.Coords) :
    tbM0_0.view.readAt (Elt F) (Rect.unit (s := S8x32) (k0_off1 i) S1x1.size (k0_off1_inb i)).toLoadRect (tbl m 0)
      (Shape.Idx.first (numel1_S1x1.symm ▸ Nat.one_pos)) = 0#32 := by
  have h : tbl m 0 = (fun _ => 0#32) := V_table m 0
  rw [h]; rfl

theorem hyps : Hyps m (ok m) := Hyps.of fun c t => by
  unfold Hyps.p0
  rw [table_word]
  exact (by decide +kernel : ∀ t : Fin grid0.N, k0_chk1 (grid0.coords t) 0#32) t

end Cert.Kernel3Ideal.Fwd
-- ==== Proof.FTrip.lean ====
module

public import proofs.«01_k».proof.Proof.FTables
public import proofs.«01_k».proof.Proof.Gen.Kernel3Ideal.Frame
public import Idealize.ShloMosaic.Lib.Pipeline.ValueKit
public import Idealize.ShloMosaic.Lib.Pipeline.ReadBack

/-!
# One trip of the forward kernel's loop over the key tiles

What the loop's trip stores into the weighted sums, the maxima and the sums, as the vectors the kernel computes of the trip's loads.
-/

@[expose] public section

set_option maxRecDepth 16384

noncomputable section

namespace Cert.Kernel3Ideal.Fwd

open Idealize.ShloMosaic Idealize.ShloMosaic.TcCoe Cert.Kernel3Ideal.Gen Idealize.ShloMosaic.Tactic

variable {F : FTy → Type} [FloatOps F]

/-- The tile of 512 rows that trip `k` loads of a column of rows. -/
abbrev kT (i : grid0.Coords) (v : Memref sig .tc .vmem S16384x128 .bf16) (v23 : Elt F .i32)
    (X : BufTy.Contents (Elt F) v.view.ty) (k : Fin (k0_t1_loop i v23).trips)
    (hq : ∀ a, k0_off2 i v23 k a + S512x128.size a ≤ S16384x128.size a) : Vec F S512x128 .bf16 :=
  v.view.readAt (Elt F) (Rect.unit (s := S16384x128) (k0_off2 i v23 k) S512x128.size hq).toLoadRect X

/-- The tile of the keys' gates that trip `k` loads. -/
abbrev cT (i : grid0.Coords) (v : Memref sig .tc .vmem S1x32x2x512 .f32) (v23 : Elt F .i32)
    (X : BufTy.Contents (Elt F) v.view.ty) (k : Fin (k0_t1_loop i v23).trips)
    (hl : ∀ a, k0_off3 i v23 k a + S1x1x2x512.size a ≤ S1x32x2x512.size a) : Vec F S1x1x2x512 .f32 :=
  v.view.readAt (Elt F) (Rect.unit (s := S1x32x2x512) (k0_off3 i v23 k) S1x1x2x512.size hl).toLoadRect X

variable (𝒱 : Variants) (c : Dev nD) (bd : Option 𝒱.V) (i : grid0.Coords) (arg2 : Memref sig .tc .smem S8x32 .i32) (harg2 : arg2.IsWhole)
  (arg3 : Memref sig .tc .vmem S512x128 .bf16) (harg3 : arg3.IsWhole)
  (arg4 : Memref sig .tc .vmem S16384x128 .bf16) (harg4 : arg4.IsWhole)
  (arg5 : Memref sig .tc .vmem S16384x128 .bf16) (harg5 : arg5.IsWhole)
  (arg6 : Memref sig .tc .vmem S1x32x2x512 .f32) (harg6 : arg6.IsWhole)
  (arg7 : Memref sig .tc .vmem S512x128 .f32) (harg7 : arg7.IsWhole)
  (arg8 : Memref sig .tc .vmem S1x512x2 .f32) (harg8 : arg8.IsWhole)
  (arg9 : Memref sig .tc .vmem S1x1x2x512 .f32) (harg9 : arg9.IsWhole)
  (arg10 : Memref sig .tc .vmem S512x128 .f32) (harg10 : arg10.IsWhole)
  (arg11 : Memref sig .tc .vmem S2x512x128 .f32) (harg11 : arg11.IsWhole)
  (arg12 : Memref sig .tc .vmem S2x512x128 .f32) (harg12 : arg12.IsWhole)
  (v0 : Vec F S512x128 .bf16) (v23 : Elt F .i32) (k0_hw1 : k0_chk1 i v23) (X_arg4 : BufTy.Contents (Elt F) arg4.view.ty)
  (X_arg5 : BufTy.Contents (Elt F) arg5.view.ty) (X_arg6 : BufTy.Contents (Elt F) arg6.view.ty)

set_option maxHeartbeats 4000000 in
/-- The stores of one trip. -/
theorem trip (k : Fin (k0_t1_loop i v23).trips) (f_arg10 : BufTy.Contents (Elt F) arg10.view.ty)
    (f_arg11 : BufTy.Contents (Elt F) arg11.view.ty) (f_arg12 : BufTy.Contents (Elt F) arg12.view.ty)
    (hq : ∀ a, k0_off2 i v23 k a + S512x128.size a ≤ S16384x128.size a)
    (hl : ∀ a, k0_off3 i v23 k a + S1x1x2x512.size a ≤ S1x32x2x512.size a) :
    tripL_k0_t1 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6 k f_arg10 f_arg11 f_arg12
    = ([⟨(Rect.unit (s := S512x128) ![0, 0] S512x128.size inb_S512x128_S512x128_0_0),
        k0_pay73 (kT i arg5 v23 X_arg5 k hq) (k0_pay15 (k0_pay66 v0) (kT i arg4 v23 X_arg4 k hq) (cT i arg6 v23 X_arg6 k hl) (arg11.view.readAt (Elt F) (Rect.unit (s := S2x512x128) ![0, 0, 0] S1x512x128.size
          inb_S2x512x128_S1x512x128_0_0_0).toLoadRect f_arg11))
          (k0_pay19 (kT i arg5 v23 X_arg5 k hq) (k0_pay11 (k0_pay66 v0) (kT i arg4 v23 X_arg4 k hq) (cT i arg6 v23 X_arg6 k hl) (arg11.view.readAt (Elt F) (Rect.unit (s := S2x512x128) ![0, 0, 0] S1x512x128.size
          inb_S2x512x128_S1x512x128_0_0_0).toLoadRect f_arg11)) (k0_pay12 (k0_pay66 v0) (kT i arg4 v23 X_arg4 k hq) (cT i arg6 v23 X_arg6 k hl) (arg11.view.readAt (Elt F) (Rect.unit (s := S2x512x128) ![0, 0, 0] S1x512x128.size
          inb_S2x512x128_S1x512x128_0_0_0).toLoadRect f_arg11))
            (k0_pay13 (k0_pay66 v0) (kT i arg4 v23 X_arg4 k hq) (cT i arg6 v23 X_arg6 k hl) (arg11.view.readAt (Elt F) (Rect.unit (s := S2x512x128) ![0, 0, 0] S1x512x128.size
          inb_S2x512x128_S1x512x128_0_0_0).toLoadRect f_arg11)) (k0_pay14 (k0_pay66 v0) (kT i arg4 v23 X_arg4 k hq) (cT i arg6 v23 X_arg6 k hl) (arg11.view.readAt (Elt F) (Rect.unit (s := S2x512x128) ![0, 0, 0] S1x512x128.size
          inb_S2x512x128_S1x512x128_0_0_0).toLoadRect f_arg11)))
          (k0_pay27 (k0_pay67 v0) (kT i arg4 v23 X_arg4 k hq) (k0_pay3 (cT i arg6 v23 X_arg6 k hl)) (arg11.view.readAt (Elt F) (Rect.unit (s := S2x512x128) ![1, 0, 0] S1x512x128.size
          inb_S2x512x128_S1x512x128_1_0_0).toLoadRect f_arg11)) (k0_pay28 (k0_pay67 v0) (kT i arg4 v23 X_arg4 k hq) (k0_pay3 (cT i arg6 v23 X_arg6 k hl)) (arg11.view.readAt (Elt F) (Rect.unit (s := S2x512x128) ![1, 0, 0] S1x512x128.size
          inb_S2x512x128_S1x512x128_1_0_0).toLoadRect f_arg11))
          (k0_pay29 (k0_pay67 v0) (kT i arg4 v23 X_arg4 k hq) (k0_pay3 (cT i arg6 v23 X_arg6 k hl)) (arg11.view.readAt (Elt F) (Rect.unit (s := S2x512x128) ![1, 0, 0] S1x512x128.size
          inb_S2x512x128_S1x512x128_1_0_0).toLoadRect f_arg11)) (k0_pay30 (k0_pay67 v0) (kT i arg4 v23 X_arg4 k hq) (k0_pay3 (cT i arg6 v23 X_arg6 k hl)) (arg11.view.readAt (Elt F) (Rect.unit (s := S2x512x128) ![1, 0, 0] S1x512x128.size
          inb_S2x512x128_S1x512x128_1_0_0).toLoadRect f_arg11))
          (k0_pay31 (k0_pay67 v0) (kT i arg4 v23 X_arg4 k hq) (k0_pay3 (cT i arg6 v23 X_arg6 k hl)) (arg11.view.readAt (Elt F) (Rect.unit (s := S2x512x128) ![1, 0, 0] S1x512x128.size
          inb_S2x512x128_S1x512x128_1_0_0).toLoadRect f_arg11)) (arg10.view.readAt (Elt F) (Rect.unit (s := S512x128) ![0, 0] S512x128.size
          inb_S512x128_S512x128_0_0).toLoadRect f_arg10)⟩],
      [⟨(Rect.unit (s := S2x512x128) ![1, 0, 0] S1x512x128.size inb_S2x512x128_S1x512x128_1_0_0),
        k0_pay72 (k0_pay26 (k0_pay67 v0) (kT i arg4 v23 X_arg4 k hq) (k0_pay3 (cT i arg6 v23 X_arg6 k hl)) (arg11.view.readAt (Elt F) (Rect.unit (s := S2x512x128) ![1, 0, 0] S1x512x128.size
          inb_S2x512x128_S1x512x128_1_0_0).toLoadRect f_arg11))⟩,
       ⟨(Rect.unit (s := S2x512x128) ![0, 0, 0] S1x512x128.size inb_S2x512x128_S1x512x128_0_0_0),
        k0_pay18 (k0_pay10 (k0_pay66 v0) (kT i arg4 v23 X_arg4 k hq) (cT i arg6 v23 X_arg6 k hl) (arg11.view.readAt (Elt F) (Rect.unit (s := S2x512x128) ![0, 0, 0] S1x512x128.size
          inb_S2x512x128_S1x512x128_0_0_0).toLoadRect f_arg11))⟩],
      [⟨(Rect.unit (s := S2x512x128) ![1, 0, 0] S1x512x128.size inb_S2x512x128_S1x512x128_1_0_0),
        k0_pay71 (k0_pay32 (k0_pay67 v0) (kT i arg4 v23 X_arg4 k hq) (k0_pay3 (cT i arg6 v23 X_arg6 k hl)) (arg11.view.readAt (Elt F) (Rect.unit (s := S2x512x128) ![1, 0, 0] S1x512x128.size
          inb_S2x512x128_S1x512x128_1_0_0).toLoadRect f_arg11) (arg12.view.readAt (Elt F) (Rect.unit (s := S2x512x128) ![1, 0, 0] S1x512x128.size
          inb_S2x512x128_S1x512x128_1_0_0).toLoadRect f_arg12))⟩,
       ⟨(Rect.unit (s := S2x512x128) ![0, 0, 0] S1x512x128.size inb_S2x512x128_S1x512x128_0_0_0),
        k0_pay17 (k0_pay16 (k0_pay66 v0) (kT i arg4 v23 X_arg4 k hq) (cT i arg6 v23 X_arg6 k hl) (arg11.view.readAt (Elt F) (Rect.unit (s := S2x512x128) ![0, 0, 0] S1x512x128.size
          inb_S2x512x128_S1x512x128_0_0_0).toLoadRect f_arg11) (arg12.view.readAt (Elt F) (Rect.unit (s := S2x512x128) ![0, 0, 0] S1x512x128.size
          inb_S2x512x128_S1x512x128_0_0_0).toLoadRect f_arg12))⟩]) := by
  unfold tripL_k0_t1 trip_k0_t1
  dsimp only
  sl_unfold_run_names
  rfl

end Cert.Kernel3Ideal.Fwd
-- ==== Proof.FOnline.lean ====
module

public import proofs.«01_k».proof.Proof.Softmax
public import proofs.«01_k».proof.Proof.Heads

/-!
# A softmax taken a tile at a time

One row keeps a maximum, sums of exponentials less that maximum (one for each lane, of the keys of that lane) and a weighted
sum. A tile of 512 keys raises the maximum and rescales what was summed before. Whatever the maxima were, the sums are the sums
over all the keys seen so far, scaled by the exponential of minus the maximum.
-/

@[expose] public section

noncomputable section

namespace Cert.Online

open Idealize.ShloMosaic
open Cert.KernelIdeal.Dkv (lane lanes)

/-- The largest logit of a tile. -/
def peak (x : Fin 512 → EReal) : EReal :=
  Finset.univ.fold max ⊥ (fun l : Fin 128 =>
    max (max (max (x ⟨l.val, by omega⟩) (x ⟨128 + l.val, by omega⟩)) (x ⟨256 + l.val, by omega⟩)) (x ⟨384 + l.val, by omega⟩))

variable (M L : Fin 128 → EReal) (A : EReal) (x V : Fin 512 → EReal)

/-- The maximum after a tile. -/
def newMax (l : Fin 128) : EReal := max (M l) (peak x)

/-- The exponential of a tile's logit less the maximum. -/
def part (k : Fin 512) : EReal := Ideal.exp (x k - newMax M x (lane k))

/-- The factor that rescales the earlier sums. -/
def keep (l : Fin 128) : EReal := Ideal.exp (M l - newMax M x l)

/-- The sums after a tile. -/
def newSum (l : Fin 128) : EReal := keep M x l * L l + lanes (part M x) l

/-- The weighted sum after a tile, at lane `c`. -/
def newAcc (c : Fin 128) : EReal := keep M x c * A + ∑ k, part M x k * V k

/-- The sum of the four entries of a lane. -/
def laneSum (f : Fin 512 → ℝ) (l : Fin 128) : ℝ :=
  f ⟨l.val, by omega⟩ + f ⟨128 + l.val, by omega⟩ + f ⟨256 + l.val, by omega⟩ + f ⟨384 + l.val, by omega⟩

theorem lanes_coe (f : Fin 512 → ℝ) (l : Fin 128) : lanes (fun k => (f k : EReal)) l = ((laneSum f l : ℝ) : EReal) := by
  unfold lanes laneSum
  push_cast
  rfl

theorem laneSum_mul (w : ℝ) (f : Fin 512 → ℝ) (l : Fin 128) : laneSum (fun k => w * f k) l = w * laneSum f l := by
  unfold laneSum; ring

/-- What a row holds when the keys seen so far have the sums `z` of their exponentials and the weighted sum `y`: nothing
was seen, or everything is scaled by the exponential of minus some real maximum. -/
def Holds (z : Fin 128 → ℝ) (y : ℝ) : Prop :=
  (M = (fun _ => ⊥) ∧ L = (fun _ => 0) ∧ A = 0 ∧ z = (fun _ => 0) ∧ y = 0)
  ∨ ∃ m : ℝ, M = (fun _ => (m : EReal)) ∧ L = (fun l => ((Real.exp (-m) * z l : ℝ) : EReal))
      ∧ A = ((Real.exp (-m) * y : ℝ) : EReal)

theorem Holds.start : Holds (fun _ => ⊥) (fun _ => 0) 0 (fun _ => 0) 0 := .inl ⟨rfl, rfl, rfl, rfl, rfl⟩

/-- The kept exponential of a logit. -/
def kept (on : Fin 512 → Prop) [DecidablePred on] (s : Fin 512 → ℝ) (k : Fin 512) : ℝ := if on k then Real.exp (s k) else 0

section

variable (on : Fin 512 → Prop) [DecidablePred on] (s v : Fin 512 → ℝ)

/-- The largest logit is one of the kept ones. -/
theorem peak_real (hon : ∃ k, on k) (hx : ∀ k, x k = if on k then (s k : EReal) else ⊥) : ∃ m : ℝ, peak x = (m : EReal) := by
  have hle : ∀ k, x k ≤ peak x := by
    intro k
    have hl := Finset.le_sup (f := fun l : Fin 128 =>
      max (max (max (x ⟨l.val, by omega⟩) (x ⟨128 + l.val, by omega⟩)) (x ⟨256 + l.val, by omega⟩)) (x ⟨384 + l.val, by omega⟩))
      (Finset.mem_univ (⟨k.val % 128, Nat.mod_lt _ (by decide)⟩ : Fin 128))
    refine le_trans ?_ hl
    have hk := k.isLt
    rcases (by omega : k.val = k.val % 128 ∨ k.val = 128 + k.val % 128 ∨ k.val = 256 + k.val % 128 ∨ k.val = 384 + k.val % 128)
      with h | h | h | h
    · exact le_trans (le_of_eq (congrArg x (Fin.ext h))) (le_trans (le_max_left _ _) (le_trans (le_max_left _ _) (le_max_left _ _)))
    · exact le_trans (le_of_eq (congrArg x (Fin.ext h))) (le_trans (le_max_right _ _) (le_trans (le_max_left _ _) (le_max_left _ _)))
    · exact le_trans (le_of_eq (congrArg x (Fin.ext h))) (le_trans (le_max_right _ _) (le_max_left _ _))
    · exact le_trans (le_of_eq (congrArg x (Fin.ext h))) (le_max_right _ _)
  have hlt : peak x < ⊤ := by
    have h : ∀ k, x k < ⊤ := fun k => by
      rw [hx]; split
      · exact EReal.coe_lt_top _
      · exact bot_lt_top
    show Finset.univ.sup _ < ⊤
    rw [Finset.sup_lt_iff bot_lt_top]
    intro l _
    exact max_lt (max_lt (max_lt (h _) (h _)) (h _)) (h _)
  obtain ⟨k, hk⟩ := hon
  have hb : ⊥ < peak x := lt_of_lt_of_le (by rw [hx, if_pos hk]; exact EReal.bot_lt_coe _) (hle k)
  exact ⟨(peak x).toReal, (EReal.coe_toReal hlt.ne hb.ne').symm⟩

/-- A tile's exponentials, once the maximum is real. -/
theorem part_real (hx : ∀ k, x k = if on k then (s k : EReal) else ⊥) (m : ℝ) (hm : ∀ l, newMax M x l = (m : EReal)) (k : Fin 512) :
    part M x k = ((Real.exp (-m) * kept on s k : ℝ) : EReal) := by
  unfold part kept
  rw [hm, hx]
  split
  · rw [← Real.exp_add, neg_add_eq_sub]; rfl
  · rw [mul_zero, EReal.bot_sub]; rfl

/-- One tile. -/
theorem Holds.step {M L : Fin 128 → EReal} {A : EReal} {z : Fin 128 → ℝ} {y : ℝ} (h : Holds M L A z y) (c : Fin 128)
    (x V : Fin 512 → EReal) (hon : ∃ k, on k) (hx : ∀ k, x k = if on k then (s k : EReal) else ⊥) (hV : ∀ k, V k = (v k : EReal)) :
    Holds (newMax M x) (newSum M L x) (newAcc M A x V c) (fun l => z l + laneSum (kept on s) l)
      (y + ∑ k, kept on s k * v k) := by
  obtain ⟨p, hp⟩ := peak_real x on s hon hx
  have acc : ∀ m : ℝ, (∀ l, newMax M x l = (m : EReal)) →
      (∑ k, part M x k * V k) = ((Real.exp (-m) * ∑ k, kept on s k * v k : ℝ) : EReal) := fun m hm => by
    rw [Finset.mul_sum, ← Cert.Softmax.coe_sum]
    refine Finset.sum_congr rfl fun k _ => ?_
    rw [part_real M x on s hx m hm, hV, ← EReal.coe_mul, mul_assoc]
  have sums : ∀ m : ℝ, (∀ l, newMax M x l = (m : EReal)) → ∀ l,
      lanes (part M x) l = ((Real.exp (-m) * laneSum (kept on s) l : ℝ) : EReal) := fun m hm l => by
    rw [← laneSum_mul, ← lanes_coe]
    exact congrArg (lanes · l) (funext fun k => part_real M x on s hx m hm k)
  rcases h with ⟨rfl, rfl, rfl, rfl, rfl⟩ | ⟨m₀, rfl, rfl, rfl⟩
  · have hm : ∀ l, newMax (fun _ => ⊥) x l = (p : EReal) := fun l => by
      unfold newMax; rw [hp]; exact max_eq_right bot_le
    refine .inr ⟨p, funext hm, funext fun l => ?_, ?_⟩
    · unfold newSum
      rw [sums p hm, mul_zero, zero_add]
      show _ = ((Real.exp (-p) * (0 + laneSum (kept on s) l) : ℝ) : EReal)
      rw [zero_add]
    · unfold newAcc
      rw [acc p hm, mul_zero, zero_add, zero_add]
  · have hm : ∀ l, newMax (fun _ => (m₀ : EReal)) x l = ((max m₀ p : ℝ) : EReal) := fun l => by
      unfold newMax; rw [hp]; exact (EReal.coe_strictMono.monotone.map_max).symm
    have hk : ∀ l, keep (fun _ => (m₀ : EReal)) x l = ((Real.exp (m₀ - max m₀ p) : ℝ) : EReal) := fun l => by
      unfold keep; rw [hm]; rfl
    have e : ∀ a : ℝ, Real.exp (m₀ - max m₀ p) * (Real.exp (-m₀) * a) = Real.exp (-max m₀ p) * a := fun a => by
      rw [← mul_assoc, ← Real.exp_add]; ring_nf
    refine .inr ⟨max m₀ p, funext hm, funext fun l => ?_, ?_⟩
    · unfold newSum
      rw [sums _ hm, hk, ← EReal.coe_mul, ← EReal.coe_add, e, mul_add]
    · unfold newAcc
      rw [acc _ hm, hk, ← EReal.coe_mul, ← EReal.coe_add, e, mul_add]

end

/-- The row's quotient, once the sums are positive. -/
theorem Holds.quotient {M L : Fin 128 → EReal} {A : EReal} {z : Fin 128 → ℝ} {y : ℝ} (h : Holds M L A z y) (hz : 0 < ∑ l, z l) :
    Ideal.div A (∑ l, L l) = ((y / ∑ l, z l : ℝ) : EReal) := by
  rcases h with ⟨rfl, rfl, rfl, rfl, rfl⟩ | ⟨m, rfl, rfl, rfl⟩
  · simp at hz
  · rw [Cert.Softmax.coe_sum, ← Finset.mul_sum, Cert.Softmax.div_real _ (mul_pos (Real.exp_pos _) hz),
      mul_div_mul_left _ _ (Real.exp_pos _).ne']

/-- The row's log-sum, once the sums are positive. -/
theorem Holds.logSum {M L : Fin 128 → EReal} {A : EReal} {z : Fin 128 → ℝ} {y : ℝ} (h : Holds M L A z y) (hz : 0 < ∑ l, z l)
    (l : Fin 128) : M l + Ideal.log (∑ l, L l) = ((Real.log (∑ l, z l) : ℝ) : EReal) := by
  rcases h with ⟨rfl, rfl, rfl, rfl, rfl⟩ | ⟨m, rfl, rfl, rfl⟩
  · simp at hz
  · rw [Cert.Softmax.coe_sum, ← Finset.mul_sum]
    have hp : 0 < Real.exp (-m) * ∑ l, z l := mul_pos (Real.exp_pos _) hz
    have hl : Ideal.log ((Real.exp (-m) * ∑ l, z l : ℝ) : EReal) = ((Real.log (Real.exp (-m) * ∑ l, z l) : ℝ) : EReal) :=
      (by unfold Ideal.log; exact if_neg (not_le.2 hp))
    rw [hl, Real.log_mul (Real.exp_pos _).ne' hz.ne', Real.log_exp, ← EReal.coe_add]
    congr 1
    ring

end Cert.Online
-- ==== Proof.FTile.lean ====
module

public import proofs.«01_k».proof.Proof.Gen.Kernel3Ideal.Skeleton
public import proofs.«01_k».proof.Proof.FOnline
public import Idealize.ShloMosaic.Lib.Pointwise

/-!
# What one tile of the forward pass computes

A tile is 512 queries (the rows) by 512 keys (the columns) of one head. This module reads the vectors that the loop's body
computes of a tile at one index: the new maximum, the new sums of exponentials, the new weighted sum.
-/

@[expose] public section

noncomputable section

namespace Cert.Kernel3Ideal.Fwd

open Idealize.ShloMosaic Cert.Kernel3Ideal.Gen
open Cert.KernelIdeal.Dkv (lane lane_eq lane_eq0 beside lanes ofBits_ninf)
open Cert.Online

/-- The product of row `r` of `X` with row `k` of `K`. -/
def dot (X K : FVec Ideal S512x128 .bf16) (r k : Fin 512) : EReal :=
  ∑ l : Fin 128, X (ix2 r l) * K (ix2 k l)

/-- The logit of query `r` and key `k`: `C` holds the gates of the keys. -/
def score (X K : FVec Ideal S512x128 .bf16) (C : FVec Ideal S1x1x2x512 .f32) (j : Fin 2) (r k : Fin 512) : EReal :=
  dot X K r k - C (ix4 0 0 j k)

/-- Row `r` of a slab. -/
abbrev slab (M : FVec Ideal S1x512x128 .f32) (r : Fin 512) : Fin 128 → EReal := fun l => M (ix3 0 r l)

section
variable (X K V : FVec Ideal S512x128 .bf16) (C : FVec Ideal S1x1x2x512 .f32) (M L : FVec Ideal S1x512x128 .f32)
  (r : Fin 512) (l : Fin 128)

theorem pay5 : k0_pay5 X K C (ix2 r l) = score X K C 0 r ⟨l.val, by omega⟩ := by
  unfold_payloads
  pointwise [score]
  rfl
theorem pay6 : k0_pay6 X K C (ix2 r l) = score X K C 0 r ⟨128 + l.val, by omega⟩ := by
  unfold_payloads
  pointwise [score]
  rfl
theorem pay7 : k0_pay7 X K C (ix2 r l) = score X K C 0 r ⟨256 + l.val, by omega⟩ := by
  unfold_payloads
  pointwise [score]
  rfl
theorem pay8 : k0_pay8 X K C (ix2 r l) = score X K C 0 r ⟨384 + l.val, by omega⟩ := by
  unfold_payloads
  pointwise [score]
  rfl

/-- The maximum of head 0 after the tile. -/
theorem pay10 : k0_pay10 X K C M (ix2 r l) = newMax (slab M r) (score X K C 0 r) l := by
  unfold newMax peak
  simp only [← pay5, ← pay6, ← pay7, ← pay8]
  unfold k0_pay10 k0_pay9
  pointwise
  rw [ofBits_ninf]

theorem pay11 : k0_pay11 X K C M (ix2 r l) = part (slab M r) (score X K C 0 r) ⟨l.val, by omega⟩ := by
  unfold part
  rw [lane_eq0, ← pay10, ← pay5]
  unfold k0_pay11
  pointwise
theorem pay12 : k0_pay12 X K C M (ix2 r l) = part (slab M r) (score X K C 0 r) ⟨128 + l.val, by omega⟩ := by
  unfold part
  rw [lane_eq _ _ rfl, ← pay10, ← pay6]
  unfold k0_pay12
  pointwise
theorem pay13 : k0_pay13 X K C M (ix2 r l) = part (slab M r) (score X K C 0 r) ⟨256 + l.val, by omega⟩ := by
  unfold part
  rw [lane_eq _ _ rfl, ← pay10, ← pay7]
  unfold k0_pay13
  pointwise
theorem pay14 : k0_pay14 X K C M (ix2 r l) = part (slab M r) (score X K C 0 r) ⟨384 + l.val, by omega⟩ := by
  unfold part
  rw [lane_eq _ _ rfl, ← pay10, ← pay8]
  unfold k0_pay14
  pointwise
theorem pay15 : k0_pay15 X K C M (ix2 r l) = keep (slab M r) (score X K C 0 r) l := by
  unfold keep
  rw [← pay10]
  unfold k0_pay15 k0_pay9
  pointwise

/-- The sums of head 0 after the tile. -/
theorem pay16 : k0_pay16 X K C M L (ix2 r l) = newSum (slab M r) (slab L r) (score X K C 0 r) l := by
  unfold newSum lanes
  rw [← pay15, ← pay11, ← pay12, ← pay13, ← pay14]
  unfold k0_pay16
  pointwise

theorem pay21 : k0_pay21 X K (k0_pay3 C) (ix2 r l) = score X K C 1 r ⟨l.val, by omega⟩ := by
  unfold_payloads
  pointwise [score]
  rfl
theorem pay22 : k0_pay22 X K (k0_pay3 C) (ix2 r l) = score X K C 1 r ⟨128 + l.val, by omega⟩ := by
  unfold_payloads
  pointwise [score]
  rfl
theorem pay23 : k0_pay23 X K (k0_pay3 C) (ix2 r l) = score X K C 1 r ⟨256 + l.val, by omega⟩ := by
  unfold_payloads
  pointwise [score]
  rfl
theorem pay24 : k0_pay24 X K (k0_pay3 C) (ix2 r l) = score X K C 1 r ⟨384 + l.val, by omega⟩ := by
  unfold_payloads
  pointwise [score]
  rfl

/-- The maximum of head 1 after the tile. -/
theorem pay26 : k0_pay26 X K (k0_pay3 C) M (ix2 r l) = newMax (slab M r) (score X K C 1 r) l := by
  unfold newMax peak
  simp only [← pay21, ← pay22, ← pay23, ← pay24]
  unfold k0_pay26 k0_pay25
  pointwise
  rw [ofBits_ninf]

theorem pay27 : k0_pay27 X K (k0_pay3 C) M (ix2 r l) = part (slab M r) (score X K C 1 r) ⟨l.val, by omega⟩ := by
  unfold part
  rw [lane_eq0, ← pay26, ← pay21]
  unfold k0_pay27
  pointwise
theorem pay28 : k0_pay28 X K (k0_pay3 C) M (ix2 r l) = part (slab M r) (score X K C 1 r) ⟨128 + l.val, by omega⟩ := by
  unfold part
  rw [lane_eq _ _ rfl, ← pay26, ← pay22]
  unfold k0_pay28
  pointwise
theorem pay29 : k0_pay29 X K (k0_pay3 C) M (ix2 r l) = part (slab M r) (score X K C 1 r) ⟨256 + l.val, by omega⟩ := by
  unfold part
  rw [lane_eq _ _ rfl, ← pay26, ← pay23]
  unfold k0_pay29
  pointwise
theorem pay30 : k0_pay30 X K (k0_pay3 C) M (ix2 r l) = part (slab M r) (score X K C 1 r) ⟨384 + l.val, by omega⟩ := by
  unfold part
  rw [lane_eq _ _ rfl, ← pay26, ← pay24]
  unfold k0_pay30
  pointwise
theorem pay31 : k0_pay31 X K (k0_pay3 C) M (ix2 r l) = keep (slab M r) (score X K C 1 r) l := by
  unfold keep
  rw [← pay26]
  unfold k0_pay31 k0_pay25
  pointwise

/-- The sums of head 1 after the tile. -/
theorem pay32 : k0_pay32 X K (k0_pay3 C) M L (ix2 r l) = newSum (slab M r) (slab L r) (score X K C 1 r) l := by
  unfold newSum lanes
  rw [← pay31, ← pay27, ← pay28, ← pay29, ← pay30]
  unfold k0_pay32
  pointwise

/-- What the tile stores into the maxima. -/
theorem tile_m0 : k0_pay18 (k0_pay10 X K C M) (ix3 0 r l) = newMax (slab M r) (score X K C 0 r) l := by
  rw [← pay10]
  unfold k0_pay18
  pointwise
theorem tile_m1 : k0_pay72 (k0_pay26 X K (k0_pay3 C) M) (ix3 0 r l) = newMax (slab M r) (score X K C 1 r) l := by
  rw [← pay26]
  unfold k0_pay72
  pointwise

/-- What the tile stores into the sums. -/
theorem tile_l0 : k0_pay17 (k0_pay16 X K C M L) (ix3 0 r l) = newSum (slab M r) (slab L r) (score X K C 0 r) l := by
  rw [← pay16]
  unfold k0_pay17
  pointwise
theorem tile_l1 : k0_pay71 (k0_pay32 X K (k0_pay3 C) M L) (ix3 0 r l) = newSum (slab M r) (slab L r) (score X K C 1 r) l := by
  rw [← pay32]
  unfold k0_pay71
  pointwise

end

section
variable (X0 X1 K V : FVec Ideal S512x128 .bf16) (C : FVec Ideal S1x1x2x512 .f32) (M0 M1 : FVec Ideal S1x512x128 .f32)
  (O : FVec Ideal S512x128 .f32) (r : Fin 512) (l : Fin 128)

/-- What the tile stores into the weighted sums: each lane's, of the head that owns the lane. -/
theorem tile_o :
    k0_pay73 V (k0_pay15 X0 K C M0) (k0_pay19 V (k0_pay11 X0 K C M0) (k0_pay12 X0 K C M0) (k0_pay13 X0 K C M0) (k0_pay14 X0 K C M0))
      (k0_pay27 X1 K (k0_pay3 C) M1) (k0_pay28 X1 K (k0_pay3 C) M1) (k0_pay29 X1 K (k0_pay3 C) M1) (k0_pay30 X1 K (k0_pay3 C) M1)
      (k0_pay31 X1 K (k0_pay3 C) M1) O (ix2 r l)
    = Scalar.select (k0_pay64 (ix2 r l)) (keep (slab M0 r) (score X0 K C 0 r) l) (keep (slab M1 r) (score X1 K C 1 r) l) * O (ix2 r l)
      + Scalar.select (k0_pay64 (ix2 r l)) (∑ k, part (slab M0 r) (score X0 K C 0 r) k * V (ix2 k l))
          (∑ k, part (slab M1 r) (score X1 K C 1 r) k * V (ix2 k l)) := by
  rw [← pay15, ← pay31]
  unfold k0_pay73 k0_pay19
  pointwise
  congr 2
  · exact Finset.sum_congr rfl fun k _ => congrArg (· * _)
      (beside (part (slab M0 r) (score X0 K C 0 r)) _ _ _ _ (pay11 X0 K C M0 r) (pay12 X0 K C M0 r)
        (pay13 X0 K C M0 r) (pay14 X0 K C M0 r) k)
  · exact Finset.sum_congr rfl fun k _ => congrArg (· * _)
      (beside (part (slab M1 r) (score X1 K C 1 r)) _ _ _ _ (pay27 X1 K C M1 r) (pay28 X1 K C M1 r)
        (pay29 X1 K C M1 r) (pay30 X1 K C M1 r) k)

end

end Cert.Kernel3Ideal.Fwd
-- ==== Proof.FDiagonal.lean ====
module

public import proofs.«01_k».proof.Proof.FTile

/-!
# The diagonal tile of the forward pass

The tile in which query and key blocks coincide: a key after the query has the logit minus infinity. The vectors the kernel computes of
the tile, at one index.
-/

@[expose] public section

noncomputable section

namespace Cert.Kernel3Ideal.Fwd

open Idealize.ShloMosaic Cert.Kernel3Ideal.Gen
open Cert.KernelIdeal.Dkv (lane lane_eq lane_eq0 beside lanes sge_iff ofBits_ninf)
open Cert.Online

/-- The masked logit. -/
def scoreD (X K : FVec Ideal S512x128 .bf16) (C : FVec Ideal S1x1x2x512 .f32) (j : Fin 2) (r k : Fin 512) : EReal :=
  if k.val ≤ r.val then score X K C j r k else ⊥

theorem masked (r n : ℕ) (hr : r < 512) (hn : n < 512) (s : EReal) :
    Scalar.select (IntOp.cmpi .sge (IntOp.addi (BitVec.ofNat 32 r) 0#32) (IntOp.addi (BitVec.ofNat 32 n) 0#32)) s
      (Ideal.ofBits .f32 4286578688#32) = if n ≤ r then s else ⊥ := by
  have hm := sge_iff r n hr hn 0#32 (by decide)
  have e : (Ideal.ofBits .f32 4286578688#32 : EReal) = ⊥ := ofBits_ninf
  unfold Scalar.select
  by_cases h : n ≤ r
  · rw [if_pos h]; exact if_pos (hm.2 h)
  · rw [if_neg h, e]; exact if_neg fun e => h (hm.1 e)

section
variable (X K V : FVec Ideal S512x128 .bf16) (C : FVec Ideal S1x1x2x512 .f32) (M L : FVec Ideal S1x512x128 .f32)
  (r : Fin 512) (l : Fin 128)

theorem pay79 : k0_pay79 X K C (ix2 r l) = scoreD X K C 0 r ⟨l.val, by omega⟩ := by
  unfold_payloads
  pointwise
  exact masked _ _ (by omega) (by omega) _
theorem pay80 : k0_pay80 X K C (ix2 r l) = scoreD X K C 0 r ⟨128 + l.val, by omega⟩ := by
  unfold_payloads
  pointwise
  exact masked _ _ (by omega) (by omega) _
theorem pay81 : k0_pay81 X K C (ix2 r l) = scoreD X K C 0 r ⟨256 + l.val, by omega⟩ := by
  unfold_payloads
  pointwise
  exact masked _ _ (by omega) (by omega) _
theorem pay82 : k0_pay82 X K C (ix2 r l) = scoreD X K C 0 r ⟨384 + l.val, by omega⟩ := by
  unfold_payloads
  pointwise
  exact masked _ _ (by omega) (by omega) _

/-- The maximum of head 0 after the tile. -/
theorem pay84 : k0_pay84 X K C M (ix2 r l) = newMax (slab M r) (scoreD X K C 0 r) l := by
  unfold newMax peak
  simp only [← pay79, ← pay80, ← pay81, ← pay82]
  unfold k0_pay84 k0_pay83
  pointwise
  rw [ofBits_ninf]

theorem pay85 : k0_pay85 X K C M (ix2 r l) = part (slab M r) (scoreD X K C 0 r) ⟨l.val, by omega⟩ := by
  unfold part
  rw [lane_eq0, ← pay84, ← pay79]
  unfold k0_pay85
  pointwise
theorem pay86 : k0_pay86 X K C M (ix2 r l) = part (slab M r) (scoreD X K C 0 r) ⟨128 + l.val, by omega⟩ := by
  unfold part
  rw [lane_eq _ _ rfl, ← pay84, ← pay80]
  unfold k0_pay86
  pointwise
theorem pay87 : k0_pay87 X K C M (ix2 r l) = part (slab M r) (scoreD X K C 0 r) ⟨256 + l.val, by omega⟩ := by
  unfold part
  rw [lane_eq _ _ rfl, ← pay84, ← pay81]
  unfold k0_pay87
  pointwise
theorem pay88 : k0_pay88 X K C M (ix2 r l) = part (slab M r) (scoreD X K C 0 r) ⟨384 + l.val, by omega⟩ := by
  unfold part
  rw [lane_eq _ _ rfl, ← pay84, ← pay82]
  unfold k0_pay88
  pointwise
theorem pay89 : k0_pay89 X K C M (ix2 r l) = keep (slab M r) (scoreD X K C 0 r) l := by
  unfold keep
  rw [← pay84]
  unfold k0_pay89 k0_pay83
  pointwise

/-- What the diagonal tile stores into the sums of head 0. -/
theorem diag_l0 : k0_pay90 (k0_pay85 X K C M) (k0_pay86 X K C M) (k0_pay87 X K C M) (k0_pay88 X K C M) (k0_pay89 X K C M) L (ix3 0 r l)
    = newSum (slab M r) (slab L r) (scoreD X K C 0 r) l := by
  unfold newSum lanes
  rw [← pay89, ← pay85, ← pay86, ← pay87, ← pay88]
  unfold k0_pay90
  pointwise

/-- What the diagonal tile stores into the maxima of head 0. -/
theorem diag_m0 : k0_pay91 (k0_pay84 X K C M) (ix3 0 r l) = newMax (slab M r) (scoreD X K C 0 r) l := by
  rw [← pay84]
  unfold k0_pay91
  pointwise

theorem pay94 : k0_pay94 X K (k0_pay77 C) (ix2 r l) = scoreD X K C 1 r ⟨l.val, by omega⟩ := by
  unfold_payloads
  pointwise
  exact masked _ _ (by omega) (by omega) _
theorem pay95 : k0_pay95 X K (k0_pay77 C) (ix2 r l) = scoreD X K C 1 r ⟨128 + l.val, by omega⟩ := by
  unfold_payloads
  pointwise
  exact masked _ _ (by omega) (by omega) _
theorem pay96 : k0_pay96 X K (k0_pay77 C) (ix2 r l) = scoreD X K C 1 r ⟨256 + l.val, by omega⟩ := by
  unfold_payloads
  pointwise
  exact masked _ _ (by omega) (by omega) _
theorem pay97 : k0_pay97 X K (k0_pay77 C) (ix2 r l) = scoreD X K C 1 r ⟨384 + l.val, by omega⟩ := by
  unfold_payloads
  pointwise
  exact masked _ _ (by omega) (by omega) _

/-- The maximum of head 1 after the tile. -/
theorem pay99 : k0_pay99 X K (k0_pay77 C) M (ix2 r l) = newMax (slab M r) (scoreD X K C 1 r) l := by
  unfold newMax peak
  simp only [← pay94, ← pay95, ← pay96, ← pay97]
  unfold k0_pay99 k0_pay98
  pointwise
  rw [ofBits_ninf]

theorem pay100 : k0_pay100 X K (k0_pay77 C) M (ix2 r l) = part (slab M r) (scoreD X K C 1 r) ⟨l.val, by omega⟩ := by
  unfold part
  rw [lane_eq0, ← pay99, ← pay94]
  unfold k0_pay100
  pointwise
theorem pay101 : k0_pay101 (k0_pay95 X K (k0_pay77 C)) (k0_pay99 X K (k0_pay77 C) M) (ix2 r l) = part (slab M r) (scoreD X K C 1 r) ⟨128 + l.val, by omega⟩ := by
  unfold part
  rw [lane_eq _ _ rfl, ← pay99, ← pay95]
  unfold k0_pay101
  pointwise
theorem pay102 : k0_pay102 (k0_pay96 X K (k0_pay77 C)) (k0_pay99 X K (k0_pay77 C) M) (ix2 r l) = part (slab M r) (scoreD X K C 1 r) ⟨256 + l.val, by omega⟩ := by
  unfold part
  rw [lane_eq _ _ rfl, ← pay99, ← pay96]
  unfold k0_pay102
  pointwise
theorem pay103 : k0_pay103 (k0_pay97 X K (k0_pay77 C)) (k0_pay99 X K (k0_pay77 C) M) (ix2 r l) = part (slab M r) (scoreD X K C 1 r) ⟨384 + l.val, by omega⟩ := by
  unfold part
  rw [lane_eq _ _ rfl, ← pay99, ← pay97]
  unfold k0_pay103
  pointwise
theorem pay104 : k0_pay104 (k0_pay98 M) (k0_pay99 X K (k0_pay77 C) M) (ix2 r l) = keep (slab M r) (scoreD X K C 1 r) l := by
  unfold keep
  rw [← pay99]
  unfold k0_pay104 k0_pay98
  pointwise

/-- What the diagonal tile stores into the sums of head 1. -/
theorem diag_l1 : k0_pay105 (k0_pay95 X K (k0_pay77 C)) (k0_pay96 X K (k0_pay77 C)) (k0_pay97 X K (k0_pay77 C)) (k0_pay98 M) (k0_pay99 X K (k0_pay77 C) M) (k0_pay100 X K (k0_pay77 C) M) L (ix3 0 r l)
    = newSum (slab M r) (slab L r) (scoreD X K C 1 r) l := by
  unfold newSum lanes
  rw [← pay104, ← pay100, ← pay101, ← pay102, ← pay103]
  unfold k0_pay105
  pointwise

/-- What the diagonal tile stores into the maxima of head 1. -/
theorem diag_m1 : k0_pay106 (k0_pay99 X K (k0_pay77 C) M) (ix3 0 r l) = newMax (slab M r) (scoreD X K C 1 r) l := by
  rw [← pay99]
  unfold k0_pay106
  pointwise

end

section
variable (X0 X1 K V : FVec Ideal S512x128 .bf16) (C : FVec Ideal S1x1x2x512 .f32) (M0 M1 : FVec Ideal S1x512x128 .f32)
  (O : FVec Ideal S512x128 .f32) (r : Fin 512) (l : Fin 128)

/-- What the diagonal tile stores into the weighted sums. -/
theorem diag_o (B : IVec S512x128 1) :
    k0_pay107 B V (k0_pay89 X0 K C M0) (k0_pay92 V (k0_pay85 X0 K C M0) (k0_pay86 X0 K C M0) (k0_pay87 X0 K C M0) (k0_pay88 X0 K C M0))
      (k0_pay95 X1 K (k0_pay77 C)) (k0_pay96 X1 K (k0_pay77 C)) (k0_pay97 X1 K (k0_pay77 C)) (k0_pay98 M1) (k0_pay99 X1 K (k0_pay77 C) M1) (k0_pay100 X1 K (k0_pay77 C) M1) O (ix2 r l)
    = Scalar.select (B (ix2 r l)) (keep (slab M0 r) (scoreD X0 K C 0 r) l) (keep (slab M1 r) (scoreD X1 K C 1 r) l) * O (ix2 r l)
      + Scalar.select (B (ix2 r l)) (∑ k, part (slab M0 r) (scoreD X0 K C 0 r) k * V (ix2 k l))
          (∑ k, part (slab M1 r) (scoreD X1 K C 1 r) k * V (ix2 k l)) := by
  rw [← pay89, ← pay104]
  unfold k0_pay107 k0_pay92
  pointwise
  congr 2
  · exact Finset.sum_congr rfl fun k _ => congrArg (· * _)
      (beside (part (slab M0 r) (scoreD X0 K C 0 r)) _ _ _ _ (pay85 X0 K C M0 r) (pay86 X0 K C M0 r)
        (pay87 X0 K C M0 r) (pay88 X0 K C M0 r) k)
  · exact Finset.sum_congr rfl fun k _ => congrArg (· * _)
      (beside (part (slab M1 r) (scoreD X1 K C 1 r)) _ _ _ _ (pay100 X1 K C M1 r) (pay101 X1 K C M1 r)
        (pay102 X1 K C M1 r) (pay103 X1 K C M1 r) k)

end

end Cert.Kernel3Ideal.Fwd
-- ==== Proof.FLoop.lean ====
module

public import proofs.«01_k».proof.Proof.FTrip
public import proofs.«01_k».proof.Proof.FDiagonal

/-!
# The forward kernel's loop over the key tiles

What a row of one head holds after a number of trips: the sums over the keys of the tiles seen so far, scaled by the exponential of minus
the maximum.
-/

@[expose] public section

set_option maxRecDepth 16384

noncomputable section

namespace Cert.Kernel3Ideal.Fwd

open Idealize.ShloMosaic Idealize.ShloMosaic.TcCoe Cert.Kernel3Ideal.Gen Idealize.ShloMosaic.Tactic
open Cert.Online

/-- A store of the whole accumulator hides every store before it. -/
theorem canon_whole (w : FVec Ideal S512x128 .f32) (L : List (View.Piece (Elt Ideal) S512x128 .f32)) :
    View.canon (⟨Rect.unit (s := S512x128) ![0, 0] ![512, 128] inb_S512x128_S512x128_0_0, w⟩ :: L) = w :=
  View.canon_cons_unit_lit' (S := S512x128) _ w L (by decide)

/-- A load of the whole accumulator after some stores. -/
theorem readAt_whole (v : Memref sig .tc .vmem S512x128 .f32) (L L' : List (View.Piece (Elt Ideal) S512x128 .f32)) :
    v.view.readAt (Elt Ideal) (Rect.unit (s := S512x128) ![0, 0] ![512, 128] inb_S512x128_S512x128_0_0).toLoadRect
      (v.view.writes (Elt Ideal) (v.view.writes (Elt Ideal) v.view.junk L) L') = View.canon (L' ++ L) := by
  rw [← View.writes_append, View.readAt_eq_ld, View.read_writes_junk_eq_canon]
  exact View.ld_unit_lit' (S := S512x128) _ _ (by decide)

/-- What the two slabs of the accumulators hold after a store into each. -/
theorem canon_slab0 (w w' : FVec Ideal S1x512x128 .f32) (L : List (View.Piece (Elt Ideal) S2x512x128 .f32))
    (r : Fin 512) (l : Fin 128) :
    View.canon ((⟨Rect.unit (s := S2x512x128) ![1, 0, 0] ![1, 512, 128] inb_S2x512x128_S1x512x128_1_0_0, w'⟩ :
        View.Piece (Elt Ideal) S2x512x128 .f32) ::
      (⟨Rect.unit (s := S2x512x128) ![0, 0, 0] ![1, 512, 128] inb_S2x512x128_S1x512x128_0_0_0, w⟩ :
        View.Piece (Elt Ideal) S2x512x128 .f32) :: L) (ix3 0 r l)
      = w (ix3 0 r l) := by
  have h : (ix3 0 r l : S2x512x128.Idx) ∉ (Rect.unit (s := S2x512x128) ![1, 0, 0] ![1, 512, 128]
      inb_S2x512x128_S1x512x128_1_0_0).set := fun h => Nat.not_succ_le_zero 0 ((Rect.mem_set_unit.1 h) 0).1
  have e : (Rect.unit (s := S2x512x128) ![0, 0, 0] ![1, 512, 128] inb_S2x512x128_S1x512x128_0_0_0).emb
      (ix3 0 r l : S1x512x128.Idx) = (ix3 0 r l : S2x512x128.Idx) := by blk_ext
  refine (View.canon_cons_of_not_mem (⟨Rect.unit (s := S2x512x128) ![1, 0, 0] ![1, 512, 128]
    inb_S2x512x128_S1x512x128_1_0_0, w'⟩ : View.Piece (Elt Ideal) S2x512x128 .f32) _ h).trans ?_
  rw [← e]
  exact View.canon_cons_emb _ _ _ _

theorem canon_slab1 (w' : FVec Ideal S1x512x128 .f32) (L : List (View.Piece (Elt Ideal) S2x512x128 .f32))
    (r : Fin 512) (l : Fin 128) :
    View.canon (⟨Rect.unit (s := S2x512x128) ![1, 0, 0] ![1, 512, 128] inb_S2x512x128_S1x512x128_1_0_0, w'⟩ :: L)
      (ix3 1 r l) = w' (ix3 0 r l) := by
  rw [show (ix3 1 r l : S2x512x128.Idx) = (Rect.unit (s := S2x512x128) ![1, 0, 0] ![1, 512, 128] inb_S2x512x128_S1x512x128_1_0_0).emb (ix3 0 r l : S1x512x128.Idx) from ?_]
  · exact View.canon_cons_emb _ _ _ _
  · blk_ext
/-- A load of a slab of the accumulators after some stores. -/
theorem readAt_slab0 (v : Memref sig .tc .vmem S2x512x128 .f32) (L L' : List (View.Piece (Elt Ideal) S2x512x128 .f32))
    (r : Fin 512) (l : Fin 128) :
    v.view.readAt (Elt Ideal) (Rect.unit (s := S2x512x128) ![0, 0, 0] ![1, 512, 128]
      inb_S2x512x128_S1x512x128_0_0_0).toLoadRect (v.view.writes (Elt Ideal) (v.view.writes (Elt Ideal) v.view.junk L) L')
      (ix3 0 r l) = View.canon (L' ++ L) (ix3 0 r l) := by
  rw [← View.writes_append, View.readAt_eq_ld, View.read_writes_junk_eq_canon]
  refine congrArg (View.canon (L' ++ L)) ?_
  show (Rect.unit (s := S2x512x128) ![0, 0, 0] ![1, 512, 128] inb_S2x512x128_S1x512x128_0_0_0).emb
    (ix3 0 r l : S1x512x128.Idx) = (ix3 0 r l : S2x512x128.Idx)
  blk_ext

theorem readAt_slab1 (v : Memref sig .tc .vmem S2x512x128 .f32) (L L' : List (View.Piece (Elt Ideal) S2x512x128 .f32))
    (r : Fin 512) (l : Fin 128) :
    v.view.readAt (Elt Ideal) (Rect.unit (s := S2x512x128) ![1, 0, 0] ![1, 512, 128]
      inb_S2x512x128_S1x512x128_1_0_0).toLoadRect (v.view.writes (Elt Ideal) (v.view.writes (Elt Ideal) v.view.junk L) L')
      (ix3 0 r l) = View.canon (L' ++ L) (ix3 1 r l) := by
  rw [← View.writes_append, View.readAt_eq_ld, View.read_writes_junk_eq_canon]
  refine congrArg (View.canon (L' ++ L)) ?_
  show (Rect.unit (s := S2x512x128) ![1, 0, 0] ![1, 512, 128] inb_S2x512x128_S1x512x128_1_0_0).emb
    (ix3 0 r l : S1x512x128.Idx) = (ix3 1 r l : S2x512x128.Idx)
  blk_ext

/-- What is held is the same of equal accumulators. -/
theorem holds_congr {M L M' L' : Fin 128 → EReal} {A A' : EReal} {z : Fin 128 → ℝ} {y : ℝ} (h : Holds M L A z y)
    (hM : ∀ l, M' l = M l) (hL : ∀ l, L' l = L l) (hA : A' = A) : Holds M' L' A' z y := by
  rw [funext hM, funext hL, hA]; exact h

/-- The queries' tile with the lanes of the other head masked. -/
def headTile (v0 : Vec Ideal S512x128 .bf16) (j : Fin 2) : FVec Ideal S512x128 .bf16 :=
  if j = 0 then k0_pay66 v0 else k0_pay67 v0

/-- What a row of head `j` holds of the three accumulators, its weighted sum at lane `c`. -/
abbrev RowHolds (P10 : List (View.Piece (Elt Ideal) S512x128 .f32)) (P11 P12 : List (View.Piece (Elt Ideal) S2x512x128 .f32))
    (j : Fin 2) (r : Fin 512) (c : Fin 128) (z : Fin 128 → ℝ) (y : ℝ) : Prop :=
  Holds (fun l => View.canon P11 (ix3 j r l)) (fun l => View.canon P12 (ix3 j r l)) (View.canon P10 (ix2 r c)) z y

variable (𝒱 : Variants) (c : Dev nD) (bd : Option 𝒱.V) (i : grid0.Coords) (arg2 : Memref sig .tc .smem S8x32 .i32) (harg2 : arg2.IsWhole)
  (arg3 : Memref sig .tc .vmem S512x128 .bf16) (harg3 : arg3.IsWhole)
  (arg4 : Memref sig .tc .vmem S16384x128 .bf16) (harg4 : arg4.IsWhole)
  (arg5 : Memref sig .tc .vmem S16384x128 .bf16) (harg5 : arg5.IsWhole)
  (arg6 : Memref sig .tc .vmem S1x32x2x512 .f32) (harg6 : arg6.IsWhole)
  (arg7 : Memref sig .tc .vmem S512x128 .f32) (harg7 : arg7.IsWhole)
  (arg8 : Memref sig .tc .vmem S1x512x2 .f32) (harg8 : arg8.IsWhole)
  (arg9 : Memref sig .tc .vmem S1x1x2x512 .f32) (harg9 : arg9.IsWhole)
  (arg10 : Memref sig .tc .vmem S512x128 .f32) (harg10 : arg10.IsWhole)
  (arg11 : Memref sig .tc .vmem S2x512x128 .f32) (harg11 : arg11.IsWhole)
  (arg12 : Memref sig .tc .vmem S2x512x128 .f32) (harg12 : arg12.IsWhole)
  (v0 : Vec Ideal S512x128 .bf16) (v23 : Elt Ideal .i32) (k0_hw1 : k0_chk1 i v23) (X_arg4 : BufTy.Contents (Elt Ideal) arg4.view.ty)
  (X_arg5 : BufTy.Contents (Elt Ideal) arg5.view.ty) (X_arg6 : BufTy.Contents (Elt Ideal) arg6.view.ty)

variable (I10 : List (View.Piece (Elt Ideal) S512x128 .f32)) (I11 I12 : List (View.Piece (Elt Ideal) S2x512x128 .f32))

/-- The stores of the trips before `n`, over stores made before the loop. -/
abbrev stored (n : ℕ) :=
    pb_k0_t1 (F := Ideal) 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6
      (arg10.view.writes (Elt Ideal) arg10.view.junk I10) (arg11.view.writes (Elt Ideal) arg11.view.junk I11)
      (arg12.view.writes (Elt Ideal) arg12.view.junk I12) n

variable (Kt Vt : ℕ → FVec Ideal S512x128 .bf16) (Ct : ℕ → FVec Ideal S1x1x2x512 .f32)

/-- A row of head 0 after `n` trips. -/
theorem loop0 (r : Fin 512) (q : Fin 128) (hsel : ∀ a b : EReal, Scalar.select (k0_pay64 (ix2 r q)) a b = a)
    (hq : ∀ k a, k0_off2 i v23 k a + S512x128.size a ≤ S16384x128.size a)
    (hl : ∀ k a, k0_off3 i v23 k a + S1x1x2x512.size a ≤ S1x32x2x512.size a)
    (eK : ∀ k, kT i arg4 v23 X_arg4 k (hq k) = Kt k) (eV : ∀ k, kT i arg5 v23 X_arg5 k (hq k) = Vt k)
    (eC : ∀ k, cT i arg6 v23 X_arg6 k (hl k) = Ct k) (s v : ℕ → Fin 512 → ℝ)
    (hs : ∀ t, t < (k0_t1_loop i v23).trips → ∀ k, score (k0_pay66 v0) (Kt t) (Ct t) 0 r k = (s t k : EReal))
    (hv : ∀ t, t < (k0_t1_loop i v23).trips → ∀ k, (Vt t (ix2 k q) : EReal) = (v t k : EReal))
    (h0 : RowHolds I10 I11 I12 0 r q (fun _ => 0) 0) (n : ℕ) (hn : n ≤ (k0_t1_loop i v23).trips) :
    RowHolds ((stored 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6 I10 I11 I12 n).1 ++ I10)
      ((stored 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6 I10 I11 I12 n).2.1 ++ I11)
      ((stored 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6 I10 I11 I12 n).2.2 ++ I12) 0 r q
      (fun l => ∑ t ∈ Finset.range n, laneSum (kept (fun _ => True) (s t)) l)
      (∑ t ∈ Finset.range n, ∑ k, kept (fun _ => True) (s t) k * v t k) := by
  induction n with
  | zero => simpa [stored, pb_k0_t1] using h0
  | succ n ih =>
    have ih := ih (by omega)
    have e := pb_k0_t1_succ (F := Ideal) 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6
      (arg10.view.writes (Elt Ideal) arg10.view.junk I10) (arg11.view.writes (Elt Ideal) arg11.view.junk I11)
      (arg12.view.writes (Elt Ideal) arg12.view.junk I12) ⟨n, by omega⟩
    rw [trip (hq := hq _) (hl := hl _)] at e
    simp only [] at e
    have eM : slab (arg11.view.readAt (Elt Ideal) (Rect.unit (s := S2x512x128) ![0, 0, 0] ![1, 512, 128]
        inb_S2x512x128_S1x512x128_0_0_0).toLoadRect (arg11.view.writes (Elt Ideal) (arg11.view.writes (Elt Ideal) arg11.view.junk I11)
          (stored 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6 I10 I11 I12 n).2.1)) r
        = fun l => View.canon ((stored 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6 I10 I11 I12 n).2.1 ++ I11) (ix3 0 r l) :=
      funext fun l => readAt_slab0 _ _ _ r l
    have eL : slab (arg12.view.readAt (Elt Ideal) (Rect.unit (s := S2x512x128) ![0, 0, 0] ![1, 512, 128]
        inb_S2x512x128_S1x512x128_0_0_0).toLoadRect (arg12.view.writes (Elt Ideal) (arg12.view.writes (Elt Ideal) arg12.view.junk I12)
          (stored 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6 I10 I11 I12 n).2.2)) r
        = fun l => View.canon ((stored 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6 I10 I11 I12 n).2.2 ++ I12) (ix3 0 r l) :=
      funext fun l => readAt_slab0 _ _ _ r l
    have step := Holds.step (fun _ => True) (s n) (v n) ih q (score (k0_pay66 v0) (Kt n) (Ct n) 0 r) (fun k => Vt n (ix2 k q))
      ⟨0, trivial⟩ (fun k => by rw [if_pos trivial]; exact hs n (by omega) k) (fun k => hv n (by omega) k)
    rw [← eM, ← eL] at step
    simp only [Finset.sum_range_succ]
    unfold RowHolds stored
    rw [e]
    simp only [List.cons_append, List.nil_append]
    refine holds_congr step (fun l => ?_) (fun l => ?_) ?_
    · rw [canon_slab0, eK, eC, tile_m0]
    · rw [canon_slab0, eK, eC, tile_l0]
    · rw [canon_whole, readAt_whole, eK, eV, eC, tile_o, hsel, hsel]
      rfl

/-- A row of head 1 after `n` trips. -/
theorem loop1 (r : Fin 512) (q : Fin 128) (hsel : ∀ a b : EReal, Scalar.select (k0_pay64 (ix2 r q)) a b = b)
    (hq : ∀ k a, k0_off2 i v23 k a + S512x128.size a ≤ S16384x128.size a)
    (hl : ∀ k a, k0_off3 i v23 k a + S1x1x2x512.size a ≤ S1x32x2x512.size a)
    (eK : ∀ k, kT i arg4 v23 X_arg4 k (hq k) = Kt k) (eV : ∀ k, kT i arg5 v23 X_arg5 k (hq k) = Vt k)
    (eC : ∀ k, cT i arg6 v23 X_arg6 k (hl k) = Ct k) (s v : ℕ → Fin 512 → ℝ)
    (hs : ∀ t, t < (k0_t1_loop i v23).trips → ∀ k, score (k0_pay67 v0) (Kt t) (Ct t) 1 r k = (s t k : EReal))
    (hv : ∀ t, t < (k0_t1_loop i v23).trips → ∀ k, (Vt t (ix2 k q) : EReal) = (v t k : EReal))
    (h0 : RowHolds I10 I11 I12 1 r q (fun _ => 0) 0) (n : ℕ) (hn : n ≤ (k0_t1_loop i v23).trips) :
    RowHolds ((stored 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6 I10 I11 I12 n).1 ++ I10)
      ((stored 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6 I10 I11 I12 n).2.1 ++ I11)
      ((stored 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6 I10 I11 I12 n).2.2 ++ I12) 1 r q
      (fun l => ∑ t ∈ Finset.range n, laneSum (kept (fun _ => True) (s t)) l)
      (∑ t ∈ Finset.range n, ∑ k, kept (fun _ => True) (s t) k * v t k) := by
  induction n with
  | zero => simpa [stored, pb_k0_t1] using h0
  | succ n ih =>
    have ih := ih (by omega)
    have e := pb_k0_t1_succ (F := Ideal) 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6
      (arg10.view.writes (Elt Ideal) arg10.view.junk I10) (arg11.view.writes (Elt Ideal) arg11.view.junk I11)
      (arg12.view.writes (Elt Ideal) arg12.view.junk I12) ⟨n, by omega⟩
    rw [trip (hq := hq _) (hl := hl _)] at e
    simp only [] at e
    have eM : slab (arg11.view.readAt (Elt Ideal) (Rect.unit (s := S2x512x128) ![1, 0, 0] ![1, 512, 128]
        inb_S2x512x128_S1x512x128_1_0_0).toLoadRect (arg11.view.writes (Elt Ideal) (arg11.view.writes (Elt Ideal) arg11.view.junk I11)
          (stored 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6 I10 I11 I12 n).2.1)) r
        = fun l => View.canon ((stored 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6 I10 I11 I12 n).2.1 ++ I11) (ix3 1 r l) :=
      funext fun l => readAt_slab1 _ _ _ r l
    have eL : slab (arg12.view.readAt (Elt Ideal) (Rect.unit (s := S2x512x128) ![1, 0, 0] ![1, 512, 128]
        inb_S2x512x128_S1x512x128_1_0_0).toLoadRect (arg12.view.writes (Elt Ideal) (arg12.view.writes (Elt Ideal) arg12.view.junk I12)
          (stored 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6 I10 I11 I12 n).2.2)) r
        = fun l => View.canon ((stored 𝒱 c bd i arg2 harg2 arg3 harg3 arg4 harg4 arg5 harg5 arg6 harg6 arg7 harg7 arg8 harg8
      arg9 harg9 arg10 harg10 arg11 harg11 arg12 harg12 v0 v23 k0_hw1 X_arg4 X_arg5 X_arg6 I10 I11 I12 n).2.2 ++ I12) (ix3 1 r l) :=
      funext fun l => readAt_slab1 _ _ _ r l
    have step := Holds.step (fun _ => True) (s n) (v n) ih q (score (k0_pay67 v0) (Kt n) (Ct n) 1 r) (fun k => Vt n (ix2 k q))
      ⟨0, trivial⟩ (fun k => by rw [if_pos trivial]; exact hs n (by omega) k) (fun k => hv n (by omega) k)
    rw [← eM, ← eL] at step
    simp only [Finset.sum_range_succ]
    unfold RowHolds stored
    rw [e]
    simp only [List.cons_append, List.nil_append]
    refine holds_congr step (fun l => ?_) (fun l => ?_) ?_
    · rw [canon_slab1, eK, eC, tile_m1]
    · rw [canon_slab1, eK, eC, tile_l1]
    · rw [canon_whole, readAt_whole, eK, eV, eC, tile_o, hsel, hsel]
      rfl

end Cert.Kernel3Ideal.Fwd
-- ==== Proof.FGrid.lean ====
module

public import proofs.«01_k».proof.Proof.Gen.Kernel3Ideal.Skeleton

/-!
# The bounds of the forward kernel's loop and its loads' offsets as numbers

With the table's word 0, query block `qb` runs the loop over the key tiles `0, …, qb - 1`.
-/

@[expose] public section

namespace Cert.Kernel3Ideal.Fwd

open Idealize.ShloMosaic Cert.Kernel3Ideal.Gen

/-- The number of trips before query block `i 1`. -/
theorem trips_one (i : grid0.Coords) (w : BitVec 32) (hw : w = 0#32) : (k0_t1_loop i w).trips = (i 1).val := by
  subst hw
  have h : ∀ b : Fin 32, Scf.trips 0#32 (Scalar.addi 0#32 (Scalar.muli (Scalar.divsi
      (Scalar.subi (BitVec.ofNat 32 b.val) 0#32) 1#32) 1#32)) 1#32 = b.val := by decide +kernel
  exact h (i 1)

/-- The second loop, over what a step other than one would leave, has no trips. -/
theorem trips_two (i : grid0.Coords) (w : BitVec 32) (hw : w = 0#32) : (k0_t2_loop i w).trips = 0 := by
  subst hw
  have h : ∀ b : Fin 32, Scf.trips (Scalar.addi 0#32 (Scalar.muli (Scalar.divsi
      (Scalar.subi (BitVec.ofNat 32 b.val) 0#32) 1#32) 1#32))
      (Scalar.addi 0#32 (Scalar.subi (BitVec.ofNat 32 b.val) 0#32)) 1#32 = 0 := by decide +kernel
  exact h (i 1)

/-- The row trip `k` loads from. -/
theorem off2_row (i : grid0.Coords) (w : BitVec 32) (hw : w = 0#32) (k : Fin (k0_t1_loop i w).trips) :
    k0_off2 i w k = ![512 * k.val, 0] := by
  subst hw
  have h : ∀ k : Fin 32, (Scalar.indexCast (Scalar.muli (Scf.iv 0#32 1#32 k.val) 512#32)).toNat = 512 * k.val := by
    decide +kernel
  have hk : k.val < (i 1).val := lt_of_lt_of_eq k.isLt (trips_one i _ rfl)
  have hb : (i 1).val < 32 := (i 1).isLt
  have := h ⟨k.val, by omega⟩
  show ![_, 0] = _
  exact congrArg (fun n => ![n, 0]) this

/-- The tile of key statistics trip `k` loads. -/
theorem off3_tile (i : grid0.Coords) (w : BitVec 32) (hw : w = 0#32) (k : Fin (k0_t1_loop i w).trips) :
    k0_off3 i w k = ![0, k.val, 0, 0] := by
  subst hw
  have h : ∀ k : Fin 32, (Scalar.indexCast (Scf.iv 0#32 1#32 k.val)).toNat = k.val := by decide +kernel
  have hk : k.val < (i 1).val := lt_of_lt_of_eq k.isLt (trips_one i _ rfl)
  have hb : (i 1).val < 32 := (i 1).isLt
  have := h ⟨k.val, by omega⟩
  show ![0, _, 0, 0] = _
  exact congrArg (fun n => ![0, n, 0, 0]) this

/-- The row the diagonal tile loads from. -/
theorem off6_row (i : grid0.Coords) : k0_off6 i = ![512 * (i 1).val, 0] := by
  have h : ∀ b : Fin 32, (Scalar.indexCast (Scalar.muli (BitVec.ofNat 32 b.val) 512#32)).toNat = 512 * b.val := by
    decide +kernel
  exact congrArg (fun n => ![n, 0]) (h (i 1))

/-- The tile of key statistics of the diagonal. -/
theorem off7_tile (i : grid0.Coords) : k0_off7 i = ![0, (i 1).val, 0, 0] := by
  have h : ∀ b : Fin 32, (Scalar.indexCast (BitVec.ofNat 32 b.val)).toNat = b.val := by decide +kernel
  exact congrArg (fun n => ![0, n, 0, 0]) (h (i 1))

end Cert.Kernel3Ideal.Fwd
-- ==== Proof.FParts.lean ====
module

public import proofs.«01_k».proof.Proof.FLoop
public import proofs.«01_k».proof.Proof.FGrid
public import proofs.«01_k».proof.Proof.Gen.Kernel3Ideal.Frame

/-!
# What one grid point of the forward kernel loads and stores

The tiles of the columns that the trips load, the accumulators' starts, and the accumulators read after the loop.
-/

@[expose] public section

set_option maxRecDepth 16384

noncomputable section

namespace Cert.Kernel3Ideal.Fwd

open Idealize.ShloMosaic Idealize.ShloMosaic.TcCoe Cert.Kernel3Ideal.Gen Idealize.ShloMosaic.Tactic
open Cert.Online

/-- Tile `n` of 512 rows (the tile's number taken modulo 32). -/
def rowsOf (x : Vec Ideal S16384x128 .bf16) (n : ℕ) : FVec Ideal S512x128 .bf16 :=
  fun a => x (ix2 ⟨(512 * n + (a 0).val) % 16384, Nat.mod_lt _ (by decide)⟩ (a 1))

/-- Tile `n` of the key statistics (the tile's number taken modulo 32). -/
def statOf (x : Vec Ideal S1x32x2x512 .f32) (n : ℕ) : FVec Ideal S1x1x2x512 .f32 :=
  fun a => x (ix4 0 ⟨n % 32, Nat.mod_lt _ (by decide)⟩ (a 2) (a 3))

theorem ld_rows (x : Vec Ideal S16384x128 .bf16) (n : ℕ) (o : Fin 2 → ℕ) (ho : o = ![512 * n, 0])
    (h : ∀ a, o a + S512x128.size a ≤ S16384x128.size a) :
    View.ld x (Rect.unit (s := S16384x128) o S512x128.size h) = rowsOf x n := by
  subst ho
  funext a
  refine congrArg x ?_
  have h0 : 512 * n + 512 ≤ 16384 := h 0
  have b0 : (a 0).val < 512 := (a 0).isLt
  show (Rect.unit (s := S16384x128) _ S512x128.size h).emb a = _
  funext d
  match d with
  | 0 => exact Fin.ext (by show 512 * n + 1 * (a 0).val = (512 * n + (a 0).val) % 16384; omega)
  | 1 => exact Fin.ext (by show 0 + 1 * (a 1).val = (a 1).val; omega)

theorem ld_stat (x : Vec Ideal S1x32x2x512 .f32) (n : ℕ) (o : Fin 4 → ℕ) (ho : o = ![0, n, 0, 0])
    (h : ∀ a, o a + S1x1x2x512.size a ≤ S1x32x2x512.size a) :
    View.ld x (Rect.unit (s := S1x32x2x512) o S1x1x2x512.size h) = statOf x n := by
  subst ho
  funext a
  refine congrArg x ?_
  have h0 : n + 1 ≤ 32 := h 1
  have b0 : (a 0).val < 1 := (a 0).isLt
  have b1 : (a 1).val < 1 := (a 1).isLt
  show (Rect.unit (s := S1x32x2x512) _ S1x1x2x512.size h).emb a = _
  funext d
  match d with
  | 0 => exact Fin.ext (by show 0 + 1 * (a 0).val = 0; omega)
  | 1 => exact Fin.ext (by show n + 1 * (a 1).val = n % 32; omega)
  | 2 => exact Fin.ext (by show 0 + 1 * (a 2).val = (a 2).val; omega)
  | 3 => exact Fin.ext (by show 0 + 1 * (a 3).val = (a 3).val; omega)

theorem kT_eq (i : grid0.Coords) (v : Memref sig .tc .vmem S16384x128 .bf16) (hv : v.IsWhole) (w : BitVec 32)
    (hw : w = 0#32) (x : Vec Ideal S16384x128 .bf16) (k : Fin (k0_t1_loop i w).trips)
    (h : ∀ a, k0_off2 i w k a + S512x128.size a ≤ S16384x128.size a) :
    kT (F := Ideal) i v w (hv.unread x) k h = rowsOf x k.val := by
  unfold kT
  rw [View.readAt_eq_ld, hv.read_unread]
  exact ld_rows x _ _ (off2_row i w hw k) h

theorem cT_eq (i : grid0.Coords) (v : Memref sig .tc .vmem S1x32x2x512 .f32) (hv : v.IsWhole) (w : BitVec 32)
    (hw : w = 0#32) (x : Vec Ideal S1x32x2x512 .f32) (k : Fin (k0_t1_loop i w).trips)
    (h : ∀ a, k0_off3 i w k a + S1x1x2x512.size a ≤ S1x32x2x512.size a) :
    cT (F := Ideal) i v w (hv.unread x) k h = statOf x k.val := by
  unfold cT
  rw [View.readAt_eq_ld, hv.read_unread]
  exact ld_stat x _ _ (off3_tile i w hw k) h

/-- No trips, no stores. -/
theorem t2_none (𝒱 : Variants) (c : Dev nD) (bd : Option 𝒱.V) (i : grid0.Coords) (arg2 : Memref sig .tc .smem S8x32 .i32) (harg2 : arg2.IsWhole)
  (arg3 : Memref sig .tc .vmem S512x128 .bf16) (harg3 : arg3.IsWhole)
  (arg4 : Memref sig .tc .vmem S16384x128 .bf16) (harg4 : arg4.IsWhole)
  (arg5 : Memref sig .tc .vmem S16384x128 .bf16) (harg5 : arg5.IsWhole)
  (arg6 : Memref sig .tc .vmem S1x32x2x512 .f32) (harg6 : arg6.IsWhole)
  (arg7 : Memref sig .tc .vmem S512x128 .f32) (harg7 : arg7.IsWhole)
  (arg8 : Memref sig .tc .vmem S1x512x2 .f32) (harg8 : arg8.IsWhole)
  (arg9 : Memref sig .tc .vmem S1x1x2x512 .f32) (harg9 : arg9.IsWhole)
  (arg10 : Memref sig .tc .vmem S512x128 .f32) (harg10 : arg10.IsWhole)
  (arg11 : Memref sig .tc .vmem S2x512x128 .f32) (harg11 : arg11.IsWhole)
  (arg12 : Memref sig .tc .vmem S2x512x128 .f32) (harg12 : arg12.IsWhole)
  (v0 : Vec Ideal S512x128 .bf16) (v23 : Elt Ideal .i32) (k0_hw1 : k0_chk1 i v23) (X_arg4 : BufTy.Contents (Elt Ideal) arg4.view.ty)
  (X_arg5 : BufTy.Contents (Elt Ideal) arg5.view.ty) (X_arg6 : BufTy.Contents (Elt Ideal) arg6.view.ty)
  (v28 : BitVec 32) (G_arg10 : BufTy.Contents (Elt Ideal) arg10.view.ty) (G_arg11 : BufTy.Contents (Elt Ideal) arg11.view.ty)
  (G_arg12 : BufTy.Contents (Elt Ideal) arg12.view.ty) (n : ℕ) (hn : n = 0) :
    pb_k0_t2 (F := Ideal) 𝒱 c bd i arg2 harg2 arg3 harg3 arg4 harg4 arg5 harg5 arg6 harg6 arg7 harg7 arg8 harg8
      arg9 harg9 arg10 harg10 arg11 harg11 arg12 harg12 v0 v23 k0_hw1 v28 X_arg4 X_arg5 X_arg6
      G_arg10 G_arg11 G_arg12 n = ([], [], []) := by
  subst hn
  rfl

/-- Every trip's loads lie in their arrays. -/
theorem off2_fits (i : grid0.Coords) (w : BitVec 32) (hw : w = 0#32) (k : Fin (k0_t1_loop i w).trips) (a : Fin 2) :
    k0_off2 i w k a + S512x128.size a ≤ S16384x128.size a := by
  have hk : k.val < (i 1).val := lt_of_lt_of_eq k.isLt (trips_one i _ hw)
  have hb : (i 1).val < 32 := (i 1).isLt
  rw [off2_row i w hw k]
  match a with
  | 0 => show 512 * k.val + 512 ≤ 16384; omega
  | 1 => show 0 + 128 ≤ 128; omega

theorem off3_fits (i : grid0.Coords) (w : BitVec 32) (hw : w = 0#32) (k : Fin (k0_t1_loop i w).trips) (a : Fin 4) :
    k0_off3 i w k a + S1x1x2x512.size a ≤ S1x32x2x512.size a := by
  have hk : k.val < (i 1).val := lt_of_lt_of_eq k.isLt (trips_one i _ hw)
  have hb : (i 1).val < 32 := (i 1).isLt
  rw [off3_tile i w hw k]
  match a with
  | 0 => show 0 + 1 ≤ 1; omega
  | 1 => show k.val + 1 ≤ 32; omega
  | 2 => show 0 + 2 ≤ 2; omega
  | 3 => show 0 + 512 ≤ 512; omega

/-- A loaded slab of the accumulators. -/
theorem ld_slab0 (X : S2x512x128.Idx → EReal) (r : Fin 512) (l : Fin 128) :
    View.ld (Val := Elt Ideal) (e' := .f32) X (Rect.unit (s := S2x512x128) ![0, 0, 0] ![1, 512, 128]
      inb_S2x512x128_S1x512x128_0_0_0) (ix3 0 r l) = X (ix3 0 r l) := by
  refine congrArg X ?_
  show (Rect.unit (s := S2x512x128) ![0, 0, 0] ![1, 512, 128] inb_S2x512x128_S1x512x128_0_0_0).emb
    (ix3 0 r l : S1x512x128.Idx) = (ix3 0 r l : S2x512x128.Idx)
  blk_ext

theorem ld_slab1 (X : S2x512x128.Idx → EReal) (r : Fin 512) (l : Fin 128) :
    View.ld (Val := Elt Ideal) (e' := .f32) X (Rect.unit (s := S2x512x128) ![1, 0, 0] ![1, 512, 128]
      inb_S2x512x128_S1x512x128_1_0_0) (ix3 0 r l) = X (ix3 1 r l) := by
  refine congrArg X ?_
  show (Rect.unit (s := S2x512x128) ![1, 0, 0] ![1, 512, 128] inb_S2x512x128_S1x512x128_1_0_0).emb
    (ix3 0 r l : S1x512x128.Idx) = (ix3 1 r l : S2x512x128.Idx)
  blk_ext

/-- A load of part of an accumulator after some stores. -/
theorem read_acc (v : Memref sig .tc .vmem S512x128 .f32) (L : List (View.Piece (Elt Ideal) S512x128 .f32))
    (r : Fin 512) (l : Fin 128) :
    v.view.readCov L (Rect.unit (s := S512x128) ![0, 0] ![512, 128] inb_S512x128_S512x128_0_0).toLoadRect (ix2 r l)
      = View.canon L (ix2 r l) := by
  rw [View.readCov_eq_canon']
  refine congrArg (View.canon L) ?_
  show (Rect.unit (s := S512x128) ![0, 0] ![512, 128] inb_S512x128_S512x128_0_0).emb
    (ix2 r l : S512x128.Idx) = (ix2 r l : S512x128.Idx)
  blk_ext

theorem read_slab0 (v : Memref sig .tc .vmem S2x512x128 .f32) (L : List (View.Piece (Elt Ideal) S2x512x128 .f32))
    (r : Fin 512) (l : Fin 128) :
    v.view.readCov L (Rect.unit (s := S2x512x128) ![0, 0, 0] ![1, 512, 128] inb_S2x512x128_S1x512x128_0_0_0).toLoadRect (ix3 0 r l)
      = View.canon L (ix3 0 r l) := by
  rw [View.readCov_eq_canon']
  refine congrArg (View.canon L) ?_
  show (Rect.unit (s := S2x512x128) ![0, 0, 0] ![1, 512, 128] inb_S2x512x128_S1x512x128_0_0_0).emb
    (ix3 0 r l : S1x512x128.Idx) = (ix3 0 r l : S2x512x128.Idx)
  blk_ext

theorem read_slab1 (v : Memref sig .tc .vmem S2x512x128 .f32) (L : List (View.Piece (Elt Ideal) S2x512x128 .f32))
    (r : Fin 512) (l : Fin 128) :
    v.view.readCov L (Rect.unit (s := S2x512x128) ![1, 0, 0] ![1, 512, 128] inb_S2x512x128_S1x512x128_1_0_0).toLoadRect (ix3 0 r l)
      = View.canon L (ix3 1 r l) := by
  rw [View.readCov_eq_canon']
  refine congrArg (View.canon L) ?_
  show (Rect.unit (s := S2x512x128) ![1, 0, 0] ![1, 512, 128] inb_S2x512x128_S1x512x128_1_0_0).emb
    (ix3 0 r l : S1x512x128.Idx) = (ix3 1 r l : S2x512x128.Idx)
  blk_ext

/-- An entry of a store's rectangle, after the store. -/
theorem canon_at {S : Shape} {e : EltTy} (B : Rect S) (w : B.shape.Idx → Elt Ideal e) (L : List (View.Piece (Elt Ideal) S e))
    (x : B.shape.Idx) (y : S.Idx) (h : B.emb x = y) : View.canon (⟨B, w⟩ :: L) y = w x := by
  subst h
  exact View.canon_cons_emb B w L x

/-- A store of all of the accumulators. -/
theorem canon_filled (w : FVec Ideal S2x512x128 .f32) (y : S2x512x128.Idx) :
    View.canon [(⟨Rect.unit (s := S2x512x128) ![0, 0, 0] S2x512x128.size inb_S2x512x128_S2x512x128_0_0_0, w⟩ :
      View.Piece (Elt Ideal) S2x512x128 .f32)] y = w y := by
  refine canon_at (e := .f32) (Rect.unit (s := S2x512x128) ![0, 0, 0] S2x512x128.size inb_S2x512x128_S2x512x128_0_0_0) w [] y y ?_
  refine funext fun (a : Fin 3) => Fin.ext ?_
  match a with
  | 0 => show 0 + 1 * (y 0).val = (y 0).val; omega
  | 1 => show 0 + 1 * (y 1).val = (y 1).val; omega
  | 2 => show 0 + 1 * (y 2).val = (y 2).val; omega

theorem canon_fill (w : FVec Ideal S2x512x128 .f32) (j : Fin 2) (r : Fin 512) (l : Fin 128) :
    View.canon [(⟨Rect.unit (s := S2x512x128) ![0, 0, 0] S2x512x128.size inb_S2x512x128_S2x512x128_0_0_0, w⟩ :
      View.Piece (Elt Ideal) S2x512x128 .f32)] (ix3 j r l) = w (ix3 j r l) :=
  canon_filled w (ix3 j r l)

/-- The accumulators' starts. -/
theorem start_acc (r : Fin 512) (l : Fin 128) : k0_pay70 (F := Ideal) (ix2 r l) = 0 := by
  unfold k0_pay70
  exact Ideal.ofBits_zero_f32

theorem start_sums (j : Fin 2) (r : Fin 512) (l : Fin 128) : k0_pay69 (F := Ideal) (ix3 j r l) = 0 := by
  unfold k0_pay69
  exact Ideal.ofBits_zero_f32

theorem start_maxima (j : Fin 2) (r : Fin 512) (l : Fin 128) : k0_pay68 (F := Ideal) (ix3 j r l) = ⊥ := by
  unfold k0_pay68
  exact Cert.KernelIdeal.Dkv.ofBits_ninf

section
variable (L0 L1 M : FVec Ideal S1x512x128 .f32) (O : FVec Ideal S512x128 .f32) (r : Fin 512) (l : Fin 128)

/-- A row's sum over the lanes. -/
theorem pay108_apply : k0_pay108 L0 (ix2 r 0) = ∑ l, L0 (ix3 0 r l) := by
  unfold k0_pay108
  pointwise

theorem pay109_apply : k0_pay109 L0 (ix2 r 0) = ∑ l, L0 (ix3 0 r l) := by
  unfold k0_pay109
  pointwise

/-- The output: the weighted sum over its head's sum. -/
theorem end_o (B : IVec S512x128 1) : k0_pay110 (F := Ideal) B (k0_pay108 L0) L1 O (ix2 r l)
    = Ideal.div (O (ix2 r l)) (Scalar.select (B (ix2 r l)) (∑ l, L0 (ix3 0 r l)) (∑ l, L1 (ix3 0 r l))) := by
  rw [← pay108_apply, ← pay109_apply]
  unfold k0_pay110
  pointwise

/-- The log-sum of each head: the maximum plus the logarithm of the sum, as a column and as a row. -/
theorem end_col0 : k0_pay112 (k0_pay108 L0) M (ix3 0 r 0) = M (ix3 0 r 0) + Ideal.log (∑ l, L0 (ix3 0 r l)) := by
  rw [← pay108_apply]
  unfold k0_pay112 k0_pay111
  pointwise

theorem end_row0 : k0_pay113 (k0_pay108 L0) M (ix4 0 0 0 r) = M (ix3 0 r 0) + Ideal.log (∑ l, L0 (ix3 0 r l)) := by
  rw [← pay108_apply]
  unfold k0_pay113 k0_pay111
  pointwise

theorem end_col1 : k0_pay1 (k0_pay115 L1 M) (ix3 0 r 0) = M (ix3 0 r 0) + Ideal.log (∑ l, L1 (ix3 0 r l)) := by
  rw [← pay109_apply]
  unfold k0_pay1 k0_pay115 k0_pay114
  pointwise

theorem end_row1 : k0_pay2 (k0_pay114 L1 M) (ix4 0 0 0 r) = M (ix3 0 r 0) + Ideal.log (∑ l, L1 (ix3 0 r l)) := by
  rw [← pay109_apply]
  unfold k0_pay2 k0_pay114
  pointwise

end

end Cert.Kernel3Ideal.Fwd
-- ==== Proof.FBlock.lean ====
module

public import proofs.«01_k».proof.Proof.FParts

/-!
# What one grid point of the forward kernel computes

At query block `qb`, after the key tiles before it and the diagonal tile: the outputs and the log-sums as real numbers, given the
logits as real numbers.
-/

@[expose] public section

set_option maxRecDepth 16384

noncomputable section

namespace Cert.Kernel3Ideal.Fwd

open Idealize.ShloMosaic Idealize.ShloMosaic.TcCoe Cert.Kernel3Ideal.Gen Idealize.ShloMosaic.Tactic
open Cert.Online

/-- The exponentials' sum at a lane, over the tiles before tile `n` and the kept keys of tile `n`. -/
def lastSum (s : ℕ → Fin 512 → ℝ) (n : ℕ) (r : Fin 512) (l : Fin 128) : ℝ :=
  ∑ t ∈ Finset.range n, laneSum (kept (fun _ => True) (s t)) l + laneSum (kept (fun k => k.val ≤ r.val) (s n)) l

/-- The weighted sum over the same keys. -/
def lastAcc (s v : ℕ → Fin 512 → ℝ) (n : ℕ) (r : Fin 512) : ℝ :=
  ∑ t ∈ Finset.range n, ∑ k, kept (fun _ => True) (s t) k * v t k + ∑ k, kept (fun k => k.val ≤ r.val) (s n) k * v n k

theorem holds_same {M L M' L' : Fin 128 → EReal} {A A' : EReal} {z z' : Fin 128 → ℝ} {y y' : ℝ} (h : Holds M L A z y)
    (hM : ∀ l, M' l = M l) (hL : ∀ l, L' l = L l) (hA : A' = A) (hz : z' = z) (hy : y' = y) : Holds M' L' A' z' y' := by
  rw [hz, hy]; exact holds_congr h hM hL hA

section
variable (X0 X1 K V : FVec Ideal S512x128 .bf16) (C : FVec Ideal S1x1x2x512 .f32) (M0 M1 L0 L1 : FVec Ideal S1x512x128 .f32)
  (O : FVec Ideal S512x128 .f32) (r : Fin 512) (q : Fin 128) {z : Fin 128 → ℝ} {y : ℝ} (s v : Fin 512 → ℝ)

theorem scoreD_real (X : FVec Ideal S512x128 .bf16) (j : Fin 2) (hs : ∀ k, score X K C j r k = (s k : EReal)) (k : Fin 512) :
    scoreD X K C j r k = if k.val ≤ r.val then (s k : EReal) else ⊥ := by
  unfold scoreD; rw [hs k]

/-- The output's last step, head 0. -/
theorem point_o0 (hsel : ∀ a b : EReal, Scalar.select (k0_pay64 (ix2 r q)) a b = a)
    (hH : Holds (slab M0 r) (slab L0 r) (O (ix2 r q)) z y) (hs : ∀ k, score X0 K C 0 r k = (s k : EReal))
    (hv : ∀ k, (V (ix2 k q) : EReal) = (v k : EReal)) (hz : 0 < ∑ l, (z l + laneSum (kept (fun k => k.val ≤ r.val) s) l)) :
    k0_pay110 (F := Ideal) k0_pay64 (k0_pay108 (k0_pay90 (k0_pay85 X0 K C M0) (k0_pay86 X0 K C M0) (k0_pay87 X0 K C M0) (k0_pay88 X0 K C M0) (k0_pay89 X0 K C M0) L0))
      (k0_pay105 (k0_pay95 X1 K (k0_pay77 C)) (k0_pay96 X1 K (k0_pay77 C)) (k0_pay97 X1 K (k0_pay77 C)) (k0_pay98 M1)
      (k0_pay99 X1 K (k0_pay77 C) M1) (k0_pay100 X1 K (k0_pay77 C) M1) L1)
      (k0_pay107 k0_pay64 V (k0_pay89 X0 K C M0)
      (k0_pay92 V (k0_pay85 X0 K C M0) (k0_pay86 X0 K C M0) (k0_pay87 X0 K C M0) (k0_pay88 X0 K C M0))
      (k0_pay95 X1 K (k0_pay77 C)) (k0_pay96 X1 K (k0_pay77 C)) (k0_pay97 X1 K (k0_pay77 C)) (k0_pay98 M1)
      (k0_pay99 X1 K (k0_pay77 C) M1) (k0_pay100 X1 K (k0_pay77 C) M1) O) (ix2 r q)
    = ((((y + ∑ k, kept (fun k => k.val ≤ r.val) s k * v k) / ∑ l, (z l + laneSum (kept (fun k => k.val ≤ r.val) s) l) : ℝ)) : EReal) := by
  rw [end_o, diag_o, hsel, hsel, hsel]
  refine Eq.trans ?_ (Holds.quotient (hH.step (fun k => k.val ≤ r.val) s v q (scoreD X0 K C 0 r) (fun k => V (ix2 k q))
    ⟨r, Nat.le_refl _⟩ (scoreD_real K C r s X0 0 hs) hv) hz)
  refine congrArg₂ Ideal.div rfl (Finset.sum_congr rfl fun l _ => diag_l0 ..)

/-- The log-sum's last step, head 0, as a column. -/
theorem point_col0 (hH : ∃ A y, Holds (slab M0 r) (slab L0 r) A z y) (hs : ∀ k, score X0 K C 0 r k = (s k : EReal))
    (hz : 0 < ∑ l, (z l + laneSum (kept (fun k => k.val ≤ r.val) s) l)) :
    k0_pay112 (k0_pay108 (k0_pay90 (k0_pay85 X0 K C M0) (k0_pay86 X0 K C M0) (k0_pay87 X0 K C M0) (k0_pay88 X0 K C M0) (k0_pay89 X0 K C M0) L0)) (k0_pay91 (k0_pay84 X0 K C M0)) (ix3 0 r 0)
    = ((Real.log (∑ l, (z l + laneSum (kept (fun k => k.val ≤ r.val) s) l)) : ℝ) : EReal) := by
  obtain ⟨A, y, hH⟩ := hH
  refine (end_col0 ..).trans (Eq.trans ?_ (Holds.logSum (hH.step (fun k => k.val ≤ r.val) s (fun _ => 0) 0 (scoreD X0 K C 0 r) (fun _ => 0)
    ⟨r, Nat.le_refl _⟩ (scoreD_real K C r s X0 0 hs) fun _ => rfl) hz 0))
  exact congrArg₂ (fun a b : EReal => a + Ideal.log b) (diag_m0 ..) (Finset.sum_congr rfl fun l _ => diag_l0 ..)

/-- The same as a row. -/
theorem point_row0 (hH : ∃ A y, Holds (slab M0 r) (slab L0 r) A z y) (hs : ∀ k, score X0 K C 0 r k = (s k : EReal))
    (hz : 0 < ∑ l, (z l + laneSum (kept (fun k => k.val ≤ r.val) s) l)) :
    k0_pay113 (k0_pay108 (k0_pay90 (k0_pay85 X0 K C M0) (k0_pay86 X0 K C M0) (k0_pay87 X0 K C M0) (k0_pay88 X0 K C M0) (k0_pay89 X0 K C M0) L0)) (k0_pay91 (k0_pay84 X0 K C M0)) (ix4 0 0 0 r)
    = ((Real.log (∑ l, (z l + laneSum (kept (fun k => k.val ≤ r.val) s) l)) : ℝ) : EReal) := by
  obtain ⟨A, y, hH⟩ := hH
  refine (end_row0 ..).trans (Eq.trans ?_ (Holds.logSum (hH.step (fun k => k.val ≤ r.val) s (fun _ => 0) 0 (scoreD X0 K C 0 r) (fun _ => 0)
    ⟨r, Nat.le_refl _⟩ (scoreD_real K C r s X0 0 hs) fun _ => rfl) hz 0))
  exact congrArg₂ (fun a b : EReal => a + Ideal.log b) (diag_m0 ..) (Finset.sum_congr rfl fun l _ => diag_l0 ..)

/-- The output's last step, head 1. -/
theorem point_o1 (hsel : ∀ a b : EReal, Scalar.select (k0_pay64 (ix2 r q)) a b = b)
    (hH : Holds (slab M1 r) (slab L1 r) (O (ix2 r q)) z y) (hs : ∀ k, score X1 K C 1 r k = (s k : EReal))
    (hv : ∀ k, (V (ix2 k q) : EReal) = (v k : EReal)) (hz : 0 < ∑ l, (z l + laneSum (kept (fun k => k.val ≤ r.val) s) l)) :
    k0_pay110 (F := Ideal) k0_pay64 (k0_pay108 (k0_pay90 (k0_pay85 X0 K C M0) (k0_pay86 X0 K C M0) (k0_pay87 X0 K C M0) (k0_pay88 X0 K C M0) (k0_pay89 X0 K C M0) L0))
      (k0_pay105 (k0_pay95 X1 K (k0_pay77 C)) (k0_pay96 X1 K (k0_pay77 C)) (k0_pay97 X1 K (k0_pay77 C)) (k0_pay98 M1)
      (k0_pay99 X1 K (k0_pay77 C) M1) (k0_pay100 X1 K (k0_pay77 C) M1) L1)
      (k0_pay107 k0_pay64 V (k0_pay89 X0 K C M0)
      (k0_pay92 V (k0_pay85 X0 K C M0) (k0_pay86 X0 K C M0) (k0_pay87 X0 K C M0) (k0_pay88 X0 K C M0))
      (k0_pay95 X1 K (k0_pay77 C)) (k0_pay96 X1 K (k0_pay77 C)) (k0_pay97 X1 K (k0_pay77 C)) (k0_pay98 M1)
      (k0_pay99 X1 K (k0_pay77 C) M1) (k0_pay100 X1 K (k0_pay77 C) M1) O) (ix2 r q)
    = ((((y + ∑ k, kept (fun k => k.val ≤ r.val) s k * v k) / ∑ l, (z l + laneSum (kept (fun k => k.val ≤ r.val) s) l) : ℝ)) : EReal) := by
  rw [end_o, diag_o, hsel, hsel, hsel]
  refine Eq.trans ?_ (Holds.quotient (hH.step (fun k => k.val ≤ r.val) s v q (scoreD X1 K C 1 r) (fun k => V (ix2 k q))
    ⟨r, Nat.le_refl _⟩ (scoreD_real K C r s X1 1 hs) hv) hz)
  refine congrArg₂ Ideal.div rfl (Finset.sum_congr rfl fun l _ => diag_l1 ..)

/-- The log-sum's last step, head 1, as a column. -/
theorem point_col1 (hH : ∃ A y, Holds (slab M1 r) (slab L1 r) A z y) (hs : ∀ k, score X1 K C 1 r k = (s k : EReal))
    (hz : 0 < ∑ l, (z l + laneSum (kept (fun k => k.val ≤ r.val) s) l)) :
    k0_pay1 (k0_pay115 (k0_pay105 (k0_pay95 X1 K (k0_pay77 C)) (k0_pay96 X1 K (k0_pay77 C)) (k0_pay97 X1 K (k0_pay77 C)) (k0_pay98 M1)
      (k0_pay99 X1 K (k0_pay77 C) M1) (k0_pay100 X1 K (k0_pay77 C) M1) L1) (k0_pay106 (k0_pay99 X1 K (k0_pay77 C) M1))) (ix3 0 r 0)
    = ((Real.log (∑ l, (z l + laneSum (kept (fun k => k.val ≤ r.val) s) l)) : ℝ) : EReal) := by
  obtain ⟨A, y, hH⟩ := hH
  refine (end_col1 ..).trans (Eq.trans ?_ (Holds.logSum (hH.step (fun k => k.val ≤ r.val) s (fun _ => 0) 0 (scoreD X1 K C 1 r) (fun _ => 0)
    ⟨r, Nat.le_refl _⟩ (scoreD_real K C r s X1 1 hs) fun _ => rfl) hz 0))
  exact congrArg₂ (fun a b : EReal => a + Ideal.log b) (diag_m1 ..) (Finset.sum_congr rfl fun l _ => diag_l1 ..)

/-- The same as a row. -/
theorem point_row1 (hH : ∃ A y, Holds (slab M1 r) (slab L1 r) A z y) (hs : ∀ k, score X1 K C 1 r k = (s k : EReal))
    (hz : 0 < ∑ l, (z l + laneSum (kept (fun k => k.val ≤ r.val) s) l)) :
    k0_pay2 (k0_pay114 (k0_pay105 (k0_pay95 X1 K (k0_pay77 C)) (k0_pay96 X1 K (k0_pay77 C)) (k0_pay97 X1 K (k0_pay77 C)) (k0_pay98 M1)
      (k0_pay99 X1 K (k0_pay77 C) M1) (k0_pay100 X1 K (k0_pay77 C) M1) L1) (k0_pay106 (k0_pay99 X1 K (k0_pay77 C) M1))) (ix4 0 0 0 r)
    = ((Real.log (∑ l, (z l + laneSum (kept (fun k => k.val ≤ r.val) s) l)) : ℝ) : EReal) := by
  obtain ⟨A, y, hH⟩ := hH
  refine (end_row1 ..).trans (Eq.trans ?_ (Holds.logSum (hH.step (fun k => k.val ≤ r.val) s (fun _ => 0) 0 (scoreD X1 K C 1 r) (fun _ => 0)
    ⟨r, Nat.le_refl _⟩ (scoreD_real K C r s X1 1 hs) fun _ => rfl) hz 0))
  exact congrArg₂ (fun a b : EReal => a + Ideal.log b) (diag_m1 ..) (Finset.sum_congr rfl fun l _ => diag_l1 ..)

end

/-- The output's two stores of the log-sums, as columns and as rows. -/
theorem canon_col0 (u w : FVec Ideal S1x512x1 .f32) (r : Fin 512) :
    View.canon [(⟨Rect.unit (s := S1x512x2) ![0, 0, 1] ![1, 512, 1] inb_S1x512x2_S1x512x1_0_0_1, w⟩ :
        View.Piece (Elt Ideal) S1x512x2 .f32),
      (⟨Rect.unit (s := S1x512x2) ![0, 0, 0] ![1, 512, 1] inb_S1x512x2_S1x512x1_0_0_0, u⟩ :
        View.Piece (Elt Ideal) S1x512x2 .f32)] (ix3 0 r 0) = u (ix3 0 r 0) := by
  have h : (ix3 0 r 0 : S1x512x2.Idx) ∉ (Rect.unit (s := S1x512x2) ![0, 0, 1] ![1, 512, 1]
      inb_S1x512x2_S1x512x1_0_0_1).set := fun h => Nat.not_succ_le_zero 0 ((Rect.mem_set_unit.1 h) 2).1
  have e : (Rect.unit (s := S1x512x2) ![0, 0, 0] ![1, 512, 1] inb_S1x512x2_S1x512x1_0_0_0).emb
      (ix3 0 r 0 : S1x512x1.Idx) = (ix3 0 r 0 : S1x512x2.Idx) := by blk_ext
  refine (View.canon_cons_of_not_mem (⟨Rect.unit (s := S1x512x2) ![0, 0, 1] ![1, 512, 1]
    inb_S1x512x2_S1x512x1_0_0_1, w⟩ : View.Piece (Elt Ideal) S1x512x2 .f32) _ h).trans ?_
  exact canon_at _ _ _ _ _ e

theorem canon_col1 (w : FVec Ideal S1x512x1 .f32) (P : List (View.Piece (Elt Ideal) S1x512x2 .f32)) (r : Fin 512) :
    View.canon ((⟨Rect.unit (s := S1x512x2) ![0, 0, 1] ![1, 512, 1] inb_S1x512x2_S1x512x1_0_0_1, w⟩ :
        View.Piece (Elt Ideal) S1x512x2 .f32) :: P) (ix3 0 r 1) = w (ix3 0 r 0) := by
  have e : (Rect.unit (s := S1x512x2) ![0, 0, 1] ![1, 512, 1] inb_S1x512x2_S1x512x1_0_0_1).emb
      (ix3 0 r 0 : S1x512x1.Idx) = (ix3 0 r 1 : S1x512x2.Idx) := by blk_ext
  exact canon_at _ _ _ _ _ e

theorem canon_row0 (u w : FVec Ideal S1x1x1x512 .f32) (r : Fin 512) :
    View.canon [(⟨Rect.unit (s := S1x1x2x512) ![0, 0, 1, 0] ![1, 1, 1, 512] inb_S1x1x2x512_S1x1x1x512_0_0_1_0, w⟩ :
        View.Piece (Elt Ideal) S1x1x2x512 .f32),
      (⟨Rect.unit (s := S1x1x2x512) ![0, 0, 0, 0] ![1, 1, 1, 512] inb_S1x1x2x512_S1x1x1x512_0_0_0_0, u⟩ :
        View.Piece (Elt Ideal) S1x1x2x512 .f32)] (ix4 0 0 0 r) = u (ix4 0 0 0 r) := by
  have h : (ix4 0 0 0 r : S1x1x2x512.Idx) ∉ (Rect.unit (s := S1x1x2x512) ![0, 0, 1, 0] ![1, 1, 1, 512]
      inb_S1x1x2x512_S1x1x1x512_0_0_1_0).set := fun h => Nat.not_succ_le_zero 0 ((Rect.mem_set_unit.1 h) 2).1
  have e : (Rect.unit (s := S1x1x2x512) ![0, 0, 0, 0] ![1, 1, 1, 512] inb_S1x1x2x512_S1x1x1x512_0_0_0_0).emb
      (ix4 0 0 0 r : S1x1x1x512.Idx) = (ix4 0 0 0 r : S1x1x2x512.Idx) := by blk_ext
  refine (View.canon_cons_of_not_mem (⟨Rect.unit (s := S1x1x2x512) ![0, 0, 1, 0] ![1, 1, 1, 512]
    inb_S1x1x2x512_S1x1x1x512_0_0_1_0, w⟩ : View.Piece (Elt Ideal) S1x1x2x512 .f32) _ h).trans ?_
  exact canon_at _ _ _ _ _ e

theorem canon_row1 (w : FVec Ideal S1x1x1x512 .f32) (P : List (View.Piece (Elt Ideal) S1x1x2x512 .f32)) (r : Fin 512) :
    View.canon ((⟨Rect.unit (s := S1x1x2x512) ![0, 0, 1, 0] ![1, 1, 1, 512] inb_S1x1x2x512_S1x1x1x512_0_0_1_0, w⟩ :
        View.Piece (Elt Ideal) S1x1x2x512 .f32) :: P) (ix4 0 0 1 r) = w (ix4 0 0 0 r) := by
  have e : (Rect.unit (s := S1x1x2x512) ![0, 0, 1, 0] ![1, 1, 1, 512] inb_S1x1x2x512_S1x1x1x512_0_0_1_0).emb
      (ix4 0 0 0 r : S1x1x1x512.Idx) = (ix4 0 0 1 r : S1x1x2x512.Idx) := by blk_ext
  exact canon_at _ _ _ _ _ e

set_option maxHeartbeats 4000000 in
/-- The output at one grid point, in a lane of head 0. -/
theorem body_o0 (c : Dev nD) (i : grid0.Coords) (arg3 : Memref sig .tc .vmem S512x128 .bf16) (harg3 : arg3.IsWhole)
  (arg4 : Memref sig .tc .vmem S16384x128 .bf16) (harg4 : arg4.IsWhole)
  (arg5 : Memref sig .tc .vmem S16384x128 .bf16) (harg5 : arg5.IsWhole)
  (arg6 : Memref sig .tc .vmem S1x32x2x512 .f32) (harg6 : arg6.IsWhole)
  (arg7 : Memref sig .tc .vmem S512x128 .f32) (harg7 : arg7.IsWhole)
  (arg8 : Memref sig .tc .vmem S1x512x2 .f32) (harg8 : arg8.IsWhole)
  (arg9 : Memref sig .tc .vmem S1x1x2x512 .f32) (harg9 : arg9.IsWhole)
  (arg10 : Memref sig .tc .vmem S512x128 .f32) (harg10 : arg10.IsWhole)
  (arg11 : Memref sig .tc .vmem S2x512x128 .f32) (harg11 : arg11.IsWhole)
  (arg12 : Memref sig .tc .vmem S2x512x128 .f32) (harg12 : arg12.IsWhole)
    (x0 : Vec Ideal S512x128 .bf16) (x1 x2 : Vec Ideal S16384x128 .bf16) (x3 : Vec Ideal S1x32x2x512 .f32)
    (xt0 : TbBuf0 (F := Ideal) c tbM0_0)
    (k0_hw1 : k0_chk1 i (tbM0_0.view.readAt (Elt Ideal) (Rect.unit (s := S8x32) (k0_off1 i) S1x1.size
      (k0_off1_inb i)).toLoadRect xt0 (Shape.Idx.first (numel1_S1x1.symm ▸ Nat.one_pos))))
    (hW : tbM0_0.view.readAt (Elt Ideal) (Rect.unit (s := S8x32) (k0_off1 i) S1x1.size (k0_off1_inb i)).toLoadRect xt0
      (Shape.Idx.first (numel1_S1x1.symm ▸ Nat.one_pos)) = 0#32) (r : Fin 512) (q : Fin 128)
    (hsel : ∀ a b : EReal, Scalar.select (k0_pay64 (ix2 r q)) a b = a) (s v : ℕ → Fin 512 → ℝ)
    (hs : ∀ t k, score (k0_pay66 x0) (rowsOf x1 t) (statOf x3 t) 0 r k = (s t k : EReal))
    (hv : ∀ t k, (rowsOf x2 t (ix2 k q) : EReal) = (v t k : EReal)) (hz : 0 < ∑ l, lastSum s (i 1).val r l) :
    out0_A_4 c i arg3 harg3 arg4 harg4 arg5 harg5 arg6 harg6 arg7 harg7 arg8 harg8
      arg9 harg9 arg10 harg10 arg11 harg11 arg12 harg12 x0 x1 x2 x3 xt0 k0_hw1 (ix2 r q)
    = ((lastAcc s v (i 1).val r / ∑ l, lastSum s (i 1).val r l : ℝ) : EReal) := by
  have start : RowHolds [⟨Rect.unit (s := S512x128) ![0, 0] ![512, 128] inb_S512x128_S512x128_0_0, k0_pay70 (F := Ideal)⟩]
      [⟨Rect.unit (s := S2x512x128) ![0, 0, 0] ![2, 512, 128] inb_S2x512x128_S2x512x128_0_0_0, k0_pay68 (F := Ideal)⟩]
      [⟨Rect.unit (s := S2x512x128) ![0, 0, 0] ![2, 512, 128] inb_S2x512x128_S2x512x128_0_0_0, k0_pay69 (F := Ideal)⟩] 0 r q (fun _ => 0) 0 :=
    holds_congr Holds.start (fun l => (canon_fill ..).trans (start_maxima 0 r l))
      (fun l => (canon_fill ..).trans (start_sums 0 r l)) ((congrFun (canon_whole (k0_pay70 (F := Ideal)) []) (ix2 r q)).trans (start_acc r q))
  frame_open
  simp (disch := decide) only [↓ View.readCov_skip, ↓ View.readCov_cons_toLoadRect, ↓ View.readCov_fill]
  frame_out
  rw [t2_none]
  rotate_left
  · exact trips_two i _ hW
  rw [ld_rows x1 _ _ (off6_row i), ld_rows x2 _ _ (off6_row i), ld_stat x3 _ _ (off7_tile i)]
  unfold lastSum at hz ⊢
  unfold lastAcc
  refine point_o0 (r := r) (s := s (i 1).val) (v := v (i 1).val) (q := q) (hsel := hsel) (hs := hs _) (hv := hv _) (hz := hz) (hH := ?_) ..
  refine holds_same (loop0 (Kt := fun t => rowsOf x1 t) (Vt := fun t => rowsOf x2 t) (Ct := fun t => statOf x3 t) (r := r) (q := q)
      (hsel := hsel) (hq := off2_fits i _ hW) (hl := off3_fits i _ hW) (eK := fun k => kT_eq i arg4 harg4 _ hW x1 k _)
      (eV := fun k => kT_eq i arg5 harg5 _ hW x2 k _) (eC := fun k => cT_eq i arg6 harg6 _ hW x3 k _) (s := s) (v := v)
      (hs := fun t _ => hs t) (hv := fun t _ => hv t) (h0 := start) (n := _) (hn := Nat.le_refl _) ..)
      (fun l => read_slab0 _ _ r l) (fun l => read_slab0 _ _ r l) (read_acc _ _ r q)
      (funext fun l => Finset.sum_congr (congrArg Finset.range (trips_one i _ hW).symm) fun _ _ => rfl)
      (Finset.sum_congr (congrArg Finset.range (trips_one i _ hW).symm) fun _ _ => rfl)

set_option maxHeartbeats 4000000 in
/-- The log-sums at one grid point, head 0, as a column. -/
theorem body_col0 (c : Dev nD) (i : grid0.Coords) (arg3 : Memref sig .tc .vmem S512x128 .bf16) (harg3 : arg3.IsWhole)
  (arg4 : Memref sig .tc .vmem S16384x128 .bf16) (harg4 : arg4.IsWhole)
  (arg5 : Memref sig .tc .vmem S16384x128 .bf16) (harg5 : arg5.IsWhole)
  (arg6 : Memref sig .tc .vmem S1x32x2x512 .f32) (harg6 : arg6.IsWhole)
  (arg7 : Memref sig .tc .vmem S512x128 .f32) (harg7 : arg7.IsWhole)
  (arg8 : Memref sig .tc .vmem S1x512x2 .f32) (harg8 : arg8.IsWhole)
  (arg9 : Memref sig .tc .vmem S1x1x2x512 .f32) (harg9 : arg9.IsWhole)
  (arg10 : Memref sig .tc .vmem S512x128 .f32) (harg10 : arg10.IsWhole)
  (arg11 : Memref sig .tc .vmem S2x512x128 .f32) (harg11 : arg11.IsWhole)
  (arg12 : Memref sig .tc .vmem S2x512x128 .f32) (harg12 : arg12.IsWhole)
    (x0 : Vec Ideal S512x128 .bf16) (x1 x2 : Vec Ideal S16384x128 .bf16) (x3 : Vec Ideal S1x32x2x512 .f32)
    (xt0 : TbBuf0 (F := Ideal) c tbM0_0)
    (k0_hw1 : k0_chk1 i (tbM0_0.view.readAt (Elt Ideal) (Rect.unit (s := S8x32) (k0_off1 i) S1x1.size
      (k0_off1_inb i)).toLoadRect xt0 (Shape.Idx.first (numel1_S1x1.symm ▸ Nat.one_pos))))
    (hW : tbM0_0.view.readAt (Elt Ideal) (Rect.unit (s := S8x32) (k0_off1 i) S1x1.size (k0_off1_inb i)).toLoadRect xt0
      (Shape.Idx.first (numel1_S1x1.symm ▸ Nat.one_pos)) = 0#32) (r : Fin 512) (q : Fin 128)
    (hsel : ∀ a b : EReal, Scalar.select (k0_pay64 (ix2 r q)) a b = a) (s v : ℕ → Fin 512 → ℝ)
    (hs : ∀ t k, score (k0_pay66 x0) (rowsOf x1 t) (statOf x3 t) 0 r k = (s t k : EReal))
    (hv : ∀ t k, (rowsOf x2 t (ix2 k q) : EReal) = (v t k : EReal)) (hz : 0 < ∑ l, lastSum s (i 1).val r l) :
    out0_A_5 c i arg3 harg3 arg4 harg4 arg5 harg5 arg6 harg6 arg7 harg7 arg8 harg8
      arg9 harg9 arg10 harg10 arg11 harg11 arg12 harg12 x0 x1 x2 x3 xt0 k0_hw1 (ix3 0 r 0)
    = ((Real.log (∑ l, lastSum s (i 1).val r l) : ℝ) : EReal) := by
  have start : RowHolds [⟨Rect.unit (s := S512x128) ![0, 0] ![512, 128] inb_S512x128_S512x128_0_0, k0_pay70 (F := Ideal)⟩]
      [⟨Rect.unit (s := S2x512x128) ![0, 0, 0] ![2, 512, 128] inb_S2x512x128_S2x512x128_0_0_0, k0_pay68 (F := Ideal)⟩]
      [⟨Rect.unit (s := S2x512x128) ![0, 0, 0] ![2, 512, 128] inb_S2x512x128_S2x512x128_0_0_0, k0_pay69 (F := Ideal)⟩] 0 r q (fun _ => 0) 0 :=
    holds_congr Holds.start (fun l => (canon_fill ..).trans (start_maxima 0 r l))
      (fun l => (canon_fill ..).trans (start_sums 0 r l)) ((congrFun (canon_whole (k0_pay70 (F := Ideal)) []) (ix2 r q)).trans (start_acc r q))
  frame_open
  simp (disch := decide) only [↓ View.readCov_skip, ↓ View.readCov_cons_toLoadRect, ↓ View.readCov_fill]
  frame_out
  rw [t2_none]
  rotate_left
  · exact trips_two i _ hW
  rw [ld_rows x1 _ _ (off6_row i), ld_stat x3 _ _ (off7_tile i)]
  refine (canon_col0 ..).trans ?_
  unfold lastSum at hz ⊢
  skip
  refine point_col0 (r := r) (s := s (i 1).val) (hs := hs _) (hz := hz) (hH := ?_) ..
  refine ⟨_, _, holds_same (loop0 (Kt := fun t => rowsOf x1 t) (Vt := fun t => rowsOf x2 t) (Ct := fun t => statOf x3 t) (r := r) (q := q)
      (hsel := hsel) (hq := off2_fits i _ hW) (hl := off3_fits i _ hW) (eK := fun k => kT_eq i arg4 harg4 _ hW x1 k _)
      (eV := fun k => kT_eq i arg5 harg5 _ hW x2 k _) (eC := fun k => cT_eq i arg6 harg6 _ hW x3 k _) (s := s) (v := v)
      (hs := fun t _ => hs t) (hv := fun t _ => hv t) (h0 := start) (n := _) (hn := Nat.le_refl _) ..)
      (fun l => read_slab0 _ _ r l) (fun l => read_slab0 _ _ r l) rfl
      (funext fun l => Finset.sum_congr (congrArg Finset.range (trips_one i _ hW).symm) fun _ _ => rfl)
      rfl⟩

set_option maxHeartbeats 4000000 in
/-- The log-sums at one grid point, head 0, as a row. -/
theorem body_row0 (c : Dev nD) (i : grid0.Coords) (arg3 : Memref sig .tc .vmem S512x128 .bf16) (harg3 : arg3.IsWhole)
  (arg4 : Memref sig .tc .vmem S16384x128 .bf16) (harg4 : arg4.IsWhole)
  (arg5 : Memref sig .tc .vmem S16384x128 .bf16) (harg5 : arg5.IsWhole)
  (arg6 : Memref sig .tc .vmem S1x32x2x512 .f32) (harg6 : arg6.IsWhole)
  (arg7 : Memref sig .tc .vmem S512x128 .f32) (harg7 : arg7.IsWhole)
  (arg8 : Memref sig .tc .vmem S1x512x2 .f32) (harg8 : arg8.IsWhole)
  (arg9 : Memref sig .tc .vmem S1x1x2x512 .f32) (harg9 : arg9.IsWhole)
  (arg10 : Memref sig .tc .vmem S512x128 .f32) (harg10 : arg10.IsWhole)
  (arg11 : Memref sig .tc .vmem S2x512x128 .f32) (harg11 : arg11.IsWhole)
  (arg12 : Memref sig .tc .vmem S2x512x128 .f32) (harg12 : arg12.IsWhole)
    (x0 : Vec Ideal S512x128 .bf16) (x1 x2 : Vec Ideal S16384x128 .bf16) (x3 : Vec Ideal S1x32x2x512 .f32)
    (xt0 : TbBuf0 (F := Ideal) c tbM0_0)
    (k0_hw1 : k0_chk1 i (tbM0_0.view.readAt (Elt Ideal) (Rect.unit (s := S8x32) (k0_off1 i) S1x1.size
      (k0_off1_inb i)).toLoadRect xt0 (Shape.Idx.first (numel1_S1x1.symm ▸ Nat.one_pos))))
    (hW : tbM0_0.view.readAt (Elt Ideal) (Rect.unit (s := S8x32) (k0_off1 i) S1x1.size (k0_off1_inb i)).toLoadRect xt0
      (Shape.Idx.first (numel1_S1x1.symm ▸ Nat.one_pos)) = 0#32) (r : Fin 512) (q : Fin 128)
    (hsel : ∀ a b : EReal, Scalar.select (k0_pay64 (ix2 r q)) a b = a) (s v : ℕ → Fin 512 → ℝ)
    (hs : ∀ t k, score (k0_pay66 x0) (rowsOf x1 t) (statOf x3 t) 0 r k = (s t k : EReal))
    (hv : ∀ t k, (rowsOf x2 t (ix2 k q) : EReal) = (v t k : EReal)) (hz : 0 < ∑ l, lastSum s (i 1).val r l) :
    out0_A_6 c i arg3 harg3 arg4 harg4 arg5 harg5 arg6 harg6 arg7 harg7 arg8 harg8
      arg9 harg9 arg10 harg10 arg11 harg11 arg12 harg12 x0 x1 x2 x3 xt0 k0_hw1 (ix4 0 0 0 r)
    = ((Real.log (∑ l, lastSum s (i 1).val r l) : ℝ) : EReal) := by
  have start : RowHolds [⟨Rect.unit (s := S512x128) ![0, 0] ![512, 128] inb_S512x128_S512x128_0_0, k0_pay70 (F := Ideal)⟩]
      [⟨Rect.unit (s := S2x512x128) ![0, 0, 0] ![2, 512, 128] inb_S2x512x128_S2x512x128_0_0_0, k0_pay68 (F := Ideal)⟩]
      [⟨Rect.unit (s := S2x512x128) ![0, 0, 0] ![2, 512, 128] inb_S2x512x128_S2x512x128_0_0_0, k0_pay69 (F := Ideal)⟩] 0 r q (fun _ => 0) 0 :=
    holds_congr Holds.start (fun l => (canon_fill ..).trans (start_maxima 0 r l))
      (fun l => (canon_fill ..).trans (start_sums 0 r l)) ((congrFun (canon_whole (k0_pay70 (F := Ideal)) []) (ix2 r q)).trans (start_acc r q))
  frame_open
  simp (disch := decide) only [↓ View.readCov_skip, ↓ View.readCov_cons_toLoadRect, ↓ View.readCov_fill]
  frame_out
  rw [t2_none]
  rotate_left
  · exact trips_two i _ hW
  rw [ld_rows x1 _ _ (off6_row i), ld_stat x3 _ _ (off7_tile i)]
  refine (canon_row0 ..).trans ?_
  unfold lastSum at hz ⊢
  skip
  refine point_row0 (r := r) (s := s (i 1).val) (hs := hs _) (hz := hz) (hH := ?_) ..
  refine ⟨_, _, holds_same (loop0 (Kt := fun t => rowsOf x1 t) (Vt := fun t => rowsOf x2 t) (Ct := fun t => statOf x3 t) (r := r) (q := q)
      (hsel := hsel) (hq := off2_fits i _ hW) (hl := off3_fits i _ hW) (eK := fun k => kT_eq i arg4 harg4 _ hW x1 k _)
      (eV := fun k => kT_eq i arg5 harg5 _ hW x2 k _) (eC := fun k => cT_eq i arg6 harg6 _ hW x3 k _) (s := s) (v := v)
      (hs := fun t _ => hs t) (hv := fun t _ => hv t) (h0 := start) (n := _) (hn := Nat.le_refl _) ..)
      (fun l => read_slab0 _ _ r l) (fun l => read_slab0 _ _ r l) rfl
      (funext fun l => Finset.sum_congr (congrArg Finset.range (trips_one i _ hW).symm) fun _ _ => rfl)
      rfl⟩

set_option maxHeartbeats 4000000 in
/-- The output at one grid point, in a lane of head 1. -/
theorem body_o1 (c : Dev nD) (i : grid0.Coords) (arg3 : Memref sig .tc .vmem S512x128 .bf16) (harg3 : arg3.IsWhole)
  (arg4 : Memref sig .tc .vmem S16384x128 .bf16) (harg4 : arg4.IsWhole)
  (arg5 : Memref sig .tc .vmem S16384x128 .bf16) (harg5 : arg5.IsWhole)
  (arg6 : Memref sig .tc .vmem S1x32x2x512 .f32) (harg6 : arg6.IsWhole)
  (arg7 : Memref sig .tc .vmem S512x128 .f32) (harg7 : arg7.IsWhole)
  (arg8 : Memref sig .tc .vmem S1x512x2 .f32) (harg8 : arg8.IsWhole)
  (arg9 : Memref sig .tc .vmem S1x1x2x512 .f32) (harg9 : arg9.IsWhole)
  (arg10 : Memref sig .tc .vmem S512x128 .f32) (harg10 : arg10.IsWhole)
  (arg11 : Memref sig .tc .vmem S2x512x128 .f32) (harg11 : arg11.IsWhole)
  (arg12 : Memref sig .tc .vmem S2x512x128 .f32) (harg12 : arg12.IsWhole)
    (x0 : Vec Ideal S512x128 .bf16) (x1 x2 : Vec Ideal S16384x128 .bf16) (x3 : Vec Ideal S1x32x2x512 .f32)
    (xt0 : TbBuf0 (F := Ideal) c tbM0_0)
    (k0_hw1 : k0_chk1 i (tbM0_0.view.readAt (Elt Ideal) (Rect.unit (s := S8x32) (k0_off1 i) S1x1.size
      (k0_off1_inb i)).toLoadRect xt0 (Shape.Idx.first (numel1_S1x1.symm ▸ Nat.one_pos))))
    (hW : tbM0_0.view.readAt (Elt Ideal) (Rect.unit (s := S8x32) (k0_off1 i) S1x1.size (k0_off1_inb i)).toLoadRect xt0
      (Shape.Idx.first (numel1_S1x1.symm ▸ Nat.one_pos)) = 0#32) (r : Fin 512) (q : Fin 128)
    (hsel : ∀ a b : EReal, Scalar.select (k0_pay64 (ix2 r q)) a b = b) (s v : ℕ → Fin 512 → ℝ)
    (hs : ∀ t k, score (k0_pay67 x0) (rowsOf x1 t) (statOf x3 t) 1 r k = (s t k : EReal))
    (hv : ∀ t k, (rowsOf x2 t (ix2 k q) : EReal) = (v t k : EReal)) (hz : 0 < ∑ l, lastSum s (i 1).val r l) :
    out0_A_4 c i arg3 harg3 arg4 harg4 arg5 harg5 arg6 harg6 arg7 harg7 arg8 harg8
      arg9 harg9 arg10 harg10 arg11 harg11 arg12 harg12 x0 x1 x2 x3 xt0 k0_hw1 (ix2 r q)
    = ((lastAcc s v (i 1).val r / ∑ l, lastSum s (i 1).val r l : ℝ) : EReal) := by
  have start : RowHolds [⟨Rect.unit (s := S512x128) ![0, 0] ![512, 128] inb_S512x128_S512x128_0_0, k0_pay70 (F := Ideal)⟩]
      [⟨Rect.unit (s := S2x512x128) ![0, 0, 0] ![2, 512, 128] inb_S2x512x128_S2x512x128_0_0_0, k0_pay68 (F := Ideal)⟩]
      [⟨Rect.unit (s := S2x512x128) ![0, 0, 0] ![2, 512, 128] inb_S2x512x128_S2x512x128_0_0_0, k0_pay69 (F := Ideal)⟩] 1 r q (fun _ => 0) 0 :=
    holds_congr Holds.start (fun l => (canon_fill ..).trans (start_maxima 1 r l))
      (fun l => (canon_fill ..).trans (start_sums 1 r l)) ((congrFun (canon_whole (k0_pay70 (F := Ideal)) []) (ix2 r q)).trans (start_acc r q))
  frame_open
  simp (disch := decide) only [↓ View.readCov_skip, ↓ View.readCov_cons_toLoadRect, ↓ View.readCov_fill]
  frame_out
  rw [t2_none]
  rotate_left
  · exact trips_two i _ hW
  rw [ld_rows x1 _ _ (off6_row i), ld_rows x2 _ _ (off6_row i), ld_stat x3 _ _ (off7_tile i)]
  unfold lastSum at hz ⊢
  unfold lastAcc
  refine point_o1 (r := r) (s := s (i 1).val) (v := v (i 1).val) (q := q) (hsel := hsel) (hs := hs _) (hv := hv _) (hz := hz) (hH := ?_) ..
  refine holds_same (loop1 (Kt := fun t => rowsOf x1 t) (Vt := fun t => rowsOf x2 t) (Ct := fun t => statOf x3 t) (r := r) (q := q)
      (hsel := hsel) (hq := off2_fits i _ hW) (hl := off3_fits i _ hW) (eK := fun k => kT_eq i arg4 harg4 _ hW x1 k _)
      (eV := fun k => kT_eq i arg5 harg5 _ hW x2 k _) (eC := fun k => cT_eq i arg6 harg6 _ hW x3 k _) (s := s) (v := v)
      (hs := fun t _ => hs t) (hv := fun t _ => hv t) (h0 := start) (n := _) (hn := Nat.le_refl _) ..)
      (fun l => read_slab1 _ _ r l) (fun l => read_slab1 _ _ r l) (read_acc _ _ r q)
      (funext fun l => Finset.sum_congr (congrArg Finset.range (trips_one i _ hW).symm) fun _ _ => rfl)
      (Finset.sum_congr (congrArg Finset.range (trips_one i _ hW).symm) fun _ _ => rfl)

set_option maxHeartbeats 4000000 in
/-- The log-sums at one grid point, head 1, as a column. -/
theorem body_col1 (c : Dev nD) (i : grid0.Coords) (arg3 : Memref sig .tc .vmem S512x128 .bf16) (harg3 : arg3.IsWhole)
  (arg4 : Memref sig .tc .vmem S16384x128 .bf16) (harg4 : arg4.IsWhole)
  (arg5 : Memref sig .tc .vmem S16384x128 .bf16) (harg5 : arg5.IsWhole)
  (arg6 : Memref sig .tc .vmem S1x32x2x512 .f32) (harg6 : arg6.IsWhole)
  (arg7 : Memref sig .tc .vmem S512x128 .f32) (harg7 : arg7.IsWhole)
  (arg8 : Memref sig .tc .vmem S1x512x2 .f32) (harg8 : arg8.IsWhole)
  (arg9 : Memref sig .tc .vmem S1x1x2x512 .f32) (harg9 : arg9.IsWhole)
  (arg10 : Memref sig .tc .vmem S512x128 .f32) (harg10 : arg10.IsWhole)
  (arg11 : Memref sig .tc .vmem S2x512x128 .f32) (harg11 : arg11.IsWhole)
  (arg12 : Memref sig .tc .vmem S2x512x128 .f32) (harg12 : arg12.IsWhole)
    (x0 : Vec Ideal S512x128 .bf16) (x1 x2 : Vec Ideal S16384x128 .bf16) (x3 : Vec Ideal S1x32x2x512 .f32)
    (xt0 : TbBuf0 (F := Ideal) c tbM0_0)
    (k0_hw1 : k0_chk1 i (tbM0_0.view.readAt (Elt Ideal) (Rect.unit (s := S8x32) (k0_off1 i) S1x1.size
      (k0_off1_inb i)).toLoadRect xt0 (Shape.Idx.first (numel1_S1x1.symm ▸ Nat.one_pos))))
    (hW : tbM0_0.view.readAt (Elt Ideal) (Rect.unit (s := S8x32) (k0_off1 i) S1x1.size (k0_off1_inb i)).toLoadRect xt0
      (Shape.Idx.first (numel1_S1x1.symm ▸ Nat.one_pos)) = 0#32) (r : Fin 512) (q : Fin 128)
    (hsel : ∀ a b : EReal, Scalar.select (k0_pay64 (ix2 r q)) a b = b) (s v : ℕ → Fin 512 → ℝ)
    (hs : ∀ t k, score (k0_pay67 x0) (rowsOf x1 t) (statOf x3 t) 1 r k = (s t k : EReal))
    (hv : ∀ t k, (rowsOf x2 t (ix2 k q) : EReal) = (v t k : EReal)) (hz : 0 < ∑ l, lastSum s (i 1).val r l) :
    out0_A_5 c i arg3 harg3 arg4 harg4 arg5 harg5 arg6 harg6 arg7 harg7 arg8 harg8
      arg9 harg9 arg10 harg10 arg11 harg11 arg12 harg12 x0 x1 x2 x3 xt0 k0_hw1 (ix3 0 r 1)
    = ((Real.log (∑ l, lastSum s (i 1).val r l) : ℝ) : EReal) := by
  have start : RowHolds [⟨Rect.unit (s := S512x128) ![0, 0] ![512, 128] inb_S512x128_S512x128_0_0, k0_pay70 (F := Ideal)⟩]
      [⟨Rect.unit (s := S2x512x128) ![0, 0, 0] ![2, 512, 128] inb_S2x512x128_S2x512x128_0_0_0, k0_pay68 (F := Ideal)⟩]
      [⟨Rect.unit (s := S2x512x128) ![0, 0, 0] ![2, 512, 128] inb_S2x512x128_S2x512x128_0_0_0, k0_pay69 (F := Ideal)⟩] 1 r q (fun _ => 0) 0 :=
    holds_congr Holds.start (fun l => (canon_fill ..).trans (start_maxima 1 r l))
      (fun l => (canon_fill ..).trans (start_sums 1 r l)) ((congrFun (canon_whole (k0_pay70 (F := Ideal)) []) (ix2 r q)).trans (start_acc r q))
  frame_open
  simp (disch := decide) only [↓ View.readCov_skip, ↓ View.readCov_cons_toLoadRect, ↓ View.readCov_fill]
  frame_out
  rw [t2_none]
  rotate_left
  · exact trips_two i _ hW
  rw [ld_rows x1 _ _ (off6_row i), ld_stat x3 _ _ (off7_tile i)]
  refine (canon_col1 ..).trans ?_
  unfold lastSum at hz ⊢
  skip
  refine point_col1 (r := r) (s := s (i 1).val) (hs := hs _) (hz := hz) (hH := ?_) ..
  refine ⟨_, _, holds_same (loop1 (Kt := fun t => rowsOf x1 t) (Vt := fun t => rowsOf x2 t) (Ct := fun t => statOf x3 t) (r := r) (q := q)
      (hsel := hsel) (hq := off2_fits i _ hW) (hl := off3_fits i _ hW) (eK := fun k => kT_eq i arg4 harg4 _ hW x1 k _)
      (eV := fun k => kT_eq i arg5 harg5 _ hW x2 k _) (eC := fun k => cT_eq i arg6 harg6 _ hW x3 k _) (s := s) (v := v)
      (hs := fun t _ => hs t) (hv := fun t _ => hv t) (h0 := start) (n := _) (hn := Nat.le_refl _) ..)
      (fun l => read_slab1 _ _ r l) (fun l => read_slab1 _ _ r l) rfl
      (funext fun l => Finset.sum_congr (congrArg Finset.range (trips_one i _ hW).symm) fun _ _ => rfl)
      rfl⟩

set_option maxHeartbeats 4000000 in
/-- The log-sums at one grid point, head 1, as a row. -/
theorem body_row1 (c : Dev nD) (i : grid0.Coords) (arg3 : Memref sig .tc .vmem S512x128 .bf16) (harg3 : arg3.IsWhole)
  (arg4 : Memref sig .tc .vmem S16384x128 .bf16) (harg4 : arg4.IsWhole)
  (arg5 : Memref sig .tc .vmem S16384x128 .bf16) (harg5 : arg5.IsWhole)
  (arg6 : Memref sig .tc .vmem S1x32x2x512 .f32) (harg6 : arg6.IsWhole)
  (arg7 : Memref sig .tc .vmem S512x128 .f32) (harg7 : arg7.IsWhole)
  (arg8 : Memref sig .tc .vmem S1x512x2 .f32) (harg8 : arg8.IsWhole)
  (arg9 : Memref sig .tc .vmem S1x1x2x512 .f32) (harg9 : arg9.IsWhole)
  (arg10 : Memref sig .tc .vmem S512x128 .f32) (harg10 : arg10.IsWhole)
  (arg11 : Memref sig .tc .vmem S2x512x128 .f32) (harg11 : arg11.IsWhole)
  (arg12 : Memref sig .tc .vmem S2x512x128 .f32) (harg12 : arg12.IsWhole)
    (x0 : Vec Ideal S512x128 .bf16) (x1 x2 : Vec Ideal S16384x128 .bf16) (x3 : Vec Ideal S1x32x2x512 .f32)
    (xt0 : TbBuf0 (F := Ideal) c tbM0_0)
    (k0_hw1 : k0_chk1 i (tbM0_0.view.readAt (Elt Ideal) (Rect.unit (s := S8x32) (k0_off1 i) S1x1.size
      (k0_off1_inb i)).toLoadRect xt0 (Shape.Idx.first (numel1_S1x1.symm ▸ Nat.one_pos))))
    (hW : tbM0_0.view.readAt (Elt Ideal) (Rect.unit (s := S8x32) (k0_off1 i) S1x1.size (k0_off1_inb i)).toLoadRect xt0
      (Shape.Idx.first (numel1_S1x1.symm ▸ Nat.one_pos)) = 0#32) (r : Fin 512) (q : Fin 128)
    (hsel : ∀ a b : EReal, Scalar.select (k0_pay64 (ix2 r q)) a b = b) (s v : ℕ → Fin 512 → ℝ)
    (hs : ∀ t k, score (k0_pay67 x0) (rowsOf x1 t) (statOf x3 t) 1 r k = (s t k : EReal))
    (hv : ∀ t k, (rowsOf x2 t (ix2 k q) : EReal) = (v t k : EReal)) (hz : 0 < ∑ l, lastSum s (i 1).val r l) :
    out0_A_6 c i arg3 harg3 arg4 harg4 arg5 harg5 arg6 harg6 arg7 harg7 arg8 harg8
      arg9 harg9 arg10 harg10 arg11 harg11 arg12 harg12 x0 x1 x2 x3 xt0 k0_hw1 (ix4 0 0 1 r)
    = ((Real.log (∑ l, lastSum s (i 1).val r l) : ℝ) : EReal) := by
  have start : RowHolds [⟨Rect.unit (s := S512x128) ![0, 0] ![512, 128] inb_S512x128_S512x128_0_0, k0_pay70 (F := Ideal)⟩]
      [⟨Rect.unit (s := S2x512x128) ![0, 0, 0] ![2, 512, 128] inb_S2x512x128_S2x512x128_0_0_0, k0_pay68 (F := Ideal)⟩]
      [⟨Rect.unit (s := S2x512x128) ![0, 0, 0] ![2, 512, 128] inb_S2x512x128_S2x512x128_0_0_0, k0_pay69 (F := Ideal)⟩] 1 r q (fun _ => 0) 0 :=
    holds_congr Holds.start (fun l => (canon_fill ..).trans (start_maxima 1 r l))
      (fun l => (canon_fill ..).trans (start_sums 1 r l)) ((congrFun (canon_whole (k0_pay70 (F := Ideal)) []) (ix2 r q)).trans (start_acc r q))
  frame_open
  simp (disch := decide) only [↓ View.readCov_skip, ↓ View.readCov_cons_toLoadRect, ↓ View.readCov_fill]
  frame_out
  rw [t2_none]
  rotate_left
  · exact trips_two i _ hW
  rw [ld_rows x1 _ _ (off6_row i), ld_stat x3 _ _ (off7_tile i)]
  refine (canon_row1 ..).trans ?_
  unfold lastSum at hz ⊢
  skip
  refine point_row1 (r := r) (s := s (i 1).val) (hs := hs _) (hz := hz) (hH := ?_) ..
  refine ⟨_, _, holds_same (loop1 (Kt := fun t => rowsOf x1 t) (Vt := fun t => rowsOf x2 t) (Ct := fun t => statOf x3 t) (r := r) (q := q)
      (hsel := hsel) (hq := off2_fits i _ hW) (hl := off3_fits i _ hW) (eK := fun k => kT_eq i arg4 harg4 _ hW x1 k _)
      (eV := fun k => kT_eq i arg5 harg5 _ hW x2 k _) (eC := fun k => cT_eq i arg6 harg6 _ hW x3 k _) (s := s) (v := v)
      (hs := fun t _ => hs t) (hv := fun t _ => hv t) (h0 := start) (n := _) (hn := Nat.le_refl _) ..)
      (fun l => read_slab1 _ _ r l) (fun l => read_slab1 _ _ r l) rfl
      (funext fun l => Finset.sum_congr (congrArg Finset.range (trips_one i _ hW).symm) fun _ _ => rfl)
      rfl⟩

end Cert.Kernel3Ideal.Fwd
-- ==== Proof.FPoint.lean ====
module

public import proofs.«01_k».proof.Proof.FBlock
public import proofs.«01_k».proof.Proof.Point
public import proofs.«01_k».proof.Proof.Places
public import proofs.«01_k».proof.Proof.Model

/-!
# One grid point of the forward kernel, by heads

The masked products are sums over a head's own lanes; the tiles' sums are one sum over the keys up to the query; the point's three
results are the attention's output and log-sums, as real numbers.
-/

@[expose] public section

set_option maxRecDepth 16384

noncomputable section

namespace Cert.Kernel3Ideal.Fwd

open Idealize.ShloMosaic Idealize.ShloMosaic.TcCoe Cert.Kernel3Ideal.Gen Idealize.ShloMosaic.Tactic
open Cert.Online Cert.Model Cert.Softmax
open Cert.KernelIdeal.Dkv (laneOf eighth select_lane sum_lanes headDot lane_lt lane_ge qRow qTile qLane row qCol kCol vCol)

theorem select_pay64 (r : Fin 512) (l : Fin 128) (a b : EReal) :
    Scalar.select (k0_pay64 (ix2 r l)) a b = if l.val < 64 then a else b := by
  rw [← select_lane]
  unfold k0_pay64
  pointwise

theorem pay66_apply (x : Vec Ideal S512x128 .bf16) (r : Fin 512) (l : Fin 128) :
    (k0_pay66 (F := Ideal) x (ix2 r l) : EReal) = if l.val < 64 then x (ix2 r l) * eighth else 0 := by
  rw [← select_lane]
  unfold_payloads
  pointwise

theorem pay67_apply (x : Vec Ideal S512x128 .bf16) (r : Fin 512) (l : Fin 128) :
    (k0_pay67 (F := Ideal) x (ix2 r l) : EReal) = if l.val < 64 then 0 else x (ix2 r l) * eighth := by
  rw [← select_lane]
  unfold_payloads
  pointwise

/-- A masked row's product with a key is a sum over the head's own lanes. -/
theorem dot_66 (x : Vec Ideal S512x128 .bf16) (K : FVec Ideal S512x128 .bf16) (r k : Fin 512) :
    dot (k0_pay66 (F := Ideal) x) K r k = headDot 0 (fun l => x (ix2 r l) * eighth) (fun l => K (ix2 k l)) := by
  unfold dot headDot
  rw [sum_lanes]
  simp only [pay66_apply, if_pos (lane_lt _), if_neg (lane_ge _), zero_mul, Finset.sum_const_zero, add_zero]

theorem dot_67 (x : Vec Ideal S512x128 .bf16) (K : FVec Ideal S512x128 .bf16) (r k : Fin 512) :
    dot (k0_pay67 (F := Ideal) x) K r k = headDot 1 (fun l => x (ix2 r l) * eighth) (fun l => K (ix2 k l)) := by
  unfold dot headDot
  rw [sum_lanes]
  simp only [pay67_apply, if_pos (lane_lt _), if_neg (lane_ge _), zero_mul, Finset.sum_const_zero, zero_add]

/-- The lanes' sums of a row of 512 are the row's sum. -/
theorem sum_laneSum (f : Fin 512 → ℝ) : ∑ l, laneSum f l = ∑ k, f k := by
  have h := Cert.KernelIdeal.Dkv.sum_blocks fun k => (f k : EReal)
  have e : ∀ l, Cert.KernelIdeal.Dkv.lanes (fun k => (f k : EReal)) l = ((laneSum f l : ℝ) : EReal) := fun l => lanes_coe f l
  rw [Finset.sum_congr rfl fun l _ => e l, coe_sum, coe_sum] at h
  exact EReal.coe_injective h

/-- The tiles' sums as one sum: the earlier tiles' keys, then the diagonal tile's keys up to row `r`. -/
theorem sum_tiles (qb : ℕ) (hq : qb < 32) (r : Fin 512) (f : ℕ → ℝ) :
    (∑ t ∈ Finset.range qb, ∑ k : Fin 512, f (512 * t + k.val))
      + (∑ k : Fin 512, if k.val ≤ r.val then f (512 * qb + k.val) else 0)
    = ∑ k : Fin 16384, if k.val ≤ 512 * qb + r.val then f k.val else 0 := by
  have h1 : ∑ k : Fin 16384, (if k.val ≤ 512 * qb + r.val then f k.val else 0)
      = ∑ n ∈ Finset.range 32, ∑ k : Fin 512, if 512 * n + k.val ≤ 512 * qb + r.val then f (512 * n + k.val) else 0 := by
    rw [Fin.sum_univ_eq_sum_range (fun k => if k ≤ 512 * qb + r.val then f k else 0) 16384]
    rw [show (16384 : ℕ) = 32 * 512 from rfl, Finset.sum_range_mul_split]
    simp only [Nat.mul_comm _ 512]
    refine Finset.sum_congr rfl fun n _ => ?_
    rw [Fin.sum_univ_eq_sum_range (fun k => if 512 * n + k ≤ 512 * qb + r.val then f (512 * n + k) else 0) 512]
  have hs : (32 : ℕ) = qb + (1 + (31 - qb)) := by omega
  rw [h1, hs, Finset.sum_range_add, Finset.sum_range_add, Finset.sum_range_one]
  rw [Finset.sum_eq_zero (s := Finset.range (31 - qb)) fun n _ => Finset.sum_eq_zero fun k _ => if_neg (by omega), add_zero]
  refine congrArg₂ (· + ·) ?_ ?_
  · refine Finset.sum_congr rfl fun t ht => Finset.sum_congr rfl fun k _ => ?_
    have := Finset.mem_range.1 ht
    rw [if_pos (by omega)]
  · refine Finset.sum_congr rfl fun k _ => ?_
    simp only [Nat.add_zero, Nat.add_le_add_iff_left]

theorem qRow_val (k : Fin 16384) : qRow k.val = k := Fin.ext (Nat.mod_eq_of_lt k.isLt)

theorem statOf_apply (x : Vec Ideal S1x32x2x512 .f32) (n : ℕ) (j : Fin 2) (k : Fin 512) :
    statOf x n (ix4 0 0 j k) = x (ix4 0 (qTile (512 * n + k.val)) j (qLane (512 * n + k.val))) := by
  have e1 : qTile (512 * n + k.val) = ⟨n % 32, Nat.mod_lt _ (by decide)⟩ := Fin.ext (by
    show (512 * n + k.val) / 512 % 32 = n % 32
    omega)
  have e2 : qLane (512 * n + k.val) = k := Fin.ext (by
    show (512 * n + k.val) % 512 = k.val
    omega)
  rw [e1, e2]
  rfl

section

variable (A : Fin 16384 → Fin 3072 → ℝ) (C : Fin 16384 → Fin 16 → ℝ)

/-- Head `j` of pair `p`. -/
def headAt (p : Fin 8) (j : Fin 2) : Fin 16 := ⟨2 * p.val + j.val, by omega⟩

/-- A query's logits and a lane's values, by key tile. -/
def tileLogit (p : Fin 8) (j : Fin 2) (q : Fin 16384) (t : ℕ) (k : Fin 512) : ℝ :=
  logit A C (headAt p j) q (qRow (512 * t + k.val))
def tileValue (p : Fin 8) (j : Fin 2) (d : Fin 64) (t : ℕ) (k : Fin 512) : ℝ :=
  A (qRow (512 * t + k.val)) (vc (headAt p j) d)

/-- The attention's output. -/
def outv (h : Fin 16) (q : Fin 16384) (d : Fin 64) : ℝ := ∑ k, wt A C h q k * A k (vc h d)

theorem sum_last (p : Fin 8) (j : Fin 2) (b : Fin 32) (r : Fin 512) :
    ∑ l, lastSum (tileLogit A C p j (row b r)) b.val r l
      = total (fun k : Fin 16384 => k.val ≤ (row b r).val) (logit A C (headAt p j) (row b r)) := by
  unfold lastSum total
  rw [Finset.sum_add_distrib, Finset.sum_comm, sum_laneSum, Finset.sum_congr rfl fun t _ => sum_laneSum _]
  refine (sum_tiles b.val b.isLt r fun k => Real.exp (logit A C (headAt p j) (row b r) (qRow k))).trans ?_
  refine Finset.sum_congr rfl fun k _ => ?_
  rw [qRow_val]
  rfl

theorem sum_last_pos (p : Fin 8) (j : Fin 2) (b : Fin 32) (r : Fin 512) :
    0 < ∑ l, lastSum (tileLogit A C p j (row b r)) b.val r l := by
  rw [sum_last]
  exact total_pos _ _ (Cert.Model.kept _)

theorem acc_last (p : Fin 8) (j : Fin 2) (b : Fin 32) (r : Fin 512) (d : Fin 64) :
    lastAcc (tileLogit A C p j (row b r)) (tileValue A p j d) b.val r / ∑ l, lastSum (tileLogit A C p j (row b r)) b.val r l
      = outv A C (headAt p j) (row b r) d := by
  rw [sum_last]
  have e : lastAcc (tileLogit A C p j (row b r)) (tileValue A p j d) b.val r
      = ∑ k : Fin 16384, if k.val ≤ 512 * b.val + r.val then
          Real.exp (logit A C (headAt p j) (row b r) (qRow k.val)) * A (qRow k.val) (vc (headAt p j) d) else 0 := by
    unfold lastAcc
    refine Eq.trans (congrArg₂ (· + ·) rfl (Finset.sum_congr rfl fun k _ => ?_))
      (sum_tiles b.val b.isLt r fun k => Real.exp (logit A C (headAt p j) (row b r) (qRow k)) * A (qRow k) (vc (headAt p j) d))
    show (if k.val ≤ r.val then _ else _) * _ = _
    split
    · rfl
    · exact zero_mul _
  rw [e, Finset.sum_div]
  unfold outv
  refine Finset.sum_congr rfl fun k _ => ?_
  rw [qRow_val]
  unfold wt weight
  show (if k.val ≤ (row b r).val then _ else _) / _ = (if k.val ≤ (row b r).val then _ else _) * _
  split
  · rw [div_mul_eq_mul_div]
  · rw [zero_div, zero_mul]

/-- A scaled product of two head's rows, of real numbers. -/
theorem headDot_real (p : Fin 8) (j : Fin 2) (q k : Fin 16384) (X Y : Fin 128 → EReal)
    (hX : ∀ l, X l = (A q (qCol p l) : EReal)) (hY : ∀ l, Y l = (A k (kCol p l) : EReal)) :
    headDot j (fun l => X l * eighth) Y = ((qk A (headAt p j) q k * (1 / 8) : ℝ) : EReal) := by
  unfold headDot qk
  rw [Finset.sum_mul, ← coe_sum]
  refine Finset.sum_congr rfl fun d _ => ?_
  have e1 : qCol p (laneOf j d) = qc (headAt p j) d := Fin.ext (by
    show 128 * p.val + (64 * j.val + d.val) = 64 * (2 * p.val + j.val) + d.val; omega)
  have e2 : kCol p (laneOf j d) = kc (headAt p j) d := Fin.ext (by
    show 1024 + (128 * p.val + (64 * j.val + d.val)) = 1024 + (64 * (2 * p.val + j.val) + d.val); omega)
  show (X _ * eighth) * Y _ = _
  rw [hX, hY, e1, e2, show eighth = ((1 / 8 : ℝ) : EReal) from eighth_bf16, ← EReal.coe_mul, ← EReal.coe_mul]
  exact congrArg _ (by ring)

/-- The tile's values, real. -/
theorem value_real (p : Fin 8) (j : Fin 2) (d : Fin 64) (x2 : Vec Ideal S16384x128 .bf16)
    (h2 : ∀ k l, (x2 (ix2 k l) : EReal) = (A k (vCol p l) : EReal)) (t : ℕ) (k : Fin 512) :
    (rowsOf x2 t (ix2 k (laneOf j d)) : EReal) = (tileValue A p j d t k : EReal) := by
  have e : vCol p (laneOf j d) = vc (headAt p j) d := Fin.ext (by
    show 2048 + (128 * p.val + (64 * j.val + d.val)) = 2048 + (64 * (2 * p.val + j.val) + d.val); omega)
  unfold tileValue
  rw [← e]
  exact h2 (qRow (512 * t + k.val)) (laneOf j d)

/-- A row's tile and lane give the row. -/
theorem row_tile (n : ℕ) : row (qTile n) (qLane n) = qRow n := Fin.ext (by
  show 512 * (n / 512 % 32) + n % 512 = n % 16384
  omega)

section
variable (p : Fin 8) (b : Fin 32) (r : Fin 512) (x0 : Vec Ideal S512x128 .bf16) (x1 : Vec Ideal S16384x128 .bf16)
  (x3 : Vec Ideal S1x32x2x512 .f32) (h0 : ∀ r l, (x0 (ix2 r l) : EReal) = (A (row b r) (qCol p l) : EReal))
  (h1 : ∀ k l, (x1 (ix2 k l) : EReal) = (A k (kCol p l) : EReal))
  (h3 : ∀ n j k, (x3 (ix4 0 n j k) : EReal) = (C (row n k) (headAt p j) : EReal))
include h0 h1 h3

/-- The tiles' logits, real. -/
theorem score_real0 (t : ℕ) (k : Fin 512) :
    score (k0_pay66 x0) (rowsOf x1 t) (statOf x3 t) 0 r k = (tileLogit A C p 0 (row b r) t k : EReal) := by
  unfold score tileLogit logit
  rw [dot_66, headDot_real A p 0 (row b r) (qRow (512 * t + k.val)) _ (Y := fun l => rowsOf x1 t (ix2 k l)) (hX := fun l => h0 r l) (hY := fun l => h1 _ l), statOf_apply, h3,
    row_tile]
  exact (EReal.coe_sub _ _).symm

theorem score_real1 (t : ℕ) (k : Fin 512) :
    score (k0_pay67 x0) (rowsOf x1 t) (statOf x3 t) 1 r k = (tileLogit A C p 1 (row b r) t k : EReal) := by
  unfold score tileLogit logit
  rw [dot_67, headDot_real A p 1 (row b r) (qRow (512 * t + k.val)) _ (Y := fun l => rowsOf x1 t (ix2 k l)) (hX := fun l => h0 r l) (hY := fun l => h1 _ l), statOf_apply, h3,
    row_tile]
  exact (EReal.coe_sub _ _).symm

end

end

end Cert.Kernel3Ideal.Fwd
-- ==== Proof.FPlaces.lean ====
module

public import proofs.«01_k».proof.Proof.FTables
public import proofs.«01_k».proof.Proof.Places
public import proofs.«01_k».proof.Proof.Gen.Kernel3Ideal.Frame

/-!
# The blocks' places in their arrays, in the forward kernel

Grid point `t` is the pair of heads `pair t` and the query block `queryBlock t`; each window's block, at its indices.
-/

@[expose] public section

set_option maxRecDepth 16384

noncomputable section

namespace Cert.Kernel3Ideal.Fwd

open Idealize.ShloMosaic Idealize.ShloMosaic.TcCoe Cert.Kernel3Ideal.Gen Idealize.ShloMosaic.Tactic
open Cert.KernelIdeal.Dkv (row col qCol kCol vCol idx_ext word8 word32 word8k word8v)

variable (m : (ℓ : Loc nD τ sig) → Buf (Elt Ideal) ℓ)

/-- The point's pair of heads. -/
def pair (i : grid0.Coords) : Fin 8 := i 0

/-- The point's block of queries. -/
def queryBlock (i : grid0.Coords) : Fin 32 := i 1

theorem emb0 (t : Fin (cfgM m (ok m)).N) (r : Fin 512) (l : Fin 128) :
    ((((cfgM m (ok m)).win 0).blk t).view.emb (ix2 r l) : S16384x3072.Idx)
      = ix2 (row (queryBlock (grid0.coords t)) r) (qCol (pair (grid0.coords t)) l) :=
  idx_ext _ _ fun (a : Fin 2) => match a with
  | 0 => by
    show cc0_transform_0 (grid0.coords t) 0 * 512 + 1 * r.val = 512 * (queryBlock (grid0.coords t)).val + r.val
    have h : cc0_transform_0 (grid0.coords t) 0 = (queryBlock (grid0.coords t)).val := word32 (queryBlock (grid0.coords t))
    rw [h]
    omega
  | 1 => by
    show cc0_transform_0 (grid0.coords t) 1 * 128 + 1 * l.val = 128 * (pair (grid0.coords t)).val + l.val
    have h : cc0_transform_0 (grid0.coords t) 1 = (pair (grid0.coords t)).val := word8 (pair (grid0.coords t))
    rw [h]
    omega

theorem read0 (c : Dev nD) (X : (b : Ref sig .tc) → Buf (Elt Ideal) ((c : Thread nD τ).loc b))
    (t : Fin (cfgM m (ok m)).N) (r : Fin 512) (l : Fin 128) :
    ((((cfgM m (ok m)).win 0).blk t).view.read (Elt Ideal) (X (Pipeline.arrRef spec0 0)) (ix2 r l) : EReal)
      = X main_arg0 (ix2 (row (queryBlock (grid0.coords t)) r) (qCol (pair (grid0.coords t)) l)) :=
  congrArg (X main_arg0) (emb0 m t r l)

theorem block0 (c : Dev nD) (t : Fin (cfgM m (ok m)).N) (r : Fin 512) (l : Fin 128) :
    (iblk m (ok m) c 0 t (ix2 r l) : EReal) = V m c main_arg0 (ix2 (row (queryBlock (grid0.coords t)) r) (qCol (pair (grid0.coords t)) l)) :=
  read0 m c (V m c) t r l

theorem emb1 (t : Fin (cfgM m (ok m)).N) (r : Fin 16384) (l : Fin 128) :
    ((((cfgM m (ok m)).win 1).blk t).view.emb (ix2 r l) : S16384x3072.Idx)
      = ix2 r (kCol (pair (grid0.coords t)) l) :=
  idx_ext _ _ fun (a : Fin 2) => match a with
  | 0 => by
    show cc0_transform_1 (grid0.coords t) 0 * 16384 + 1 * r.val = r.val
    have h : cc0_transform_1 (grid0.coords t) 0 = 0 := rfl
    rw [h]
    omega
  | 1 => by
    show cc0_transform_1 (grid0.coords t) 1 * 128 + 1 * l.val = 1024 + (128 * (pair (grid0.coords t)).val + l.val)
    have h : cc0_transform_1 (grid0.coords t) 1 = 8 + (pair (grid0.coords t)).val := word8k (pair (grid0.coords t))
    rw [h]
    omega

theorem read1 (c : Dev nD) (X : (b : Ref sig .tc) → Buf (Elt Ideal) ((c : Thread nD τ).loc b))
    (t : Fin (cfgM m (ok m)).N) (r : Fin 16384) (l : Fin 128) :
    ((((cfgM m (ok m)).win 1).blk t).view.read (Elt Ideal) (X (Pipeline.arrRef spec0 1)) (ix2 r l) : EReal)
      = X main_arg0 (ix2 r (kCol (pair (grid0.coords t)) l)) :=
  congrArg (X main_arg0) (emb1 m t r l)

theorem block1 (c : Dev nD) (t : Fin (cfgM m (ok m)).N) (r : Fin 16384) (l : Fin 128) :
    (iblk m (ok m) c 1 t (ix2 r l) : EReal) = V m c main_arg0 (ix2 r (kCol (pair (grid0.coords t)) l)) :=
  read1 m c (V m c) t r l

theorem emb2 (t : Fin (cfgM m (ok m)).N) (r : Fin 16384) (l : Fin 128) :
    ((((cfgM m (ok m)).win 2).blk t).view.emb (ix2 r l) : S16384x3072.Idx)
      = ix2 r (vCol (pair (grid0.coords t)) l) :=
  idx_ext _ _ fun (a : Fin 2) => match a with
  | 0 => by
    show cc0_transform_2 (grid0.coords t) 0 * 16384 + 1 * r.val = r.val
    have h : cc0_transform_2 (grid0.coords t) 0 = 0 := rfl
    rw [h]
    omega
  | 1 => by
    show cc0_transform_2 (grid0.coords t) 1 * 128 + 1 * l.val = 2048 + (128 * (pair (grid0.coords t)).val + l.val)
    have h : cc0_transform_2 (grid0.coords t) 1 = 16 + (pair (grid0.coords t)).val := word8v (pair (grid0.coords t))
    rw [h]
    omega

theorem read2 (c : Dev nD) (X : (b : Ref sig .tc) → Buf (Elt Ideal) ((c : Thread nD τ).loc b))
    (t : Fin (cfgM m (ok m)).N) (r : Fin 16384) (l : Fin 128) :
    ((((cfgM m (ok m)).win 2).blk t).view.read (Elt Ideal) (X (Pipeline.arrRef spec0 2)) (ix2 r l) : EReal)
      = X main_arg0 (ix2 r (vCol (pair (grid0.coords t)) l)) :=
  congrArg (X main_arg0) (emb2 m t r l)

theorem block2 (c : Dev nD) (t : Fin (cfgM m (ok m)).N) (r : Fin 16384) (l : Fin 128) :
    (iblk m (ok m) c 2 t (ix2 r l) : EReal) = V m c main_arg0 (ix2 r (vCol (pair (grid0.coords t)) l)) :=
  read2 m c (V m c) t r l

theorem emb3 (t : Fin (cfgM m (ok m)).N) (n : Fin 32) (j : Fin 2) (r : Fin 512) :
    ((((cfgM m (ok m)).win 3).blk t).view.emb (ix4 0 n j r) : S8x32x2x512.Idx)
      = ix4 (pair (grid0.coords t)) n j r :=
  idx_ext _ _ fun (a : Fin 4) => match a with
  | 0 => by
    show cc0_transform_3 (grid0.coords t) 0 * 1 + 1 * 0 = (pair (grid0.coords t)).val
    have h : cc0_transform_3 (grid0.coords t) 0 = (pair (grid0.coords t)).val := word8 (pair (grid0.coords t))
    rw [h]
    omega
  | 1 => by
    show cc0_transform_3 (grid0.coords t) 1 * 32 + 1 * n.val = n.val
    have h : cc0_transform_3 (grid0.coords t) 1 = 0 := rfl
    rw [h]
    omega
  | 2 => by
    show cc0_transform_3 (grid0.coords t) 2 * 2 + 1 * j.val = j.val
    have h : cc0_transform_3 (grid0.coords t) 2 = 0 := rfl
    rw [h]
    omega
  | 3 => by
    show cc0_transform_3 (grid0.coords t) 3 * 512 + 1 * r.val = r.val
    have h : cc0_transform_3 (grid0.coords t) 3 = 0 := rfl
    rw [h]
    omega

theorem read3 (c : Dev nD) (X : (b : Ref sig .tc) → Buf (Elt Ideal) ((c : Thread nD τ).loc b))
    (t : Fin (cfgM m (ok m)).N) (n : Fin 32) (j : Fin 2) (r : Fin 512) :
    ((((cfgM m (ok m)).win 3).blk t).view.read (Elt Ideal) (X (Pipeline.arrRef spec0 3)) (ix4 0 n j r) : EReal)
      = X main_v2 (ix4 (pair (grid0.coords t)) n j r) :=
  congrArg (X main_v2) (emb3 m t n j r)

theorem block3 (c : Dev nD) (t : Fin (cfgM m (ok m)).N) (n : Fin 32) (j : Fin 2) (r : Fin 512) :
    (iblk m (ok m) c 3 t (ix4 0 n j r) : EReal) = V m c main_v2 (ix4 (pair (grid0.coords t)) n j r) :=
  read3 m c (V m c) t n j r

theorem emb4 (t : Fin (cfgM m (ok m)).N) (r : Fin 512) (l : Fin 128) :
    ((((cfgM m (ok m)).win 4).blk t).view.emb (ix2 r l) : S16384x1024.Idx)
      = ix2 (row (queryBlock (grid0.coords t)) r) (col (pair (grid0.coords t)) l) :=
  idx_ext _ _ fun (a : Fin 2) => match a with
  | 0 => by
    show cc0_transform_4 (grid0.coords t) 0 * 512 + 1 * r.val = 512 * (queryBlock (grid0.coords t)).val + r.val
    have h : cc0_transform_4 (grid0.coords t) 0 = (queryBlock (grid0.coords t)).val := word32 (queryBlock (grid0.coords t))
    rw [h]
    omega
  | 1 => by
    show cc0_transform_4 (grid0.coords t) 1 * 128 + 1 * l.val = 128 * (pair (grid0.coords t)).val + l.val
    have h : cc0_transform_4 (grid0.coords t) 1 = (pair (grid0.coords t)).val := word8 (pair (grid0.coords t))
    rw [h]
    omega

theorem emb5 (t : Fin (cfgM m (ok m)).N) (r : Fin 512) (j : Fin 2) :
    ((((cfgM m (ok m)).win 5).blk t).view.emb (ix3 0 r j) : S8x16384x2.Idx)
      = ix3 (pair (grid0.coords t)) (row (queryBlock (grid0.coords t)) r) j :=
  idx_ext _ _ fun (a : Fin 3) => match a with
  | 0 => by
    show cc0_transform_5 (grid0.coords t) 0 * 1 + 1 * 0 = (pair (grid0.coords t)).val
    have h : cc0_transform_5 (grid0.coords t) 0 = (pair (grid0.coords t)).val := word8 (pair (grid0.coords t))
    rw [h]
    omega
  | 1 => by
    show cc0_transform_5 (grid0.coords t) 1 * 512 + 1 * r.val = 512 * (queryBlock (grid0.coords t)).val + r.val
    have h : cc0_transform_5 (grid0.coords t) 1 = (queryBlock (grid0.coords t)).val := word32 (queryBlock (grid0.coords t))
    rw [h]
    omega
  | 2 => by
    show cc0_transform_5 (grid0.coords t) 2 * 2 + 1 * j.val = j.val
    have h : cc0_transform_5 (grid0.coords t) 2 = 0 := rfl
    rw [h]
    omega

theorem emb6 (t : Fin (cfgM m (ok m)).N) (j : Fin 2) (r : Fin 512) :
    ((((cfgM m (ok m)).win 6).blk t).view.emb (ix4 0 0 j r) : S8x32x2x512.Idx)
      = ix4 (pair (grid0.coords t)) (queryBlock (grid0.coords t)) j r :=
  idx_ext _ _ fun (a : Fin 4) => match a with
  | 0 => by
    show cc0_transform_6 (grid0.coords t) 0 * 1 + 1 * 0 = (pair (grid0.coords t)).val
    have h : cc0_transform_6 (grid0.coords t) 0 = (pair (grid0.coords t)).val := word8 (pair (grid0.coords t))
    rw [h]
    omega
  | 1 => by
    show cc0_transform_6 (grid0.coords t) 1 * 1 + 1 * 0 = (queryBlock (grid0.coords t)).val
    have h : cc0_transform_6 (grid0.coords t) 1 = (queryBlock (grid0.coords t)).val := word32 (queryBlock (grid0.coords t))
    rw [h]
    omega
  | 2 => by
    show cc0_transform_6 (grid0.coords t) 2 * 2 + 1 * j.val = j.val
    have h : cc0_transform_6 (grid0.coords t) 2 = 0 := rfl
    rw [h]
    omega
  | 3 => by
    show cc0_transform_6 (grid0.coords t) 3 * 512 + 1 * r.val = r.val
    have h : cc0_transform_6 (grid0.coords t) 3 = 0 := rfl
    rw [h]
    omega

end Cert.Kernel3Ideal.Fwd
-- ==== Proof.FArrays.lean ====
module

public import proofs.«01_k».proof.Proof.FPoint
public import proofs.«01_k».proof.Proof.FPlaces
public import proofs.«01_k».proof.Proof.Values
public import proofs.«01_k».proof.Proof.Gen.Prepared3Ideal.Read
public import Idealize.ShloMosaic.Lib.Pipeline.Covers

/-!
# The result arrays of the forward kernel

Every entry of the three arrays over real argument arrays: the attention's output, and the rows' log-sums in both layouts.
-/

@[expose] public section

set_option maxRecDepth 16384

noncomputable section

namespace Cert.Kernel3Ideal.Fwd

open Idealize.ShloMosaic Idealize.ShloMosaic.TcCoe Cert.Kernel3Ideal.Gen Idealize.ShloMosaic.Tactic Cert.Model
open Cert.KernelIdeal.Dkv (row col qCol kCol vCol idx_ext laneOf lanOf headOf pairOf pairOf_col lanOf_col headOf_col split_lane
  hd col_head qTile qLane)

/-- The gate in tiles: tile `n`, lane `k` of head `j` of pair `p` is key `512 n + k` of head `2 p + j`. -/
theorem tiled_gate (C : Fin 16384 → Fin 16 → ℝ) (p : Fin 8) (n : Fin 32) (j : Fin 2) (k : Fin 512) :
    Cert.Prepared3Ideal.Read.val_main_v2 (F := Ideal) (arr C) (ix4 p n j k) = ((C (row n k) (headAt p j) : ℝ) : EReal) := by
  rw [Cert.Prepared3Ideal.Read.val_main_v2_apply, Cert.Prepared3Ideal.Read.val_main_v1_apply,
    Cert.Prepared3Ideal.Read.val_main_v0_apply]
  refine arr_congr C _ _ _ ?_ ?_
  · show (((p.val * 2 + j.val) * 32 + n.val) * 512 + k.val) % 16384 = 512 * n.val + k.val
    omega
  · show (((p.val * 2 + j.val) * 32 + n.val) * 512 + k.val) / 16384 = 2 * p.val + j.val
    omega

section
variable {F : FTy → Type} [FloatOps F]
variable (m : (ℓ : Loc nD τ sig) → Buf (Elt F) ℓ)

/-- The gate, in tiles. -/
theorem V_gate (c : Dev nD) :
    V m c main_v2 = Cert.Prepared3Ideal.Read.val_main_v2 (F := F) (m ((c : Thread nD τ).loc main_arg1)) := by
  unfold_abbrev_sides
  after_reads_simp
  rfl

end

variable (A : Fin 16384 → Fin 3072 → ℝ) (C : Fin 16384 → Fin 16 → ℝ)

/-- What the three arrays hold, by index. -/
def oArr (y : S16384x1024.Idx) : EReal :=
  ((outv A C (headAt (pairOf (y 1)) (headOf (y 1))) (y 0) ⟨(y 1).val % 64, Nat.mod_lt _ (by decide)⟩ : ℝ) : EReal)
def colArr (y : S8x16384x2.Idx) : EReal := ((lse A C (headAt (y 0) (y 2)) (y 1) : ℝ) : EReal)
def rowArr (y : S8x32x2x512.Idx) : EReal := ((lse A C (headAt (y 0) (y 2)) (row (y 1) (y 3)) : ℝ) : EReal)

theorem oArr_head (p : Fin 8) (j : Fin 2) (q : Fin 16384) (d : Fin 64) :
    oArr A C (ix2 q (col p (laneOf j d))) = ((outv A C (headAt p j) q d : ℝ) : EReal) := by
  have e : (⟨(col p (laneOf j d)).val % 64, Nat.mod_lt _ (by decide)⟩ : Fin 64) = d := Fin.ext (by
    show (128 * p.val + (64 * j.val + d.val)) % 64 = d.val
    omega)
  show ((outv A C (headAt (pairOf (col p (laneOf j d))) (headOf (col p (laneOf j d)))) q ⟨(col p (laneOf j d)).val % 64, _⟩ : ℝ) : EReal) = _
  rw [pairOf_col, headOf_col, e]

theorem select_first (r : Fin 512) (d : Fin 64) (a b : EReal) : Scalar.select (k0_pay64 (ix2 r (laneOf 0 d))) a b = a := by
  rw [select_pay64]
  exact if_pos (Cert.KernelIdeal.Dkv.lane_lt d)

theorem select_second (r : Fin 512) (d : Fin 64) (a b : EReal) : Scalar.select (k0_pay64 (ix2 r (laneOf 1 d))) a b = b := by
  rw [select_pay64]
  exact if_neg (Cert.KernelIdeal.Dkv.lane_ge d)

variable (m : (ℓ : Loc nD τ sig) → Buf (Elt Ideal) ℓ) (c : Dev nD)
  (e0 : m ((c : Thread nD τ).loc main_arg0) = arr A) (e1 : m ((c : Thread nD τ).loc main_arg1) = arr C)

/-! The blocks a grid point reads, over the real arrays. -/

section
include e0

theorem block_q (t : Fin (cfgM m (ok m)).N) (r : Fin 512) (l : Fin 128) :
    (iblk m (ok m) c 0 t (ix2 r l) : EReal)
      = ((A (row (queryBlock (grid0.coords t)) r) (qCol (pair (grid0.coords t)) l) : ℝ) : EReal) := by
  rw [block0, Gen.V_main_arg0, e0]
  rfl

theorem block_k (t : Fin (cfgM m (ok m)).N) (k : Fin 16384) (l : Fin 128) :
    (iblk m (ok m) c 1 t (ix2 k l) : EReal) = ((A k (kCol (pair (grid0.coords t)) l) : ℝ) : EReal) := by
  rw [block1, Gen.V_main_arg0, e0]
  rfl

theorem block_v (t : Fin (cfgM m (ok m)).N) (k : Fin 16384) (l : Fin 128) :
    (iblk m (ok m) c 2 t (ix2 k l) : EReal) = ((A k (vCol (pair (grid0.coords t)) l) : ℝ) : EReal) := by
  rw [block2, Gen.V_main_arg0, e0]
  rfl

end

include e1 in
theorem block_c (t : Fin (cfgM m (ok m)).N) (n : Fin 32) (j : Fin 2) (k : Fin 512) :
    (iblk m (ok m) c 3 t (ix4 0 n j k) : EReal) = ((C (row n k) (headAt (pair (grid0.coords t)) j) : ℝ) : EReal) := by
  rw [block3, V_gate, e1]
  exact tiled_gate C _ n j k

/-! What a grid point leaves in the three blocks. -/

section
include e0 e1

theorem after_o0 (t : Fin (cfgM m (ok m)).N) (r : Fin 512) (d : Fin 64) :
    ((outsAt0 m (ok m) (hyps m) c t).1 (ix2 r (laneOf 0 d)) : EReal)
      = ((outv A C (headAt (pair (grid0.coords t)) 0) (row (queryBlock (grid0.coords t)) r) d : ℝ) : EReal) := by
  rw [← acc_last A C (pair (grid0.coords t)) 0 (queryBlock (grid0.coords t)) r d]
  unfold outsAt0
  dsimp only
  exact body_o0 (hW := table_word m (grid0.coords t)) (hsel := select_first r d)
    (hs := score_real0 A C _ _ r _ _ _ (block_q A m c e0 t) (block_k A m c e0 t) (block_c C m c e1 t))
    (hv := value_real A _ 0 d _ (block_v A m c e0 t)) (hz := sum_last_pos A C _ 0 _ r) ..

theorem after_col0 (t : Fin (cfgM m (ok m)).N) (r : Fin 512) :
    ((outsAt0 m (ok m) (hyps m) c t).2.1 (ix3 0 r 0) : EReal)
      = ((lse A C (headAt (pair (grid0.coords t)) 0) (row (queryBlock (grid0.coords t)) r) : ℝ) : EReal) := by
  unfold lse
  rw [← sum_last A C (pair (grid0.coords t)) 0 (queryBlock (grid0.coords t)) r]
  unfold outsAt0
  dsimp only
  exact body_col0 (hW := table_word m (grid0.coords t)) (hsel := select_first r 0)
    (hs := score_real0 A C _ _ r _ _ _ (block_q A m c e0 t) (block_k A m c e0 t) (block_c C m c e1 t))
    (hv := value_real A _ 0 0 _ (block_v A m c e0 t)) (hz := sum_last_pos A C _ 0 _ r) ..

theorem after_row0 (t : Fin (cfgM m (ok m)).N) (r : Fin 512) :
    ((outsAt0 m (ok m) (hyps m) c t).2.2 (ix4 0 0 0 r) : EReal)
      = ((lse A C (headAt (pair (grid0.coords t)) 0) (row (queryBlock (grid0.coords t)) r) : ℝ) : EReal) := by
  unfold lse
  rw [← sum_last A C (pair (grid0.coords t)) 0 (queryBlock (grid0.coords t)) r]
  unfold outsAt0
  dsimp only
  exact body_row0 (hW := table_word m (grid0.coords t)) (hsel := select_first r 0)
    (hs := score_real0 A C _ _ r _ _ _ (block_q A m c e0 t) (block_k A m c e0 t) (block_c C m c e1 t))
    (hv := value_real A _ 0 0 _ (block_v A m c e0 t)) (hz := sum_last_pos A C _ 0 _ r) ..

theorem after_o1 (t : Fin (cfgM m (ok m)).N) (r : Fin 512) (d : Fin 64) :
    ((outsAt0 m (ok m) (hyps m) c t).1 (ix2 r (laneOf 1 d)) : EReal)
      = ((outv A C (headAt (pair (grid0.coords t)) 1) (row (queryBlock (grid0.coords t)) r) d : ℝ) : EReal) := by
  rw [← acc_last A C (pair (grid0.coords t)) 1 (queryBlock (grid0.coords t)) r d]
  unfold outsAt0
  dsimp only
  exact body_o1 (hW := table_word m (grid0.coords t)) (hsel := select_second r d)
    (hs := score_real1 A C _ _ r _ _ _ (block_q A m c e0 t) (block_k A m c e0 t) (block_c C m c e1 t))
    (hv := value_real A _ 1 d _ (block_v A m c e0 t)) (hz := sum_last_pos A C _ 1 _ r) ..

theorem after_col1 (t : Fin (cfgM m (ok m)).N) (r : Fin 512) :
    ((outsAt0 m (ok m) (hyps m) c t).2.1 (ix3 0 r 1) : EReal)
      = ((lse A C (headAt (pair (grid0.coords t)) 1) (row (queryBlock (grid0.coords t)) r) : ℝ) : EReal) := by
  unfold lse
  rw [← sum_last A C (pair (grid0.coords t)) 1 (queryBlock (grid0.coords t)) r]
  unfold outsAt0
  dsimp only
  exact body_col1 (hW := table_word m (grid0.coords t)) (hsel := select_second r 0)
    (hs := score_real1 A C _ _ r _ _ _ (block_q A m c e0 t) (block_k A m c e0 t) (block_c C m c e1 t))
    (hv := value_real A _ 1 0 _ (block_v A m c e0 t)) (hz := sum_last_pos A C _ 1 _ r) ..

theorem after_row1 (t : Fin (cfgM m (ok m)).N) (r : Fin 512) :
    ((outsAt0 m (ok m) (hyps m) c t).2.2 (ix4 0 0 1 r) : EReal)
      = ((lse A C (headAt (pair (grid0.coords t)) 1) (row (queryBlock (grid0.coords t)) r) : ℝ) : EReal) := by
  unfold lse
  rw [← sum_last A C (pair (grid0.coords t)) 1 (queryBlock (grid0.coords t)) r]
  unfold outsAt0
  dsimp only
  exact body_row1 (hW := table_word m (grid0.coords t)) (hsel := select_second r 0)
    (hs := score_real1 A C _ _ r _ _ _ (block_q A m c e0 t) (block_k A m c e0 t) (block_c C m c e1 t))
    (hv := value_real A _ 1 0 _ (block_v A m c e0 t)) (hz := sum_last_pos A C _ 1 _ r) ..

theorem after_o (t : Fin (cfgM m (ok m)).N) (j : Fin 2) (r : Fin 512) (d : Fin 64) :
    ((outsAt0 m (ok m) (hyps m) c t).1 (ix2 r (laneOf j d)) : EReal)
      = ((outv A C (headAt (pair (grid0.coords t)) j) (row (queryBlock (grid0.coords t)) r) d : ℝ) : EReal) := match j with
  | 0 => after_o0 A C m c e0 e1 t r d
  | 1 => after_o1 A C m c e0 e1 t r d

theorem after_col (t : Fin (cfgM m (ok m)).N) (j : Fin 2) (r : Fin 512) :
    ((outsAt0 m (ok m) (hyps m) c t).2.1 (ix3 0 r j) : EReal)
      = ((lse A C (headAt (pair (grid0.coords t)) j) (row (queryBlock (grid0.coords t)) r) : ℝ) : EReal) := match j with
  | 0 => after_col0 A C m c e0 e1 t r
  | 1 => after_col1 A C m c e0 e1 t r

theorem after_row (t : Fin (cfgM m (ok m)).N) (j : Fin 2) (r : Fin 512) :
    ((outsAt0 m (ok m) (hyps m) c t).2.2 (ix4 0 0 j r) : EReal)
      = ((lse A C (headAt (pair (grid0.coords t)) j) (row (queryBlock (grid0.coords t)) r) : ℝ) : EReal) := match j with
  | 0 => after_row0 A C m c e0 e1 t r
  | 1 => after_row1 A C m c e0 e1 t r

end

/-! The grid's points, and the arrays' indices by block. -/

/-- The grid point of a pair and a query block, and its coordinates. -/
def place (p : Fin 8) (b : Fin 32) : grid0.Coords := fun (a : Fin 2) => match a with
  | 0 => p
  | 1 => b

theorem exists_point (p : Fin 8) (b : Fin 32) : ∃ t : Fin grid0.N, pair (grid0.coords t) = p ∧ queryBlock (grid0.coords t) = b :=
  (Pipeline.Grid.coords_surjective grid0 (place p b)).imp fun _ ht => ⟨congrArg pair ht, congrArg queryBlock ht⟩

theorem split_block (y : S512x128.Idx) : ∃ (r : Fin 512) (j : Fin 2) (d : Fin 64), y = ix2 r (laneOf j d) := by
  obtain ⟨j, d, h⟩ := split_lane (y 1)
  exact ⟨y 0, j, d, idx_ext _ _ fun (a : Fin 2) => match a with
    | 0 => rfl
    | 1 => congrArg Fin.val h⟩

theorem split_column (y : S1x512x2.Idx) : ∃ (r : Fin 512) (j : Fin 2), y = ix3 0 r j :=
  ⟨y 1, y 2, idx_ext _ _ fun (a : Fin 3) => match a with
    | 0 => Nat.lt_one_iff.1 (y 0).isLt
    | 1 => rfl
    | 2 => rfl⟩

theorem split_tile (y : S1x1x2x512.Idx) : ∃ (j : Fin 2) (r : Fin 512), y = ix4 0 0 j r :=
  ⟨y 2, y 3, idx_ext _ _ fun (a : Fin 4) => match a with
    | 0 => Nat.lt_one_iff.1 (y 0).isLt
    | 1 => Nat.lt_one_iff.1 (y 1).isLt
    | 2 => rfl
    | 3 => rfl⟩

theorem split_array (y : S16384x1024.Idx) : ∃ (p : Fin 8) (b : Fin 32) (r : Fin 512) (l : Fin 128), ix2 (row b r) (col p l) = y := by
  have h0 : (y 0).val < 16384 := (y 0).isLt
  have h1 : (y 1).val < 1024 := (y 1).isLt
  exact ⟨⟨(y 1).val / 128, by omega⟩, ⟨(y 0).val / 512, by omega⟩, ⟨(y 0).val % 512, by omega⟩, ⟨(y 1).val % 128, by omega⟩,
    idx_ext _ _ fun (a : Fin 2) => match a with
      | 0 => by show 512 * ((y 0).val / 512) + (y 0).val % 512 = (y 0).val; omega
      | 1 => by show 128 * ((y 1).val / 128) + (y 1).val % 128 = (y 1).val; omega⟩

theorem split_columns (y : S8x16384x2.Idx) : ∃ (p : Fin 8) (b : Fin 32) (r : Fin 512) (j : Fin 2), ix3 p (row b r) j = y := by
  have h1 : (y 1).val < 16384 := (y 1).isLt
  exact ⟨y 0, ⟨(y 1).val / 512, by omega⟩, ⟨(y 1).val % 512, by omega⟩, y 2, idx_ext _ _ fun (a : Fin 3) => match a with
    | 0 => rfl
    | 1 => by show 512 * ((y 1).val / 512) + (y 1).val % 512 = (y 1).val; omega
    | 2 => rfl⟩

theorem split_rows (y : S8x32x2x512.Idx) : ∃ (p : Fin 8) (b : Fin 32) (j : Fin 2) (r : Fin 512), ix4 p b j r = y :=
  ⟨y 0, y 1, y 2, y 3, idx_ext _ _ fun (a : Fin 4) => match a with
    | 0 => rfl
    | 1 => rfl
    | 2 => rfl
    | 3 => rfl⟩

/-! The arrays after the grid. -/

section
include e0 e1

theorem final_o : (dats m (ok m) (hyps m) 0 c).arrAt 4 (cfgM m (ok m)).N = oArr A C := by
  refine (dats m (ok m) (hyps m) 0 c).arrAt_eq_of_emb 4 _ (fun t hf y => ?_) (fun y => ?_)
  · blk_simp
    rw [after0_4]
    obtain ⟨r, j, d, rfl⟩ := split_block y
    refine (after_o A C m c e0 e1 t j r d).trans ?_
    exact (oArr_head A C _ j _ d).symm.trans (congrArg (oArr A C) (emb4 m t r (laneOf j d))).symm
  · obtain ⟨p, b, r, l, rfl⟩ := split_array y
    obtain ⟨t, rfl, rfl⟩ := exists_point p b
    refine ⟨t, flush0_4 _ _, ?_⟩
    rw [← emb4 m t r l]
    exact View.emb_mem_set _ _

theorem final_col : (dats m (ok m) (hyps m) 0 c).arrAt 5 (cfgM m (ok m)).N = colArr A C := by
  refine (dats m (ok m) (hyps m) 0 c).arrAt_eq_of_emb 5 _ (fun t hf y => ?_) (fun y => ?_)
  · blk_simp
    rw [after0_5]
    obtain ⟨r, j, rfl⟩ := split_column y
    refine (after_col A C m c e0 e1 t j r).trans ?_
    exact (congrArg (colArr A C) (emb5 m t r j)).symm
  · obtain ⟨p, b, r, j, rfl⟩ := split_columns y
    obtain ⟨t, rfl, rfl⟩ := exists_point p b
    refine ⟨t, flush0_5 _ _, ?_⟩
    rw [← emb5 m t r j]
    exact View.emb_mem_set _ _

theorem final_row : (dats m (ok m) (hyps m) 0 c).arrAt 6 (cfgM m (ok m)).N = rowArr A C := by
  refine (dats m (ok m) (hyps m) 0 c).arrAt_eq_of_emb 6 _ (fun t hf y => ?_) (fun y => ?_)
  · blk_simp
    rw [after0_6]
    obtain ⟨j, r, rfl⟩ := split_tile y
    refine (after_row A C m c e0 e1 t j r).trans ?_
    exact (congrArg (rowArr A C) (emb6 m t j r)).symm
  · obtain ⟨p, b, j, r, rfl⟩ := split_rows y
    obtain ⟨t, rfl, rfl⟩ := exists_point p b
    refine ⟨t, flush0_6 _ _, ?_⟩
    rw [← emb6 m t j r]
    exact View.emb_mem_set _ _

end

end Cert.Kernel3Ideal.Fwd
-- ==== Proof.FReference.lean ====
module

public import proofs.«01_k».proof.Proof.Gen.Reference3Ideal.Read
public import proofs.«01_k».proof.Proof.Gen.Prepared3Ideal.Read
public import proofs.«01_k».proof.Proof.PreparedValue
public import proofs.«01_k».proof.Proof.ReferenceValue
public import proofs.«01_k».proof.Proof.QReference

/-!
# What the forward call's reference computes

The attention's output and the rows' log-sums, on real arrays, entry by entry.
-/

@[expose] public section

set_option maxRecDepth 16384

noncomputable section

namespace Cert.Reference3Ideal.Read

open Cert.Reference3Ideal Cert.Reference3Ideal.Gen Idealize.ShloMosaic Idealize.ShloMosaic.TcCoe Cert.Model Cert.Softmax
open Cert.ReferenceIdeal.Read (ex exSum exSum_pos off)

variable (A : Fin 16384 → Fin 3072 → ℝ) (C : Fin 16384 → Fin 16 → ℝ)

/-- The masked logits without the queries' gate, as the prepared arrays of the backward call have them. -/
theorem same_masked :
    val_main_v24 (F := Ideal) (arr A) (arr C) = Cert.PreparedIdeal.Read.val_main_v25 (F := Ideal) (arr A) (arr C) := rfl

/-- The logits with both gates, and the values by head: the other reference's arrays. -/
theorem same_logits :
    val_main_v46 (F := Ideal) (arr A) (arr C) = Cert.ReferenceIdeal.Read.val_main_v21 (F := Ideal) (arr A) (arr C) := rfl

theorem same_vals : val_main_v69 (F := Ideal) (arr A) = Cert.ReferenceIdeal.Read.val_main_v61 (F := Ideal) (arr A) := rfl

/-! The log-sums. -/

theorem exp_bot_or (q k : Fin 16384) (s : ℝ) :
    Ideal.exp (if k.val ≤ q.val then (s : EReal) else ⊥) = ((if k.val ≤ q.val then Real.exp s else 0 : ℝ) : EReal) := by
  split <;> rfl

theorem totals (j : S16x16384.Idx) :
    val_main_v26 (F := Ideal) (arr A) (arr C) j
      = ((total (fun k : Fin 16384 => k.val ≤ (j 1).val) (logit A C (j 0) (j 1)) : ℝ) : EReal) := by
  rw [val_main_v26_apply]
  show Ideal.ofBits .f32 0x00000000#32 + _ = _
  rw [Ideal.ofBits_zero_f32, zero_add]
  refine Eq.trans (Finset.sum_congr rfl fun k _ => ?_)
    (coe_sum Finset.univ fun k : Fin 16384 => if k.val ≤ (j 1).val then Real.exp (logit A C (j 0) (j 1) k) else 0)
  rw [val_main_v25_apply, same_masked, Cert.PreparedIdeal.Read.masked]
  exact exp_bot_or (j 1) k _

theorem lses (j : S16x16384.Idx) : val_main_v27 (F := Ideal) (arr A) (arr C) j = ((lse A C (j 0) (j 1) : ℝ) : EReal) := by
  rw [val_main_v27_apply, totals]
  exact if_neg (not_le.2 (total_pos _ _ (kept (j 1))))

/-! The attention's output. -/

theorem masked (i : S16x16384x16384.Idx) :
    val_main_v53 (F := Ideal) (arr A) (arr C) i
      = if (i 2).val ≤ (i 1).val then ((logit A C (i 0) (i 1) (i 2) + C (i 1) (i 0) : ℝ) : EReal) else ⊥ := by
  rw [val_main_v53_apply, val_main_call1_v1_apply, val_main_v52_apply, val_main_v50_apply, val_main_v48_apply, val_main_v47_apply,
    val_main_v51_apply, val_main_v49_apply, val_main_v47_apply, same_logits, Cert.ReferenceIdeal.Read.logits,
    val_main_call1_v2_apply, show val_main_call1_v0 (F := Ideal) (idx_main_call1_v2 i) = (⊥ : EReal) from bot_f32]
  exact select_ge (i 1) (i 2) _ _

theorem tops (j : S16x16384.Idx) :
    val_main_v56 (F := Ideal) (arr A) (arr C) j
      = ((top (fun k : Fin 16384 => k.val ≤ (j 1).val) (fun k => logit A C (j 0) (j 1) k + C (j 1) (j 0)) : ℝ) : EReal) := by
  have e : val_main_v54 (F := Ideal) (arr A) (arr C) j
      = ((top (fun k : Fin 16384 => k.val ≤ (j 1).val) (fun k => logit A C (j 0) (j 1) k + C (j 1) (j 0)) : ℝ) : EReal) := by
    refine (Cert.ReferenceIdeal.Read.reduce_max _ j).trans (Eq.trans
      (congrArg (fun f : Fin 16384 → EReal => Finset.univ.fold max (⊥ : EReal) f) (funext fun k => masked A C (ix3 (j 0) (j 1) k)))
      (fold_eq_top _ _ (kept (j 1))))
  rw [val_main_v56_apply, e, val_main_v55_apply]
  show max (Ideal.ofBits .f32 0xFF800000#32) _ = _
  rw [bot_f32]
  exact max_eq_right bot_le

theorem exps (i : S16x16384x16384.Idx) :
    val_main_v60 (F := Ideal) (arr A) (arr C) i = ((ex A C (i 0) (i 1) (i 2) : ℝ) : EReal) := by
  rw [val_main_v60_apply, val_main_v59_apply, masked, val_main_v58_apply, val_main_v57_apply, tops]
  refine Eq.trans (exp_masked (fun k : Fin 16384 => k.val ≤ (i 1).val) (fun k => logit A C (i 0) (i 1) k + C (i 1) (i 0)) _ (i 2))
    (congrArg _ ?_)
  exact shifted_add _ _ _ _ _

theorem sums (j : S16x16384.Idx) :
    val_main_v61 (F := Ideal) (arr A) (arr C) j = ((exSum A C (j 0) (j 1) : ℝ) : EReal) := by
  rw [val_main_v61_apply]
  show Ideal.ofBits .f32 0x00000000#32 + _ = _
  rw [Ideal.ofBits_zero_f32, zero_add]
  refine Eq.trans (Finset.sum_congr rfl fun k _ => ?_) (coe_sum Finset.univ fun k => ex A C (j 0) (j 1) k)
  exact exps A C (idx_main_v61 j k)

theorem weights_f32 (i : S16x16384x16384.Idx) :
    val_main_v64 (F := Ideal) (arr A) (arr C) i = ((wt A C (i 0) (i 1) (i 2) : ℝ) : EReal) := by
  rw [val_main_v64_apply, val_main_v63_apply, val_main_v62_apply, exps, sums]
  have e : ex A C (i 0) (i 1) (i 2) / exSum A C (i 0) (i 1) = wt A C (i 0) (i 1) (i 2) := shifted_div _ _ _ (kept (i 1)) (i 2)
  rw [← e]
  exact div_real _ (exSum_pos A C (i 0) (i 1))

/-- The rounding to bf16 and back is the identity over the reals. -/
theorem casts_id (x : Ideal .f32) : FloatOps.extf .f32 bitsLt_bf16_f32 (FloatOps.truncf .bf16 bitsLt_bf16_f32 x) = x := rfl

theorem weights (i : S16x16384x16384.Idx) :
    val_main_v66 (F := Ideal) (arr A) (arr C) i = ((wt A C (i 0) (i 1) (i 2) : ℝ) : EReal) := by
  rw [val_main_v66_apply, val_main_v65_apply]
  exact (casts_id _).trans (weights_f32 A C i)

theorem output (i : S16x16384x64.Idx) :
    val_main_v70 (F := Ideal) (arr A) (arr C) i = ((∑ k, wt A C (i 0) (i 1) k * A k (vc (i 0) (i 2)) : ℝ) : EReal) := by
  rw [val_main_v70_apply]
  refine Eq.trans (Finset.sum_congr rfl fun k _ => ?_)
    (coe_sum Finset.univ fun k : Fin 16384 => wt A C (i 0) (i 1) k * A k (vc (i 0) (i 2)))
  rw [weights, same_vals, Cert.ReferenceIdeal.Read.vals, ← EReal.coe_mul]
  rfl

/-! The three results, by heads and by pairs of heads. -/

theorem result_o (q : Fin 16384) (h : Fin 16) (d : Fin 64) :
    val_main_v74 (F := Ideal) (arr A) (arr C) (ix2 q (oc h d)) = ((∑ k, wt A C h q k * A k (vc h d) : ℝ) : EReal) := by
  rw [val_main_v74_apply, val_main_v73_apply, val_main_v72_apply, val_main_v71_apply]
  refine (casts_id _).trans ((output A C _).trans ?_)
  rw [show idx_main_v72 (idx_main_v73 (ix2 q (oc h d))) = (ix3 h q d : S16x16384x64.Idx) from
    idx_ext _ _ _ fun (a : Fin 3) => match a with
      | 0 => by show (q.val * 1024 + (64 * h.val + d.val)) / 64 % 16 = h.val; omega
      | 1 => by show (q.val * 1024 + (64 * h.val + d.val)) / 1024 = q.val; omega
      | 2 => by show (q.val * 1024 + (64 * h.val + d.val)) % 64 = d.val; omega]
  rfl

theorem result_col (p : Fin 8) (q : Fin 16384) (j : Fin 2) (h : Fin 16) (hh : h.val = 2 * p.val + j.val) :
    val_main_v76 (F := Ideal) (arr A) (arr C) (ix3 p q j) = ((lse A C h q : ℝ) : EReal) := by
  rw [val_main_v76_apply, val_main_v75_apply,
    show idx_main_v75 (idx_main_v76 (ix3 p q j)) = (ix2 h q : S16x16384.Idx) from
      idx_ext _ _ _ fun (a : Fin 2) => match a with
        | 0 => by show ((p.val * 2 + j.val) * 16384 + q.val) / 16384 = h.val; omega
        | 1 => by show ((p.val * 2 + j.val) * 16384 + q.val) % 16384 = q.val; omega,
    lses]
  rfl

theorem result_row (p : Fin 8) (b : Fin 32) (j : Fin 2) (r : Fin 512) (h : Fin 16) (q : Fin 16384) (hh : h.val = 2 * p.val + j.val)
    (hq : q.val = 512 * b.val + r.val) :
    val_main_v78 (F := Ideal) (arr A) (arr C) (ix4 p b j r) = ((lse A C h q : ℝ) : EReal) := by
  rw [val_main_v78_apply, val_main_v77_apply,
    show idx_main_v77 (idx_main_v78 (ix4 p b j r)) = (ix2 h q : S16x16384.Idx) from
      idx_ext _ _ _ fun (a : Fin 2) => match a with
        | 0 => by show (((p.val * 2 + j.val) * 32 + b.val) * 512 + r.val) / 16384 = h.val; omega
        | 1 => by show (((p.val * 2 + j.val) * 32 + b.val) * 512 + r.val) % 16384 = q.val; omega,
    lses]
  rfl

end Cert.Reference3Ideal.Read
-- ==== Proof.FValues.lean ====
module

public import proofs.«01_k».proof.Proof.FArrays
public import proofs.«01_k».proof.Proof.FReference

/-!
# The forward kernel's arrays are the reference's
-/

@[expose] public section

set_option maxRecDepth 16384

noncomputable section

namespace Cert.Kernel3Ideal.Fwd

open Idealize.ShloMosaic Idealize.ShloMosaic.TcCoe Cert.Kernel3Ideal.Gen Cert.Model
open Cert.KernelIdeal.Dkv (row col laneOf hd col_head split_heads)

variable (A : Fin 16384 → Fin 3072 → ℝ) (C : Fin 16384 → Fin 16 → ℝ)

/-- The attention's output. -/
theorem o_eq : oArr A C = Cert.Reference3Ideal.Read.val_main_v74 (F := Ideal) (arr A) (arr C) := by
  funext y
  obtain ⟨q, p, j, d, rfl⟩ := split_heads y
  rw [oArr_head, col_head]
  exact (Cert.Reference3Ideal.Read.result_o A C q (hd p j) d).symm

/-- The rows' log-sums, by columns. -/
theorem col_eq : colArr A C = Cert.Reference3Ideal.Read.val_main_v76 (F := Ideal) (arr A) (arr C) := by
  funext y
  obtain ⟨p, b, r, j, rfl⟩ := split_columns y
  exact (Cert.Reference3Ideal.Read.result_col A C p (row b r) j (headAt p j) rfl).symm

/-- The rows' log-sums, by tiles. -/
theorem row_eq : rowArr A C = Cert.Reference3Ideal.Read.val_main_v78 (F := Ideal) (arr A) (arr C) := by
  funext y
  obtain ⟨p, b, j, r, rfl⟩ := split_rows y
  exact (Cert.Reference3Ideal.Read.result_row A C p b j r (headAt p j) (row b r) rfl rfl).symm

end Cert.Kernel3Ideal.Fwd
-- ==== Proof.FFinite.lean ====
module

public import proofs.«01_k».proof.Pre_finite_f
public import proofs.«01_k».proof.Proof.Finite

/-!
# Finite arguments of the forward call are real arrays
-/

@[expose] public section

set_option maxRecDepth 16384

noncomputable section

namespace Cert.Pre_finite_f

open Idealize.ShloMosaic Cert.Model
open Cert.Pre_finite (real_array real_of_lt)

theorem facts : Facts where
  bitsLt_bf16_f32 := by decide
  bcast_S_S16384x3072 := by decide
  bcast_S_S16384x16 := by decide

section

variable [Facts] (x0 : FVec Ideal S16384x3072 .bf16) (x1 : FVec Ideal S16384x16 .f32)

theorem first_real (h : (fn (F := Ideal) x0 x1).1 = fun _ => 1#1) : ∃ A : Fin 16384 → Fin 3072 → ℝ, x0 = arr A :=
  ⟨_, real_array x0 fun i => real_of_lt (x0 i) (congrFun h i)⟩

theorem second_real (h : (fn (F := Ideal) x0 x1).2 = fun _ => 1#1) : ∃ C : Fin 16384 → Fin 16 → ℝ, x1 = arr C :=
  ⟨_, real_array x1 fun i => real_of_lt (x1 i) (congrFun h i)⟩

end

end Cert.Pre_finite_f
-- ==== Proof.lean ====
module

public import proofs.«01_k».proof.Defs
public import proofs.«01_k».proof.Proof.Gen.Kernel
public import proofs.«01_k».proof.Proof.Gen.KernelIdeal.Frame
public import proofs.«01_k».proof.Proof.Gen.ReferenceIdeal.Run
public import proofs.«01_k».proof.Proof.Gen.PreparedIdeal.Run
public import proofs.«01_k».proof.Proof.Tables
public import proofs.«01_k».proof.Proof.Gen.Kernel2
public import proofs.«01_k».proof.Proof.Gen.Kernel2Ideal.Frame
public import proofs.«01_k».proof.Proof.Gen.Reference2Ideal.Run
public import proofs.«01_k».proof.Proof.Gen.Prepared2Ideal.Run
public import proofs.«01_k».proof.Proof.Values
public import proofs.«01_k».proof.Proof.Finite
public import proofs.«01_k».proof.Proof.QValues
public import proofs.«01_k».proof.Proof.FValues
public import proofs.«01_k».proof.Proof.FFinite
public import proofs.«01_k».proof.Proof.Gen.Kernel3
public import proofs.«01_k».proof.Proof.Gen.Kernel3Ideal.Frame
public import proofs.«01_k».proof.Proof.Gen.Reference3Ideal.Run
public import proofs.«01_k».proof.Proof.Gen.Prepared3Ideal.Run
public import Idealize.ShloMosaic.Lib.Quiescent

/-!
# The claims

The programs run and leave their arguments unchanged; on finite arguments the three arrays the keys' kernel returns and the two
the queries' kernel returns are the references' gradients.
-/

@[expose] public section

noncomputable section

namespace Cert.Proof

open Idealize.ShloMosaic Idealize.ShloMosaic.TcCoe

/-- The kernel at the ideal instance runs, its arguments unchanged and its counters at zero. -/
theorem frame_kernelIdeal : Cert.quiescent_KernelIdeal := fun m ρ _ =>
  Cert.KernelIdeal.Gen.frame m ρ (Cert.KernelIdeal.Dkv.ok m) (Cert.KernelIdeal.Dkv.hyps m)

/-- The kernel at the machine's words: the same text, so the same run. -/
theorem frame_kernel : Cert.quiescent_Kernel := fun m ρ _ => by
  have h := Cert.KernelIdeal.Gen.frame (F := Bits) m ρ (Cert.KernelIdeal.Dkv.ok m) (Cert.KernelIdeal.Dkv.hyps m)
  exact Eq.mp (by sl_kernel_rfl) h

/-- The reference runs, its arguments unchanged; it declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The preparation of the kernel's arguments runs, its own arguments unchanged; it declares no semaphore. -/
theorem frame_prepared : Cert.quiescent_PreparedIdeal := fun m ρ _ =>
  (θ_run Cert.PreparedIdeal.defs _ _).mono (fun r h => ⟨fun c => (h c).2.2.2, sem_eq_zero_of_no_sems (by decide) r.2⟩)
    (Cert.PreparedIdeal.Value.run (F := Ideal) m ρ)

section

open Cert.KernelIdeal Cert.KernelIdeal.Gen Cert.KernelIdeal.Dkv

/-- The kernel's run: what the three result arrays hold, the arguments unchanged. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v50_0) = dkArr m c
      ∧ r.2.mem ((c.tc : Thread nD τ).loc main_v50_1) = dvArr m c
      ∧ r.2.mem ((c.tc : Thread nD τ).loc main_v50_2) = dcArr m c) :=
  (θ_run defs _ _).mono (fun _ h c => ⟨((h c).1 7).trans (final_dk m c), ((h c).1 8).trans (final_dv m c),
    ((h c).1 9).trans (final_dc m c)⟩) (run_main m ρ (ok m) (hyps m))

end

/-- On finite arguments the kernel and the reference return the same arrays. -/
theorem value [Cert.Pre_finite.Facts] : Cert.algebraic_KernelIdeal_ReferenceIdeal_pre_finite := fun m g m' g' hpre hargs => by
  refine ⟨fun c => Cert.KernelIdeal.Dkv.dkArr m c, fun c => Cert.KernelIdeal.Dkv.dvArr m c,
    fun c => Cert.KernelIdeal.Dkv.dcArr m c, ?_, ?_⟩
  · refine (θ_run Cert.KernelIdeal.defs _ _).mono (fun r h c => ?_)
      (θ_run_and (run_kernel m g) (Cert.KernelIdeal.Gen.unchanged m g (Cert.KernelIdeal.Dkv.ok m) (Cert.KernelIdeal.Dkv.hyps m)))
    exact ⟨(h.1 c).1, (h.1 c).2.1, (h.1 c).2.2, h.2 c⟩
  · refine (θ_run Cert.ReferenceIdeal.defs _ _).mono (fun r h c => ?_) (Cert.ReferenceIdeal.Value.run (F := Ideal) m' g')
    obtain ⟨hk, hv, hc, hrest⟩ := h c
    obtain ⟨e0, e1, e2⟩ := hargs c
    obtain ⟨p0, p1, p2⟩ := hpre c
    obtain ⟨A, hA⟩ := Cert.Pre_finite.first_real _ _ _ p0
    obtain ⟨C, hC⟩ := Cert.Pre_finite.second_real _ _ _ p1
    obtain ⟨O, hO⟩ := Cert.Pre_finite.third_real _ _ _ p2
    have hk' := hk.trans (Cert.ReferenceIdeal.Read.val_main_v102_eq m' c)
    have hv' := hv.trans (Cert.ReferenceIdeal.Read.val_main_v74_eq m' c)
    have hc' := hc.trans (Cert.ReferenceIdeal.Read.val_main_v104_eq m' c)
    rw [e0, e1, e2, hA, hC, hO] at hk' hv' hc'
    exact ⟨hk'.trans (Cert.KernelIdeal.Dkv.dk_eq A C O m c hA hC hO).symm,
      hv'.trans (Cert.KernelIdeal.Dkv.dv_eq A C O m c hA hC hO).symm,
      hc'.trans (Cert.KernelIdeal.Dkv.dc_eq A C O m c hA hC hO).symm, hrest⟩

/-- The queries' kernel at the ideal instance runs, its arguments unchanged and its counters at zero. -/
theorem frame_kernel2Ideal : Cert.quiescent_Kernel2Ideal := fun m ρ _ =>
  Cert.Kernel2Ideal.Gen.frame m ρ (Cert.Kernel2Ideal.Dq.ok m) (Cert.Kernel2Ideal.Dq.hyps m)

/-- The queries' kernel at the machine's words: the same text, so the same run. -/
theorem frame_kernel2 : Cert.quiescent_Kernel2 := fun m ρ _ => by
  have h := Cert.Kernel2Ideal.Gen.frame (F := Bits) m ρ (Cert.Kernel2Ideal.Dq.ok m) (Cert.Kernel2Ideal.Dq.hyps m)
  exact Eq.mp (by sl_kernel_rfl) h

/-- The queries' reference runs, its arguments unchanged; it declares no semaphore. -/
theorem frame_reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The preparation of the queries' kernel's arguments runs, its own arguments unchanged; it declares no semaphore. -/
theorem frame_prepared2 : Cert.quiescent_Prepared2Ideal := fun m ρ _ =>
  (θ_run Cert.Prepared2Ideal.defs _ _).mono (fun r h => ⟨fun c => (h c).2.2.2, sem_eq_zero_of_no_sems (by decide) r.2⟩)
    (Cert.Prepared2Ideal.Value.run (F := Ideal) m ρ)

section

open Cert.Kernel2Ideal Cert.Kernel2Ideal.Gen Cert.Kernel2Ideal.Dq

/-- The queries' kernel's run: what the two result arrays hold. -/
theorem run_kernel2 (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v52_0) = dqArr m c
      ∧ r.2.mem ((c.tc : Thread nD τ).loc main_v52_1) = drArr m c) :=
  (θ_run defs _ _).mono (fun _ h c => ⟨((h c).1 7).trans (final_dq m c), ((h c).1 8).trans (final_dr m c)⟩)
    (run_main m ρ (ok m) (hyps m))

end

/-- On finite arguments the queries' kernel and its reference return the same arrays. -/
theorem value2 [Cert.Pre_finite.Facts] : Cert.algebraic_Kernel2Ideal_Reference2Ideal_pre_finite := fun m g m' g' hpre hargs => by
  refine ⟨fun c => Cert.Kernel2Ideal.Dq.dqArr m c, fun c => Cert.Kernel2Ideal.Dq.drArr m c, ?_, ?_⟩
  · refine (θ_run Cert.Kernel2Ideal.defs _ _).mono (fun r h c => ?_)
      (θ_run_and (run_kernel2 m g) (Cert.Kernel2Ideal.Gen.unchanged m g (Cert.Kernel2Ideal.Dq.ok m) (Cert.Kernel2Ideal.Dq.hyps m)))
    exact ⟨(h.1 c).1, (h.1 c).2, h.2 c⟩
  · refine (θ_run Cert.Reference2Ideal.defs _ _).mono (fun r h c => ?_) (Cert.Reference2Ideal.Value.run (F := Ideal) m' g')
    obtain ⟨hq, hr, hrest⟩ := h c
    obtain ⟨e0, e1, e2⟩ := hargs c
    obtain ⟨p0, p1, p2⟩ := hpre c
    obtain ⟨A, hA⟩ := Cert.Pre_finite.first_real _ _ _ p0
    obtain ⟨C, hC⟩ := Cert.Pre_finite.second_real _ _ _ p1
    obtain ⟨O, hO⟩ := Cert.Pre_finite.third_real _ _ _ p2
    have hq' := hq.trans (Cert.Reference2Ideal.Read.val_main_v96_eq m' c)
    have hr' := hr.trans (Cert.Reference2Ideal.Read.val_main_v98_eq m' c)
    rw [e0, e1, e2, hA, hC, hO] at hq' hr'
    exact ⟨hq'.trans (Cert.Kernel2Ideal.Dq.dq_eq A C O m c hA hC hO).symm,
      hr'.trans (Cert.Kernel2Ideal.Dq.dr_eq A C O m c hA hC hO).symm, hrest⟩

/-- The forward kernel at the ideal instance runs, its arguments unchanged and its counters at zero. -/
theorem frame_kernel3Ideal : Cert.quiescent_Kernel3Ideal := fun m ρ _ =>
  Cert.Kernel3Ideal.Gen.frame m ρ (Cert.Kernel3Ideal.Fwd.ok m) (Cert.Kernel3Ideal.Fwd.hyps m)

/-- The forward kernel at the machine's words: the same text, so the same run. -/
theorem frame_kernel3 : Cert.quiescent_Kernel3 := fun m ρ _ => by
  have h := Cert.Kernel3Ideal.Gen.frame (F := Bits) m ρ (Cert.Kernel3Ideal.Fwd.ok m) (Cert.Kernel3Ideal.Fwd.hyps m)
  exact Eq.mp (by sl_kernel_rfl) h

/-- The forward kernel's reference runs, its arguments unchanged; it declares no semaphore. -/
theorem frame_reference3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- The preparation of the forward kernel's arguments runs, its own arguments unchanged; it declares no semaphore. -/
theorem frame_prepared3 : Cert.quiescent_Prepared3Ideal := fun m ρ _ =>
  (θ_run Cert.Prepared3Ideal.defs _ _).mono (fun r h => ⟨fun c => (h c).2, sem_eq_zero_of_no_sems (by decide) r.2⟩)
    (Cert.Prepared3Ideal.Value.run (F := Ideal) m ρ)

section

open Cert.Kernel3Ideal Cert.Kernel3Ideal.Gen Cert.Kernel3Ideal.Fwd Cert.Model

/-- The forward kernel's run on real arguments: what the three result arrays hold. -/
theorem run_kernel3 (m : (ℓ : Loc nD τ sig) → Buf (Elt Ideal) ℓ) (ρ : Dev nD → PrngReg)
    (A : Dev nD → Fin 16384 → Fin 3072 → ℝ) (C : Dev nD → Fin 16384 → Fin 16 → ℝ)
    (hA : ∀ c : Dev nD, m ((c : Thread nD τ).loc main_arg0) = arr (A c))
    (hC : ∀ c : Dev nD, m ((c : Thread nD τ).loc main_arg1) = arr (C c)) :
    θ_run (defs (F := Ideal)) (onTc (τ := τ) (main (F := Ideal))) ⟨m, fun _ => 0, ρ⟩ (fun r => ∀ c : Dev nD,
      r.2.mem ((c.tc : Thread nD τ).loc main_v4_0) = oArr (A c) (C c)
      ∧ r.2.mem ((c.tc : Thread nD τ).loc main_v4_1) = colArr (A c) (C c)
      ∧ r.2.mem ((c.tc : Thread nD τ).loc main_v4_2) = rowArr (A c) (C c)) :=
  (θ_run defs _ _).mono (fun _ h c => ⟨((h c).1 4).trans (final_o _ _ m c (hA c) (hC c)),
    ((h c).1 5).trans (final_col _ _ m c (hA c) (hC c)), ((h c).1 6).trans (final_row _ _ m c (hA c) (hC c))⟩)
    (run_main m ρ (ok m) (hyps m))

end

/-- On finite arguments the forward kernel and its reference return the same arrays. -/
theorem value3 [Cert.Pre_finite_f.Facts] : Cert.algebraic_Kernel3Ideal_Reference3Ideal_pre_finite_f := fun m g m' g' hpre hargs => by
  choose A hA using fun c => Cert.Pre_finite_f.first_real _ _ (hpre c).1
  choose C hC using fun c => Cert.Pre_finite_f.second_real _ _ (hpre c).2
  refine ⟨fun c => Cert.Kernel3Ideal.Fwd.oArr (A c) (C c), fun c => Cert.Kernel3Ideal.Fwd.colArr (A c) (C c),
    fun c => Cert.Kernel3Ideal.Fwd.rowArr (A c) (C c), ?_, ?_⟩
  · refine (θ_run Cert.Kernel3Ideal.defs _ _).mono (fun r h c => ?_)
      (θ_run_and (run_kernel3 m g A C hA hC)
        (Cert.Kernel3Ideal.Gen.unchanged m g (Cert.Kernel3Ideal.Fwd.ok m) (Cert.Kernel3Ideal.Fwd.hyps m)))
    exact ⟨(h.1 c).1, (h.1 c).2.1, (h.1 c).2.2, h.2 c⟩
  · refine (θ_run Cert.Reference3Ideal.defs _ _).mono (fun r h c => ?_) (Cert.Reference3Ideal.Value.run (F := Ideal) m' g')
    obtain ⟨ho, hc, hr, hrest⟩ := h c
    obtain ⟨e0, e1⟩ := hargs c
    have ho' := ho.trans (Cert.Reference3Ideal.Read.val_main_v74_eq m' c)
    have hc' := hc.trans (Cert.Reference3Ideal.Read.val_main_v76_eq _ _)
    have hr' := hr.trans (Cert.Reference3Ideal.Read.val_main_v78_eq _ _)
    rw [e0, e1, hA c, hC c] at ho' hc' hr'
    exact ⟨ho'.trans (Cert.Kernel3Ideal.Fwd.o_eq (A c) (C c)).symm, hc'.trans (Cert.Kernel3Ideal.Fwd.col_eq (A c) (C c)).symm,
      hr'.trans (Cert.Kernel3Ideal.Fwd.row_eq (A c) (C c)).symm, hrest⟩

theorem claim : Cert.Claim :=
  ⟨Cert.Kernel.Gen.facts, Cert.KernelIdeal.Gen.facts, Cert.ReferenceIdeal.Gen.facts, Cert.PreparedIdeal.Gen.facts,
    Cert.Kernel2.Gen.facts, Cert.Kernel2Ideal.Gen.facts, Cert.Reference2Ideal.Gen.facts, Cert.Prepared2Ideal.Gen.facts,
    Cert.Kernel3.Gen.facts, Cert.Kernel3Ideal.Gen.facts, Cert.Reference3Ideal.Gen.facts, Cert.Prepared3Ideal.Gen.facts,
    Cert.Pre_finite.facts, Cert.Pre_finite_f.facts,
    frame_kernel, frame_kernelIdeal, fun m ρ _ => frame_kernelIdeal m ρ trivial, frame_reference,
    fun m ρ _ => frame_reference m ρ trivial, frame_prepared, frame_kernel2, frame_kernel2Ideal,
    fun m ρ _ => frame_kernel2Ideal m ρ trivial, frame_reference2, fun m ρ _ => frame_reference2 m ρ trivial, frame_prepared2,
    frame_kernel3, frame_kernel3Ideal, fun m ρ _ => frame_kernel3Ideal m ρ trivial, frame_reference3,
    fun m ρ _ => frame_reference3 m ρ trivial, frame_prepared3,
    trivial, @value Cert.Pre_finite.facts, trivial, @value2 Cert.Pre_finite.facts, trivial, @value3 Cert.Pre_finite_f.facts⟩

end Cert.Proof

end
